-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Combine [hPre_rows_ok : Cert.Pre_rows_ok.Facts] (m : (ℓ : Loc Cert.Combine.nD Cert.Combine.τ Cert.Combine.sig) → Buf (Elt Bits) ℓ) : Prop :=
  ∀ c : Dev Cert.Combine.nD,
    (Cert.Pre_rows_ok.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2))) = (fun _ => 1#1)

def Pre_CombineIdeal [hPre_rows_ok : Cert.Pre_rows_ok.Facts] (m : (ℓ : Loc Cert.CombineIdeal.nD Cert.CombineIdeal.τ Cert.CombineIdeal.sig) → Buf (Elt Ideal) ℓ) : Prop :=
  ∀ c : Dev Cert.CombineIdeal.nD,
    (Cert.Pre_rows_ok.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_rows_ok [hPre_rows_ok : Cert.Pre_rows_ok.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_rows_ok.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2))) = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Combine [hCombine : Cert.Combine.Facts] [hPre_rows_ok : Cert.Pre_rows_ok.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def quiescent_CombineReferenceIdeal_pre_rows_ok [hCombineReferenceIdeal : Cert.CombineReferenceIdeal.Facts] [hPre_rows_ok : Cert.Pre_rows_ok.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_rows_ok m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2))
      ∧ r.2.sem = fun _ => 0)

def preserves_Kernel_KernelIdeal : Prop :=
  True

def algebraic_KernelIdeal_ReferenceIdeal_on_live_rows [hKernelIdeal : Cert.KernelIdeal.Facts] [hReferenceIdeal : Cert.ReferenceIdeal.Facts] [hPre_tables_ok : Cert.Pre_tables_ok.Facts] [hOn_live_rows : Cert.On_live_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![53248, 5120]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![53248, 5120]⟩ : Shape).Idx, (Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) i = 1#1 → r.2.mem ((c.tc : Thread Cert.ReferenceIdeal.nD Cert.ReferenceIdeal.τ).loc Cert.ReferenceIdeal.main_v7) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] [hPre_rows_ok : Cert.Pre_rows_ok.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v16) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hPre_tables_ok : Cert.Pre_tables_ok.Facts) (hPre_rows_ok : Cert.Pre_rows_ok.Facts) (hOn_live_rows : Cert.On_live_rows.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ quiescent_Combine (hCombine := hCombine) (hPre_rows_ok := hPre_rows_ok)
    ∧ quiescent_CombineIdeal (hCombineIdeal := hCombineIdeal) (hPre_rows_ok := hPre_rows_ok)
    ∧ quiescent_CombineReferenceIdeal (hCombineReferenceIdeal := hCombineReferenceIdeal)
    ∧ quiescent_CombineReferenceIdeal_pre_rows_ok (hCombineReferenceIdeal := hCombineReferenceIdeal) (hPre_rows_ok := hPre_rows_ok)
    ∧ preserves_Kernel_KernelIdeal
    ∧ algebraic_KernelIdeal_ReferenceIdeal_on_live_rows (hKernelIdeal := hKernelIdeal) (hReferenceIdeal := hReferenceIdeal) (hPre_tables_ok := hPre_tables_ok) (hOn_live_rows := hOn_live_rows)
    ∧ preserves_Combine_CombineIdeal
    ∧ algebraic_CombineIdeal_CombineReferenceIdeal (hCombineIdeal := hCombineIdeal) (hCombineReferenceIdeal := hCombineReferenceIdeal) (hPre_rows_ok := hPre_rows_ok)
-- ==== On_live_rows.lean ====
abbrev S1024 : Shape := ⟨1, ![1024]⟩
abbrev S48 : Shape := ⟨1, ![48]⟩
abbrev S53248x1408 : Shape := ⟨2, ![53248, 1408]⟩
abbrev S16x1x2816 : Shape := ⟨3, ![16, 1, 2816]⟩
abbrev S16x1x5120 : Shape := ⟨3, ![16, 1, 5120]⟩
abbrev S16x5120x2816 : Shape := ⟨3, ![16, 5120, 2816]⟩
abbrev S16x1408x5120 : Shape := ⟨3, ![16, 1408, 5120]⟩
abbrev S1664x4x8x1408 : Shape := ⟨4, ![1664, 4, 8, 1408]⟩
abbrev S1664x8x4x1408 : Shape := ⟨4, ![1664, 8, 4, 1408]⟩
abbrev S53248x128 : Shape := ⟨2, ![53248, 128]⟩
abbrev S_ : Shape := ⟨0, ![]⟩
abbrev S53248x1 : Shape := ⟨2, ![53248, 1]⟩
abbrev S53248 : Shape := ⟨1, ![53248]⟩
abbrev S13312x1x4 : Shape := ⟨3, ![13312, 1, 4]⟩
abbrev S13312x4x4 : Shape := ⟨3, ![13312, 4, 4]⟩
abbrev S13312x4 : Shape := ⟨2, ![13312, 4]⟩
abbrev S53248x5120 : Shape := ⟨2, ![53248, 5120]⟩
abbrev S1 : Shape := ⟨1, ![1]⟩

class Facts : Prop where
  shapeCasts_S53248x1408_S1664x4x8x1408 : S53248x1408.ShapeCasts S1664x4x8x1408
  transposes_S1664x4x8x1408_S1664x8x4x1408_0_2_1_3 : S1664x4x8x1408.Transposes [0, 2, 1, 3] S1664x8x4x1408
  shapeCasts_S1664x8x4x1408_S53248x1408 : S1664x8x4x1408.ShapeCasts S53248x1408
  slices_S53248x1408_S53248x128_0_1280 : S53248x1408.Slices ![0, 1280] S53248x128
  bcast_S_S53248x128 : S_.BroadcastsInDim S53248x128 (![] : Fin 0 → Fin S53248x128.rank)
  slices_S53248x128_S53248x1_0_0 : S53248x128.Slices ![0, 0] S53248x1
  bcast_S53248x1_S53248x128_0_1 : S53248x1.BroadcastsInDim S53248x128 (![0, 1] : Fin 2 → Fin S53248x128.rank)
  reducesTo_S53248x128_S53248_d1 : S53248x128.ReducesTo [1] S53248
  h_S_ : 0 < S_.numel
  shapeCasts_S53248_S13312x1x4 : S53248.ShapeCasts S13312x1x4
  bcast_S13312x1x4_S13312x4x4_0_1_2 : S13312x1x4.BroadcastsInDim S13312x4x4 (![0, 1, 2] : Fin 3 → Fin S13312x4x4.rank)
  reducesTo_S13312x4x4_S13312x4_d2 : S13312x4x4.ReducesTo [2] S13312x4
  shapeCasts_S13312x4_S53248x1 : S13312x4.ShapeCasts S53248x1
  slices_S48_S1_32 : S48.Slices ![32] S1
  bcast_S1_S53248x5120_1 : S1.BroadcastsInDim S53248x5120 (![1] : Fin 1 → Fin S53248x5120.rank)
  bcast_S_S53248x5120 : S_.BroadcastsInDim S53248x5120 (![] : Fin 0 → Fin S53248x5120.rank)
  bcast_S53248x1_S53248x5120_0_1 : S53248x1.BroadcastsInDim S53248x5120 (![0, 1] : Fin 2 → Fin S53248x5120.rank)

variable [Facts]

def fn_part1 {F : FTy → Type} [FloatOps F] (main_v18 : IVec S53248x1 1) (main_v19 : IVec S53248x5120 32) (main_v20 : IVec S1 32) : IVec S53248x5120 1 :=
  let main_v21 : IVec S53248x5120 32 := broadcastInDim S53248x5120 ![1] bcast_S1_S53248x5120_1 main_v20
  let main_c_2 : IVec S_ 32 := constantI S_ 32 256#32
  let main_v22 : IVec S53248x5120 32 := broadcastInDim S53248x5120 ![] bcast_S_S53248x5120 main_c_2
  let main_v23 : IVec S53248x5120 32 := muli main_v21 main_v22
  let main_v24 : IVec S53248x5120 1 := cmpi .slt main_v19 main_v23
  let main_v25 : IVec S53248x5120 1 := broadcastInDim S53248x5120 ![0, 1] bcast_S53248x1_S53248x5120_0_1 main_v18
  let main_v26 : IVec S53248x5120 1 := andi main_v25 main_v24
  main_v26

def fn {F : FTy → Type} [FloatOps F] (main_arg0 : IVec S1024 32) (main_arg1 : IVec S48 32) (main_arg2 : IVec S53248x1408 32) (main_arg3 : FVec F S16x1x2816 .f32) (main_arg4 : FVec F S16x1x5120 .f32) (main_arg5 : FVec F S16x5120x2816 .fp8e4m3) (main_arg6 : FVec F S16x1408x5120 .fp8e4m3) : IVec S53248x5120 1 :=
  let main_v0 : IVec S1664x4x8x1408 32 := shapeCast S1664x4x8x1408 main_arg2 shapeCasts_S53248x1408_S1664x4x8x1408
  let main_v1 : IVec S1664x8x4x1408 32 := (transpose S1664x8x4x1408 [0, 2, 1, 3] · transposes_S1664x4x8x1408_S1664x8x4x1408_0_2_1_3) main_v0
  let main_v2 : IVec S53248x1408 32 := shapeCast S53248x1408 main_v1 shapeCasts_S1664x8x4x1408_S53248x1408
  let main_v3 : IVec S53248x128 32 := (extractStridedSlice S53248x128 ![0, 1280] · slices_S53248x1408_S53248x128_0_1280) main_v2
  let main_c : IVec S_ 32 := constantI S_ 32 256#32
  let main_v4 : IVec S53248x128 32 := broadcastInDim S53248x128 ![] bcast_S_S53248x128 main_c
  let main_v5 : IVec S53248x128 1 := cmpi .ult main_v3 main_v4
  let main_v6 : IVec S53248x1 32 := (extractStridedSlice S53248x1 ![0, 0] · slices_S53248x128_S53248x1_0_0) main_v3
  let main_v7 : IVec S53248x128 32 := broadcastInDim S53248x128 ![0, 1] bcast_S53248x1_S53248x128_0_1 main_v6
  let main_v8 : IVec S53248x128 1 := cmpi .eq main_v3 main_v7
  let main_v9 : IVec S53248x128 1 := andi main_v5 main_v8
  let main_c_0 : IVec S_ 1 := constantI S_ 1 1#1
  let main_v10 : IVec S53248 1 := (fun x v => Host.reduce IntOp.andi x v reducesTo_S53248x128_S53248_d1 h_S_) main_v9 main_c_0
  let main_v11 : IVec S13312x1x4 1 := shapeCast S13312x1x4 main_v10 shapeCasts_S53248_S13312x1x4
  let main_v12 : IVec S13312x4x4 32 := iotaInDim S13312x4x4 32 1
  let main_v13 : IVec S13312x4x4 32 := iotaInDim S13312x4x4 32 2
  let main_v14 : IVec S13312x4x4 1 := cmpi .sgt main_v13 main_v12
  let main_v15 : IVec S13312x4x4 1 := broadcastInDim S13312x4x4 ![0, 1, 2] bcast_S13312x1x4_S13312x4x4_0_1_2 main_v11
  let main_v16 : IVec S13312x4x4 1 := ori main_v15 main_v14
  let main_c_1 : IVec S_ 1 := constantI S_ 1 1#1
  let main_v17 : IVec S13312x4 1 := (fun x v => Host.reduce IntOp.andi x v reducesTo_S13312x4x4_S13312x4_d2 h_S_) main_v16 main_c_1
  let main_v18 : IVec S53248x1 1 := shapeCast S53248x1 main_v17 shapeCasts_S13312x4_S53248x1
  let main_v19 : IVec S53248x5120 32 := iotaInDim S53248x5120 32 0
  let main_v20 : IVec S1 32 := (extractStridedSlice S1 ![32] · slices_S48_S1_32) main_arg1
  fn_part1 (F := F) main_v18 main_v19 main_v20
-- ==== Pre_rows_ok.lean ====
abbrev S49152 : Shape := ⟨1, ![49152]⟩
abbrev S24576x2 : Shape := ⟨2, ![24576, 2]⟩
abbrev S53248x5120 : Shape := ⟨2, ![53248, 5120]⟩
abbrev S_ : Shape := ⟨0, ![]⟩

class Facts : Prop where
  bcast_S_S49152 : S_.BroadcastsInDim S49152 (![] : Fin 0 → Fin S49152.rank)

variable [Facts]

def fn {F : FTy → Type} [FloatOps F] (main_arg0 : IVec S49152 32) (main_arg1 : FVec F S24576x2 .f32) (main_arg2 : FVec F S53248x5120 .f32) : IVec S49152 1 :=
  let main_c : IVec S_ 32 := constantI S_ 32 0#32
  let main_v0 : IVec S49152 32 := broadcastInDim S49152 ![] bcast_S_S49152 main_c
  let main_v1 : IVec S49152 1 := cmpi .sge main_arg0 main_v0
  let main_c_0 : IVec S_ 32 := constantI S_ 32 53248#32
  let main_v2 : IVec S49152 32 := broadcastInDim S49152 ![] bcast_S_S49152 main_c_0
  let main_v3 : IVec S49152 1 := cmpi .slt main_arg0 main_v2
  let main_v4 : IVec S49152 1 := andi main_v1 main_v3
  main_v4
-- ==== Pre_tables_ok.lean ====
abbrev S1024 : Shape := ⟨1, ![1024]⟩
abbrev S48 : Shape := ⟨1, ![48]⟩
abbrev S53248x1408 : Shape := ⟨2, ![53248, 1408]⟩
abbrev S16x1x2816 : Shape := ⟨3, ![16, 1, 2816]⟩
abbrev S16x1x5120 : Shape := ⟨3, ![16, 1, 5120]⟩
abbrev S16x5120x2816 : Shape := ⟨3, ![16, 5120, 2816]⟩
abbrev S16x1408x5120 : Shape := ⟨3, ![16, 1408, 5120]⟩
abbrev S16x16x208 : Shape := ⟨3, ![16, 16, 208]⟩
abbrev S1 : Shape := ⟨1, ![1]⟩
abbrev S208 : Shape := ⟨1, ![208]⟩
abbrev S16 : Shape := ⟨1, ![16]⟩
abbrev S_ : Shape := ⟨0, ![]⟩

class Facts : Prop where
  slices_S48_S1_32 : S48.Slices ![32] S1
  bcast_S1_S16x16x208_2 : S1.BroadcastsInDim S16x16x208 (![2] : Fin 1 → Fin S16x16x208.rank)
  slices_S1024_S208_0 : S1024.Slices ![0] S208
  bcast_S208_S16x16x208_2 : S208.BroadcastsInDim S16x16x208 (![2] : Fin 1 → Fin S16x16x208.rank)
  slices_S1024_S208_1 : S1024.Slices ![1] S208
  slices_S48_S16_0 : S48.Slices ![0] S16
  bcast_S16_S16x16x208_0 : S16.BroadcastsInDim S16x16x208 (![0] : Fin 1 → Fin S16x16x208.rank)
  bcast_S16_S16x16x208_1 : S16.BroadcastsInDim S16x16x208 (![1] : Fin 1 → Fin S16x16x208.rank)
  slices_S48_S16_16 : S48.Slices ![16] S16
  bcast_S_S16x16x208 : S_.BroadcastsInDim S16x16x208 (![] : Fin 0 → Fin S16x16x208.rank)

variable [Facts]

def fn_part2 {F : FTy → Type} [FloatOps F] (main_v0 : IVec S16x16x208 32) (main_v2 : IVec S16x16x208 32) (main_v4 : IVec S16x16x208 32) (main_v6 : IVec S16x16x208 32) (main_v14 : IVec S16x16x208 32) (main_v19 : IVec S16x16x208 1) (main_v24 : IVec S16x16x208 1) (main_v33 : IVec S16x16x208 1) (main_v40 : IVec S16x16x208 1) : IVec S16x16x208 1 :=
  let main_c_6 : IVec S_ 32 := constantI S_ 32 1#32
  let main_v41 : IVec S16x16x208 32 := broadcastInDim S16x16x208 ![] bcast_S_S16x16x208 main_c_6
  let main_v42 : IVec S16x16x208 32 := addi main_v2 main_v41
  let main_v43 : IVec S16x16x208 1 := cmpi .eq main_v42 main_v4
  let main_v44 : IVec S16x16x208 1 := cmpi .eq main_v6 main_v0
  let main_v45 : IVec S16x16x208 1 := andi main_v43 main_v44
  let main_v46 : IVec S16x16x208 1 := andi main_v19 main_v24
  let main_v47 : IVec S16x16x208 1 := noti main_v33
  let main_v48 : IVec S16x16x208 1 := ori main_v40 main_v47
  let main_v49 : IVec S16x16x208 1 := andi main_v46 main_v48
  let main_c_7 : IVec S_ 32 := constantI S_ 32 0#32
  let main_v50 : IVec S16x16x208 32 := broadcastInDim S16x16x208 ![] bcast_S_S16x16x208 main_c_7
  let main_v51 : IVec S16x16x208 1 := cmpi .slt main_v14 main_v50
  let main_v52 : IVec S16x16x208 1 := noti main_v45
  let main_v53 : IVec S16x16x208 1 := ori main_v51 main_v52
  let main_v54 : IVec S16x16x208 1 := andi main_v49 main_v53
  main_v54

def fn_part1 {F : FTy → Type} [FloatOps F] (main_v0 : IVec S16x16x208 32) (main_v1 : IVec S16x16x208 32) (main_v2 : IVec S16x16x208 32) (main_v4 : IVec S16x16x208 32) (main_v6 : IVec S16x16x208 32) (main_v8 : IVec S16x16x208 32) (main_v10 : IVec S16x16x208 32) (main_v12 : IVec S16x16x208 32) (main_v14 : IVec S16x16x208 32) (main_v19 : IVec S16x16x208 1) (main_v20 : IVec S16x16x208 32) : IVec S16x16x208 1 :=
  let main_v21 : IVec S16x16x208 1 := cmpi .sge main_v6 main_v20
  let main_c_2 : IVec S_ 32 := constantI S_ 32 16#32
  let main_v22 : IVec S16x16x208 32 := broadcastInDim S16x16x208 ![] bcast_S_S16x16x208 main_c_2
  let main_v23 : IVec S16x16x208 1 := cmpi .slt main_v6 main_v22
  let main_v24 : IVec S16x16x208 1 := andi main_v21 main_v23
  let main_c_3 : IVec S_ 32 := constantI S_ 32 1#32
  let main_v25 : IVec S16x16x208 32 := broadcastInDim S16x16x208 ![] bcast_S_S16x16x208 main_c_3
  let main_v26 : IVec S16x16x208 32 := addi main_v2 main_v25
  let main_v27 : IVec S16x16x208 1 := cmpi .slt main_v26 main_v4
  let main_v28 : IVec S16x16x208 1 := cmpi .eq main_v6 main_v0
  let main_v29 : IVec S16x16x208 1 := andi main_v27 main_v28
  let main_v30 : IVec S16x16x208 1 := cmpi .eq main_v8 main_v1
  let main_v31 : IVec S16x16x208 1 := andi main_v29 main_v30
  let main_v32 : IVec S16x16x208 1 := cmpi .ne main_v0 main_v1
  let main_v33 : IVec S16x16x208 1 := andi main_v31 main_v32
  let main_v34 : IVec S16x16x208 1 := cmpi .eq main_v14 main_v1
  let main_v35 : IVec S16x16x208 32 := xori main_v10 main_v12
  let main_c_4 : IVec S_ 32 := constantI S_ 32 1#32
  let main_v36 : IVec S16x16x208 32 := broadcastInDim S16x16x208 ![] bcast_S_S16x16x208 main_c_4
  let main_v37 : IVec S16x16x208 32 := andi main_v35 main_v36
  let main_c_5 : IVec S_ 32 := constantI S_ 32 1#32
  let main_v38 : IVec S16x16x208 32 := broadcastInDim S16x16x208 ![] bcast_S_S16x16x208 main_c_5
  let main_v39 : IVec S16x16x208 1 := cmpi .eq main_v37 main_v38
  let main_v40 : IVec S16x16x208 1 := andi main_v34 main_v39
  fn_part2 (F := F) main_v0 main_v2 main_v4 main_v6 main_v14 main_v19 main_v24 main_v33 main_v40

def fn {F : FTy → Type} [FloatOps F] (main_arg0 : IVec S1024 32) (main_arg1 : IVec S48 32) (main_arg2 : IVec S53248x1408 32) (main_arg3 : FVec F S16x1x2816 .f32) (main_arg4 : FVec F S16x1x5120 .f32) (main_arg5 : FVec F S16x5120x2816 .fp8e4m3) (main_arg6 : FVec F S16x1408x5120 .fp8e4m3) : IVec S16x16x208 1 :=
  let main_v0 : IVec S16x16x208 32 := iotaInDim S16x16x208 32 0
  let main_v1 : IVec S16x16x208 32 := iotaInDim S16x16x208 32 1
  let main_v2 : IVec S16x16x208 32 := iotaInDim S16x16x208 32 2
  let main_v3 : IVec S1 32 := (extractStridedSlice S1 ![32] · slices_S48_S1_32) main_arg1
  let main_v4 : IVec S16x16x208 32 := broadcastInDim S16x16x208 ![2] bcast_S1_S16x16x208_2 main_v3
  let main_v5 : IVec S208 32 := (extractStridedSlice S208 ![0] · slices_S1024_S208_0) main_arg0
  let main_v6 : IVec S16x16x208 32 := broadcastInDim S16x16x208 ![2] bcast_S208_S16x16x208_2 main_v5
  let main_v7 : IVec S208 32 := (extractStridedSlice S208 ![1] · slices_S1024_S208_1) main_arg0
  let main_v8 : IVec S16x16x208 32 := broadcastInDim S16x16x208 ![2] bcast_S208_S16x16x208_2 main_v7
  let main_v9 : IVec S16 32 := (extractStridedSlice S16 ![0] · slices_S48_S16_0) main_arg1
  let main_v10 : IVec S16x16x208 32 := broadcastInDim S16x16x208 ![0] bcast_S16_S16x16x208_0 main_v9
  let main_v11 : IVec S16 32 := (extractStridedSlice S16 ![0] · slices_S48_S16_0) main_arg1
  let main_v12 : IVec S16x16x208 32 := broadcastInDim S16x16x208 ![1] bcast_S16_S16x16x208_1 main_v11
  let main_v13 : IVec S16 32 := (extractStridedSlice S16 ![16] · slices_S48_S16_16) main_arg1
  let main_v14 : IVec S16x16x208 32 := broadcastInDim S16x16x208 ![0] bcast_S16_S16x16x208_0 main_v13
  let main_c : IVec S_ 32 := constantI S_ 32 1#32
  let main_v15 : IVec S16x16x208 32 := broadcastInDim S16x16x208 ![] bcast_S_S16x16x208 main_c
  let main_v16 : IVec S16x16x208 1 := cmpi .sge main_v4 main_v15
  let main_c_0 : IVec S_ 32 := constantI S_ 32 208#32
  let main_v17 : IVec S16x16x208 32 := broadcastInDim S16x16x208 ![] bcast_S_S16x16x208 main_c_0
  let main_v18 : IVec S16x16x208 1 := cmpi .sle main_v4 main_v17
  let main_v19 : IVec S16x16x208 1 := andi main_v16 main_v18
  let main_c_1 : IVec S_ 32 := constantI S_ 32 0#32
  let main_v20 : IVec S16x16x208 32 := broadcastInDim S16x16x208 ![] bcast_S_S16x16x208 main_c_1
  fn_part1 (F := F) main_v0 main_v1 main_v2 main_v4 main_v6 main_v8 main_v10 main_v12 main_v14 main_v19 main_v20
-- ==== Kernel.lean ====
abbrev S1024 : Shape := ⟨1, ![1024]⟩
abbrev S48 : Shape := ⟨1, ![48]⟩
abbrev S53248x1408 : Shape := ⟨2, ![53248, 1408]⟩
abbrev S16x1x2816 : Shape := ⟨3, ![16, 1, 2816]⟩
abbrev S16x1x5120 : Shape := ⟨3, ![16, 1, 5120]⟩
abbrev S16x5120x2816 : Shape := ⟨3, ![16, 5120, 2816]⟩
abbrev S16x1408x5120 : Shape := ⟨3, ![16, 1408, 5120]⟩
abbrev S53248x5120 : Shape := ⟨2, ![53248, 5120]⟩
abbrev S256x1408 : Shape := ⟨2, ![256, 1408]⟩
abbrev S1 : Shape := ⟨1, ![1]⟩
abbrev S256x5120 : Shape := ⟨2, ![256, 5120]⟩
abbrev S2x5120x2816 : Shape := ⟨3, ![2, 5120, 2816]⟩
abbrev S2x1408x5120 : Shape := ⟨3, ![2, 1408, 5120]⟩
abbrev S2x2 : Shape := ⟨2, ![2, 2]⟩
abbrev S1x1 : Shape := ⟨2, ![1, 1]⟩
abbrev S_ : Shape := ⟨0, ![]⟩
abbrev S1x5120x2816 : Shape := ⟨3, ![1, 5120, 2816]⟩
abbrev S5120x2816 : Shape := ⟨2, ![5120, 2816]⟩
abbrev S1x1408x5120 : Shape := ⟨3, ![1, 1408, 5120]⟩
abbrev S1408x5120 : Shape := ⟨2, ![1408, 5120]⟩
abbrev S8x1408 : Shape := ⟨2, ![8, 1408]⟩
abbrev S8x1280 : Shape := ⟨2, ![8, 1280]⟩
abbrev S32x1280 : Shape := ⟨2, ![32, 1280]⟩
abbrev S8x128 : Shape := ⟨2, ![8, 128]⟩
abbrev S32x128 : Shape := ⟨2, ![32, 128]⟩
abbrev S256x128 : Shape := ⟨2, ![256, 128]⟩
abbrev S256x256 : Shape := ⟨2, ![256, 256]⟩
abbrev S1x1x2816 : Shape := ⟨3, ![1, 1, 2816]⟩
abbrev S1x2816 : Shape := ⟨2, ![1, 2816]⟩
abbrev S1x5120x256 : Shape := ⟨3, ![1, 5120, 256]⟩
abbrev S5120x256 : Shape := ⟨2, ![5120, 256]⟩
abbrev S1x256 : Shape := ⟨2, ![1, 256]⟩
abbrev S1x5120x128 : Shape := ⟨3, ![1, 5120, 128]⟩
abbrev S5120x128 : Shape := ⟨2, ![5120, 128]⟩
abbrev S1x128 : Shape := ⟨2, ![1, 128]⟩
abbrev S256 : Shape := ⟨1, ![256]⟩
abbrev S256x1 : Shape := ⟨2, ![256, 1]⟩
abbrev S1x1x5120 : Shape := ⟨3, ![1, 1, 5120]⟩
abbrev S1x5120 : Shape := ⟨2, ![1, 5120]⟩
abbrev S1x1408x256 : Shape := ⟨3, ![1, 1408, 256]⟩
abbrev S1408x256 : Shape := ⟨2, ![1408, 256]⟩

abbrev nBuf : Space → Nat
  | .hbm => 6
  | .vmem => 11
  | .smem => 2
  | _ => 0

abbrev bufTy : (tb : Table) → Fin (tcTables nBuf tb) → BufTy
  | .hbm, ⟨0, _⟩ => ⟨S53248x1408, .i32⟩
  | .hbm, ⟨1, _⟩ => ⟨S16x1x2816, .f32⟩
  | .hbm, ⟨2, _⟩ => ⟨S16x1x5120, .f32⟩
  | .hbm, ⟨3, _⟩ => ⟨S16x5120x2816, .fp8e4m3⟩
  | .hbm, ⟨4, _⟩ => ⟨S16x1408x5120, .fp8e4m3⟩
  | .hbm, ⟨5, _⟩ => ⟨S53248x5120, .f32⟩
  | .local _ .vmem, ⟨0, _⟩ => ⟨S256x1408, .i32⟩
  | .local _ .vmem, ⟨1, _⟩ => ⟨S256x1408, .i32⟩
  | .local _ .vmem, ⟨2, _⟩ => ⟨S16x1x2816, .f32⟩
  | .local _ .vmem, ⟨3, _⟩ => ⟨S16x1x5120, .f32⟩
  | .local _ .vmem, ⟨4, _⟩ => ⟨S256x5120, .f32⟩
  | .local _ .vmem, ⟨5, _⟩ => ⟨S256x5120, .f32⟩
  | .local _ .vmem, ⟨6, _⟩ => ⟨S2x5120x2816, .fp8e4m3⟩
  | .local _ .vmem, ⟨7, _⟩ => ⟨S2x1408x5120, .fp8e4m3⟩
  | .local _ .vmem, ⟨8, _⟩ => ⟨S256x5120, .fp8e4m3⟩
  | .local _ .vmem, ⟨9, _⟩ => ⟨S256x1408, .f32⟩
  | .local _ .vmem, ⟨10, _⟩ => ⟨S256x1408, .fp8e4m3⟩
  | .local _ .smem, ⟨0, _⟩ => ⟨S1024, .i32⟩
  | .local _ .smem, ⟨1, _⟩ => ⟨S48, .i32⟩
  | _, _ => ⟨S53248x1408, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![208], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32 : BitVec 32 := 0#32
  let v4 : BitVec 32 := Scalar.maxsi v3 c0_i32
  let v5 : Index := Scalar.indexCast v4
  ![v5.toNat]
def k0_off3 (v2 : BitVec 32) : Fin 1 → Nat :=
  let v10 : Index := Scalar.indexCast v2
  ![v10.toNat]

def k0_off4 (v2 : BitVec 32) : Fin 1 → Nat :=
  let c16_i32 : BitVec 32 := 16#32
  let v13 : BitVec 32 := Scalar.addi c16_i32 v2
  let v14 : Index := Scalar.indexCast v13
  ![v14.toNat]
def k0_cond2 (i : grid0.Coords) : BitVec 1 :=
  let arg0 : BitVec 32 := BitVec.ofNat 32 (i 0).val
  let c0_i32_3 : BitVec 32 := 0#32
  let v19 : BitVec 1 := Scalar.cmpi .eq arg0 c0_i32_3
  let v20 : BitVec 32 := Scalar.extui v19
  let c0_i32_4 : BitVec 32 := 0#32
  let v21 : BitVec 1 := Scalar.cmpi .ne v20 c0_i32_4
  v21

def k0_off5 (v11 : BitVec 32) : Fin 2 → Nat :=
  let c0_i32_522 : BitVec 32 := 0#32
  let c1_i32_1 : BitVec 32 := 1#32
  let v12 : BitVec 32 := Scalar.andi v11 c1_i32_1
  ![0, v12.toNat]
def k0_cond1 (i : grid0.Coords) (v0 : BitVec 32) : BitVec 1 :=
  let arg0 : BitVec 32 := BitVec.ofNat 32 (i 0).val
  let v16 : BitVec 1 := Scalar.cmpi .slt arg0 v0
  let v17 : BitVec 32 := Scalar.extui v16
  let c0_i32_2 : BitVec 32 := 0#32
  let v18 : BitVec 1 := Scalar.cmpi .ne v17 c0_i32_2
  v18

def k0_off6 (v11 : BitVec 32) : Fin 3 → Nat :=
  let c1_i32_1 : BitVec 32 := 1#32
  let v12 : BitVec 32 := Scalar.andi v11 c1_i32_1
  let c0_i32_523 : BitVec 32 := 0#32
  let c0_i32_524 : BitVec 32 := 0#32
  ![v12.toNat, 0, 0]
def k0_off7 (v2 : BitVec 32) : Fin 3 → Nat :=
  let c0_i32_525 : BitVec 32 := 0#32
  let c0_i32_526 : BitVec 32 := 0#32
  ![v2.toNat, 0, 0]
def k0_off8 (v11 : BitVec 32) : Fin 2 → Nat :=
  let c1_i32_527 : BitVec 32 := 1#32
  let c1_i32_1 : BitVec 32 := 1#32
  let v12 : BitVec 32 := Scalar.andi v11 c1_i32_1
  ![1, v12.toNat]
def k0_off9 (v11 : BitVec 32) : Fin 3 → Nat :=
  let c1_i32_1 : BitVec 32 := 1#32
  let v12 : BitVec 32 := Scalar.andi v11 c1_i32_1
  let c0_i32_528 : BitVec 32 := 0#32
  let c0_i32_529 : BitVec 32 := 0#32
  ![v12.toNat, 0, 0]
def k0_off10 (v2 : BitVec 32) : Fin 3 → Nat :=
  let c0_i32_530 : BitVec 32 := 0#32
  let c0_i32_531 : BitVec 32 := 0#32
  ![v2.toNat, 0, 0]
def k0_off11 (v11 : BitVec 32) : Fin 2 → Nat :=
  let c0_i32_523 : BitVec 32 := 0#32
  let c1_i32_522 : BitVec 32 := 1#32
  let c1_i32_1 : BitVec 32 := 1#32
  let v12 : BitVec 32 := Scalar.andi v11 c1_i32_1
  let v1263 : BitVec 32 := Scalar.subi c1_i32_522 v12
  ![0, v1263.toNat]
def k0_cond3 (i : grid0.Coords) (v2 : BitVec 32) (v6 : BitVec 32) (v15 : BitVec 32) : BitVec 1 :=
  let arg0 : BitVec 32 := BitVec.ofNat 32 (i 0).val
  let c0_i32_0 : BitVec 32 := 0#32
  let v7 : BitVec 1 := Scalar.cmpi .eq arg0 c0_i32_0
  let v8 : BitVec 1 := Scalar.cmpi .ne v2 v6
  let v9 : BitVec 1 := Scalar.ori v7 v8
  let c0_i32_5 : BitVec 32 := 0#32
  let v22 : BitVec 1 := Scalar.cmpi .sge v15 c0_i32_5
  let v23 : BitVec 1 := Scalar.andi v9 v22
  let v24 : BitVec 32 := Scalar.extui v23
  let c0_i32_6 : BitVec 32 := 0#32
  let v25 : BitVec 1 := Scalar.cmpi .ne v24 c0_i32_6
  v25

def k0_off12 (v11 : BitVec 32) : Fin 3 → Nat :=
  let c1_i32_522 : BitVec 32 := 1#32
  let c1_i32_1 : BitVec 32 := 1#32
  let v12 : BitVec 32 := Scalar.andi v11 c1_i32_1
  let v1263 : BitVec 32 := Scalar.subi c1_i32_522 v12
  let c0_i32_524 : BitVec 32 := 0#32
  let c0_i32_525 : BitVec 32 := 0#32
  ![v1263.toNat, 0, 0]
def k0_off13 (v15 : BitVec 32) : Fin 3 → Nat :=
  let c0_i32_526 : BitVec 32 := 0#32
  let c0_i32_527 : BitVec 32 := 0#32
  ![v15.toNat, 0, 0]
def k0_off14 (v11 : BitVec 32) : Fin 2 → Nat :=
  let c1_i32_528 : BitVec 32 := 1#32
  let c1_i32_522 : BitVec 32 := 1#32
  let c1_i32_1 : BitVec 32 := 1#32
  let v12 : BitVec 32 := Scalar.andi v11 c1_i32_1
  let v1263 : BitVec 32 := Scalar.subi c1_i32_522 v12
  ![1, v1263.toNat]
def k0_off15 (v11 : BitVec 32) : Fin 3 → Nat :=
  let c1_i32_522 : BitVec 32 := 1#32
  let c1_i32_1 : BitVec 32 := 1#32
  let v12 : BitVec 32 := Scalar.andi v11 c1_i32_1
  let v1263 : BitVec 32 := Scalar.subi c1_i32_522 v12
  let c0_i32_529 : BitVec 32 := 0#32
  let c0_i32_530 : BitVec 32 := 0#32
  ![v1263.toNat, 0, 0]
def k0_off16 (v15 : BitVec 32) : Fin 3 → Nat :=
  let c0_i32_531 : BitVec 32 := 0#32
  let c0_i32_532 : BitVec 32 := 0#32
  ![v15.toNat, 0, 0]

def k0_chk3 (i : grid0.Coords) (v0 : BitVec 32) (v2 : BitVec 32) (v6 : BitVec 32) (v11 : BitVec 32) (v15 : BitVec 32) : Prop :=
  (∀ (k0_h1 : k0_cond1 i v0 = 1#1), ∀ (k0_h3 : k0_cond3 i v2 v6 v15 = 1#1), ∀ a, (k0_off11 v11) a + S1x1.size a ≤ S2x2.size a) ∧
  (∀ (k0_h1 : k0_cond1 i v0 = 1#1), ∀ (k0_h3 : k0_cond3 i v2 v6 v15 = 1#1), ∀ a, (k0_off12 v11) a + S1x5120x2816.size a ≤ S2x5120x2816.size a) ∧
  (∀ (k0_h1 : k0_cond1 i v0 = 1#1), ∀ (k0_h3 : k0_cond3 i v2 v6 v15 = 1#1), ∀ a, (k0_off13 v15) a + S1x5120x2816.size a ≤ S16x5120x2816.size a) ∧
  (∀ (k0_h1 : k0_cond1 i v0 = 1#1), ∀ (k0_h3 : k0_cond3 i v2 v6 v15 = 1#1), ∀ (hinb : ∀ a, (k0_off13 v15) a + S1x5120x2816.size a ≤ S16x5120x2816.size a), (Rect.unit (s := S16x5120x2816) (k0_off13 v15) S1x5120x2816.size hinb).WholeWords (EltTy.packing .fp8e4m3)) ∧
  (∀ (k0_h1 : k0_cond1 i v0 = 1#1), ∀ (k0_h3 : k0_cond3 i v2 v6 v15 = 1#1), ∀ (hinb : ∀ a, (k0_off12 v11) a + S1x5120x2816.size a ≤ S2x5120x2816.size a), (Rect.unit (s := S2x5120x2816) (k0_off12 v11) S1x5120x2816.size hinb).WholeWords (EltTy.packing .fp8e4m3)) ∧
  (∀ (k0_h1 : k0_cond1 i v0 = 1#1), ∀ (k0_h3 : k0_cond3 i v2 v6 v15 = 1#1), ∀ a, (k0_off14 v11) a + S1x1.size a ≤ S2x2.size a) ∧
  (∀ (k0_h1 : k0_cond1 i v0 = 1#1), ∀ (k0_h3 : k0_cond3 i v2 v6 v15 = 1#1), ∀ a, (k0_off15 v11) a + S1x1408x5120.size a ≤ S2x1408x5120.size a) ∧
  (∀ (k0_h1 : k0_cond1 i v0 = 1#1), ∀ (k0_h3 : k0_cond3 i v2 v6 v15 = 1#1), ∀ a, (k0_off16 v15) a + S1x1408x5120.size a ≤ S16x1408x5120.size a) ∧
  (∀ (k0_h1 : k0_cond1 i v0 = 1#1), ∀ (k0_h3 : k0_cond3 i v2 v6 v15 = 1#1), ∀ (hinb : ∀ a, (k0_off16 v15) a + S1x1408x5120.size a ≤ S16x1408x5120.size a), (Rect.unit (s := S16x1408x5120) (k0_off16 v15) S1x1408x5120.size hinb).WholeWords (EltTy.packing .fp8e4m3)) ∧
  (∀ (k0_h1 : k0_cond1 i v0 = 1#1), ∀ (k0_h3 : k0_cond3 i v2 v6 v15 = 1#1), ∀ (hinb : ∀ a, (k0_off15 v11) a + S1x1408x5120.size a ≤ S2x1408x5120.size a), (Rect.unit (s := S2x1408x5120) (k0_off15 v11) S1x1408x5120.size hinb).WholeWords (EltTy.packing .fp8e4m3))
theorem k0_off11_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off11 v11) a + S1x1.size a ≤ S2x2.size a := fun i v0 v2 v6 v11 v15 k0_hw3 k0_h1 k0_h3 => k0_hw3.1 k0_h1 k0_h3
theorem k0_off12_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off12 v11) a + S1x5120x2816.size a ≤ S2x5120x2816.size a := fun i v0 v2 v6 v11 v15 k0_hw3 k0_h1 k0_h3 => k0_hw3.2.1 k0_h1 k0_h3
theorem k0_off13_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off13 v15) a + S1x5120x2816.size a ≤ S16x5120x2816.size a := fun i v0 v2 v6 v11 v15 k0_hw3 k0_h1 k0_h3 => k0_hw3.2.2.1 k0_h1 k0_h3
theorem k0_off13_wordsfp8e4m3 : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), (Rect.unit (s := S16x5120x2816) (k0_off13 v15) S1x5120x2816.size (k0_off13_inb i v0 v2 v6 v11 v15 k0_hw3 k0_h1 k0_h3)).WholeWords (EltTy.packing .fp8e4m3) := fun i v0 v2 v6 v11 v15 k0_hw3 k0_h1 k0_h3 => k0_hw3.2.2.2.1 k0_h1 k0_h3 (k0_off13_inb i v0 v2 v6 v11 v15 k0_hw3 k0_h1 k0_h3)
theorem k0_off12_wordsfp8e4m3 : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), (Rect.unit (s := S2x5120x2816) (k0_off12 v11) S1x5120x2816.size (k0_off12_inb i v0 v2 v6 v11 v15 k0_hw3 k0_h1 k0_h3)).WholeWords (EltTy.packing .fp8e4m3) := fun i v0 v2 v6 v11 v15 k0_hw3 k0_h1 k0_h3 => k0_hw3.2.2.2.2.1 k0_h1 k0_h3 (k0_off12_inb i v0 v2 v6 v11 v15 k0_hw3 k0_h1 k0_h3)
theorem k0_off14_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off14 v11) a + S1x1.size a ≤ S2x2.size a := fun i v0 v2 v6 v11 v15 k0_hw3 k0_h1 k0_h3 => k0_hw3.2.2.2.2.2.1 k0_h1 k0_h3
theorem k0_off15_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off15 v11) a + S1x1408x5120.size a ≤ S2x1408x5120.size a := fun i v0 v2 v6 v11 v15 k0_hw3 k0_h1 k0_h3 => k0_hw3.2.2.2.2.2.2.1 k0_h1 k0_h3
theorem k0_off16_inb : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), ∀ a, (k0_off16 v15) a + S1x1408x5120.size a ≤ S16x1408x5120.size a := fun i v0 v2 v6 v11 v15 k0_hw3 k0_h1 k0_h3 => k0_hw3.2.2.2.2.2.2.2.1 k0_h1 k0_h3
theorem k0_off16_wordsfp8e4m3 : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), (Rect.unit (s := S16x1408x5120) (k0_off16 v15) S1x1408x5120.size (k0_off16_inb i v0 v2 v6 v11 v15 k0_hw3 k0_h1 k0_h3)).WholeWords (EltTy.packing .fp8e4m3) := fun i v0 v2 v6 v11 v15 k0_hw3 k0_h1 k0_h3 => k0_hw3.2.2.2.2.2.2.2.2.1 k0_h1 k0_h3 (k0_off16_inb i v0 v2 v6 v11 v15 k0_hw3 k0_h1 k0_h3)
theorem k0_off15_wordsfp8e4m3 : ∀ (i : grid0.Coords) (v0 : BitVec 32) (v2 : BitVec 32) (v6 : BitVec 32) (v11 : BitVec 32) (v15 : BitVec 32) (k0_hw3 : k0_chk3 i v0 v2 v6 v11 v15), ∀ (k0_h1 : k0_cond1 i v0 = 1#1), ∀ (k0_h3 : k0_cond3 i v2 v6 v15 = 1#1), (Rect.unit (s := S2x1408x5120) (k0_off15 v11) S1x1408x5120.size (k0_off15_inb i v0 v2 v6 v11 v15 k0_hw3 k0_h1 k0_h3)).WholeWords (EltTy.packing .fp8e4m3) := fun i v0 v2 v6 v11 v15 k0_hw3 k0_h1 k0_h3 => k0_hw3.2.2.2.2.2.2.2.2.2 k0_h1 k0_h3 (k0_off15_inb i v0 v2 v6 v11 v15 k0_hw3 k0_h1 k0_h3)

def k0_off17 (v11 : BitVec 32) : Fin 2 → Nat :=
  let c0_i32_522 : BitVec 32 := 0#32
  let c1_i32_1 : BitVec 32 := 1#32
  let v12 : BitVec 32 := Scalar.andi v11 c1_i32_1
  ![0, v12.toNat]
def k0_cond4 (i : grid0.Coords) (v2 : BitVec 32) (v6 : BitVec 32) : BitVec 1 :=
  let arg0 : BitVec 32 := BitVec.ofNat 32 (i 0).val
  let c0_i32_0 : BitVec 32 := 0#32
  let v7 : BitVec 1 := Scalar.cmpi .eq arg0 c0_i32_0
  let v8 : BitVec 1 := Scalar.cmpi .ne v2 v6
  let v9 : BitVec 1 := Scalar.ori v7 v8
  let v26 : BitVec 32 := Scalar.extui v9
  let c0_i32_7 : BitVec 32 := 0#32
  let v27 : BitVec 1 := Scalar.cmpi .ne v26 c0_i32_7
  v27

def k0_off18 (v11 : BitVec 32) : Fin 3 → Nat :=
  let c1_i32_1 : BitVec 32 := 1#32
  let v12 : BitVec 32 := Scalar.andi v11 c1_i32_1
  let c0_i32_523 : BitVec 32 := 0#32
  let c0_i32_524 : BitVec 32 := 0#32
  ![v12.toNat, 0, 0]
def k0_off19 (v2 : BitVec 32) : Fin 3 → Nat :=
  let c0_i32_525 : BitVec 32 := 0#32
  let c0_i32_526 : BitVec 32 := 0#32
  ![v2.toNat, 0, 0]

def k0_off20 (v11 : BitVec 32) : Fin 2 → Nat :=
  let c1_i32_527 : BitVec 32 := 1#32
  let c1_i32_1 : BitVec 32 := 1#32
  let v12 : BitVec 32 := Scalar.andi v11 c1_i32_1
  ![1, v12.toNat]
def k0_off21 (v11 : BitVec 32) : Fin 3 → Nat :=
  let c1_i32_1 : BitVec 32 := 1#32
  let v12 : BitVec 32 := Scalar.andi v11 c1_i32_1
  let c0_i32_528 : BitVec 32 := 0#32
  let c0_i32_529 : BitVec 32 := 0#32
  ![v12.toNat, 0, 0]
def k0_off22 (v2 : BitVec 32) : Fin 3 → Nat :=
  let c0_i32_530 : BitVec 32 := 0#32
  let c0_i32_531 : BitVec 32 := 0#32
  ![v2.toNat, 0, 0]

def k0_chk4 (i : grid0.Coords) (v0 : BitVec 32) (v2 : BitVec 32) (v6 : BitVec 32) : Prop :=
  (∀ (k0_h1 : k0_cond1 i v0 = 1#1), ∀ (k0_h4 : k0_cond4 i v2 v6 = 1#1), ∀ a, (k0_off19 v2) a + S1x5120x2816.size a ≤ S16x5120x2816.size a) ∧
  (∀ (k0_h1 : k0_cond1 i v0 = 1#1), ∀ (k0_h4 : k0_cond4 i v2 v6 = 1#1), ∀ (hinb : ∀ a, (k0_off19 v2) a + S1x5120x2816.size a ≤ S16x5120x2816.size a), (Rect.unit (s := S16x5120x2816) (k0_off19 v2) S1x5120x2816.size hinb).WholeWords (EltTy.packing .fp8e4m3)) ∧
  (∀ (k0_h1 : k0_cond1 i v0 = 1#1), ∀ (k0_h4 : k0_cond4 i v2 v6 = 1#1), ∀ a, (k0_off22 v2) a + S1x1408x5120.size a ≤ S16x1408x5120.size a) ∧
  (∀ (k0_h1 : k0_cond1 i v0 = 1#1), ∀ (k0_h4 : k0_cond4 i v2 v6 = 1#1), ∀ (hinb : ∀ a, (k0_off22 v2) a + S1x1408x5120.size a ≤ S16x1408x5120.size a), (Rect.unit (s := S16x1408x5120) (k0_off22 v2) S1x1408x5120.size hinb).WholeWords (EltTy.packing .fp8e4m3))
theorem k0_off19_inb : ∀ (i : grid0.Coords) (v0 : BitVec 32) (v2 : BitVec 32) (v6 : BitVec 32) (k0_hw4 : k0_chk4 i v0 v2 v6), ∀ (k0_h1 : k0_cond1 i v0 = 1#1), ∀ (k0_h4 : k0_cond4 i v2 v6 = 1#1), ∀ a, (k0_off19 v2) a + S1x5120x2816.size a ≤ S16x5120x2816.size a := fun i v0 v2 v6 k0_hw4 k0_h1 k0_h4 => k0_hw4.1 k0_h1 k0_h4
theorem k0_off19_wordsfp8e4m3 : ∀ (i : grid0.Coords) (v0 : BitVec 32) (v2 : BitVec 32) (v6 : BitVec 32) (k0_hw4 : k0_chk4 i v0 v2 v6), ∀ (k0_h1 : k0_cond1 i v0 = 1#1), ∀ (k0_h4 : k0_cond4 i v2 v6 = 1#1), (Rect.unit (s := S16x5120x2816) (k0_off19 v2) S1x5120x2816.size (k0_off19_inb i v0 v2 v6 k0_hw4 k0_h1 k0_h4)).WholeWords (EltTy.packing .fp8e4m3) := fun i v0 v2 v6 k0_hw4 k0_h1 k0_h4 => k0_hw4.2.1 k0_h1 k0_h4 (k0_off19_inb i v0 v2 v6 k0_hw4 k0_h1 k0_h4)
theorem k0_off22_inb : ∀ (i : grid0.Coords) (v0 : BitVec 32) (v2 : BitVec 32) (v6 : BitVec 32) (k0_hw4 : k0_chk4 i v0 v2 v6), ∀ (k0_h1 : k0_cond1 i v0 = 1#1), ∀ (k0_h4 : k0_cond4 i v2 v6 = 1#1), ∀ a, (k0_off22 v2) a + S1x1408x5120.size a ≤ S16x1408x5120.size a := fun i v0 v2 v6 k0_hw4 k0_h1 k0_h4 => k0_hw4.2.2.1 k0_h1 k0_h4
theorem k0_off22_wordsfp8e4m3 : ∀ (i : grid0.Coords) (v0 : BitVec 32) (v2 : BitVec 32) (v6 : BitVec 32) (k0_hw4 : k0_chk4 i v0 v2 v6), ∀ (k0_h1 : k0_cond1 i v0 = 1#1), ∀ (k0_h4 : k0_cond4 i v2 v6 = 1#1), (Rect.unit (s := S16x1408x5120) (k0_off22 v2) S1x1408x5120.size (k0_off22_inb i v0 v2 v6 k0_hw4 k0_h1 k0_h4)).WholeWords (EltTy.packing .fp8e4m3) := fun i v0 v2 v6 k0_hw4 k0_h1 k0_h4 => k0_hw4.2.2.2 k0_h1 k0_h4 (k0_off22_inb i v0 v2 v6 k0_hw4 k0_h1 k0_h4)

def k0_off23 (v2 : BitVec 32) : Fin 3 → Nat :=
  let v751 : Index := Scalar.indexCast v2
  let c0_287 : Index := 0#32
  let c0_288 : Index := 0#32
  ![v751.toNat, 0, 0]
def k0_off24 (v11 : BitVec 32) : Fin 3 → Nat :=
  let c1_i32_1 : BitVec 32 := 1#32
  let v12 : BitVec 32 := Scalar.andi v11 c1_i32_1
  let v755 : Index := Scalar.indexCast v12
  let c0_291 : Index := 0#32
  let c0_292 : Index := 0#32
  ![v755.toNat, 0, 0]
def k0_off25 (v11 : BitVec 32) : Fin 3 → Nat :=
  let c1_i32_1 : BitVec 32 := 1#32
  let v12 : BitVec 32 := Scalar.andi v11 c1_i32_1
  let v760 : Index := Scalar.indexCast v12
  let c0_296 : Index := 0#32
  let c1408 : Index := 1408#32
  ![v760.toNat, 0, 1408]
def k0_off26 (v11 : BitVec 32) : Fin 3 → Nat :=
  let c1_i32_1 : BitVec 32 := 1#32
  let v12 : BitVec 32 := Scalar.andi v11 c1_i32_1
  let v791 : Index := Scalar.indexCast v12
  let c0_305 : Index := 0#32
  let c256 : Index := 256#32
  ![v791.toNat, 0, 256]
def k0_off27 (v11 : BitVec 32) : Fin 3 → Nat :=
  let c1_i32_1 : BitVec 32 := 1#32
  let v12 : BitVec 32 := Scalar.andi v11 c1_i32_1
  let v796 : Index := Scalar.indexCast v12
  let c0_309 : Index := 0#32
  let c1664 : Index := 1664#32
  ![v796.toNat, 0, 1664]
def k0_off28 (v11 : BitVec 32) : Fin 3 → Nat :=
  let c1_i32_1 : BitVec 32 := 1#32
  let v12 : BitVec 32 := Scalar.andi v11 c1_i32_1
  let v827 : Index := Scalar.indexCast v12
  let c0_318 : Index := 0#32
  let c512 : Index := 512#32
  ![v827.toNat, 0, 512]
def k0_off29 (v11 : BitVec 32) : Fin 3 → Nat :=
  let c1_i32_1 : BitVec 32 := 1#32
  let v12 : BitVec 32 := Scalar.andi v11 c1_i32_1
  let v832 : Index := Scalar.indexCast v12
  let c0_322 : Index := 0#32
  let c1920 : Index := 1920#32
  ![v832.toNat, 0, 1920]
def k0_off30 (v11 : BitVec 32) : Fin 3 → Nat :=
  let c1_i32_1 : BitVec 32 := 1#32
  let v12 : BitVec 32 := Scalar.andi v11 c1_i32_1
  let v863 : Index := Scalar.indexCast v12
  let c0_331 : Index := 0#32
  let c768 : Index := 768#32
  ![v863.toNat, 0, 768]
def k0_off31 (v11 : BitVec 32) : Fin 3 → Nat :=
  let c1_i32_1 : BitVec 32 := 1#32
  let v12 : BitVec 32 := Scalar.andi v11 c1_i32_1
  let v868 : Index := Scalar.indexCast v12
  let c0_335 : Index := 0#32
  let c2176 : Index := 2176#32
  ![v868.toNat, 0, 2176]
def k0_off32 (v11 : BitVec 32) : Fin 3 → Nat :=
  let c1_i32_1 : BitVec 32 := 1#32
  let v12 : BitVec 32 := Scalar.andi v11 c1_i32_1
  let v899 : Index := Scalar.indexCast v12
  let c0_344 : Index := 0#32
  let c1024 : Index := 1024#32
  ![v899.toNat, 0, 1024]
def k0_off33 (v11 : BitVec 32) : Fin 3 → Nat :=
  let c1_i32_1 : BitVec 32 := 1#32
  let v12 : BitVec 32 := Scalar.andi v11 c1_i32_1
  let v904 : Index := Scalar.indexCast v12
  let c0_348 : Index := 0#32
  let c2432 : Index := 2432#32
  ![v904.toNat, 0, 2432]
def k0_off34 (v11 : BitVec 32) : Fin 3 → Nat :=
  let c1_i32_1 : BitVec 32 := 1#32
  let v12 : BitVec 32 := Scalar.andi v11 c1_i32_1
  let v934 : Index := Scalar.indexCast v12
  let c0_355 : Index := 0#32
  let c1280_356 : Index := 1280#32
  ![v934.toNat, 0, 1280]
def k0_off35 (v11 : BitVec 32) : Fin 3 → Nat :=
  let c1_i32_1 : BitVec 32 := 1#32
  let v12 : BitVec 32 := Scalar.andi v11 c1_i32_1
  let v937 : Index := Scalar.indexCast v12
  let c0_357 : Index := 0#32
  let c2688 : Index := 2688#32
  ![v937.toNat, 0, 2688]
def k0_off36 (v2 : BitVec 32) : Fin 3 → Nat :=
  let v1060 : Index := Scalar.indexCast v2
  let c0_392 : Index := 0#32
  let c0_393 : Index := 0#32
  ![v1060.toNat, 0, 0]

def k0_chk1 (i : grid0.Coords) (v0 : BitVec 32) (v2 : BitVec 32) : Prop :=
  (∀ a, (k0_off3 v2) a + S1.size a ≤ S48.size a) ∧
  (∀ a, (k0_off4 v2) a + S1.size a ≤ S48.size a) ∧
  (∀ (k0_h1 : k0_cond1 i v0 = 1#1), ∀ (k0_h2 : k0_cond2 i = 1#1), ∀ a, (k0_off7 v2) a + S1x5120x2816.size a ≤ S16x5120x2816.size a) ∧
  (∀ (k0_h1 : k0_cond1 i v0 = 1#1), ∀ (k0_h2 : k0_cond2 i = 1#1), ∀ (hinb : ∀ a, (k0_off7 v2) a + S1x5120x2816.size a ≤ S16x5120x2816.size a), (Rect.unit (s := S16x5120x2816) (k0_off7 v2) S1x5120x2816.size hinb).WholeWords (EltTy.packing .fp8e4m3)) ∧
  (∀ (k0_h1 : k0_cond1 i v0 = 1#1), ∀ (k0_h2 : k0_cond2 i = 1#1), ∀ a, (k0_off10 v2) a + S1x1408x5120.size a ≤ S16x1408x5120.size a) ∧
  (∀ (k0_h1 : k0_cond1 i v0 = 1#1), ∀ (k0_h2 : k0_cond2 i = 1#1), ∀ (hinb : ∀ a, (k0_off10 v2) a + S1x1408x5120.size a ≤ S16x1408x5120.size a), (Rect.unit (s := S16x1408x5120) (k0_off10 v2) S1x1408x5120.size hinb).WholeWords (EltTy.packing .fp8e4m3)) ∧
  (∀ (k0_h1 : k0_cond1 i v0 = 1#1), ∀ a, (k0_off23 v2) a + S1x1x2816.size a ≤ S16x1x2816.size a) ∧
  (∀ (k0_h1 : k0_cond1 i v0 = 1#1), ∀ a, (k0_off36 v2) a + S1x1x5120.size a ≤ S16x1x5120.size a)
theorem k0_off3_inb : ∀ (i : grid0.Coords) (v0 : BitVec 32) (v2 : BitVec 32) (k0_hw1 : k0_chk1 i v0 v2), ∀ a, (k0_off3 v2) a + S1.size a ≤ S48.size a := fun i v0 v2 k0_hw1 => k0_hw1.1
theorem k0_off4_inb : ∀ (i : grid0.Coords) (v0 : BitVec 32) (v2 : BitVec 32) (k0_hw1 : k0_chk1 i v0 v2), ∀ a, (k0_off4 v2) a + S1.size a ≤ S48.size a := fun i v0 v2 k0_hw1 => k0_hw1.2.1
theorem k0_off7_inb : ∀ (i : grid0.Coords) (v0 : BitVec 32) (v2 : BitVec 32) (k0_hw1 : k0_chk1 i v0 v2), ∀ (k0_h1 : k0_cond1 i v0 = 1#1), ∀ (k0_h2 : k0_cond2 i = 1#1), ∀ a, (k0_off7 v2) a + S1x5120x2816.size a ≤ S16x5120x2816.size a := fun i v0 v2 k0_hw1 k0_h1 k0_h2 => k0_hw1.2.2.1 k0_h1 k0_h2
theorem k0_off7_wordsfp8e4m3 : ∀ (i : grid0.Coords) (v0 : BitVec 32) (v2 : BitVec 32) (k0_hw1 : k0_chk1 i v0 v2), ∀ (k0_h1 : k0_cond1 i v0 = 1#1), ∀ (k0_h2 : k0_cond2 i = 1#1), (Rect.unit (s := S16x5120x2816) (k0_off7 v2) S1x5120x2816.size (k0_off7_inb i v0 v2 k0_hw1 k0_h1 k0_h2)).WholeWords (EltTy.packing .fp8e4m3) := fun i v0 v2 k0_hw1 k0_h1 k0_h2 => k0_hw1.2.2.2.1 k0_h1 k0_h2 (k0_off7_inb i v0 v2 k0_hw1 k0_h1 k0_h2)
theorem k0_off10_inb : ∀ (i : grid0.Coords) (v0 : BitVec 32) (v2 : BitVec 32) (k0_hw1 : k0_chk1 i v0 v2), ∀ (k0_h1 : k0_cond1 i v0 = 1#1), ∀ (k0_h2 : k0_cond2 i = 1#1), ∀ a, (k0_off10 v2) a + S1x1408x5120.size a ≤ S16x1408x5120.size a := fun i v0 v2 k0_hw1 k0_h1 k0_h2 => k0_hw1.2.2.2.2.1 k0_h1 k0_h2
theorem k0_off10_wordsfp8e4m3 : ∀ (i : grid0.Coords) (v0 : BitVec 32) (v2 : BitVec 32) (k0_hw1 : k0_chk1 i v0 v2), ∀ (k0_h1 : k0_cond1 i v0 = 1#1), ∀ (k0_h2 : k0_cond2 i = 1#1), (Rect.unit (s := S16x1408x5120) (k0_off10 v2) S1x1408x5120.size (k0_off10_inb i v0 v2 k0_hw1 k0_h1 k0_h2)).WholeWords (EltTy.packing .fp8e4m3) := fun i v0 v2 k0_hw1 k0_h1 k0_h2 => k0_hw1.2.2.2.2.2.1 k0_h1 k0_h2 (k0_off10_inb i v0 v2 k0_hw1 k0_h1 k0_h2)
theorem k0_off23_inb : ∀ (i : grid0.Coords) (v0 : BitVec 32) (v2 : BitVec 32) (k0_hw1 : k0_chk1 i v0 v2), ∀ (k0_h1 : k0_cond1 i v0 = 1#1), ∀ a, (k0_off23 v2) a + S1x1x2816.size a ≤ S16x1x2816.size a := fun i v0 v2 k0_hw1 k0_h1 => k0_hw1.2.2.2.2.2.2.1 k0_h1
theorem k0_off36_inb : ∀ (i : grid0.Coords) (v0 : BitVec 32) (v2 : BitVec 32) (k0_hw1 : k0_chk1 i v0 v2), ∀ (k0_h1 : k0_cond1 i v0 = 1#1), ∀ a, (k0_off36 v2) a + S1x1x5120.size a ≤ S16x1x5120.size a := fun i v0 v2 k0_hw1 k0_h1 => k0_hw1.2.2.2.2.2.2.2 k0_h1

def k0_off37 (v11 : BitVec 32) : Fin 3 → Nat :=
  let c1_i32_1 : BitVec 32 := 1#32
  let v12 : BitVec 32 := Scalar.andi v11 c1_i32_1
  let v1064 : Index := Scalar.indexCast v12
  let c0_396 : Index := 0#32
  let c0_397 : Index := 0#32
  ![v1064.toNat, 0, 0]
def k0_off38 (v11 : BitVec 32) : Fin 3 → Nat :=
  let c1_i32_1 : BitVec 32 := 1#32
  let v12 : BitVec 32 := Scalar.andi v11 c1_i32_1
  let v1074 : Index := Scalar.indexCast v12
  let c0_403 : Index := 0#32
  let c256_404 : Index := 256#32
  ![v1074.toNat, 0, 256]
def k0_off39 (v11 : BitVec 32) : Fin 3 → Nat :=
  let c1_i32_1 : BitVec 32 := 1#32
  let v12 : BitVec 32 := Scalar.andi v11 c1_i32_1
  let v1084 : Index := Scalar.indexCast v12
  let c0_410 : Index := 0#32
  let c512_411 : Index := 512#32
  ![v1084.toNat, 0, 512]
def k0_off40 (v11 : BitVec 32) : Fin 3 → Nat :=
  let c1_i32_1 : BitVec 32 := 1#32
  let v12 : BitVec 32 := Scalar.andi v11 c1_i32_1
  let v1094 : Index := Scalar.indexCast v12
  let c0_417 : Index := 0#32
  let c768_418 : Index := 768#32
  ![v1094.toNat, 0, 768]
def k0_off41 (v11 : BitVec 32) : Fin 3 → Nat :=
  let c1_i32_1 : BitVec 32 := 1#32
  let v12 : BitVec 32 := Scalar.andi v11 c1_i32_1
  let v1104 : Index := Scalar.indexCast v12
  let c0_424 : Index := 0#32
  let c1024_425 : Index := 1024#32
  ![v1104.toNat, 0, 1024]
def k0_off42 (v11 : BitVec 32) : Fin 3 → Nat :=
  let c1_i32_1 : BitVec 32 := 1#32
  let v12 : BitVec 32 := Scalar.andi v11 c1_i32_1
  let v1114 : Index := Scalar.indexCast v12
  let c0_431 : Index := 0#32
  let c1280_432 : Index := 1280#32
  ![v1114.toNat, 0, 1280]
def k0_off43 (v11 : BitVec 32) : Fin 3 → Nat :=
  let c1_i32_1 : BitVec 32 := 1#32
  let v12 : BitVec 32 := Scalar.andi v11 c1_i32_1
  let v1124 : Index := Scalar.indexCast v12
  let c0_438 : Index := 0#32
  let c1536 : Index := 1536#32
  ![v1124.toNat, 0, 1536]
def k0_off44 (v11 : BitVec 32) : Fin 3 → Nat :=
  let c1_i32_1 : BitVec 32 := 1#32
  let v12 : BitVec 32 := Scalar.andi v11 c1_i32_1
  let v1134 : Index := Scalar.indexCast v12
  let c0_444 : Index := 0#32
  let c1792 : Index := 1792#32
  ![v1134.toNat, 0, 1792]
def k0_off45 (v11 : BitVec 32) : Fin 3 → Nat :=
  let c1_i32_1 : BitVec 32 := 1#32
  let v12 : BitVec 32 := Scalar.andi v11 c1_i32_1
  let v1144 : Index := Scalar.indexCast v12
  let c0_450 : Index := 0#32
  let c2048 : Index := 2048#32
  ![v1144.toNat, 0, 2048]
def k0_off46 (v11 : BitVec 32) : Fin 3 → Nat :=
  let c1_i32_1 : BitVec 32 := 1#32
  let v12 : BitVec 32 := Scalar.andi v11 c1_i32_1
  let v1154 : Index := Scalar.indexCast v12
  let c0_456 : Index := 0#32
  let c2304 : Index := 2304#32
  ![v1154.toNat, 0, 2304]
def k0_off47 (v11 : BitVec 32) : Fin 3 → Nat :=
  let c1_i32_1 : BitVec 32 := 1#32
  let v12 : BitVec 32 := Scalar.andi v11 c1_i32_1
  let v1164 : Index := Scalar.indexCast v12
  let c0_462 : Index := 0#32
  let c2560_463 : Index := 2560#32
  ![v1164.toNat, 0, 2560]
def k0_off48 (v11 : BitVec 32) : Fin 3 → Nat :=
  let c1_i32_1 : BitVec 32 := 1#32
  let v12 : BitVec 32 := Scalar.andi v11 c1_i32_1
  let v1174 : Index := Scalar.indexCast v12
  let c0_469 : Index := 0#32
  let c2816 : Index := 2816#32
  ![v1174.toNat, 0, 2816]
def k0_off49 (v11 : BitVec 32) : Fin 3 → Nat :=
  let c1_i32_1 : BitVec 32 := 1#32
  let v12 : BitVec 32 := Scalar.andi v11 c1_i32_1
  let v1184 : Index := Scalar.indexCast v12
  let c0_475 : Index := 0#32
  let c3072 : Index := 3072#32
  ![v1184.toNat, 0, 3072]
def k0_off50 (v11 : BitVec 32) : Fin 3 → Nat :=
  let c1_i32_1 : BitVec 32 := 1#32
  let v12 : BitVec 32 := Scalar.andi v11 c1_i32_1
  let v1194 : Index := Scalar.indexCast v12
  let c0_481 : Index := 0#32
  let c3328 : Index := 3328#32
  ![v1194.toNat, 0, 3328]
def k0_off51 (v11 : BitVec 32) : Fin 3 → Nat :=
  let c1_i32_1 : BitVec 32 := 1#32
  let v12 : BitVec 32 := Scalar.andi v11 c1_i32_1
  let v1204 : Index := Scalar.indexCast v12
  let c0_487 : Index := 0#32
  let c3584 : Index := 3584#32
  ![v1204.toNat, 0, 3584]
def k0_off52 (v11 : BitVec 32) : Fin 3 → Nat :=
  let c1_i32_1 : BitVec 32 := 1#32
  let v12 : BitVec 32 := Scalar.andi v11 c1_i32_1
  let v1214 : Index := Scalar.indexCast v12
  let c0_493 : Index := 0#32
  let c3840_494 : Index := 3840#32
  ![v1214.toNat, 0, 3840]
def k0_off53 (v11 : BitVec 32) : Fin 3 → Nat :=
  let c1_i32_1 : BitVec 32 := 1#32
  let v12 : BitVec 32 := Scalar.andi v11 c1_i32_1
  let v1224 : Index := Scalar.indexCast v12
  let c0_500 : Index := 0#32
  let c4096 : Index := 4096#32
  ![v1224.toNat, 0, 4096]
def k0_off54 (v11 : BitVec 32) : Fin 3 → Nat :=
  let c1_i32_1 : BitVec 32 := 1#32
  let v12 : BitVec 32 := Scalar.andi v11 c1_i32_1
  let v1234 : Index := Scalar.indexCast v12
  let c0_506 : Index := 0#32
  let c4352 : Index := 4352#32
  ![v1234.toNat, 0, 4352]
def k0_off55 (v11 : BitVec 32) : Fin 3 → Nat :=
  let c1_i32_1 : BitVec 32 := 1#32
  let v12 : BitVec 32 := Scalar.andi v11 c1_i32_1
  let v1244 : Index := Scalar.indexCast v12
  let c0_512 : Index := 0#32
  let c4608 : Index := 4608#32
  ![v1244.toNat, 0, 4608]
def k0_off56 (v11 : BitVec 32) : Fin 3 → Nat :=
  let c1_i32_1 : BitVec 32 := 1#32
  let v12 : BitVec 32 := Scalar.andi v11 c1_i32_1
  let v1254 : Index := Scalar.indexCast v12
  let c0_518 : Index := 0#32
  let c4864 : Index := 4864#32
  ![v1254.toNat, 0, 4864]

def k0_chk2_0 (i : grid0.Coords) (v0 : BitVec 32) (v2 : BitVec 32) (v6 : BitVec 32) (v11 : BitVec 32) : Prop :=
  (∀ (k0_h1 : k0_cond1 i v0 = 1#1), ∀ (k0_h2 : k0_cond2 i = 1#1), ∀ a, (k0_off5 v11) a + S1x1.size a ≤ S2x2.size a) ∧
  (∀ (k0_h1 : k0_cond1 i v0 = 1#1), ∀ (k0_h2 : k0_cond2 i = 1#1), ∀ a, (k0_off6 v11) a + S1x5120x2816.size a ≤ S2x5120x2816.size a) ∧
  (∀ (k0_h1 : k0_cond1 i v0 = 1#1), ∀ (k0_h2 : k0_cond2 i = 1#1), ∀ (hinb : ∀ a, (k0_off6 v11) a + S1x5120x2816.size a ≤ S2x5120x2816.size a), (Rect.unit (s := S2x5120x2816) (k0_off6 v11) S1x5120x2816.size hinb).WholeWords (EltTy.packing .fp8e4m3)) ∧
  (∀ (k0_h1 : k0_cond1 i v0 = 1#1), ∀ (k0_h2 : k0_cond2 i = 1#1), ∀ a, (k0_off8 v11) a + S1x1.size a ≤ S2x2.size a) ∧
  (∀ (k0_h1 : k0_cond1 i v0 = 1#1), ∀ (k0_h2 : k0_cond2 i = 1#1), ∀ a, (k0_off9 v11) a + S1x1408x5120.size a ≤ S2x1408x5120.size a) ∧
  (∀ (k0_h1 : k0_cond1 i v0 = 1#1), ∀ (k0_h2 : k0_cond2 i = 1#1), ∀ (hinb : ∀ a, (k0_off9 v11) a + S1x1408x5120.size a ≤ S2x1408x5120.size a), (Rect.unit (s := S2x1408x5120) (k0_off9 v11) S1x1408x5120.size hinb).WholeWords (EltTy.packing .fp8e4m3)) ∧
  (∀ (k0_h1 : k0_cond1 i v0 = 1#1), ∀ (k0_h4 : k0_cond4 i v2 v6 = 1#1), ∀ a, (k0_off17 v11) a + S1x1.size a ≤ S2x2.size a) ∧
  (∀ (k0_h1 : k0_cond1 i v0 = 1#1), ∀ (k0_h4 : k0_cond4 i v2 v6 = 1#1), ∀ a, (k0_off18 v11) a + S1x5120x2816.size a ≤ S2x5120x2816.size a) ∧
  (∀ (k0_h1 : k0_cond1 i v0 = 1#1), ∀ (k0_h4 : k0_cond4 i v2 v6 = 1#1), ∀ (hinb : ∀ a, (k0_off18 v11) a + S1x5120x2816.size a ≤ S2x5120x2816.size a), (Rect.unit (s := S2x5120x2816) (k0_off18 v11) S1x5120x2816.size hinb).WholeWords (EltTy.packing .fp8e4m3)) ∧
  (∀ (k0_h1 : k0_cond1 i v0 = 1#1), ∀ (k0_h4 : k0_cond4 i v2 v6 = 1#1), ∀ a, (k0_off20 v11) a + S1x1.size a ≤ S2x2.size a) ∧
  (∀ (k0_h1 : k0_cond1 i v0 = 1#1), ∀ (k0_h4 : k0_cond4 i v2 v6 = 1#1), ∀ a, (k0_off21 v11) a + S1x1408x5120.size a ≤ S2x1408x5120.size a) ∧
  (∀ (k0_h1 : k0_cond1 i v0 = 1#1), ∀ (k0_h4 : k0_cond4 i v2 v6 = 1#1), ∀ (hinb : ∀ a, (k0_off21 v11) a + S1x1408x5120.size a ≤ S2x1408x5120.size a), (Rect.unit (s := S2x1408x5120) (k0_off21 v11) S1x1408x5120.size hinb).WholeWords (EltTy.packing .fp8e4m3)) ∧
  (∀ (k0_h1 : k0_cond1 i v0 = 1#1), ∀ a, (k0_off24 v11) a + S1x5120x256.size a ≤ S2x5120x2816.size a) ∧
  (∀ (k0_h1 : k0_cond1 i v0 = 1#1), ∀ a, (k0_off25 v11) a + S1x5120x256.size a ≤ S2x5120x2816.size a) ∧
  (∀ (k0_h1 : k0_cond1 i v0 = 1#1), ∀ a, (k0_off26 v11) a + S1x5120x256.size a ≤ S2x5120x2816.size a) ∧
  (∀ (k0_h1 : k0_cond1 i v0 = 1#1), ∀ a, (k0_off27 v11) a + S1x5120x256.size a ≤ S2x5120x2816.size a) ∧
  (∀ (k0_h1 : k0_cond1 i v0 = 1#1), ∀ a, (k0_off28 v11) a + S1x5120x256.size a ≤ S2x5120x2816.size a) ∧
  (∀ (k0_h1 : k0_cond1 i v0 = 1#1), ∀ a, (k0_off29 v11) a + S1x5120x256.size a ≤ S2x5120x2816.size a) ∧
  (∀ (k0_h1 : k0_cond1 i v0 = 1#1), ∀ a, (k0_off30 v11) a + S1x5120x256.size a ≤ S2x5120x2816.size a) ∧
  (∀ (k0_h1 : k0_cond1 i v0 = 1#1), ∀ a, (k0_off31 v11) a + S1x5120x256.size a ≤ S2x5120x2816.size a) ∧
  (∀ (k0_h1 : k0_cond1 i v0 = 1#1), ∀ a, (k0_off32 v11) a + S1x5120x256.size a ≤ S2x5120x2816.size a) ∧
  (∀ (k0_h1 : k0_cond1 i v0 = 1#1), ∀ a, (k0_off33 v11) a + S1x5120x256.size a ≤ S2x5120x2816.size a) ∧
  (∀ (k0_h1 : k0_cond1 i v0 = 1#1), ∀ a, (k0_off34 v11) a + S1x5120x128.size a ≤ S2x5120x2816.size a) ∧
  (∀ (k0_h1 : k0_cond1 i v0 = 1#1), ∀ a, (k0_off35 v11) a + S1x5120x128.size a ≤ S2x5120x2816.size a) ∧
  (∀ (k0_h1 : k0_cond1 i v0 = 1#1), ∀ a, (k0_off37 v11) a + S1x1408x256.size a ≤ S2x1408x5120.size a) ∧
  (∀ (k0_h1 : k0_cond1 i v0 = 1#1), ∀ a, (k0_off38 v11) a + S1x1408x256.size a ≤ S2x1408x5120.size a) ∧
  (∀ (k0_h1 : k0_cond1 i v0 = 1#1), ∀ a, (k0_off39 v11) a + S1x1408x256.size a ≤ S2x1408x5120.size a) ∧
  (∀ (k0_h1 : k0_cond1 i v0 = 1#1), ∀ a, (k0_off40 v11) a + S1x1408x256.size a ≤ S2x1408x5120.size a) ∧
  (∀ (k0_h1 : k0_cond1 i v0 = 1#1), ∀ a, (k0_off41 v11) a + S1x1408x256.size a ≤ S2x1408x5120.size a) ∧
  (∀ (k0_h1 : k0_cond1 i v0 = 1#1), ∀ a, (k0_off42 v11) a + S1x1408x256.size a ≤ S2x1408x5120.size a) ∧
  (∀ (k0_h1 : k0_cond1 i v0 = 1#1), ∀ a, (k0_off43 v11) a + S1x1408x256.size a ≤ S2x1408x5120.size a) ∧
  (∀ (k0_h1 : k0_cond1 i v0 = 1#1), ∀ a, (k0_off44 v11) a + S1x1408x256.size a ≤ S2x1408x5120.size a)
def k0_chk2_1 (i : grid0.Coords) (v0 : BitVec 32) (v2 : BitVec 32) (v6 : BitVec 32) (v11 : BitVec 32) : Prop :=
  (∀ (k0_h1 : k0_cond1 i v0 = 1#1), ∀ a, (k0_off45 v11) a + S1x1408x256.size a ≤ S2x1408x5120.size a) ∧
  (∀ (k0_h1 : k0_cond1 i v0 = 1#1), ∀ a, (k0_off46 v11) a + S1x1408x256.size a ≤ S2x1408x5120.size a) ∧
  (∀ (k0_h1 : k0_cond1 i v0 = 1#1), ∀ a, (k0_off47 v11) a + S1x1408x256.size a ≤ S2x1408x5120.size a) ∧
  (∀ (k0_h1 : k0_cond1 i v0 = 1#1), ∀ a, (k0_off48 v11) a + S1x1408x256.size a ≤ S2x1408x5120.size a) ∧
  (∀ (k0_h1 : k0_cond1 i v0 = 1#1), ∀ a, (k0_off49 v11) a + S1x1408x256.size a ≤ S2x1408x5120.size a) ∧
  (∀ (k0_h1 : k0_cond1 i v0 = 1#1), ∀ a, (k0_off50 v11) a + S1x1408x256.size a ≤ S2x1408x5120.size a) ∧
  (∀ (k0_h1 : k0_cond1 i v0 = 1#1), ∀ a, (k0_off51 v11) a + S1x1408x256.size a ≤ S2x1408x5120.size a) ∧
  (∀ (k0_h1 : k0_cond1 i v0 = 1#1), ∀ a, (k0_off52 v11) a + S1x1408x256.size a ≤ S2x1408x5120.size a) ∧
  (∀ (k0_h1 : k0_cond1 i v0 = 1#1), ∀ a, (k0_off53 v11) a + S1x1408x256.size a ≤ S2x1408x5120.size a) ∧
  (∀ (k0_h1 : k0_cond1 i v0 = 1#1), ∀ a, (k0_off54 v11) a + S1x1408x256.size a ≤ S2x1408x5120.size a) ∧
  (∀ (k0_h1 : k0_cond1 i v0 = 1#1), ∀ a, (k0_off55 v11) a + S1x1408x256.size a ≤ S2x1408x5120.size a) ∧
  (∀ (k0_h1 : k0_cond1 i v0 = 1#1), ∀ a, (k0_off56 v11) a + S1x1408x256.size a ≤ S2x1408x5120.size a)
def k0_chk2 (i : grid0.Coords) (v0 : BitVec 32) (v2 : BitVec 32) (v6 : BitVec 32) (v11 : BitVec 32) : Prop :=
  k0_chk2_0 i v0 v2 v6 v11 ∧
  k0_chk2_1 i v0 v2 v6 v11
theorem k0_off5_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), ∀ a, (k0_off5 v11) a + S1x1.size a ≤ S2x2.size a := fun i v0 v2 v6 v11 k0_hw2 k0_h1 k0_h2 => k0_hw2.1.1 k0_h1 k0_h2
theorem k0_off6_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), ∀ a, (k0_off6 v11) a + S1x5120x2816.size a ≤ S2x5120x2816.size a := fun i v0 v2 v6 v11 k0_hw2 k0_h1 k0_h2 => k0_hw2.1.2.1 k0_h1 k0_h2
theorem k0_off6_wordsfp8e4m3 : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), (Rect.unit (s := S2x5120x2816) (k0_off6 v11) S1x5120x2816.size (k0_off6_inb i v0 v2 v6 v11 k0_hw2 k0_h1 k0_h2)).WholeWords (EltTy.packing .fp8e4m3) := fun i v0 v2 v6 v11 k0_hw2 k0_h1 k0_h2 => k0_hw2.1.2.2.1 k0_h1 k0_h2 (k0_off6_inb i v0 v2 v6 v11 k0_hw2 k0_h1 k0_h2)
theorem k0_off8_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), ∀ a, (k0_off8 v11) a + S1x1.size a ≤ S2x2.size a := fun i v0 v2 v6 v11 k0_hw2 k0_h1 k0_h2 => k0_hw2.1.2.2.2.1 k0_h1 k0_h2
theorem k0_off9_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), ∀ a, (k0_off9 v11) a + S1x1408x5120.size a ≤ S2x1408x5120.size a := fun i v0 v2 v6 v11 k0_hw2 k0_h1 k0_h2 => k0_hw2.1.2.2.2.2.1 k0_h1 k0_h2
theorem k0_off9_wordsfp8e4m3 : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h2 : k0_cond2 i = 1#1), (Rect.unit (s := S2x1408x5120) (k0_off9 v11) S1x1408x5120.size (k0_off9_inb i v0 v2 v6 v11 k0_hw2 k0_h1 k0_h2)).WholeWords (EltTy.packing .fp8e4m3) := fun i v0 v2 v6 v11 k0_hw2 k0_h1 k0_h2 => k0_hw2.1.2.2.2.2.2.1 k0_h1 k0_h2 (k0_off9_inb i v0 v2 v6 v11 k0_hw2 k0_h1 k0_h2)
theorem k0_off17_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), ∀ a, (k0_off17 v11) a + S1x1.size a ≤ S2x2.size a := fun i v0 v2 v6 v11 k0_hw2 k0_h1 k0_h4 => k0_hw2.1.2.2.2.2.2.2.1 k0_h1 k0_h4
theorem k0_off18_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), ∀ a, (k0_off18 v11) a + S1x5120x2816.size a ≤ S2x5120x2816.size a := fun i v0 v2 v6 v11 k0_hw2 k0_h1 k0_h4 => k0_hw2.1.2.2.2.2.2.2.2.1 k0_h1 k0_h4
theorem k0_off18_wordsfp8e4m3 : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), (Rect.unit (s := S2x5120x2816) (k0_off18 v11) S1x5120x2816.size (k0_off18_inb i v0 v2 v6 v11 k0_hw2 k0_h1 k0_h4)).WholeWords (EltTy.packing .fp8e4m3) := fun i v0 v2 v6 v11 k0_hw2 k0_h1 k0_h4 => k0_hw2.1.2.2.2.2.2.2.2.2.1 k0_h1 k0_h4 (k0_off18_inb i v0 v2 v6 v11 k0_hw2 k0_h1 k0_h4)
theorem k0_off20_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), ∀ a, (k0_off20 v11) a + S1x1.size a ≤ S2x2.size a := fun i v0 v2 v6 v11 k0_hw2 k0_h1 k0_h4 => k0_hw2.1.2.2.2.2.2.2.2.2.2.1 k0_h1 k0_h4
theorem k0_off21_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), ∀ a, (k0_off21 v11) a + S1x1408x5120.size a ≤ S2x1408x5120.size a := fun i v0 v2 v6 v11 k0_hw2 k0_h1 k0_h4 => k0_hw2.1.2.2.2.2.2.2.2.2.2.2.1 k0_h1 k0_h4
theorem k0_off21_wordsfp8e4m3 : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ (k0_h4 : k0_cond4 i v2 v6 = 1#1), (Rect.unit (s := S2x1408x5120) (k0_off21 v11) S1x1408x5120.size (k0_off21_inb i v0 v2 v6 v11 k0_hw2 k0_h1 k0_h4)).WholeWords (EltTy.packing .fp8e4m3) := fun i v0 v2 v6 v11 k0_hw2 k0_h1 k0_h4 => k0_hw2.1.2.2.2.2.2.2.2.2.2.2.2.1 k0_h1 k0_h4 (k0_off21_inb i v0 v2 v6 v11 k0_hw2 k0_h1 k0_h4)
theorem k0_off24_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off24 v11) a + S1x5120x256.size a ≤ S2x5120x2816.size a := fun i v0 v2 v6 v11 k0_hw2 k0_h1 => k0_hw2.1.2.2.2.2.2.2.2.2.2.2.2.2.1 k0_h1
theorem k0_off25_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off25 v11) a + S1x5120x256.size a ≤ S2x5120x2816.size a := fun i v0 v2 v6 v11 k0_hw2 k0_h1 => k0_hw2.1.2.2.2.2.2.2.2.2.2.2.2.2.2.1 k0_h1
theorem k0_off26_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off26 v11) a + S1x5120x256.size a ≤ S2x5120x2816.size a := fun i v0 v2 v6 v11 k0_hw2 k0_h1 => k0_hw2.1.2.2.2.2.2.2.2.2.2.2.2.2.2.2.1 k0_h1
theorem k0_off27_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off27 v11) a + S1x5120x256.size a ≤ S2x5120x2816.size a := fun i v0 v2 v6 v11 k0_hw2 k0_h1 => k0_hw2.1.2.2.2.2.2.2.2.2.2.2.2.2.2.2.2.1 k0_h1
theorem k0_off28_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off28 v11) a + S1x5120x256.size a ≤ S2x5120x2816.size a := fun i v0 v2 v6 v11 k0_hw2 k0_h1 => k0_hw2.1.2.2.2.2.2.2.2.2.2.2.2.2.2.2.2.2.1 k0_h1
theorem k0_off29_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off29 v11) a + S1x5120x256.size a ≤ S2x5120x2816.size a := fun i v0 v2 v6 v11 k0_hw2 k0_h1 => k0_hw2.1.2.2.2.2.2.2.2.2.2.2.2.2.2.2.2.2.2.1 k0_h1
theorem k0_off30_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off30 v11) a + S1x5120x256.size a ≤ S2x5120x2816.size a := fun i v0 v2 v6 v11 k0_hw2 k0_h1 => k0_hw2.1.2.2.2.2.2.2.2.2.2.2.2.2.2.2.2.2.2.2.1 k0_h1
theorem k0_off31_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off31 v11) a + S1x5120x256.size a ≤ S2x5120x2816.size a := fun i v0 v2 v6 v11 k0_hw2 k0_h1 => k0_hw2.1.2.2.2.2.2.2.2.2.2.2.2.2.2.2.2.2.2.2.2.1 k0_h1
theorem k0_off32_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off32 v11) a + S1x5120x256.size a ≤ S2x5120x2816.size a := fun i v0 v2 v6 v11 k0_hw2 k0_h1 => k0_hw2.1.2.2.2.2.2.2.2.2.2.2.2.2.2.2.2.2.2.2.2.2.1 k0_h1
theorem k0_off33_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off33 v11) a + S1x5120x256.size a ≤ S2x5120x2816.size a := fun i v0 v2 v6 v11 k0_hw2 k0_h1 => k0_hw2.1.2.2.2.2.2.2.2.2.2.2.2.2.2.2.2.2.2.2.2.2.2.1 k0_h1
theorem k0_off34_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off34 v11) a + S1x5120x128.size a ≤ S2x5120x2816.size a := fun i v0 v2 v6 v11 k0_hw2 k0_h1 => k0_hw2.1.2.2.2.2.2.2.2.2.2.2.2.2.2.2.2.2.2.2.2.2.2.2.1 k0_h1
theorem k0_off35_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off35 v11) a + S1x5120x128.size a ≤ S2x5120x2816.size a := fun i v0 v2 v6 v11 k0_hw2 k0_h1 => k0_hw2.1.2.2.2.2.2.2.2.2.2.2.2.2.2.2.2.2.2.2.2.2.2.2.2.1 k0_h1
theorem k0_off37_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off37 v11) a + S1x1408x256.size a ≤ S2x1408x5120.size a := fun i v0 v2 v6 v11 k0_hw2 k0_h1 => k0_hw2.1.2.2.2.2.2.2.2.2.2.2.2.2.2.2.2.2.2.2.2.2.2.2.2.2.1 k0_h1
theorem k0_off38_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off38 v11) a + S1x1408x256.size a ≤ S2x1408x5120.size a := fun i v0 v2 v6 v11 k0_hw2 k0_h1 => k0_hw2.1.2.2.2.2.2.2.2.2.2.2.2.2.2.2.2.2.2.2.2.2.2.2.2.2.2.1 k0_h1
theorem k0_off39_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off39 v11) a + S1x1408x256.size a ≤ S2x1408x5120.size a := fun i v0 v2 v6 v11 k0_hw2 k0_h1 => k0_hw2.1.2.2.2.2.2.2.2.2.2.2.2.2.2.2.2.2.2.2.2.2.2.2.2.2.2.2.1 k0_h1
theorem k0_off40_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off40 v11) a + S1x1408x256.size a ≤ S2x1408x5120.size a := fun i v0 v2 v6 v11 k0_hw2 k0_h1 => k0_hw2.1.2.2.2.2.2.2.2.2.2.2.2.2.2.2.2.2.2.2.2.2.2.2.2.2.2.2.2.1 k0_h1
theorem k0_off41_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off41 v11) a + S1x1408x256.size a ≤ S2x1408x5120.size a := fun i v0 v2 v6 v11 k0_hw2 k0_h1 => k0_hw2.1.2.2.2.2.2.2.2.2.2.2.2.2.2.2.2.2.2.2.2.2.2.2.2.2.2.2.2.2.1 k0_h1
theorem k0_off42_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off42 v11) a + S1x1408x256.size a ≤ S2x1408x5120.size a := fun i v0 v2 v6 v11 k0_hw2 k0_h1 => k0_hw2.1.2.2.2.2.2.2.2.2.2.2.2.2.2.2.2.2.2.2.2.2.2.2.2.2.2.2.2.2.2.1 k0_h1
theorem k0_off43_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off43 v11) a + S1x1408x256.size a ≤ S2x1408x5120.size a := fun i v0 v2 v6 v11 k0_hw2 k0_h1 => k0_hw2.1.2.2.2.2.2.2.2.2.2.2.2.2.2.2.2.2.2.2.2.2.2.2.2.2.2.2.2.2.2.2.1 k0_h1
theorem k0_off44_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off44 v11) a + S1x1408x256.size a ≤ S2x1408x5120.size a := fun i v0 v2 v6 v11 k0_hw2 k0_h1 => k0_hw2.1.2.2.2.2.2.2.2.2.2.2.2.2.2.2.2.2.2.2.2.2.2.2.2.2.2.2.2.2.2.2.2 k0_h1
theorem k0_off45_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off45 v11) a + S1x1408x256.size a ≤ S2x1408x5120.size a := fun i v0 v2 v6 v11 k0_hw2 k0_h1 => k0_hw2.2.1 k0_h1
theorem k0_off46_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off46 v11) a + S1x1408x256.size a ≤ S2x1408x5120.size a := fun i v0 v2 v6 v11 k0_hw2 k0_h1 => k0_hw2.2.2.1 k0_h1
theorem k0_off47_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off47 v11) a + S1x1408x256.size a ≤ S2x1408x5120.size a := fun i v0 v2 v6 v11 k0_hw2 k0_h1 => k0_hw2.2.2.2.1 k0_h1
theorem k0_off48_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off48 v11) a + S1x1408x256.size a ≤ S2x1408x5120.size a := fun i v0 v2 v6 v11 k0_hw2 k0_h1 => k0_hw2.2.2.2.2.1 k0_h1
theorem k0_off49_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off49 v11) a + S1x1408x256.size a ≤ S2x1408x5120.size a := fun i v0 v2 v6 v11 k0_hw2 k0_h1 => k0_hw2.2.2.2.2.2.1 k0_h1
theorem k0_off50_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off50 v11) a + S1x1408x256.size a ≤ S2x1408x5120.size a := fun i v0 v2 v6 v11 k0_hw2 k0_h1 => k0_hw2.2.2.2.2.2.2.1 k0_h1
theorem k0_off51_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off51 v11) a + S1x1408x256.size a ≤ S2x1408x5120.size a := fun i v0 v2 v6 v11 k0_hw2 k0_h1 => k0_hw2.2.2.2.2.2.2.2.1 k0_h1
theorem k0_off52_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off52 v11) a + S1x1408x256.size a ≤ S2x1408x5120.size a := fun i v0 v2 v6 v11 k0_hw2 k0_h1 => k0_hw2.2.2.2.2.2.2.2.2.1 k0_h1
theorem k0_off53_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off53 v11) a + S1x1408x256.size a ≤ S2x1408x5120.size a := fun i v0 v2 v6 v11 k0_hw2 k0_h1 => k0_hw2.2.2.2.2.2.2.2.2.2.1 k0_h1
theorem k0_off54_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off54 v11) a + S1x1408x256.size a ≤ S2x1408x5120.size a := fun i v0 v2 v6 v11 k0_hw2 k0_h1 => k0_hw2.2.2.2.2.2.2.2.2.2.2.1 k0_h1
theorem k0_off55_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off55 v11) a + S1x1408x256.size a ≤ S2x1408x5120.size a := fun i v0 v2 v6 v11 k0_hw2 k0_h1 => k0_hw2.2.2.2.2.2.2.2.2.2.2.2.1 k0_h1
theorem k0_off56_inb : ∀ (i : grid0.Coords) (v0 : BitVec 32) (v2 : BitVec 32) (v6 : BitVec 32) (v11 : BitVec 32) (k0_hw2 : k0_chk2 i v0 v2 v6 v11), ∀ (k0_h1 : k0_cond1 i v0 = 1#1), ∀ a, (k0_off56 v11) a + S1x1408x256.size a ≤ S2x1408x5120.size a := fun i v0 v2 v6 v11 k0_hw2 k0_h1 => k0_hw2.2.2.2.2.2.2.2.2.2.2.2.2 k0_h1

def cc0_transform_0 (inb_S48_S1_32 : ∀ a, (![32] : Fin 1 → Nat) a + S1.size a ≤ S48.size a) (numel1_S1 : S1.numel = 1) (pf : pre0.Contents (Elt F)) (i : grid0.Coords) : Fin 2 → Nat :=
  let arg0 : BitVec 32 := BitVec.ofNat 32 (i 0).val
  let c32 : Index := 32#32
  let v0 : BitVec 32 := pf.at 1 (Rect.unit (s := S48) ![32] S1.size inb_S48_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (inb_S48_S1_32 : ∀ a, (![32] : Fin 1 → Nat) a + S1.size a ≤ S48.size a) (numel1_S1 : S1.numel = 1) (pf : pre0.Contents (Elt F)) (i : grid0.Coords) : Fin 2 → Nat :=
  let arg0 : BitVec 32 := BitVec.ofNat 32 (i 0).val
  let c32 : Index := 32#32
  let v0 : BitVec 32 := pf.at 1 (Rect.unit (s := S48) ![32] S1.size inb_S48_S1_32) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x1408 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1024 : Shape := ⟨1, ![1024]⟩
abbrev S48 : Shape := ⟨1, ![48]⟩
abbrev S53248x1408 : Shape := ⟨2, ![53248, 1408]⟩
abbrev S16x1x2816 : Shape := ⟨3, ![16, 1, 2816]⟩
abbrev S16x1x5120 : Shape := ⟨3, ![16, 1, 5120]⟩
abbrev S16x5120x2816 : Shape := ⟨3, ![16, 5120, 2816]⟩
abbrev S16x1408x5120 : Shape := ⟨3, ![16, 1408, 5120]⟩
abbrev S1x252 : Shape := ⟨2, ![1, 252]⟩
abbrev S208 : Shape := ⟨1, ![208]⟩
abbrev S208x1 : Shape := ⟨2, ![208, 1]⟩
abbrev S208x256 : Shape := ⟨2, ![208, 256]⟩
abbrev S53248x1 : Shape := ⟨2, ![53248, 1]⟩
abbrev S1664x4x8x1408 : Shape := ⟨4, ![1664, 4, 8, 1408]⟩
abbrev S1664x8x4x1408 : Shape := ⟨4, ![1664, 8, 4, 1408]⟩
abbrev S53248x5120 : Shape := ⟨2, ![53248, 5120]⟩
abbrev S53248x1280 : Shape := ⟨2, ![53248, 1280]⟩
abbrev S212992x1280 : Shape := ⟨2, ![212992, 1280]⟩
abbrev S1x5120x2816 : Shape := ⟨3, ![1, 5120, 2816]⟩
abbrev S5120x2816 : Shape := ⟨2, ![5120, 2816]⟩
abbrev S53248x2816 : Shape := ⟨2, ![53248, 2816]⟩
abbrev S1x1x2816 : Shape := ⟨3, ![1, 1, 2816]⟩
abbrev S1x2816 : Shape := ⟨2, ![1, 2816]⟩
abbrev S53248 : Shape := ⟨1, ![53248]⟩
abbrev S53248x252 : Shape := ⟨2, ![53248, 252]⟩
abbrev S1x1408x5120 : Shape := ⟨3, ![1, 1408, 5120]⟩
abbrev S1408x5120 : Shape := ⟨2, ![1408, 5120]⟩
abbrev S1x1x5120 : Shape := ⟨3, ![1, 1, 5120]⟩
abbrev S1x5120 : Shape := ⟨2, ![1, 5120]⟩

abbrev nBuf : Space → Nat
  | .hbm => 16
  | .vmem => 8
  | .smem => 0
  | _ => 0

abbrev bufTy : (tb : Table) → Fin (tcTables nBuf tb) → BufTy
  | .hbm, ⟨0, _⟩ => ⟨S1024, .i32⟩
  | .hbm, ⟨1, _⟩ => ⟨S48, .i32⟩
  | .hbm, ⟨2, _⟩ => ⟨S53248x1408, .i32⟩
  | .hbm, ⟨3, _⟩ => ⟨S16x1x2816, .f32⟩
  | .hbm, ⟨4, _⟩ => ⟨S16x1x5120, .f32⟩
  | .hbm, ⟨5, _⟩ => ⟨S16x5120x2816, .fp8e4m3⟩
  | .hbm, ⟨6, _⟩ => ⟨S16x1408x5120, .fp8e4m3⟩
  | .hbm, ⟨7, _⟩ => ⟨S1x252, .f32⟩
  | .hbm, ⟨8, _⟩ => ⟨S208, .i32⟩
  | .hbm, ⟨9, _⟩ => ⟨S208x1, .i32⟩
  | .hbm, ⟨10, _⟩ => ⟨S208x256, .i32⟩
  | .hbm, ⟨11, _⟩ => ⟨S53248x1, .i32⟩
  | .hbm, ⟨12, _⟩ => ⟨S1664x4x8x1408, .i32⟩
  | .hbm, ⟨13, _⟩ => ⟨S1664x8x4x1408, .i32⟩
  | .hbm, ⟨14, _⟩ => ⟨S53248x1408, .i32⟩
  | .hbm, ⟨15, _⟩ => ⟨S53248x5120, .f32⟩
  | .local _ .vmem, ⟨0, _⟩ => ⟨S53248x1, .i32⟩
  | .local _ .vmem, ⟨1, _⟩ => ⟨S53248x1408, .i32⟩
  | .local _ .vmem, ⟨2, _⟩ => ⟨S1x252, .f32⟩
  | .local _ .vmem, ⟨3, _⟩ => ⟨S16x1x2816, .f32⟩
  | .local _ .vmem, ⟨4, _⟩ => ⟨S16x1x5120, .f32⟩
  | .local _ .vmem, ⟨5, _⟩ => ⟨S16x5120x2816, .fp8e4m3⟩
  | .local _ .vmem, ⟨6, _⟩ => ⟨S16x1408x5120, .fp8e4m3⟩
  | .local _ .vmem, ⟨7, _⟩ => ⟨S53248x5120, .f32⟩
  | _, _ => ⟨S1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S53248x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S53248x1408 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x252 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x5120x2816 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1408x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S53248x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Combine.lean ====
abbrev S49152 : Shape := ⟨1, ![49152]⟩
abbrev S24576x2 : Shape := ⟨2, ![24576, 2]⟩
abbrev S53248x5120 : Shape := ⟨2, ![53248, 5120]⟩
abbrev S24576x5120 : Shape := ⟨2, ![24576, 5120]⟩
abbrev S128x2 : Shape := ⟨2, ![128, 2]⟩
abbrev S128x5120 : Shape := ⟨2, ![128, 5120]⟩
abbrev S2x2x128x5120 : Shape := ⟨4, ![2, 2, 128, 5120]⟩
abbrev S2 : Shape := ⟨1, ![2]⟩
abbrev S1 : Shape := ⟨1, ![1]⟩
abbrev S_ : Shape := ⟨0, ![]⟩
abbrev S1x1x1x5120 : Shape := ⟨4, ![1, 1, 1, 5120]⟩
abbrev S1x5120 : Shape := ⟨2, ![1, 5120]⟩
abbrev S1x1x128x5120 : Shape := ⟨4, ![1, 1, 128, 5120]⟩
abbrev S128x1 : Shape := ⟨2, ![128, 1]⟩

abbrev nBuf : Space → Nat
  | .hbm => 3
  | .vmem => 5
  | .smem => 1
  | _ => 0

abbrev bufTy : (tb : Table) → Fin (tcTables nBuf tb) → BufTy
  | .hbm, ⟨0, _⟩ => ⟨S24576x2, .f32⟩
  | .hbm, ⟨1, _⟩ => ⟨S53248x5120, .f32⟩
  | .hbm, ⟨2, _⟩ => ⟨S24576x5120, .bf16⟩
  | .local _ .vmem, ⟨0, _⟩ => ⟨S128x2, .f32⟩
  | .local _ .vmem, ⟨1, _⟩ => ⟨S128x2, .f32⟩
  | .local _ .vmem, ⟨2, _⟩ => ⟨S128x5120, .bf16⟩
  | .local _ .vmem, ⟨3, _⟩ => ⟨S128x5120, .bf16⟩
  | .local _ .vmem, ⟨4, _⟩ => ⟨S2x2x128x5120, .f32⟩
  | .local _ .smem, ⟨0, _⟩ => ⟨S49152, .i32⟩
  | _, _ => ⟨S24576x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![192], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_16 : BitVec 32 := 0#32
  let c32_i32 : BitVec 32 := 32#32
  let v24 : BitVec 32 := Scalar.addi c0_i32_16 c32_i32
  let c1_i32_17 : BitVec 32 := 1#32
  ⟨c0_i32_16, v24, c1_i32_17⟩
def k0_off1 (k0_t1 : Fin k0_t1_loop.trips) : Fin 1 → Nat :=
  let c0_i32_20 : BitVec 32 := 0#32
  let c0_i32_16 : BitVec 32 := 0#32
  let c1_i32_17 : BitVec 32 := 1#32
  let arg7 : BitVec 32 := Scf.iv c0_i32_16 c1_i32_17 k0_t1
  let c4_i32 : BitVec 32 := 4#32
  let v25 : BitVec 32 := Scalar.muli arg7 c4_i32
  let c0_i32_19 : BitVec 32 := 0#32
  let v26 : BitVec 32 := Scalar.addi v25 c0_i32_19
  let v27 : BitVec 32 := Scalar.addi c0_i32_20 v26
  let c2_i32 : BitVec 32 := 2#32
  let v28 : BitVec 32 := Scalar.muli v27 c2_i32
  let c0_i32_21 : BitVec 32 := 0#32
  let v29 : BitVec 32 := Scalar.addi v28 c0_i32_21
  let v30 : Index := Scalar.indexCast v29
  ![v30.toNat]
def k0_off2 (k0_t1 : Fin k0_t1_loop.trips) : Fin 4 → Nat :=
  let c0_i32_22 : BitVec 32 := 0#32
  let c0_i32_23 : BitVec 32 := 0#32
  let c0_i32_16 : BitVec 32 := 0#32
  let c1_i32_17 : BitVec 32 := 1#32
  let arg7 : BitVec 32 := Scf.iv c0_i32_16 c1_i32_17 k0_t1
  let c4_i32 : BitVec 32 := 4#32
  let v25 : BitVec 32 := Scalar.muli arg7 c4_i32
  let c0_i32_19 : BitVec 32 := 0#32
  let v26 : BitVec 32 := Scalar.addi v25 c0_i32_19
  let c0_i32_25 : BitVec 32 := 0#32
  ![0, 0, v26.toNat, 0]
def k0_off3 (v31 : BitVec 32) : Fin 2 → Nat :=
  let c0_i32_26 : BitVec 32 := 0#32
  ![v31.toNat, 0]

def k0_chk1 (i : grid0.Coords) (v31 : BitVec 32) : Prop :=
  (∀ (k0_h1 : k0_cond1 i = 1#1), ∀ a, (k0_off3 v31) a + S1x5120.size a ≤ S53248x5120.size a)
theorem k0_off3_inb : ∀ (i : grid0.Coords) (v31 : BitVec 32) (k0_hw1 : k0_chk1 i v31), ∀ (k0_h1 : k0_cond1 i = 1#1), ∀ a, (k0_off3 v31) a + S1x5120.size a ≤ S53248x5120.size a := fun i v31 k0_hw1 k0_h1 => k0_hw1 k0_h1

def k0_off4 (k0_t1 : Fin k0_t1_loop.trips) : Fin 1 → Nat :=
  let c0_i32_27 : BitVec 32 := 0#32
  let c0_i32_16 : BitVec 32 := 0#32
  let c1_i32_17 : BitVec 32 := 1#32
  let arg7 : BitVec 32 := Scf.iv c0_i32_16 c1_i32_17 k0_t1
  let c4_i32 : BitVec 32 := 4#32
  let v25 : BitVec 32 := Scalar.muli arg7 c4_i32
  let c0_i32_19 : BitVec 32 := 0#32
  let v26 : BitVec 32 := Scalar.addi v25 c0_i32_19
  let v37 : BitVec 32 := Scalar.addi c0_i32_27 v26
  let c2_i32_28 : BitVec 32 := 2#32
  let v38 : BitVec 32 := Scalar.muli v37 c2_i32_28
  let c1_i32_29 : BitVec 32 := 1#32
  let v39 : BitVec 32 := Scalar.addi v38 c1_i32_29
  let v40 : Index := Scalar.indexCast v39
  ![v40.toNat]
def k0_off5 (k0_t1 : Fin k0_t1_loop.trips) : Fin 4 → Nat :=
  let c0_i32_30 : BitVec 32 := 0#32
  let c1_i32_31 : BitVec 32 := 1#32
  let c0_i32_16 : BitVec 32 := 0#32
  let c1_i32_17 : BitVec 32 := 1#32
  let arg7 : BitVec 32 := Scf.iv c0_i32_16 c1_i32_17 k0_t1
  let c4_i32 : BitVec 32 := 4#32
  let v25 : BitVec 32 := Scalar.muli arg7 c4_i32
  let c0_i32_19 : BitVec 32 := 0#32
  let v26 : BitVec 32 := Scalar.addi v25 c0_i32_19
  let c0_i32_33 : BitVec 32 := 0#32
  ![0, 1, v26.toNat, 0]
def k0_off6 (v41 : BitVec 32) : Fin 2 → Nat :=
  let c0_i32_34 : BitVec 32 := 0#32
  ![v41.toNat, 0]

def k0_chk2 (i : grid0.Coords) (v41 : BitVec 32) : Prop :=
  (∀ (k0_h1 : k0_cond1 i = 1#1), ∀ a, (k0_off6 v41) a + S1x5120.size a ≤ S53248x5120.size a)
theorem k0_off6_inb : ∀ (i : grid0.Coords) (v41 : BitVec 32) (k0_hw2 : k0_chk2 i v41), ∀ (k0_h1 : k0_cond1 i = 1#1), ∀ a, (k0_off6 v41) a + S1x5120.size a ≤ S53248x5120.size a := fun i v41 k0_hw2 k0_h1 => k0_hw2 k0_h1

def k0_off7 (k0_t1 : Fin k0_t1_loop.trips) : Fin 1 → Nat :=
  let c0_i32_37 : BitVec 32 := 0#32
  let c0_i32_16 : BitVec 32 := 0#32
  let c1_i32_17 : BitVec 32 := 1#32
  let arg7 : BitVec 32 := Scf.iv c0_i32_16 c1_i32_17 k0_t1
  let c4_i32_35 : BitVec 32 := 4#32
  let v47 : BitVec 32 := Scalar.muli arg7 c4_i32_35
  let c1_i32_36 : BitVec 32 := 1#32
  let v48 : BitVec 32 := Scalar.addi v47 c1_i32_36
  let v49 : BitVec 32 := Scalar.addi c0_i32_37 v48
  let c2_i32_38 : BitVec 32 := 2#32
  let v50 : BitVec 32 := Scalar.muli v49 c2_i32_38
  let c0_i32_39 : BitVec 32 := 0#32
  let v51 : BitVec 32 := Scalar.addi v50 c0_i32_39
  let v52 : Index := Scalar.indexCast v51
  ![v52.toNat]
def k0_off8 (k0_t1 : Fin k0_t1_loop.trips) : Fin 4 → Nat :=
  let c0_i32_40 : BitVec 32 := 0#32
  let c0_i32_41 : BitVec 32 := 0#32
  let c0_i32_16 : BitVec 32 := 0#32
  let c1_i32_17 : BitVec 32 := 1#32
  let arg7 : BitVec 32 := Scf.iv c0_i32_16 c1_i32_17 k0_t1
  let c4_i32_35 : BitVec 32 := 4#32
  let v47 : BitVec 32 := Scalar.muli arg7 c4_i32_35
  let c1_i32_36 : BitVec 32 := 1#32
  let v48 : BitVec 32 := Scalar.addi v47 c1_i32_36
  let c0_i32_43 : BitVec 32 := 0#32
  ![0, 0, v48.toNat, 0]
def k0_off9 (v53 : BitVec 32) : Fin 2 → Nat :=
  let c0_i32_44 : BitVec 32 := 0#32
  ![v53.toNat, 0]

def k0_chk3 (i : grid0.Coords) (v53 : BitVec 32) : Prop :=
  (∀ (k0_h1 : k0_cond1 i = 1#1), ∀ a, (k0_off9 v53) a + S1x5120.size a ≤ S53248x5120.size a)
theorem k0_off9_inb : ∀ (i : grid0.Coords) (v53 : BitVec 32) (k0_hw3 : k0_chk3 i v53), ∀ (k0_h1 : k0_cond1 i = 1#1), ∀ a, (k0_off9 v53) a + S1x5120.size a ≤ S53248x5120.size a := fun i v53 k0_hw3 k0_h1 => k0_hw3 k0_h1

def k0_off10 (k0_t1 : Fin k0_t1_loop.trips) : Fin 1 → Nat :=
  let c0_i32_45 : BitVec 32 := 0#32
  let c0_i32_16 : BitVec 32 := 0#32
  let c1_i32_17 : BitVec 32 := 1#32
  let arg7 : BitVec 32 := Scf.iv c0_i32_16 c1_i32_17 k0_t1
  let c4_i32_35 : BitVec 32 := 4#32
  let v47 : BitVec 32 := Scalar.muli arg7 c4_i32_35
  let c1_i32_36 : BitVec 32 := 1#32
  let v48 : BitVec 32 := Scalar.addi v47 c1_i32_36
  let v59 : BitVec 32 := Scalar.addi c0_i32_45 v48
  let c2_i32_46 : BitVec 32 := 2#32
  let v60 : BitVec 32 := Scalar.muli v59 c2_i32_46
  let c1_i32_47 : BitVec 32 := 1#32
  let v61 : BitVec 32 := Scalar.addi v60 c1_i32_47
  let v62 : Index := Scalar.indexCast v61
  ![v62.toNat]
def k0_off11 (k0_t1 : Fin k0_t1_loop.trips) : Fin 4 → Nat :=
  let c0_i32_48 : BitVec 32 := 0#32
  let c1_i32_49 : BitVec 32 := 1#32
  let c0_i32_16 : BitVec 32 := 0#32
  let c1_i32_17 : BitVec 32 := 1#32
  let arg7 : BitVec 32 := Scf.iv c0_i32_16 c1_i32_17 k0_t1
  let c4_i32_35 : BitVec 32 := 4#32
  let v47 : BitVec 32 := Scalar.muli arg7 c4_i32_35
  let c1_i32_36 : BitVec 32 := 1#32
  let v48 : BitVec 32 := Scalar.addi v47 c1_i32_36
  let c0_i32_51 : BitVec 32 := 0#32
  ![0, 1, v48.toNat, 0]
def k0_off12 (v63 : BitVec 32) : Fin 2 → Nat :=
  let c0_i32_52 : BitVec 32 := 0#32
  ![v63.toNat, 0]

def k0_chk4 (i : grid0.Coords) (v63 : BitVec 32) : Prop :=
  (∀ (k0_h1 : k0_cond1 i = 1#1), ∀ a, (k0_off12 v63) a + S1x5120.size a ≤ S53248x5120.size a)
theorem k0_off12_inb : ∀ (i : grid0.Coords) (v63 : BitVec 32) (k0_hw4 : k0_chk4 i v63), ∀ (k0_h1 : k0_cond1 i = 1#1), ∀ a, (k0_off12 v63) a + S1x5120.size a ≤ S53248x5120.size a := fun i v63 k0_hw4 k0_h1 => k0_hw4 k0_h1

def k0_off13 (k0_t1 : Fin k0_t1_loop.trips) : Fin 1 → Nat :=
  let c0_i32_55 : BitVec 32 := 0#32
  let c0_i32_16 : BitVec 32 := 0#32
  let c1_i32_17 : BitVec 32 := 1#32
  let arg7 : BitVec 32 := Scf.iv c0_i32_16 c1_i32_17 k0_t1
  let c4_i32_53 : BitVec 32 := 4#32
  let v69 : BitVec 32 := Scalar.muli arg7 c4_i32_53
  let c2_i32_54 : BitVec 32 := 2#32
  let v70 : BitVec 32 := Scalar.addi v69 c2_i32_54
  let v71 : BitVec 32 := Scalar.addi c0_i32_55 v70
  let c2_i32_56 : BitVec 32 := 2#32
  let v72 : BitVec 32 := Scalar.muli v71 c2_i32_56
  let c0_i32_57 : BitVec 32 := 0#32
  let v73 : BitVec 32 := Scalar.addi v72 c0_i32_57
  let v74 : Index := Scalar.indexCast v73
  ![v74.toNat]
def k0_off14 (k0_t1 : Fin k0_t1_loop.trips) : Fin 4 → Nat :=
  let c0_i32_58 : BitVec 32 := 0#32
  let c0_i32_59 : BitVec 32 := 0#32
  let c0_i32_16 : BitVec 32 := 0#32
  let c1_i32_17 : BitVec 32 := 1#32
  let arg7 : BitVec 32 := Scf.iv c0_i32_16 c1_i32_17 k0_t1
  let c4_i32_53 : BitVec 32 := 4#32
  let v69 : BitVec 32 := Scalar.muli arg7 c4_i32_53
  let c2_i32_54 : BitVec 32 := 2#32
  let v70 : BitVec 32 := Scalar.addi v69 c2_i32_54
  let c0_i32_61 : BitVec 32 := 0#32
  ![0, 0, v70.toNat, 0]
def k0_off15 (v75 : BitVec 32) : Fin 2 → Nat :=
  let c0_i32_62 : BitVec 32 := 0#32
  ![v75.toNat, 0]

def k0_chk5 (i : grid0.Coords) (v75 : BitVec 32) : Prop :=
  (∀ (k0_h1 : k0_cond1 i = 1#1), ∀ a, (k0_off15 v75) a + S1x5120.size a ≤ S53248x5120.size a)
theorem k0_off15_inb : ∀ (i : grid0.Coords) (v75 : BitVec 32) (k0_hw5 : k0_chk5 i v75), ∀ (k0_h1 : k0_cond1 i = 1#1), ∀ a, (k0_off15 v75) a + S1x5120.size a ≤ S53248x5120.size a := fun i v75 k0_hw5 k0_h1 => k0_hw5 k0_h1

def k0_off16 (k0_t1 : Fin k0_t1_loop.trips) : Fin 1 → Nat :=
  let c0_i32_63 : BitVec 32 := 0#32
  let c0_i32_16 : BitVec 32 := 0#32
  let c1_i32_17 : BitVec 32 := 1#32
  let arg7 : BitVec 32 := Scf.iv c0_i32_16 c1_i32_17 k0_t1
  let c4_i32_53 : BitVec 32 := 4#32
  let v69 : BitVec 32 := Scalar.muli arg7 c4_i32_53
  let c2_i32_54 : BitVec 32 := 2#32
  let v70 : BitVec 32 := Scalar.addi v69 c2_i32_54
  let v81 : BitVec 32 := Scalar.addi c0_i32_63 v70
  let c2_i32_64 : BitVec 32 := 2#32
  let v82 : BitVec 32 := Scalar.muli v81 c2_i32_64
  let c1_i32_65 : BitVec 32 := 1#32
  let v83 : BitVec 32 := Scalar.addi v82 c1_i32_65
  let v84 : Index := Scalar.indexCast v83
  ![v84.toNat]
def k0_off17 (k0_t1 : Fin k0_t1_loop.trips) : Fin 4 → Nat :=
  let c0_i32_66 : BitVec 32 := 0#32
  let c1_i32_67 : BitVec 32 := 1#32
  let c0_i32_16 : BitVec 32 := 0#32
  let c1_i32_17 : BitVec 32 := 1#32
  let arg7 : BitVec 32 := Scf.iv c0_i32_16 c1_i32_17 k0_t1
  let c4_i32_53 : BitVec 32 := 4#32
  let v69 : BitVec 32 := Scalar.muli arg7 c4_i32_53
  let c2_i32_54 : BitVec 32 := 2#32
  let v70 : BitVec 32 := Scalar.addi v69 c2_i32_54
  let c0_i32_69 : BitVec 32 := 0#32
  ![0, 1, v70.toNat, 0]
def k0_off18 (v85 : BitVec 32) : Fin 2 → Nat :=
  let c0_i32_70 : BitVec 32 := 0#32
  ![v85.toNat, 0]

def k0_chk6 (i : grid0.Coords) (v85 : BitVec 32) : Prop :=
  (∀ (k0_h1 : k0_cond1 i = 1#1), ∀ a, (k0_off18 v85) a + S1x5120.size a ≤ S53248x5120.size a)
theorem k0_off18_inb : ∀ (i : grid0.Coords) (v85 : BitVec 32) (k0_hw6 : k0_chk6 i v85), ∀ (k0_h1 : k0_cond1 i = 1#1), ∀ a, (k0_off18 v85) a + S1x5120.size a ≤ S53248x5120.size a := fun i v85 k0_hw6 k0_h1 => k0_hw6 k0_h1

def k0_off19 (k0_t1 : Fin k0_t1_loop.trips) : Fin 1 → Nat :=
  let c0_i32_72 : BitVec 32 := 0#32
  let c0_i32_16 : BitVec 32 := 0#32
  let c1_i32_17 : BitVec 32 := 1#32
  let arg7 : BitVec 32 := Scf.iv c0_i32_16 c1_i32_17 k0_t1
  let c4_i32_71 : BitVec 32 := 4#32
  let v91 : BitVec 32 := Scalar.muli arg7 c4_i32_71
  let c3_i32 : BitVec 32 := 3#32
  let v92 : BitVec 32 := Scalar.addi v91 c3_i32
  let v93 : BitVec 32 := Scalar.addi c0_i32_72 v92
  let c2_i32_73 : BitVec 32 := 2#32
  let v94 : BitVec 32 := Scalar.muli v93 c2_i32_73
  let c0_i32_74 : BitVec 32 := 0#32
  let v95 : BitVec 32 := Scalar.addi v94 c0_i32_74
  let v96 : Index := Scalar.indexCast v95
  ![v96.toNat]
def k0_off20 (k0_t1 : Fin k0_t1_loop.trips) : Fin 4 → Nat :=
  let c0_i32_75 : BitVec 32 := 0#32
  let c0_i32_76 : BitVec 32 := 0#32
  let c0_i32_16 : BitVec 32 := 0#32
  let c1_i32_17 : BitVec 32 := 1#32
  let arg7 : BitVec 32 := Scf.iv c0_i32_16 c1_i32_17 k0_t1
  let c4_i32_71 : BitVec 32 := 4#32
  let v91 : BitVec 32 := Scalar.muli arg7 c4_i32_71
  let c3_i32 : BitVec 32 := 3#32
  let v92 : BitVec 32 := Scalar.addi v91 c3_i32
  let c0_i32_78 : BitVec 32 := 0#32
  ![0, 0, v92.toNat, 0]
def k0_off21 (v97 : BitVec 32) : Fin 2 → Nat :=
  let c0_i32_79 : BitVec 32 := 0#32
  ![v97.toNat, 0]

def k0_chk7 (i : grid0.Coords) (v97 : BitVec 32) : Prop :=
  (∀ (k0_h1 : k0_cond1 i = 1#1), ∀ a, (k0_off21 v97) a + S1x5120.size a ≤ S53248x5120.size a)
theorem k0_off21_inb : ∀ (i : grid0.Coords) (v97 : BitVec 32) (k0_hw7 : k0_chk7 i v97), ∀ (k0_h1 : k0_cond1 i = 1#1), ∀ a, (k0_off21 v97) a + S1x5120.size a ≤ S53248x5120.size a := fun i v97 k0_hw7 k0_h1 => k0_hw7 k0_h1

def k0_off22 (k0_t1 : Fin k0_t1_loop.trips) : Fin 1 → Nat :=
  let c0_i32_80 : BitVec 32 := 0#32
  let c0_i32_16 : BitVec 32 := 0#32
  let c1_i32_17 : BitVec 32 := 1#32
  let arg7 : BitVec 32 := Scf.iv c0_i32_16 c1_i32_17 k0_t1
  let c4_i32_71 : BitVec 32 := 4#32
  let v91 : BitVec 32 := Scalar.muli arg7 c4_i32_71
  let c3_i32 : BitVec 32 := 3#32
  let v92 : BitVec 32 := Scalar.addi v91 c3_i32
  let v103 : BitVec 32 := Scalar.addi c0_i32_80 v92
  let c2_i32_81 : BitVec 32 := 2#32
  let v104 : BitVec 32 := Scalar.muli v103 c2_i32_81
  let c1_i32_82 : BitVec 32 := 1#32
  let v105 : BitVec 32 := Scalar.addi v104 c1_i32_82
  let v106 : Index := Scalar.indexCast v105
  ![v106.toNat]
def k0_off23 (k0_t1 : Fin k0_t1_loop.trips) : Fin 4 → Nat :=
  let c0_i32_83 : BitVec 32 := 0#32
  let c1_i32_84 : BitVec 32 := 1#32
  let c0_i32_16 : BitVec 32 := 0#32
  let c1_i32_17 : BitVec 32 := 1#32
  let arg7 : BitVec 32 := Scf.iv c0_i32_16 c1_i32_17 k0_t1
  let c4_i32_71 : BitVec 32 := 4#32
  let v91 : BitVec 32 := Scalar.muli arg7 c4_i32_71
  let c3_i32 : BitVec 32 := 3#32
  let v92 : BitVec 32 := Scalar.addi v91 c3_i32
  let c0_i32_86 : BitVec 32 := 0#32
  ![0, 1, v92.toNat, 0]
def k0_off24 (v107 : BitVec 32) : Fin 2 → Nat :=
  let c0_i32_87 : BitVec 32 := 0#32
  ![v107.toNat, 0]

def k0_chk8 (i : grid0.Coords) (v107 : BitVec 32) : Prop :=
  (∀ (k0_h1 : k0_cond1 i = 1#1), ∀ a, (k0_off24 v107) a + S1x5120.size a ≤ S53248x5120.size a)
theorem k0_off24_inb : ∀ (i : grid0.Coords) (v107 : BitVec 32) (k0_hw8 : k0_chk8 i v107), ∀ (k0_h1 : k0_cond1 i = 1#1), ∀ a, (k0_off24 v107) a + S1x5120.size a ≤ S53248x5120.size a := fun i v107 k0_hw8 k0_h1 => k0_hw8 k0_h1

def k0_cond2 (i : grid0.Coords) : BitVec 1 :=
  let arg0 : BitVec 32 := BitVec.ofNat 32 (i 0).val
  let c1_i32_1 : BitVec 32 := 1#32
  let v4 : BitVec 32 := Scalar.addi arg0 c1_i32_1
  let c192_i32 : BitVec 32 := 192#32
  let v5 : BitVec 1 := Scalar.cmpi .slt v4 c192_i32
  let v6 : BitVec 32 := Scalar.extui v5
  let c0_i32_2 : BitVec 32 := 0#32
  let v7 : BitVec 1 := Scalar.cmpi .ne v6 c0_i32_2
  v7

@[reducible] def k0_t2_loop : Scf.Loop 32 :=
  let c0_i32_18 : BitVec 32 := 0#32
  let c32_i32 : BitVec 32 := 32#32
  let v26 : BitVec 32 := Scalar.addi c0_i32_18 c32_i32
  let c1_i32_19 : BitVec 32 := 1#32
  ⟨c0_i32_18, v26, c1_i32_19⟩
def k0_off25 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_22 : BitVec 32 := 128#32
  let v29 : BitVec 32 := Scalar.muli v24 c128_i32_22
  let c0_i32_18 : BitVec 32 := 0#32
  let c1_i32_19 : BitVec 32 := 1#32
  let arg7 : BitVec 32 := Scf.iv c0_i32_18 c1_i32_19 k0_t2
  let c4_i32 : BitVec 32 := 4#32
  let v27 : BitVec 32 := Scalar.muli arg7 c4_i32
  let c0_i32_21 : BitVec 32 := 0#32
  let v28 : BitVec 32 := Scalar.addi v27 c0_i32_21
  let v30 : BitVec 32 := Scalar.addi v29 v28
  let c2_i32 : BitVec 32 := 2#32
  let v31 : BitVec 32 := Scalar.muli v30 c2_i32
  let c0_i32_23 : BitVec 32 := 0#32
  let v32 : BitVec 32 := Scalar.addi v31 c0_i32_23
  let v33 : Index := Scalar.indexCast v32
  ![v33.toNat]
def k0_off26 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off27 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c0_i32_24 : BitVec 32 := 0#32
  let c0_i32_18 : BitVec 32 := 0#32
  let c1_i32_19 : BitVec 32 := 1#32
  let arg7 : BitVec 32 := Scf.iv c0_i32_18 c1_i32_19 k0_t2
  let c4_i32 : BitVec 32 := 4#32
  let v27 : BitVec 32 := Scalar.muli arg7 c4_i32
  let c0_i32_21 : BitVec 32 := 0#32
  let v28 : BitVec 32 := Scalar.addi v27 c0_i32_21
  let c0_i32_25 : BitVec 32 := 0#32
  ![v25.toNat, 0, v28.toNat, 0]
def k0_off28 (v34 : BitVec 32) : Fin 2 → Nat :=
  let c0_i32_26 : BitVec 32 := 0#32
  ![v34.toNat, 0]

def k0_chk9 (i : grid0.Coords) (v34 : BitVec 32) : Prop :=
  (∀ (k0_h2 : k0_cond2 i = 1#1), ∀ a, (k0_off28 v34) a + S1x5120.size a ≤ S53248x5120.size a)
theorem k0_off28_inb : ∀ (i : grid0.Coords) (v34 : BitVec 32) (k0_hw9 : k0_chk9 i v34), ∀ (k0_h2 : k0_cond2 i = 1#1), ∀ a, (k0_off28 v34) a + S1x5120.size a ≤ S53248x5120.size a := fun i v34 k0_hw9 k0_h2 => k0_hw9 k0_h2

def k0_off29 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_27 : BitVec 32 := 128#32
  let v40 : BitVec 32 := Scalar.muli v24 c128_i32_27
  let c0_i32_18 : BitVec 32 := 0#32
  let c1_i32_19 : BitVec 32 := 1#32
  let arg7 : BitVec 32 := Scf.iv c0_i32_18 c1_i32_19 k0_t2
  let c4_i32 : BitVec 32 := 4#32
  let v27 : BitVec 32 := Scalar.muli arg7 c4_i32
  let c0_i32_21 : BitVec 32 := 0#32
  let v28 : BitVec 32 := Scalar.addi v27 c0_i32_21
  let v41 : BitVec 32 := Scalar.addi v40 v28
  let c2_i32_28 : BitVec 32 := 2#32
  let v42 : BitVec 32 := Scalar.muli v41 c2_i32_28
  let c1_i32_29 : BitVec 32 := 1#32
  let v43 : BitVec 32 := Scalar.addi v42 c1_i32_29
  let v44 : Index := Scalar.indexCast v43
  ![v44.toNat]
def k0_off30 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off31 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c1_i32_30 : BitVec 32 := 1#32
  let c0_i32_18 : BitVec 32 := 0#32
  let c1_i32_19 : BitVec 32 := 1#32
  let arg7 : BitVec 32 := Scf.iv c0_i32_18 c1_i32_19 k0_t2
  let c4_i32 : BitVec 32 := 4#32
  let v27 : BitVec 32 := Scalar.muli arg7 c4_i32
  let c0_i32_21 : BitVec 32 := 0#32
  let v28 : BitVec 32 := Scalar.addi v27 c0_i32_21
  let c0_i32_31 : BitVec 32 := 0#32
  ![v25.toNat, 1, v28.toNat, 0]
def k0_off32 (v45 : BitVec 32) : Fin 2 → Nat :=
  let c0_i32_32 : BitVec 32 := 0#32
  ![v45.toNat, 0]

def k0_chk10 (i : grid0.Coords) (v45 : BitVec 32) : Prop :=
  (∀ (k0_h2 : k0_cond2 i = 1#1), ∀ a, (k0_off32 v45) a + S1x5120.size a ≤ S53248x5120.size a)
theorem k0_off32_inb : ∀ (i : grid0.Coords) (v45 : BitVec 32) (k0_hw10 : k0_chk10 i v45), ∀ (k0_h2 : k0_cond2 i = 1#1), ∀ a, (k0_off32 v45) a + S1x5120.size a ≤ S53248x5120.size a := fun i v45 k0_hw10 k0_h2 => k0_hw10 k0_h2

def k0_off33 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_35 : BitVec 32 := 128#32
  let v53 : BitVec 32 := Scalar.muli v24 c128_i32_35
  let c0_i32_18 : BitVec 32 := 0#32
  let c1_i32_19 : BitVec 32 := 1#32
  let arg7 : BitVec 32 := Scf.iv c0_i32_18 c1_i32_19 k0_t2
  let c4_i32_33 : BitVec 32 := 4#32
  let v51 : BitVec 32 := Scalar.muli arg7 c4_i32_33
  let c1_i32_34 : BitVec 32 := 1#32
  let v52 : BitVec 32 := Scalar.addi v51 c1_i32_34
  let v54 : BitVec 32 := Scalar.addi v53 v52
  let c2_i32_36 : BitVec 32 := 2#32
  let v55 : BitVec 32 := Scalar.muli v54 c2_i32_36
  let c0_i32_37 : BitVec 32 := 0#32
  let v56 : BitVec 32 := Scalar.addi v55 c0_i32_37
  let v57 : Index := Scalar.indexCast v56
  ![v57.toNat]
def k0_off34 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off35 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c0_i32_38 : BitVec 32 := 0#32
  let c0_i32_18 : BitVec 32 := 0#32
  let c1_i32_19 : BitVec 32 := 1#32
  let arg7 : BitVec 32 := Scf.iv c0_i32_18 c1_i32_19 k0_t2
  let c4_i32_33 : BitVec 32 := 4#32
  let v51 : BitVec 32 := Scalar.muli arg7 c4_i32_33
  let c1_i32_34 : BitVec 32 := 1#32
  let v52 : BitVec 32 := Scalar.addi v51 c1_i32_34
  let c0_i32_39 : BitVec 32 := 0#32
  ![v25.toNat, 0, v52.toNat, 0]
def k0_off36 (v58 : BitVec 32) : Fin 2 → Nat :=
  let c0_i32_40 : BitVec 32 := 0#32
  ![v58.toNat, 0]

def k0_chk11 (i : grid0.Coords) (v58 : BitVec 32) : Prop :=
  (∀ (k0_h2 : k0_cond2 i = 1#1), ∀ a, (k0_off36 v58) a + S1x5120.size a ≤ S53248x5120.size a)
theorem k0_off36_inb : ∀ (i : grid0.Coords) (v58 : BitVec 32) (k0_hw11 : k0_chk11 i v58), ∀ (k0_h2 : k0_cond2 i = 1#1), ∀ a, (k0_off36 v58) a + S1x5120.size a ≤ S53248x5120.size a := fun i v58 k0_hw11 k0_h2 => k0_hw11 k0_h2

def k0_off37 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_41 : BitVec 32 := 128#32
  let v64 : BitVec 32 := Scalar.muli v24 c128_i32_41
  let c0_i32_18 : BitVec 32 := 0#32
  let c1_i32_19 : BitVec 32 := 1#32
  let arg7 : BitVec 32 := Scf.iv c0_i32_18 c1_i32_19 k0_t2
  let c4_i32_33 : BitVec 32 := 4#32
  let v51 : BitVec 32 := Scalar.muli arg7 c4_i32_33
  let c1_i32_34 : BitVec 32 := 1#32
  let v52 : BitVec 32 := Scalar.addi v51 c1_i32_34
  let v65 : BitVec 32 := Scalar.addi v64 v52
  let c2_i32_42 : BitVec 32 := 2#32
  let v66 : BitVec 32 := Scalar.muli v65 c2_i32_42
  let c1_i32_43 : BitVec 32 := 1#32
  let v67 : BitVec 32 := Scalar.addi v66 c1_i32_43
  let v68 : Index := Scalar.indexCast v67
  ![v68.toNat]
def k0_off38 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off39 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c1_i32_44 : BitVec 32 := 1#32
  let c0_i32_18 : BitVec 32 := 0#32
  let c1_i32_19 : BitVec 32 := 1#32
  let arg7 : BitVec 32 := Scf.iv c0_i32_18 c1_i32_19 k0_t2
  let c4_i32_33 : BitVec 32 := 4#32
  let v51 : BitVec 32 := Scalar.muli arg7 c4_i32_33
  let c1_i32_34 : BitVec 32 := 1#32
  let v52 : BitVec 32 := Scalar.addi v51 c1_i32_34
  let c0_i32_45 : BitVec 32 := 0#32
  ![v25.toNat, 1, v52.toNat, 0]
def k0_off40 (v69 : BitVec 32) : Fin 2 → Nat :=
  let c0_i32_46 : BitVec 32 := 0#32
  ![v69.toNat, 0]

def k0_chk12 (i : grid0.Coords) (v69 : BitVec 32) : Prop :=
  (∀ (k0_h2 : k0_cond2 i = 1#1), ∀ a, (k0_off40 v69) a + S1x5120.size a ≤ S53248x5120.size a)
theorem k0_off40_inb : ∀ (i : grid0.Coords) (v69 : BitVec 32) (k0_hw12 : k0_chk12 i v69), ∀ (k0_h2 : k0_cond2 i = 1#1), ∀ a, (k0_off40 v69) a + S1x5120.size a ≤ S53248x5120.size a := fun i v69 k0_hw12 k0_h2 => k0_hw12 k0_h2

def k0_off41 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_49 : BitVec 32 := 128#32
  let v77 : BitVec 32 := Scalar.muli v24 c128_i32_49
  let c0_i32_18 : BitVec 32 := 0#32
  let c1_i32_19 : BitVec 32 := 1#32
  let arg7 : BitVec 32 := Scf.iv c0_i32_18 c1_i32_19 k0_t2
  let c4_i32_47 : BitVec 32 := 4#32
  let v75 : BitVec 32 := Scalar.muli arg7 c4_i32_47
  let c2_i32_48 : BitVec 32 := 2#32
  let v76 : BitVec 32 := Scalar.addi v75 c2_i32_48
  let v78 : BitVec 32 := Scalar.addi v77 v76
  let c2_i32_50 : BitVec 32 := 2#32
  let v79 : BitVec 32 := Scalar.muli v78 c2_i32_50
  let c0_i32_51 : BitVec 32 := 0#32
  let v80 : BitVec 32 := Scalar.addi v79 c0_i32_51
  let v81 : Index := Scalar.indexCast v80
  ![v81.toNat]
def k0_off42 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off43 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c0_i32_52 : BitVec 32 := 0#32
  let c0_i32_18 : BitVec 32 := 0#32
  let c1_i32_19 : BitVec 32 := 1#32
  let arg7 : BitVec 32 := Scf.iv c0_i32_18 c1_i32_19 k0_t2
  let c4_i32_47 : BitVec 32 := 4#32
  let v75 : BitVec 32 := Scalar.muli arg7 c4_i32_47
  let c2_i32_48 : BitVec 32 := 2#32
  let v76 : BitVec 32 := Scalar.addi v75 c2_i32_48
  let c0_i32_53 : BitVec 32 := 0#32
  ![v25.toNat, 0, v76.toNat, 0]
def k0_off44 (v82 : BitVec 32) : Fin 2 → Nat :=
  let c0_i32_54 : BitVec 32 := 0#32
  ![v82.toNat, 0]

def k0_chk13 (i : grid0.Coords) (v82 : BitVec 32) : Prop :=
  (∀ (k0_h2 : k0_cond2 i = 1#1), ∀ a, (k0_off44 v82) a + S1x5120.size a ≤ S53248x5120.size a)
theorem k0_off44_inb : ∀ (i : grid0.Coords) (v82 : BitVec 32) (k0_hw13 : k0_chk13 i v82), ∀ (k0_h2 : k0_cond2 i = 1#1), ∀ a, (k0_off44 v82) a + S1x5120.size a ≤ S53248x5120.size a := fun i v82 k0_hw13 k0_h2 => k0_hw13 k0_h2

def k0_off45 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_55 : BitVec 32 := 128#32
  let v88 : BitVec 32 := Scalar.muli v24 c128_i32_55
  let c0_i32_18 : BitVec 32 := 0#32
  let c1_i32_19 : BitVec 32 := 1#32
  let arg7 : BitVec 32 := Scf.iv c0_i32_18 c1_i32_19 k0_t2
  let c4_i32_47 : BitVec 32 := 4#32
  let v75 : BitVec 32 := Scalar.muli arg7 c4_i32_47
  let c2_i32_48 : BitVec 32 := 2#32
  let v76 : BitVec 32 := Scalar.addi v75 c2_i32_48
  let v89 : BitVec 32 := Scalar.addi v88 v76
  let c2_i32_56 : BitVec 32 := 2#32
  let v90 : BitVec 32 := Scalar.muli v89 c2_i32_56
  let c1_i32_57 : BitVec 32 := 1#32
  let v91 : BitVec 32 := Scalar.addi v90 c1_i32_57
  let v92 : Index := Scalar.indexCast v91
  ![v92.toNat]
def k0_off46 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off47 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c1_i32_58 : BitVec 32 := 1#32
  let c0_i32_18 : BitVec 32 := 0#32
  let c1_i32_19 : BitVec 32 := 1#32
  let arg7 : BitVec 32 := Scf.iv c0_i32_18 c1_i32_19 k0_t2
  let c4_i32_47 : BitVec 32 := 4#32
  let v75 : BitVec 32 := Scalar.muli arg7 c4_i32_47
  let c2_i32_48 : BitVec 32 := 2#32
  let v76 : BitVec 32 := Scalar.addi v75 c2_i32_48
  let c0_i32_59 : BitVec 32 := 0#32
  ![v25.toNat, 1, v76.toNat, 0]
def k0_off48 (v93 : BitVec 32) : Fin 2 → Nat :=
  let c0_i32_60 : BitVec 32 := 0#32
  ![v93.toNat, 0]

def k0_chk14 (i : grid0.Coords) (v93 : BitVec 32) : Prop :=
  (∀ (k0_h2 : k0_cond2 i = 1#1), ∀ a, (k0_off48 v93) a + S1x5120.size a ≤ S53248x5120.size a)
theorem k0_off48_inb : ∀ (i : grid0.Coords) (v93 : BitVec 32) (k0_hw14 : k0_chk14 i v93), ∀ (k0_h2 : k0_cond2 i = 1#1), ∀ a, (k0_off48 v93) a + S1x5120.size a ≤ S53248x5120.size a := fun i v93 k0_hw14 k0_h2 => k0_hw14 k0_h2

def k0_off49 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_62 : BitVec 32 := 128#32
  let v101 : BitVec 32 := Scalar.muli v24 c128_i32_62
  let c0_i32_18 : BitVec 32 := 0#32
  let c1_i32_19 : BitVec 32 := 1#32
  let arg7 : BitVec 32 := Scf.iv c0_i32_18 c1_i32_19 k0_t2
  let c4_i32_61 : BitVec 32 := 4#32
  let v99 : BitVec 32 := Scalar.muli arg7 c4_i32_61
  let c3_i32 : BitVec 32 := 3#32
  let v100 : BitVec 32 := Scalar.addi v99 c3_i32
  let v102 : BitVec 32 := Scalar.addi v101 v100
  let c2_i32_63 : BitVec 32 := 2#32
  let v103 : BitVec 32 := Scalar.muli v102 c2_i32_63
  let c0_i32_64 : BitVec 32 := 0#32
  let v104 : BitVec 32 := Scalar.addi v103 c0_i32_64
  let v105 : Index := Scalar.indexCast v104
  ![v105.toNat]
def k0_off50 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off51 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c0_i32_65 : BitVec 32 := 0#32
  let c0_i32_18 : BitVec 32 := 0#32
  let c1_i32_19 : BitVec 32 := 1#32
  let arg7 : BitVec 32 := Scf.iv c0_i32_18 c1_i32_19 k0_t2
  let c4_i32_61 : BitVec 32 := 4#32
  let v99 : BitVec 32 := Scalar.muli arg7 c4_i32_61
  let c3_i32 : BitVec 32 := 3#32
  let v100 : BitVec 32 := Scalar.addi v99 c3_i32
  let c0_i32_66 : BitVec 32 := 0#32
  ![v25.toNat, 0, v100.toNat, 0]
def k0_off52 (v106 : BitVec 32) : Fin 2 → Nat :=
  let c0_i32_67 : BitVec 32 := 0#32
  ![v106.toNat, 0]

def k0_chk15 (i : grid0.Coords) (v106 : BitVec 32) : Prop :=
  (∀ (k0_h2 : k0_cond2 i = 1#1), ∀ a, (k0_off52 v106) a + S1x5120.size a ≤ S53248x5120.size a)
theorem k0_off52_inb : ∀ (i : grid0.Coords) (v106 : BitVec 32) (k0_hw15 : k0_chk15 i v106), ∀ (k0_h2 : k0_cond2 i = 1#1), ∀ a, (k0_off52 v106) a + S1x5120.size a ≤ S53248x5120.size a := fun i v106 k0_hw15 k0_h2 => k0_hw15 k0_h2

def k0_off53 (i : grid0.Coords) (k0_t2 : Fin k0_t2_loop.trips) : Fin 1 → Nat :=
  let arg0 : BitVec 32 := BitVec.ofNat 32 (i 0).val
  let c1_i32_16 : BitVec 32 := 1#32
  let v24 : BitVec 32 := Scalar.addi arg0 c1_i32_16
  let c128_i32_68 : BitVec 32 := 128#32
  let v112 : BitVec 32 := Scalar.muli v24 c128_i32_68
  let c0_i32_18 : BitVec 32 := 0#32
  let c1_i32_19 : BitVec 32 := 1#32
  let arg7 : BitVec 32 := Scf.iv c0_i32_18 c1_i32_19 k0_t2
  let c4_i32_61 : BitVec 32 := 4#32
  let v99 : BitVec 32 := Scalar.muli arg7 c4_i32_61
  let c3_i32 : BitVec 32 := 3#32
  let v100 : BitVec 32 := Scalar.addi v99 c3_i32
  let v113 : BitVec 32 := Scalar.addi v112 v100
  let c2_i32_69 : BitVec 32 := 2#32
  let v114 : BitVec 32 := Scalar.muli v113 c2_i32_69
  let c1_i32_70 : BitVec 32 := 1#32
  let v115 : BitVec 32 := Scalar.addi v114 c1_i32_70
  let v116 : Index := Scalar.indexCast v115
  ![v116.toNat]
def k0_off54 (i : grid0.Coords) : Fin 1 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  ![v25.toNat]
def k0_off55 (i : grid0.Coords) (k0_t2 : Fin k0_t2_loop.trips) : Fin 4 → Nat :=
  let c1_i32_17 : BitVec 32 := 1#32
  let arg0 : BitVec 32 := BitVec.ofNat 32 (i 0).val
  let c1_i32 : BitVec 32 := 1#32
  let v0 : BitVec 32 := Scalar.andi arg0 c1_i32
  let v25 : BitVec 32 := Scalar.subi c1_i32_17 v0
  let c1_i32_71 : BitVec 32 := 1#32
  let c0_i32_18 : BitVec 32 := 0#32
  let c1_i32_19 : BitVec 32 := 1#32
  let arg7 : BitVec 32 := Scf.iv c0_i32_18 c1_i32_19 k0_t2
  let c4_i32_61 : BitVec 32 := 4#32
  let v99 : BitVec 32 := Scalar.muli arg7 c4_i32_61
  let c3_i32 : BitVec 32 := 3#32
  let v100 : BitVec 32 := Scalar.addi v99 c3_i32
  let c0_i32_72 : BitVec 32 := 0#32
  ![v25.toNat, 1, v100.toNat, 0]
def k0_off56 (v117 : BitVec 32) : Fin 2 → Nat :=
  let c0_i32_73 : BitVec 32 := 0#32
  ![v117.toNat, 0]

def k0_chk16 (i : grid0.Coords) (v117 : BitVec 32) : Prop :=
  (∀ (k0_h2 : k0_cond2 i = 1#1), ∀ a, (k0_off56 v117) a + S1x5120.size a ≤ S53248x5120.size a)
theorem k0_off56_inb : ∀ (i : grid0.Coords) (v117 : BitVec 32) (k0_hw16 : k0_chk16 i v117), ∀ (k0_h2 : k0_cond2 i = 1#1), ∀ a, (k0_off56 v117) a + S1x5120.size a ≤ S53248x5120.size a := fun i v117 k0_hw16 k0_h2 => k0_hw16 k0_h2

@[reducible] def k0_t3_loop : Scf.Loop 32 :=
  let c0_i32_3 : BitVec 32 := 0#32
  let c128_i32 : BitVec 32 := 128#32
  let v8 : BitVec 32 := Scalar.addi c0_i32_3 c128_i32
  let c1_i32_4 : BitVec 32 := 1#32
  ⟨c0_i32_3, v8, c1_i32_4⟩
def k0_off57 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off58 (i : grid0.Coords) (k0_t3 : Fin k0_t3_loop.trips) : Fin 4 → Nat :=
  let arg0 : BitVec 32 := BitVec.ofNat 32 (i 0).val
  let c1_i32 : BitVec 32 := 1#32
  let v0 : BitVec 32 := Scalar.andi arg0 c1_i32
  let c0_i32_16 : BitVec 32 := 0#32
  let c0_i32_3 : BitVec 32 := 0#32
  let c1_i32_4 : BitVec 32 := 1#32
  let arg7 : BitVec 32 := Scf.iv c0_i32_3 c1_i32_4 k0_t3
  let c0_i32_17 : BitVec 32 := 0#32
  ![v0.toNat, 0, arg7.toNat, 0]
def k0_off59 (i : grid0.Coords) (k0_t3 : Fin k0_t3_loop.trips) : Fin 4 → Nat :=
  let arg0 : BitVec 32 := BitVec.ofNat 32 (i 0).val
  let c1_i32 : BitVec 32 := 1#32
  let v0 : BitVec 32 := Scalar.andi arg0 c1_i32
  let c1_i32_20 : BitVec 32 := 1#32
  let c0_i32_3 : BitVec 32 := 0#32
  let c1_i32_4 : BitVec 32 := 1#32
  let arg7 : BitVec 32 := Scf.iv c0_i32_3 c1_i32_4 k0_t3
  let c0_i32_21 : BitVec 32 := 0#32
  ![v0.toNat, 1, arg7.toNat, 0]
def k0_off60 (i : grid0.Coords) : Fin 4 → Nat :=
  let arg0 : BitVec 32 := BitVec.ofNat 32 (i 0).val
  let c1_i32 : BitVec 32 := 1#32
  let v0 : BitVec 32 := Scalar.andi arg0 c1_i32
  let v9 : Index := Scalar.indexCast v0
  let c0 : Index := 0#32
  let c0_6 : Index := 0#32
  let c0_7 : Index := 0#32
  ![v9.toNat, 0, 0, 0]
def k0_off61 (i : grid0.Coords) : Fin 4 → Nat :=
  let arg0 : BitVec 32 := BitVec.ofNat 32 (i 0).val
  let c1_i32 : BitVec 32 := 1#32
  let v0 : BitVec 32 := Scalar.andi arg0 c1_i32
  let v15 : Index := Scalar.indexCast v0
  let c1 : Index := 1#32
  let c0_10 : Index := 0#32
  let c0_11 : Index := 0#32
  ![v15.toNat, 1, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CombineReferenceIdeal.lean ====
abbrev S49152 : Shape := ⟨1, ![49152]⟩
abbrev S24576x2 : Shape := ⟨2, ![24576, 2]⟩
abbrev S53248x5120 : Shape := ⟨2, ![53248, 5120]⟩
abbrev S24576x1 : Shape := ⟨2, ![24576, 1]⟩
abbrev S24576 : Shape := ⟨1, ![24576]⟩
abbrev S24576x5120 : Shape := ⟨2, ![24576, 5120]⟩

abbrev nBuf : Space → Nat
  | .hbm => 20
  | .vmem => 0
  | .smem => 0
  | _ => 0

abbrev bufTy : (tb : Table) → Fin (tcTables nBuf tb) → BufTy
  | .hbm, ⟨0, _⟩ => ⟨S49152, .i32⟩
  | .hbm, ⟨1, _⟩ => ⟨S24576x2, .f32⟩
  | .hbm, ⟨2, _⟩ => ⟨S53248x5120, .f32⟩
  | .hbm, ⟨3, _⟩ => ⟨S24576x2, .i32⟩
  | .hbm, ⟨4, _⟩ => ⟨S24576x1, .i32⟩
  | .hbm, ⟨5, _⟩ => ⟨S24576, .i32⟩
  | .hbm, ⟨6, _⟩ => ⟨S24576x1, .i32⟩
  | .hbm, ⟨7, _⟩ => ⟨S24576x5120, .f32⟩
  | .hbm, ⟨8, _⟩ => ⟨S24576x1, .f32⟩
  | .hbm, ⟨9, _⟩ => ⟨S24576x5120, .f32⟩
  | .hbm, ⟨10, _⟩ => ⟨S24576x5120, .f32⟩
  | .hbm, ⟨11, _⟩ => ⟨S24576x1, .i32⟩
  | .hbm, ⟨12, _⟩ => ⟨S24576, .i32⟩
  | .hbm, ⟨13, _⟩ => ⟨S24576x1, .i32⟩
  | .hbm, ⟨14, _⟩ => ⟨S24576x5120, .f32⟩
  | .hbm, ⟨15, _⟩ => ⟨S24576x1, .f32⟩
  | .hbm, ⟨16, _⟩ => ⟨S24576x5120, .f32⟩
  | .hbm, ⟨17, _⟩ => ⟨S24576x5120, .f32⟩
  | .hbm, ⟨18, _⟩ => ⟨S24576x5120, .f32⟩
  | .hbm, ⟨19, _⟩ => ⟨S24576x5120, .bf16⟩
  | _, _ => ⟨S49152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Proof.Names.lean ====
/-
  The names the proof of the feed-forward kernel works with: the two slots of the two weight buffers, the sixteen
  experts' weight blocks in main memory, the four semaphores, and the printed offsets read as these names.
-/
module

public import proofs.«01_k».proof.Defs
public import proofs.«01_k».proof.Proof.Gen.Kernel.Launch
public import proofs.«01_k».proof.Proof.Gen.Kernel.Skeleton
public import Idealize.ShloMosaic.Lib.Pipeline.Quiescent
public import Idealize.ShloMosaic.Lib.Ring
public import Idealize.ShloMosaic.Lib.Affine
public import Idealize.ShloMosaic.Lib.Tactic

@[expose] public section

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The names -/

abbrev upM : Memref sig .tc .hbm S16x5120x2816 .fp8e4m3 := Memref.whole main_arg5
abbrev dnM : Memref sig .tc .hbm S16x1408x5120 .fp8e4m3 := Memref.whole main_arg6
abbrev upB : Memref sig .tc .vmem S2x5120x2816 .fp8e4m3 := Memref.whole cc0_scratch0
abbrev dnB : Memref sig .tc .vmem S2x1408x5120 .fp8e4m3 := Memref.whole cc0_scratch1

abbrev slotOff (s : Fin 2) : Fin 3 → Nat := ![s.val, 0, 0]
abbrev expOff (e : Fin 16) : Fin 3 → Nat := ![e.val, 0, 0]
abbrev cellOff (w s : Fin 2) : Fin 2 → Nat := ![w.val, s.val]

theorem upSlot_inb (s : Fin 2) : ∀ a, slotOff s a + S1x5120x2816.size a ≤ S2x5120x2816.size a := by
  have := s.isLt; intro a; fin_cases a
  · show s.val + 1 ≤ 2; omega
  · show 0 + 5120 ≤ 5120; omega
  · show 0 + 2816 ≤ 2816; omega
theorem dnSlot_inb (s : Fin 2) : ∀ a, slotOff s a + S1x1408x5120.size a ≤ S2x1408x5120.size a := by
  have := s.isLt; intro a; fin_cases a
  · show s.val + 1 ≤ 2; omega
  · show 0 + 1408 ≤ 1408; omega
  · show 0 + 5120 ≤ 5120; omega
theorem upExp_inb (e : Fin 16) : ∀ a, expOff e a + S1x5120x2816.size a ≤ S16x5120x2816.size a := by
  have := e.isLt; intro a; fin_cases a
  · show e.val + 1 ≤ 16; omega
  · show 0 + 5120 ≤ 5120; omega
  · show 0 + 2816 ≤ 2816; omega
theorem dnExp_inb (e : Fin 16) : ∀ a, expOff e a + S1x1408x5120.size a ≤ S16x1408x5120.size a := by
  have := e.isLt; intro a; fin_cases a
  · show e.val + 1 ≤ 16; omega
  · show 0 + 1408 ≤ 1408; omega
  · show 0 + 5120 ≤ 5120; omega
theorem cell_inb (w s : Fin 2) : ∀ a, cellOff w s a + S1x1.size a ≤ S2x2.size a := by
  have := s.isLt; have := w.isLt; intro a; fin_cases a
  · show w.val + 1 ≤ 2; omega
  · show s.val + 1 ≤ 2; omega

/-- Slot `s` of the gate-and-up weight buffer, as the body slices and squeezes it. -/
def upSlot (s : Fin 2) : Memref sig .tc .vmem S5120x2816 .fp8e4m3 :=
  (upB.slice (Rect.unit (s := S2x5120x2816) (slotOff s) S1x5120x2816.size (upSlot_inb s)) (fun _ => rfl)).squeeze S5120x2816 squeezes_S1x5120x2816_S5120x2816
/-- Slot `s` of the down weight buffer. -/
def dnSlot (s : Fin 2) : Memref sig .tc .vmem S1408x5120 .fp8e4m3 :=
  (dnB.slice (Rect.unit (s := S2x1408x5120) (slotOff s) S1x1408x5120.size (dnSlot_inb s)) (fun _ => rfl)).squeeze S1408x5120 squeezes_S1x1408x5120_S1408x5120
/-- Expert `e`'s gate-and-up weights. -/
def upExp (e : Fin 16) : Memref sig .tc .hbm S5120x2816 .fp8e4m3 :=
  (upM.slice (Rect.unit (s := S16x5120x2816) (expOff e) S1x5120x2816.size (upExp_inb e)) (fun _ => rfl)).squeeze S5120x2816 squeezes_S1x5120x2816_S5120x2816
/-- Expert `e`'s down weights. -/
def dnExp (e : Fin 16) : Memref sig .tc .hbm S1408x5120 .fp8e4m3 :=
  (dnM.slice (Rect.unit (s := S16x1408x5120) (expOff e) S1x1408x5120.size (dnExp_inb e)) (fun _ => rfl)).squeeze S1408x5120 squeezes_S1x1408x5120_S1408x5120
/-- The semaphore of slot `s` of buffer `w` (0: gate-and-up, 1: down). -/
def csm (w s : Fin 2) : DmaSems sig S_ :=
  (cc0_scratch5.slice (Rect.unit (s := S2x2) (cellOff w s) S1x1.size (cell_inb w s))).squeeze S_ squeezes_S1x1_S_

instance (s : Fin 2) : ClosedOff (slotOff s) := ⟨slotOff s, rfl⟩
instance (e : Fin 16) : ClosedOff (expOff e) := ⟨expOff e, rfl⟩

/-! ## Words as names -/

theorem and1_lt (v : BitVec 32) : (Scalar.andi v 1#32).toNat < 2 := by
  show (v &&& 1#32).toNat < 2
  rw [BitVec.toNat_and]; exact Nat.lt_succ_of_le Nat.and_le_right
/-- The slot a rank word names: its last bit. -/
def slotOf (v : BitVec 32) : Fin 2 := ⟨(Scalar.andi v 1#32).toNat, and1_lt v⟩
/-- The other slot. -/
def oth (s : Fin 2) : Fin 2 := 1 - s
/-- The expert a word names. -/
def expOf (v : BitVec 32) : Fin 16 := Fin.ofNat 16 v.toNat

theorem expOf_val {v : BitVec 32} (h : v.toNat < 16) : (expOf v).val = v.toNat := Nat.mod_eq_of_lt h
theorem oth_word (v : BitVec 32) : (Scalar.subi 1#32 (Scalar.andi v 1#32)).toNat = (oth (slotOf v)).val := by
  have h := and1_lt v
  show (1#32 - Scalar.andi v 1#32).toNat = _
  have e : Scalar.andi v 1#32 = 0#32 ∨ Scalar.andi v 1#32 = 1#32 := by
    rcases Nat.lt_or_ge (Scalar.andi v 1#32).toNat 1 with h1 | h1
    · left; apply BitVec.eq_of_toNat_eq; simp; omega
    · right; apply BitVec.eq_of_toNat_eq; simp; omega
  unfold oth slotOf
  rcases e with e | e
  · have : (⟨(Scalar.andi v 1#32).toNat, h⟩ : Fin 2) = 0 := Fin.ext (by simp [e])
    rw [this, e]; rfl
  · have : (⟨(Scalar.andi v 1#32).toNat, h⟩ : Fin 2) = 1 := Fin.ext (by simp [e])
    rw [this, e]; rfl
theorem ic_word (v : BitVec 32) : (Scalar.indexCast (Scalar.andi v 1#32)).toNat = (slotOf v).val := by
  rfl

theorem off5_eq (v : BitVec 32) : k0_off5 v = cellOff 0 (slotOf v) := rfl
theorem off6_eq (v : BitVec 32) : k0_off6 v = slotOff (slotOf v) := rfl
theorem off7_eq {v : BitVec 32} (h : v.toNat < 16) : k0_off7 v = expOff (expOf v) := by
  show (![_, 0, 0] : Fin 3 → Nat) = ![(expOf v).val, 0, 0]; rw [expOf_val h]
theorem off8_eq (v : BitVec 32) : k0_off8 v = cellOff 1 (slotOf v) := rfl
theorem off9_eq (v : BitVec 32) : k0_off9 v = slotOff (slotOf v) := rfl
theorem off10_eq {v : BitVec 32} (h : v.toNat < 16) : k0_off10 v = expOff (expOf v) := off7_eq h
theorem off11_eq (v : BitVec 32) : k0_off11 v = cellOff 0 (oth (slotOf v)) := by
  show (![0, _] : Fin 2 → Nat) = ![0, (oth (slotOf v)).val]; rw [← oth_word]
theorem off12_eq (v : BitVec 32) : k0_off12 v = slotOff (oth (slotOf v)) := by
  show (![_, 0, 0] : Fin 3 → Nat) = ![(oth (slotOf v)).val, 0, 0]; rw [← oth_word]
theorem off13_eq {v : BitVec 32} (h : v.toNat < 16) : k0_off13 v = expOff (expOf v) := off7_eq h
theorem off14_eq (v : BitVec 32) : k0_off14 v = cellOff 1 (oth (slotOf v)) := by
  show (![1, _] : Fin 2 → Nat) = ![1, (oth (slotOf v)).val]; rw [← oth_word]
theorem off15_eq (v : BitVec 32) : k0_off15 v = slotOff (oth (slotOf v)) := off12_eq v
theorem off16_eq {v : BitVec 32} (h : v.toNat < 16) : k0_off16 v = expOff (expOf v) := off7_eq h
theorem off17_eq (v : BitVec 32) : k0_off17 v = cellOff 0 (slotOf v) := rfl
theorem off18_eq (v : BitVec 32) : k0_off18 v = slotOff (slotOf v) := rfl
theorem off19_eq {v : BitVec 32} (h : v.toNat < 16) : k0_off19 v = expOff (expOf v) := off7_eq h
theorem off20_eq (v : BitVec 32) : k0_off20 v = cellOff 1 (slotOf v) := rfl
theorem off21_eq (v : BitVec 32) : k0_off21 v = slotOff (slotOf v) := rfl
theorem off22_eq {v : BitVec 32} (h : v.toNat < 16) : k0_off22 v = expOff (expOf v) := off7_eq h

instance (v : BitVec 32) : ClosedOff (k0_off23 v) := ⟨![v.toNat, 0, 0], rfl⟩
instance (v : BitVec 32) : ClosedOff (k0_off24 v) := ⟨![(slotOf v).val, 0, 0], rfl⟩
instance (v : BitVec 32) : ClosedOff (k0_off25 v) := ⟨![(slotOf v).val, 0, 1408], rfl⟩
instance (v : BitVec 32) : ClosedOff (k0_off26 v) := ⟨![(slotOf v).val, 0, 256], rfl⟩
instance (v : BitVec 32) : ClosedOff (k0_off27 v) := ⟨![(slotOf v).val, 0, 1664], rfl⟩
instance (v : BitVec 32) : ClosedOff (k0_off28 v) := ⟨![(slotOf v).val, 0, 512], rfl⟩
instance (v : BitVec 32) : ClosedOff (k0_off29 v) := ⟨![(slotOf v).val, 0, 1920], rfl⟩
instance (v : BitVec 32) : ClosedOff (k0_off30 v) := ⟨![(slotOf v).val, 0, 768], rfl⟩
instance (v : BitVec 32) : ClosedOff (k0_off31 v) := ⟨![(slotOf v).val, 0, 2176], rfl⟩
instance (v : BitVec 32) : ClosedOff (k0_off32 v) := ⟨![(slotOf v).val, 0, 1024], rfl⟩
instance (v : BitVec 32) : ClosedOff (k0_off33 v) := ⟨![(slotOf v).val, 0, 2432], rfl⟩
instance (v : BitVec 32) : ClosedOff (k0_off34 v) := ⟨![(slotOf v).val, 0, 1280], rfl⟩
instance (v : BitVec 32) : ClosedOff (k0_off35 v) := ⟨![(slotOf v).val, 0, 2688], rfl⟩
instance (v : BitVec 32) : ClosedOff (k0_off36 v) := ⟨![v.toNat, 0, 0], rfl⟩
instance (v : BitVec 32) : ClosedOff (k0_off37 v) := ⟨![(slotOf v).val, 0, 0], rfl⟩
instance (v : BitVec 32) : ClosedOff (k0_off38 v) := ⟨![(slotOf v).val, 0, 256], rfl⟩
instance (v : BitVec 32) : ClosedOff (k0_off39 v) := ⟨![(slotOf v).val, 0, 512], rfl⟩
instance (v : BitVec 32) : ClosedOff (k0_off40 v) := ⟨![(slotOf v).val, 0, 768], rfl⟩
instance (v : BitVec 32) : ClosedOff (k0_off41 v) := ⟨![(slotOf v).val, 0, 1024], rfl⟩
instance (v : BitVec 32) : ClosedOff (k0_off42 v) := ⟨![(slotOf v).val, 0, 1280], rfl⟩
instance (v : BitVec 32) : ClosedOff (k0_off43 v) := ⟨![(slotOf v).val, 0, 1536], rfl⟩
instance (v : BitVec 32) : ClosedOff (k0_off44 v) := ⟨![(slotOf v).val, 0, 1792], rfl⟩
instance (v : BitVec 32) : ClosedOff (k0_off45 v) := ⟨![(slotOf v).val, 0, 2048], rfl⟩
instance (v : BitVec 32) : ClosedOff (k0_off46 v) := ⟨![(slotOf v).val, 0, 2304], rfl⟩
instance (v : BitVec 32) : ClosedOff (k0_off47 v) := ⟨![(slotOf v).val, 0, 2560], rfl⟩
instance (v : BitVec 32) : ClosedOff (k0_off48 v) := ⟨![(slotOf v).val, 0, 2816], rfl⟩
instance (v : BitVec 32) : ClosedOff (k0_off49 v) := ⟨![(slotOf v).val, 0, 3072], rfl⟩
instance (v : BitVec 32) : ClosedOff (k0_off50 v) := ⟨![(slotOf v).val, 0, 3328], rfl⟩
instance (v : BitVec 32) : ClosedOff (k0_off51 v) := ⟨![(slotOf v).val, 0, 3584], rfl⟩
instance (v : BitVec 32) : ClosedOff (k0_off52 v) := ⟨![(slotOf v).val, 0, 3840], rfl⟩
instance (v : BitVec 32) : ClosedOff (k0_off53 v) := ⟨![(slotOf v).val, 0, 4096], rfl⟩
instance (v : BitVec 32) : ClosedOff (k0_off54 v) := ⟨![(slotOf v).val, 0, 4352], rfl⟩
instance (v : BitVec 32) : ClosedOff (k0_off55 v) := ⟨![(slotOf v).val, 0, 4608], rfl⟩
instance (v : BitVec 32) : ClosedOff (k0_off56 v) := ⟨![(slotOf v).val, 0, 4864], rfl⟩

/-! ## The body's slices are these names -/

private theorem csm_congr {off : Fin 2 → Nat} {w s : Fin 2} (e : off = cellOff w s) (hh) :
    (cc0_scratch5.slice (Rect.unit (s := S2x2) off S1x1.size hh)).squeeze S_ squeezes_S1x1_S_ = csm w s :=
  congrArg (fun A : DmaSems sig S1x1 => A.squeeze S_ squeezes_S1x1_S_) (SemArray.slice_unit_congr _ e _ _)
private theorem upSlot_congr {off : Fin 3 → Nat} {s : Fin 2} (e : off = slotOff s) (hh hs) :
    (upB.slice (Rect.unit (s := S2x5120x2816) off S1x5120x2816.size hh) hs).squeeze S5120x2816 squeezes_S1x5120x2816_S5120x2816 = upSlot s :=
  congrArg (fun M : Memref sig .tc .vmem S1x5120x2816 .fp8e4m3 => M.squeeze S5120x2816 squeezes_S1x5120x2816_S5120x2816) (Memref.slice_unit_congr _ e _ _ _ _)
private theorem dnSlot_congr {off : Fin 3 → Nat} {s : Fin 2} (e : off = slotOff s) (hh hs) :
    (dnB.slice (Rect.unit (s := S2x1408x5120) off S1x1408x5120.size hh) hs).squeeze S1408x5120 squeezes_S1x1408x5120_S1408x5120 = dnSlot s :=
  congrArg (fun M : Memref sig .tc .vmem S1x1408x5120 .fp8e4m3 => M.squeeze S1408x5120 squeezes_S1x1408x5120_S1408x5120) (Memref.slice_unit_congr _ e _ _ _ _)
private theorem upExp_congr {off : Fin 3 → Nat} {s : Fin 16} (e : off = expOff s) (hh hs) :
    (upM.slice (Rect.unit (s := S16x5120x2816) off S1x5120x2816.size hh) hs).squeeze S5120x2816 squeezes_S1x5120x2816_S5120x2816 = upExp s :=
  congrArg (fun M : Memref sig .tc .hbm S1x5120x2816 .fp8e4m3 => M.squeeze S5120x2816 squeezes_S1x5120x2816_S5120x2816) (Memref.slice_unit_congr _ e _ _ _ _)
private theorem dnExp_congr {off : Fin 3 → Nat} {s : Fin 16} (e : off = expOff s) (hh hs) :
    (dnM.slice (Rect.unit (s := S16x1408x5120) off S1x1408x5120.size hh) hs).squeeze S1408x5120 squeezes_S1x1408x5120_S1408x5120 = dnExp s :=
  congrArg (fun M : Memref sig .tc .hbm S1x1408x5120 .fp8e4m3 => M.squeeze S1408x5120 squeezes_S1x1408x5120_S1408x5120) (Memref.slice_unit_congr _ e _ _ _ _)

@[sl_canon] theorem cell5 (v : BitVec 32) (hh) : (cc0_scratch5.slice (Rect.unit (s := S2x2) (k0_off5 v) S1x1.size hh)).squeeze S_ squeezes_S1x1_S_ = csm 0 (slotOf v) := csm_congr (off5_eq v) _
@[sl_canon] theorem slot6 (v : BitVec 32) (hh hs) : (upB.slice (Rect.unit (s := S2x5120x2816) (k0_off6 v) S1x5120x2816.size hh) hs).squeeze S5120x2816 squeezes_S1x5120x2816_S5120x2816 = upSlot (slotOf v) := upSlot_congr (off6_eq v) _ _
@[sl_canon] theorem exp7 (v : BitVec 32) (h : v.toNat < 16) (hh hs) : (upM.slice (Rect.unit (s := S16x5120x2816) (k0_off7 v) S1x5120x2816.size hh) hs).squeeze S5120x2816 squeezes_S1x5120x2816_S5120x2816 = upExp (expOf v) := upExp_congr (off7_eq h) _ _
@[sl_canon] theorem cell8 (v : BitVec 32) (hh) : (cc0_scratch5.slice (Rect.unit (s := S2x2) (k0_off8 v) S1x1.size hh)).squeeze S_ squeezes_S1x1_S_ = csm 1 (slotOf v) := csm_congr (off8_eq v) _
@[sl_canon] theorem slot9 (v : BitVec 32) (hh hs) : (dnB.slice (Rect.unit (s := S2x1408x5120) (k0_off9 v) S1x1408x5120.size hh) hs).squeeze S1408x5120 squeezes_S1x1408x5120_S1408x5120 = dnSlot (slotOf v) := dnSlot_congr (off9_eq v) _ _
@[sl_canon] theorem exp10 (v : BitVec 32) (h : v.toNat < 16) (hh hs) : (dnM.slice (Rect.unit (s := S16x1408x5120) (k0_off10 v) S1x1408x5120.size hh) hs).squeeze S1408x5120 squeezes_S1x1408x5120_S1408x5120 = dnExp (expOf v) := dnExp_congr (off10_eq h) _ _
@[sl_canon] theorem cell11 (v : BitVec 32) (hh) : (cc0_scratch5.slice (Rect.unit (s := S2x2) (k0_off11 v) S1x1.size hh)).squeeze S_ squeezes_S1x1_S_ = csm 0 (oth (slotOf v)) := csm_congr (off11_eq v) _
@[sl_canon] theorem slot12 (v : BitVec 32) (hh hs) : (upB.slice (Rect.unit (s := S2x5120x2816) (k0_off12 v) S1x5120x2816.size hh) hs).squeeze S5120x2816 squeezes_S1x5120x2816_S5120x2816 = upSlot (oth (slotOf v)) := upSlot_congr (off12_eq v) _ _
@[sl_canon] theorem exp13 (v : BitVec 32) (h : v.toNat < 16) (hh hs) : (upM.slice (Rect.unit (s := S16x5120x2816) (k0_off13 v) S1x5120x2816.size hh) hs).squeeze S5120x2816 squeezes_S1x5120x2816_S5120x2816 = upExp (expOf v) := upExp_congr (off13_eq h) _ _
@[sl_canon] theorem cell14 (v : BitVec 32) (hh) : (cc0_scratch5.slice (Rect.unit (s := S2x2) (k0_off14 v) S1x1.size hh)).squeeze S_ squeezes_S1x1_S_ = csm 1 (oth (slotOf v)) := csm_congr (off14_eq v) _
@[sl_canon] theorem slot15 (v : BitVec 32) (hh hs) : (dnB.slice (Rect.unit (s := S2x1408x5120) (k0_off15 v) S1x1408x5120.size hh) hs).squeeze S1408x5120 squeezes_S1x1408x5120_S1408x5120 = dnSlot (oth (slotOf v)) := dnSlot_congr (off15_eq v) _ _
@[sl_canon] theorem exp16 (v : BitVec 32) (h : v.toNat < 16) (hh hs) : (dnM.slice (Rect.unit (s := S16x1408x5120) (k0_off16 v) S1x1408x5120.size hh) hs).squeeze S1408x5120 squeezes_S1x1408x5120_S1408x5120 = dnExp (expOf v) := dnExp_congr (off16_eq h) _ _
@[sl_canon] theorem cell17 (v : BitVec 32) (hh) : (cc0_scratch5.slice (Rect.unit (s := S2x2) (k0_off17 v) S1x1.size hh)).squeeze S_ squeezes_S1x1_S_ = csm 0 (slotOf v) := csm_congr (off17_eq v) _
@[sl_canon] theorem slot18 (v : BitVec 32) (hh hs) : (upB.slice (Rect.unit (s := S2x5120x2816) (k0_off18 v) S1x5120x2816.size hh) hs).squeeze S5120x2816 squeezes_S1x5120x2816_S5120x2816 = upSlot (slotOf v) := upSlot_congr (off18_eq v) _ _
@[sl_canon] theorem exp19 (v : BitVec 32) (h : v.toNat < 16) (hh hs) : (upM.slice (Rect.unit (s := S16x5120x2816) (k0_off19 v) S1x5120x2816.size hh) hs).squeeze S5120x2816 squeezes_S1x5120x2816_S5120x2816 = upExp (expOf v) := upExp_congr (off19_eq h) _ _
@[sl_canon] theorem cell20 (v : BitVec 32) (hh) : (cc0_scratch5.slice (Rect.unit (s := S2x2) (k0_off20 v) S1x1.size hh)).squeeze S_ squeezes_S1x1_S_ = csm 1 (slotOf v) := csm_congr (off20_eq v) _
@[sl_canon] theorem slot21 (v : BitVec 32) (hh hs) : (dnB.slice (Rect.unit (s := S2x1408x5120) (k0_off21 v) S1x1408x5120.size hh) hs).squeeze S1408x5120 squeezes_S1x1408x5120_S1408x5120 = dnSlot (slotOf v) := dnSlot_congr (off21_eq v) _ _
@[sl_canon] theorem exp22 (v : BitVec 32) (h : v.toNat < 16) (hh hs) : (dnM.slice (Rect.unit (s := S16x1408x5120) (k0_off22 v) S1x1408x5120.size hh) hs).squeeze S1408x5120 squeezes_S1x1408x5120_S1408x5120 = dnExp (expOf v) := dnExp_congr (off22_eq h) _ _

end Cert.Proof.Ffn

end
-- ==== Proof.Control.lean ====
/-
  The control part of the body: which copies a tile starts and which it waits for. Five cases, each leaving the
  tile's expert in its slot.
-/
module

public import proofs.«01_k».proof.Proof.Names

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The pieces -/

section Pieces
variable (c : Dev nD) (XU : Buf (Elt F) (upM.view.loc (c : Thread nD τ))) (XD : Buf (Elt F) (dnM.view.loc (c : Thread nD τ)))

abbrev cellP (w s : Fin 2) : sProp 𝕄 := semVal ((c : Thread nD τ), SemLoc.dma (csm w s).sem) 0
abbrev upP (s : Fin 2) (f : Buf (Elt F) ((upSlot s).view.loc (c : Thread nD τ))) : sProp 𝕄 :=
  (upSlot s).view.loc (c : Thread nD τ) ↦[(upSlot s).view.set]{fullShare} f
abbrev dnP (s : Fin 2) (f : Buf (Elt F) ((dnSlot s).view.loc (c : Thread nD τ))) : sProp 𝕄 :=
  (dnSlot s).view.loc (c : Thread nD τ) ↦[(dnSlot s).view.set]{fullShare} f
/-- The gate-and-up weights read at share `q`: whole, one expert's block, and all but that block. -/
abbrev upTok (q : PosShare TreeShare) : sProp 𝕄 := upM.view.loc (c : Thread nD τ) ↦{q} XU
abbrev upBlk (q : PosShare TreeShare) (e : Fin 16) : sProp 𝕄 := (upExp e).view.loc (c : Thread nD τ) ↦[(upExp e).view.set]{q} XU
abbrev upRest (q : PosShare TreeShare) (e : Fin 16) : sProp 𝕄 := upM.view.loc (c : Thread nD τ) ↦[Finset.univ \ (upExp e).view.set]{q} XU
abbrev dnTok (q : PosShare TreeShare) : sProp 𝕄 := dnM.view.loc (c : Thread nD τ) ↦{q} XD
abbrev dnBlk (q : PosShare TreeShare) (e : Fin 16) : sProp 𝕄 := (dnExp e).view.loc (c : Thread nD τ) ↦[(dnExp e).view.set]{q} XD
abbrev dnRest (q : PosShare TreeShare) (e : Fin 16) : sProp 𝕄 := dnM.view.loc (c : Thread nD τ) ↦[Finset.univ \ (dnExp e).view.set]{q} XD
/-- What a copy of expert `e` leaves in slot `s`. -/
abbrev upLand (s : Fin 2) (e : Fin 16) (f : Buf (Elt F) ((upSlot s).view.loc (c : Thread nD τ))) : Buf (Elt F) ((upSlot s).view.loc (c : Thread nD τ)) :=
  (upSlot s).view.writes (Elt F) f [⟨Rect.whole S5120x2816, ReadAs.same.apply ((upExp e).view.read (Elt F) XU)⟩]
abbrev dnLand (s : Fin 2) (e : Fin 16) (f : Buf (Elt F) ((dnSlot s).view.loc (c : Thread nD τ))) : Buf (Elt F) ((dnSlot s).view.loc (c : Thread nD τ)) :=
  (dnSlot s).view.writes (Elt F) f [⟨Rect.whole S1408x5120, ReadAs.same.apply ((dnExp e).view.read (Elt F) XD)⟩]
/-- A copy of expert `e` into slot `s` in flight, reading at share `q`. -/
abbrev upFly (q : PosShare TreeShare) (s : Fin 2) (e : Fin 16) (f : Buf (Elt F) ((upSlot s).view.loc (c : Thread nD τ))) : sProp 𝕄 :=
  Transfers.Flight countersEmb (c : Thread nD τ) (SemLoc.dma (csm 0 s).sem) () 450560 iprop(upP c s (upLand c XU s e f) ∗ upBlk c XU q e)
abbrev dnFly (q : PosShare TreeShare) (s : Fin 2) (e : Fin 16) (f : Buf (Elt F) ((dnSlot s).view.loc (c : Thread nD τ))) : sProp 𝕄 :=
  Transfers.Flight countersEmb (c : Thread nD τ) (SemLoc.dma (csm 1 s).sem) () 225280 iprop(dnP c s (dnLand c XD s e f) ∗ dnBlk c XD q e)

/-- Contents that read alike through a view hold the view's elements alike. -/
theorem pt_congr_read {sp : Space} {S : Shape} {e : EltTy} (v : View sig .tc sp S e) (q : PosShare TreeShare)
    (f g : Buf (Elt F) (v.loc (c : Thread nD τ))) (h : v.read (Elt F) f = v.read (Elt F) g) :
    (v.loc (c : Thread nD τ) ↦[v.set]{q} f : sProp 𝕄) = v.loc (c : Thread nD τ) ↦[v.set]{q} g := by
  refine pointsTo_congr fun i hi => ?_
  obtain ⟨y, -, rfl⟩ := Finset.mem_map.mp hi
  have := congrFun h y
  rw [View.read_apply, View.read_apply] at this
  exact cast_inj _ |>.mp this

/-- Expert `e`'s weights laid over both slots: what a slot holds once expert `e` has arrived. -/
def upIx (e : Fin 16) (y : S2x5120x2816.Idx) : S16x5120x2816.Idx := fun a => match a with | 0 => e | 1 => y 1 | 2 => y 2
def dnIx (e : Fin 16) (y : S2x1408x5120.Idx) : S16x1408x5120.Idx := fun a => match a with | 0 => e | 1 => y 1 | 2 => y 2
def upW (e : Fin 16) : Buf (Elt F) (upB.view.loc (c : Thread nD τ)) := fun y => XU (upIx e y)
def dnW (e : Fin 16) : Buf (Elt F) (dnB.view.loc (c : Thread nD τ)) := fun y => XD (dnIx e y)

theorem upExp_read (e : Fin 16) (s : Fin 2) : (upExp e).view.read (Elt F) XU = (upSlot s).view.read (Elt F) (upW c XU e) := by
  funext x
  refine congrArg XU (funext fun a => ?_)
  have h0 : ((Shape.reshapeEquiv squeezes_S1x5120x2816_S5120x2816.numel_eq x : S1x5120x2816.Idx) 0).val = 0 := by
    have := ((Shape.reshapeEquiv squeezes_S1x5120x2816_S5120x2816.numel_eq x : S1x5120x2816.Idx) 0).isLt
    have h : S1x5120x2816.size 0 = 1 := rfl
    omega
  fin_cases a
  · apply Fin.ext
    show e.val + 1 * ((Shape.reshapeEquiv squeezes_S1x5120x2816_S5120x2816.numel_eq x : S1x5120x2816.Idx) 0).val = e.val
    rw [h0]; omega
  · rfl
  · rfl
theorem dnExp_read (e : Fin 16) (s : Fin 2) : (dnExp e).view.read (Elt F) XD = (dnSlot s).view.read (Elt F) (dnW c XD e) := by
  funext x
  refine congrArg XD (funext fun a => ?_)
  have h0 : ((Shape.reshapeEquiv squeezes_S1x1408x5120_S1408x5120.numel_eq x : S1x1408x5120.Idx) 0).val = 0 := by
    have := ((Shape.reshapeEquiv squeezes_S1x1408x5120_S1408x5120.numel_eq x : S1x1408x5120.Idx) 0).isLt
    have h : S1x1408x5120.size 0 = 1 := rfl
    omega
  fin_cases a
  · apply Fin.ext
    show e.val + 1 * ((Shape.reshapeEquiv squeezes_S1x1408x5120_S1408x5120.numel_eq x : S1x1408x5120.Idx) 0).val = e.val
    rw [h0]; omega
  · rfl
  · rfl

theorem upP_land (s : Fin 2) (e : Fin 16) (f) : upP c s (upLand c XU s e f) = upP c s (upW c XU e) :=
  pt_congr_read c _ _ _ _ ((View.read_writes_whole _ _ _).trans (upExp_read c XU e s))
theorem dnP_land (s : Fin 2) (e : Fin 16) (f) : dnP c s (dnLand c XD s e f) = dnP c s (dnW c XD e) :=
  pt_congr_read c _ _ _ _ ((View.read_writes_whole _ _ _).trans (dnExp_read c XD e s))

theorem upTok_join (q : PosShare TreeShare) (e : Fin 16) : iprop(upBlk c XU q e ∗ upRest c XU q e) ⊢ upTok c XU q :=
  (pointsTo_split_subset (Finset.subset_univ _)).2
theorem dnTok_join (q : PosShare TreeShare) (e : Fin 16) : iprop(dnBlk c XD q e ∗ dnRest c XD q e) ⊢ dnTok c XD q :=
  (pointsTo_split_subset (Finset.subset_univ _)).2

/-- Both weight arrays readable at share `q`. -/
def Tok (q : PosShare TreeShare) : sProp 𝕄 := iprop(upTok c XU q ∗ dnTok c XD q)
/-- Slot `s` holds expert `e`, both its semaphores at zero. -/
def Cur (s : Fin 2) (e : Fin 16) : sProp 𝕄 := iprop(upP c s (upW c XU e) ∗ dnP c s (dnW c XD e) ∗ cellP c 0 s ∗ cellP c 1 s)
/-- Slot `s` is free, both its semaphores at zero. -/
def FreeAt (s : Fin 2) : sProp 𝕄 := iprop((∃ f, upP c s f) ∗ (∃ f, dnP c s f) ∗ cellP c 0 s ∗ cellP c 1 s)
/-- Both copies of expert `e` into slot `s` in flight, reading at share `q`, the rest of the arrays at that share beside. -/
def FlyTo (q : PosShare TreeShare) (s : Fin 2) (e : Fin 16) : sProp 𝕄 :=
  iprop((∃ f, upFly c XU q s e f) ∗ (∃ f, dnFly c XD q s e f) ∗ upRest c XU q e ∗ dnRest c XD q e)

theorem Cur_free (s : Fin 2) (e : Fin 16) : Cur c XU XD s e ⊢ FreeAt c s := by
  unfold Cur FreeAt
  iintro ⟨Hu, Hd, H0, H1⟩
  isplitl [Hu]; · iexists _; iexact Hu
  isplitl [Hd]; · iexists _; iexact Hd
  isplitl [H0] <;> iassumption

end Pieces

section Part1
variable (c : Dev nD) (XU : Buf (Elt F) (upM.view.loc (c : Thread nD τ))) (XD : Buf (Elt F) (dnM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (v0 v2 : BitVec 32) (hw1 : k0_chk1 i v0 v2) (v6 : BitVec 32) (hw4 : k0_chk4 i v0 v2 v6) (v9 : BitVec 1) (v11 : BitVec 32)
  (hw2 : k0_chk2 i v0 v2 v6 v11) (v12 v15 : BitVec 32) (hw3 : k0_chk3 i v0 v2 v6 v11 v15) (h1 : k0_cond1 i v0 = 1#1)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The control part on the kernel's own buffers. -/
abbrev part1 : Prog (TpuEff nD τ sig (Elt F) Λ₀ .tc) (Σ' (v28 : Vec F S8x1408 .i32) (v29 : Vec F S8x1408 .i32) (v30 : Vec F S8x1408 .i32) (v31 : Vec F S8x1408 .i32) (v40 : IVec S8x1280 32) (v45 : IVec S8x1280 32) (v50 : IVec S8x1280 32) (v52 : IVec S8x1280 32), IVec S8x1280 32) :=
  k0_part1 (F := F) i (Memref.whole main_arg0) (Memref.isWhole_whole _) (Memref.whole main_arg1) (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq
    cc0_scratch5 (BitVec.ofNat 32 (i 0).val) v0 v2 hw1 v6 hw4 v9 v11 hw2 v12 v15 hw3 h1

abbrev xsP (gx : Buf (Elt F) (arg3.view.loc (c : Thread nD τ))) : sProp 𝕄 := arg3.view.loc (c : Thread nD τ) ↦[arg3.view.set]{fullShare} gx

/-- The rows the control part hands on: the first eight of each of the first four words' groups. -/
abbrev row8 (gx : Buf (Elt F) (arg3.view.loc (c : Thread nD τ))) (r : Fin 2 → Nat) (h : ∀ a, r a + S8x1408.size a ≤ S256x1408.size a) : Vec F S8x1408 .i32 :=
  arg3.view.readAt (Elt F) (Rect.unit (s := S256x1408) r S8x1408.size h).toLoadRect gx
abbrev part1Out (gx : Buf (Elt F) (arg3.view.loc (c : Thread nD τ))) : Σ' (v28 : Vec F S8x1408 .i32) (v29 : Vec F S8x1408 .i32) (v30 : Vec F S8x1408 .i32) (v31 : Vec F S8x1408 .i32) (v40 : IVec S8x1280 32) (v45 : IVec S8x1280 32) (v50 : IVec S8x1280 32) (v52 : IVec S8x1280 32), IVec S8x1280 32 :=
  let v28 := row8 c arg3 gx ![0, 0] inb_S256x1408_S8x1408_0_0
  let v29 := row8 c arg3 gx ![8, 0] inb_S256x1408_S8x1408_8_0
  let v30 := row8 c arg3 gx ![16, 0] inb_S256x1408_S8x1408_16_0
  let v31 := row8 c arg3 gx ![24, 0] inb_S256x1408_S8x1408_24_0
  ⟨v28, v29, v30, v31, k0_pay6 v28 v30, k0_pay7 v28 v30, k0_pay8 v29 v31, k0_pay9 v29, k0_pay10 v31⟩

/-- The core's waits, whatever they are. -/
def Ow : sProp 𝕄 := iprop(∃ W, owes (c : Thread nD τ) 0 W)

/-- The resources a case starts from, and those it ends with. -/
abbrev Part1Case (gx : Buf (Elt F) (arg3.view.loc (c : Thread nD τ))) (Rin Rout : sProp 𝕄) : Prop :=
  iprop(xsP c arg3 gx ∗ Rin ∗ Ow c)
    ⊢ wp frame (wpE (defs₀ (F := F)) 𝒱₀ (c : Thread nD τ) none) Set.univ
        (part1 i arg3 harg3 arg4 harg4 arg5 harg5 arg8 harg8 v0 v2 hw1 v6 hw4 v9 v11 hw2 v12 v15 hw3 h1 x8M hx8 hM hh hqM hhq)
        (fun r => iprop(⌜r = part1Out c arg3 gx⌝ ∗ xsP c arg3 gx ∗ Cur c XU XD (slotOf v11) (expOf v2) ∗ Rout ∗ Ow c))

/-- A change of expert, with another expert to come. -/
theorem part1_change_next (gx) (q q' : PosShare TreeShare) (hv2 : v2.toNat < 16) (hv15 : v15.toNat < 16) (c2 : ¬ k0_cond2 i = 1#1) (c3 : k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q' ∗ FlyTo c XU XD q (slotOf v11) (expOf v2) ∗ FreeAt c (oth (slotOf v11)))
      iprop(Tok c XU XD q ∗ FlyTo c XU XD q' (oth (slotOf v11)) (expOf v15)) := by
  unfold Part1Case Ow Cur Tok FlyTo FreeAt
  iintro ⟨Hx, ⟨⟨Hu', Hd'⟩, ⟨⟨%fu, Hfu⟩, ⟨%fd, Hfd⟩, Hur, Hdr⟩, ⟨⟨%fu', Hsu'⟩, ⟨%fd', Hsd'⟩, Hcu', Hcd'⟩⟩, ⟨%W, HW⟩⟩
  dsimp only [part1]
  sl_unfold [k0_part1]
  sl_exec
  sl_step
  isplitr; · ipureintro; rfl
  isplitl [Hx]; · iexact Hx
  isplitl [Hfu_dst Hfd_dst Hfu Hfd]
  · isplitl [Hfu_dst]; · iapply (entails_of_eq (upP_land c XU (slotOf v11) (expOf v2) fu)); iexact Hfu_dst
    isplitl [Hfd_dst]; · iapply (entails_of_eq (dnP_land c XD (slotOf v11) (expOf v2) fd)); iexact Hfd_dst
    isplitl [Hfu] <;> iassumption
  isplitr [HW]
  · isplitl [Hfu_src Hur Hfd_src Hdr]
    · isplitl [Hfu_src Hur]
      · iapply (upTok_join c XU _ (expOf v2)); isplitl [Hfu_src] <;> iassumption
      · iapply (dnTok_join c XD _ (expOf v2)); isplitl [Hfd_src] <;> iassumption
    isplitl [Hcu']; · iexists _; iexact Hcu'
    isplitl [Hcd']; · iexists _; iexact Hcd'
    isplitl [Hu'] <;> iassumption
  iexists _; iexact HW

/-- A change of expert to the last one. -/
theorem part1_change_last (gx) (q : PosShare TreeShare) (hv2 : v2.toNat < 16) (c2 : ¬ k0_cond2 i = 1#1) (c3 : ¬ k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(FlyTo c XU XD q (slotOf v11) (expOf v2))
      iprop(Tok c XU XD q) := by
  unfold Part1Case Ow Cur Tok FlyTo
  iintro ⟨Hx, ⟨⟨%fu, Hfu⟩, ⟨%fd, Hfd⟩, Hur, Hdr⟩, ⟨%W, HW⟩⟩
  dsimp only [part1]
  sl_unfold [k0_part1]
  sl_exec
  sl_step
  isplitr; · ipureintro; rfl
  isplitl [Hx]; · iexact Hx
  isplitl [Hfu_dst Hfd_dst Hfu Hfd]
  · isplitl [Hfu_dst]; · iapply (entails_of_eq (upP_land c XU (slotOf v11) (expOf v2) fu)); iexact Hfu_dst
    isplitl [Hfd_dst]; · iapply (entails_of_eq (dnP_land c XD (slotOf v11) (expOf v2) fd)); iexact Hfd_dst
    isplitl [Hfu] <;> iassumption
  isplitl [Hfu_src Hur Hfd_src Hdr]
  · isplitl [Hfu_src Hur]
    · iapply (upTok_join c XU _ (expOf v2)); isplitl [Hfu_src] <;> iassumption
    · iapply (dnTok_join c XD _ (expOf v2)); isplitl [Hfd_src] <;> iassumption
  iexists _; iexact HW

/-- No change of expert. -/
theorem part1_same (gx) (c2 : ¬ k0_cond2 i = 1#1) (c3 : ¬ k0_cond3 i v2 v6 v15 = 1#1) (c4 : ¬ k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Cur c XU XD (slotOf v11) (expOf v2))
      iprop(emp) := by
  unfold Part1Case Ow Cur
  iintro ⟨Hx, ⟨Hu, Hd, H0, H1⟩, ⟨%W, HW⟩⟩
  dsimp only [part1]
  sl_unfold [k0_part1]
  sl_exec
  sl_step
  isplitr; · ipureintro; rfl
  isplitl [Hx]; · iexact Hx
  isplitl [Hu Hd H0 H1]
  · isplitl [Hu]; · iexact Hu
    isplitl [Hd]; · iexact Hd
    isplitl [H0] <;> iassumption
  isplitr; · iempintro
  iexists _; iexact HW

/-- The first tile, with another expert to come. -/
theorem part1_first_next (gx) (q q' : PosShare TreeShare) (hv2 : v2.toNat < 16) (hv15 : v15.toNat < 16) (c2 : k0_cond2 i = 1#1) (c3 : k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q ∗ Tok c XU XD q' ∗ FreeAt c (slotOf v11) ∗ FreeAt c (oth (slotOf v11)))
      iprop(Tok c XU XD q ∗ FlyTo c XU XD q' (oth (slotOf v11)) (expOf v15)) := by
  unfold Part1Case Ow Cur Tok FlyTo FreeAt
  iintro ⟨Hx, ⟨⟨Hu, Hd⟩, ⟨Hu', Hd'⟩, ⟨⟨%fu, Hsu⟩, ⟨%fd, Hsd⟩, Hcu, Hcd⟩, ⟨⟨%fu', Hsu'⟩, ⟨%fd', Hsd'⟩, Hcu', Hcd'⟩⟩, ⟨%W, HW⟩⟩
  dsimp only [part1]
  sl_unfold [k0_part1]
  sl_exec
  sl_step
  isplitr; · ipureintro; rfl
  isplitl [Hx]; · iexact Hx
  isplitl [Hsu Hsd Hcu Hcd]
  · isplitl [Hsu]; · iapply (entails_of_eq (upP_land c XU (slotOf v11) (expOf v2) fu)); iexact Hsu
    isplitl [Hsd]; · iapply (entails_of_eq (dnP_land c XD (slotOf v11) (expOf v2) fd)); iexact Hsd
    isplitl [Hcu] <;> iassumption
  isplitr [HW]
  · isplitl [Hu Hd]
    · isplitl [Hu] <;> iassumption
    isplitl [Hcu']; · iexists _; iexact Hcu'
    isplitl [Hcd']; · iexists _; iexact Hcd'
    isplitl [Hu'] <;> iassumption
  iexists _; iexact HW

/-- The first tile, its expert the only one. -/
theorem part1_first_last (gx) (q : PosShare TreeShare) (hv2 : v2.toNat < 16) (c2 : k0_cond2 i = 1#1) (c3 : ¬ k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q ∗ FreeAt c (slotOf v11))
      iprop(Tok c XU XD q) := by
  unfold Part1Case Ow Cur Tok FreeAt
  iintro ⟨Hx, ⟨⟨Hu, Hd⟩, ⟨⟨%fu, Hsu⟩, ⟨%fd, Hsd⟩, Hcu, Hcd⟩⟩, ⟨%W, HW⟩⟩
  dsimp only [part1]
  sl_unfold [k0_part1]
  sl_exec
  sl_step
  isplitr; · ipureintro; rfl
  isplitl [Hx]; · iexact Hx
  isplitl [Hsu Hsd Hcu Hcd]
  · isplitl [Hsu]; · iapply (entails_of_eq (upP_land c XU (slotOf v11) (expOf v2) fu)); iexact Hsu
    isplitl [Hsd]; · iapply (entails_of_eq (dnP_land c XD (slotOf v11) (expOf v2) fd)); iexact Hsd
    isplitl [Hcu] <;> iassumption
  isplitl [Hu Hd]
  · isplitl [Hu] <;> iassumption
  iexists _; iexact HW

end Part1

end Cert.Proof.Ffn

end
-- ==== Proof.Tile.lean ====
/-
  The arithmetic of one tile: from the tile's packed rows and its expert's weights in their slot to the tile's
  result. Run once, over any control part that leaves the expert in its slot.
-/
module

public import proofs.«01_k».proof.Proof.Control

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Tile
variable (c : Dev nD) (XU : Buf (Elt F) (upM.view.loc (c : Thread nD τ))) (XD : Buf (Elt F) (dnM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (v0 v2 : BitVec 32) (hw1 : k0_chk1 i v0 v2) (v6 : BitVec 32) (hw4 : k0_chk4 i v0 v2 v6) (v9 : BitVec 1) (v11 : BitVec 32)
  (hw2 : k0_chk2 i v0 v2 v6 v11) (v12 v15 : BitVec 32) (hw3 : k0_chk3 i v0 v2 v6 v11 v15) (h1 : k0_cond1 i v0 = 1#1)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The tile's arithmetic on the kernel's own buffers. -/
abbrev part32 : Prog (TpuEff nD τ sig (Elt F) Λ₀ .tc) (Σ' (v1062 : FVec F S1x5120 .f32), FVec F S256x256 .f32) :=
  k0_part32 (F := F) i (Memref.whole main_arg0) (Memref.isWhole_whole _) (Memref.whole main_arg1) (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq
    cc0_scratch5 (BitVec.ofNat 32 (i 0).val) v0 v2 hw1 v6 hw4 v9 v11 hw2 v12 v15 hw3 h1

abbrev s1P (g : Buf (Elt F) (arg4.view.loc (c : Thread nD τ))) : sProp 𝕄 := arg4.view.loc (c : Thread nD τ) ↦[arg4.view.set]{fullShare} g
abbrev s2P (g : Buf (Elt F) (arg5.view.loc (c : Thread nD τ))) : sProp 𝕄 := arg5.view.loc (c : Thread nD τ) ↦[arg5.view.set]{fullShare} g
abbrev outP (g : Buf (Elt F) (arg8.view.loc (c : Thread nD τ))) : sProp 𝕄 := arg8.view.loc (c : Thread nD τ) ↦[arg8.view.set]{fullShare} g
/-- The three scratch buffers of the arithmetic, at any contents. -/
def Scr : sProp 𝕄 :=
  iprop((∃ f, x8M.view.loc (c : Thread nD τ) ↦[x8M.view.set]{fullShare} f)
    ∗ (∃ f, hM.view.loc (c : Thread nD τ) ↦[hM.view.set]{fullShare} f)
    ∗ (∃ f, hqM.view.loc (c : Thread nD τ) ↦[hqM.view.set]{fullShare} f))

set_option backward.proofsInPublic true in
set_option maxHeartbeats 4000000 in
/-- One tile's arithmetic, run; what it returns and what it writes are found by the run. -/
def tileRun (gx : Buf (Elt F) (arg3.view.loc (c : Thread nD τ))) (g4 : Buf (Elt F) (arg4.view.loc (c : Thread nD τ))) (g5 : Buf (Elt F) (arg5.view.loc (c : Thread nD τ))) :
    { w : (Σ' (v1062 : FVec F S1x5120 .f32), FVec F S256x256 .f32) × List (View.Piece (Elt F) S256x5120 .f32) //
      ∀ (Rin Rout : sProp 𝕄) (gO : Buf (Elt F) (arg8.view.loc (c : Thread nD τ))),
        Part1Case c XU XD i arg3 harg3 arg4 harg4 arg5 harg5 arg8 harg8 v0 v2 hw1 v6 hw4 v9 v11 hw2 v12 v15 hw3 h1 x8M hx8 hM hh hqM hhq gx Rin Rout →
        iprop(xsP c arg3 gx ∗ s1P c arg4 g4 ∗ s2P c arg5 g5 ∗ outP c arg8 gO ∗ Scr c x8M hM hqM ∗ Rin ∗ Ow c)
          ⊢ wp frame (wpE (defs₀ (F := F)) 𝒱₀ (c : Thread nD τ) none) Set.univ
              (part32 i arg3 harg3 arg4 harg4 arg5 harg5 arg8 harg8 v0 v2 hw1 v6 hw4 v9 v11 hw2 v12 v15 hw3 h1 x8M hx8 hM hh hqM hhq)
              (fun r => iprop(⌜r = w.1⌝ ∗ xsP c arg3 gx ∗ s1P c arg4 g4 ∗ s2P c arg5 g5 ∗ outP c arg8 (arg8.view.writes (Elt F) gO w.2) ∗ Scr c x8M hM hqM
                ∗ Cur c XU XD (slotOf v11) (expOf v2) ∗ Rout ∗ Ow c)) } := by
  refine ⟨(⟨?_, ?_⟩, ?_), ?run⟩
  case run =>
    intro Rin Rout gO hcut
    unfold Part1Case at hcut
    dsimp only [part1] at hcut
    unfold Cur at hcut ⊢
    unfold Scr
    iintro ⟨Hx, H4, H5, HO, ⟨⟨%f11, H11⟩, ⟨%f12, H12⟩, ⟨%f13, H13⟩⟩, HR, HW⟩
    dsimp only [part32]
    sl_unfold [k0_part32]
    sl_exec_parts
    cases hk0_part1_0
    sl_exec_parts
    sl_step
    isplitr; · ipureintro; rfl
    isplitl [Hk0_part1_1]; · iexact Hk0_part1_1
    isplitl [H4]; · iexact H4
    isplitl [H5]; · iexact H5
    isplitl [HO]; · iexact HO
    isplitl [H11 H12 H13]
    · isplitl [H11]; · iexists _; iexact H11
      isplitl [H12]; · iexists _; iexact H12
      iexists _; iexact H13
    isplitl [Hk0_part1_2 Hk0_part1_3 Hk0_part1_4 Hk0_part1_5]
    · isplitl [Hk0_part1_2]; · iexact Hk0_part1_2
      isplitl [Hk0_part1_3]; · iexact Hk0_part1_3
      isplitl [Hk0_part1_4]; · iexact Hk0_part1_4
      iexact Hk0_part1_5
    isplitl [Hk0_part1_6]; · iexact Hk0_part1_6
    unfold Ow; iexists _; iexact Hk0_part1_7

end Tile

end Cert.Proof.Ffn

end
-- ==== Proof.Tables.lean ====
/-
  The tables: what the precondition says of them, in numbers. No program appears here.
-/
module

public import proofs.«01_k».proof.Pre_tables_ok
public import proofs.«01_k».proof.Proof.Gen.Pre_tables_ok
public import Idealize.ShloMosaic.Lib.WordArith
public import Idealize.ShloMosaic.Lib.Affine
public import Idealize.ShloMosaic.Lib.WordCmp

@[expose] public section

noncomputable section

namespace Cert.Proof.Tab

open Idealize.ShloMosaic

abbrev ST : Shape := ⟨1, ![1024]⟩
abbrev SM : Shape := ⟨1, ![48]⟩

/-- Entry `k` of the table of the tiles' experts, and of the table of the experts. -/
def tIx (k : Nat) : ST.Idx := fun a => match a with | 0 => Fin.ofNat 1024 k
def mIx (k : Nat) : SM.Idx := fun a => match a with | 0 => Fin.ofNat 48 k
def tE (T : ST.Idx → BitVec 32) (k : Nat) : BitVec 32 := T (tIx k)
def mW (M : SM.Idx → BitVec 32) (k : Nat) : BitVec 32 := M (mIx k)

/-- The number of live tiles. -/
def nT (M : SM.Idx → BitVec 32) : Nat := (mW M 32).toNat

/-- What the precondition says: between 1 and 208 tiles are live; every tile's expert exists; at a change of
    expert the tables name the next expert and give it the other slot; the last live tile's expert has none. -/
structure Ok (T : ST.Idx → BitVec 32) (M : SM.Idx → BitVec 32) : Prop where
  one_le : 1 ≤ nT M
  le : nT M ≤ 208
  expert : ∀ k, k < 208 → (tE T k).toNat < 16
  change : ∀ k, k + 1 < nT M → tE T k ≠ tE T (k + 1) →
    mW M (16 + (tE T k).toNat) = tE T (k + 1) ∧
      (mW M (tE T k).toNat ^^^ mW M (tE T (k + 1)).toNat) &&& 1#32 = 1#32
  last : ∀ k, k + 1 = nT M → (mW M (16 + (tE T k).toNat)).toInt < 0

def pIx (a b : Fin 16) (i : Fin 208) : Cert.Pre_tables_ok.S16x16x208.Idx := fun x => match x with | 0 => a | 1 => b | 2 => i

theorem ofBool_one (p : Bool) : (BitVec.ofBool p = 1#1) ↔ p = true := by cases p <;> decide
theorem not_ofBool (p : Bool) : ~~~ (BitVec.ofBool p) = BitVec.ofBool (!p) := by cases p <;> decide
theorem and_ofBool (p q : Bool) : IntOp.andi (BitVec.ofBool p) (BitVec.ofBool q) = BitVec.ofBool (p && q) := by cases p <;> cases q <;> decide
theorem or_ofBool (p q : Bool) : IntOp.ori (BitVec.ofBool p) (BitVec.ofBool q) = BitVec.ofBool (p || q) := by cases p <;> cases q <;> decide

theorem decode {F : FTy → Type} [FloatOps F] (T : ST.Idx → BitVec 32) (M : SM.Idx → BitVec 32) (x s1 s2 w1 w2)
    (h : Cert.Pre_tables_ok.fn (F := F) T M x s1 s2 w1 w2 = fun _ => 1#1) (a b : Fin 16) (i : Fin 208) :
    (((1 ≤ (mW M 32).toInt ∧ (mW M 32).toInt ≤ 208) ∧ 0 ≤ (tE T i).toInt ∧ (tE T i).toInt < 16) ∧
      (mW M (16 + a) = BitVec.ofNat 32 b ∧ IntOp.andi (IntOp.xori (mW M a) (mW M b)) 1#32 = 1#32 ∨
        ((IntOp.addi (BitVec.ofNat 32 i) 1#32).slt (mW M 32) = true → tE T i = BitVec.ofNat 32 a →
            tE T (1 + i) = BitVec.ofNat 32 b → BitVec.ofNat 32 a = BitVec.ofNat 32 b))) ∧
    ((mW M (16 + a)).toInt < 0 ∨ (IntOp.addi (BitVec.ofNat 32 i) 1#32 = mW M 32 → ¬tE T i = BitVec.ofNat 32 a)) := by
  have e := congrFun h (pIx a b i)
  have hM : ∀ f : SM.Idx, M f = mW M (f 0).val := fun f => congrArg M (funext fun z => by
    fin_cases z; exact Fin.ext (Nat.mod_eq_of_lt (f 0).isLt).symm)
  have hT : ∀ f : ST.Idx, T f = tE T (f 0).val := fun f => congrArg T (funext fun z => by
    fin_cases z; exact Fin.ext (Nat.mod_eq_of_lt (f 0).isLt).symm)
  simp only [Cert.Pre_tables_ok.fn, Cert.Pre_tables_ok.fn_part1, Cert.Pre_tables_ok.fn_part2, andi, ori, noti, xori, addi, cmpi, iotaInDim, broadcastInDim, constantI, extractStridedSlice] at e
  simp only [hM, hT, IntOp.cmpi, not_ofBool, and_ofBool, or_ofBool, ofBool_one, Bool.and_eq_true, Bool.or_eq_true, Bool.not_eq_true', beq_iff_eq, bne_iff_ne,
    BitVec.sle_iff_toInt_le, BitVec.slt_iff_toInt_lt, pIx] at e
  simp at e
  exact e

theorem ok_of_pre {F : FTy → Type} [FloatOps F] (T : ST.Idx → BitVec 32) (M : SM.Idx → BitVec 32) (x s1 s2 w1 w2)
    (h : Cert.Pre_tables_ok.fn (F := F) T M x s1 s2 w1 w2 = fun _ => 1#1) : Ok T M := by
  have D := decode T M x s1 s2 w1 w2 h
  have hn := (D 0 0 0).1.1.1
  have hn1 : (mW M 32).toInt = (mW M 32).toNat := by
    have e := BitVec.toInt_eq_toNat_cond (mW M 32); have := (mW M 32).isLt; omega
  have hex : ∀ k, k < 208 → (tE T k).toNat < 16 := fun k hk => by
    have e := (D 0 0 ⟨k, hk⟩).1.1.2
    have e1 := BitVec.toInt_eq_toNat_cond (tE T k); have := (tE T k).isLt
    simp only at e; omega
  have hle : nT M ≤ 208 := by unfold nT; omega
  have hofe : ∀ v : BitVec 32, v.toNat < 16 → BitVec.ofNat 32 v.toNat = v := fun v _ => by simp
  have hadd : ∀ k, k < 208 → IntOp.addi (BitVec.ofNat 32 k) 1#32 = BitVec.ofNat 32 (k + 1) := fun k hk => by
    show BitVec.ofNat 32 k + 1#32 = _
    apply BitVec.eq_of_toNat_eq; simp
  have hofi : ∀ k, k < 209 → (BitVec.ofNat 32 k).toInt = k := fun k hk => by
    have e := BitVec.toInt_eq_toNat_cond (BitVec.ofNat 32 k)
    have e2 : (BitVec.ofNat 32 k).toNat = k := by simp; omega
    omega
  refine ⟨by unfold nT; omega, hle, hex, fun k hk hne => ?_, fun k hk => ?_⟩
  · have ha := hex k (by omega); have hb := hex (k + 1) (by omega)
    rcases (D ⟨_, ha⟩ ⟨_, hb⟩ ⟨k, by omega⟩).1.2 with e | e
    · exact ⟨e.1.trans (hofe _ hb), e.2⟩
    · refine absurd ?_ hne
      have := e (by
        show (IntOp.addi (BitVec.ofNat 32 k) 1#32).slt _ = true
        rw [hadd k (by omega), BitVec.slt_iff_toInt_lt, hofi _ (by omega), hn1]; unfold nT at hk; omega)
        (hofe _ ha).symm (by show tE T (1 + k) = _; rw [Nat.add_comm]; exact (hofe _ hb).symm)
      rwa [hofe _ ha, hofe _ hb] at this
  · have ha := hex k (by omega)
    rcases (D ⟨_, ha⟩ 0 ⟨k, by omega⟩).2 with e | e
    · exact e
    · refine absurd (hofe _ ha).symm (e ?_)
      show IntOp.addi (BitVec.ofNat 32 k) 1#32 = _
      rw [hadd k (by omega), hk]; unfold nT; simp

/-- A live tile's expert either has no successor, or has the next expert among the live tiles, in the other slot. -/
theorem Ok.next {T : ST.Idx → BitVec 32} {M : SM.Idx → BitVec 32} (h : Ok T M) : ∀ d k, k + d + 1 = nT M →
    (mW M (16 + (tE T k).toNat)).toInt < 0 ∨
      ((mW M (16 + (tE T k).toNat)).toNat < 16 ∧ 0 ≤ (mW M (16 + (tE T k).toNat)).toInt ∧ mW M (16 + (tE T k).toNat) ≠ tE T k ∧
        (mW M (tE T k).toNat ^^^ mW M (mW M (16 + (tE T k).toNat)).toNat) &&& 1#32 = 1#32)
  | 0, k, hd => .inl (h.last k hd)
  | d + 1, k, hd => by
      have hle := h.le
      by_cases e : tE T k = tE T (k + 1)
      · rw [e]; exact h.next d (k + 1) (by omega)
      · obtain ⟨h1, h2⟩ := h.change k (by omega) e
        have hb := h.expert (k + 1) (by omega)
        refine .inr ?_
        rw [h1]
        refine ⟨hb, ?_, fun e' => e e'.symm, h2⟩
        have e1 := BitVec.toInt_eq_toNat_cond (tE T (k + 1)); omega

end Cert.Proof.Tab

end
-- ==== Proof.Checks.lean ====
/-
  The words the body reads from the tables: the conditions they decide, and the bounds the body assumes of them.
-/
module

public import proofs.«01_k».proof.Proof.Names
public import proofs.«01_k».proof.Proof.Tables

@[expose] public section

set_option maxRecDepth 16384

noncomputable section

namespace Cert.Proof.Ffn

open Cert.Kernel Cert.Kernel.Gen
open Idealize.ShloMosaic
open Cert.Proof.Tab

theorem ofBool_one (p : Bool) : (BitVec.ofBool p = 1#1) ↔ p = true := by cases p <;> decide
theorem ext_ne (p : Bool) : Scalar.cmpi .ne (Scalar.extui (BitVec.ofBool p) : BitVec 32) 0#32 = BitVec.ofBool p := by cases p <;> decide
theorem or_bool (p q : Bool) : Scalar.ori (BitVec.ofBool p) (BitVec.ofBool q) = BitVec.ofBool (p || q) := by cases p <;> cases q <;> decide
theorem and_bool (p q : Bool) : Scalar.andi (BitVec.ofBool p) (BitVec.ofBool q) = BitVec.ofBool (p && q) := by cases p <;> cases q <;> decide

theorem co_lt (i : grid0.Coords) : (i 0).val < 208 := (i 0).isLt

theorem ofNat_toInt (k : Nat) (hk : k < 209) : (BitVec.ofNat 32 k).toInt = k := by
  have e := BitVec.toInt_eq_toNat_cond (BitVec.ofNat 32 k)
  have e2 : (BitVec.ofNat 32 k).toNat = k := by simp; omega
  omega
theorem small_toInt (v : BitVec 32) (h : v.toNat ≤ 208) : v.toInt = v.toNat := by
  have e := BitVec.toInt_eq_toNat_cond v; omega

theorem cond1_iff (i : grid0.Coords) (v0 : BitVec 32) (h : v0.toNat ≤ 208) : k0_cond1 i v0 = 1#1 ↔ (i 0).val < v0.toNat := by
  have hi := co_lt i
  show Scalar.cmpi .ne (Scalar.extui (BitVec.ofBool _)) 0#32 = 1#1 ↔ _
  rw [ext_ne, ofBool_one]
  show BitVec.slt _ _ = true ↔ _
  rw [BitVec.slt_iff_toInt_lt, ofNat_toInt _ (by omega), small_toInt v0 h]; omega

theorem cond2_iff (i : grid0.Coords) : k0_cond2 i = 1#1 ↔ (i 0).val = 0 := by
  have hi := co_lt i
  show Scalar.cmpi .ne (Scalar.extui (BitVec.ofBool _)) 0#32 = 1#1 ↔ _
  rw [ext_ne, ofBool_one]
  show (BitVec.ofNat 32 (i 0).val == 0#32) = true ↔ _
  rw [beq_iff_eq]
  exact ⟨fun e => by have := congrArg BitVec.toNat e; simp at this; omega, fun e => by rw [e]⟩

theorem cond4_iff (i : grid0.Coords) (v2 v6 : BitVec 32) : k0_cond4 i v2 v6 = 1#1 ↔ ((i 0).val = 0 ∨ v2 ≠ v6) := by
  have hi := co_lt i
  show Scalar.cmpi .ne (Scalar.extui (Scalar.ori (BitVec.ofBool (BitVec.ofNat 32 (i 0).val == 0#32)) (BitVec.ofBool (v2 != v6)))) 0#32 = 1#1 ↔ _
  rw [or_bool, ext_ne, ofBool_one, Bool.or_eq_true, beq_iff_eq, bne_iff_ne]
  refine or_congr ⟨fun e => by have := congrArg BitVec.toNat e; simp at this; omega, fun e => by rw [e]⟩ Iff.rfl

theorem cond3_iff (i : grid0.Coords) (v2 v6 v15 : BitVec 32) : k0_cond3 i v2 v6 v15 = 1#1 ↔ ((i 0).val = 0 ∨ v2 ≠ v6) ∧ 0 ≤ v15.toInt := by
  have hi := co_lt i
  show Scalar.cmpi .ne (Scalar.extui (Scalar.andi (Scalar.ori (BitVec.ofBool (BitVec.ofNat 32 (i 0).val == 0#32)) (BitVec.ofBool (v2 != v6))) (BitVec.ofBool (BitVec.sle 0#32 v15)))) 0#32 = 1#1 ↔ _
  rw [or_bool, and_bool, ext_ne, ofBool_one, Bool.and_eq_true, Bool.or_eq_true, beq_iff_eq, bne_iff_ne, BitVec.sle_iff_toInt_le]
  refine and_congr (or_congr ⟨fun e => by have := congrArg BitVec.toNat e; simp at this; omega, fun e => by rw [e]⟩ Iff.rfl) Iff.rfl

theorem off1_eq (i : grid0.Coords) : k0_off1 i = ![(i 0).val] := by
  have hi := co_lt i
  show ![(BitVec.ofNat 32 (i 0).val).toNat] = _
  rw [BitVec.toNat_ofNat, Nat.mod_eq_of_lt (by omega)]
theorem off2_eq (i : grid0.Coords) : k0_off2 i = ![(i 0).val - 1] := by
  have hi := co_lt i
  have : ∀ k : Fin 208, (Scalar.indexCast (Scalar.maxsi (Scalar.subi (BitVec.ofNat 32 k.val) 1#32) 0#32)).toNat = k.val - 1 := by decide
  exact congrArg (fun n => ![n]) (this (i 0))
theorem off3_eq (v2 : BitVec 32) : k0_off3 v2 = ![v2.toNat] := rfl
theorem off4_eq {v2 : BitVec 32} (h : v2.toNat < 16) : k0_off4 v2 = ![16 + v2.toNat] := by
  show ![(16#32 + v2).toNat] = _
  rw [BitVec.toNat_add, Nat.mod_eq_of_lt (by simp; omega)]; rfl

/-! ## The bounds -/

theorem chk1_of (i : grid0.Coords) (v0 v2 : BitVec 32) (h : v2.toNat < 16) : k0_chk1 i v0 v2 := by
  refine ⟨?_, ?_, ?_, ?_, ?_, ?_, ?_, ?_⟩
  · intro a; fin_cases a; show v2.toNat + 1 ≤ 48; omega
  · intro a; rw [off4_eq h]; fin_cases a; show 16 + v2.toNat + 1 ≤ 48; omega
  · intro _ _; rw [off7_eq h]; exact upExp_inb _
  · intro _ _ _; exact .inr ⟨by decide, rfl, rfl, rfl⟩
  · intro _ _; rw [off10_eq h]; exact dnExp_inb _
  · intro _ _ _; exact .inr ⟨by decide, rfl, rfl, rfl⟩
  · intro _ a; fin_cases a; · (show v2.toNat + 1 ≤ 16; omega)
    · (show 0 + 1 ≤ 1; omega)
    · (show 0 + 2816 ≤ 2816; omega)
  · intro _ a; fin_cases a; · (show v2.toNat + 1 ≤ 16; omega)
    · (show 0 + 1 ≤ 1; omega)
    · (show 0 + 5120 ≤ 5120; omega)
theorem chk4_of (i : grid0.Coords) (v0 v2 v6 : BitVec 32) (h : v2.toNat < 16) : k0_chk4 i v0 v2 v6 := by
  refine ⟨?_, ?_, ?_, ?_⟩
  · intro _ _; rw [off19_eq h]; exact upExp_inb _
  · intro _ _ _; exact .inr ⟨by decide, rfl, rfl, rfl⟩
  · intro _ _; rw [off22_eq h]; exact dnExp_inb _
  · intro _ _ _; exact .inr ⟨by decide, rfl, rfl, rfl⟩
theorem chk3_of (i : grid0.Coords) (v0 v2 v6 v11 v15 : BitVec 32) (h : k0_cond3 i v2 v6 v15 = 1#1 → v15.toNat < 16) : k0_chk3 i v0 v2 v6 v11 v15 := by
  refine ⟨?_, ?_, ?_, ?_, ?_, ?_, ?_, ?_, ?_, ?_⟩
  · intro _ _; rw [off11_eq]; exact cell_inb _ _
  · intro _ _; rw [off12_eq]; exact upSlot_inb _
  · intro _ h3; rw [off13_eq (h h3)]; exact upExp_inb _
  · intro _ _ _; exact .inr ⟨by decide, rfl, rfl, rfl⟩
  · intro _ _ _; exact .inr ⟨by decide, rfl, rfl, rfl⟩
  · intro _ _; rw [off14_eq]; exact cell_inb _ _
  · intro _ _; rw [off15_eq]; exact dnSlot_inb _
  · intro _ h3; rw [off16_eq (h h3)]; exact dnExp_inb _
  · intro _ _ _; exact .inr ⟨by decide, rfl, rfl, rfl⟩
  · intro _ _ _; exact .inr ⟨by decide, rfl, rfl, rfl⟩

theorem inb_up {c w : Nat} (v : BitVec 32) (h : c + w ≤ 2816) (a : Fin 3) :
    (![(Scalar.andi v 1#32).toNat, 0, c] : Fin 3 → Nat) a + (![1, 5120, w] : Fin 3 → Nat) a ≤ S2x5120x2816.size a := by
  have := and1_lt v
  fin_cases a
  · show (Scalar.andi v 1#32).toNat + 1 ≤ 2; omega
  · show 0 + 5120 ≤ 5120; omega
  · exact h
theorem inb_dn {c w : Nat} (v : BitVec 32) (h : c + w ≤ 5120) (a : Fin 3) :
    (![(Scalar.andi v 1#32).toNat, 0, c] : Fin 3 → Nat) a + (![1, 1408, w] : Fin 3 → Nat) a ≤ S2x1408x5120.size a := by
  have := and1_lt v
  fin_cases a
  · show (Scalar.andi v 1#32).toNat + 1 ≤ 2; omega
  · show 0 + 1408 ≤ 1408; omega
  · exact h

theorem chk2_of (i : grid0.Coords) (v0 v2 v6 v11 : BitVec 32) : k0_chk2 i v0 v2 v6 v11 := by
  unfold k0_chk2 k0_chk2_0 k0_chk2_1
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩,
    ?_, ?_, ?_, ?_, ?_, ?_, ?_, ?_, ?_, ?_, ?_, ?_⟩ <;> intro _ <;>
  first
    | exact inb_up v11 (by decide)
    | exact inb_dn v11 (by decide)
    | exact fun _ => inb_up v11 (by decide)
    | exact fun _ => inb_dn v11 (by decide)
    | exact fun _ => cell_inb 0 (slotOf v11)
    | exact fun _ => cell_inb 1 (slotOf v11)
    | exact fun _ _ => .inr ⟨by decide, rfl, rfl, rfl⟩

end Cert.Proof.Ffn

end
-- ==== Proof.Body.lean ====
/-
  The kernel's body at one grid point.
-/
module

public import proofs.«01_k».proof.Proof.Tile
public import proofs.«01_k».proof.Proof.Checks

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev teM : Memref sig .tc .smem S1024 .i32 := Memref.whole main_arg0
abbrev meM : Memref sig .tc .smem S48 .i32 := Memref.whole main_arg1

section Body
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The kernel's body on the point's buffers. -/
abbrev bodyG : Prog (TpuEff nD τ sig (Elt F) Λ₀ .tc) PUnit :=
  cc0_ffn (F := F) i teM (Memref.isWhole_whole _) meM (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq cc0_scratch5

abbrev teP (q : PosShare TreeShare) : sProp 𝕄 := teM.view.loc (c : Thread nD τ) ↦[teM.view.set]{q} T
abbrev meP (q : PosShare TreeShare) : sProp 𝕄 := meM.view.loc (c : Thread nD τ) ↦[meM.view.set]{q} M

theorem me_read (k : Nat) (off : Fin 1 → Nat) (inb) (pf) (hk : off 0 = k) (hl : k < 48) :
    View.readAt (Elt F) meM.view (Rect.unit (s := S48) off S1.size inb).toLoadRect M (Shape.Idx.first (s := S1) pf) = Tab.mW M k := by
  rw [View.readAt_apply, View.read_apply]
  unfold Tab.mW
  refine congrArg M (funext fun x => ?_)
  fin_cases x
  apply Fin.ext
  have h0 : ((Shape.Idx.first (s := S1) pf) 0).val = 0 := Nat.lt_one_iff.1 ((Shape.Idx.first (s := S1) pf) 0).isLt
  show off 0 + 1 * ((Shape.Idx.first (s := S1) pf) 0).val = k % 48
  rw [h0, hk, Nat.mod_eq_of_lt hl]; rfl

theorem te_read (k : Nat) (off : Fin 1 → Nat) (inb) (pf) (hk : off 0 = k) (hl : k < 1024) :
    View.readAt (Elt F) teM.view (Rect.unit (s := S1024) off S1.size inb).toLoadRect T (Shape.Idx.first (s := S1) pf) = Tab.tE T k := by
  rw [View.readAt_apply, View.read_apply]
  unfold Tab.tE
  refine congrArg T (funext fun x => ?_)
  fin_cases x
  apply Fin.ext
  have h0 : ((Shape.Idx.first (s := S1) pf) 0).val = 0 := Nat.lt_one_iff.1 ((Shape.Idx.first (s := S1) pf) 0).isLt
  show off 0 + 1 * ((Shape.Idx.first (s := S1) pf) 0).val = k % 1024
  rw [h0, hk, Nat.mod_eq_of_lt hl]; rfl

/-- The pieces a live tile writes: those of its arithmetic, and the last block of columns. -/
def liveL (w : (Σ' (v1062 : FVec F S1x5120 .f32), FVec F S256x256 .f32) × List (View.Piece (Elt F) S256x5120 .f32)) : List (View.Piece (Elt F) S256x5120 .f32) :=
  ⟨(Rect.unit (s := S256x5120) ![0, 4864] S256x256.size inb_S256x5120_S256x256_0_4864), k0_pay1 w.1.1 w.1.2⟩ :: w.2

set_option maxHeartbeats 4000000 in
/-- The body at a live tile. -/
theorem liveRun (q : PosShare TreeShare)
    (gx : Buf (Elt F) (arg3.view.loc (c : Thread nD τ))) (g4 : Buf (Elt F) (arg4.view.loc (c : Thread nD τ))) (g5 : Buf (Elt F) (arg5.view.loc (c : Thread nD τ)))
    (gO : Buf (Elt F) (arg8.view.loc (c : Thread nD τ)))
    (v0 v2 v6 v11 v15 : BitVec 32) (e0 : v0 = Tab.mW M 32) (e2 : v2 = Tab.tE T (i 0).val) (e6 : v6 = Tab.tE T ((i 0).val - 1))
    (e11 : v11 = Tab.mW M v2.toNat) (e15 : v15 = Tab.mW M (16 + v2.toNat)) (l2 : v2.toNat < 16) (v9 : BitVec 1) (e9 : v9 = (Scalar.ori (Scalar.cmpi .eq (BitVec.ofNat 32 (i 0).val) 0#32) (Scalar.cmpi .ne v2 v6))) (v12 : BitVec 32) (e12 : v12 = Scalar.andi v11 1#32)
    (hw1 : k0_chk1 i v0 v2) (hw4 : k0_chk4 i v0 v2 v6) (hw2 : k0_chk2 i v0 v2 v6 v11) (hw3 : k0_chk3 i v0 v2 v6 v11 v15) (h1 : k0_cond1 i v0 = 1#1)
    (Rin Rout : sProp 𝕄)
    (hcase : Part1Case c XU XD i arg3 harg3 arg4 harg4 arg5 harg5 arg8 harg8 v0 v2 hw1 v6 hw4
        v9 v11 hw2 v12 v15 hw3 h1 x8M hx8 hM hh hqM hhq gx Rin Rout) :
    iprop(teP c T q ∗ meP c M q ∗ xsP c arg3 gx ∗ s1P c arg4 g4 ∗ s2P c arg5 g5 ∗ outP c arg8 gO ∗ Scr c x8M hM hqM ∗ Rin ∗ Ow c)
      ⊢ wp frame (wpE (defs₀ (F := F)) 𝒱₀ (c : Thread nD τ) none) Set.univ
      (bodyG i arg3 harg3 arg4 harg4 arg5 harg5 arg8 harg8 x8M hx8 hM hh hqM hhq)
      (fun _ => iprop(teP c T q ∗ meP c M q ∗ xsP c arg3 gx ∗ s1P c arg4 g4 ∗ s2P c arg5 g5
        ∗ outP c arg8 (arg8.view.writes (Elt F) gO (liveL (tileRun c XU XD i arg3 harg3 arg4 harg4 arg5 harg5 arg8 harg8 v0 v2 hw1 v6 hw4 v9 v11 hw2 v12 v15 hw3 h1 x8M hx8 hM hh hqM hhq gx g4 g5).1)) ∗ Scr c x8M hM hqM
        ∗ Cur c XU XD (slotOf v11) (expOf v2) ∗ Rout ∗ Ow c)) := by
  have ci : (i 0).val < 208 := co_lt i
  have hcut := (tileRun c XU XD i arg3 harg3 arg4 harg4 arg5 harg5 arg8 harg8 v0 v2 hw1 v6 hw4
        v9 v11 hw2 v12 v15 hw3 h1 x8M hx8 hM hh hqM hhq gx g4 g5).2 Rin Rout gO hcase
  clear hcase
  obtain ⟨W, eW⟩ : ∃ W, W = (tileRun c XU XD i arg3 harg3 arg4 harg4 arg5 harg5 arg8 harg8 v0 v2 hw1 v6 hw4
        v9 v11 hw2 v12 v15 hw3 h1 x8M hx8 hM hh hqM hhq gx g4 g5).1 := ⟨_, rfl⟩
  rw [← eW] at hcut ⊢
  clear eW
  obtain ⟨⟨a, b⟩, L⟩ := W
  dsimp only [part32] at hcut ⊢
  iintro ⟨HT, HM, Hx, H4, H5, HO, HS, HR, HW⟩
  dsimp only [bodyG]
  sl_unfold [cc0_ffn]
  sl_exec
  have r0 : liveRun.sl.r c M = v0 := (me_read c M 32 _ _ _ rfl (by decide)).trans e0.symm
  have r1 : liveRun.sl.r_1 c T i = v2 := (te_read c T (i 0).val _ _ _ (congrFun (off1_eq i) 0) (by have := co_lt i; omega)).trans e2.symm
  generalize liveRun.sl.r c M = w0 at r0 ⊢
  generalize liveRun.sl.r_1 c T i = w2 at r1 ⊢
  subst r0 r1
  sl_exec
  have r2 : liveRun.sl.r_2 c T i = v6 := (te_read c T ((i 0).val - 1) _ _ _ (congrFun (off2_eq i) 0) (by have := co_lt i; omega)).trans e6.symm
  generalize liveRun.sl.r_2 c T i = w6 at r2 ⊢
  subst r2
  sl_exec
  have r3 : liveRun.sl.r_3 c M i w0 w2 hw1 = v11 := (me_read c M w2.toNat _ _ _ (congrFun (off3_eq w2) 0) (by omega)).trans e11.symm
  generalize liveRun.sl.r_3 c M i w0 w2 hw1 = w11 at r3 ⊢
  subst r3
  sl_exec
  have r4 : liveRun.sl.r_4 c M i w0 w2 hw1 = v15 := (me_read c M (16 + w2.toNat) _ _ _ (congrFun (off4_eq l2) 0) (by omega)).trans e15.symm
  generalize liveRun.sl.r_4 c M i w0 w2 hw1 = w15 at r4 ⊢
  subst r4
  have r5 : liveRun.sl.v9 i w2 w6 = v9 := e9.symm
  have r6 : liveRun.sl.v12 w11 = v12 := e12.symm
  generalize liveRun.sl.v9 i w2 w6 = w9 at r5 ⊢
  generalize liveRun.sl.v12 w11 = w12 at r6 ⊢
  subst r5 r6
  sl_exec_parts
  cases hk0_part32_0
  sl_step
  isplitl [HT]; · iexact HT
  isplitl [HM]; · iexact HM
  isplitl [Hk0_part32_1]; · iexact Hk0_part32_1
  isplitl [Hk0_part32_2]; · iexact Hk0_part32_2
  isplitl [Hk0_part32_3]; · iexact Hk0_part32_3
  isplitl [Hk0_part32_4]; · iexact Hk0_part32_4
  isplitl [Hk0_part32_5 Hk0_part32_6 Hk0_part32_7]
  · unfold Scr
    isplitl [Hk0_part32_5]; · iexists _; iexact Hk0_part32_5
    isplitl [Hk0_part32_6]; · iexists _; iexact Hk0_part32_6
    iexists _; iexact Hk0_part32_7
  isplitl [Hk0_part32_8 Hk0_part32_9 Hk0_part32_10 Hk0_part32_11]
  · unfold Cur
    isplitl [Hk0_part32_8]; · iexact Hk0_part32_8
    isplitl [Hk0_part32_9]; · iexact Hk0_part32_9
    isplitl [Hk0_part32_10]; · iexact Hk0_part32_10
    iexact Hk0_part32_11
  isplitl [Hk0_part32_12]; · iexact Hk0_part32_12
  unfold Ow; iexists _; iexact Hk0_part32_13

theorem chk3_idle (v0 v2 v6 v11 v15 : BitVec 32) (h1 : ¬ k0_cond1 i v0 = 1#1) : k0_chk3 i v0 v2 v6 v11 v15 := by
  refine ⟨?_, ?_, ?_, ?_, ?_, ?_, ?_, ?_, ?_, ?_⟩ <;> intro h <;> exact absurd h h1

set_option maxHeartbeats 4000000 in
/-- The body past the live tiles: it reads the tables only. -/
theorem idleRun (q : PosShare TreeShare)
    (v0 v2 : BitVec 32) (e0 : v0 = Tab.mW M 32) (e2 : v2 = Tab.tE T (i 0).val) (l2 : v2.toNat < 16) (h1 : ¬ k0_cond1 i v0 = 1#1) :
    iprop(teP c T q ∗ meP c M q) ⊢ wp frame (wpE (defs₀ (F := F)) 𝒱₀ (c : Thread nD τ) none) Set.univ
      (bodyG i arg3 harg3 arg4 harg4 arg5 harg5 arg8 harg8 x8M hx8 hM hh hqM hhq) (fun _ => iprop(teP c T q ∗ meP c M q)) := by
  have hw1 := chk1_of i v0 v2 l2
  iintro ⟨HT, HM⟩
  dsimp only [bodyG]
  sl_unfold [cc0_ffn]
  sl_exec
  have r0 : idleRun.sl.r c M = v0 := (me_read c M 32 _ _ _ rfl (by decide)).trans e0.symm
  have r1 : idleRun.sl.r_1 c T i = v2 := (te_read c T (i 0).val _ _ _ (congrFun (off1_eq i) 0) (by have := co_lt i; omega)).trans e2.symm
  generalize idleRun.sl.r c M = w0 at r0 ⊢
  generalize idleRun.sl.r_1 c T i = w2 at r1 ⊢
  subst r0 r1
  have hw4 : ∀ v6, k0_chk4 i w0 w2 v6 := fun v6 => chk4_of i w0 w2 v6 l2
  have hw2 : ∀ v6 v11, k0_chk2 i w0 w2 v6 v11 := fun v6 v11 => chk2_of i w0 w2 v6 v11
  have hw3 : ∀ v6 v11 v15, k0_chk3 i w0 w2 v6 v11 v15 := fun v6 v11 v15 => chk3_idle i w0 w2 v6 v11 v15 h1
  sl_exec
  have hw4' := hw4 (idleRun.sl.r_2 c T i)
  sl_exec
  have hw2' := hw2 (idleRun.sl.r_2 c T i) (idleRun.sl.r_3 c M i w0 w2 hw1)
  sl_exec
  have hw3' := hw3 (idleRun.sl.r_2 c T i) (idleRun.sl.r_3 c M i w0 w2 hw1) (idleRun.sl.r_4 c M i w0 w2 hw1)
  sl_exec
  sl_step
  isplitl [HT]; · iexact HT
  iexact HM

end Body

end Cert.Proof.Ffn

end
-- ==== Proof.Step.lean ====
/-
  What the kernel holds between two tiles, and one tile's step of it.
-/
module

public import proofs.«01_k».proof.Proof.Body
public import proofs.«01_k».proof.Proof.Tables

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem slot_xor (a b : BitVec 32) (h : (a ^^^ b) &&& 1#32 = 1#32) : slotOf b = oth (slotOf a) := by
  have two : ∀ v : BitVec 32, v &&& 1#32 = 0#32 ∨ v &&& 1#32 = 1#32 := fun v => by
    have h := and1_lt v
    rcases Nat.lt_or_ge (Scalar.andi v 1#32).toNat 1 with h1 | h1
    · left; apply BitVec.eq_of_toNat_eq; show (Scalar.andi v 1#32).toNat = 0; omega
    · right; apply BitVec.eq_of_toNat_eq; show (Scalar.andi v 1#32).toNat = 1; omega
  have e : (a &&& 1#32) ^^^ (b &&& 1#32) = 1#32 := by
    refine Eq.trans ?_ h
    ext j hj
    rw [BitVec.getElem_xor, BitVec.getElem_and, BitVec.getElem_and, BitVec.getElem_and, BitVec.getElem_xor]
    generalize (1#32)[j] = z
    cases a[j] <;> cases b[j] <;> cases z <;> rfl
  apply Fin.ext
  have ho : ∀ s : Fin 2, (oth s).val = 1 - s.val := by decide
  rw [ho]
  show (b &&& 1#32).toNat = 1 - (a &&& 1#32).toNat
  rcases two a with h0 | h0 <;> rcases two b with h1 | h1 <;> rw [h0, h1] at e ⊢ <;> first | exact absurd e (by decide) | rfl
theorem oth_oth (s : Fin 2) : oth (oth s) = s := by revert s; decide

section Step
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))

/-- One half of the share the weights are read at, or the other. -/
def tshare (b : Bool) : PosShare TreeShare := if b then fullShare.left else fullShare.right
/-- The slot of the expert a word names. -/
def slotAt (v : BitVec 32) : Fin 2 := slotOf (Tab.mW M v.toNat)
/-- What is ahead after a tile of expert `v`: the next expert's copy in flight, or nothing and the other slot free. -/
def Ahead (v : BitVec 32) (b : Bool) : sProp 𝕄 :=
  if 0 ≤ (Tab.mW M (16 + v.toNat)).toInt then FlyTo c XU XD (tshare b) (oth (slotAt c M v)) (expOf (Tab.mW M (16 + v.toNat)))
  else iprop(Tok c XU XD (tshare b) ∗ FreeAt c (oth (slotAt c M v)))
/-- After a tile of expert `v`. -/
def After (v : BitVec 32) (b : Bool) : sProp 𝕄 :=
  iprop(Tok c XU XD (tshare b) ∗ Cur c XU XD (slotAt c M v) (expOf v) ∗ Ahead c XU XD M v (!b))
/-- After `k` live tiles. -/
def Inv : ℕ → sProp 𝕄
  | 0 => iprop(Tok c XU XD fullShare.left ∗ Tok c XU XD fullShare.right ∗ FreeAt c 0 ∗ FreeAt c 1)
  | k + 1 => iprop(∃ b, After c XU XD M (Tab.tE T k) b)

theorem Inv_zero : Inv c XU XD T M 0 = iprop(Tok c XU XD fullShare.left ∗ Tok c XU XD fullShare.right ∗ FreeAt c 0 ∗ FreeAt c 1) := rfl
theorem Inv_succ (k : ℕ) : Inv c XU XD T M (k + 1) = iprop(∃ b, After c XU XD M (Tab.tE T k) b) := rfl

theorem free_two (s : Fin 2) : iprop(FreeAt (F := F) c 0 ∗ FreeAt c 1) ⊢ iprop(FreeAt (F := F) c s ∗ FreeAt c (oth s)) := by
  rcases (show s = 0 ∨ s = 1 by revert s; decide) with rfl | rfl
  · exact .rfl
  · show _ ⊢ iprop(FreeAt (F := F) c 1 ∗ FreeAt c 0)
    iintro ⟨H0, H1⟩
    isplitl [H1] <;> iassumption
theorem two_free (s : Fin 2) : iprop(FreeAt (F := F) c s ∗ FreeAt c (oth s)) ⊢ iprop(FreeAt c 0 ∗ FreeAt c 1) := by
  rcases (show s = 0 ∨ s = 1 by revert s; decide) with rfl | rfl
  · exact .rfl
  · show iprop(FreeAt (F := F) c 1 ∗ FreeAt c 0) ⊢ _
    iintro ⟨H0, H1⟩
    isplitl [H1] <;> iassumption

variable (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The words the body reads at a point. -/
abbrev w0 : BitVec 32 := Tab.mW M 32
abbrev w2 : BitVec 32 := Tab.tE T (i 0).val
abbrev w6 : BitVec 32 := Tab.tE T ((i 0).val - 1)
abbrev w11 : BitVec 32 := Tab.mW M (w2 c T i).toNat
abbrev w15 : BitVec 32 := Tab.mW M (16 + (w2 c T i).toNat)
abbrev w9 : BitVec 1 := Scalar.ori (Scalar.cmpi .eq (BitVec.ofNat 32 (i 0).val) 0#32) (Scalar.cmpi .ne (w2 c T i) (w6 c T i))
abbrev w12 : BitVec 32 := Scalar.andi (w11 c T M i) 1#32

variable (hok : Tab.Ok T M) (hk : (i 0).val < Tab.nT M)

include hok in
theorem l2 : (w2 c T i).toNat < 16 := hok.expert _ (co_lt i)
include hok hk in
theorem l15 : (w15 c T M i).toInt < 0 ∨ (w15 c T M i).toNat < 16 ∧ 0 ≤ (w15 c T M i).toInt := by
  obtain ⟨d, hd⟩ : ∃ d, (i 0).val + d + 1 = Tab.nT M := ⟨Tab.nT M - (i 0).val - 1, by omega⟩
  rcases hok.next d (i 0).val hd with h | h
  · exact .inl h
  · exact .inr ⟨h.1, h.2.1⟩
include hok in
theorem ok1 : k0_chk1 i (w0 c M) (w2 c T i) := chk1_of i _ _ (l2 c T M i hok)
include hok in
theorem ok4 : k0_chk4 i (w0 c M) (w2 c T i) (w6 c T i) := chk4_of i _ _ _ (l2 c T M i hok)
theorem ok2 : k0_chk2 i (w0 c M) (w2 c T i) (w6 c T i) (w11 c T M i) := chk2_of i _ _ _ _
include hok hk in
theorem ok3 : k0_chk3 i (w0 c M) (w2 c T i) (w6 c T i) (w11 c T M i) (w15 c T M i) := chk3_of i _ _ _ _ _ fun h => by
  rcases l15 c T M i hok hk with h' | h'
  · have := ((cond3_iff i _ _ _).1 h).2; omega
  · exact h'.1
include hok hk in
theorem okh : k0_cond1 i (w0 c M) = 1#1 := (cond1_iff i _ hok.le).2 hk

/-- The tile's result: what the last block of columns is made of, and the other pieces. -/
def tileW (gx : Buf (Elt F) (arg3.view.loc (c : Thread nD τ))) (g4 : Buf (Elt F) (arg4.view.loc (c : Thread nD τ))) (g5 : Buf (Elt F) (arg5.view.loc (c : Thread nD τ))) :=
  (tileRun c XU XD i arg3 harg3 arg4 harg4 arg5 harg5 arg8 harg8 (w0 c M) (w2 c T i) (ok1 c T M i hok) (w6 c T i) (ok4 c T M i hok) (w9 c T i) (w11 c T M i)
    (ok2 c T M i) (w12 c T M i) (w15 c T M i) (ok3 c T M i hok hk) (okh c T M i hok hk) x8M hx8 hM hh hqM hhq gx g4 g5).1

abbrev CaseAt (gx : Buf (Elt F) (arg3.view.loc (c : Thread nD τ))) (Rin Rout : sProp 𝕄) : Prop :=
  Part1Case c XU XD i arg3 harg3 arg4 harg4 arg5 harg5 arg8 harg8 (w0 c M) (w2 c T i) (ok1 c T M i hok) (w6 c T i) (ok4 c T M i hok) (w9 c T i) (w11 c T M i)
    (ok2 c T M i) (w12 c T M i) (w15 c T M i) (ok3 c T M i hok hk) (okh c T M i hok hk) x8M hx8 hM hh hqM hhq gx Rin Rout

/-- A live tile's body from a case of its control part, anything else held aside. -/
theorem step_of (q : PosShare TreeShare) (gx) (g4) (g5) (gO) (Rin Rout A B X : sProp 𝕄)
    (hcase : CaseAt c XU XD T M i arg3 harg3 arg4 harg4 arg5 harg5 arg8 harg8 x8M hx8 hM hh hqM hhq hok hk gx Rin Rout)
    (hA : A ⊢ iprop(Rin ∗ X)) (hB : iprop(Cur c XU XD (slotOf (w11 c T M i)) (expOf (w2 c T i)) ∗ Rout ∗ X) ⊢ B) :
    iprop((teP c T q ∗ meP c M q ∗ xsP c arg3 gx ∗ s1P c arg4 g4 ∗ s2P c arg5 g5 ∗ outP c arg8 gO ∗ Scr c x8M hM hqM ∗ Ow c) ∗ A)
      ⊢ wp frame (wpE (defs₀ (F := F)) 𝒱₀ (c : Thread nD τ) none) Set.univ
      (bodyG i arg3 harg3 arg4 harg4 arg5 harg5 arg8 harg8 x8M hx8 hM hh hqM hhq)
      (fun _ => iprop((teP c T q ∗ meP c M q ∗ xsP c arg3 gx ∗ s1P c arg4 g4 ∗ s2P c arg5 g5
        ∗ outP c arg8 (arg8.view.writes (Elt F) gO (liveL (tileW c XU XD T M i arg3 harg3 arg4 harg4 arg5 harg5 arg8 harg8 x8M hx8 hM hh hqM hhq hok hk gx g4 g5)))
        ∗ Scr c x8M hM hqM ∗ Ow c) ∗ B)) := by
  have h := liveRun c XU XD T M i arg3 harg3 arg4 harg4 arg5 harg5 arg8 harg8 x8M hx8 hM hh hqM hhq q gx g4 g5 gO
    (w0 c M) (w2 c T i) (w6 c T i) (w11 c T M i) (w15 c T M i) rfl rfl rfl rfl rfl (l2 c T M i hok) (w9 c T i) rfl (w12 c T M i) rfl
    (ok1 c T M i hok) (ok4 c T M i hok) (ok2 c T M i) (ok3 c T M i hok hk) (okh c T M i hok hk) Rin Rout hcase
  refine BIBase.Entails.trans ?_ (((sep_mono h (.rfl (P := X))).trans (wp_frame_r _ _ _)).trans (wp_mono _ _ _ fun _ => ?_))
  · iintro ⟨⟨HT, HM, Hx, H4, H5, HO, HS, HW⟩, HA⟩
    ihave HA' := hA $$ HA
    icases HA' with ⟨HR, HX⟩
    isplitr [HX]
    · isplitl [HT]; · iexact HT
      isplitl [HM]; · iexact HM
      isplitl [Hx]; · iexact Hx
      isplitl [H4]; · iexact H4
      isplitl [H5]; · iexact H5
      isplitl [HO]; · iexact HO
      isplitl [HS]; · iexact HS
      isplitl [HR]; · iexact HR
      iexact HW
    · iexact HX
  · iintro ⟨⟨HT, HM, Hx, H4, H5, HO, HS, HC, HR, HW⟩, HX⟩
    isplitr [HC HR HX]
    · isplitl [HT]; · iexact HT
      isplitl [HM]; · iexact HM
      isplitl [Hx]; · iexact Hx
      isplitl [H4]; · iexact H4
      isplitl [H5]; · iexact H5
      isplitl [HO]; · iexact HO
      isplitl [HS]; · iexact HS
      iexact HW
    · iapply hB
      isplitl [HC]; · iexact HC
      isplitl [HR] <;> iassumption

/-- One live tile: from what is held after the tiles before it to what is held after it. -/
theorem stepRun (q : PosShare TreeShare) (gx) (g4) (g5) (gO) :
    iprop((teP c T q ∗ meP c M q ∗ xsP c arg3 gx ∗ s1P c arg4 g4 ∗ s2P c arg5 g5 ∗ outP c arg8 gO ∗ Scr c x8M hM hqM ∗ Ow c) ∗ Inv c XU XD T M (i 0).val)
      ⊢ wp frame (wpE (defs₀ (F := F)) 𝒱₀ (c : Thread nD τ) none) Set.univ
      (bodyG i arg3 harg3 arg4 harg4 arg5 harg5 arg8 harg8 x8M hx8 hM hh hqM hhq)
      (fun _ => iprop((teP c T q ∗ meP c M q ∗ xsP c arg3 gx ∗ s1P c arg4 g4 ∗ s2P c arg5 g5
        ∗ outP c arg8 (arg8.view.writes (Elt F) gO (liveL (tileW c XU XD T M i arg3 harg3 arg4 harg4 arg5 harg5 arg8 harg8 x8M hx8 hM hh hqM hhq hok hk gx g4 g5)))
        ∗ Scr c x8M hM hqM ∗ Ow c) ∗ Inv c XU XD T M ((i 0).val + 1))) := by
  have L2 := l2 c T M i hok
  have L15 := l15 c T M i hok hk
  by_cases h0 : (i 0).val = 0
  · have c2 : k0_cond2 i = 1#1 := (cond2_iff i).2 h0
    have c4 : k0_cond4 i (w2 c T i) (w6 c T i) = 1#1 := (cond4_iff i _ _).2 (.inl h0)
    by_cases hn : 0 ≤ (w15 c T M i).toInt
    · have c3 : k0_cond3 i (w2 c T i) (w6 c T i) (w15 c T M i) = 1#1 := (cond3_iff i _ _ _).2 ⟨.inl h0, hn⟩
      have L15' : (w15 c T M i).toNat < 16 := L15.elim (fun h => by omega) (·.1)
      refine step_of c XU XD T M i arg3 harg3 arg4 harg4 arg5 harg5 arg8 harg8 x8M hx8 hM hh hqM hhq hok hk q gx g4 g5 gO _ _ _ _ iprop(emp)
        (part1_first_next c XU XD i arg3 harg3 arg4 harg4 arg5 harg5 arg8 harg8 _ _ _ _ _ _ _ _ _ _ _ _ x8M hx8 hM hh hqM hhq gx fullShare.left fullShare.right L2 L15' c2 c3 c4) ?_ ?_
      · rw [h0, Inv_zero]
        iintro ⟨Hl, Hr, H01⟩
        ihave H := (free_two c (slotOf (w11 c T M i))) $$ H01
        isplitl; swap; · iempintro
        isplitl [Hl]; · iexact Hl
        isplitl [Hr]; · iexact Hr
        iexact H
      · rw [Inv_succ]
        iintro ⟨HC, ⟨Hl, HF⟩, -⟩
        iexists true
        unfold After Ahead
        rw [if_pos hn]
        isplitl [Hl]; · iexact Hl
        isplitl [HC]; · iexact HC
        iexact HF
    · have c3 : ¬ k0_cond3 i (w2 c T i) (w6 c T i) (w15 c T M i) = 1#1 := fun h => hn ((cond3_iff i _ _ _).1 h).2
      refine step_of c XU XD T M i arg3 harg3 arg4 harg4 arg5 harg5 arg8 harg8 x8M hx8 hM hh hqM hhq hok hk q gx g4 g5 gO _ _ _ _
        iprop(Tok c XU XD fullShare.right ∗ FreeAt c (oth (slotOf (w11 c T M i))))
        (part1_first_last c XU XD i arg3 harg3 arg4 harg4 arg5 harg5 arg8 harg8 _ _ _ _ _ _ _ _ _ _ _ _ x8M hx8 hM hh hqM hhq gx fullShare.left L2 c2 c3 c4) ?_ ?_
      · rw [h0, Inv_zero]
        iintro ⟨Hl, Hr, H01⟩
        ihave H := (free_two c (slotOf (w11 c T M i))) $$ H01
        icases H with ⟨Hs, Ho⟩
        isplitl [Hl Hs]
        · isplitl [Hl] <;> iassumption
        isplitl [Hr] <;> iassumption
      · rw [Inv_succ]
        iintro ⟨HC, Hl, Hr, Ho⟩
        iexists true
        unfold After Ahead
        rw [if_neg hn]
        isplitl [Hl]; · iexact Hl
        isplitl [HC]; · iexact HC
        isplitl [Hr]; · iexact Hr
        iexact Ho
  · obtain ⟨k, hk1⟩ : ∃ k, (i 0).val = k + 1 := ⟨(i 0).val - 1, by omega⟩
    have c2 : ¬ k0_cond2 i = 1#1 := fun h => h0 ((cond2_iff i).1 h)
    have e6 : w6 c T i = Tab.tE T k := by show Tab.tE T ((i 0).val - 1) = _; rw [hk1]; rfl
    have e2 : w2 c T i = Tab.tE T (k + 1) := by show Tab.tE T (i 0).val = _; rw [hk1]
    rw [hk1]
    by_cases hs : w2 c T i = w6 c T i
    · have c4 : ¬ k0_cond4 i (w2 c T i) (w6 c T i) = 1#1 := fun h => ((cond4_iff i _ _).1 h).elim h0 (· hs)
      have c3 : ¬ k0_cond3 i (w2 c T i) (w6 c T i) (w15 c T M i) = 1#1 := fun h => ((cond3_iff i _ _ _).1 h).1.elim h0 (· hs)
      have e : Tab.tE T k = w2 c T i := e6.symm.trans hs.symm
      have e' : Tab.tE T (k + 1) = w2 c T i := e2.symm
      rw [Inv_succ, Inv_succ, e, e']
      iintro ⟨HP, ⟨%b, HA⟩⟩
      iapply (step_of c XU XD T M i arg3 harg3 arg4 harg4 arg5 harg5 arg8 harg8 x8M hx8 hM hh hqM hhq hok hk q gx g4 g5 gO _ _
        (After c XU XD M (w2 c T i) b) iprop(∃ b, After c XU XD M (w2 c T i) b)
        iprop(Tok c XU XD (tshare b) ∗ Ahead c XU XD M (w2 c T i) (!b))
        (part1_same c XU XD i arg3 harg3 arg4 harg4 arg5 harg5 arg8 harg8 _ _ _ _ _ _ _ _ _ _ _ _ x8M hx8 hM hh hqM hhq gx c2 c3 c4) ?_ ?_)
      · unfold After
        iintro ⟨Hl, HC, HN⟩
        isplitl [HC]; · iexact HC
        isplitl [Hl] <;> iassumption
      · iintro ⟨HC, -, Hl, HN⟩
        iexists b
        unfold After
        isplitl [Hl]; · iexact Hl
        isplitl [HC]; · iexact HC
        iexact HN
      · isplitl [HP] <;> iassumption
    · have hch := hok.change k (by omega) (by rw [← e6, ← e2]; exact fun h => hs h.symm)
      have c4 : k0_cond4 i (w2 c T i) (w6 c T i) = 1#1 := (cond4_iff i _ _).2 (.inr hs)
      have e16 : Tab.mW M (16 + (Tab.tE T k).toNat) = w2 c T i := hch.1.trans e2.symm
      have eo : slotOf (w11 c T M i) = oth (slotAt c M (Tab.tE T k)) := by
        refine slot_xor _ _ ?_
        show (Tab.mW M _ ^^^ Tab.mW M (w2 c T i).toNat) &&& 1#32 = 1#32
        rw [e2]; exact hch.2
      have eo' : slotAt c M (Tab.tE T k) = oth (slotOf (w11 c T M i)) := by rw [eo, oth_oth]
      have p16 : 0 ≤ (Tab.mW M (16 + (Tab.tE T k).toNat)).toInt := by
        rw [e16, small_toInt _ (by omega)]; omega
      have e' : Tab.tE T (k + 1) = w2 c T i := e2.symm
      have hA : ∀ b, After c XU XD M (Tab.tE T k) b ⊢ iprop(Tok c XU XD (tshare b) ∗ FreeAt c (oth (slotOf (w11 c T M i)))
          ∗ FlyTo c XU XD (tshare (!b)) (slotOf (w11 c T M i)) (expOf (w2 c T i))) := fun b => by
        unfold After Ahead
        rw [if_pos p16, e16, ← eo, eo']
        iintro ⟨Hl, HC, HF⟩
        isplitl [Hl]; · iexact Hl
        isplitl [HC]
        · iapply (Cur_free c XU XD _ (expOf (Tab.tE T k))); iexact HC
        iexact HF
      rw [Inv_succ, Inv_succ, e']
      iintro ⟨HP, ⟨%b, HA⟩⟩
      by_cases hn : 0 ≤ (w15 c T M i).toInt
      · have c3 : k0_cond3 i (w2 c T i) (w6 c T i) (w15 c T M i) = 1#1 := (cond3_iff i _ _ _).2 ⟨.inr hs, hn⟩
        have L15' : (w15 c T M i).toNat < 16 := L15.elim (fun h => by omega) (·.1)
        iapply (step_of c XU XD T M i arg3 harg3 arg4 harg4 arg5 harg5 arg8 harg8 x8M hx8 hM hh hqM hhq hok hk q gx g4 g5 gO _ _
          (After c XU XD M (Tab.tE T k) b) iprop(∃ b, After c XU XD M (w2 c T i) b) iprop(emp)
          (part1_change_next c XU XD i arg3 harg3 arg4 harg4 arg5 harg5 arg8 harg8 _ _ _ _ _ _ _ _ _ _ _ _ x8M hx8 hM hh hqM hhq gx (tshare (!b)) (tshare b) L2 L15' c2 c3 c4) ?_ ?_)
        · refine (hA b).trans ?_
          iintro ⟨Hl, HF, HFl⟩
          isplitl; swap; · iempintro
          isplitl [Hl]; · iexact Hl
          isplitl [HFl] <;> iassumption
        · iintro ⟨HC, ⟨Hl, HF⟩, -⟩
          iexists (!b)
          unfold After Ahead
          rw [if_pos hn, Bool.not_not]
          isplitl [Hl]; · iexact Hl
          isplitl [HC]; · iexact HC
          iexact HF
        · isplitl [HP] <;> iassumption
      · have c3 : ¬ k0_cond3 i (w2 c T i) (w6 c T i) (w15 c T M i) = 1#1 := fun h => hn ((cond3_iff i _ _ _).1 h).2
        iapply (step_of c XU XD T M i arg3 harg3 arg4 harg4 arg5 harg5 arg8 harg8 x8M hx8 hM hh hqM hhq hok hk q gx g4 g5 gO _ _
          (After c XU XD M (Tab.tE T k) b) iprop(∃ b, After c XU XD M (w2 c T i) b)
          iprop(Tok c XU XD (tshare b) ∗ FreeAt c (oth (slotOf (w11 c T M i))))
          (part1_change_last c XU XD i arg3 harg3 arg4 harg4 arg5 harg5 arg8 harg8 _ _ _ _ _ _ _ _ _ _ _ _ x8M hx8 hM hh hqM hhq gx (tshare (!b)) L2 c2 c3 c4) ?_ ?_)
        · refine (hA b).trans ?_
          iintro ⟨Hl, HF, HFl⟩
          isplitl [HFl]; · iexact HFl
          isplitl [Hl] <;> iassumption
        · iintro ⟨HC, Hq, Hl, HF⟩
          iexists (!b)
          unfold After Ahead
          rw [if_neg hn, Bool.not_not]
          isplitl [Hq]; · iexact Hq
          isplitl [HC]; · iexact HC
          isplitl [Hl]; · iexact Hl
          iexact HF
        · isplitl [HP] <;> iassumption

include hok in
/-- Past the last live tile nothing is in flight: the weights whole again, both slots free. -/
theorem inv_last : Inv c XU XD T M (Tab.nT M) ⊢ iprop(Tok c XU XD fullShare.left ∗ Tok c XU XD fullShare.right ∗ FreeAt c 0 ∗ FreeAt c 1) := by
  obtain ⟨k, hk1⟩ : ∃ k, Tab.nT M = k + 1 := ⟨Tab.nT M - 1, by have := hok.one_le; omega⟩
  have hl := hok.last k hk1.symm
  rw [hk1, Inv_succ]
  iintro ⟨%b, HA⟩
  unfold After Ahead
  rw [if_neg (by omega)]
  icases HA with ⟨Hl, HC, Hr, Ho⟩
  ihave HF := (Cur_free c XU XD (slotAt c M (Tab.tE T k)) (expOf (Tab.tE T k))) $$ HC
  ihave H01 := (two_free c (slotAt c M (Tab.tE T k))) $$ [HF Ho]
  · isplitl [HF] <;> iassumption
  icases H01 with ⟨H0, H1⟩
  cases b
  · isplitl [Hr]; · iexact Hr
    isplitl [Hl]; · iexact Hl
    isplitl [H0] <;> iassumption
  · isplitl [Hl]; · iexact Hl
    isplitl [Hr]; · iexact Hr
    isplitl [H0] <;> iassumption

end Step

end Cert.Proof.Ffn

end
-- ==== Proof.Points.lean ====
/-
  The grid's points under the tables: which block each point names, which points are live, and where the output's
  buffer is written back.
-/
module

public import proofs.«01_k».proof.Proof.Step
public import proofs.«01_k».proof.Proof.Gen.Kernel.Launch
public import Idealize.ShloMosaic.Lib.Pipeline.TableIdle
public import Idealize.ShloMosaic.Lib.Pipeline.Quiescent
public import Idealize.ShloMosaic.Lib.Pipeline.FrameBody

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- The number of live tiles, read from the second table. -/
abbrev nL (pf : pre0.Contents (Elt F)) : Nat := Tab.nT (pf 1)
abbrev OkPf (pf : pre0.Contents (Elt F)) : Prop := Tab.Ok (pf 0) (pf 1)

theorem at32 (pf : pre0.Contents (Elt F)) : pf.at 1 (Rect.unit (s := S48) ![32] S1.size inb_S48_S1_32) numel1_S1 = Tab.mW (pf 1) 32 := by
  refine congrArg (pf 1) (funext fun x => ?_)
  fin_cases x
  rfl
theorem atD32 (pf : pre0.Contents (Elt F)) : pf.atD 1 ![32] = Tab.mW (pf 1) 32 := by
  unfold Pipeline.Prefetch.Contents.atD
  rw [dif_pos (by decide)]
  refine congrArg (pf 1) (funext fun x => ?_)
  fin_cases x
  rfl

theorem min_word (i : Nat) (v : BitVec 32) (hi : i < 208) (h1 : 1 ≤ v.toNat) (h2 : v.toNat ≤ 208) :
    (Scalar.minsi (BitVec.ofNat 32 i) (Scalar.subi v 1#32)).toNat = min i (v.toNat - 1) := by
  have e1 : (Scalar.subi v 1#32).toNat = v.toNat - 1 := by
    show (v - 1#32).toNat = _
    rw [BitVec.toNat_sub]; have := v.isLt; simp only [BitVec.toNat_ofNat]; omega
  have e2 : (BitVec.ofNat 32 i).toNat = i := by rw [BitVec.toNat_ofNat]; omega
  have s1 := small_toInt (BitVec.ofNat 32 i) (by omega)
  have s2 := small_toInt (Scalar.subi v 1#32) (by omega)
  show (if (BitVec.ofNat 32 i).slt (Scalar.subi v 1#32) then _ else _ : BitVec 32).toNat = _
  by_cases h : (BitVec.ofNat 32 i).slt (Scalar.subi v 1#32) = true
  · rw [if_pos h, e2]; rw [BitVec.slt_iff_toInt_lt] at h; omega
  · rw [if_neg h, e1]; rw [BitVec.slt_iff_toInt_lt] at h; omega

section
variable (pf : pre0.Contents (Elt F)) (hok : OkPf pf)
include hok

theorem tr0_eq (i : grid0.Coords) : cc0_transform_0 inb_S48_S1_32 numel1_S1 pf i = ![min (i 0).val (nL pf - 1), 0] := by
  have e : (Scalar.minsi (BitVec.ofNat 32 (i 0).val) (Scalar.subi (pf.at 1 (Rect.unit (s := S48) ![32] S1.size inb_S48_S1_32) numel1_S1) 1#32)).toNat
      = min (i 0).val (nL pf - 1) := by
    rw [at32]; exact min_word _ _ (co_lt i) hok.one_le hok.le
  unfold cc0_transform_0
  funext a
  match a with
  | 0 => exact e
  | 1 => rfl
theorem tr5_eq (i : grid0.Coords) : cc0_transform_5 inb_S48_S1_32 numel1_S1 pf i = ![min (i 0).val (nL pf - 1), 0] := by
  have e : (Scalar.minsi (BitVec.ofNat 32 (i 0).val) (Scalar.subi (pf.at 1 (Rect.unit (s := S48) ![32] S1.size inb_S48_S1_32) numel1_S1) 1#32)).toNat
      = min (i 0).val (nL pf - 1) := by
    rw [at32]; exact min_word _ _ (co_lt i) hok.one_le hok.le
  unfold cc0_transform_5
  funext a
  match a with
  | 0 => exact e
  | 1 => rfl

/-- The tables the precondition admits meet the region's side condition. -/
theorem ok0_of : ok0 pf := by
  have hle := hok.le
  refine ⟨fun i => ⟨?_, .inl rfl⟩, fun i => ⟨?_, .inl rfl⟩⟩
  · rw [tr0_eq pf hok]
    intro a
    match a with
    | 0 => show (min (i 0).val (nL pf - 1) + 1) * 256 ≤ 53248; have : min (i 0).val (nL pf - 1) ≤ nL pf - 1 := Nat.min_le_right _ _; have := co_lt i; omega
    | 1 => show (0 + 1) * 1408 ≤ 1408; omega
  · rw [tr5_eq pf hok]
    intro a
    match a with
    | 0 => show (min (i 0).val (nL pf - 1) + 1) * 256 ≤ 53248; have : min (i 0).val (nL pf - 1) ≤ nL pf - 1 := Nat.min_le_right _ _; have := co_lt i; omega
    | 1 => show (0 + 1) * 5120 ≤ 5120; omega
end

theorem co_val (t : Fin grid0.N) : ((grid0.coords t) 0).val = t.val := by
  revert t; decide +kernel

section
variable (a : (pcfg0 (F := F)).Adm) (hok : OkPf a.1)

theorem N_a : (cfg0 a).N = 208 := N_0
theorem co_a (t : Fin (cfg0 a).N) : (((cfg0 a).grid.coords t) 0).val = t.val := co_val t

theorem live0 (i) : (cfg0 a).idle 0 i = false := rfl
theorem live1 (i) : (cfg0 a).idle 1 i = false := rfl
theorem live2 (i) : (cfg0 a).idle 2 i = false := rfl
include hok
/-- The output's window is idle past the live tiles only. -/
theorem idle3 (t : Fin (cfg0 a).N) : (cfg0 a).idle 3 ((cfg0 a).grid.coords t) = !(decide (t.val < nL a.1)) := by
  show (!(k0_cond1 (grid0.coords t) (a.1.atD 1 ![32]) == 1#1)) = _
  rw [atD32]
  have e := cond1_iff (grid0.coords t) (Tab.mW (a.1 1) 32) hok.le
  rw [co_val t] at e
  by_cases h : t.val < nL a.1
  · rw [decide_eq_true h, beq_iff_eq.2 (e.2 h)]
  · rw [decide_eq_false h]
    have : ¬ (k0_cond1 (grid0.coords t) (Tab.mW (a.1 1) 32) = 1#1) := fun h' => h (e.1 h')
    exact congrArg (!·) (beq_eq_false_iff_ne.2 this)
theorem index0 (t : Fin (cfg0 a).N) : ((cfg0 a).win 0).index t = ![min t.val (nL a.1 - 1), 0] := by
  have := tr0_eq a.1 hok (grid0.coords t); rw [co_val t] at this; exact this
theorem index3 (t : Fin (cfg0 a).N) : ((cfg0 a).win 3).index t = ![min t.val (nL a.1 - 1), 0] := by
  have := tr5_eq a.1 hok (grid0.coords t); rw [co_val t] at this; exact this

/-- Past the last live tile the output's buffer is written back at the last point only. -/
theorem flush3_late (t : Fin (cfg0 a).N) (h1 : nL a.1 ≤ t.val + 1) (h2 : t.val + 1 ≠ 208) : ((cfg0 a).win 3).flush t = false := by
  have hN := N_a a
  unfold Window.flush
  rw [Bool.and_eq_false_iff]; right
  rw [Bool.or_eq_false_iff]
  refine ⟨decide_eq_false (fun e => h2 (e.trans N_0)), decide_eq_false ?_⟩
  rintro ⟨h, hne⟩
  refine hne ?_
  rw [index3 a hok, index3 a hok]
  have : min (t.val + 1) (nL a.1 - 1) = min t.val (nL a.1 - 1) := by omega
  show ![min (t.val + 1) (nL a.1 - 1), 0] = _
  rw [this]
/-- A live tile's block is written back. -/
theorem flush3_live (t : Fin (cfg0 a).N) (h : t.val + 1 < nL a.1) : ((cfg0 a).win 3).flush t = true := by
  have hN := N_a a
  have hle : nL a.1 ≤ 208 := hok.le
  unfold Window.flush
  rw [Bool.and_eq_true]
  refine ⟨rfl, ?_⟩
  rw [Bool.or_eq_true]; right
  refine decide_eq_true ⟨by have hG : (cfg0 a).grid.N = 208 := N_0; omega, ?_⟩
  rw [index3 a hok, index3 a hok]
  intro e
  have e0 : min (t.val + 1) (nL a.1 - 1) = min t.val (nL a.1 - 1) := congrFun e 0
  omega
theorem flush3_last (t : Fin (cfg0 a).N) (h : t.val + 1 = 208) : ((cfg0 a).win 3).flush t = true := by
  unfold Window.flush
  rw [Bool.and_eq_true]
  refine ⟨rfl, ?_⟩
  rw [Bool.or_eq_true]; left
  exact decide_eq_true (h.trans N_0.symm)

theorem fresh3 : ∀ k, nL a.1 + k ≤ 207 → (cfg0 a).fresh 3 (nL a.1 + k) = false
  | 0, h => by
    have h1 := hok.one_le
    have hN := N_a a
    have h1' : 1 ≤ nL a.1 := h1
    obtain ⟨n, hn⟩ : ∃ n, nL a.1 = n + 1 := ⟨nL a.1 - 1, by omega⟩
    have hn' : nL a.1 + 0 = n + 1 := hn
    have hlt : n < (cfg0 a).N := by omega
    rw [hn', Cfg.fresh_succ _ _ n hlt, flush3_late a hok ⟨n, hlt⟩ (by show _ ≤ n + 1; omega) (by show n + 1 ≠ 208; omega),
      idle3 a hok, decide_eq_true (by show n < _; omega)]
    rfl
  | k + 1, h => by
    have hN := N_a a
    have hlt : nL a.1 + k < (cfg0 a).N := by omega
    rw [← Nat.add_assoc, Cfg.fresh_succ _ _ _ hlt, fresh3 k (by omega),
      flush3_late a hok ⟨_, hlt⟩ (by show _ ≤ nL a.1 + k + 1; omega) (by show nL a.1 + k + 1 ≠ 208; omega), Bool.and_false, Bool.or_false]
end

end Cert.Proof.Ffn

end
-- ==== Proof.Slots.lean ====
/-
  The weight buffers whole and by slots, the kernel's own semaphores, and the halves of what the weights are read at.
-/
module

public import proofs.«01_k».proof.Proof.Step
public import proofs.«01_k».proof.Proof.Gen.Kernel.Launch

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 4 → SemLoc sig := fun | 0 => .dma (csm 0 0).sem | 1 => .dma (csm 1 0).sem | 2 => .dma (csm 0 1).sem | 3 => .dma (csm 1 1).sem
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 1 0 ∗ cellP c 0 1 ∗ cellP c 1 1) := by
  unfold Pipeline.ownSems0; rw [bigSep_fin4]

/-! ## The slots -/

def UP2 (s : Fin 2) : Finset S2x5120x2816.Idx := (Rect.unit (s := S2x5120x2816) (slotOff s) S1x5120x2816.size (upSlot_inb s)).set
def DN2 (s : Fin 2) : Finset S2x1408x5120.Idx := (Rect.unit (s := S2x1408x5120) (slotOff s) S1x1408x5120.size (dnSlot_inb s)).set

theorem upSlot_set (s : Fin 2) : (upSlot s).view.set = UP2 s := (View.set_reshape _ _).trans (View.set_slice_whole _ _)
theorem dnSlot_set (s : Fin 2) : (dnSlot s).view.set = DN2 s := (View.set_reshape _ _).trans (View.set_slice_whole _ _)

theorem mem_UP2 (s : Fin 2) (y : S2x5120x2816.Idx) : y ∈ UP2 s ↔ (y 0).val = s.val := by
  unfold UP2
  rw [Rect.mem_set_unit]
  have h1 : (y 1).val < 5120 := (y 1).isLt
  have h2 : (y 2).val < 2816 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 5120; omega
    · show 0 ≤ (y 2).val ∧ (y 2).val < 0 + 2816; omega
theorem mem_DN2 (s : Fin 2) (y : S2x1408x5120.Idx) : y ∈ DN2 s ↔ (y 0).val = s.val := by
  unfold DN2
  rw [Rect.mem_set_unit]
  have h1 : (y 1).val < 1408 := (y 1).isLt
  have h2 : (y 2).val < 5120 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1408; omega
    · show 0 ≤ (y 2).val ∧ (y 2).val < 0 + 5120; omega

theorem UP2_disjoint : ∀ s s' : Fin 2, s ≠ s' → Disjoint (UP2 s) (UP2 s') := by
  intro s s' hne; rw [Finset.disjoint_left]; intro y hy hy'; rw [mem_UP2] at hy hy'; exact hne (Fin.ext (hy.symm.trans hy'))
theorem UP2_cover : (Finset.univ : Finset (Fin 2)).biUnion UP2 = Finset.univ := by
  ext y; simp only [Finset.mem_biUnion, Finset.mem_univ, true_and, iff_true]; exact ⟨(y 0).cast (by decide), by rw [mem_UP2]; rfl⟩
theorem DN2_disjoint : ∀ s s' : Fin 2, s ≠ s' → Disjoint (DN2 s) (DN2 s') := by
  intro s s' hne; rw [Finset.disjoint_left]; intro y hy hy'; rw [mem_DN2] at hy hy'; exact hne (Fin.ext (hy.symm.trans hy'))
theorem DN2_cover : (Finset.univ : Finset (Fin 2)).biUnion DN2 = Finset.univ := by
  ext y; simp only [Finset.mem_biUnion, Finset.mem_univ, true_and, iff_true]; exact ⟨(y 0).cast (by decide), by rw [mem_DN2]; rfl⟩

section
variable (c : Dev nD)

theorem upP_eq (s : Fin 2) (f : Buf (Elt F) ((c : Thread nD τ).loc cc0_scratch0)) : upP c s f = (((c : Thread nD τ).loc cc0_scratch0) ↦[UP2 s]{fullShare} f : sProp 𝕄) :=
  congrArg (fun S => (_ ↦[S]{fullShare} f : sProp 𝕄)) (upSlot_set s)
theorem dnP_eq (s : Fin 2) (f : Buf (Elt F) ((c : Thread nD τ).loc cc0_scratch1)) : dnP c s f = (((c : Thread nD τ).loc cc0_scratch1) ↦[DN2 s]{fullShare} f : sProp 𝕄) :=
  congrArg (fun S => (_ ↦[S]{fullShare} f : sProp 𝕄)) (dnSlot_set s)

theorem up_split :
    iprop(∃ f : Buf (Elt F) ((c : Thread nD τ).loc cc0_scratch0), ((c : Thread nD τ).loc cc0_scratch0) ↦{fullShare} f)
      ⊢ (iprop((∃ f, upP c 0 f) ∗ ∃ f, upP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) UP2 UP2_disjoint UP2_cover f).trans (bigSep_fin2 _))) $$ H
  icases H2 with ⟨H0, H1⟩
  isplitl [H0]
  · iexists f; iapply (entails_of_eq (upP_eq c 0 f).symm); iexact H0
  · iexists f; iapply (entails_of_eq (upP_eq c 1 f).symm); iexact H1
theorem up_join :
    iprop((∃ f, upP c 0 f) ∗ ∃ f, upP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) UP2 UP2_disjoint UP2_cover f0)
  iapply (entails_of_eq (bigSep_fin2 _).symm)
  isplitl [H0]
  · iexists f0; iapply (entails_of_eq (upP_eq c 0 f0)); iexact H0
  · iexists f1; iapply (entails_of_eq (upP_eq c 1 f1)); iexact H1
theorem dn_split :
    iprop(∃ f : Buf (Elt F) ((c : Thread nD τ).loc cc0_scratch1), ((c : Thread nD τ).loc cc0_scratch1) ↦{fullShare} f)
      ⊢ (iprop((∃ f, dnP c 0 f) ∗ ∃ f, dnP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) DN2 DN2_disjoint DN2_cover f).trans (bigSep_fin2 _))) $$ H
  icases H2 with ⟨H0, H1⟩
  isplitl [H0]
  · iexists f; iapply (entails_of_eq (dnP_eq c 0 f).symm); iexact H0
  · iexists f; iapply (entails_of_eq (dnP_eq c 1 f).symm); iexact H1
theorem dn_join :
    iprop((∃ f, dnP c 0 f) ∗ ∃ f, dnP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) DN2 DN2_disjoint DN2_cover f0)
  iapply (entails_of_eq (bigSep_fin2 _).symm)
  isplitl [H0]
  · iexists f0; iapply (entails_of_eq (dnP_eq c 0 f0)); iexact H0
  · iexists f1; iapply (entails_of_eq (dnP_eq c 1 f1)); iexact H1

variable (XU : Buf (Elt F) (upM.view.loc (c : Thread nD τ))) (XD : Buf (Elt F) (dnM.view.loc (c : Thread nD τ)))

/-- The weights whole are the two halves of their share. -/
theorem tok_split : iprop((((c : Thread nD τ).loc main_arg5) ↦{fullShare} XU) ∗ (((c : Thread nD τ).loc main_arg6) ↦{fullShare} XD))
    ⊢ (iprop(Tok c XU XD fullShare.left ∗ Tok c XU XD fullShare.right) : sProp 𝕄) := by
  unfold Tok
  iintro ⟨HU, HD⟩
  ihave HU2 := (pointsTo_share (PosShare.mem_left_op_right fullShare)).1 $$ HU
  ihave HD2 := (pointsTo_share (PosShare.mem_left_op_right fullShare)).1 $$ HD
  icases HU2 with ⟨H1, H2⟩
  icases HD2 with ⟨H3, H4⟩
  isplitl [H1 H3]
  · isplitl [H1] <;> iassumption
  · isplitl [H2] <;> iassumption
theorem tok_join : (iprop(Tok c XU XD fullShare.left ∗ Tok c XU XD fullShare.right) : sProp 𝕄)
    ⊢ iprop((((c : Thread nD τ).loc main_arg5) ↦{fullShare} XU) ∗ (((c : Thread nD τ).loc main_arg6) ↦{fullShare} XD)) := by
  unfold Tok
  iintro ⟨⟨H1, H3⟩, ⟨H2, H4⟩⟩
  isplitl [H1 H2]
  · iapply (pointsTo_share (PosShare.mem_left_op_right fullShare)).2
    isplitl [H1] <;> iassumption
  · iapply (pointsTo_share (PosShare.mem_left_op_right fullShare)).2
    isplitl [H3] <;> iassumption

abbrev x8S : Memref sig .tc .vmem S256x5120 .fp8e4m3 := Memref.whole cc0_scratch2
abbrev hS : Memref sig .tc .vmem S256x1408 .f32 := Memref.whole cc0_scratch3
abbrev hqS : Memref sig .tc .vmem S256x1408 .fp8e4m3 := Memref.whole cc0_scratch4

/-- What the region starts from, by the kernel's pieces. -/
theorem start_split :
    iprop((((c : Thread nD τ).loc main_arg5) ↦{fullShare} XU) ∗ (((c : Thread nD τ).loc main_arg6) ↦{fullShare} XD)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c)
    ⊢ (iprop((Tok c XU XD fullShare.left ∗ Tok c XU XD fullShare.right ∗ FreeAt c 0 ∗ FreeAt c 1) ∗ Scr c x8S hS hqS) : sProp 𝕄) := by
  rw [ownSems0_eq, scopedRest0_eq]
  iintro ⟨HU, HD, ⟨C00, C10, C01, C11⟩, ⟨B0, B1, B2, B3, B4⟩⟩
  ihave HB0 := (up_split c) $$ B0
  ihave HB1 := (dn_split c) $$ B1
  icases HB0 with ⟨U0, U1⟩
  icases HB1 with ⟨D0, D1⟩
  ihave HT := (tok_split c XU XD) $$ [HU HD]
  · isplitl [HU] <;> iassumption
  icases HT with ⟨Tl, Tr⟩
  isplitr [B2 B3 B4]
  · isplitl [Tl]; · iexact Tl
    isplitl [Tr]; · iexact Tr
    unfold FreeAt
    isplitl [U0 D0 C00 C10]
    · isplitl [U0]; · iexact U0
      isplitl [D0]; · iexact D0
      isplitl [C00] <;> iassumption
    · isplitl [U1]; · iexact U1
      isplitl [D1]; · iexact D1
      isplitl [C01] <;> iassumption
  · unfold Scr
    rw [View.set_whole, View.set_whole, View.set_whole]
    isplitl [B2]; · iexact B2
    isplitl [B3]; · iexact B3
    iexact B4
/-- And back. -/
theorem end_join :
    (iprop((Tok c XU XD fullShare.left ∗ Tok c XU XD fullShare.right ∗ FreeAt c 0 ∗ FreeAt c 1) ∗ Scr c x8S hS hqS) : sProp 𝕄)
    ⊢ iprop(((((c : Thread nD τ).loc main_arg5) ↦{fullShare} XU) ∗ (((c : Thread nD τ).loc main_arg6) ↦{fullShare} XD))
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c) := by
  rw [ownSems0_eq, scopedRest0_eq]
  unfold FreeAt Scr
  rw [View.set_whole, View.set_whole, View.set_whole]
  iintro ⟨⟨Tl, Tr, ⟨U0, D0, C00, C10⟩, ⟨U1, D1, C01, C11⟩⟩, ⟨B2, B3, B4⟩⟩
  isplitl [Tl Tr]
  · iapply (tok_join c XU XD); isplitl [Tl] <;> iassumption
  isplitl [C00 C10 C01 C11]
  · isplitl [C00]; · iexact C00
    isplitl [C10]; · iexact C10
    isplitl [C01] <;> iassumption
  isplitl [U0 U1]; · iapply (up_join c); isplitl [U0] <;> iassumption
  isplitl [D0 D1]; · iapply (dn_join c); isplitl [D0] <;> iassumption
  isplitl [B2]; · iexact B2
  isplitl [B3]; · iexact B3
  iexact B4

end

end Cert.Proof.Ffn

end
-- ==== Proof.Frame.lean ====
/-
  The region's proof data, the body at every grid point, and the run of the whole program.
-/
module

public import proofs.«01_k».proof.Proof.Points
public import proofs.«01_k».proof.Proof.Slots

@[expose] public section

set_option maxRecDepth 16384

noncomputable section

namespace Cert.Proof.Ffn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The output block covered -/

section Cover
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)
  (hok : Tab.Ok T M) (hk : (i 0).val < Tab.nT M)

/-- A live tile's pieces cover the block. -/
theorem tile_cover (gx g4 g5) (y : S256x5120.Idx) :
    ∃ p ∈ liveL (tileW c XU XD T M i arg3 harg3 arg4 harg4 arg5 harg5 arg8 harg8 x8M hx8 hM hh hqM hhq hok hk gx g4 g5), y ∈ p.1.set :=
  View.cover_of_tiledL (s := S256x5120) _ S256x256.size (by sl_kernel_rfl) y

/-- What a live tile leaves, as a function of its inputs. -/
def tileVal (gx : Buf (Elt F) (arg3.view.loc (c : Thread nD τ))) (g4 : Buf (Elt F) (arg4.view.loc (c : Thread nD τ))) (g5 : Buf (Elt F) (arg5.view.loc (c : Thread nD τ))) : S256x5120.Idx → Elt F .f32 :=
  View.canon (liveL (tileW c XU XD T M i arg3 harg3 arg4 harg4 arg5 harg5 arg8 harg8 x8M hx8 hM hh hqM hhq hok hk gx g4 g5))
theorem tile_read (gx g4 g5 gO) :
    arg8.view.read (Elt F) (arg8.view.writes (Elt F) gO (liveL (tileW c XU XD T M i arg3 harg3 arg4 harg4 arg5 harg5 arg8 harg8 x8M hx8 hM hh hqM hhq hok hk gx g4 g5)))
      = tileVal c XU XD T M i arg3 harg3 arg4 harg4 arg5 harg5 arg8 harg8 x8M hx8 hM hh hqM hhq hok hk gx g4 g5 :=
  View.read_writes_eq_canon _ _ _ (tile_cover c XU XD T M i arg3 harg3 arg4 harg4 arg5 harg5 arg8 harg8 x8M hx8 hM hh hqM hhq hok hk gx g4 g5)
end Cover

/-! ## The proof data -/

section Data
variable (V : (c : Dev nD) → (b : Ref sig .tc) → Buf (Elt F) ((c : Thread nD τ).loc b)) (a : (pcfg0 (F := F)).Adm) (hok : OkPf a.1)

abbrev tA (c : Dev nD) : Buf (Elt F) (teM.view.loc (c : Thread nD τ)) := a.1 0
abbrev mA (c : Dev nD) : Buf (Elt F) (meM.view.loc (c : Thread nD τ)) := a.1 1
abbrev uA (c : Dev nD) : Buf (Elt F) (upM.view.loc (c : Thread nD τ)) := V c main_arg5
abbrev dA (c : Dev nD) : Buf (Elt F) (dnM.view.loc (c : Thread nD τ)) := V c main_arg6

abbrev st0 (t : Fin (cfg0 a).N) : Memref sig .tc .vmem S256x1408 .i32 := spec0_0.stage ((cfg0 a).slots t 0)
abbrev st1 (t : Fin (cfg0 a).N) : Memref sig .tc .vmem S16x1x2816 .f32 := spec0_1.stage ((cfg0 a).slots t 1)
abbrev st2 (t : Fin (cfg0 a).N) : Memref sig .tc .vmem S16x1x5120 .f32 := spec0_2.stage ((cfg0 a).slots t 2)
abbrev st3 (t : Fin (cfg0 a).N) : Memref sig .tc .vmem S256x5120 .f32 := spec0_3.stage ((cfg0 a).slots t 3)
abbrev hst0 (t : Fin (cfg0 a).N) : (st0 a t).IsWhole := hstage0_0 (((cfg0 a).slots t 0).cast nbuf0_0)
abbrev hst1 (t : Fin (cfg0 a).N) : (st1 a t).IsWhole := hstage0_1 (((cfg0 a).slots t 1).cast nbuf0_1)
abbrev hst2 (t : Fin (cfg0 a).N) : (st2 a t).IsWhole := hstage0_2 (((cfg0 a).slots t 2).cast nbuf0_2)
abbrev hst3 (t : Fin (cfg0 a).N) : (st3 a t).IsWhole := hstage0_3 (((cfg0 a).slots t 3).cast nbuf0_3)

/-- An array at launch. -/
def arr0 (c : Dev nD) (w : Fin (cfg0 a).W) : Buf (Elt F) (((cfg0 a).win w).arr.view.loc (c : Thread nD τ)) := V c (Pipeline.arrRef spec0 w)
/-- What an input's staging buffer holds at a point. -/
def inAt (c : Dev nD) (w : Fin (cfg0 a).W) (t : Fin (cfg0 a).N) : ((cfg0 a).win w).block.Idx → Elt F ((cfg0 a).win w).elt :=
  Pipeline.heldIn (cfg0 a) (arr0 V a c) w t.val t.isLt

include hok in
theorem live_lt (t : Fin (cfg0 a).N) (h : t.val < nL a.1) : (((cfg0 a).grid.coords t) 0).val < Tab.nT (mA a 0) := by
  rw [co_a]; exact h

/-- What a live tile leaves in the output's staging buffer. -/
def outLive (c : Dev nD) (t : Fin (cfg0 a).N) (h : t.val < nL a.1) : S256x5120.Idx → Elt F .f32 :=
  tileVal c (uA V c) (dA V c) (tA a c) (mA a c) ((cfg0 a).grid.coords t) (st0 a t) (hst0 a t) (st1 a t) (hst1 a t) (st2 a t) (hst2 a t) (st3 a t) (hst3 a t)
    x8S (Memref.isWhole_whole _) hS (Memref.isWhole_whole _) hqS (Memref.isWhole_whole _) hok (live_lt a hok t h)
    ((st0 a t).view.rep (inAt V a c 0 t)) ((st1 a t).view.rep (inAt V a c 1 t)) ((st2 a t).view.rep (inAt V a c 2 t))

/-- The last live point at or before a point. -/
def lastLive (t : Fin (cfg0 a).N) : Fin (cfg0 a).N := ⟨min t.val (nL a.1 - 1), Nat.lt_of_le_of_lt (Nat.min_le_left _ _) t.isLt⟩
include hok in
theorem lastLive_lt (t : Fin (cfg0 a).N) : (lastLive a t).val < nL a.1 := by
  have h : 1 ≤ nL a.1 := hok.one_le
  show min t.val (nL a.1 - 1) < _; omega
def outAt (c : Dev nD) (t : Fin (cfg0 a).N) : S256x5120.Idx → Elt F .f32 := outLive V a hok c (lastLive a t) (lastLive_lt a hok t)

def Φ (c : Dev nD) (k : ℕ) : sProp 𝕄 :=
  iprop(teP c (tA a c) fullShare.right ∗ meP c (mA a c) fullShare.right ∗ Scr c x8S hS hqS ∗ Inv c (uA V c) (dA V c) (tA a c) (mA a c) (min k (nL a.1)))

def dats (_ : Fin 1) (c : Dev nD) : Dat τ (Elt F) Unit ℕ (UU nD τ) ℕ (cfg0 a) c where
  A := arr0 V a c
  after w t := match w with
    | ⟨0, _⟩ => inAt V a c 0 t
    | ⟨1, _⟩ => inAt V a c 1 t
    | ⟨2, _⟩ => inAt V a c 2 t
    | ⟨3, _⟩ => outAt V a hok c t
  Φ k := Φ V a c k.val
  q _ := fullShare
  owed _ := 0

theorem after_w0 (c : Dev nD) (t) : (dats V a hok 0 c).after 0 t = inAt V a c 0 t := rfl
theorem after_w1 (c : Dev nD) (t) : (dats V a hok 0 c).after 1 t = inAt V a c 1 t := rfl
theorem after_w2 (c : Dev nD) (t) : (dats V a hok 0 c).after 2 t = inAt V a c 2 t := rfl
theorem after_w3 (c : Dev nD) (t) : (dats V a hok 0 c).after 3 t = outAt V a hok c t := by unfold dats; exact Eq.refl (outAt V a hok c t)
theorem before_w0 (c : Dev nD) (t) (d) : (dats V a hok 0 c).before 0 t d = inAt V a c 0 t :=
  (dats V a hok 0 c).before_eq_heldIn 0 rfl (fun _ => rfl) (fun _ _ => rfl) (fun t => after_w0 V a hok c t) t d
theorem before_w1 (c : Dev nD) (t) (d) : (dats V a hok 0 c).before 1 t d = inAt V a c 1 t :=
  (dats V a hok 0 c).before_eq_heldIn 1 rfl (fun _ => rfl) (fun _ _ => rfl) (fun t => after_w1 V a hok c t) t d
theorem before_w2 (c : Dev nD) (t) (d) : (dats V a hok 0 c).before 2 t d = inAt V a c 2 t :=
  (dats V a hok 0 c).before_eq_heldIn 2 rfl (fun _ => rfl) (fun _ _ => rfl) (fun t => after_w2 V a hok c t) t d

theorem outAt_carry (c : Dev nD) (t : Fin (cfg0 a).N) (h0 : t.val ≠ 0) (h : nL a.1 ≤ t.val) :
    outAt V a hok c t = outAt V a hok c ⟨t.val - 1, by omega⟩ := by
  have e : lastLive a t = lastLive a ⟨t.val - 1, by omega⟩ := by
    apply Fin.ext
    show min t.val (nL a.1 - 1) = min (t.val - 1) (nL a.1 - 1)
    omega
  unfold outAt
  congr 1

theorem not_live {a : (pcfg0 (F := F)).Adm} (hok : OkPf a.1) {t : Fin (cfg0 a).N} (h : (cfg0 a).idle 3 ((cfg0 a).grid.coords t) = true) : nL a.1 ≤ t.val := by
  rw [idle3 a hok] at h
  simp only [Bool.not_eq_true', decide_eq_false_iff_not] at h
  omega

/-- At the last point, if it is idle, the output's buffer holds the last live tile. -/
theorem before_last (c : Dev nD) (t : Fin (cfg0 a).N) (ht : t.val = 207) (hl : nL a.1 ≤ t.val) (d) :
    (dats V a hok 0 c).before 3 t d = outAt V a hok c t := by
  have h1 : 1 ≤ nL a.1 := hok.one_le
  rw [(dats V a hok 0 c).before_out_traj 3 rfl (fun _ _ => rfl) (fun t h0 hi _ => by
    rw [after_w3, after_w3]; exact outAt_carry V a hok c t h0 (not_live hok hi)) t.val t rfl d]
  obtain ⟨k, hk⟩ : ∃ k, t.val = nL a.1 + k := ⟨t.val - nL a.1, by omega⟩
  have hf : (cfg0 a).fresh 3 t.val = false := by rw [hk]; exact fresh3 a hok k (by omega)
  rw [hf, if_neg Bool.false_ne_true, after_w3]
  exact (outAt_carry V a hok c t (by omega) hl).symm

/-! ## The body at every point -/

abbrev body (t : Fin (cfg0 a).N) : Prog (TpuEff nD τ sig (Elt F) Λ₀ .tc) PUnit :=
  bodyG ((cfg0 a).grid.coords t) (st0 a t) (hst0 a t) (st1 a t) (hst1 a t) (st2 a t) (hst2 a t) (st3 a t) (hst3 a t)
    x8S (Memref.isWhole_whole _) hS (Memref.isWhole_whole _) hqS (Memref.isWhole_whole _)

theorem defs_tc : (defs₀ (F := F)) .tc (cfg0 a).body
    = fun x => bodyG (grid0.coords x.1) (spec0_0.stage (x.2 0)) (hstage0_0 ((x.2 0).cast nbuf0_0)) (spec0_1.stage (x.2 1)) (hstage0_1 ((x.2 1).cast nbuf0_1))
      (spec0_2.stage (x.2 2)) (hstage0_2 ((x.2 2).cast nbuf0_2)) (spec0_3.stage (x.2 3)) (hstage0_3 ((x.2 3).cast nbuf0_3))
      x8S (Memref.isWhole_whole _) hS (Memref.isWhole_whole _) hqS (Memref.isWhole_whole _) := rfl
theorem prog_eq (t : Fin (cfg0 a).N) : (defs₀ (F := F)) .tc (cfg0 a).body ((cfg0 a).bodyArgs t ((cfg0 a).slots t)) = body a t :=
  (congrFun (defs_tc a) _).trans rfl

set_option backward.isDefEq.respectTransparency.types false in
theorem body_obligation (c : Dev nD) : BodyObligation (dats (F := F) V a hok 0 c) (defs₀ (F := F)) 𝒱₀ () Set.univ := fun t => by
  have hN : t.val < 208 := t.isLt.trans_eq (N_a a)
  have hco := co_a a t
  rw [bigSep_W0, bigSep_W0]
  dsimp only
  simp only [before_w0, before_w1, before_w2, after_w0, after_w1, after_w2]
  rw [show (dats V a hok 0 c).Φ t.castSucc = Φ V a c t.val from rfl, show (dats V a hok 0 c).Φ t.succ = Φ V a c (t.val + 1) from rfl]
  unfold Dat.owesAt Pipeline.owesWithin
  rw [show (dats V a hok 0 c).owed t.castSucc = 0 from rfl, show (dats V a hok 0 c).owed t.succ = 0 from rfl]
  by_cases h : t.val < nL a.1
  · have hi : (cfg0 a).idle 3 ((cfg0 a).grid.coords t) = false := by rw [idle3 a hok, decide_eq_true h]; rfl
    rw [show idle0 a.1 3 (((pcfg0 (F := F)).gridAt a.1).coords t) = false from hi]
    dsimp only
    rw [after_w3]
    have hout : outAt V a hok c t = outLive V a hok c t h := by
      have e : lastLive a t = t := Fin.ext (show min t.val (nL a.1 - 1) = t.val by omega)
      unfold outAt
      congr 1
    rw [hout]
    unfold owns Φ
    rw [show min t.val (nL a.1) = (((cfg0 a).grid.coords t) 0).val from by rw [hco]; omega,
      show min (t.val + 1) (nL a.1) = (((cfg0 a).grid.coords t) 0).val + 1 from by rw [hco]; omega]
    iintro ⟨⟨HT, HM, HS, HI⟩, ⟨%W, -, HW⟩, ⟨%d0, %g0, %hg0, H0⟩, ⟨%d1, %g1, %hg1, H1⟩, ⟨%d2, %g2, %hg2, H2⟩, ⟨%d3, %gO, -, HO⟩⟩
    ihave H0' := (pointsTo_rep_entails (c : Thread nD τ) (st0 a t) g0 fullShare) $$ H0
    ihave H1' := (pointsTo_rep_entails (c : Thread nD τ) (st1 a t) g1 fullShare) $$ H1
    ihave H2' := (pointsTo_rep_entails (c : Thread nD τ) (st2 a t) g2 fullShare) $$ H2
    rw [hg0, hg1, hg2]
    sl_rw [prog_eq a t]
    iapply wp_wand_r
    isplitl [HT HM HS HI HW H0' H1' H2' HO]
    · iapply (stepRun c (uA V c) (dA V c) (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) hok (live_lt a hok t h) fullShare.right _ _ _ gO)
      isplitr [HI]
      · isplitl [HT]; · iexact HT
        isplitl [HM]; · iexact HM
        isplitl [H0']; · iexact H0'
        isplitl [H1']; · iexact H1'
        isplitl [H2']; · iexact H2'
        isplitl [HO]; · iexact HO
        isplitl [HS]; · iexact HS
        unfold Ow; iexists W; iexact HW
      · iexact HI
    iintro %_ ⟨⟨HT, HM, H0, H1, H2, HO, HS, HW⟩, HI⟩
    unfold Ow
    icases HW with ⟨%W', HW⟩
    isplitl [HT HM HS HI]
    · isplitl [HT]; · iexact HT
      isplitl [HM]; · iexact HM
      isplitl [HS]; · iexact HS
      iexact HI
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr
    · ipureintro
      exact tile_read c (uA V c) (dA V c) (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) hok (live_lt a hok t h) _ _ _ gO
    iexact HO
  · have hi : (cfg0 a).idle 3 ((cfg0 a).grid.coords t) = true := by rw [idle3 a hok, decide_eq_false h]; rfl
    have h1 : ¬ k0_cond1 ((cfg0 a).grid.coords t) (Tab.mW (mA a c) 32) = 1#1 := fun h' => h (by
      have e := (cond1_iff ((cfg0 a).grid.coords t) (Tab.mW (mA a c) 32) hok.le).1 h'
      rw [hco] at e; exact e)
    have hmin : min (t.val + 1) (nL a.1) = min t.val (nL a.1) := by omega
    have hrun := idleRun c (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) fullShare.right _ _ rfl rfl (hok.expert _ (co_lt _)) h1
    rw [show idle0 a.1 3 (((pcfg0 (F := F)).gridAt a.1).coords t) = true from hi]
    dsimp only
    unfold Φ
    rw [hmin]
    sl_rw [prog_eq a t]
    iintro ⟨⟨HT, HM, HS, HI⟩, ⟨%W, -, HW⟩, H0, H1, H2, ⟨%d3, HO⟩⟩
    iapply wp_wand_r
    isplitl [HT HM]
    · iapply hrun
      isplitl [HT] <;> iassumption
    iintro %_ ⟨HT, HM⟩
    isplitl [HT HM HS HI]
    · isplitl [HT]; · iexact HT
      isplitl [HM]; · iexact HM
      isplitl [HS]; · iexact HS
      iexact HI
    isplitl [HW]
    · iexists W; isplitr; · ipureintro; exact fun _ _ => Or.inl trivial
      iexact HW
    isplitl [H0]; · icases H0 with ⟨%_, H0⟩; iexact H0
    isplitl [H1]; · icases H1 with ⟨%_, H1⟩; iexact H1
    isplitl [H2]; · icases H2 with ⟨%_, H2⟩; iexact H2
    by_cases hl : t.val = 207
    · have hf := flush3_last a hok t (by omega)
      split
      · rename_i hfl; exact absurd (hfl.symm.trans hf) Bool.false_ne_true
      rw [after_w3, before_last V a hok c t hl (by omega)]
      iexact HO
    · have hf := flush3_late a hok t (by omega) (by omega)
      split
      · iexists d3; iexact HO
      rename_i hfl; exact absurd (hf.symm.trans hfl) Bool.false_ne_true
end Data

/-! ## The run -/

section Run
variable (m : (ℓ : Loc nD τ sig) → Buf (Elt F) ℓ) (ρ : Dev nD → PrngReg)

/-- The tables at launch. -/
def pf₀ : pre0.Contents (Elt F) := fun k => m (((0 : Dev nD) : Thread nD τ).loc (pre0.ref k))
variable (hok : OkPf (pf₀ m))
def adm₀ : (pcfg0 (F := F)).Adm := ⟨pf₀ m, ok0_of _ hok⟩
abbrev V₀ (c : Dev nD) (b : Ref sig .tc) : Buf (Elt F) ((c : Thread nD τ).loc b) := m ((c : Thread nD τ).loc b)
abbrev adms (_ : Fin 1) : (pcfg0 (F := F)).Adm := adm₀ m hok
abbrev pdats (p : Fin 1) (c : Dev nD) : Dat τ (Elt F) Unit ℕ (UU nD τ) ℕ (Pipeline.pin (pcfgs (F := F)) (adms m hok) p) c := dats (V₀ m) (adm₀ m hok) hok p c
def u₀ : UU nD τ := (initOf (Pipeline.cells (Pipeline.pin (pcfgs (F := F)) (adms m hok)) (cellOf_inj _)) (Pipeline.launchToks (Pipeline.pin (pcfgs (F := F)) (adms m hok)) (cellOf_inj _)), 1)
def s₀ : MemSt nD τ sig (Elt F) := ⟨m, fun _ => 0, ρ⟩
def finalA (c : Dev nD) (w : Fin (cfg0 (adm₀ m hok)).W) : Buf (Elt F) (((cfg0 (adm₀ m hok)).win w).arr.view.loc (c : Thread nD τ)) := (dats (V₀ m) (adm₀ m hok) hok 0 c).arrAt w (cfg0 (adm₀ m hok)).N
def QY (c : Dev nD) (s : MemSt nD τ sig (Elt F)) : Prop :=
  s.mem ((c : Thread nD τ).loc main_arg5) = m ((c : Thread nD τ).loc main_arg5) ∧ s.mem ((c : Thread nD τ).loc main_arg6) = m ((c : Thread nD τ).loc main_arg6)
def QC : PUnit × MemSt nD τ sig (Elt F) → Prop := fun r =>
  ∀ c : Dev nD, (∀ w, r.2.mem (((cfg0 (adm₀ m hok)).win w).arr.view.loc (c : Thread nD τ)) = finalA m hok c w)
    ∧ (∀ k, r.2.mem ((c : Thread nD τ).loc (pre0.ref k)) = pf₀ m k) ∧ QY m c r.2

def intoΦ (c : Dev nD) : sProp 𝕄 := iprop((((c : Thread nD τ).loc main_arg5) ↦{fullShare} m ((c : Thread nD τ).loc main_arg5)) ∗ (((c : Thread nD τ).loc main_arg6) ↦{fullShare} m ((c : Thread nD τ).loc main_arg6))
  ∗ Pipeline.ownSems0 osem c)
def outOfΦ (c : Dev nD) : sProp 𝕄 := iprop((((c : Thread nD τ).loc main_arg5) ↦{fullShare} m ((c : Thread nD τ).loc main_arg5)) ∗ (((c : Thread nD τ).loc main_arg6) ↦{fullShare} m ((c : Thread nD τ).loc main_arg6)))

theorem dev_zero (c : Dev nD) : c = 0 := Subsingleton.elim _ _

theorem held_eq (c : Dev nD) : (Pipeline.prefHeld (Ix := Unit) (Name := ℕ) (U := UU nD τ) (Lvl := ℕ) (Val := Elt F) pre0 c (fun _ => fullShare.right) (pf₀ m) : sProp 𝕄)
    = iprop(teP c (tA (adm₀ m hok) c) fullShare.right ∗ meP c (mA (adm₀ m hok) c) fullShare.right) := by
  unfold Pipeline.prefHeld
  have e1 : teM.view.set = Finset.univ := View.set_whole _
  have e2 : meM.view.set = Finset.univ := View.set_whole _
  unfold teP meP
  rw [e1, e2]
  exact bigSep_fin2 _

set_option backward.isDefEq.respectTransparency.types false in
/-- From any memory with zero counters whose tables are the admitted ones: every weakly fair execution terminates,
    and every final state has the arrays at the computed contents, the tables and the weights unchanged, every
    semaphore counter at zero. -/
theorem run_main : θ_run defs (onTc (τ := τ) (main (F := F))) (s₀ m ρ) (fun r => QC m hok r ∧ r.2.sem = fun _ => 0) :=
  Pipeline.θ_run_region_pf_quiescent pcfgs (adms m hok) (pdats m hok) () (cellOf_inj _) (0 : Fin 1) winFacts0.to₀ ownSemFacts preFacts0 EP defs₀ 𝒱₀ m ρ main
    (hbody := fun c => (body_obligation (V₀ m) (adm₀ m hok) hok c).loose)
    (hne := block_pos0) (harr := arr_whole0) (hstage := stage_whole0)
    (howed := fun _ _ => rfl)
    (G := fun _ => iprop(emp)) (u₀ := u₀ m hok)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V₀ m)
    (hmain := fun c Q => by
      simp only [main, Prog.lift, Prog.bind_op, Prog.bind_ret]
      iintro ⟨Hk, Hb⟩; iapply Hk; iexact Hb)
    (hsplit := fun c => Pipeline.arrays_split (Pipeline.pin (pcfgs (F := F)) (adms m hok)) (pdats m hok) 0 winFacts0.arr_inj c arr_whole0
      ((pdats m hok 0 c).share_full fun _ => rfl) (V₀ m c) _ fun _ => rfl)
    (hpf := fun c k => by rw [dev_zero c]; rfl)
    (X := intoΦ m) (Y := outOfΦ m) (Z := fun _ => iprop(emp))
    (hX := fun c => by
      rw [unscopedRestP0_eq]
      unfold intoΦ
      iintro ⟨⟨H5, H6⟩, HS, -, -, -⟩; imodintro
      isplitl [H5 H6 HS]
      · isplitl [H5]; · iexact H5
        isplitl [H6]; · iexact H6
        iexact HS
      iempintro)
    (hin := fun c => by
      rw [show (pdats m hok 0 c).Φ 0 = Φ (V₀ m) (adm₀ m hok) c 0 from rfl]
      unfold intoΦ Φ
      rw [Nat.zero_min, Inv_zero]
      iintro ⟨⟨H5, H6, HS⟩, HP, HR⟩
      ihave HP' := (show Pipeline.prefHeld (pcfgs (F := F) 0).pre c (fun _ => fullShare.right) (adms m hok 0).1 ⊢ _ from entails_of_eq (held_eq m hok c)) $$ HP
      icases HP' with ⟨HT, HM⟩
      ihave H := (start_split c (uA (V₀ m) c) (dA (V₀ m) c)) $$ [H5 H6 HS HR]
      · isplitl [H5]; · iexact H5
        isplitl [H6]; · iexact H6
        isplitl [HS] <;> iassumption
      icases H with ⟨HI, HS⟩
      isplitl [HT]; · iexact HT
      isplitl [HM]; · iexact HM
      isplitl [HS]; · iexact HS
      iexact HI)
    (hout := fun c => by
      have hle : nL (adm₀ m hok).1 ≤ 208 := hok.le
      have e : min (Fin.last (cfg0 (adm₀ m hok)).N).val (nL (adm₀ m hok).1) = nL (adm₀ m hok).1 := by
        rw [Fin.val_last, N_a]; omega
      rw [show (pdats m hok 0 c).Φ (Fin.last _) = Φ (V₀ m) (adm₀ m hok) c (Fin.last (cfg0 (adm₀ m hok)).N).val from rfl]
      unfold Φ outOfΦ
      rw [e]
      iintro ⟨-, -, HS, HI⟩
      ihave HI' := (inv_last c (uA (V₀ m) c) (dA (V₀ m) c) (tA (adm₀ m hok) c) (mA (adm₀ m hok) c) hok) $$ HI
      iapply (end_join c (uA (V₀ m) c) (dA (V₀ m) c))
      isplitl [HI'] <;> iassumption)
    (QY := QY m)
    (hY := fun c s' => by
      unfold outOfΦ
      iintro ⟨⟨H5, H6⟩, -, HSI⟩
      icombine HSI H5 gives %h5
      icombine HSI H6 gives %h6
      imodintro
      isplitr; · ipureintro; exact ⟨Buf.eq_of_forall_mem_univ h5, Buf.eq_of_forall_mem_univ h6⟩
      iexact HSI)
    (hQ := fun _ hh hz => ⟨hh, hz⟩)

theorem finalA_in (c : Dev nD) (w : Fin (cfg0 (adm₀ m hok)).W) (hw : ((cfg0 (adm₀ m hok)).win w).isOut = false) :
    finalA m hok c w = m (((cfg0 (adm₀ m hok)).win w).arr.view.loc (c : Thread nD τ)) :=
  (dats (F := F) (V₀ m) (adm₀ m hok) hok 0 c).arrAt_in w hw _
end Run

end Cert.Proof.Ffn

end
-- ==== Proof.NamesI.lean ====
/-
  The names the proof of the feed-forward kernel works with: the two slots of the two weight buffers, the sixteen
  experts' weight blocks in main memory, the four semaphores, and the printed offsets read as these names.
-/
module

public import proofs.«01_k».proof.Proof.Names
public import proofs.«01_k».proof.Defs
public import proofs.«01_k».proof.Proof.Gen.KernelIdeal.Launch
public import proofs.«01_k».proof.Proof.Gen.KernelIdeal.Skeleton
public import Idealize.ShloMosaic.Lib.Pipeline.Quiescent
public import Idealize.ShloMosaic.Lib.Ring
public import Idealize.ShloMosaic.Lib.Affine
public import Idealize.ShloMosaic.Lib.Tactic

@[expose] public section

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The names -/

abbrev upM : Memref sig .tc .hbm S16x5120x2816 .fp8e4m3 := Memref.whole main_arg5
abbrev dnM : Memref sig .tc .hbm S16x1408x5120 .fp8e4m3 := Memref.whole main_arg6
abbrev upB : Memref sig .tc .vmem S2x5120x2816 .fp8e4m3 := Memref.whole cc0_scratch0
abbrev dnB : Memref sig .tc .vmem S2x1408x5120 .fp8e4m3 := Memref.whole cc0_scratch1

abbrev slotOff (s : Fin 2) : Fin 3 → Nat := ![s.val, 0, 0]
abbrev expOff (e : Fin 16) : Fin 3 → Nat := ![e.val, 0, 0]
abbrev cellOff (w s : Fin 2) : Fin 2 → Nat := ![w.val, s.val]

theorem upSlot_inb (s : Fin 2) : ∀ a, slotOff s a + S1x5120x2816.size a ≤ S2x5120x2816.size a := by
  have := s.isLt; intro a; fin_cases a
  · show s.val + 1 ≤ 2; omega
  · show 0 + 5120 ≤ 5120; omega
  · show 0 + 2816 ≤ 2816; omega
theorem dnSlot_inb (s : Fin 2) : ∀ a, slotOff s a + S1x1408x5120.size a ≤ S2x1408x5120.size a := by
  have := s.isLt; intro a; fin_cases a
  · show s.val + 1 ≤ 2; omega
  · show 0 + 1408 ≤ 1408; omega
  · show 0 + 5120 ≤ 5120; omega
theorem upExp_inb (e : Fin 16) : ∀ a, expOff e a + S1x5120x2816.size a ≤ S16x5120x2816.size a := by
  have := e.isLt; intro a; fin_cases a
  · show e.val + 1 ≤ 16; omega
  · show 0 + 5120 ≤ 5120; omega
  · show 0 + 2816 ≤ 2816; omega
theorem dnExp_inb (e : Fin 16) : ∀ a, expOff e a + S1x1408x5120.size a ≤ S16x1408x5120.size a := by
  have := e.isLt; intro a; fin_cases a
  · show e.val + 1 ≤ 16; omega
  · show 0 + 1408 ≤ 1408; omega
  · show 0 + 5120 ≤ 5120; omega
theorem cell_inb (w s : Fin 2) : ∀ a, cellOff w s a + S1x1.size a ≤ S2x2.size a := by
  have := s.isLt; have := w.isLt; intro a; fin_cases a
  · show w.val + 1 ≤ 2; omega
  · show s.val + 1 ≤ 2; omega

/-- Slot `s` of the gate-and-up weight buffer, as the body slices and squeezes it. -/
def upSlot (s : Fin 2) : Memref sig .tc .vmem S5120x2816 .fp8e4m3 :=
  (upB.slice (Rect.unit (s := S2x5120x2816) (slotOff s) S1x5120x2816.size (upSlot_inb s)) (fun _ => rfl)).squeeze S5120x2816 squeezes_S1x5120x2816_S5120x2816
/-- Slot `s` of the down weight buffer. -/
def dnSlot (s : Fin 2) : Memref sig .tc .vmem S1408x5120 .fp8e4m3 :=
  (dnB.slice (Rect.unit (s := S2x1408x5120) (slotOff s) S1x1408x5120.size (dnSlot_inb s)) (fun _ => rfl)).squeeze S1408x5120 squeezes_S1x1408x5120_S1408x5120
/-- Expert `e`'s gate-and-up weights. -/
def upExp (e : Fin 16) : Memref sig .tc .hbm S5120x2816 .fp8e4m3 :=
  (upM.slice (Rect.unit (s := S16x5120x2816) (expOff e) S1x5120x2816.size (upExp_inb e)) (fun _ => rfl)).squeeze S5120x2816 squeezes_S1x5120x2816_S5120x2816
/-- Expert `e`'s down weights. -/
def dnExp (e : Fin 16) : Memref sig .tc .hbm S1408x5120 .fp8e4m3 :=
  (dnM.slice (Rect.unit (s := S16x1408x5120) (expOff e) S1x1408x5120.size (dnExp_inb e)) (fun _ => rfl)).squeeze S1408x5120 squeezes_S1x1408x5120_S1408x5120
/-- The semaphore of slot `s` of buffer `w` (0: gate-and-up, 1: down). -/
def csm (w s : Fin 2) : DmaSems sig S_ :=
  (cc0_scratch5.slice (Rect.unit (s := S2x2) (cellOff w s) S1x1.size (cell_inb w s))).squeeze S_ squeezes_S1x1_S_

instance (s : Fin 2) : ClosedOff (slotOff s) := ⟨slotOff s, rfl⟩
instance (e : Fin 16) : ClosedOff (expOff e) := ⟨expOff e, rfl⟩

/-! ## Words as names -/

theorem and1_lt (v : BitVec 32) : (Scalar.andi v 1#32).toNat < 2 := by
  show (v &&& 1#32).toNat < 2
  rw [BitVec.toNat_and]; exact Nat.lt_succ_of_le Nat.and_le_right
/-- The slot a rank word names: its last bit. -/
def slotOf (v : BitVec 32) : Fin 2 := ⟨(Scalar.andi v 1#32).toNat, and1_lt v⟩
/-- The other slot. -/
def oth (s : Fin 2) : Fin 2 := 1 - s
/-- The expert a word names. -/
def expOf (v : BitVec 32) : Fin 16 := Fin.ofNat 16 v.toNat

theorem expOf_val {v : BitVec 32} (h : v.toNat < 16) : (expOf v).val = v.toNat := Nat.mod_eq_of_lt h
theorem oth_word (v : BitVec 32) : (Scalar.subi 1#32 (Scalar.andi v 1#32)).toNat = (oth (slotOf v)).val := by
  have h := and1_lt v
  show (1#32 - Scalar.andi v 1#32).toNat = _
  have e : Scalar.andi v 1#32 = 0#32 ∨ Scalar.andi v 1#32 = 1#32 := by
    rcases Nat.lt_or_ge (Scalar.andi v 1#32).toNat 1 with h1 | h1
    · left; apply BitVec.eq_of_toNat_eq; simp; omega
    · right; apply BitVec.eq_of_toNat_eq; simp; omega
  unfold oth slotOf
  rcases e with e | e
  · have : (⟨(Scalar.andi v 1#32).toNat, h⟩ : Fin 2) = 0 := Fin.ext (by simp [e])
    rw [this, e]; rfl
  · have : (⟨(Scalar.andi v 1#32).toNat, h⟩ : Fin 2) = 1 := Fin.ext (by simp [e])
    rw [this, e]; rfl
theorem ic_word (v : BitVec 32) : (Scalar.indexCast (Scalar.andi v 1#32)).toNat = (slotOf v).val := by
  rfl

theorem off5_eq (v : BitVec 32) : k0_off5 v = cellOff 0 (slotOf v) := rfl
theorem off6_eq (v : BitVec 32) : k0_off6 v = slotOff (slotOf v) := rfl
theorem off7_eq {v : BitVec 32} (h : v.toNat < 16) : k0_off7 v = expOff (expOf v) := by
  show (![_, 0, 0] : Fin 3 → Nat) = ![(expOf v).val, 0, 0]; rw [expOf_val h]
theorem off8_eq (v : BitVec 32) : k0_off8 v = cellOff 1 (slotOf v) := rfl
theorem off9_eq (v : BitVec 32) : k0_off9 v = slotOff (slotOf v) := rfl
theorem off10_eq {v : BitVec 32} (h : v.toNat < 16) : k0_off10 v = expOff (expOf v) := off7_eq h
theorem off11_eq (v : BitVec 32) : k0_off11 v = cellOff 0 (oth (slotOf v)) := by
  show (![0, _] : Fin 2 → Nat) = ![0, (oth (slotOf v)).val]; rw [← oth_word]
theorem off12_eq (v : BitVec 32) : k0_off12 v = slotOff (oth (slotOf v)) := by
  show (![_, 0, 0] : Fin 3 → Nat) = ![(oth (slotOf v)).val, 0, 0]; rw [← oth_word]
theorem off13_eq {v : BitVec 32} (h : v.toNat < 16) : k0_off13 v = expOff (expOf v) := off7_eq h
theorem off14_eq (v : BitVec 32) : k0_off14 v = cellOff 1 (oth (slotOf v)) := by
  show (![1, _] : Fin 2 → Nat) = ![1, (oth (slotOf v)).val]; rw [← oth_word]
theorem off15_eq (v : BitVec 32) : k0_off15 v = slotOff (oth (slotOf v)) := off12_eq v
theorem off16_eq {v : BitVec 32} (h : v.toNat < 16) : k0_off16 v = expOff (expOf v) := off7_eq h
theorem off17_eq (v : BitVec 32) : k0_off17 v = cellOff 0 (slotOf v) := rfl
theorem off18_eq (v : BitVec 32) : k0_off18 v = slotOff (slotOf v) := rfl
theorem off19_eq {v : BitVec 32} (h : v.toNat < 16) : k0_off19 v = expOff (expOf v) := off7_eq h
theorem off20_eq (v : BitVec 32) : k0_off20 v = cellOff 1 (slotOf v) := rfl
theorem off21_eq (v : BitVec 32) : k0_off21 v = slotOff (slotOf v) := rfl
theorem off22_eq {v : BitVec 32} (h : v.toNat < 16) : k0_off22 v = expOff (expOf v) := off7_eq h

instance (v : BitVec 32) : ClosedOff (k0_off23 v) := ⟨![v.toNat, 0, 0], rfl⟩
instance (v : BitVec 32) : ClosedOff (k0_off24 v) := ⟨![(slotOf v).val, 0, 0], rfl⟩
instance (v : BitVec 32) : ClosedOff (k0_off25 v) := ⟨![(slotOf v).val, 0, 1408], rfl⟩
instance (v : BitVec 32) : ClosedOff (k0_off26 v) := ⟨![(slotOf v).val, 0, 256], rfl⟩
instance (v : BitVec 32) : ClosedOff (k0_off27 v) := ⟨![(slotOf v).val, 0, 1664], rfl⟩
instance (v : BitVec 32) : ClosedOff (k0_off28 v) := ⟨![(slotOf v).val, 0, 512], rfl⟩
instance (v : BitVec 32) : ClosedOff (k0_off29 v) := ⟨![(slotOf v).val, 0, 1920], rfl⟩
instance (v : BitVec 32) : ClosedOff (k0_off30 v) := ⟨![(slotOf v).val, 0, 768], rfl⟩
instance (v : BitVec 32) : ClosedOff (k0_off31 v) := ⟨![(slotOf v).val, 0, 2176], rfl⟩
instance (v : BitVec 32) : ClosedOff (k0_off32 v) := ⟨![(slotOf v).val, 0, 1024], rfl⟩
instance (v : BitVec 32) : ClosedOff (k0_off33 v) := ⟨![(slotOf v).val, 0, 2432], rfl⟩
instance (v : BitVec 32) : ClosedOff (k0_off34 v) := ⟨![(slotOf v).val, 0, 1280], rfl⟩
instance (v : BitVec 32) : ClosedOff (k0_off35 v) := ⟨![(slotOf v).val, 0, 2688], rfl⟩
instance (v : BitVec 32) : ClosedOff (k0_off36 v) := ⟨![v.toNat, 0, 0], rfl⟩
instance (v : BitVec 32) : ClosedOff (k0_off37 v) := ⟨![(slotOf v).val, 0, 0], rfl⟩
instance (v : BitVec 32) : ClosedOff (k0_off38 v) := ⟨![(slotOf v).val, 0, 256], rfl⟩
instance (v : BitVec 32) : ClosedOff (k0_off39 v) := ⟨![(slotOf v).val, 0, 512], rfl⟩
instance (v : BitVec 32) : ClosedOff (k0_off40 v) := ⟨![(slotOf v).val, 0, 768], rfl⟩
instance (v : BitVec 32) : ClosedOff (k0_off41 v) := ⟨![(slotOf v).val, 0, 1024], rfl⟩
instance (v : BitVec 32) : ClosedOff (k0_off42 v) := ⟨![(slotOf v).val, 0, 1280], rfl⟩
instance (v : BitVec 32) : ClosedOff (k0_off43 v) := ⟨![(slotOf v).val, 0, 1536], rfl⟩
instance (v : BitVec 32) : ClosedOff (k0_off44 v) := ⟨![(slotOf v).val, 0, 1792], rfl⟩
instance (v : BitVec 32) : ClosedOff (k0_off45 v) := ⟨![(slotOf v).val, 0, 2048], rfl⟩
instance (v : BitVec 32) : ClosedOff (k0_off46 v) := ⟨![(slotOf v).val, 0, 2304], rfl⟩
instance (v : BitVec 32) : ClosedOff (k0_off47 v) := ⟨![(slotOf v).val, 0, 2560], rfl⟩
instance (v : BitVec 32) : ClosedOff (k0_off48 v) := ⟨![(slotOf v).val, 0, 2816], rfl⟩
instance (v : BitVec 32) : ClosedOff (k0_off49 v) := ⟨![(slotOf v).val, 0, 3072], rfl⟩
instance (v : BitVec 32) : ClosedOff (k0_off50 v) := ⟨![(slotOf v).val, 0, 3328], rfl⟩
instance (v : BitVec 32) : ClosedOff (k0_off51 v) := ⟨![(slotOf v).val, 0, 3584], rfl⟩
instance (v : BitVec 32) : ClosedOff (k0_off52 v) := ⟨![(slotOf v).val, 0, 3840], rfl⟩
instance (v : BitVec 32) : ClosedOff (k0_off53 v) := ⟨![(slotOf v).val, 0, 4096], rfl⟩
instance (v : BitVec 32) : ClosedOff (k0_off54 v) := ⟨![(slotOf v).val, 0, 4352], rfl⟩
instance (v : BitVec 32) : ClosedOff (k0_off55 v) := ⟨![(slotOf v).val, 0, 4608], rfl⟩
instance (v : BitVec 32) : ClosedOff (k0_off56 v) := ⟨![(slotOf v).val, 0, 4864], rfl⟩

/-! ## The body's slices are these names -/

private theorem csm_congr {off : Fin 2 → Nat} {w s : Fin 2} (e : off = cellOff w s) (hh) :
    (cc0_scratch5.slice (Rect.unit (s := S2x2) off S1x1.size hh)).squeeze S_ squeezes_S1x1_S_ = csm w s :=
  congrArg (fun A : DmaSems sig S1x1 => A.squeeze S_ squeezes_S1x1_S_) (SemArray.slice_unit_congr _ e _ _)
private theorem upSlot_congr {off : Fin 3 → Nat} {s : Fin 2} (e : off = slotOff s) (hh hs) :
    (upB.slice (Rect.unit (s := S2x5120x2816) off S1x5120x2816.size hh) hs).squeeze S5120x2816 squeezes_S1x5120x2816_S5120x2816 = upSlot s :=
  congrArg (fun M : Memref sig .tc .vmem S1x5120x2816 .fp8e4m3 => M.squeeze S5120x2816 squeezes_S1x5120x2816_S5120x2816) (Memref.slice_unit_congr _ e _ _ _ _)
private theorem dnSlot_congr {off : Fin 3 → Nat} {s : Fin 2} (e : off = slotOff s) (hh hs) :
    (dnB.slice (Rect.unit (s := S2x1408x5120) off S1x1408x5120.size hh) hs).squeeze S1408x5120 squeezes_S1x1408x5120_S1408x5120 = dnSlot s :=
  congrArg (fun M : Memref sig .tc .vmem S1x1408x5120 .fp8e4m3 => M.squeeze S1408x5120 squeezes_S1x1408x5120_S1408x5120) (Memref.slice_unit_congr _ e _ _ _ _)
private theorem upExp_congr {off : Fin 3 → Nat} {s : Fin 16} (e : off = expOff s) (hh hs) :
    (upM.slice (Rect.unit (s := S16x5120x2816) off S1x5120x2816.size hh) hs).squeeze S5120x2816 squeezes_S1x5120x2816_S5120x2816 = upExp s :=
  congrArg (fun M : Memref sig .tc .hbm S1x5120x2816 .fp8e4m3 => M.squeeze S5120x2816 squeezes_S1x5120x2816_S5120x2816) (Memref.slice_unit_congr _ e _ _ _ _)
private theorem dnExp_congr {off : Fin 3 → Nat} {s : Fin 16} (e : off = expOff s) (hh hs) :
    (dnM.slice (Rect.unit (s := S16x1408x5120) off S1x1408x5120.size hh) hs).squeeze S1408x5120 squeezes_S1x1408x5120_S1408x5120 = dnExp s :=
  congrArg (fun M : Memref sig .tc .hbm S1x1408x5120 .fp8e4m3 => M.squeeze S1408x5120 squeezes_S1x1408x5120_S1408x5120) (Memref.slice_unit_congr _ e _ _ _ _)

@[sl_canon] theorem cell5 (v : BitVec 32) (hh) : (cc0_scratch5.slice (Rect.unit (s := S2x2) (k0_off5 v) S1x1.size hh)).squeeze S_ squeezes_S1x1_S_ = csm 0 (slotOf v) := csm_congr (off5_eq v) _
@[sl_canon] theorem slot6 (v : BitVec 32) (hh hs) : (upB.slice (Rect.unit (s := S2x5120x2816) (k0_off6 v) S1x5120x2816.size hh) hs).squeeze S5120x2816 squeezes_S1x5120x2816_S5120x2816 = upSlot (slotOf v) := upSlot_congr (off6_eq v) _ _
@[sl_canon] theorem exp7 (v : BitVec 32) (h : v.toNat < 16) (hh hs) : (upM.slice (Rect.unit (s := S16x5120x2816) (k0_off7 v) S1x5120x2816.size hh) hs).squeeze S5120x2816 squeezes_S1x5120x2816_S5120x2816 = upExp (expOf v) := upExp_congr (off7_eq h) _ _
@[sl_canon] theorem cell8 (v : BitVec 32) (hh) : (cc0_scratch5.slice (Rect.unit (s := S2x2) (k0_off8 v) S1x1.size hh)).squeeze S_ squeezes_S1x1_S_ = csm 1 (slotOf v) := csm_congr (off8_eq v) _
@[sl_canon] theorem slot9 (v : BitVec 32) (hh hs) : (dnB.slice (Rect.unit (s := S2x1408x5120) (k0_off9 v) S1x1408x5120.size hh) hs).squeeze S1408x5120 squeezes_S1x1408x5120_S1408x5120 = dnSlot (slotOf v) := dnSlot_congr (off9_eq v) _ _
@[sl_canon] theorem exp10 (v : BitVec 32) (h : v.toNat < 16) (hh hs) : (dnM.slice (Rect.unit (s := S16x1408x5120) (k0_off10 v) S1x1408x5120.size hh) hs).squeeze S1408x5120 squeezes_S1x1408x5120_S1408x5120 = dnExp (expOf v) := dnExp_congr (off10_eq h) _ _
@[sl_canon] theorem cell11 (v : BitVec 32) (hh) : (cc0_scratch5.slice (Rect.unit (s := S2x2) (k0_off11 v) S1x1.size hh)).squeeze S_ squeezes_S1x1_S_ = csm 0 (oth (slotOf v)) := csm_congr (off11_eq v) _
@[sl_canon] theorem slot12 (v : BitVec 32) (hh hs) : (upB.slice (Rect.unit (s := S2x5120x2816) (k0_off12 v) S1x5120x2816.size hh) hs).squeeze S5120x2816 squeezes_S1x5120x2816_S5120x2816 = upSlot (oth (slotOf v)) := upSlot_congr (off12_eq v) _ _
@[sl_canon] theorem exp13 (v : BitVec 32) (h : v.toNat < 16) (hh hs) : (upM.slice (Rect.unit (s := S16x5120x2816) (k0_off13 v) S1x5120x2816.size hh) hs).squeeze S5120x2816 squeezes_S1x5120x2816_S5120x2816 = upExp (expOf v) := upExp_congr (off13_eq h) _ _
@[sl_canon] theorem cell14 (v : BitVec 32) (hh) : (cc0_scratch5.slice (Rect.unit (s := S2x2) (k0_off14 v) S1x1.size hh)).squeeze S_ squeezes_S1x1_S_ = csm 1 (oth (slotOf v)) := csm_congr (off14_eq v) _
@[sl_canon] theorem slot15 (v : BitVec 32) (hh hs) : (dnB.slice (Rect.unit (s := S2x1408x5120) (k0_off15 v) S1x1408x5120.size hh) hs).squeeze S1408x5120 squeezes_S1x1408x5120_S1408x5120 = dnSlot (oth (slotOf v)) := dnSlot_congr (off15_eq v) _ _
@[sl_canon] theorem exp16 (v : BitVec 32) (h : v.toNat < 16) (hh hs) : (dnM.slice (Rect.unit (s := S16x1408x5120) (k0_off16 v) S1x1408x5120.size hh) hs).squeeze S1408x5120 squeezes_S1x1408x5120_S1408x5120 = dnExp (expOf v) := dnExp_congr (off16_eq h) _ _
@[sl_canon] theorem cell17 (v : BitVec 32) (hh) : (cc0_scratch5.slice (Rect.unit (s := S2x2) (k0_off17 v) S1x1.size hh)).squeeze S_ squeezes_S1x1_S_ = csm 0 (slotOf v) := csm_congr (off17_eq v) _
@[sl_canon] theorem slot18 (v : BitVec 32) (hh hs) : (upB.slice (Rect.unit (s := S2x5120x2816) (k0_off18 v) S1x5120x2816.size hh) hs).squeeze S5120x2816 squeezes_S1x5120x2816_S5120x2816 = upSlot (slotOf v) := upSlot_congr (off18_eq v) _ _
@[sl_canon] theorem exp19 (v : BitVec 32) (h : v.toNat < 16) (hh hs) : (upM.slice (Rect.unit (s := S16x5120x2816) (k0_off19 v) S1x5120x2816.size hh) hs).squeeze S5120x2816 squeezes_S1x5120x2816_S5120x2816 = upExp (expOf v) := upExp_congr (off19_eq h) _ _
@[sl_canon] theorem cell20 (v : BitVec 32) (hh) : (cc0_scratch5.slice (Rect.unit (s := S2x2) (k0_off20 v) S1x1.size hh)).squeeze S_ squeezes_S1x1_S_ = csm 1 (slotOf v) := csm_congr (off20_eq v) _
@[sl_canon] theorem slot21 (v : BitVec 32) (hh hs) : (dnB.slice (Rect.unit (s := S2x1408x5120) (k0_off21 v) S1x1408x5120.size hh) hs).squeeze S1408x5120 squeezes_S1x1408x5120_S1408x5120 = dnSlot (slotOf v) := dnSlot_congr (off21_eq v) _ _
@[sl_canon] theorem exp22 (v : BitVec 32) (h : v.toNat < 16) (hh hs) : (dnM.slice (Rect.unit (s := S16x1408x5120) (k0_off22 v) S1x1408x5120.size hh) hs).squeeze S1408x5120 squeezes_S1x1408x5120_S1408x5120 = dnExp (expOf v) := dnExp_congr (off22_eq h) _ _

end Cert.Proof.FfnI

end
-- ==== Proof.ControlI.lean ====
/-
  The control part of the body: which copies a tile starts and which it waits for. Five cases, each leaving the
  tile's expert in its slot.
-/
module

public import proofs.«01_k».proof.Proof.Control
public import proofs.«01_k».proof.Proof.NamesI

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The pieces -/

section Pieces
variable (c : Dev nD) (XU : Buf (Elt F) (upM.view.loc (c : Thread nD τ))) (XD : Buf (Elt F) (dnM.view.loc (c : Thread nD τ)))

abbrev cellP (w s : Fin 2) : sProp 𝕄 := semVal ((c : Thread nD τ), SemLoc.dma (csm w s).sem) 0
abbrev upP (s : Fin 2) (f : Buf (Elt F) ((upSlot s).view.loc (c : Thread nD τ))) : sProp 𝕄 :=
  (upSlot s).view.loc (c : Thread nD τ) ↦[(upSlot s).view.set]{fullShare} f
abbrev dnP (s : Fin 2) (f : Buf (Elt F) ((dnSlot s).view.loc (c : Thread nD τ))) : sProp 𝕄 :=
  (dnSlot s).view.loc (c : Thread nD τ) ↦[(dnSlot s).view.set]{fullShare} f
/-- The gate-and-up weights read at share `q`: whole, one expert's block, and all but that block. -/
abbrev upTok (q : PosShare TreeShare) : sProp 𝕄 := upM.view.loc (c : Thread nD τ) ↦{q} XU
abbrev upBlk (q : PosShare TreeShare) (e : Fin 16) : sProp 𝕄 := (upExp e).view.loc (c : Thread nD τ) ↦[(upExp e).view.set]{q} XU
abbrev upRest (q : PosShare TreeShare) (e : Fin 16) : sProp 𝕄 := upM.view.loc (c : Thread nD τ) ↦[Finset.univ \ (upExp e).view.set]{q} XU
abbrev dnTok (q : PosShare TreeShare) : sProp 𝕄 := dnM.view.loc (c : Thread nD τ) ↦{q} XD
abbrev dnBlk (q : PosShare TreeShare) (e : Fin 16) : sProp 𝕄 := (dnExp e).view.loc (c : Thread nD τ) ↦[(dnExp e).view.set]{q} XD
abbrev dnRest (q : PosShare TreeShare) (e : Fin 16) : sProp 𝕄 := dnM.view.loc (c : Thread nD τ) ↦[Finset.univ \ (dnExp e).view.set]{q} XD
/-- What a copy of expert `e` leaves in slot `s`. -/
abbrev upLand (s : Fin 2) (e : Fin 16) (f : Buf (Elt F) ((upSlot s).view.loc (c : Thread nD τ))) : Buf (Elt F) ((upSlot s).view.loc (c : Thread nD τ)) :=
  (upSlot s).view.writes (Elt F) f [⟨Rect.whole S5120x2816, ReadAs.same.apply ((upExp e).view.read (Elt F) XU)⟩]
abbrev dnLand (s : Fin 2) (e : Fin 16) (f : Buf (Elt F) ((dnSlot s).view.loc (c : Thread nD τ))) : Buf (Elt F) ((dnSlot s).view.loc (c : Thread nD τ)) :=
  (dnSlot s).view.writes (Elt F) f [⟨Rect.whole S1408x5120, ReadAs.same.apply ((dnExp e).view.read (Elt F) XD)⟩]
/-- A copy of expert `e` into slot `s` in flight, reading at share `q`. -/
abbrev upFly (q : PosShare TreeShare) (s : Fin 2) (e : Fin 16) (f : Buf (Elt F) ((upSlot s).view.loc (c : Thread nD τ))) : sProp 𝕄 :=
  Transfers.Flight countersEmb (c : Thread nD τ) (SemLoc.dma (csm 0 s).sem) () 450560 iprop(upP c s (upLand c XU s e f) ∗ upBlk c XU q e)
abbrev dnFly (q : PosShare TreeShare) (s : Fin 2) (e : Fin 16) (f : Buf (Elt F) ((dnSlot s).view.loc (c : Thread nD τ))) : sProp 𝕄 :=
  Transfers.Flight countersEmb (c : Thread nD τ) (SemLoc.dma (csm 1 s).sem) () 225280 iprop(dnP c s (dnLand c XD s e f) ∗ dnBlk c XD q e)

/-- Contents that read alike through a view hold the view's elements alike. -/
theorem pt_congr_read {sp : Space} {S : Shape} {e : EltTy} (v : View sig .tc sp S e) (q : PosShare TreeShare)
    (f g : Buf (Elt F) (v.loc (c : Thread nD τ))) (h : v.read (Elt F) f = v.read (Elt F) g) :
    (v.loc (c : Thread nD τ) ↦[v.set]{q} f : sProp 𝕄) = v.loc (c : Thread nD τ) ↦[v.set]{q} g := by
  refine pointsTo_congr fun i hi => ?_
  obtain ⟨y, -, rfl⟩ := Finset.mem_map.mp hi
  have := congrFun h y
  rw [View.read_apply, View.read_apply] at this
  exact cast_inj _ |>.mp this

/-- Expert `e`'s weights laid over both slots: what a slot holds once expert `e` has arrived. -/
def upIx (e : Fin 16) (y : S2x5120x2816.Idx) : S16x5120x2816.Idx := fun a => match a with | 0 => e | 1 => y 1 | 2 => y 2
def dnIx (e : Fin 16) (y : S2x1408x5120.Idx) : S16x1408x5120.Idx := fun a => match a with | 0 => e | 1 => y 1 | 2 => y 2
def upW (e : Fin 16) : Buf (Elt F) (upB.view.loc (c : Thread nD τ)) := fun y => XU (upIx e y)
def dnW (e : Fin 16) : Buf (Elt F) (dnB.view.loc (c : Thread nD τ)) := fun y => XD (dnIx e y)

theorem upExp_read (e : Fin 16) (s : Fin 2) : (upExp e).view.read (Elt F) XU = (upSlot s).view.read (Elt F) (upW c XU e) := by
  funext x
  refine congrArg XU (funext fun a => ?_)
  have h0 : ((Shape.reshapeEquiv squeezes_S1x5120x2816_S5120x2816.numel_eq x : S1x5120x2816.Idx) 0).val = 0 := by
    have := ((Shape.reshapeEquiv squeezes_S1x5120x2816_S5120x2816.numel_eq x : S1x5120x2816.Idx) 0).isLt
    have h : S1x5120x2816.size 0 = 1 := rfl
    omega
  fin_cases a
  · apply Fin.ext
    show e.val + 1 * ((Shape.reshapeEquiv squeezes_S1x5120x2816_S5120x2816.numel_eq x : S1x5120x2816.Idx) 0).val = e.val
    rw [h0]; omega
  · rfl
  · rfl
theorem dnExp_read (e : Fin 16) (s : Fin 2) : (dnExp e).view.read (Elt F) XD = (dnSlot s).view.read (Elt F) (dnW c XD e) := by
  funext x
  refine congrArg XD (funext fun a => ?_)
  have h0 : ((Shape.reshapeEquiv squeezes_S1x1408x5120_S1408x5120.numel_eq x : S1x1408x5120.Idx) 0).val = 0 := by
    have := ((Shape.reshapeEquiv squeezes_S1x1408x5120_S1408x5120.numel_eq x : S1x1408x5120.Idx) 0).isLt
    have h : S1x1408x5120.size 0 = 1 := rfl
    omega
  fin_cases a
  · apply Fin.ext
    show e.val + 1 * ((Shape.reshapeEquiv squeezes_S1x1408x5120_S1408x5120.numel_eq x : S1x1408x5120.Idx) 0).val = e.val
    rw [h0]; omega
  · rfl
  · rfl

theorem upP_land (s : Fin 2) (e : Fin 16) (f) : upP c s (upLand c XU s e f) = upP c s (upW c XU e) :=
  pt_congr_read c _ _ _ _ ((View.read_writes_whole _ _ _).trans (upExp_read c XU e s))
theorem dnP_land (s : Fin 2) (e : Fin 16) (f) : dnP c s (dnLand c XD s e f) = dnP c s (dnW c XD e) :=
  pt_congr_read c _ _ _ _ ((View.read_writes_whole _ _ _).trans (dnExp_read c XD e s))

theorem upTok_join (q : PosShare TreeShare) (e : Fin 16) : iprop(upBlk c XU q e ∗ upRest c XU q e) ⊢ upTok c XU q :=
  (pointsTo_split_subset (Finset.subset_univ _)).2
theorem dnTok_join (q : PosShare TreeShare) (e : Fin 16) : iprop(dnBlk c XD q e ∗ dnRest c XD q e) ⊢ dnTok c XD q :=
  (pointsTo_split_subset (Finset.subset_univ _)).2

/-- Both weight arrays readable at share `q`. -/
def Tok (q : PosShare TreeShare) : sProp 𝕄 := iprop(upTok c XU q ∗ dnTok c XD q)
/-- Slot `s` holds expert `e`, both its semaphores at zero. -/
def Cur (s : Fin 2) (e : Fin 16) : sProp 𝕄 := iprop(upP c s (upW c XU e) ∗ dnP c s (dnW c XD e) ∗ cellP c 0 s ∗ cellP c 1 s)
/-- Slot `s` is free, both its semaphores at zero. -/
def FreeAt (s : Fin 2) : sProp 𝕄 := iprop((∃ f, upP c s f) ∗ (∃ f, dnP c s f) ∗ cellP c 0 s ∗ cellP c 1 s)
/-- Both copies of expert `e` into slot `s` in flight, reading at share `q`, the rest of the arrays at that share beside. -/
def FlyTo (q : PosShare TreeShare) (s : Fin 2) (e : Fin 16) : sProp 𝕄 :=
  iprop((∃ f, upFly c XU q s e f) ∗ (∃ f, dnFly c XD q s e f) ∗ upRest c XU q e ∗ dnRest c XD q e)

theorem Cur_free (s : Fin 2) (e : Fin 16) : Cur c XU XD s e ⊢ FreeAt c s := by
  unfold Cur FreeAt
  iintro ⟨Hu, Hd, H0, H1⟩
  isplitl [Hu]; · iexists _; iexact Hu
  isplitl [Hd]; · iexists _; iexact Hd
  isplitl [H0] <;> iassumption

end Pieces

section Part1
variable (c : Dev nD) (XU : Buf (Elt F) (upM.view.loc (c : Thread nD τ))) (XD : Buf (Elt F) (dnM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (v0 v2 : BitVec 32) (hw1 : k0_chk1 i v0 v2) (v6 : BitVec 32) (hw4 : k0_chk4 i v0 v2 v6) (v9 : BitVec 1) (v11 : BitVec 32)
  (hw2 : k0_chk2 i v0 v2 v6 v11) (v12 v15 : BitVec 32) (hw3 : k0_chk3 i v0 v2 v6 v11 v15) (h1 : k0_cond1 i v0 = 1#1)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The control part on the kernel's own buffers. -/
abbrev part1 : Prog (TpuEff nD τ sig (Elt F) Λ₀ .tc) (Σ' (v28 : Vec F S8x1408 .i32) (v29 : Vec F S8x1408 .i32) (v30 : Vec F S8x1408 .i32) (v31 : Vec F S8x1408 .i32) (v40 : IVec S8x1280 32) (v45 : IVec S8x1280 32) (v50 : IVec S8x1280 32) (v52 : IVec S8x1280 32), IVec S8x1280 32) :=
  k0_part1 (F := F) i (Memref.whole main_arg0) (Memref.isWhole_whole _) (Memref.whole main_arg1) (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq
    cc0_scratch5 (BitVec.ofNat 32 (i 0).val) v0 v2 hw1 v6 hw4 v9 v11 hw2 v12 v15 hw3 h1

abbrev xsP (gx : Buf (Elt F) (arg3.view.loc (c : Thread nD τ))) : sProp 𝕄 := arg3.view.loc (c : Thread nD τ) ↦[arg3.view.set]{fullShare} gx

/-- The rows the control part hands on: the first eight of each of the first four words' groups. -/
abbrev row8 (gx : Buf (Elt F) (arg3.view.loc (c : Thread nD τ))) (r : Fin 2 → Nat) (h : ∀ a, r a + S8x1408.size a ≤ S256x1408.size a) : Vec F S8x1408 .i32 :=
  arg3.view.readAt (Elt F) (Rect.unit (s := S256x1408) r S8x1408.size h).toLoadRect gx
abbrev part1Out (gx : Buf (Elt F) (arg3.view.loc (c : Thread nD τ))) : Σ' (v28 : Vec F S8x1408 .i32) (v29 : Vec F S8x1408 .i32) (v30 : Vec F S8x1408 .i32) (v31 : Vec F S8x1408 .i32) (v40 : IVec S8x1280 32) (v45 : IVec S8x1280 32) (v50 : IVec S8x1280 32) (v52 : IVec S8x1280 32), IVec S8x1280 32 :=
  let v28 := row8 c arg3 gx ![0, 0] inb_S256x1408_S8x1408_0_0
  let v29 := row8 c arg3 gx ![8, 0] inb_S256x1408_S8x1408_8_0
  let v30 := row8 c arg3 gx ![16, 0] inb_S256x1408_S8x1408_16_0
  let v31 := row8 c arg3 gx ![24, 0] inb_S256x1408_S8x1408_24_0
  ⟨v28, v29, v30, v31, k0_pay6 v28 v30, k0_pay7 v28 v30, k0_pay8 v29 v31, k0_pay9 v29, k0_pay10 v31⟩

/-- The core's waits, whatever they are. -/
def Ow : sProp 𝕄 := iprop(∃ W, owes (c : Thread nD τ) 0 W)

/-- The resources a case starts from, and those it ends with. -/
abbrev Part1Case (gx : Buf (Elt F) (arg3.view.loc (c : Thread nD τ))) (Rin Rout : sProp 𝕄) : Prop :=
  iprop(xsP c arg3 gx ∗ Rin ∗ Ow c)
    ⊢ wp frame (wpE (defs₀ (F := F)) 𝒱₀ (c : Thread nD τ) none) Set.univ
        (part1 i arg3 harg3 arg4 harg4 arg5 harg5 arg8 harg8 v0 v2 hw1 v6 hw4 v9 v11 hw2 v12 v15 hw3 h1 x8M hx8 hM hh hqM hhq)
        (fun r => iprop(⌜r = part1Out c arg3 gx⌝ ∗ xsP c arg3 gx ∗ Cur c XU XD (slotOf v11) (expOf v2) ∗ Rout ∗ Ow c))

/-- A change of expert, with another expert to come. -/
theorem part1_change_next (gx) (q q' : PosShare TreeShare) (hv2 : v2.toNat < 16) (hv15 : v15.toNat < 16) (c2 : ¬ k0_cond2 i = 1#1) (c3 : k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q' ∗ FlyTo c XU XD q (slotOf v11) (expOf v2) ∗ FreeAt c (oth (slotOf v11)))
      iprop(Tok c XU XD q ∗ FlyTo c XU XD q' (oth (slotOf v11)) (expOf v15)) := by
  unfold Part1Case Ow Cur Tok FlyTo FreeAt
  iintro ⟨Hx, ⟨⟨Hu', Hd'⟩, ⟨⟨%fu, Hfu⟩, ⟨%fd, Hfd⟩, Hur, Hdr⟩, ⟨⟨%fu', Hsu'⟩, ⟨%fd', Hsd'⟩, Hcu', Hcd'⟩⟩, ⟨%W, HW⟩⟩
  dsimp only [part1]
  sl_unfold [k0_part1]
  sl_exec
  sl_step
  isplitr; · ipureintro; rfl
  isplitl [Hx]; · iexact Hx
  isplitl [Hfu_dst Hfd_dst Hfu Hfd]
  · isplitl [Hfu_dst]; · iapply (entails_of_eq (upP_land c XU (slotOf v11) (expOf v2) fu)); iexact Hfu_dst
    isplitl [Hfd_dst]; · iapply (entails_of_eq (dnP_land c XD (slotOf v11) (expOf v2) fd)); iexact Hfd_dst
    isplitl [Hfu] <;> iassumption
  isplitr [HW]
  · isplitl [Hfu_src Hur Hfd_src Hdr]
    · isplitl [Hfu_src Hur]
      · iapply (upTok_join c XU _ (expOf v2)); isplitl [Hfu_src] <;> iassumption
      · iapply (dnTok_join c XD _ (expOf v2)); isplitl [Hfd_src] <;> iassumption
    isplitl [Hcu']; · iexists _; iexact Hcu'
    isplitl [Hcd']; · iexists _; iexact Hcd'
    isplitl [Hu'] <;> iassumption
  iexists _; iexact HW

/-- A change of expert to the last one. -/
theorem part1_change_last (gx) (q : PosShare TreeShare) (hv2 : v2.toNat < 16) (c2 : ¬ k0_cond2 i = 1#1) (c3 : ¬ k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(FlyTo c XU XD q (slotOf v11) (expOf v2))
      iprop(Tok c XU XD q) := by
  unfold Part1Case Ow Cur Tok FlyTo
  iintro ⟨Hx, ⟨⟨%fu, Hfu⟩, ⟨%fd, Hfd⟩, Hur, Hdr⟩, ⟨%W, HW⟩⟩
  dsimp only [part1]
  sl_unfold [k0_part1]
  sl_exec
  sl_step
  isplitr; · ipureintro; rfl
  isplitl [Hx]; · iexact Hx
  isplitl [Hfu_dst Hfd_dst Hfu Hfd]
  · isplitl [Hfu_dst]; · iapply (entails_of_eq (upP_land c XU (slotOf v11) (expOf v2) fu)); iexact Hfu_dst
    isplitl [Hfd_dst]; · iapply (entails_of_eq (dnP_land c XD (slotOf v11) (expOf v2) fd)); iexact Hfd_dst
    isplitl [Hfu] <;> iassumption
  isplitl [Hfu_src Hur Hfd_src Hdr]
  · isplitl [Hfu_src Hur]
    · iapply (upTok_join c XU _ (expOf v2)); isplitl [Hfu_src] <;> iassumption
    · iapply (dnTok_join c XD _ (expOf v2)); isplitl [Hfd_src] <;> iassumption
  iexists _; iexact HW

/-- No change of expert. -/
theorem part1_same (gx) (c2 : ¬ k0_cond2 i = 1#1) (c3 : ¬ k0_cond3 i v2 v6 v15 = 1#1) (c4 : ¬ k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Cur c XU XD (slotOf v11) (expOf v2))
      iprop(emp) := by
  unfold Part1Case Ow Cur
  iintro ⟨Hx, ⟨Hu, Hd, H0, H1⟩, ⟨%W, HW⟩⟩
  dsimp only [part1]
  sl_unfold [k0_part1]
  sl_exec
  sl_step
  isplitr; · ipureintro; rfl
  isplitl [Hx]; · iexact Hx
  isplitl [Hu Hd H0 H1]
  · isplitl [Hu]; · iexact Hu
    isplitl [Hd]; · iexact Hd
    isplitl [H0] <;> iassumption
  isplitr; · iempintro
  iexists _; iexact HW

/-- The first tile, with another expert to come. -/
theorem part1_first_next (gx) (q q' : PosShare TreeShare) (hv2 : v2.toNat < 16) (hv15 : v15.toNat < 16) (c2 : k0_cond2 i = 1#1) (c3 : k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q ∗ Tok c XU XD q' ∗ FreeAt c (slotOf v11) ∗ FreeAt c (oth (slotOf v11)))
      iprop(Tok c XU XD q ∗ FlyTo c XU XD q' (oth (slotOf v11)) (expOf v15)) := by
  unfold Part1Case Ow Cur Tok FlyTo FreeAt
  iintro ⟨Hx, ⟨⟨Hu, Hd⟩, ⟨Hu', Hd'⟩, ⟨⟨%fu, Hsu⟩, ⟨%fd, Hsd⟩, Hcu, Hcd⟩, ⟨⟨%fu', Hsu'⟩, ⟨%fd', Hsd'⟩, Hcu', Hcd'⟩⟩, ⟨%W, HW⟩⟩
  dsimp only [part1]
  sl_unfold [k0_part1]
  sl_exec
  sl_step
  isplitr; · ipureintro; rfl
  isplitl [Hx]; · iexact Hx
  isplitl [Hsu Hsd Hcu Hcd]
  · isplitl [Hsu]; · iapply (entails_of_eq (upP_land c XU (slotOf v11) (expOf v2) fu)); iexact Hsu
    isplitl [Hsd]; · iapply (entails_of_eq (dnP_land c XD (slotOf v11) (expOf v2) fd)); iexact Hsd
    isplitl [Hcu] <;> iassumption
  isplitr [HW]
  · isplitl [Hu Hd]
    · isplitl [Hu] <;> iassumption
    isplitl [Hcu']; · iexists _; iexact Hcu'
    isplitl [Hcd']; · iexists _; iexact Hcd'
    isplitl [Hu'] <;> iassumption
  iexists _; iexact HW

/-- The first tile, its expert the only one. -/
theorem part1_first_last (gx) (q : PosShare TreeShare) (hv2 : v2.toNat < 16) (c2 : k0_cond2 i = 1#1) (c3 : ¬ k0_cond3 i v2 v6 v15 = 1#1) (c4 : k0_cond4 i v2 v6 = 1#1) :
    Part1Case c XU XD i arg3 harg3 arg4 harg4 arg5 harg5 arg8 harg8 v0 v2 hw1 v6 hw4 v9 v11 hw2 v12 v15 hw3 h1 x8M hx8 hM hh hqM hhq gx
      iprop(Tok c XU XD q ∗ FreeAt c (slotOf v11))
      iprop(Tok c XU XD q) := by
  unfold Part1Case Ow Cur Tok FreeAt
  iintro ⟨Hx, ⟨⟨Hu, Hd⟩, ⟨⟨%fu, Hsu⟩, ⟨%fd, Hsd⟩, Hcu, Hcd⟩⟩, ⟨%W, HW⟩⟩
  dsimp only [part1]
  sl_unfold [k0_part1]
  sl_exec
  sl_step
  isplitr; · ipureintro; rfl
  isplitl [Hx]; · iexact Hx
  isplitl [Hsu Hsd Hcu Hcd]
  · isplitl [Hsu]; · iapply (entails_of_eq (upP_land c XU (slotOf v11) (expOf v2) fu)); iexact Hsu
    isplitl [Hsd]; · iapply (entails_of_eq (dnP_land c XD (slotOf v11) (expOf v2) fd)); iexact Hsd
    isplitl [Hcu] <;> iassumption
  isplitl [Hu Hd]
  · isplitl [Hu] <;> iassumption
  iexists _; iexact HW

end Part1

end Cert.Proof.FfnI

end
-- ==== Proof.TileI.lean ====
/-
  The arithmetic of one tile: from the tile's packed rows and its expert's weights in their slot to the tile's
  result. Run once, over any control part that leaves the expert in its slot.
-/
module

public import proofs.«01_k».proof.Proof.Tile
public import proofs.«01_k».proof.Proof.ControlI

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section Tile
variable (c : Dev nD) (XU : Buf (Elt F) (upM.view.loc (c : Thread nD τ))) (XD : Buf (Elt F) (dnM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (v0 v2 : BitVec 32) (hw1 : k0_chk1 i v0 v2) (v6 : BitVec 32) (hw4 : k0_chk4 i v0 v2 v6) (v9 : BitVec 1) (v11 : BitVec 32)
  (hw2 : k0_chk2 i v0 v2 v6 v11) (v12 v15 : BitVec 32) (hw3 : k0_chk3 i v0 v2 v6 v11 v15) (h1 : k0_cond1 i v0 = 1#1)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The tile's arithmetic on the kernel's own buffers. -/
abbrev part32 : Prog (TpuEff nD τ sig (Elt F) Λ₀ .tc) (Σ' (v1062 : FVec F S1x5120 .f32), FVec F S256x256 .f32) :=
  k0_part32 (F := F) i (Memref.whole main_arg0) (Memref.isWhole_whole _) (Memref.whole main_arg1) (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq
    cc0_scratch5 (BitVec.ofNat 32 (i 0).val) v0 v2 hw1 v6 hw4 v9 v11 hw2 v12 v15 hw3 h1

abbrev s1P (g : Buf (Elt F) (arg4.view.loc (c : Thread nD τ))) : sProp 𝕄 := arg4.view.loc (c : Thread nD τ) ↦[arg4.view.set]{fullShare} g
abbrev s2P (g : Buf (Elt F) (arg5.view.loc (c : Thread nD τ))) : sProp 𝕄 := arg5.view.loc (c : Thread nD τ) ↦[arg5.view.set]{fullShare} g
abbrev outP (g : Buf (Elt F) (arg8.view.loc (c : Thread nD τ))) : sProp 𝕄 := arg8.view.loc (c : Thread nD τ) ↦[arg8.view.set]{fullShare} g
/-- The three scratch buffers of the arithmetic, at any contents. -/
def Scr : sProp 𝕄 :=
  iprop((∃ f, x8M.view.loc (c : Thread nD τ) ↦[x8M.view.set]{fullShare} f)
    ∗ (∃ f, hM.view.loc (c : Thread nD τ) ↦[hM.view.set]{fullShare} f)
    ∗ (∃ f, hqM.view.loc (c : Thread nD τ) ↦[hqM.view.set]{fullShare} f))

set_option backward.proofsInPublic true in
set_option maxHeartbeats 4000000 in
/-- One tile's arithmetic, run; what it returns and what it writes are found by the run. -/
def tileRun (gx : Buf (Elt F) (arg3.view.loc (c : Thread nD τ))) (g4 : Buf (Elt F) (arg4.view.loc (c : Thread nD τ))) (g5 : Buf (Elt F) (arg5.view.loc (c : Thread nD τ))) :
    { w : (Σ' (v1062 : FVec F S1x5120 .f32), FVec F S256x256 .f32) × List (View.Piece (Elt F) S256x5120 .f32) //
      ∀ (Rin Rout : sProp 𝕄) (gO : Buf (Elt F) (arg8.view.loc (c : Thread nD τ))),
        Part1Case c XU XD i arg3 harg3 arg4 harg4 arg5 harg5 arg8 harg8 v0 v2 hw1 v6 hw4 v9 v11 hw2 v12 v15 hw3 h1 x8M hx8 hM hh hqM hhq gx Rin Rout →
        iprop(xsP c arg3 gx ∗ s1P c arg4 g4 ∗ s2P c arg5 g5 ∗ outP c arg8 gO ∗ Scr c x8M hM hqM ∗ Rin ∗ Ow c)
          ⊢ wp frame (wpE (defs₀ (F := F)) 𝒱₀ (c : Thread nD τ) none) Set.univ
              (part32 i arg3 harg3 arg4 harg4 arg5 harg5 arg8 harg8 v0 v2 hw1 v6 hw4 v9 v11 hw2 v12 v15 hw3 h1 x8M hx8 hM hh hqM hhq)
              (fun r => iprop(⌜r = w.1⌝ ∗ xsP c arg3 gx ∗ s1P c arg4 g4 ∗ s2P c arg5 g5 ∗ outP c arg8 (arg8.view.writes (Elt F) gO w.2) ∗ Scr c x8M hM hqM
                ∗ Cur c XU XD (slotOf v11) (expOf v2) ∗ Rout ∗ Ow c)) } := by
  refine ⟨(⟨?_, ?_⟩, ?_), ?run⟩
  case run =>
    intro Rin Rout gO hcut
    unfold Part1Case at hcut
    dsimp only [part1] at hcut
    unfold Cur at hcut ⊢
    unfold Scr
    iintro ⟨Hx, H4, H5, HO, ⟨⟨%f11, H11⟩, ⟨%f12, H12⟩, ⟨%f13, H13⟩⟩, HR, HW⟩
    dsimp only [part32]
    sl_unfold [k0_part32]
    sl_exec_parts
    cases hk0_part1_0
    sl_exec_parts
    sl_step
    isplitr; · ipureintro; rfl
    isplitl [Hk0_part1_1]; · iexact Hk0_part1_1
    isplitl [H4]; · iexact H4
    isplitl [H5]; · iexact H5
    isplitl [HO]; · iexact HO
    isplitl [H11 H12 H13]
    · isplitl [H11]; · iexists _; iexact H11
      isplitl [H12]; · iexists _; iexact H12
      iexists _; iexact H13
    isplitl [Hk0_part1_2 Hk0_part1_3 Hk0_part1_4 Hk0_part1_5]
    · isplitl [Hk0_part1_2]; · iexact Hk0_part1_2
      isplitl [Hk0_part1_3]; · iexact Hk0_part1_3
      isplitl [Hk0_part1_4]; · iexact Hk0_part1_4
      iexact Hk0_part1_5
    isplitl [Hk0_part1_6]; · iexact Hk0_part1_6
    unfold Ow; iexists _; iexact Hk0_part1_7

end Tile

end Cert.Proof.FfnI

end
-- ==== Proof.ChecksI.lean ====
/-
  The words the body reads from the tables: the conditions they decide, and the bounds the body assumes of them.
-/
module

public import proofs.«01_k».proof.Proof.Checks
public import proofs.«01_k».proof.Proof.NamesI
public import proofs.«01_k».proof.Proof.Tables

@[expose] public section

set_option maxRecDepth 16384

noncomputable section

namespace Cert.Proof.FfnI

open Cert.KernelIdeal Cert.KernelIdeal.Gen
open Idealize.ShloMosaic
open Cert.Proof.Tab

theorem ofBool_one (p : Bool) : (BitVec.ofBool p = 1#1) ↔ p = true := by cases p <;> decide
theorem ext_ne (p : Bool) : Scalar.cmpi .ne (Scalar.extui (BitVec.ofBool p) : BitVec 32) 0#32 = BitVec.ofBool p := by cases p <;> decide
theorem or_bool (p q : Bool) : Scalar.ori (BitVec.ofBool p) (BitVec.ofBool q) = BitVec.ofBool (p || q) := by cases p <;> cases q <;> decide
theorem and_bool (p q : Bool) : Scalar.andi (BitVec.ofBool p) (BitVec.ofBool q) = BitVec.ofBool (p && q) := by cases p <;> cases q <;> decide

theorem co_lt (i : grid0.Coords) : (i 0).val < 208 := (i 0).isLt

theorem ofNat_toInt (k : Nat) (hk : k < 209) : (BitVec.ofNat 32 k).toInt = k := by
  have e := BitVec.toInt_eq_toNat_cond (BitVec.ofNat 32 k)
  have e2 : (BitVec.ofNat 32 k).toNat = k := by simp; omega
  omega
theorem small_toInt (v : BitVec 32) (h : v.toNat ≤ 208) : v.toInt = v.toNat := by
  have e := BitVec.toInt_eq_toNat_cond v; omega

theorem cond1_iff (i : grid0.Coords) (v0 : BitVec 32) (h : v0.toNat ≤ 208) : k0_cond1 i v0 = 1#1 ↔ (i 0).val < v0.toNat := by
  have hi := co_lt i
  show Scalar.cmpi .ne (Scalar.extui (BitVec.ofBool _)) 0#32 = 1#1 ↔ _
  rw [ext_ne, ofBool_one]
  show BitVec.slt _ _ = true ↔ _
  rw [BitVec.slt_iff_toInt_lt, ofNat_toInt _ (by omega), small_toInt v0 h]; omega

theorem cond2_iff (i : grid0.Coords) : k0_cond2 i = 1#1 ↔ (i 0).val = 0 := by
  have hi := co_lt i
  show Scalar.cmpi .ne (Scalar.extui (BitVec.ofBool _)) 0#32 = 1#1 ↔ _
  rw [ext_ne, ofBool_one]
  show (BitVec.ofNat 32 (i 0).val == 0#32) = true ↔ _
  rw [beq_iff_eq]
  exact ⟨fun e => by have := congrArg BitVec.toNat e; simp at this; omega, fun e => by rw [e]⟩

theorem cond4_iff (i : grid0.Coords) (v2 v6 : BitVec 32) : k0_cond4 i v2 v6 = 1#1 ↔ ((i 0).val = 0 ∨ v2 ≠ v6) := by
  have hi := co_lt i
  show Scalar.cmpi .ne (Scalar.extui (Scalar.ori (BitVec.ofBool (BitVec.ofNat 32 (i 0).val == 0#32)) (BitVec.ofBool (v2 != v6)))) 0#32 = 1#1 ↔ _
  rw [or_bool, ext_ne, ofBool_one, Bool.or_eq_true, beq_iff_eq, bne_iff_ne]
  refine or_congr ⟨fun e => by have := congrArg BitVec.toNat e; simp at this; omega, fun e => by rw [e]⟩ Iff.rfl

theorem cond3_iff (i : grid0.Coords) (v2 v6 v15 : BitVec 32) : k0_cond3 i v2 v6 v15 = 1#1 ↔ ((i 0).val = 0 ∨ v2 ≠ v6) ∧ 0 ≤ v15.toInt := by
  have hi := co_lt i
  show Scalar.cmpi .ne (Scalar.extui (Scalar.andi (Scalar.ori (BitVec.ofBool (BitVec.ofNat 32 (i 0).val == 0#32)) (BitVec.ofBool (v2 != v6))) (BitVec.ofBool (BitVec.sle 0#32 v15)))) 0#32 = 1#1 ↔ _
  rw [or_bool, and_bool, ext_ne, ofBool_one, Bool.and_eq_true, Bool.or_eq_true, beq_iff_eq, bne_iff_ne, BitVec.sle_iff_toInt_le]
  refine and_congr (or_congr ⟨fun e => by have := congrArg BitVec.toNat e; simp at this; omega, fun e => by rw [e]⟩ Iff.rfl) Iff.rfl

theorem off1_eq (i : grid0.Coords) : k0_off1 i = ![(i 0).val] := by
  have hi := co_lt i
  show ![(BitVec.ofNat 32 (i 0).val).toNat] = _
  rw [BitVec.toNat_ofNat, Nat.mod_eq_of_lt (by omega)]
theorem off2_eq (i : grid0.Coords) : k0_off2 i = ![(i 0).val - 1] := by
  have hi := co_lt i
  have : ∀ k : Fin 208, (Scalar.indexCast (Scalar.maxsi (Scalar.subi (BitVec.ofNat 32 k.val) 1#32) 0#32)).toNat = k.val - 1 := by decide
  exact congrArg (fun n => ![n]) (this (i 0))
theorem off3_eq (v2 : BitVec 32) : k0_off3 v2 = ![v2.toNat] := rfl
theorem off4_eq {v2 : BitVec 32} (h : v2.toNat < 16) : k0_off4 v2 = ![16 + v2.toNat] := by
  show ![(16#32 + v2).toNat] = _
  rw [BitVec.toNat_add, Nat.mod_eq_of_lt (by simp; omega)]; rfl

/-! ## The bounds -/

theorem chk1_of (i : grid0.Coords) (v0 v2 : BitVec 32) (h : v2.toNat < 16) : k0_chk1 i v0 v2 := by
  refine ⟨?_, ?_, ?_, ?_, ?_, ?_, ?_, ?_⟩
  · intro a; fin_cases a; show v2.toNat + 1 ≤ 48; omega
  · intro a; rw [off4_eq h]; fin_cases a; show 16 + v2.toNat + 1 ≤ 48; omega
  · intro _ _; rw [off7_eq h]; exact upExp_inb _
  · intro _ _ _; exact .inr ⟨by decide, rfl, rfl, rfl⟩
  · intro _ _; rw [off10_eq h]; exact dnExp_inb _
  · intro _ _ _; exact .inr ⟨by decide, rfl, rfl, rfl⟩
  · intro _ a; fin_cases a; · (show v2.toNat + 1 ≤ 16; omega)
    · (show 0 + 1 ≤ 1; omega)
    · (show 0 + 2816 ≤ 2816; omega)
  · intro _ a; fin_cases a; · (show v2.toNat + 1 ≤ 16; omega)
    · (show 0 + 1 ≤ 1; omega)
    · (show 0 + 5120 ≤ 5120; omega)
theorem chk4_of (i : grid0.Coords) (v0 v2 v6 : BitVec 32) (h : v2.toNat < 16) : k0_chk4 i v0 v2 v6 := by
  refine ⟨?_, ?_, ?_, ?_⟩
  · intro _ _; rw [off19_eq h]; exact upExp_inb _
  · intro _ _ _; exact .inr ⟨by decide, rfl, rfl, rfl⟩
  · intro _ _; rw [off22_eq h]; exact dnExp_inb _
  · intro _ _ _; exact .inr ⟨by decide, rfl, rfl, rfl⟩
theorem chk3_of (i : grid0.Coords) (v0 v2 v6 v11 v15 : BitVec 32) (h : k0_cond3 i v2 v6 v15 = 1#1 → v15.toNat < 16) : k0_chk3 i v0 v2 v6 v11 v15 := by
  refine ⟨?_, ?_, ?_, ?_, ?_, ?_, ?_, ?_, ?_, ?_⟩
  · intro _ _; rw [off11_eq]; exact cell_inb _ _
  · intro _ _; rw [off12_eq]; exact upSlot_inb _
  · intro _ h3; rw [off13_eq (h h3)]; exact upExp_inb _
  · intro _ _ _; exact .inr ⟨by decide, rfl, rfl, rfl⟩
  · intro _ _ _; exact .inr ⟨by decide, rfl, rfl, rfl⟩
  · intro _ _; rw [off14_eq]; exact cell_inb _ _
  · intro _ _; rw [off15_eq]; exact dnSlot_inb _
  · intro _ h3; rw [off16_eq (h h3)]; exact dnExp_inb _
  · intro _ _ _; exact .inr ⟨by decide, rfl, rfl, rfl⟩
  · intro _ _ _; exact .inr ⟨by decide, rfl, rfl, rfl⟩

theorem inb_up {c w : Nat} (v : BitVec 32) (h : c + w ≤ 2816) (a : Fin 3) :
    (![(Scalar.andi v 1#32).toNat, 0, c] : Fin 3 → Nat) a + (![1, 5120, w] : Fin 3 → Nat) a ≤ S2x5120x2816.size a := by
  have := and1_lt v
  fin_cases a
  · show (Scalar.andi v 1#32).toNat + 1 ≤ 2; omega
  · show 0 + 5120 ≤ 5120; omega
  · exact h
theorem inb_dn {c w : Nat} (v : BitVec 32) (h : c + w ≤ 5120) (a : Fin 3) :
    (![(Scalar.andi v 1#32).toNat, 0, c] : Fin 3 → Nat) a + (![1, 1408, w] : Fin 3 → Nat) a ≤ S2x1408x5120.size a := by
  have := and1_lt v
  fin_cases a
  · show (Scalar.andi v 1#32).toNat + 1 ≤ 2; omega
  · show 0 + 1408 ≤ 1408; omega
  · exact h

theorem chk2_of (i : grid0.Coords) (v0 v2 v6 v11 : BitVec 32) : k0_chk2 i v0 v2 v6 v11 := by
  unfold k0_chk2 k0_chk2_0 k0_chk2_1
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩,
    ?_, ?_, ?_, ?_, ?_, ?_, ?_, ?_, ?_, ?_, ?_, ?_⟩ <;> intro _ <;>
  first
    | exact inb_up v11 (by decide)
    | exact inb_dn v11 (by decide)
    | exact fun _ => inb_up v11 (by decide)
    | exact fun _ => inb_dn v11 (by decide)
    | exact fun _ => cell_inb 0 (slotOf v11)
    | exact fun _ => cell_inb 1 (slotOf v11)
    | exact fun _ _ => .inr ⟨by decide, rfl, rfl, rfl⟩

end Cert.Proof.FfnI

end
-- ==== Proof.BodyI.lean ====
/-
  The kernel's body at one grid point.
-/
module

public import proofs.«01_k».proof.Proof.Body
public import proofs.«01_k».proof.Proof.TileI
public import proofs.«01_k».proof.Proof.ChecksI

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

abbrev teM : Memref sig .tc .smem S1024 .i32 := Memref.whole main_arg0
abbrev meM : Memref sig .tc .smem S48 .i32 := Memref.whole main_arg1

section Body
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The kernel's body on the point's buffers. -/
abbrev bodyG : Prog (TpuEff nD τ sig (Elt F) Λ₀ .tc) PUnit :=
  cc0_ffn (F := F) i teM (Memref.isWhole_whole _) meM (Memref.isWhole_whole _) arg3 harg3 arg4 harg4 arg5 harg5
    upM (Memref.isWhole_whole _) dnM (Memref.isWhole_whole _) arg8 harg8 upB (Memref.isWhole_whole _) dnB (Memref.isWhole_whole _)
    x8M hx8 hM hh hqM hhq cc0_scratch5

abbrev teP (q : PosShare TreeShare) : sProp 𝕄 := teM.view.loc (c : Thread nD τ) ↦[teM.view.set]{q} T
abbrev meP (q : PosShare TreeShare) : sProp 𝕄 := meM.view.loc (c : Thread nD τ) ↦[meM.view.set]{q} M

theorem me_read (k : Nat) (off : Fin 1 → Nat) (inb) (pf) (hk : off 0 = k) (hl : k < 48) :
    View.readAt (Elt F) meM.view (Rect.unit (s := S48) off S1.size inb).toLoadRect M (Shape.Idx.first (s := S1) pf) = Tab.mW M k := by
  rw [View.readAt_apply, View.read_apply]
  unfold Tab.mW
  refine congrArg M (funext fun x => ?_)
  fin_cases x
  apply Fin.ext
  have h0 : ((Shape.Idx.first (s := S1) pf) 0).val = 0 := Nat.lt_one_iff.1 ((Shape.Idx.first (s := S1) pf) 0).isLt
  show off 0 + 1 * ((Shape.Idx.first (s := S1) pf) 0).val = k % 48
  rw [h0, hk, Nat.mod_eq_of_lt hl]; rfl

theorem te_read (k : Nat) (off : Fin 1 → Nat) (inb) (pf) (hk : off 0 = k) (hl : k < 1024) :
    View.readAt (Elt F) teM.view (Rect.unit (s := S1024) off S1.size inb).toLoadRect T (Shape.Idx.first (s := S1) pf) = Tab.tE T k := by
  rw [View.readAt_apply, View.read_apply]
  unfold Tab.tE
  refine congrArg T (funext fun x => ?_)
  fin_cases x
  apply Fin.ext
  have h0 : ((Shape.Idx.first (s := S1) pf) 0).val = 0 := Nat.lt_one_iff.1 ((Shape.Idx.first (s := S1) pf) 0).isLt
  show off 0 + 1 * ((Shape.Idx.first (s := S1) pf) 0).val = k % 1024
  rw [h0, hk, Nat.mod_eq_of_lt hl]; rfl

/-- The pieces a live tile writes: those of its arithmetic, and the last block of columns. -/
def liveL (w : (Σ' (v1062 : FVec F S1x5120 .f32), FVec F S256x256 .f32) × List (View.Piece (Elt F) S256x5120 .f32)) : List (View.Piece (Elt F) S256x5120 .f32) :=
  ⟨(Rect.unit (s := S256x5120) ![0, 4864] S256x256.size inb_S256x5120_S256x256_0_4864), k0_pay1 w.1.1 w.1.2⟩ :: w.2

set_option maxHeartbeats 4000000 in
/-- The body at a live tile. -/
theorem liveRun (q : PosShare TreeShare)
    (gx : Buf (Elt F) (arg3.view.loc (c : Thread nD τ))) (g4 : Buf (Elt F) (arg4.view.loc (c : Thread nD τ))) (g5 : Buf (Elt F) (arg5.view.loc (c : Thread nD τ)))
    (gO : Buf (Elt F) (arg8.view.loc (c : Thread nD τ)))
    (v0 v2 v6 v11 v15 : BitVec 32) (e0 : v0 = Tab.mW M 32) (e2 : v2 = Tab.tE T (i 0).val) (e6 : v6 = Tab.tE T ((i 0).val - 1))
    (e11 : v11 = Tab.mW M v2.toNat) (e15 : v15 = Tab.mW M (16 + v2.toNat)) (l2 : v2.toNat < 16) (v9 : BitVec 1) (e9 : v9 = (Scalar.ori (Scalar.cmpi .eq (BitVec.ofNat 32 (i 0).val) 0#32) (Scalar.cmpi .ne v2 v6))) (v12 : BitVec 32) (e12 : v12 = Scalar.andi v11 1#32)
    (hw1 : k0_chk1 i v0 v2) (hw4 : k0_chk4 i v0 v2 v6) (hw2 : k0_chk2 i v0 v2 v6 v11) (hw3 : k0_chk3 i v0 v2 v6 v11 v15) (h1 : k0_cond1 i v0 = 1#1)
    (Rin Rout : sProp 𝕄)
    (hcase : Part1Case c XU XD i arg3 harg3 arg4 harg4 arg5 harg5 arg8 harg8 v0 v2 hw1 v6 hw4
        v9 v11 hw2 v12 v15 hw3 h1 x8M hx8 hM hh hqM hhq gx Rin Rout) :
    iprop(teP c T q ∗ meP c M q ∗ xsP c arg3 gx ∗ s1P c arg4 g4 ∗ s2P c arg5 g5 ∗ outP c arg8 gO ∗ Scr c x8M hM hqM ∗ Rin ∗ Ow c)
      ⊢ wp frame (wpE (defs₀ (F := F)) 𝒱₀ (c : Thread nD τ) none) Set.univ
      (bodyG i arg3 harg3 arg4 harg4 arg5 harg5 arg8 harg8 x8M hx8 hM hh hqM hhq)
      (fun _ => iprop(teP c T q ∗ meP c M q ∗ xsP c arg3 gx ∗ s1P c arg4 g4 ∗ s2P c arg5 g5
        ∗ outP c arg8 (arg8.view.writes (Elt F) gO (liveL (tileRun c XU XD i arg3 harg3 arg4 harg4 arg5 harg5 arg8 harg8 v0 v2 hw1 v6 hw4 v9 v11 hw2 v12 v15 hw3 h1 x8M hx8 hM hh hqM hhq gx g4 g5).1)) ∗ Scr c x8M hM hqM
        ∗ Cur c XU XD (slotOf v11) (expOf v2) ∗ Rout ∗ Ow c)) := by
  have ci : (i 0).val < 208 := co_lt i
  have hcut := (tileRun c XU XD i arg3 harg3 arg4 harg4 arg5 harg5 arg8 harg8 v0 v2 hw1 v6 hw4
        v9 v11 hw2 v12 v15 hw3 h1 x8M hx8 hM hh hqM hhq gx g4 g5).2 Rin Rout gO hcase
  clear hcase
  obtain ⟨W, eW⟩ : ∃ W, W = (tileRun c XU XD i arg3 harg3 arg4 harg4 arg5 harg5 arg8 harg8 v0 v2 hw1 v6 hw4
        v9 v11 hw2 v12 v15 hw3 h1 x8M hx8 hM hh hqM hhq gx g4 g5).1 := ⟨_, rfl⟩
  rw [← eW] at hcut ⊢
  clear eW
  obtain ⟨⟨a, b⟩, L⟩ := W
  dsimp only [part32] at hcut ⊢
  iintro ⟨HT, HM, Hx, H4, H5, HO, HS, HR, HW⟩
  dsimp only [bodyG]
  sl_unfold [cc0_ffn]
  sl_exec
  have r0 : liveRun.sl.r c M = v0 := (me_read c M 32 _ _ _ rfl (by decide)).trans e0.symm
  have r1 : liveRun.sl.r_1 c T i = v2 := (te_read c T (i 0).val _ _ _ (congrFun (off1_eq i) 0) (by have := co_lt i; omega)).trans e2.symm
  generalize liveRun.sl.r c M = w0 at r0 ⊢
  generalize liveRun.sl.r_1 c T i = w2 at r1 ⊢
  subst r0 r1
  sl_exec
  have r2 : liveRun.sl.r_2 c T i = v6 := (te_read c T ((i 0).val - 1) _ _ _ (congrFun (off2_eq i) 0) (by have := co_lt i; omega)).trans e6.symm
  generalize liveRun.sl.r_2 c T i = w6 at r2 ⊢
  subst r2
  sl_exec
  have r3 : liveRun.sl.r_3 c M i w0 w2 hw1 = v11 := (me_read c M w2.toNat _ _ _ (congrFun (off3_eq w2) 0) (by omega)).trans e11.symm
  generalize liveRun.sl.r_3 c M i w0 w2 hw1 = w11 at r3 ⊢
  subst r3
  sl_exec
  have r4 : liveRun.sl.r_4 c M i w0 w2 hw1 = v15 := (me_read c M (16 + w2.toNat) _ _ _ (congrFun (off4_eq l2) 0) (by omega)).trans e15.symm
  generalize liveRun.sl.r_4 c M i w0 w2 hw1 = w15 at r4 ⊢
  subst r4
  have r5 : liveRun.sl.v9 i w2 w6 = v9 := e9.symm
  have r6 : liveRun.sl.v12 w11 = v12 := e12.symm
  generalize liveRun.sl.v9 i w2 w6 = w9 at r5 ⊢
  generalize liveRun.sl.v12 w11 = w12 at r6 ⊢
  subst r5 r6
  sl_exec_parts
  cases hk0_part32_0
  sl_step
  isplitl [HT]; · iexact HT
  isplitl [HM]; · iexact HM
  isplitl [Hk0_part32_1]; · iexact Hk0_part32_1
  isplitl [Hk0_part32_2]; · iexact Hk0_part32_2
  isplitl [Hk0_part32_3]; · iexact Hk0_part32_3
  isplitl [Hk0_part32_4]; · iexact Hk0_part32_4
  isplitl [Hk0_part32_5 Hk0_part32_6 Hk0_part32_7]
  · unfold Scr
    isplitl [Hk0_part32_5]; · iexists _; iexact Hk0_part32_5
    isplitl [Hk0_part32_6]; · iexists _; iexact Hk0_part32_6
    iexists _; iexact Hk0_part32_7
  isplitl [Hk0_part32_8 Hk0_part32_9 Hk0_part32_10 Hk0_part32_11]
  · unfold Cur
    isplitl [Hk0_part32_8]; · iexact Hk0_part32_8
    isplitl [Hk0_part32_9]; · iexact Hk0_part32_9
    isplitl [Hk0_part32_10]; · iexact Hk0_part32_10
    iexact Hk0_part32_11
  isplitl [Hk0_part32_12]; · iexact Hk0_part32_12
  unfold Ow; iexists _; iexact Hk0_part32_13

theorem chk3_idle (v0 v2 v6 v11 v15 : BitVec 32) (h1 : ¬ k0_cond1 i v0 = 1#1) : k0_chk3 i v0 v2 v6 v11 v15 := by
  refine ⟨?_, ?_, ?_, ?_, ?_, ?_, ?_, ?_, ?_, ?_⟩ <;> intro h <;> exact absurd h h1

set_option maxHeartbeats 4000000 in
/-- The body past the live tiles: it reads the tables only. -/
theorem idleRun (q : PosShare TreeShare)
    (v0 v2 : BitVec 32) (e0 : v0 = Tab.mW M 32) (e2 : v2 = Tab.tE T (i 0).val) (l2 : v2.toNat < 16) (h1 : ¬ k0_cond1 i v0 = 1#1) :
    iprop(teP c T q ∗ meP c M q) ⊢ wp frame (wpE (defs₀ (F := F)) 𝒱₀ (c : Thread nD τ) none) Set.univ
      (bodyG i arg3 harg3 arg4 harg4 arg5 harg5 arg8 harg8 x8M hx8 hM hh hqM hhq) (fun _ => iprop(teP c T q ∗ meP c M q)) := by
  have hw1 := chk1_of i v0 v2 l2
  iintro ⟨HT, HM⟩
  dsimp only [bodyG]
  sl_unfold [cc0_ffn]
  sl_exec
  have r0 : idleRun.sl.r c M = v0 := (me_read c M 32 _ _ _ rfl (by decide)).trans e0.symm
  have r1 : idleRun.sl.r_1 c T i = v2 := (te_read c T (i 0).val _ _ _ (congrFun (off1_eq i) 0) (by have := co_lt i; omega)).trans e2.symm
  generalize idleRun.sl.r c M = w0 at r0 ⊢
  generalize idleRun.sl.r_1 c T i = w2 at r1 ⊢
  subst r0 r1
  have hw4 : ∀ v6, k0_chk4 i w0 w2 v6 := fun v6 => chk4_of i w0 w2 v6 l2
  have hw2 : ∀ v6 v11, k0_chk2 i w0 w2 v6 v11 := fun v6 v11 => chk2_of i w0 w2 v6 v11
  have hw3 : ∀ v6 v11 v15, k0_chk3 i w0 w2 v6 v11 v15 := fun v6 v11 v15 => chk3_idle i w0 w2 v6 v11 v15 h1
  sl_exec
  have hw4' := hw4 (idleRun.sl.r_2 c T i)
  sl_exec
  have hw2' := hw2 (idleRun.sl.r_2 c T i) (idleRun.sl.r_3 c M i w0 w2 hw1)
  sl_exec
  have hw3' := hw3 (idleRun.sl.r_2 c T i) (idleRun.sl.r_3 c M i w0 w2 hw1) (idleRun.sl.r_4 c M i w0 w2 hw1)
  sl_exec
  sl_step
  isplitl [HT]; · iexact HT
  iexact HM

end Body

end Cert.Proof.FfnI

end
-- ==== Proof.StepI.lean ====
/-
  What the kernel holds between two tiles, and one tile's step of it.
-/
module

public import proofs.«01_k».proof.Proof.Step
public import proofs.«01_k».proof.Proof.BodyI
public import proofs.«01_k».proof.Proof.Tables

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem slot_xor (a b : BitVec 32) (h : (a ^^^ b) &&& 1#32 = 1#32) : slotOf b = oth (slotOf a) := by
  have two : ∀ v : BitVec 32, v &&& 1#32 = 0#32 ∨ v &&& 1#32 = 1#32 := fun v => by
    have h := and1_lt v
    rcases Nat.lt_or_ge (Scalar.andi v 1#32).toNat 1 with h1 | h1
    · left; apply BitVec.eq_of_toNat_eq; show (Scalar.andi v 1#32).toNat = 0; omega
    · right; apply BitVec.eq_of_toNat_eq; show (Scalar.andi v 1#32).toNat = 1; omega
  have e : (a &&& 1#32) ^^^ (b &&& 1#32) = 1#32 := by
    refine Eq.trans ?_ h
    ext j hj
    rw [BitVec.getElem_xor, BitVec.getElem_and, BitVec.getElem_and, BitVec.getElem_and, BitVec.getElem_xor]
    generalize (1#32)[j] = z
    cases a[j] <;> cases b[j] <;> cases z <;> rfl
  apply Fin.ext
  have ho : ∀ s : Fin 2, (oth s).val = 1 - s.val := by decide
  rw [ho]
  show (b &&& 1#32).toNat = 1 - (a &&& 1#32).toNat
  rcases two a with h0 | h0 <;> rcases two b with h1 | h1 <;> rw [h0, h1] at e ⊢ <;> first | exact absurd e (by decide) | rfl
theorem oth_oth (s : Fin 2) : oth (oth s) = s := by revert s; decide

section Step
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))

/-- One half of the share the weights are read at, or the other. -/
def tshare (b : Bool) : PosShare TreeShare := if b then fullShare.left else fullShare.right
/-- The slot of the expert a word names. -/
def slotAt (v : BitVec 32) : Fin 2 := slotOf (Tab.mW M v.toNat)
/-- What is ahead after a tile of expert `v`: the next expert's copy in flight, or nothing and the other slot free. -/
def Ahead (v : BitVec 32) (b : Bool) : sProp 𝕄 :=
  if 0 ≤ (Tab.mW M (16 + v.toNat)).toInt then FlyTo c XU XD (tshare b) (oth (slotAt c M v)) (expOf (Tab.mW M (16 + v.toNat)))
  else iprop(Tok c XU XD (tshare b) ∗ FreeAt c (oth (slotAt c M v)))
/-- After a tile of expert `v`. -/
def After (v : BitVec 32) (b : Bool) : sProp 𝕄 :=
  iprop(Tok c XU XD (tshare b) ∗ Cur c XU XD (slotAt c M v) (expOf v) ∗ Ahead c XU XD M v (!b))
/-- After `k` live tiles. -/
def Inv : ℕ → sProp 𝕄
  | 0 => iprop(Tok c XU XD fullShare.left ∗ Tok c XU XD fullShare.right ∗ FreeAt c 0 ∗ FreeAt c 1)
  | k + 1 => iprop(∃ b, After c XU XD M (Tab.tE T k) b)

theorem Inv_zero : Inv c XU XD T M 0 = iprop(Tok c XU XD fullShare.left ∗ Tok c XU XD fullShare.right ∗ FreeAt c 0 ∗ FreeAt c 1) := rfl
theorem Inv_succ (k : ℕ) : Inv c XU XD T M (k + 1) = iprop(∃ b, After c XU XD M (Tab.tE T k) b) := rfl

theorem free_two (s : Fin 2) : iprop(FreeAt (F := F) c 0 ∗ FreeAt c 1) ⊢ iprop(FreeAt (F := F) c s ∗ FreeAt c (oth s)) := by
  rcases (show s = 0 ∨ s = 1 by revert s; decide) with rfl | rfl
  · exact .rfl
  · show _ ⊢ iprop(FreeAt (F := F) c 1 ∗ FreeAt c 0)
    iintro ⟨H0, H1⟩
    isplitl [H1] <;> iassumption
theorem two_free (s : Fin 2) : iprop(FreeAt (F := F) c s ∗ FreeAt c (oth s)) ⊢ iprop(FreeAt c 0 ∗ FreeAt c 1) := by
  rcases (show s = 0 ∨ s = 1 by revert s; decide) with rfl | rfl
  · exact .rfl
  · show iprop(FreeAt (F := F) c 1 ∗ FreeAt c 0) ⊢ _
    iintro ⟨H0, H1⟩
    isplitl [H1] <;> iassumption

variable (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)

/-- The words the body reads at a point. -/
abbrev w0 : BitVec 32 := Tab.mW M 32
abbrev w2 : BitVec 32 := Tab.tE T (i 0).val
abbrev w6 : BitVec 32 := Tab.tE T ((i 0).val - 1)
abbrev w11 : BitVec 32 := Tab.mW M (w2 c T i).toNat
abbrev w15 : BitVec 32 := Tab.mW M (16 + (w2 c T i).toNat)
abbrev w9 : BitVec 1 := Scalar.ori (Scalar.cmpi .eq (BitVec.ofNat 32 (i 0).val) 0#32) (Scalar.cmpi .ne (w2 c T i) (w6 c T i))
abbrev w12 : BitVec 32 := Scalar.andi (w11 c T M i) 1#32

variable (hok : Tab.Ok T M) (hk : (i 0).val < Tab.nT M)

include hok in
theorem l2 : (w2 c T i).toNat < 16 := hok.expert _ (co_lt i)
include hok hk in
theorem l15 : (w15 c T M i).toInt < 0 ∨ (w15 c T M i).toNat < 16 ∧ 0 ≤ (w15 c T M i).toInt := by
  obtain ⟨d, hd⟩ : ∃ d, (i 0).val + d + 1 = Tab.nT M := ⟨Tab.nT M - (i 0).val - 1, by omega⟩
  rcases hok.next d (i 0).val hd with h | h
  · exact .inl h
  · exact .inr ⟨h.1, h.2.1⟩
include hok in
theorem ok1 : k0_chk1 i (w0 c M) (w2 c T i) := chk1_of i _ _ (l2 c T M i hok)
include hok in
theorem ok4 : k0_chk4 i (w0 c M) (w2 c T i) (w6 c T i) := chk4_of i _ _ _ (l2 c T M i hok)
theorem ok2 : k0_chk2 i (w0 c M) (w2 c T i) (w6 c T i) (w11 c T M i) := chk2_of i _ _ _ _
include hok hk in
theorem ok3 : k0_chk3 i (w0 c M) (w2 c T i) (w6 c T i) (w11 c T M i) (w15 c T M i) := chk3_of i _ _ _ _ _ fun h => by
  rcases l15 c T M i hok hk with h' | h'
  · have := ((cond3_iff i _ _ _).1 h).2; omega
  · exact h'.1
include hok hk in
theorem okh : k0_cond1 i (w0 c M) = 1#1 := (cond1_iff i _ hok.le).2 hk

/-- The tile's result: what the last block of columns is made of, and the other pieces. -/
def tileW (gx : Buf (Elt F) (arg3.view.loc (c : Thread nD τ))) (g4 : Buf (Elt F) (arg4.view.loc (c : Thread nD τ))) (g5 : Buf (Elt F) (arg5.view.loc (c : Thread nD τ))) :=
  (tileRun c XU XD i arg3 harg3 arg4 harg4 arg5 harg5 arg8 harg8 (w0 c M) (w2 c T i) (ok1 c T M i hok) (w6 c T i) (ok4 c T M i hok) (w9 c T i) (w11 c T M i)
    (ok2 c T M i) (w12 c T M i) (w15 c T M i) (ok3 c T M i hok hk) (okh c T M i hok hk) x8M hx8 hM hh hqM hhq gx g4 g5).1

abbrev CaseAt (gx : Buf (Elt F) (arg3.view.loc (c : Thread nD τ))) (Rin Rout : sProp 𝕄) : Prop :=
  Part1Case c XU XD i arg3 harg3 arg4 harg4 arg5 harg5 arg8 harg8 (w0 c M) (w2 c T i) (ok1 c T M i hok) (w6 c T i) (ok4 c T M i hok) (w9 c T i) (w11 c T M i)
    (ok2 c T M i) (w12 c T M i) (w15 c T M i) (ok3 c T M i hok hk) (okh c T M i hok hk) x8M hx8 hM hh hqM hhq gx Rin Rout

/-- A live tile's body from a case of its control part, anything else held aside. -/
theorem step_of (q : PosShare TreeShare) (gx) (g4) (g5) (gO) (Rin Rout A B X : sProp 𝕄)
    (hcase : CaseAt c XU XD T M i arg3 harg3 arg4 harg4 arg5 harg5 arg8 harg8 x8M hx8 hM hh hqM hhq hok hk gx Rin Rout)
    (hA : A ⊢ iprop(Rin ∗ X)) (hB : iprop(Cur c XU XD (slotOf (w11 c T M i)) (expOf (w2 c T i)) ∗ Rout ∗ X) ⊢ B) :
    iprop((teP c T q ∗ meP c M q ∗ xsP c arg3 gx ∗ s1P c arg4 g4 ∗ s2P c arg5 g5 ∗ outP c arg8 gO ∗ Scr c x8M hM hqM ∗ Ow c) ∗ A)
      ⊢ wp frame (wpE (defs₀ (F := F)) 𝒱₀ (c : Thread nD τ) none) Set.univ
      (bodyG i arg3 harg3 arg4 harg4 arg5 harg5 arg8 harg8 x8M hx8 hM hh hqM hhq)
      (fun _ => iprop((teP c T q ∗ meP c M q ∗ xsP c arg3 gx ∗ s1P c arg4 g4 ∗ s2P c arg5 g5
        ∗ outP c arg8 (arg8.view.writes (Elt F) gO (liveL (tileW c XU XD T M i arg3 harg3 arg4 harg4 arg5 harg5 arg8 harg8 x8M hx8 hM hh hqM hhq hok hk gx g4 g5)))
        ∗ Scr c x8M hM hqM ∗ Ow c) ∗ B)) := by
  have h := liveRun c XU XD T M i arg3 harg3 arg4 harg4 arg5 harg5 arg8 harg8 x8M hx8 hM hh hqM hhq q gx g4 g5 gO
    (w0 c M) (w2 c T i) (w6 c T i) (w11 c T M i) (w15 c T M i) rfl rfl rfl rfl rfl (l2 c T M i hok) (w9 c T i) rfl (w12 c T M i) rfl
    (ok1 c T M i hok) (ok4 c T M i hok) (ok2 c T M i) (ok3 c T M i hok hk) (okh c T M i hok hk) Rin Rout hcase
  refine BIBase.Entails.trans ?_ (((sep_mono h (.rfl (P := X))).trans (wp_frame_r _ _ _)).trans (wp_mono _ _ _ fun _ => ?_))
  · iintro ⟨⟨HT, HM, Hx, H4, H5, HO, HS, HW⟩, HA⟩
    ihave HA' := hA $$ HA
    icases HA' with ⟨HR, HX⟩
    isplitr [HX]
    · isplitl [HT]; · iexact HT
      isplitl [HM]; · iexact HM
      isplitl [Hx]; · iexact Hx
      isplitl [H4]; · iexact H4
      isplitl [H5]; · iexact H5
      isplitl [HO]; · iexact HO
      isplitl [HS]; · iexact HS
      isplitl [HR]; · iexact HR
      iexact HW
    · iexact HX
  · iintro ⟨⟨HT, HM, Hx, H4, H5, HO, HS, HC, HR, HW⟩, HX⟩
    isplitr [HC HR HX]
    · isplitl [HT]; · iexact HT
      isplitl [HM]; · iexact HM
      isplitl [Hx]; · iexact Hx
      isplitl [H4]; · iexact H4
      isplitl [H5]; · iexact H5
      isplitl [HO]; · iexact HO
      isplitl [HS]; · iexact HS
      iexact HW
    · iapply hB
      isplitl [HC]; · iexact HC
      isplitl [HR] <;> iassumption

/-- One live tile: from what is held after the tiles before it to what is held after it. -/
theorem stepRun (q : PosShare TreeShare) (gx) (g4) (g5) (gO) :
    iprop((teP c T q ∗ meP c M q ∗ xsP c arg3 gx ∗ s1P c arg4 g4 ∗ s2P c arg5 g5 ∗ outP c arg8 gO ∗ Scr c x8M hM hqM ∗ Ow c) ∗ Inv c XU XD T M (i 0).val)
      ⊢ wp frame (wpE (defs₀ (F := F)) 𝒱₀ (c : Thread nD τ) none) Set.univ
      (bodyG i arg3 harg3 arg4 harg4 arg5 harg5 arg8 harg8 x8M hx8 hM hh hqM hhq)
      (fun _ => iprop((teP c T q ∗ meP c M q ∗ xsP c arg3 gx ∗ s1P c arg4 g4 ∗ s2P c arg5 g5
        ∗ outP c arg8 (arg8.view.writes (Elt F) gO (liveL (tileW c XU XD T M i arg3 harg3 arg4 harg4 arg5 harg5 arg8 harg8 x8M hx8 hM hh hqM hhq hok hk gx g4 g5)))
        ∗ Scr c x8M hM hqM ∗ Ow c) ∗ Inv c XU XD T M ((i 0).val + 1))) := by
  have L2 := l2 c T M i hok
  have L15 := l15 c T M i hok hk
  by_cases h0 : (i 0).val = 0
  · have c2 : k0_cond2 i = 1#1 := (cond2_iff i).2 h0
    have c4 : k0_cond4 i (w2 c T i) (w6 c T i) = 1#1 := (cond4_iff i _ _).2 (.inl h0)
    by_cases hn : 0 ≤ (w15 c T M i).toInt
    · have c3 : k0_cond3 i (w2 c T i) (w6 c T i) (w15 c T M i) = 1#1 := (cond3_iff i _ _ _).2 ⟨.inl h0, hn⟩
      have L15' : (w15 c T M i).toNat < 16 := L15.elim (fun h => by omega) (·.1)
      refine step_of c XU XD T M i arg3 harg3 arg4 harg4 arg5 harg5 arg8 harg8 x8M hx8 hM hh hqM hhq hok hk q gx g4 g5 gO _ _ _ _ iprop(emp)
        (part1_first_next c XU XD i arg3 harg3 arg4 harg4 arg5 harg5 arg8 harg8 _ _ _ _ _ _ _ _ _ _ _ _ x8M hx8 hM hh hqM hhq gx fullShare.left fullShare.right L2 L15' c2 c3 c4) ?_ ?_
      · rw [h0, Inv_zero]
        iintro ⟨Hl, Hr, H01⟩
        ihave H := (free_two c (slotOf (w11 c T M i))) $$ H01
        isplitl; swap; · iempintro
        isplitl [Hl]; · iexact Hl
        isplitl [Hr]; · iexact Hr
        iexact H
      · rw [Inv_succ]
        iintro ⟨HC, ⟨Hl, HF⟩, -⟩
        iexists true
        unfold After Ahead
        rw [if_pos hn]
        isplitl [Hl]; · iexact Hl
        isplitl [HC]; · iexact HC
        iexact HF
    · have c3 : ¬ k0_cond3 i (w2 c T i) (w6 c T i) (w15 c T M i) = 1#1 := fun h => hn ((cond3_iff i _ _ _).1 h).2
      refine step_of c XU XD T M i arg3 harg3 arg4 harg4 arg5 harg5 arg8 harg8 x8M hx8 hM hh hqM hhq hok hk q gx g4 g5 gO _ _ _ _
        iprop(Tok c XU XD fullShare.right ∗ FreeAt c (oth (slotOf (w11 c T M i))))
        (part1_first_last c XU XD i arg3 harg3 arg4 harg4 arg5 harg5 arg8 harg8 _ _ _ _ _ _ _ _ _ _ _ _ x8M hx8 hM hh hqM hhq gx fullShare.left L2 c2 c3 c4) ?_ ?_
      · rw [h0, Inv_zero]
        iintro ⟨Hl, Hr, H01⟩
        ihave H := (free_two c (slotOf (w11 c T M i))) $$ H01
        icases H with ⟨Hs, Ho⟩
        isplitl [Hl Hs]
        · isplitl [Hl] <;> iassumption
        isplitl [Hr] <;> iassumption
      · rw [Inv_succ]
        iintro ⟨HC, Hl, Hr, Ho⟩
        iexists true
        unfold After Ahead
        rw [if_neg hn]
        isplitl [Hl]; · iexact Hl
        isplitl [HC]; · iexact HC
        isplitl [Hr]; · iexact Hr
        iexact Ho
  · obtain ⟨k, hk1⟩ : ∃ k, (i 0).val = k + 1 := ⟨(i 0).val - 1, by omega⟩
    have c2 : ¬ k0_cond2 i = 1#1 := fun h => h0 ((cond2_iff i).1 h)
    have e6 : w6 c T i = Tab.tE T k := by show Tab.tE T ((i 0).val - 1) = _; rw [hk1]; rfl
    have e2 : w2 c T i = Tab.tE T (k + 1) := by show Tab.tE T (i 0).val = _; rw [hk1]
    rw [hk1]
    by_cases hs : w2 c T i = w6 c T i
    · have c4 : ¬ k0_cond4 i (w2 c T i) (w6 c T i) = 1#1 := fun h => ((cond4_iff i _ _).1 h).elim h0 (· hs)
      have c3 : ¬ k0_cond3 i (w2 c T i) (w6 c T i) (w15 c T M i) = 1#1 := fun h => ((cond3_iff i _ _ _).1 h).1.elim h0 (· hs)
      have e : Tab.tE T k = w2 c T i := e6.symm.trans hs.symm
      have e' : Tab.tE T (k + 1) = w2 c T i := e2.symm
      rw [Inv_succ, Inv_succ, e, e']
      iintro ⟨HP, ⟨%b, HA⟩⟩
      iapply (step_of c XU XD T M i arg3 harg3 arg4 harg4 arg5 harg5 arg8 harg8 x8M hx8 hM hh hqM hhq hok hk q gx g4 g5 gO _ _
        (After c XU XD M (w2 c T i) b) iprop(∃ b, After c XU XD M (w2 c T i) b)
        iprop(Tok c XU XD (tshare b) ∗ Ahead c XU XD M (w2 c T i) (!b))
        (part1_same c XU XD i arg3 harg3 arg4 harg4 arg5 harg5 arg8 harg8 _ _ _ _ _ _ _ _ _ _ _ _ x8M hx8 hM hh hqM hhq gx c2 c3 c4) ?_ ?_)
      · unfold After
        iintro ⟨Hl, HC, HN⟩
        isplitl [HC]; · iexact HC
        isplitl [Hl] <;> iassumption
      · iintro ⟨HC, -, Hl, HN⟩
        iexists b
        unfold After
        isplitl [Hl]; · iexact Hl
        isplitl [HC]; · iexact HC
        iexact HN
      · isplitl [HP] <;> iassumption
    · have hch := hok.change k (by omega) (by rw [← e6, ← e2]; exact fun h => hs h.symm)
      have c4 : k0_cond4 i (w2 c T i) (w6 c T i) = 1#1 := (cond4_iff i _ _).2 (.inr hs)
      have e16 : Tab.mW M (16 + (Tab.tE T k).toNat) = w2 c T i := hch.1.trans e2.symm
      have eo : slotOf (w11 c T M i) = oth (slotAt c M (Tab.tE T k)) := by
        refine slot_xor _ _ ?_
        show (Tab.mW M _ ^^^ Tab.mW M (w2 c T i).toNat) &&& 1#32 = 1#32
        rw [e2]; exact hch.2
      have eo' : slotAt c M (Tab.tE T k) = oth (slotOf (w11 c T M i)) := by rw [eo, oth_oth]
      have p16 : 0 ≤ (Tab.mW M (16 + (Tab.tE T k).toNat)).toInt := by
        rw [e16, small_toInt _ (by omega)]; omega
      have e' : Tab.tE T (k + 1) = w2 c T i := e2.symm
      have hA : ∀ b, After c XU XD M (Tab.tE T k) b ⊢ iprop(Tok c XU XD (tshare b) ∗ FreeAt c (oth (slotOf (w11 c T M i)))
          ∗ FlyTo c XU XD (tshare (!b)) (slotOf (w11 c T M i)) (expOf (w2 c T i))) := fun b => by
        unfold After Ahead
        rw [if_pos p16, e16, ← eo, eo']
        iintro ⟨Hl, HC, HF⟩
        isplitl [Hl]; · iexact Hl
        isplitl [HC]
        · iapply (Cur_free c XU XD _ (expOf (Tab.tE T k))); iexact HC
        iexact HF
      rw [Inv_succ, Inv_succ, e']
      iintro ⟨HP, ⟨%b, HA⟩⟩
      by_cases hn : 0 ≤ (w15 c T M i).toInt
      · have c3 : k0_cond3 i (w2 c T i) (w6 c T i) (w15 c T M i) = 1#1 := (cond3_iff i _ _ _).2 ⟨.inr hs, hn⟩
        have L15' : (w15 c T M i).toNat < 16 := L15.elim (fun h => by omega) (·.1)
        iapply (step_of c XU XD T M i arg3 harg3 arg4 harg4 arg5 harg5 arg8 harg8 x8M hx8 hM hh hqM hhq hok hk q gx g4 g5 gO _ _
          (After c XU XD M (Tab.tE T k) b) iprop(∃ b, After c XU XD M (w2 c T i) b) iprop(emp)
          (part1_change_next c XU XD i arg3 harg3 arg4 harg4 arg5 harg5 arg8 harg8 _ _ _ _ _ _ _ _ _ _ _ _ x8M hx8 hM hh hqM hhq gx (tshare (!b)) (tshare b) L2 L15' c2 c3 c4) ?_ ?_)
        · refine (hA b).trans ?_
          iintro ⟨Hl, HF, HFl⟩
          isplitl; swap; · iempintro
          isplitl [Hl]; · iexact Hl
          isplitl [HFl] <;> iassumption
        · iintro ⟨HC, ⟨Hl, HF⟩, -⟩
          iexists (!b)
          unfold After Ahead
          rw [if_pos hn, Bool.not_not]
          isplitl [Hl]; · iexact Hl
          isplitl [HC]; · iexact HC
          iexact HF
        · isplitl [HP] <;> iassumption
      · have c3 : ¬ k0_cond3 i (w2 c T i) (w6 c T i) (w15 c T M i) = 1#1 := fun h => hn ((cond3_iff i _ _ _).1 h).2
        iapply (step_of c XU XD T M i arg3 harg3 arg4 harg4 arg5 harg5 arg8 harg8 x8M hx8 hM hh hqM hhq hok hk q gx g4 g5 gO _ _
          (After c XU XD M (Tab.tE T k) b) iprop(∃ b, After c XU XD M (w2 c T i) b)
          iprop(Tok c XU XD (tshare b) ∗ FreeAt c (oth (slotOf (w11 c T M i))))
          (part1_change_last c XU XD i arg3 harg3 arg4 harg4 arg5 harg5 arg8 harg8 _ _ _ _ _ _ _ _ _ _ _ _ x8M hx8 hM hh hqM hhq gx (tshare (!b)) L2 c2 c3 c4) ?_ ?_)
        · refine (hA b).trans ?_
          iintro ⟨Hl, HF, HFl⟩
          isplitl [HFl]; · iexact HFl
          isplitl [Hl] <;> iassumption
        · iintro ⟨HC, Hq, Hl, HF⟩
          iexists (!b)
          unfold After Ahead
          rw [if_neg hn, Bool.not_not]
          isplitl [Hq]; · iexact Hq
          isplitl [HC]; · iexact HC
          isplitl [Hl]; · iexact Hl
          iexact HF
        · isplitl [HP] <;> iassumption

include hok in
/-- Past the last live tile nothing is in flight: the weights whole again, both slots free. -/
theorem inv_last : Inv c XU XD T M (Tab.nT M) ⊢ iprop(Tok c XU XD fullShare.left ∗ Tok c XU XD fullShare.right ∗ FreeAt c 0 ∗ FreeAt c 1) := by
  obtain ⟨k, hk1⟩ : ∃ k, Tab.nT M = k + 1 := ⟨Tab.nT M - 1, by have := hok.one_le; omega⟩
  have hl := hok.last k hk1.symm
  rw [hk1, Inv_succ]
  iintro ⟨%b, HA⟩
  unfold After Ahead
  rw [if_neg (by omega)]
  icases HA with ⟨Hl, HC, Hr, Ho⟩
  ihave HF := (Cur_free c XU XD (slotAt c M (Tab.tE T k)) (expOf (Tab.tE T k))) $$ HC
  ihave H01 := (two_free c (slotAt c M (Tab.tE T k))) $$ [HF Ho]
  · isplitl [HF] <;> iassumption
  icases H01 with ⟨H0, H1⟩
  cases b
  · isplitl [Hr]; · iexact Hr
    isplitl [Hl]; · iexact Hl
    isplitl [H0] <;> iassumption
  · isplitl [Hl]; · iexact Hl
    isplitl [Hr]; · iexact Hr
    isplitl [H0] <;> iassumption

end Step

end Cert.Proof.FfnI

end
-- ==== Proof.PointsI.lean ====
/-
  The grid's points under the tables: which block each point names, which points are live, and where the output's
  buffer is written back.
-/
module

public import proofs.«01_k».proof.Proof.Points
public import proofs.«01_k».proof.Proof.StepI
public import proofs.«01_k».proof.Proof.Gen.KernelIdeal.Launch
public import Idealize.ShloMosaic.Lib.Pipeline.TableIdle
public import Idealize.ShloMosaic.Lib.Pipeline.Quiescent
public import Idealize.ShloMosaic.Lib.Pipeline.FrameBody

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- The number of live tiles, read from the second table. -/
abbrev nL (pf : pre0.Contents (Elt F)) : Nat := Tab.nT (pf 1)
abbrev OkPf (pf : pre0.Contents (Elt F)) : Prop := Tab.Ok (pf 0) (pf 1)

theorem at32 (pf : pre0.Contents (Elt F)) : pf.at 1 (Rect.unit (s := S48) ![32] S1.size inb_S48_S1_32) numel1_S1 = Tab.mW (pf 1) 32 := by
  refine congrArg (pf 1) (funext fun x => ?_)
  fin_cases x
  rfl
theorem atD32 (pf : pre0.Contents (Elt F)) : pf.atD 1 ![32] = Tab.mW (pf 1) 32 := by
  unfold Pipeline.Prefetch.Contents.atD
  rw [dif_pos (by decide)]
  refine congrArg (pf 1) (funext fun x => ?_)
  fin_cases x
  rfl

theorem min_word (i : Nat) (v : BitVec 32) (hi : i < 208) (h1 : 1 ≤ v.toNat) (h2 : v.toNat ≤ 208) :
    (Scalar.minsi (BitVec.ofNat 32 i) (Scalar.subi v 1#32)).toNat = min i (v.toNat - 1) := by
  have e1 : (Scalar.subi v 1#32).toNat = v.toNat - 1 := by
    show (v - 1#32).toNat = _
    rw [BitVec.toNat_sub]; have := v.isLt; simp only [BitVec.toNat_ofNat]; omega
  have e2 : (BitVec.ofNat 32 i).toNat = i := by rw [BitVec.toNat_ofNat]; omega
  have s1 := small_toInt (BitVec.ofNat 32 i) (by omega)
  have s2 := small_toInt (Scalar.subi v 1#32) (by omega)
  show (if (BitVec.ofNat 32 i).slt (Scalar.subi v 1#32) then _ else _ : BitVec 32).toNat = _
  by_cases h : (BitVec.ofNat 32 i).slt (Scalar.subi v 1#32) = true
  · rw [if_pos h, e2]; rw [BitVec.slt_iff_toInt_lt] at h; omega
  · rw [if_neg h, e1]; rw [BitVec.slt_iff_toInt_lt] at h; omega

section
variable (pf : pre0.Contents (Elt F)) (hok : OkPf pf)
include hok

theorem tr0_eq (i : grid0.Coords) : cc0_transform_0 inb_S48_S1_32 numel1_S1 pf i = ![min (i 0).val (nL pf - 1), 0] := by
  have e : (Scalar.minsi (BitVec.ofNat 32 (i 0).val) (Scalar.subi (pf.at 1 (Rect.unit (s := S48) ![32] S1.size inb_S48_S1_32) numel1_S1) 1#32)).toNat
      = min (i 0).val (nL pf - 1) := by
    rw [at32]; exact min_word _ _ (co_lt i) hok.one_le hok.le
  unfold cc0_transform_0
  funext a
  match a with
  | 0 => exact e
  | 1 => rfl
theorem tr5_eq (i : grid0.Coords) : cc0_transform_5 inb_S48_S1_32 numel1_S1 pf i = ![min (i 0).val (nL pf - 1), 0] := by
  have e : (Scalar.minsi (BitVec.ofNat 32 (i 0).val) (Scalar.subi (pf.at 1 (Rect.unit (s := S48) ![32] S1.size inb_S48_S1_32) numel1_S1) 1#32)).toNat
      = min (i 0).val (nL pf - 1) := by
    rw [at32]; exact min_word _ _ (co_lt i) hok.one_le hok.le
  unfold cc0_transform_5
  funext a
  match a with
  | 0 => exact e
  | 1 => rfl

/-- The tables the precondition admits meet the region's side condition. -/
theorem ok0_of : ok0 pf := by
  have hle := hok.le
  refine ⟨fun i => ⟨?_, .inl rfl⟩, fun i => ⟨?_, .inl rfl⟩⟩
  · rw [tr0_eq pf hok]
    intro a
    match a with
    | 0 => show (min (i 0).val (nL pf - 1) + 1) * 256 ≤ 53248; have : min (i 0).val (nL pf - 1) ≤ nL pf - 1 := Nat.min_le_right _ _; have := co_lt i; omega
    | 1 => show (0 + 1) * 1408 ≤ 1408; omega
  · rw [tr5_eq pf hok]
    intro a
    match a with
    | 0 => show (min (i 0).val (nL pf - 1) + 1) * 256 ≤ 53248; have : min (i 0).val (nL pf - 1) ≤ nL pf - 1 := Nat.min_le_right _ _; have := co_lt i; omega
    | 1 => show (0 + 1) * 5120 ≤ 5120; omega
end

theorem co_val (t : Fin grid0.N) : ((grid0.coords t) 0).val = t.val := by
  revert t; decide +kernel

section
variable (a : (pcfg0 (F := F)).Adm) (hok : OkPf a.1)

theorem N_a : (cfg0 a).N = 208 := N_0
theorem co_a (t : Fin (cfg0 a).N) : (((cfg0 a).grid.coords t) 0).val = t.val := co_val t

theorem live0 (i) : (cfg0 a).idle 0 i = false := rfl
theorem live1 (i) : (cfg0 a).idle 1 i = false := rfl
theorem live2 (i) : (cfg0 a).idle 2 i = false := rfl
include hok
/-- The output's window is idle past the live tiles only. -/
theorem idle3 (t : Fin (cfg0 a).N) : (cfg0 a).idle 3 ((cfg0 a).grid.coords t) = !(decide (t.val < nL a.1)) := by
  show (!(k0_cond1 (grid0.coords t) (a.1.atD 1 ![32]) == 1#1)) = _
  rw [atD32]
  have e := cond1_iff (grid0.coords t) (Tab.mW (a.1 1) 32) hok.le
  rw [co_val t] at e
  by_cases h : t.val < nL a.1
  · rw [decide_eq_true h, beq_iff_eq.2 (e.2 h)]
  · rw [decide_eq_false h]
    have : ¬ (k0_cond1 (grid0.coords t) (Tab.mW (a.1 1) 32) = 1#1) := fun h' => h (e.1 h')
    exact congrArg (!·) (beq_eq_false_iff_ne.2 this)
theorem index0 (t : Fin (cfg0 a).N) : ((cfg0 a).win 0).index t = ![min t.val (nL a.1 - 1), 0] := by
  have := tr0_eq a.1 hok (grid0.coords t); rw [co_val t] at this; exact this
theorem index3 (t : Fin (cfg0 a).N) : ((cfg0 a).win 3).index t = ![min t.val (nL a.1 - 1), 0] := by
  have := tr5_eq a.1 hok (grid0.coords t); rw [co_val t] at this; exact this

/-- Past the last live tile the output's buffer is written back at the last point only. -/
theorem flush3_late (t : Fin (cfg0 a).N) (h1 : nL a.1 ≤ t.val + 1) (h2 : t.val + 1 ≠ 208) : ((cfg0 a).win 3).flush t = false := by
  have hN := N_a a
  unfold Window.flush
  rw [Bool.and_eq_false_iff]; right
  rw [Bool.or_eq_false_iff]
  refine ⟨decide_eq_false (fun e => h2 (e.trans N_0)), decide_eq_false ?_⟩
  rintro ⟨h, hne⟩
  refine hne ?_
  rw [index3 a hok, index3 a hok]
  have : min (t.val + 1) (nL a.1 - 1) = min t.val (nL a.1 - 1) := by omega
  show ![min (t.val + 1) (nL a.1 - 1), 0] = _
  rw [this]
/-- A live tile's block is written back. -/
theorem flush3_live (t : Fin (cfg0 a).N) (h : t.val + 1 < nL a.1) : ((cfg0 a).win 3).flush t = true := by
  have hN := N_a a
  have hle : nL a.1 ≤ 208 := hok.le
  unfold Window.flush
  rw [Bool.and_eq_true]
  refine ⟨rfl, ?_⟩
  rw [Bool.or_eq_true]; right
  refine decide_eq_true ⟨by have hG : (cfg0 a).grid.N = 208 := N_0; omega, ?_⟩
  rw [index3 a hok, index3 a hok]
  intro e
  have e0 : min (t.val + 1) (nL a.1 - 1) = min t.val (nL a.1 - 1) := congrFun e 0
  omega
theorem flush3_last (t : Fin (cfg0 a).N) (h : t.val + 1 = 208) : ((cfg0 a).win 3).flush t = true := by
  unfold Window.flush
  rw [Bool.and_eq_true]
  refine ⟨rfl, ?_⟩
  rw [Bool.or_eq_true]; left
  exact decide_eq_true (h.trans N_0.symm)

theorem fresh3 : ∀ k, nL a.1 + k ≤ 207 → (cfg0 a).fresh 3 (nL a.1 + k) = false
  | 0, h => by
    have h1 := hok.one_le
    have hN := N_a a
    have h1' : 1 ≤ nL a.1 := h1
    obtain ⟨n, hn⟩ : ∃ n, nL a.1 = n + 1 := ⟨nL a.1 - 1, by omega⟩
    have hn' : nL a.1 + 0 = n + 1 := hn
    have hlt : n < (cfg0 a).N := by omega
    rw [hn', Cfg.fresh_succ _ _ n hlt, flush3_late a hok ⟨n, hlt⟩ (by show _ ≤ n + 1; omega) (by show n + 1 ≠ 208; omega),
      idle3 a hok, decide_eq_true (by show n < _; omega)]
    rfl
  | k + 1, h => by
    have hN := N_a a
    have hlt : nL a.1 + k < (cfg0 a).N := by omega
    rw [← Nat.add_assoc, Cfg.fresh_succ _ _ _ hlt, fresh3 k (by omega),
      flush3_late a hok ⟨_, hlt⟩ (by show _ ≤ nL a.1 + k + 1; omega) (by show nL a.1 + k + 1 ≠ 208; omega), Bool.and_false, Bool.or_false]
end

end Cert.Proof.FfnI

end
-- ==== Proof.SlotsI.lean ====
/-
  The weight buffers whole and by slots, the kernel's own semaphores, and the halves of what the weights are read at.
-/
module

public import proofs.«01_k».proof.Proof.Slots
public import proofs.«01_k».proof.Proof.StepI
public import proofs.«01_k».proof.Proof.Gen.KernelIdeal.Launch

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The kernel's own semaphores -/

abbrev osem : Fin 4 → SemLoc sig := fun | 0 => .dma (csm 0 0).sem | 1 => .dma (csm 1 0).sem | 2 => .dma (csm 0 1).sem | 3 => .dma (csm 1 1).sem
theorem ownSemFacts : Pipeline.OwnSemFacts spec0 osem := by decide

theorem bigSep_fin4 (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := UU nD τ) (Lvl := ℕ) (Val := Elt F) (τ := τ) osem c : sProp 𝕄)
    = iprop(cellP c 0 0 ∗ cellP c 1 0 ∗ cellP c 0 1 ∗ cellP c 1 1) := by
  unfold Pipeline.ownSems0; rw [bigSep_fin4]

/-! ## The slots -/

def UP2 (s : Fin 2) : Finset S2x5120x2816.Idx := (Rect.unit (s := S2x5120x2816) (slotOff s) S1x5120x2816.size (upSlot_inb s)).set
def DN2 (s : Fin 2) : Finset S2x1408x5120.Idx := (Rect.unit (s := S2x1408x5120) (slotOff s) S1x1408x5120.size (dnSlot_inb s)).set

theorem upSlot_set (s : Fin 2) : (upSlot s).view.set = UP2 s := (View.set_reshape _ _).trans (View.set_slice_whole _ _)
theorem dnSlot_set (s : Fin 2) : (dnSlot s).view.set = DN2 s := (View.set_reshape _ _).trans (View.set_slice_whole _ _)

theorem mem_UP2 (s : Fin 2) (y : S2x5120x2816.Idx) : y ∈ UP2 s ↔ (y 0).val = s.val := by
  unfold UP2
  rw [Rect.mem_set_unit]
  have h1 : (y 1).val < 5120 := (y 1).isLt
  have h2 : (y 2).val < 2816 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 5120; omega
    · show 0 ≤ (y 2).val ∧ (y 2).val < 0 + 2816; omega
theorem mem_DN2 (s : Fin 2) (y : S2x1408x5120.Idx) : y ∈ DN2 s ↔ (y 0).val = s.val := by
  unfold DN2
  rw [Rect.mem_set_unit]
  have h1 : (y 1).val < 1408 := (y 1).isLt
  have h2 : (y 2).val < 5120 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1408; omega
    · show 0 ≤ (y 2).val ∧ (y 2).val < 0 + 5120; omega

theorem UP2_disjoint : ∀ s s' : Fin 2, s ≠ s' → Disjoint (UP2 s) (UP2 s') := by
  intro s s' hne; rw [Finset.disjoint_left]; intro y hy hy'; rw [mem_UP2] at hy hy'; exact hne (Fin.ext (hy.symm.trans hy'))
theorem UP2_cover : (Finset.univ : Finset (Fin 2)).biUnion UP2 = Finset.univ := by
  ext y; simp only [Finset.mem_biUnion, Finset.mem_univ, true_and, iff_true]; exact ⟨(y 0).cast (by decide), by rw [mem_UP2]; rfl⟩
theorem DN2_disjoint : ∀ s s' : Fin 2, s ≠ s' → Disjoint (DN2 s) (DN2 s') := by
  intro s s' hne; rw [Finset.disjoint_left]; intro y hy hy'; rw [mem_DN2] at hy hy'; exact hne (Fin.ext (hy.symm.trans hy'))
theorem DN2_cover : (Finset.univ : Finset (Fin 2)).biUnion DN2 = Finset.univ := by
  ext y; simp only [Finset.mem_biUnion, Finset.mem_univ, true_and, iff_true]; exact ⟨(y 0).cast (by decide), by rw [mem_DN2]; rfl⟩

section
variable (c : Dev nD)

theorem upP_eq (s : Fin 2) (f : Buf (Elt F) ((c : Thread nD τ).loc cc0_scratch0)) : upP c s f = (((c : Thread nD τ).loc cc0_scratch0) ↦[UP2 s]{fullShare} f : sProp 𝕄) :=
  congrArg (fun S => (_ ↦[S]{fullShare} f : sProp 𝕄)) (upSlot_set s)
theorem dnP_eq (s : Fin 2) (f : Buf (Elt F) ((c : Thread nD τ).loc cc0_scratch1)) : dnP c s f = (((c : Thread nD τ).loc cc0_scratch1) ↦[DN2 s]{fullShare} f : sProp 𝕄) :=
  congrArg (fun S => (_ ↦[S]{fullShare} f : sProp 𝕄)) (dnSlot_set s)

theorem up_split :
    iprop(∃ f : Buf (Elt F) ((c : Thread nD τ).loc cc0_scratch0), ((c : Thread nD τ).loc cc0_scratch0) ↦{fullShare} f)
      ⊢ (iprop((∃ f, upP c 0 f) ∗ ∃ f, upP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch0) UP2 UP2_disjoint UP2_cover f).trans (bigSep_fin2 _))) $$ H
  icases H2 with ⟨H0, H1⟩
  isplitl [H0]
  · iexists f; iapply (entails_of_eq (upP_eq c 0 f).symm); iexact H0
  · iexists f; iapply (entails_of_eq (upP_eq c 1 f).symm); iexact H1
theorem up_join :
    iprop((∃ f, upP c 0 f) ∗ ∃ f, upP c 1 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩⟩
  iapply (Ring.pointsTo_blocks_join_exists (ℓ := (c : Thread nD τ).loc cc0_scratch0) UP2 UP2_disjoint UP2_cover f0)
  iapply (entails_of_eq (bigSep_fin2 _).symm)
  isplitl [H0]
  · iexists f0; iapply (entails_of_eq (upP_eq c 0 f0)); iexact H0
  · iexists f1; iapply (entails_of_eq (upP_eq c 1 f1)); iexact H1
theorem dn_split :
    iprop(∃ f : Buf (Elt F) ((c : Thread nD τ).loc cc0_scratch1), ((c : Thread nD τ).loc cc0_scratch1) ↦{fullShare} f)
      ⊢ (iprop((∃ f, dnP c 0 f) ∗ ∃ f, dnP c 1 f) : sProp 𝕄) := by
  iintro ⟨%f, H⟩
  ihave H2 := (entails_of_eq ((Ring.pointsTo_blocks (Ix := Unit) (Name := ℕ) (U := UU nD τ) (Lvl := ℕ) (q := fullShare) (ℓ := (c : Thread nD τ).loc cc0_scratch1) DN2 DN2_disjoint DN2_cover f).trans (bigSep_fin2 _))) $$ H
  icases H2 with ⟨H0, H1⟩
  isplitl [H0]
  · iexists f; iapply (entails_of_eq (dnP_eq c 0 f).symm); iexact H0
  · iexists f; iapply (entails_of_eq (dnP_eq c 1 f).symm); iexact H1
theorem dn_join :
    iprop((∃ f, dnP c 0 f) ∗ ∃ f, dnP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) DN2 DN2_disjoint DN2_cover f0)
  iapply (entails_of_eq (bigSep_fin2 _).symm)
  isplitl [H0]
  · iexists f0; iapply (entails_of_eq (dnP_eq c 0 f0)); iexact H0
  · iexists f1; iapply (entails_of_eq (dnP_eq c 1 f1)); iexact H1

variable (XU : Buf (Elt F) (upM.view.loc (c : Thread nD τ))) (XD : Buf (Elt F) (dnM.view.loc (c : Thread nD τ)))

/-- The weights whole are the two halves of their share. -/
theorem tok_split : iprop((((c : Thread nD τ).loc main_arg5) ↦{fullShare} XU) ∗ (((c : Thread nD τ).loc main_arg6) ↦{fullShare} XD))
    ⊢ (iprop(Tok c XU XD fullShare.left ∗ Tok c XU XD fullShare.right) : sProp 𝕄) := by
  unfold Tok
  iintro ⟨HU, HD⟩
  ihave HU2 := (pointsTo_share (PosShare.mem_left_op_right fullShare)).1 $$ HU
  ihave HD2 := (pointsTo_share (PosShare.mem_left_op_right fullShare)).1 $$ HD
  icases HU2 with ⟨H1, H2⟩
  icases HD2 with ⟨H3, H4⟩
  isplitl [H1 H3]
  · isplitl [H1] <;> iassumption
  · isplitl [H2] <;> iassumption
theorem tok_join : (iprop(Tok c XU XD fullShare.left ∗ Tok c XU XD fullShare.right) : sProp 𝕄)
    ⊢ iprop((((c : Thread nD τ).loc main_arg5) ↦{fullShare} XU) ∗ (((c : Thread nD τ).loc main_arg6) ↦{fullShare} XD)) := by
  unfold Tok
  iintro ⟨⟨H1, H3⟩, ⟨H2, H4⟩⟩
  isplitl [H1 H2]
  · iapply (pointsTo_share (PosShare.mem_left_op_right fullShare)).2
    isplitl [H1] <;> iassumption
  · iapply (pointsTo_share (PosShare.mem_left_op_right fullShare)).2
    isplitl [H3] <;> iassumption

abbrev x8S : Memref sig .tc .vmem S256x5120 .fp8e4m3 := Memref.whole cc0_scratch2
abbrev hS : Memref sig .tc .vmem S256x1408 .f32 := Memref.whole cc0_scratch3
abbrev hqS : Memref sig .tc .vmem S256x1408 .fp8e4m3 := Memref.whole cc0_scratch4

/-- What the region starts from, by the kernel's pieces. -/
theorem start_split :
    iprop((((c : Thread nD τ).loc main_arg5) ↦{fullShare} XU) ∗ (((c : Thread nD τ).loc main_arg6) ↦{fullShare} XD)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c)
    ⊢ (iprop((Tok c XU XD fullShare.left ∗ Tok c XU XD fullShare.right ∗ FreeAt c 0 ∗ FreeAt c 1) ∗ Scr c x8S hS hqS) : sProp 𝕄) := by
  rw [ownSems0_eq, scopedRest0_eq]
  iintro ⟨HU, HD, ⟨C00, C10, C01, C11⟩, ⟨B0, B1, B2, B3, B4⟩⟩
  ihave HB0 := (up_split c) $$ B0
  ihave HB1 := (dn_split c) $$ B1
  icases HB0 with ⟨U0, U1⟩
  icases HB1 with ⟨D0, D1⟩
  ihave HT := (tok_split c XU XD) $$ [HU HD]
  · isplitl [HU] <;> iassumption
  icases HT with ⟨Tl, Tr⟩
  isplitr [B2 B3 B4]
  · isplitl [Tl]; · iexact Tl
    isplitl [Tr]; · iexact Tr
    unfold FreeAt
    isplitl [U0 D0 C00 C10]
    · isplitl [U0]; · iexact U0
      isplitl [D0]; · iexact D0
      isplitl [C00] <;> iassumption
    · isplitl [U1]; · iexact U1
      isplitl [D1]; · iexact D1
      isplitl [C01] <;> iassumption
  · unfold Scr
    rw [View.set_whole, View.set_whole, View.set_whole]
    isplitl [B2]; · iexact B2
    isplitl [B3]; · iexact B3
    iexact B4
/-- And back. -/
theorem end_join :
    (iprop((Tok c XU XD fullShare.left ∗ Tok c XU XD fullShare.right ∗ FreeAt c 0 ∗ FreeAt c 1) ∗ Scr c x8S hS hqS) : sProp 𝕄)
    ⊢ iprop(((((c : Thread nD τ).loc main_arg5) ↦{fullShare} XU) ∗ (((c : Thread nD τ).loc main_arg6) ↦{fullShare} XD))
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c) := by
  rw [ownSems0_eq, scopedRest0_eq]
  unfold FreeAt Scr
  rw [View.set_whole, View.set_whole, View.set_whole]
  iintro ⟨⟨Tl, Tr, ⟨U0, D0, C00, C10⟩, ⟨U1, D1, C01, C11⟩⟩, ⟨B2, B3, B4⟩⟩
  isplitl [Tl Tr]
  · iapply (tok_join c XU XD); isplitl [Tl] <;> iassumption
  isplitl [C00 C10 C01 C11]
  · isplitl [C00]; · iexact C00
    isplitl [C10]; · iexact C10
    isplitl [C01] <;> iassumption
  isplitl [U0 U1]; · iapply (up_join c); isplitl [U0] <;> iassumption
  isplitl [D0 D1]; · iapply (dn_join c); isplitl [D0] <;> iassumption
  isplitl [B2]; · iexact B2
  isplitl [B3]; · iexact B3
  iexact B4

end

end Cert.Proof.FfnI

end
-- ==== Proof.FrameI.lean ====
/-
  The region's proof data, the body at every grid point, and the run of the whole program.
-/
module

public import proofs.«01_k».proof.Proof.Frame
public import proofs.«01_k».proof.Proof.PointsI
public import proofs.«01_k».proof.Proof.SlotsI

@[expose] public section

set_option maxRecDepth 16384

noncomputable section

namespace Cert.Proof.FfnI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-! ## The output block covered -/

section Cover
variable (c : Dev nD) (XU : Buf (Elt F) (upM.view.loc (c : Thread nD τ))) (XD : Buf (Elt F) (dnM.view.loc (c : Thread nD τ)))
  (T : Buf (Elt F) (teM.view.loc (c : Thread nD τ))) (M : Buf (Elt F) (meM.view.loc (c : Thread nD τ)))
  (i : grid0.Coords)
  (arg3 : Memref sig .tc .vmem S256x1408 .i32) (harg3 : arg3.IsWhole) (arg4 : Memref sig .tc .vmem S16x1x2816 .f32) (harg4 : arg4.IsWhole)
  (arg5 : Memref sig .tc .vmem S16x1x5120 .f32) (harg5 : arg5.IsWhole) (arg8 : Memref sig .tc .vmem S256x5120 .f32) (harg8 : arg8.IsWhole)
  (x8M : Memref sig .tc .vmem S256x5120 .fp8e4m3) (hx8 : x8M.IsWhole) (hM : Memref sig .tc .vmem S256x1408 .f32) (hh : hM.IsWhole)
  (hqM : Memref sig .tc .vmem S256x1408 .fp8e4m3) (hhq : hqM.IsWhole)
  (hok : Tab.Ok T M) (hk : (i 0).val < Tab.nT M)

/-- A live tile's pieces cover the block. -/
theorem tile_cover (gx g4 g5) (y : S256x5120.Idx) :
    ∃ p ∈ liveL (tileW c XU XD T M i arg3 harg3 arg4 harg4 arg5 harg5 arg8 harg8 x8M hx8 hM hh hqM hhq hok hk gx g4 g5), y ∈ p.1.set :=
  View.cover_of_tiledL (s := S256x5120) _ S256x256.size (by sl_kernel_rfl) y

/-- What a live tile leaves, as a function of its inputs. -/
def tileVal (gx : Buf (Elt F) (arg3.view.loc (c : Thread nD τ))) (g4 : Buf (Elt F) (arg4.view.loc (c : Thread nD τ))) (g5 : Buf (Elt F) (arg5.view.loc (c : Thread nD τ))) : S256x5120.Idx → Elt F .f32 :=
  View.canon (liveL (tileW c XU XD T M i arg3 harg3 arg4 harg4 arg5 harg5 arg8 harg8 x8M hx8 hM hh hqM hhq hok hk gx g4 g5))
theorem tile_read (gx g4 g5 gO) :
    arg8.view.read (Elt F) (arg8.view.writes (Elt F) gO (liveL (tileW c XU XD T M i arg3 harg3 arg4 harg4 arg5 harg5 arg8 harg8 x8M hx8 hM hh hqM hhq hok hk gx g4 g5)))
      = tileVal c XU XD T M i arg3 harg3 arg4 harg4 arg5 harg5 arg8 harg8 x8M hx8 hM hh hqM hhq hok hk gx g4 g5 :=
  View.read_writes_eq_canon _ _ _ (tile_cover c XU XD T M i arg3 harg3 arg4 harg4 arg5 harg5 arg8 harg8 x8M hx8 hM hh hqM hhq hok hk gx g4 g5)
end Cover

/-! ## The proof data -/

section Data
variable (V : (c : Dev nD) → (b : Ref sig .tc) → Buf (Elt F) ((c : Thread nD τ).loc b)) (a : (pcfg0 (F := F)).Adm) (hok : OkPf a.1)

abbrev tA (c : Dev nD) : Buf (Elt F) (teM.view.loc (c : Thread nD τ)) := a.1 0
abbrev mA (c : Dev nD) : Buf (Elt F) (meM.view.loc (c : Thread nD τ)) := a.1 1
abbrev uA (c : Dev nD) : Buf (Elt F) (upM.view.loc (c : Thread nD τ)) := V c main_arg5
abbrev dA (c : Dev nD) : Buf (Elt F) (dnM.view.loc (c : Thread nD τ)) := V c main_arg6

abbrev st0 (t : Fin (cfg0 a).N) : Memref sig .tc .vmem S256x1408 .i32 := spec0_0.stage ((cfg0 a).slots t 0)
abbrev st1 (t : Fin (cfg0 a).N) : Memref sig .tc .vmem S16x1x2816 .f32 := spec0_1.stage ((cfg0 a).slots t 1)
abbrev st2 (t : Fin (cfg0 a).N) : Memref sig .tc .vmem S16x1x5120 .f32 := spec0_2.stage ((cfg0 a).slots t 2)
abbrev st3 (t : Fin (cfg0 a).N) : Memref sig .tc .vmem S256x5120 .f32 := spec0_3.stage ((cfg0 a).slots t 3)
abbrev hst0 (t : Fin (cfg0 a).N) : (st0 a t).IsWhole := hstage0_0 (((cfg0 a).slots t 0).cast nbuf0_0)
abbrev hst1 (t : Fin (cfg0 a).N) : (st1 a t).IsWhole := hstage0_1 (((cfg0 a).slots t 1).cast nbuf0_1)
abbrev hst2 (t : Fin (cfg0 a).N) : (st2 a t).IsWhole := hstage0_2 (((cfg0 a).slots t 2).cast nbuf0_2)
abbrev hst3 (t : Fin (cfg0 a).N) : (st3 a t).IsWhole := hstage0_3 (((cfg0 a).slots t 3).cast nbuf0_3)

/-- An array at launch. -/
def arr0 (c : Dev nD) (w : Fin (cfg0 a).W) : Buf (Elt F) (((cfg0 a).win w).arr.view.loc (c : Thread nD τ)) := V c (Pipeline.arrRef spec0 w)
/-- What an input's staging buffer holds at a point. -/
def inAt (c : Dev nD) (w : Fin (cfg0 a).W) (t : Fin (cfg0 a).N) : ((cfg0 a).win w).block.Idx → Elt F ((cfg0 a).win w).elt :=
  Pipeline.heldIn (cfg0 a) (arr0 V a c) w t.val t.isLt

include hok in
theorem live_lt (t : Fin (cfg0 a).N) (h : t.val < nL a.1) : (((cfg0 a).grid.coords t) 0).val < Tab.nT (mA a 0) := by
  rw [co_a]; exact h

/-- What a live tile leaves in the output's staging buffer. -/
def outLive (c : Dev nD) (t : Fin (cfg0 a).N) (h : t.val < nL a.1) : S256x5120.Idx → Elt F .f32 :=
  tileVal c (uA V c) (dA V c) (tA a c) (mA a c) ((cfg0 a).grid.coords t) (st0 a t) (hst0 a t) (st1 a t) (hst1 a t) (st2 a t) (hst2 a t) (st3 a t) (hst3 a t)
    x8S (Memref.isWhole_whole _) hS (Memref.isWhole_whole _) hqS (Memref.isWhole_whole _) hok (live_lt a hok t h)
    ((st0 a t).view.rep (inAt V a c 0 t)) ((st1 a t).view.rep (inAt V a c 1 t)) ((st2 a t).view.rep (inAt V a c 2 t))

/-- The last live point at or before a point. -/
def lastLive (t : Fin (cfg0 a).N) : Fin (cfg0 a).N := ⟨min t.val (nL a.1 - 1), Nat.lt_of_le_of_lt (Nat.min_le_left _ _) t.isLt⟩
include hok in
theorem lastLive_lt (t : Fin (cfg0 a).N) : (lastLive a t).val < nL a.1 := by
  have h : 1 ≤ nL a.1 := hok.one_le
  show min t.val (nL a.1 - 1) < _; omega
def outAt (c : Dev nD) (t : Fin (cfg0 a).N) : S256x5120.Idx → Elt F .f32 := outLive V a hok c (lastLive a t) (lastLive_lt a hok t)

def Φ (c : Dev nD) (k : ℕ) : sProp 𝕄 :=
  iprop(teP c (tA a c) fullShare.right ∗ meP c (mA a c) fullShare.right ∗ Scr c x8S hS hqS ∗ Inv c (uA V c) (dA V c) (tA a c) (mA a c) (min k (nL a.1)))

def dats (_ : Fin 1) (c : Dev nD) : Dat τ (Elt F) Unit ℕ (UU nD τ) ℕ (cfg0 a) c where
  A := arr0 V a c
  after w t := match w with
    | ⟨0, _⟩ => inAt V a c 0 t
    | ⟨1, _⟩ => inAt V a c 1 t
    | ⟨2, _⟩ => inAt V a c 2 t
    | ⟨3, _⟩ => outAt V a hok c t
  Φ k := Φ V a c k.val
  q _ := fullShare
  owed _ := 0

theorem after_w0 (c : Dev nD) (t) : (dats V a hok 0 c).after 0 t = inAt V a c 0 t := rfl
theorem after_w1 (c : Dev nD) (t) : (dats V a hok 0 c).after 1 t = inAt V a c 1 t := rfl
theorem after_w2 (c : Dev nD) (t) : (dats V a hok 0 c).after 2 t = inAt V a c 2 t := rfl
theorem after_w3 (c : Dev nD) (t) : (dats V a hok 0 c).after 3 t = outAt V a hok c t := by unfold dats; exact Eq.refl (outAt V a hok c t)
theorem before_w0 (c : Dev nD) (t) (d) : (dats V a hok 0 c).before 0 t d = inAt V a c 0 t :=
  (dats V a hok 0 c).before_eq_heldIn 0 rfl (fun _ => rfl) (fun _ _ => rfl) (fun t => after_w0 V a hok c t) t d
theorem before_w1 (c : Dev nD) (t) (d) : (dats V a hok 0 c).before 1 t d = inAt V a c 1 t :=
  (dats V a hok 0 c).before_eq_heldIn 1 rfl (fun _ => rfl) (fun _ _ => rfl) (fun t => after_w1 V a hok c t) t d
theorem before_w2 (c : Dev nD) (t) (d) : (dats V a hok 0 c).before 2 t d = inAt V a c 2 t :=
  (dats V a hok 0 c).before_eq_heldIn 2 rfl (fun _ => rfl) (fun _ _ => rfl) (fun t => after_w2 V a hok c t) t d

theorem outAt_carry (c : Dev nD) (t : Fin (cfg0 a).N) (h0 : t.val ≠ 0) (h : nL a.1 ≤ t.val) :
    outAt V a hok c t = outAt V a hok c ⟨t.val - 1, by omega⟩ := by
  have e : lastLive a t = lastLive a ⟨t.val - 1, by omega⟩ := by
    apply Fin.ext
    show min t.val (nL a.1 - 1) = min (t.val - 1) (nL a.1 - 1)
    omega
  unfold outAt
  congr 1

theorem not_live {a : (pcfg0 (F := F)).Adm} (hok : OkPf a.1) {t : Fin (cfg0 a).N} (h : (cfg0 a).idle 3 ((cfg0 a).grid.coords t) = true) : nL a.1 ≤ t.val := by
  rw [idle3 a hok] at h
  simp only [Bool.not_eq_true', decide_eq_false_iff_not] at h
  omega

/-- At the last point, if it is idle, the output's buffer holds the last live tile. -/
theorem before_last (c : Dev nD) (t : Fin (cfg0 a).N) (ht : t.val = 207) (hl : nL a.1 ≤ t.val) (d) :
    (dats V a hok 0 c).before 3 t d = outAt V a hok c t := by
  have h1 : 1 ≤ nL a.1 := hok.one_le
  rw [(dats V a hok 0 c).before_out_traj 3 rfl (fun _ _ => rfl) (fun t h0 hi _ => by
    rw [after_w3, after_w3]; exact outAt_carry V a hok c t h0 (not_live hok hi)) t.val t rfl d]
  obtain ⟨k, hk⟩ : ∃ k, t.val = nL a.1 + k := ⟨t.val - nL a.1, by omega⟩
  have hf : (cfg0 a).fresh 3 t.val = false := by rw [hk]; exact fresh3 a hok k (by omega)
  rw [hf, if_neg Bool.false_ne_true, after_w3]
  exact (outAt_carry V a hok c t (by omega) hl).symm

/-! ## The body at every point -/

abbrev body (t : Fin (cfg0 a).N) : Prog (TpuEff nD τ sig (Elt F) Λ₀ .tc) PUnit :=
  bodyG ((cfg0 a).grid.coords t) (st0 a t) (hst0 a t) (st1 a t) (hst1 a t) (st2 a t) (hst2 a t) (st3 a t) (hst3 a t)
    x8S (Memref.isWhole_whole _) hS (Memref.isWhole_whole _) hqS (Memref.isWhole_whole _)

theorem defs_tc : (defs₀ (F := F)) .tc (cfg0 a).body
    = fun x => bodyG (grid0.coords x.1) (spec0_0.stage (x.2 0)) (hstage0_0 ((x.2 0).cast nbuf0_0)) (spec0_1.stage (x.2 1)) (hstage0_1 ((x.2 1).cast nbuf0_1))
      (spec0_2.stage (x.2 2)) (hstage0_2 ((x.2 2).cast nbuf0_2)) (spec0_3.stage (x.2 3)) (hstage0_3 ((x.2 3).cast nbuf0_3))
      x8S (Memref.isWhole_whole _) hS (Memref.isWhole_whole _) hqS (Memref.isWhole_whole _) := rfl
theorem prog_eq (t : Fin (cfg0 a).N) : (defs₀ (F := F)) .tc (cfg0 a).body ((cfg0 a).bodyArgs t ((cfg0 a).slots t)) = body a t :=
  (congrFun (defs_tc a) _).trans rfl

set_option backward.isDefEq.respectTransparency.types false in
theorem body_obligation (c : Dev nD) : BodyObligation (dats (F := F) V a hok 0 c) (defs₀ (F := F)) 𝒱₀ () Set.univ := fun t => by
  have hN : t.val < 208 := t.isLt.trans_eq (N_a a)
  have hco := co_a a t
  rw [bigSep_W0, bigSep_W0]
  dsimp only
  simp only [before_w0, before_w1, before_w2, after_w0, after_w1, after_w2]
  rw [show (dats V a hok 0 c).Φ t.castSucc = Φ V a c t.val from rfl, show (dats V a hok 0 c).Φ t.succ = Φ V a c (t.val + 1) from rfl]
  unfold Dat.owesAt Pipeline.owesWithin
  rw [show (dats V a hok 0 c).owed t.castSucc = 0 from rfl, show (dats V a hok 0 c).owed t.succ = 0 from rfl]
  by_cases h : t.val < nL a.1
  · have hi : (cfg0 a).idle 3 ((cfg0 a).grid.coords t) = false := by rw [idle3 a hok, decide_eq_true h]; rfl
    rw [show idle0 a.1 3 (((pcfg0 (F := F)).gridAt a.1).coords t) = false from hi]
    dsimp only
    rw [after_w3]
    have hout : outAt V a hok c t = outLive V a hok c t h := by
      have e : lastLive a t = t := Fin.ext (show min t.val (nL a.1 - 1) = t.val by omega)
      unfold outAt
      congr 1
    rw [hout]
    unfold owns Φ
    rw [show min t.val (nL a.1) = (((cfg0 a).grid.coords t) 0).val from by rw [hco]; omega,
      show min (t.val + 1) (nL a.1) = (((cfg0 a).grid.coords t) 0).val + 1 from by rw [hco]; omega]
    iintro ⟨⟨HT, HM, HS, HI⟩, ⟨%W, -, HW⟩, ⟨%d0, %g0, %hg0, H0⟩, ⟨%d1, %g1, %hg1, H1⟩, ⟨%d2, %g2, %hg2, H2⟩, ⟨%d3, %gO, -, HO⟩⟩
    ihave H0' := (pointsTo_rep_entails (c : Thread nD τ) (st0 a t) g0 fullShare) $$ H0
    ihave H1' := (pointsTo_rep_entails (c : Thread nD τ) (st1 a t) g1 fullShare) $$ H1
    ihave H2' := (pointsTo_rep_entails (c : Thread nD τ) (st2 a t) g2 fullShare) $$ H2
    rw [hg0, hg1, hg2]
    sl_rw [prog_eq a t]
    iapply wp_wand_r
    isplitl [HT HM HS HI HW H0' H1' H2' HO]
    · iapply (stepRun c (uA V c) (dA V c) (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) hok (live_lt a hok t h) fullShare.right _ _ _ gO)
      isplitr [HI]
      · isplitl [HT]; · iexact HT
        isplitl [HM]; · iexact HM
        isplitl [H0']; · iexact H0'
        isplitl [H1']; · iexact H1'
        isplitl [H2']; · iexact H2'
        isplitl [HO]; · iexact HO
        isplitl [HS]; · iexact HS
        unfold Ow; iexists W; iexact HW
      · iexact HI
    iintro %_ ⟨⟨HT, HM, H0, H1, H2, HO, HS, HW⟩, HI⟩
    unfold Ow
    icases HW with ⟨%W', HW⟩
    isplitl [HT HM HS HI]
    · isplitl [HT]; · iexact HT
      isplitl [HM]; · iexact HM
      isplitl [HS]; · iexact HS
      iexact HI
    isplitl [HW]
    · iexists W'; isplitr; · ipureintro; exact fun _ _ => Or.inl trivial
      iexact HW
    isplitl [H0]
    · iexists _; isplitr; · ipureintro; exact View.read_rep _ _
      iexact H0
    isplitl [H1]
    · iexists _; isplitr; · ipureintro; exact View.read_rep _ _
      iexact H1
    isplitl [H2]
    · iexists _; isplitr; · ipureintro; exact View.read_rep _ _
      iexact H2
    iexists _; isplitr
    · ipureintro
      exact tile_read c (uA V c) (dA V c) (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) hok (live_lt a hok t h) _ _ _ gO
    iexact HO
  · have hi : (cfg0 a).idle 3 ((cfg0 a).grid.coords t) = true := by rw [idle3 a hok, decide_eq_false h]; rfl
    have h1 : ¬ k0_cond1 ((cfg0 a).grid.coords t) (Tab.mW (mA a c) 32) = 1#1 := fun h' => h (by
      have e := (cond1_iff ((cfg0 a).grid.coords t) (Tab.mW (mA a c) 32) hok.le).1 h'
      rw [hco] at e; exact e)
    have hmin : min (t.val + 1) (nL a.1) = min t.val (nL a.1) := by omega
    have hrun := idleRun c (tA a c) (mA a c) ((cfg0 a).grid.coords t) (st0 a t) (hst0 a t) (st1 a t) (hst1 a t) (st2 a t) (hst2 a t) (st3 a t) (hst3 a t)
        x8S (Memref.isWhole_whole _) hS (Memref.isWhole_whole _) hqS (Memref.isWhole_whole _) fullShare.right _ _ rfl rfl (hok.expert _ (co_lt _)) h1
    rw [show idle0 a.1 3 (((pcfg0 (F := F)).gridAt a.1).coords t) = true from hi]
    dsimp only
    unfold Φ
    rw [hmin]
    sl_rw [prog_eq a t]
    iintro ⟨⟨HT, HM, HS, HI⟩, ⟨%W, -, HW⟩, H0, H1, H2, ⟨%d3, HO⟩⟩
    iapply wp_wand_r
    isplitl [HT HM]
    · iapply hrun
      isplitl [HT] <;> iassumption
    iintro %_ ⟨HT, HM⟩
    isplitl [HT HM HS HI]
    · isplitl [HT]; · iexact HT
      isplitl [HM]; · iexact HM
      isplitl [HS]; · iexact HS
      iexact HI
    isplitl [HW]
    · iexists W; isplitr; · ipureintro; exact fun _ _ => Or.inl trivial
      iexact HW
    isplitl [H0]; · icases H0 with ⟨%_, H0⟩; iexact H0
    isplitl [H1]; · icases H1 with ⟨%_, H1⟩; iexact H1
    isplitl [H2]; · icases H2 with ⟨%_, H2⟩; iexact H2
    by_cases hl : t.val = 207
    · have hf := flush3_last a hok t (by omega)
      split
      · rename_i hfl; exact absurd (hfl.symm.trans hf) Bool.false_ne_true
      rw [after_w3, before_last V a hok c t hl (by omega)]
      iexact HO
    · have hf := flush3_late a hok t (by omega) (by omega)
      split
      · iexists d3; iexact HO
      rename_i hfl; exact absurd (hf.symm.trans hfl) Bool.false_ne_true
end Data

/-! ## The run -/

section Run
variable (m : (ℓ : Loc nD τ sig) → Buf (Elt F) ℓ) (ρ : Dev nD → PrngReg)

/-- The tables at launch. -/
def pf₀ : pre0.Contents (Elt F) := fun k => m (((0 : Dev nD) : Thread nD τ).loc (pre0.ref k))
variable (hok : OkPf (pf₀ m))
def adm₀ : (pcfg0 (F := F)).Adm := ⟨pf₀ m, ok0_of _ hok⟩
abbrev V₀ (c : Dev nD) (b : Ref sig .tc) : Buf (Elt F) ((c : Thread nD τ).loc b) := m ((c : Thread nD τ).loc b)
abbrev adms (_ : Fin 1) : (pcfg0 (F := F)).Adm := adm₀ m hok
abbrev pdats (p : Fin 1) (c : Dev nD) : Dat τ (Elt F) Unit ℕ (UU nD τ) ℕ (Pipeline.pin (pcfgs (F := F)) (adms m hok) p) c := dats (V₀ m) (adm₀ m hok) hok p c
def u₀ : UU nD τ := (initOf (Pipeline.cells (Pipeline.pin (pcfgs (F := F)) (adms m hok)) (cellOf_inj _)) (Pipeline.launchToks (Pipeline.pin (pcfgs (F := F)) (adms m hok)) (cellOf_inj _)), 1)
def s₀ : MemSt nD τ sig (Elt F) := ⟨m, fun _ => 0, ρ⟩
def finalA (c : Dev nD) (w : Fin (cfg0 (adm₀ m hok)).W) : Buf (Elt F) (((cfg0 (adm₀ m hok)).win w).arr.view.loc (c : Thread nD τ)) := (dats (V₀ m) (adm₀ m hok) hok 0 c).arrAt w (cfg0 (adm₀ m hok)).N
def QY (c : Dev nD) (s : MemSt nD τ sig (Elt F)) : Prop :=
  s.mem ((c : Thread nD τ).loc main_arg5) = m ((c : Thread nD τ).loc main_arg5) ∧ s.mem ((c : Thread nD τ).loc main_arg6) = m ((c : Thread nD τ).loc main_arg6)
def QC : PUnit × MemSt nD τ sig (Elt F) → Prop := fun r =>
  ∀ c : Dev nD, (∀ w, r.2.mem (((cfg0 (adm₀ m hok)).win w).arr.view.loc (c : Thread nD τ)) = finalA m hok c w)
    ∧ (∀ k, r.2.mem ((c : Thread nD τ).loc (pre0.ref k)) = pf₀ m k) ∧ QY m c r.2

def intoΦ (c : Dev nD) : sProp 𝕄 := iprop((((c : Thread nD τ).loc main_arg5) ↦{fullShare} m ((c : Thread nD τ).loc main_arg5)) ∗ (((c : Thread nD τ).loc main_arg6) ↦{fullShare} m ((c : Thread nD τ).loc main_arg6))
  ∗ Pipeline.ownSems0 osem c)
def outOfΦ (c : Dev nD) : sProp 𝕄 := iprop((((c : Thread nD τ).loc main_arg5) ↦{fullShare} m ((c : Thread nD τ).loc main_arg5)) ∗ (((c : Thread nD τ).loc main_arg6) ↦{fullShare} m ((c : Thread nD τ).loc main_arg6)))

theorem dev_zero (c : Dev nD) : c = 0 := Subsingleton.elim _ _

theorem held_eq (c : Dev nD) : (Pipeline.prefHeld (Ix := Unit) (Name := ℕ) (U := UU nD τ) (Lvl := ℕ) (Val := Elt F) pre0 c (fun _ => fullShare.right) (pf₀ m) : sProp 𝕄)
    = iprop(teP c (tA (adm₀ m hok) c) fullShare.right ∗ meP c (mA (adm₀ m hok) c) fullShare.right) := by
  unfold Pipeline.prefHeld
  have e1 : teM.view.set = Finset.univ := View.set_whole _
  have e2 : meM.view.set = Finset.univ := View.set_whole _
  unfold teP meP
  rw [e1, e2]
  exact bigSep_fin2 _

set_option backward.isDefEq.respectTransparency.types false in
/-- From any memory with zero counters whose tables are the admitted ones: every weakly fair execution terminates,
    and every final state has the arrays at the computed contents, the tables and the weights unchanged, every
    semaphore counter at zero. -/
theorem run_main : θ_run defs (onTc (τ := τ) (main (F := F))) (s₀ m ρ) (fun r => QC m hok r ∧ r.2.sem = fun _ => 0) :=
  Pipeline.θ_run_region_pf_quiescent pcfgs (adms m hok) (pdats m hok) () (cellOf_inj _) (0 : Fin 1) winFacts0.to₀ ownSemFacts preFacts0 EP defs₀ 𝒱₀ m ρ main
    (hbody := fun c => (body_obligation (V₀ m) (adm₀ m hok) hok c).loose)
    (hne := block_pos0) (harr := arr_whole0) (hstage := stage_whole0)
    (howed := fun _ _ => rfl)
    (G := fun _ => iprop(emp)) (u₀ := u₀ m hok)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V₀ m)
    (hmain := fun c Q => by
      simp only [main, Prog.lift, Prog.bind_op, Prog.bind_ret]
      iintro ⟨Hk, Hb⟩; iapply Hk; iexact Hb)
    (hsplit := fun c => Pipeline.arrays_split (Pipeline.pin (pcfgs (F := F)) (adms m hok)) (pdats m hok) 0 winFacts0.arr_inj c arr_whole0
      ((pdats m hok 0 c).share_full fun _ => rfl) (V₀ m c) _ fun _ => rfl)
    (hpf := fun c k => by rw [dev_zero c]; rfl)
    (X := intoΦ m) (Y := outOfΦ m) (Z := fun _ => iprop(emp))
    (hX := fun c => by
      rw [unscopedRestP0_eq]
      unfold intoΦ
      iintro ⟨⟨H5, H6⟩, HS, -, -, -⟩; imodintro
      isplitl [H5 H6 HS]
      · isplitl [H5]; · iexact H5
        isplitl [H6]; · iexact H6
        iexact HS
      iempintro)
    (hin := fun c => by
      rw [show (pdats m hok 0 c).Φ 0 = Φ (V₀ m) (adm₀ m hok) c 0 from rfl]
      unfold intoΦ Φ
      rw [Nat.zero_min, Inv_zero]
      iintro ⟨⟨H5, H6, HS⟩, HP, HR⟩
      ihave HP' := (show Pipeline.prefHeld (pcfgs (F := F) 0).pre c (fun _ => fullShare.right) (adms m hok 0).1 ⊢ _ from entails_of_eq (held_eq m hok c)) $$ HP
      icases HP' with ⟨HT, HM⟩
      ihave H := (start_split c (uA (V₀ m) c) (dA (V₀ m) c)) $$ [H5 H6 HS HR]
      · isplitl [H5]; · iexact H5
        isplitl [H6]; · iexact H6
        isplitl [HS] <;> iassumption
      icases H with ⟨HI, HS⟩
      isplitl [HT]; · iexact HT
      isplitl [HM]; · iexact HM
      isplitl [HS]; · iexact HS
      iexact HI)
    (hout := fun c => by
      have hle : nL (adm₀ m hok).1 ≤ 208 := hok.le
      have e : min (Fin.last (cfg0 (adm₀ m hok)).N).val (nL (adm₀ m hok).1) = nL (adm₀ m hok).1 := by
        rw [Fin.val_last, N_a]; omega
      rw [show (pdats m hok 0 c).Φ (Fin.last _) = Φ (V₀ m) (adm₀ m hok) c (Fin.last (cfg0 (adm₀ m hok)).N).val from rfl]
      unfold Φ outOfΦ
      rw [e]
      iintro ⟨-, -, HS, HI⟩
      ihave HI' := (inv_last c (uA (V₀ m) c) (dA (V₀ m) c) (tA (adm₀ m hok) c) (mA (adm₀ m hok) c) hok) $$ HI
      iapply (end_join c (uA (V₀ m) c) (dA (V₀ m) c))
      isplitl [HI'] <;> iassumption)
    (QY := QY m)
    (hY := fun c s' => by
      unfold outOfΦ
      iintro ⟨⟨H5, H6⟩, -, HSI⟩
      icombine HSI H5 gives %h5
      icombine HSI H6 gives %h6
      imodintro
      isplitr; · ipureintro; exact ⟨Buf.eq_of_forall_mem_univ h5, Buf.eq_of_forall_mem_univ h6⟩
      iexact HSI)
    (hQ := fun _ hh hz => ⟨hh, hz⟩)

theorem finalA_in (c : Dev nD) (w : Fin (cfg0 (adm₀ m hok)).W) (hw : ((cfg0 (adm₀ m hok)).win w).isOut = false) :
    finalA m hok c w = m (((cfg0 (adm₀ m hok)).win w).arr.view.loc (c : Thread nD τ)) :=
  (dats (F := F) (V₀ m) (adm₀ m hok) hok 0 c).arrAt_in w hw _
end Run

end Cert.Proof.FfnI

end
-- ==== Proof.Bytes.lean ====
/- Four words exchanged for the four words of their bytes, and one byte of each of four words packed in one. -/
module

public import Idealize.ShloMosaic.Lib.Pipeline.ValueKit
public import Idealize.ShloMosaic.Lib.Pointwise
public import Idealize.ShloMosaic.Lib.BitcastPair

@[expose] public section

set_option maxRecDepth 16384

noncomputable section

namespace Cert.Proof.Bytes

open Idealize.ShloMosaic

/-- Byte `k` of a word, byte 0 the lowest. -/
def byte (w : BitVec 32) (k : ℕ) : BitVec 8 := w.extractLsb' (8 * k) 8

def lo16 (a c : BitVec 32) : BitVec 32 := IntOp.ori (IntOp.andi a 65535#32) (IntOp.shli .vector c 16#32)
def hi16 (a c : BitVec 32) : BitVec 32 := IntOp.ori (IntOp.shrui .vector a 16#32) (IntOp.andi c 4294901760#32)
def evn (p q : BitVec 32) : BitVec 32 := IntOp.ori (IntOp.andi p 16711935#32) (IntOp.shli .vector (IntOp.andi q 16711935#32) 8#32)
def odd (p q : BitVec 32) : BitVec 32 := IntOp.ori (IntOp.andi (IntOp.shrui .vector p 8#32) 16711935#32) (IntOp.andi q 4278255360#32)

/-- The word that holds byte `k` of each of the four. -/
def word (k : ℕ) (a b c d : BitVec 32) : BitVec 32 :=
  match k with
  | 0 => evn (lo16 a c) (lo16 b d)
  | 1 => odd (lo16 a c) (lo16 b d)
  | 2 => evn (hi16 a c) (hi16 b d)
  | _ => odd (hi16 a c) (hi16 b d)

/-- The `m`-th of four. -/
def pick {α : Type} (m : ℕ) (a b c d : α) : α :=
  match m with
  | 0 => a | 1 => b | 2 => c | _ => d

theorem pick_apply {α β : Type} (m : ℕ) (a b c d : α → β) (x : α) : pick m (a x) (b x) (c x) (d x) = pick m a b c d x := by
  unfold pick; split <;> rfl

theorem shl (x : BitVec 32) (n : BitVec 32) (h : n.toNat < 32) : IntOp.shli .vector x n = x <<< n.toNat := by
  unfold IntOp.shli; rw [if_pos h]; rfl
theorem shr (x : BitVec 32) (n : BitVec 32) (h : n.toNat < 32) : IntOp.shrui .vector x n = x >>> n.toNat := by
  unfold IntOp.shrui; rw [if_pos h]; rfl

theorem byte_word (k m : ℕ) (hk : k < 4) (hm : m < 4) (a b c d : BitVec 32) : byte (word k a b c d) m = byte (pick m a b c d) k := by
  apply BitVec.eq_of_getLsbD_eq
  intro i hi
  interval_cases k <;> interval_cases m <;> simp only [byte, word, pick, evn, odd, lo16, hi16, IntOp.ori, IntOp.andi, shl _ 16#32 (by decide),
    shl _ 8#32 (by decide), shr _ 16#32 (by decide), shr _ 8#32 (by decide), BitVec.getLsbD_extractLsb'] <;>
    interval_cases i <;> simp

/-- One byte of each of four words, packed. -/
def packed (a b c d : BitVec 32) : BitVec 32 :=
  IntOp.ori (IntOp.ori (IntOp.ori a (IntOp.shli .vector b 8#32)) (IntOp.shli .vector c 16#32)) (IntOp.shli .vector d 24#32)

theorem small_getLsbD (a : BitVec 32) (h : a.toNat < 256) (i : ℕ) (hi : 8 ≤ i) : a.getLsbD i = false := by
  apply Nat.testBit_lt_two_pow
  calc a.toNat < 2 ^ 8 := h
    _ ≤ 2 ^ i := Nat.pow_le_pow_right (by norm_num) hi

theorem small_getElem (a : BitVec 32) (h : a.toNat < 256) (i : ℕ) (hi' : i < 32) (hi : 8 ≤ i) : a[i] = false := by
  rw [← BitVec.getLsbD_eq_getElem]; exact small_getLsbD a h i hi

/-- A byte of the packed word is the word it came from, where that and the words before it are bytes. -/
theorem byte_packed (m : ℕ) (hm : m < 4) (a b c d : BitVec 32) (h : ∀ m' ≤ m, (pick m' a b c d).toNat < 256) :
    (byte (packed a b c d) m).setWidth 32 = pick m a b c d := by
  apply BitVec.eq_of_getLsbD_eq
  intro i hi
  have h0 := small_getElem _ (h 0 (Nat.zero_le _))
  have hmm := small_getLsbD _ (h m le_rfl)
  by_cases hi8 : i < 8
  · interval_cases m
    · simp only [byte, packed, pick, IntOp.ori, shl _ 16#32 (by decide), shl _ 8#32 (by decide), shl _ 24#32 (by decide), BitVec.getLsbD_setWidth, BitVec.getLsbD_extractLsb']
      interval_cases i <;> simp
    · simp only [byte, packed, pick, IntOp.ori, shl _ 16#32 (by decide), shl _ 8#32 (by decide), shl _ 24#32 (by decide), BitVec.getLsbD_setWidth, BitVec.getLsbD_extractLsb'] at h0 ⊢
      interval_cases i <;> simp [h0]
    · have h1 := small_getElem _ (h 1 (by norm_num))
      simp only [byte, packed, pick, IntOp.ori, shl _ 16#32 (by decide), shl _ 8#32 (by decide), shl _ 24#32 (by decide), BitVec.getLsbD_setWidth, BitVec.getLsbD_extractLsb'] at h0 h1 ⊢
      interval_cases i <;> simp [h0, h1]
    · have h1 := small_getElem _ (h 1 (by norm_num))
      have h2 := small_getElem _ (h 2 (by norm_num))
      simp only [byte, packed, pick, IntOp.ori, shl _ 16#32 (by decide), shl _ 8#32 (by decide), shl _ 24#32 (by decide), BitVec.getLsbD_setWidth, BitVec.getLsbD_extractLsb'] at h0 h1 h2 ⊢
      interval_cases i <;> simp [h0, h1, h2]
  · rw [hmm i (by omega), BitVec.getLsbD_setWidth, BitVec.getLsbD_of_ge _ i (by omega), Bool.and_false]

/-- A word vector read at eight bits: row `4 p + m` of a column is byte `m` of word row `p`. -/
theorem bitcast_bytes {r R n : ℕ} (x : (⟨2, ![r, n]⟩ : Shape).Idx → BitVec 32) (h : (⟨2, ![r, n]⟩ : Shape).Bitcasts 32 ⟨2, ![R, n]⟩ 8)
    (a : Fin R) (l : Fin n) (p : Fin r) (hp : p.val = a.val / 4) :
    bitcast ⟨2, ![R, n]⟩ 8 x h (ix2 a l) = byte (x (ix2 p l)) (a.val % 4) := by
  apply BitVec.eq_of_getLsbD_eq
  intro q hq
  rw [bitcast_getLsbD x h _ q hq (by decide)]
  have hrow : Shape.row (⟨2, ![R, n]⟩ : Shape) (ix2 a l) = a.val := rfl
  unfold byte
  rw [BitVec.getLsbD_extractLsb']
  have e2 : (Shape.row (⟨2, ![R, n]⟩ : Shape) (ix2 a l) * 8 + q) % 32 = 8 * (a.val % 4) + q := by rw [hrow]; omega
  rw [e2]
  simp only [hq, decide_true, Bool.true_and]
  congr 2
  funext c
  match c with
  | ⟨0, _⟩ => exact Fin.ext ((h.srcIdx_row _ _ _ ⟨0, Nat.zero_lt_two⟩ rfl).trans (by rw [hrow]; show _ = p.val; omega))
  | ⟨1, _⟩ => exact Fin.ext (h.srcIdx_other _ _ _ ⟨1, Nat.one_lt_two⟩ (by show ¬ 1 + 2 = 2; omega))

end Cert.Proof.Bytes

end
-- ==== Proof.PackI.lean ====
/-
  The unpacked rows of a tile: the codes of a row are the bytes of its words, and its scale is the byte its words carry
  beside them. The thirty-two stored blocks and the eight scale blocks, read at a row.
-/
module

public import proofs.«01_k».proof.Proof.FrameI
public import proofs.«01_k».proof.Proof.Bytes

@[expose] public section

set_option maxRecDepth 16384

noncomputable section

namespace Cert.Proof.FfnI

open Cert.KernelIdeal Cert.KernelIdeal.Gen
open Idealize.ShloMosaic
open Idealize.ShloMosaic.TcCoe

section Clean
variable {F : FTy → Type} [FloatOps F]

/-- The words that carry codes, of eight rows. -/
def wordCols (A : Vec F S8x1408 .i32) : IVec S8x1280 32 := extractStridedSlice S8x1280 ![0, 0] A slices_S8x1408_o0_0_S8x1280

/-- The words that carry scales, of eight rows. -/
def scaleCols (A : Vec F S8x1408 .i32) : IVec S8x128 32 := extractStridedSlice S8x128 ![0, 1280] A slices_S8x1408_o0_1280_S8x128

/-- Thirty-two rows' codes in the columns of byte `k`, from four groups of eight rows. -/
def packV (k : ℕ) (A B C D : Vec F S8x1408 .i32) : FVec F S32x1280 .fp8e4m3 :=
  shapeCast S32x1280 (bitcastToFloat .fp8e4m3 (bitcast S32x1280 8
    (fun j => Bytes.word k (wordCols A j) (wordCols B j) (wordCols C j) (wordCols D j)) bitcasts_S8x1280_w32_S32x1280_w8)) shapeCasts_S32x1280_S32x1280

/-- Thirty-two rows' scales, from four groups of eight rows. -/
def scaleV (A B C D : Vec F S8x1408 .i32) : FVec F S32x128 .f32 :=
  bitcastToFloat .f32 (shli (extui 32 (bitcast S32x128 8
    (fun j => Bytes.packed (scaleCols A j) (scaleCols B j) (scaleCols C j) (scaleCols D j)) bitcasts_S8x128_w32_S32x128_w8) natLt_8_32)
    (broadcast S32x128 23#32))

variable (c : Dev nD) (arg3 : Memref sig .tc .vmem S256x1408 .i32) (gx : Buf (Elt F) (arg3.view.loc (c : Thread nD τ)))

def pack0 (k : ℕ) : FVec F S32x1280 .fp8e4m3 := packV k (row8 c arg3 gx ![0, 0] inb_S256x1408_S8x1408_0_0) (row8 c arg3 gx ![8, 0] inb_S256x1408_S8x1408_8_0) (row8 c arg3 gx ![16, 0] inb_S256x1408_S8x1408_16_0) (row8 c arg3 gx ![24, 0] inb_S256x1408_S8x1408_24_0)
def scale0 : FVec F S32x128 .f32 := scaleV (row8 c arg3 gx ![0, 0] inb_S256x1408_S8x1408_0_0) (row8 c arg3 gx ![8, 0] inb_S256x1408_S8x1408_8_0) (row8 c arg3 gx ![16, 0] inb_S256x1408_S8x1408_16_0) (row8 c arg3 gx ![24, 0] inb_S256x1408_S8x1408_24_0)
def pack1 (k : ℕ) : FVec F S32x1280 .fp8e4m3 := packV k (row8 c arg3 gx ![32, 0] inb_S256x1408_S8x1408_32_0) (row8 c arg3 gx ![40, 0] inb_S256x1408_S8x1408_40_0) (row8 c arg3 gx ![48, 0] inb_S256x1408_S8x1408_48_0) (row8 c arg3 gx ![56, 0] inb_S256x1408_S8x1408_56_0)
def scale1 : FVec F S32x128 .f32 := scaleV (row8 c arg3 gx ![32, 0] inb_S256x1408_S8x1408_32_0) (row8 c arg3 gx ![40, 0] inb_S256x1408_S8x1408_40_0) (row8 c arg3 gx ![48, 0] inb_S256x1408_S8x1408_48_0) (row8 c arg3 gx ![56, 0] inb_S256x1408_S8x1408_56_0)
def pack2 (k : ℕ) : FVec F S32x1280 .fp8e4m3 := packV k (row8 c arg3 gx ![64, 0] inb_S256x1408_S8x1408_64_0) (row8 c arg3 gx ![72, 0] inb_S256x1408_S8x1408_72_0) (row8 c arg3 gx ![80, 0] inb_S256x1408_S8x1408_80_0) (row8 c arg3 gx ![88, 0] inb_S256x1408_S8x1408_88_0)
def scale2 : FVec F S32x128 .f32 := scaleV (row8 c arg3 gx ![64, 0] inb_S256x1408_S8x1408_64_0) (row8 c arg3 gx ![72, 0] inb_S256x1408_S8x1408_72_0) (row8 c arg3 gx ![80, 0] inb_S256x1408_S8x1408_80_0) (row8 c arg3 gx ![88, 0] inb_S256x1408_S8x1408_88_0)
def pack3 (k : ℕ) : FVec F S32x1280 .fp8e4m3 := packV k (row8 c arg3 gx ![96, 0] inb_S256x1408_S8x1408_96_0) (row8 c arg3 gx ![104, 0] inb_S256x1408_S8x1408_104_0) (row8 c arg3 gx ![112, 0] inb_S256x1408_S8x1408_112_0) (row8 c arg3 gx ![120, 0] inb_S256x1408_S8x1408_120_0)
def scale3 : FVec F S32x128 .f32 := scaleV (row8 c arg3 gx ![96, 0] inb_S256x1408_S8x1408_96_0) (row8 c arg3 gx ![104, 0] inb_S256x1408_S8x1408_104_0) (row8 c arg3 gx ![112, 0] inb_S256x1408_S8x1408_112_0) (row8 c arg3 gx ![120, 0] inb_S256x1408_S8x1408_120_0)
def pack4 (k : ℕ) : FVec F S32x1280 .fp8e4m3 := packV k (row8 c arg3 gx ![128, 0] inb_S256x1408_S8x1408_128_0) (row8 c arg3 gx ![136, 0] inb_S256x1408_S8x1408_136_0) (row8 c arg3 gx ![144, 0] inb_S256x1408_S8x1408_144_0) (row8 c arg3 gx ![152, 0] inb_S256x1408_S8x1408_152_0)
def scale4 : FVec F S32x128 .f32 := scaleV (row8 c arg3 gx ![128, 0] inb_S256x1408_S8x1408_128_0) (row8 c arg3 gx ![136, 0] inb_S256x1408_S8x1408_136_0) (row8 c arg3 gx ![144, 0] inb_S256x1408_S8x1408_144_0) (row8 c arg3 gx ![152, 0] inb_S256x1408_S8x1408_152_0)
def pack5 (k : ℕ) : FVec F S32x1280 .fp8e4m3 := packV k (row8 c arg3 gx ![160, 0] inb_S256x1408_S8x1408_160_0) (row8 c arg3 gx ![168, 0] inb_S256x1408_S8x1408_168_0) (row8 c arg3 gx ![176, 0] inb_S256x1408_S8x1408_176_0) (row8 c arg3 gx ![184, 0] inb_S256x1408_S8x1408_184_0)
def scale5 : FVec F S32x128 .f32 := scaleV (row8 c arg3 gx ![160, 0] inb_S256x1408_S8x1408_160_0) (row8 c arg3 gx ![168, 0] inb_S256x1408_S8x1408_168_0) (row8 c arg3 gx ![176, 0] inb_S256x1408_S8x1408_176_0) (row8 c arg3 gx ![184, 0] inb_S256x1408_S8x1408_184_0)
def pack6 (k : ℕ) : FVec F S32x1280 .fp8e4m3 := packV k (row8 c arg3 gx ![192, 0] inb_S256x1408_S8x1408_192_0) (row8 c arg3 gx ![200, 0] inb_S256x1408_S8x1408_200_0) (row8 c arg3 gx ![208, 0] inb_S256x1408_S8x1408_208_0) (row8 c arg3 gx ![216, 0] inb_S256x1408_S8x1408_216_0)
def scale6 : FVec F S32x128 .f32 := scaleV (row8 c arg3 gx ![192, 0] inb_S256x1408_S8x1408_192_0) (row8 c arg3 gx ![200, 0] inb_S256x1408_S8x1408_200_0) (row8 c arg3 gx ![208, 0] inb_S256x1408_S8x1408_208_0) (row8 c arg3 gx ![216, 0] inb_S256x1408_S8x1408_216_0)
def pack7 (k : ℕ) : FVec F S32x1280 .fp8e4m3 := packV k (row8 c arg3 gx ![224, 0] inb_S256x1408_S8x1408_224_0) (row8 c arg3 gx ![232, 0] inb_S256x1408_S8x1408_232_0) (row8 c arg3 gx ![240, 0] inb_S256x1408_S8x1408_240_0) (row8 c arg3 gx ![248, 0] inb_S256x1408_S8x1408_248_0)
def scale7 : FVec F S32x128 .f32 := scaleV (row8 c arg3 gx ![224, 0] inb_S256x1408_S8x1408_224_0) (row8 c arg3 gx ![232, 0] inb_S256x1408_S8x1408_232_0) (row8 c arg3 gx ![240, 0] inb_S256x1408_S8x1408_240_0) (row8 c arg3 gx ![248, 0] inb_S256x1408_S8x1408_248_0)

/-- The stored codes, the last stored first. -/
def packPieces : List (View.Piece (Elt F) S256x5120 .fp8e4m3) :=
  [⟨Rect.unit ![224, 3840] S32x1280.size inb_S256x5120_S32x1280_224_3840, pack7 c arg3 gx 3⟩,
   ⟨Rect.unit ![224, 2560] S32x1280.size inb_S256x5120_S32x1280_224_2560, pack7 c arg3 gx 2⟩,
   ⟨Rect.unit ![224, 1280] S32x1280.size inb_S256x5120_S32x1280_224_1280, pack7 c arg3 gx 1⟩,
   ⟨Rect.unit ![224, 0] S32x1280.size inb_S256x5120_S32x1280_224_0, pack7 c arg3 gx 0⟩,
   ⟨Rect.unit ![192, 3840] S32x1280.size inb_S256x5120_S32x1280_192_3840, pack6 c arg3 gx 3⟩,
   ⟨Rect.unit ![192, 2560] S32x1280.size inb_S256x5120_S32x1280_192_2560, pack6 c arg3 gx 2⟩,
   ⟨Rect.unit ![192, 1280] S32x1280.size inb_S256x5120_S32x1280_192_1280, pack6 c arg3 gx 1⟩,
   ⟨Rect.unit ![192, 0] S32x1280.size inb_S256x5120_S32x1280_192_0, pack6 c arg3 gx 0⟩,
   ⟨Rect.unit ![160, 3840] S32x1280.size inb_S256x5120_S32x1280_160_3840, pack5 c arg3 gx 3⟩,
   ⟨Rect.unit ![160, 2560] S32x1280.size inb_S256x5120_S32x1280_160_2560, pack5 c arg3 gx 2⟩,
   ⟨Rect.unit ![160, 1280] S32x1280.size inb_S256x5120_S32x1280_160_1280, pack5 c arg3 gx 1⟩,
   ⟨Rect.unit ![160, 0] S32x1280.size inb_S256x5120_S32x1280_160_0, pack5 c arg3 gx 0⟩,
   ⟨Rect.unit ![128, 3840] S32x1280.size inb_S256x5120_S32x1280_128_3840, pack4 c arg3 gx 3⟩,
   ⟨Rect.unit ![128, 2560] S32x1280.size inb_S256x5120_S32x1280_128_2560, pack4 c arg3 gx 2⟩,
   ⟨Rect.unit ![128, 1280] S32x1280.size inb_S256x5120_S32x1280_128_1280, pack4 c arg3 gx 1⟩,
   ⟨Rect.unit ![128, 0] S32x1280.size inb_S256x5120_S32x1280_128_0, pack4 c arg3 gx 0⟩,
   ⟨Rect.unit ![96, 3840] S32x1280.size inb_S256x5120_S32x1280_96_3840, pack3 c arg3 gx 3⟩,
   ⟨Rect.unit ![96, 2560] S32x1280.size inb_S256x5120_S32x1280_96_2560, pack3 c arg3 gx 2⟩,
   ⟨Rect.unit ![96, 1280] S32x1280.size inb_S256x5120_S32x1280_96_1280, pack3 c arg3 gx 1⟩,
   ⟨Rect.unit ![96, 0] S32x1280.size inb_S256x5120_S32x1280_96_0, pack3 c arg3 gx 0⟩,
   ⟨Rect.unit ![64, 3840] S32x1280.size inb_S256x5120_S32x1280_64_3840, pack2 c arg3 gx 3⟩,
   ⟨Rect.unit ![64, 2560] S32x1280.size inb_S256x5120_S32x1280_64_2560, pack2 c arg3 gx 2⟩,
   ⟨Rect.unit ![64, 1280] S32x1280.size inb_S256x5120_S32x1280_64_1280, pack2 c arg3 gx 1⟩,
   ⟨Rect.unit ![64, 0] S32x1280.size inb_S256x5120_S32x1280_64_0, pack2 c arg3 gx 0⟩,
   ⟨Rect.unit ![32, 3840] S32x1280.size inb_S256x5120_S32x1280_32_3840, pack1 c arg3 gx 3⟩,
   ⟨Rect.unit ![32, 2560] S32x1280.size inb_S256x5120_S32x1280_32_2560, pack1 c arg3 gx 2⟩,
   ⟨Rect.unit ![32, 1280] S32x1280.size inb_S256x5120_S32x1280_32_1280, pack1 c arg3 gx 1⟩,
   ⟨Rect.unit ![32, 0] S32x1280.size inb_S256x5120_S32x1280_32_0, pack1 c arg3 gx 0⟩,
   ⟨Rect.unit ![0, 3840] S32x1280.size inb_S256x5120_S32x1280_0_3840, pack0 c arg3 gx 3⟩,
   ⟨Rect.unit ![0, 2560] S32x1280.size inb_S256x5120_S32x1280_0_2560, pack0 c arg3 gx 2⟩,
   ⟨Rect.unit ![0, 1280] S32x1280.size inb_S256x5120_S32x1280_0_1280, pack0 c arg3 gx 1⟩,
   ⟨Rect.unit ![0, 0] S32x1280.size inb_S256x5120_S32x1280_0_0, pack0 c arg3 gx 0⟩]

/-- The scales of the tile's rows, a lane a copy. -/
def scaleT : FVec F S256x128 .f32 :=
  concatenate S256x128 0 [⟨S32x128, scale0 c arg3 gx⟩, ⟨S32x128, scale1 c arg3 gx⟩, ⟨S32x128, scale2 c arg3 gx⟩, ⟨S32x128, scale3 c arg3 gx⟩,
    ⟨S32x128, scale4 c arg3 gx⟩, ⟨S32x128, scale5 c arg3 gx⟩, ⟨S32x128, scale6 c arg3 gx⟩, ⟨S32x128, scale7 c arg3 gx⟩]
    concatenates_S32x128_S32x128_S32x128_S32x128_S32x128_S32x128_S32x128_S32x128_S256x128_d0

abbrev v28' : Vec F S8x1408 .i32 := row8 c arg3 gx ![0, 0] inb_S256x1408_S8x1408_0_0
abbrev v29' : Vec F S8x1408 .i32 := row8 c arg3 gx ![8, 0] inb_S256x1408_S8x1408_8_0
abbrev v30' : Vec F S8x1408 .i32 := row8 c arg3 gx ![16, 0] inb_S256x1408_S8x1408_16_0
abbrev v31' : Vec F S8x1408 .i32 := row8 c arg3 gx ![24, 0] inb_S256x1408_S8x1408_24_0

theorem codes_eq : tileRun.sl.H11_32 c arg3 gx (k0_pay6 (v28' c arg3 gx) (v30' c arg3 gx)) (k0_pay7 (v28' c arg3 gx) (v30' c arg3 gx))
    (k0_pay8 (v29' c arg3 gx) (v31' c arg3 gx)) (k0_pay9 (v29' c arg3 gx)) (k0_pay10 (v31' c arg3 gx)) = packPieces c arg3 gx := rfl

theorem scales_eq : tileRun.sl.r_70 c arg3 gx (v28' c arg3 gx) (v29' c arg3 gx) (v30' c arg3 gx) (v31' c arg3 gx) = scaleT c arg3 gx := rfl

theorem cover_of_packPieces (y : S256x5120.Idx) : ∃ p ∈ packPieces c arg3 gx, y ∈ p.1.set :=
  View.cover_of_tiled _ ![32, 1280] rfl y

end Clean

/-! ## Read at a row -/

/-- The row whose words carry row `r`'s byte `m` scale, and (at `m = r % 4`) row `r`'s own words. -/
def srow (r m : ℕ) : ℕ := r / 32 * 32 + 8 * m + r % 32 / 4

theorem srow_lt {r m : ℕ} (h : r < 256) (hm : m < 4) : srow r m < 256 := by unfold srow; omega

/-- A row's code at a column. -/
def codeOf (X : S256x1408.Idx → BitVec 32) (r : Fin 256) (l : Fin 5120) : EReal :=
  Ideal.ofBits .fp8e4m3 (Bytes.byte (X (ix2 ⟨srow r (r % 4), srow_lt r.2 (by omega)⟩ ⟨l % 1280, by omega⟩)) (l / 1280))

/-- A row's scale byte, in a lane. -/
def expoOf (X : S256x1408.Idx → BitVec 32) (r : Fin 256) (m : ℕ) (hm : m < 4) (l : Fin 128) : BitVec 32 :=
  X (ix2 ⟨srow r m, srow_lt r.2 hm⟩ ⟨1280 + l, by omega⟩)

theorem wordCols_at (A : Vec Ideal S8x1408 .i32) (p : Fin 8) (w : Fin 1280) : wordCols A (ix2 p w) = A (ix2 p ⟨w, by omega⟩) := by
  unfold wordCols
  pointwise

theorem scaleCols_at (A : Vec Ideal S8x1408 .i32) (p : Fin 8) (w : Fin 128) : scaleCols A (ix2 p w) = A (ix2 p ⟨1280 + w, by omega⟩) := by
  unfold scaleCols
  pointwise

/-- Rows `o`, …, `o + 7` of the block, as the tile loads them. -/
theorem row8_at (c : Dev nD) (arg3 : Memref sig .tc .vmem S256x1408 .i32) (gx : Buf (Elt Ideal) (arg3.view.loc (c : Thread nD τ)))
    (o : ℕ) (ho : o + 8 ≤ 256) (h) (p : Fin 8) (l : Fin 1408) :
    row8 c arg3 gx ![o, 0] h (ix2 p l) = arg3.view.read (Elt Ideal) gx (ix2 ⟨o + p, by omega⟩ l) := by
  show View.ld (arg3.view.read (Elt Ideal) gx) (Rect.unit ![o, 0] S8x1408.size h) (ix2 p l) = _
  refine View.ld_unit_apply_of _ _ _ _ _ _ fun a => ?_
  match a with
  | ⟨0, _⟩ => rfl
  | ⟨1, _⟩ => exact (Nat.zero_add _).symm

theorem packV_at (k : ℕ) (hk : k < 4) (o : ℕ) (ho : o % 32 = 0) (ho' : o < 256) (A B C D : Vec Ideal S8x1408 .i32) (X : S256x1408.Idx → BitVec 32)
    (hX : ∀ (m : ℕ) (hm : m < 4) (p : Fin 8) (l : Fin 1408), Bytes.pick m A B C D (ix2 p l) = X (ix2 ⟨o + 8 * m + p, by omega⟩ l))
    (x : S32x1280.Idx) (r : Fin 256) (l : Fin 5120) (h0 : (r : ℕ) = o + x 0) (h1 : (l : ℕ) = 1280 * k + x 1) :
    packV (F := Ideal) k A B C D x = codeOf X r l := by
  obtain ⟨a, w, rfl⟩ : ∃ (a : Fin 32) (w : Fin 1280), x = ix2 a w := ⟨x 0, x 1, eq_ix2 x⟩
  have h0' : (r : ℕ) = o + a := h0
  have h1' : (l : ℕ) = 1280 * k + w := h1
  unfold packV codeOf
  pointwise
  rw [Bytes.bitcast_bytes _ _ a w ⟨a / 4, by omega⟩ rfl, Bytes.byte_word k _ hk (by omega)]
  have hm : (a : ℕ) % 4 = r % 4 := by omega
  rw [wordCols_at, wordCols_at, wordCols_at, wordCols_at, Bytes.pick_apply, hX (a % 4) (by omega) ⟨a / 4, by omega⟩ ⟨w, by omega⟩]
  have e1 : (l : ℕ) / 1280 = k := by omega
  rw [e1]
  congr 3
  unfold srow
  congr 1 <;> apply Fin.ext <;> dsimp only <;> omega

theorem scaleV_at (o : ℕ) (ho : o % 32 = 0) (ho' : o < 256) (A B C D : Vec Ideal S8x1408 .i32) (X : S256x1408.Idx → BitVec 32)
    (hX : ∀ (m : ℕ) (hm : m < 4) (p : Fin 8) (l : Fin 1408), Bytes.pick m A B C D (ix2 p l) = X (ix2 ⟨o + 8 * m + p, by omega⟩ l))
    (a : Fin 32) (l : Fin 128) (r : Fin 256) (h0 : (r : ℕ) = o + a)
    (hb : ∀ (m : ℕ) (hm : m < 4), m ≤ r % 4 → (expoOf X r m hm l).toNat < 256) :
    scaleV (F := Ideal) A B C D (ix2 a l) = Ideal.ofBits .f32 (IntOp.shli .vector (expoOf X r (r % 4) (by omega) l) 23#32) := by
  unfold scaleV
  pointwise
  rw [Bytes.bitcast_bytes _ _ a l ⟨a / 4, by omega⟩ rfl]
  have hm : (a : ℕ) % 4 = r % 4 := by omega
  have key : ∀ (m : ℕ) (hm : m < 4), Bytes.pick m (scaleCols A (ix2 ⟨a / 4, by omega⟩ l)) (scaleCols B (ix2 ⟨a / 4, by omega⟩ l))
      (scaleCols C (ix2 ⟨a / 4, by omega⟩ l)) (scaleCols D (ix2 ⟨a / 4, by omega⟩ l)) = expoOf X r m hm l := fun m hm => by
    rw [scaleCols_at, scaleCols_at, scaleCols_at, scaleCols_at, Bytes.pick_apply, hX m hm ⟨a / 4, by omega⟩ ⟨1280 + l, by omega⟩]
    unfold expoOf srow
    congr 2
    apply Fin.ext; dsimp only; omega
  rw [Bytes.byte_packed _ (by omega), key _ (by omega)]
  · congr 2
    unfold expoOf
    simp only [hm]
  · intro m' hm'
    rw [key m' (by omega)]
    exact hb m' (by omega) (by omega)

theorem pack0_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 0 + x 0) (h1 : (l : ℕ) = 1280 * k + x 1) :
    pack0 (F := Ideal) c arg3 gx k x = codeOf (arg3.view.read (Elt Ideal) gx) r l :=
  packV_at k hk 0 (by norm_num) (by norm_num) _ _ _ _ _ (fun m hm p l => by interval_cases m <;> exact row8_at c arg3 gx _ (by norm_num) _ p l) x r l h0 h1

theorem scale0_at (c : Dev nD) (arg3 : Memref sig .tc .vmem S256x1408 .i32) (gx : Buf (Elt Ideal) (arg3.view.loc (c : Thread nD τ)))
    (a : Fin 32) (l : Fin 128) (r : Fin 256) (h0 : (r : ℕ) = 0 + a)
    (hb : ∀ (m : ℕ) (hm : m < 4), m ≤ r % 4 → (expoOf (arg3.view.read (Elt Ideal) gx) r m hm l).toNat < 256) :
    scale0 (F := Ideal) c arg3 gx (ix2 a l)
      = Ideal.ofBits .f32 (IntOp.shli .vector (expoOf (arg3.view.read (Elt Ideal) gx) r (r % 4) (by omega) l) 23#32) :=
  scaleV_at 0 (by norm_num) (by norm_num) _ _ _ _ _ (fun m hm p l => by interval_cases m <;> exact row8_at c arg3 gx _ (by norm_num) _ p l) a l r h0 hb

theorem pack1_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 32 + x 0) (h1 : (l : ℕ) = 1280 * k + x 1) :
    pack1 (F := Ideal) c arg3 gx k x = codeOf (arg3.view.read (Elt Ideal) gx) r l :=
  packV_at k hk 32 (by norm_num) (by norm_num) _ _ _ _ _ (fun m hm p l => by interval_cases m <;> exact row8_at c arg3 gx _ (by norm_num) _ p l) x r l h0 h1

theorem scale1_at (c : Dev nD) (arg3 : Memref sig .tc .vmem S256x1408 .i32) (gx : Buf (Elt Ideal) (arg3.view.loc (c : Thread nD τ)))
    (a : Fin 32) (l : Fin 128) (r : Fin 256) (h0 : (r : ℕ) = 32 + a)
    (hb : ∀ (m : ℕ) (hm : m < 4), m ≤ r % 4 → (expoOf (arg3.view.read (Elt Ideal) gx) r m hm l).toNat < 256) :
    scale1 (F := Ideal) c arg3 gx (ix2 a l)
      = Ideal.ofBits .f32 (IntOp.shli .vector (expoOf (arg3.view.read (Elt Ideal) gx) r (r % 4) (by omega) l) 23#32) :=
  scaleV_at 32 (by norm_num) (by norm_num) _ _ _ _ _ (fun m hm p l => by interval_cases m <;> exact row8_at c arg3 gx _ (by norm_num) _ p l) a l r h0 hb

theorem pack2_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 64 + x 0) (h1 : (l : ℕ) = 1280 * k + x 1) :
    pack2 (F := Ideal) c arg3 gx k x = codeOf (arg3.view.read (Elt Ideal) gx) r l :=
  packV_at k hk 64 (by norm_num) (by norm_num) _ _ _ _ _ (fun m hm p l => by interval_cases m <;> exact row8_at c arg3 gx _ (by norm_num) _ p l) x r l h0 h1

theorem scale2_at (c : Dev nD) (arg3 : Memref sig .tc .vmem S256x1408 .i32) (gx : Buf (Elt Ideal) (arg3.view.loc (c : Thread nD τ)))
    (a : Fin 32) (l : Fin 128) (r : Fin 256) (h0 : (r : ℕ) = 64 + a)
    (hb : ∀ (m : ℕ) (hm : m < 4), m ≤ r % 4 → (expoOf (arg3.view.read (Elt Ideal) gx) r m hm l).toNat < 256) :
    scale2 (F := Ideal) c arg3 gx (ix2 a l)
      = Ideal.ofBits .f32 (IntOp.shli .vector (expoOf (arg3.view.read (Elt Ideal) gx) r (r % 4) (by omega) l) 23#32) :=
  scaleV_at 64 (by norm_num) (by norm_num) _ _ _ _ _ (fun m hm p l => by interval_cases m <;> exact row8_at c arg3 gx _ (by norm_num) _ p l) a l r h0 hb

theorem pack3_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 96 + x 0) (h1 : (l : ℕ) = 1280 * k + x 1) :
    pack3 (F := Ideal) c arg3 gx k x = codeOf (arg3.view.read (Elt Ideal) gx) r l :=
  packV_at k hk 96 (by norm_num) (by norm_num) _ _ _ _ _ (fun m hm p l => by interval_cases m <;> exact row8_at c arg3 gx _ (by norm_num) _ p l) x r l h0 h1

theorem scale3_at (c : Dev nD) (arg3 : Memref sig .tc .vmem S256x1408 .i32) (gx : Buf (Elt Ideal) (arg3.view.loc (c : Thread nD τ)))
    (a : Fin 32) (l : Fin 128) (r : Fin 256) (h0 : (r : ℕ) = 96 + a)
    (hb : ∀ (m : ℕ) (hm : m < 4), m ≤ r % 4 → (expoOf (arg3.view.read (Elt Ideal) gx) r m hm l).toNat < 256) :
    scale3 (F := Ideal) c arg3 gx (ix2 a l)
      = Ideal.ofBits .f32 (IntOp.shli .vector (expoOf (arg3.view.read (Elt Ideal) gx) r (r % 4) (by omega) l) 23#32) :=
  scaleV_at 96 (by norm_num) (by norm_num) _ _ _ _ _ (fun m hm p l => by interval_cases m <;> exact row8_at c arg3 gx _ (by norm_num) _ p l) a l r h0 hb

theorem pack4_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 128 + x 0) (h1 : (l : ℕ) = 1280 * k + x 1) :
    pack4 (F := Ideal) c arg3 gx k x = codeOf (arg3.view.read (Elt Ideal) gx) r l :=
  packV_at k hk 128 (by norm_num) (by norm_num) _ _ _ _ _ (fun m hm p l => by interval_cases m <;> exact row8_at c arg3 gx _ (by norm_num) _ p l) x r l h0 h1

theorem scale4_at (c : Dev nD) (arg3 : Memref sig .tc .vmem S256x1408 .i32) (gx : Buf (Elt Ideal) (arg3.view.loc (c : Thread nD τ)))
    (a : Fin 32) (l : Fin 128) (r : Fin 256) (h0 : (r : ℕ) = 128 + a)
    (hb : ∀ (m : ℕ) (hm : m < 4), m ≤ r % 4 → (expoOf (arg3.view.read (Elt Ideal) gx) r m hm l).toNat < 256) :
    scale4 (F := Ideal) c arg3 gx (ix2 a l)
      = Ideal.ofBits .f32 (IntOp.shli .vector (expoOf (arg3.view.read (Elt Ideal) gx) r (r % 4) (by omega) l) 23#32) :=
  scaleV_at 128 (by norm_num) (by norm_num) _ _ _ _ _ (fun m hm p l => by interval_cases m <;> exact row8_at c arg3 gx _ (by norm_num) _ p l) a l r h0 hb

theorem pack5_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 160 + x 0) (h1 : (l : ℕ) = 1280 * k + x 1) :
    pack5 (F := Ideal) c arg3 gx k x = codeOf (arg3.view.read (Elt Ideal) gx) r l :=
  packV_at k hk 160 (by norm_num) (by norm_num) _ _ _ _ _ (fun m hm p l => by interval_cases m <;> exact row8_at c arg3 gx _ (by norm_num) _ p l) x r l h0 h1

theorem scale5_at (c : Dev nD) (arg3 : Memref sig .tc .vmem S256x1408 .i32) (gx : Buf (Elt Ideal) (arg3.view.loc (c : Thread nD τ)))
    (a : Fin 32) (l : Fin 128) (r : Fin 256) (h0 : (r : ℕ) = 160 + a)
    (hb : ∀ (m : ℕ) (hm : m < 4), m ≤ r % 4 → (expoOf (arg3.view.read (Elt Ideal) gx) r m hm l).toNat < 256) :
    scale5 (F := Ideal) c arg3 gx (ix2 a l)
      = Ideal.ofBits .f32 (IntOp.shli .vector (expoOf (arg3.view.read (Elt Ideal) gx) r (r % 4) (by omega) l) 23#32) :=
  scaleV_at 160 (by norm_num) (by norm_num) _ _ _ _ _ (fun m hm p l => by interval_cases m <;> exact row8_at c arg3 gx _ (by norm_num) _ p l) a l r h0 hb

theorem pack6_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 192 + x 0) (h1 : (l : ℕ) = 1280 * k + x 1) :
    pack6 (F := Ideal) c arg3 gx k x = codeOf (arg3.view.read (Elt Ideal) gx) r l :=
  packV_at k hk 192 (by norm_num) (by norm_num) _ _ _ _ _ (fun m hm p l => by interval_cases m <;> exact row8_at c arg3 gx _ (by norm_num) _ p l) x r l h0 h1

theorem scale6_at (c : Dev nD) (arg3 : Memref sig .tc .vmem S256x1408 .i32) (gx : Buf (Elt Ideal) (arg3.view.loc (c : Thread nD τ)))
    (a : Fin 32) (l : Fin 128) (r : Fin 256) (h0 : (r : ℕ) = 192 + a)
    (hb : ∀ (m : ℕ) (hm : m < 4), m ≤ r % 4 → (expoOf (arg3.view.read (Elt Ideal) gx) r m hm l).toNat < 256) :
    scale6 (F := Ideal) c arg3 gx (ix2 a l)
      = Ideal.ofBits .f32 (IntOp.shli .vector (expoOf (arg3.view.read (Elt Ideal) gx) r (r % 4) (by omega) l) 23#32) :=
  scaleV_at 192 (by norm_num) (by norm_num) _ _ _ _ _ (fun m hm p l => by interval_cases m <;> exact row8_at c arg3 gx _ (by norm_num) _ p l) a l r h0 hb

theorem pack7_at (c : Dev nD) (arg3 : Memref sig .tc .vmem S256x1408 .i32) (gx : Buf (Elt Ideal) (arg3.view.loc (c : Thread nD τ)))
    (k : ℕ) (hk : k < 4) (x : S32x1280.Idx) (r : Fin 256) (l : Fin 5120) (h0 : (r : ℕ) = 224 + x 0) (h1 : (l : ℕ) = 1280 * k + x 1) :
    pack7 (F := Ideal) c arg3 gx k x = codeOf (arg3.view.read (Elt Ideal) gx) r l :=
  packV_at k hk 224 (by norm_num) (by norm_num) _ _ _ _ _ (fun m hm p l => by interval_cases m <;> exact row8_at c arg3 gx _ (by norm_num) _ p l) x r l h0 h1

theorem scale7_at (c : Dev nD) (arg3 : Memref sig .tc .vmem S256x1408 .i32) (gx : Buf (Elt Ideal) (arg3.view.loc (c : Thread nD τ)))
    (a : Fin 32) (l : Fin 128) (r : Fin 256) (h0 : (r : ℕ) = 224 + a)
    (hb : ∀ (m : ℕ) (hm : m < 4), m ≤ r % 4 → (expoOf (arg3.view.read (Elt Ideal) gx) r m hm l).toNat < 256) :
    scale7 (F := Ideal) c arg3 gx (ix2 a l)
      = Ideal.ofBits .f32 (IntOp.shli .vector (expoOf (arg3.view.read (Elt Ideal) gx) r (r % 4) (by omega) l) 23#32) :=
  scaleV_at 224 (by norm_num) (by norm_num) _ _ _ _ _ (fun m hm p l => by interval_cases m <;> exact row8_at c arg3 gx _ (by norm_num) _ p l) a l r h0 hb

/-- A row's code, read from the stored blocks. -/
theorem codes_at (c : Dev nD) (arg3 : Memref sig .tc .vmem S256x1408 .i32) (gx : Buf (Elt Ideal) (arg3.view.loc (c : Thread nD τ)))
    (r : Fin 256) (l : Fin 5120) :
    View.canon (packPieces (F := Ideal) c arg3 gx) (ix2 r l) = codeOf (arg3.view.read (Elt Ideal) gx) r l := by
  have hc := cover_of_packPieces (F := Ideal) c arg3 gx (ix2 r l)
  unfold packPieces at hc ⊢
  canon_tiles x h using hc
  · exact pack7_at c arg3 gx 3 (by norm_num) x r l (h0.trans (by omega)) (h1.trans (by omega))
  · exact pack7_at c arg3 gx 2 (by norm_num) x r l (h0.trans (by omega)) (h1.trans (by omega))
  · exact pack7_at c arg3 gx 1 (by norm_num) x r l (h0.trans (by omega)) (h1.trans (by omega))
  · exact pack7_at c arg3 gx 0 (by norm_num) x r l (h0.trans (by omega)) (h1.trans (by omega))
  · exact pack6_at c arg3 gx 3 (by norm_num) x r l (h0.trans (by omega)) (h1.trans (by omega))
  · exact pack6_at c arg3 gx 2 (by norm_num) x r l (h0.trans (by omega)) (h1.trans (by omega))
  · exact pack6_at c arg3 gx 1 (by norm_num) x r l (h0.trans (by omega)) (h1.trans (by omega))
  · exact pack6_at c arg3 gx 0 (by norm_num) x r l (h0.trans (by omega)) (h1.trans (by omega))
  · exact pack5_at c arg3 gx 3 (by norm_num) x r l (h0.trans (by omega)) (h1.trans (by omega))
  · exact pack5_at c arg3 gx 2 (by norm_num) x r l (h0.trans (by omega)) (h1.trans (by omega))
  · exact pack5_at c arg3 gx 1 (by norm_num) x r l (h0.trans (by omega)) (h1.trans (by omega))
  · exact pack5_at c arg3 gx 0 (by norm_num) x r l (h0.trans (by omega)) (h1.trans (by omega))
  · exact pack4_at c arg3 gx 3 (by norm_num) x r l (h0.trans (by omega)) (h1.trans (by omega))
  · exact pack4_at c arg3 gx 2 (by norm_num) x r l (h0.trans (by omega)) (h1.trans (by omega))
  · exact pack4_at c arg3 gx 1 (by norm_num) x r l (h0.trans (by omega)) (h1.trans (by omega))
  · exact pack4_at c arg3 gx 0 (by norm_num) x r l (h0.trans (by omega)) (h1.trans (by omega))
  · exact pack3_at c arg3 gx 3 (by norm_num) x r l (h0.trans (by omega)) (h1.trans (by omega))
  · exact pack3_at c arg3 gx 2 (by norm_num) x r l (h0.trans (by omega)) (h1.trans (by omega))
  · exact pack3_at c arg3 gx 1 (by norm_num) x r l (h0.trans (by omega)) (h1.trans (by omega))
  · exact pack3_at c arg3 gx 0 (by norm_num) x r l (h0.trans (by omega)) (h1.trans (by omega))
  · exact pack2_at c arg3 gx 3 (by norm_num) x r l (h0.trans (by omega)) (h1.trans (by omega))
  · exact pack2_at c arg3 gx 2 (by norm_num) x r l (h0.trans (by omega)) (h1.trans (by omega))
  · exact pack2_at c arg3 gx 1 (by norm_num) x r l (h0.trans (by omega)) (h1.trans (by omega))
  · exact pack2_at c arg3 gx 0 (by norm_num) x r l (h0.trans (by omega)) (h1.trans (by omega))
  · exact pack1_at c arg3 gx 3 (by norm_num) x r l (h0.trans (by omega)) (h1.trans (by omega))
  · exact pack1_at c arg3 gx 2 (by norm_num) x r l (h0.trans (by omega)) (h1.trans (by omega))
  · exact pack1_at c arg3 gx 1 (by norm_num) x r l (h0.trans (by omega)) (h1.trans (by omega))
  · exact pack1_at c arg3 gx 0 (by norm_num) x r l (h0.trans (by omega)) (h1.trans (by omega))
  · exact pack0_at c arg3 gx 3 (by norm_num) x r l (h0.trans (by omega)) (h1.trans (by omega))
  · exact pack0_at c arg3 gx 2 (by norm_num) x r l (h0.trans (by omega)) (h1.trans (by omega))
  · exact pack0_at c arg3 gx 1 (by norm_num) x r l (h0.trans (by omega)) (h1.trans (by omega))
  · exact pack0_at c arg3 gx 0 (by norm_num) x r l (h0.trans (by omega)) (h1.trans (by omega))

/-- A row's scale in a lane, where the scale bytes of the row and of those that share its word are bytes. -/
theorem scale_at (c : Dev nD) (arg3 : Memref sig .tc .vmem S256x1408 .i32) (gx : Buf (Elt Ideal) (arg3.view.loc (c : Thread nD τ)))
    (r : Fin 256) (l : Fin 128)
    (hb : ∀ (m : ℕ) (hm : m < 4), m ≤ r % 4 → (expoOf (arg3.view.read (Elt Ideal) gx) r m hm l).toNat < 256) :
    scaleT (F := Ideal) c arg3 gx (ix2 r l)
      = Ideal.ofBits .f32 (IntOp.shli .vector (expoOf (arg3.view.read (Elt Ideal) gx) r (r % 4) (by omega) l) 23#32) := by
  unfold scaleT
  pointwise
  split
  · exact scale0_at c arg3 gx _ l r (by dsimp only; omega) hb
  split
  · exact scale1_at c arg3 gx _ l r (by dsimp only; omega) hb
  split
  · exact scale2_at c arg3 gx _ l r (by dsimp only; omega) hb
  split
  · exact scale3_at c arg3 gx _ l r (by dsimp only; omega) hb
  split
  · exact scale4_at c arg3 gx _ l r (by dsimp only; omega) hb
  split
  · exact scale5_at c arg3 gx _ l r (by dsimp only; omega) hb
  split
  · exact scale6_at c arg3 gx _ l r (by dsimp only; omega) hb
  exact scale7_at c arg3 gx _ l r (by dsimp only; omega) hb

end Cert.Proof.FfnI

end
-- ==== Proof.TileValI.lean ====
/-
  A tile's arithmetic in one place: the hidden columns, the greatest magnitude, the exponent found by halving, the
  quantized hidden block and the down-projection, as the tile's run leaves them.
-/
module

public import proofs.«01_k».proof.Proof.PackI

@[expose] public section

set_option maxRecDepth 16384

noncomputable section

namespace Cert.Proof.FfnI

open Cert.KernelIdeal Cert.KernelIdeal.Gen
open Idealize.ShloMosaic
open Idealize.ShloMosaic.TcCoe

variable {F : FTy → Type} [FloatOps F]

/-! ## The operations -/

/-- The gate's value times its logistic, times the other half. -/
def siluV {s : Shape} (g u : FVec F s .f32) : FVec F s .f32 :=
  mulf (mulf g (divf (broadcast s (Scalar.ofBits .f32 0x3F800000#32)) (addf (broadcast s (Scalar.ofBits .f32 0x3F800000#32))
    (exp (subf (broadcast s (Scalar.ofBits .f32 0x00000000#32)) g))))) u

/-- 256 columns of one half of the up-projection, scaled. -/
def projV (sc : FVec F S256x256 .f32) (s1 : FVec F S1x2816 .f32) (x : Vec F S256x5120 .fp8e4m3) (W : Vec F S1x5120x256 .fp8e4m3)
    (o : ℕ) (h : S1x2816.Slices ![0, o] S1x256) : FVec F S256x256 .f32 :=
  mulf (mulf (matmul dot_S256x5120_S5120x256_S256x256_1_0_0_1_n_n none x (shapeCast S5120x256 W shapeCasts_S1x5120x256_S5120x256)
    (constant S256x256 .f32 0x00000000#32)) sc)
    (broadcastTo S256x256 (extractStridedSlice S1x256 ![0, o] s1 h) broadcasts_S1x256_S256x256)

/-- The last 128 columns of both halves, unscaled, side by side. -/
def dotL (x : Vec F S256x5120 .fp8e4m3) (Wg Wu : Vec F S1x5120x128 .fp8e4m3) : FVec F S256x256 .f32 :=
  matmul dot_S256x5120_S5120x256_S256x256_1_0_0_1_n_n none x
    (concatenate S5120x256 1 [⟨S5120x128, shapeCast S5120x128 Wg shapeCasts_S1x5120x128_S5120x128⟩, ⟨S5120x128, shapeCast S5120x128 Wu shapeCasts_S1x5120x128_S5120x128⟩]
      concatenates_S5120x128_S5120x128_S5120x256_d1) (constant S256x256 .f32 0x00000000#32)

/-- The last 128 hidden columns. -/
def hidL (sc : FVec F S256x128 .f32) (s1 : FVec F S1x2816 .f32) (x : Vec F S256x5120 .fp8e4m3) (Wg Wu : Vec F S1x5120x128 .fp8e4m3) : FVec F S256x128 .f32 :=
  siluV (mulf (mulf (extractStridedSlice S256x128 ![0, 0] (dotL x Wg Wu) slices_S256x256_o0_0_S256x128) sc)
      (broadcastTo S256x128 (extractStridedSlice S1x128 ![0, 1280] s1 slices_S1x2816_o0_1280_S1x128) broadcasts_S1x128_S256x128))
    (mulf (mulf (extractStridedSlice S256x128 ![0, 128] (dotL x Wg Wu) slices_S256x256_o0_128_S256x128) sc)
      (broadcastTo S256x128 (extractStridedSlice S1x128 ![0, 2688] s1 slices_S1x2816_o0_2688_S1x128) broadcasts_S1x128_S256x128))

/-- The greater magnitude of a tile's two halves of lanes, and of what went before. -/
def amaxV (m : FVec F S256x128 .f32) (h : FVec F S256x256 .f32) : FVec F S256x128 .f32 :=
  maximumf m (maximumf (absf (extractStridedSlice S256x128 ![0, 0] h slices_S256x256_o0_0_S256x128))
    (absf (extractStridedSlice S256x128 ![0, 128] h slices_S256x256_o0_128_S256x128)))

/-- The row's greatest magnitude over 448, no more than the greatest power of two searched. -/
def capV (m : FVec F S256x128 .f32) (h : FVec F S256x128 .f32) : FVec F S256x128 .f32 :=
  minimumf (mulf (broadcastTo S256x128 (shapeCast S256x1 (shapeCast S256x1
    (multiReduction .maximumf [1] S256 (maximumf m (absf h)) 0xFF800000#32 reduces_S256x128_S256 (.inl rfl) rfl)
    shapeCasts_S256_S256x1) shapeCasts_S256x1_S256x1) broadcasts_S256x1_S256x128) (broadcast S256x128 (Scalar.ofBits .f32 0x3B124925#32)))
    (broadcast S256x128 (Scalar.ofBits .f32 0x7E000000#32))

/-- One step of the search: `b` added if the power of two is still no more than `q`. -/
def stepV (q : FVec F S256x128 .f32) (b : BitVec 32) (c : IVec S256x128 32) : IVec S256x128 32 :=
  select (cmpf .oge q (bitcastToFloat .f32 (shli (addi c (broadcast S256x128 b)) (broadcast S256x128 23#32)))) (addi c (broadcast S256x128 b)) c

/-- The exponent. -/
def expV (q : FVec F S256x128 .f32) : IVec S256x128 32 :=
  let c := stepV q 1#32 (stepV q 2#32 (stepV q 4#32 (stepV q 8#32 (stepV q 16#32 (stepV q 32#32 (stepV q 64#32 (stepV q 128#32 (broadcast S256x128 0#32))))))))
  select (cmpi .eq c (broadcast S256x128 0#32)) (broadcast S256x128 0#32) (subi c (broadcast S256x128 126#32))

/-- 256 columns of the down-projection, scaled. -/
def downV (sc : FVec F S256x256 .f32) (s2 : FVec F S1x5120 .f32) (x : Vec F S256x1408 .fp8e4m3) (W : Vec F S1x1408x256 .fp8e4m3)
    (o : ℕ) (h : S1x5120.Slices ![0, o] S1x256) : FVec F S256x256 .f32 :=
  mulf (mulf (matmul dot_S256x1408_S1408x256_S256x256_1_0_0_1_n_n none x (shapeCast S1408x256 W shapeCasts_S1x1408x256_S1408x256)
    (constant S256x256 .f32 0x00000000#32)) sc)
    (broadcastTo S256x256 (extractStridedSlice S1x256 ![0, o] s2 h) broadcasts_S1x256_S256x256)

/-! ## The tile -/

section Tile
variable (c : Dev nD) (XU : Buf (Elt F) (upM.view.loc (c : Thread nD τ))) (XD : Buf (Elt F) (dnM.view.loc (c : Thread nD τ)))
  (i : grid0.Coords) (v0 v2 : BitVec 32) (hw1 : k0_chk1 i v0 v2) (v6 v11 : BitVec 32)
  (hw2 : k0_chk2 i v0 v2 v6 v11) (h1 : k0_cond1 i v0 = 1#1)
  (arg3 : Memref sig .tc .vmem S256x1408 .i32) (arg4 : Memref sig .tc .vmem S16x1x2816 .f32)
  (arg5 : Memref sig .tc .vmem S16x1x5120 .f32)
  (x8M : Memref sig .tc .vmem S256x5120 .fp8e4m3) (hM : Memref sig .tc .vmem S256x1408 .f32)
  (hqM : Memref sig .tc .vmem S256x1408 .fp8e4m3)
  (gx : Buf (Elt F) (arg3.view.loc (c : Thread nD τ))) (g4 : Buf (Elt F) (arg4.view.loc (c : Thread nD τ))) (g5 : Buf (Elt F) (arg5.view.loc (c : Thread nD τ)))

def up24 : Vec F S1x5120x256 .fp8e4m3 := View.readAt (Elt F) upB.view (Rect.unit (s := S2x5120x2816) (k0_off24 v11) S1x5120x256.size (k0_off24_inb i v0 v2 v6 v11 hw2 h1)).toLoadRect (upW c XU (expOf v2))
def up25 : Vec F S1x5120x256 .fp8e4m3 := View.readAt (Elt F) upB.view (Rect.unit (s := S2x5120x2816) (k0_off25 v11) S1x5120x256.size (k0_off25_inb i v0 v2 v6 v11 hw2 h1)).toLoadRect (upW c XU (expOf v2))
def up26 : Vec F S1x5120x256 .fp8e4m3 := View.readAt (Elt F) upB.view (Rect.unit (s := S2x5120x2816) (k0_off26 v11) S1x5120x256.size (k0_off26_inb i v0 v2 v6 v11 hw2 h1)).toLoadRect (upW c XU (expOf v2))
def up27 : Vec F S1x5120x256 .fp8e4m3 := View.readAt (Elt F) upB.view (Rect.unit (s := S2x5120x2816) (k0_off27 v11) S1x5120x256.size (k0_off27_inb i v0 v2 v6 v11 hw2 h1)).toLoadRect (upW c XU (expOf v2))
def up28 : Vec F S1x5120x256 .fp8e4m3 := View.readAt (Elt F) upB.view (Rect.unit (s := S2x5120x2816) (k0_off28 v11) S1x5120x256.size (k0_off28_inb i v0 v2 v6 v11 hw2 h1)).toLoadRect (upW c XU (expOf v2))
def up29 : Vec F S1x5120x256 .fp8e4m3 := View.readAt (Elt F) upB.view (Rect.unit (s := S2x5120x2816) (k0_off29 v11) S1x5120x256.size (k0_off29_inb i v0 v2 v6 v11 hw2 h1)).toLoadRect (upW c XU (expOf v2))
def up30 : Vec F S1x5120x256 .fp8e4m3 := View.readAt (Elt F) upB.view (Rect.unit (s := S2x5120x2816) (k0_off30 v11) S1x5120x256.size (k0_off30_inb i v0 v2 v6 v11 hw2 h1)).toLoadRect (upW c XU (expOf v2))
def up31 : Vec F S1x5120x256 .fp8e4m3 := View.readAt (Elt F) upB.view (Rect.unit (s := S2x5120x2816) (k0_off31 v11) S1x5120x256.size (k0_off31_inb i v0 v2 v6 v11 hw2 h1)).toLoadRect (upW c XU (expOf v2))
def up32 : Vec F S1x5120x256 .fp8e4m3 := View.readAt (Elt F) upB.view (Rect.unit (s := S2x5120x2816) (k0_off32 v11) S1x5120x256.size (k0_off32_inb i v0 v2 v6 v11 hw2 h1)).toLoadRect (upW c XU (expOf v2))
def up33 : Vec F S1x5120x256 .fp8e4m3 := View.readAt (Elt F) upB.view (Rect.unit (s := S2x5120x2816) (k0_off33 v11) S1x5120x256.size (k0_off33_inb i v0 v2 v6 v11 hw2 h1)).toLoadRect (upW c XU (expOf v2))
def up34 : Vec F S1x5120x128 .fp8e4m3 := View.readAt (Elt F) upB.view (Rect.unit (s := S2x5120x2816) (k0_off34 v11) S1x5120x128.size (k0_off34_inb i v0 v2 v6 v11 hw2 h1)).toLoadRect (upW c XU (expOf v2))
def up35 : Vec F S1x5120x128 .fp8e4m3 := View.readAt (Elt F) upB.view (Rect.unit (s := S2x5120x2816) (k0_off35 v11) S1x5120x128.size (k0_off35_inb i v0 v2 v6 v11 hw2 h1)).toLoadRect (upW c XU (expOf v2))
def dn37 : Vec F S1x1408x256 .fp8e4m3 := View.readAt (Elt F) dnB.view (Rect.unit (s := S2x1408x5120) (k0_off37 v11) S1x1408x256.size (k0_off37_inb i v0 v2 v6 v11 hw2 h1)).toLoadRect (dnW c XD (expOf v2))
def dn38 : Vec F S1x1408x256 .fp8e4m3 := View.readAt (Elt F) dnB.view (Rect.unit (s := S2x1408x5120) (k0_off38 v11) S1x1408x256.size (k0_off38_inb i v0 v2 v6 v11 hw2 h1)).toLoadRect (dnW c XD (expOf v2))
def dn39 : Vec F S1x1408x256 .fp8e4m3 := View.readAt (Elt F) dnB.view (Rect.unit (s := S2x1408x5120) (k0_off39 v11) S1x1408x256.size (k0_off39_inb i v0 v2 v6 v11 hw2 h1)).toLoadRect (dnW c XD (expOf v2))
def dn40 : Vec F S1x1408x256 .fp8e4m3 := View.readAt (Elt F) dnB.view (Rect.unit (s := S2x1408x5120) (k0_off40 v11) S1x1408x256.size (k0_off40_inb i v0 v2 v6 v11 hw2 h1)).toLoadRect (dnW c XD (expOf v2))
def dn41 : Vec F S1x1408x256 .fp8e4m3 := View.readAt (Elt F) dnB.view (Rect.unit (s := S2x1408x5120) (k0_off41 v11) S1x1408x256.size (k0_off41_inb i v0 v2 v6 v11 hw2 h1)).toLoadRect (dnW c XD (expOf v2))
def dn42 : Vec F S1x1408x256 .fp8e4m3 := View.readAt (Elt F) dnB.view (Rect.unit (s := S2x1408x5120) (k0_off42 v11) S1x1408x256.size (k0_off42_inb i v0 v2 v6 v11 hw2 h1)).toLoadRect (dnW c XD (expOf v2))
def dn43 : Vec F S1x1408x256 .fp8e4m3 := View.readAt (Elt F) dnB.view (Rect.unit (s := S2x1408x5120) (k0_off43 v11) S1x1408x256.size (k0_off43_inb i v0 v2 v6 v11 hw2 h1)).toLoadRect (dnW c XD (expOf v2))
def dn44 : Vec F S1x1408x256 .fp8e4m3 := View.readAt (Elt F) dnB.view (Rect.unit (s := S2x1408x5120) (k0_off44 v11) S1x1408x256.size (k0_off44_inb i v0 v2 v6 v11 hw2 h1)).toLoadRect (dnW c XD (expOf v2))
def dn45 : Vec F S1x1408x256 .fp8e4m3 := View.readAt (Elt F) dnB.view (Rect.unit (s := S2x1408x5120) (k0_off45 v11) S1x1408x256.size (k0_off45_inb i v0 v2 v6 v11 hw2 h1)).toLoadRect (dnW c XD (expOf v2))
def dn46 : Vec F S1x1408x256 .fp8e4m3 := View.readAt (Elt F) dnB.view (Rect.unit (s := S2x1408x5120) (k0_off46 v11) S1x1408x256.size (k0_off46_inb i v0 v2 v6 v11 hw2 h1)).toLoadRect (dnW c XD (expOf v2))
def dn47 : Vec F S1x1408x256 .fp8e4m3 := View.readAt (Elt F) dnB.view (Rect.unit (s := S2x1408x5120) (k0_off47 v11) S1x1408x256.size (k0_off47_inb i v0 v2 v6 v11 hw2 h1)).toLoadRect (dnW c XD (expOf v2))
def dn48 : Vec F S1x1408x256 .fp8e4m3 := View.readAt (Elt F) dnB.view (Rect.unit (s := S2x1408x5120) (k0_off48 v11) S1x1408x256.size (k0_off48_inb i v0 v2 v6 v11 hw2 h1)).toLoadRect (dnW c XD (expOf v2))
def dn49 : Vec F S1x1408x256 .fp8e4m3 := View.readAt (Elt F) dnB.view (Rect.unit (s := S2x1408x5120) (k0_off49 v11) S1x1408x256.size (k0_off49_inb i v0 v2 v6 v11 hw2 h1)).toLoadRect (dnW c XD (expOf v2))
def dn50 : Vec F S1x1408x256 .fp8e4m3 := View.readAt (Elt F) dnB.view (Rect.unit (s := S2x1408x5120) (k0_off50 v11) S1x1408x256.size (k0_off50_inb i v0 v2 v6 v11 hw2 h1)).toLoadRect (dnW c XD (expOf v2))
def dn51 : Vec F S1x1408x256 .fp8e4m3 := View.readAt (Elt F) dnB.view (Rect.unit (s := S2x1408x5120) (k0_off51 v11) S1x1408x256.size (k0_off51_inb i v0 v2 v6 v11 hw2 h1)).toLoadRect (dnW c XD (expOf v2))
def dn52 : Vec F S1x1408x256 .fp8e4m3 := View.readAt (Elt F) dnB.view (Rect.unit (s := S2x1408x5120) (k0_off52 v11) S1x1408x256.size (k0_off52_inb i v0 v2 v6 v11 hw2 h1)).toLoadRect (dnW c XD (expOf v2))
def dn53 : Vec F S1x1408x256 .fp8e4m3 := View.readAt (Elt F) dnB.view (Rect.unit (s := S2x1408x5120) (k0_off53 v11) S1x1408x256.size (k0_off53_inb i v0 v2 v6 v11 hw2 h1)).toLoadRect (dnW c XD (expOf v2))
def dn54 : Vec F S1x1408x256 .fp8e4m3 := View.readAt (Elt F) dnB.view (Rect.unit (s := S2x1408x5120) (k0_off54 v11) S1x1408x256.size (k0_off54_inb i v0 v2 v6 v11 hw2 h1)).toLoadRect (dnW c XD (expOf v2))
def dn55 : Vec F S1x1408x256 .fp8e4m3 := View.readAt (Elt F) dnB.view (Rect.unit (s := S2x1408x5120) (k0_off55 v11) S1x1408x256.size (k0_off55_inb i v0 v2 v6 v11 hw2 h1)).toLoadRect (dnW c XD (expOf v2))
def dn56 : Vec F S1x1408x256 .fp8e4m3 := View.readAt (Elt F) dnB.view (Rect.unit (s := S2x1408x5120) (k0_off56 v11) S1x1408x256.size (k0_off56_inb i v0 v2 v6 v11 hw2 h1)).toLoadRect (dnW c XD (expOf v2))

def s1T : FVec F S1x2816 .f32 := shapeCast S1x2816 (View.readAt (Elt F) arg4.view (Rect.unit (s := S16x1x2816) (k0_off23 v2) S1x1x2816.size (k0_off23_inb i v0 v2 hw1 h1)).toLoadRect g4) shapeCasts_S1x1x2816_S1x2816
def s2T : FVec F S1x5120 .f32 := shapeCast S1x5120 (View.readAt (Elt F) arg5.view (Rect.unit (s := S16x1x5120) (k0_off36 v2) S1x1x5120.size (k0_off36_inb i v0 v2 hw1 h1)).toLoadRect g5) shapeCasts_S1x1x5120_S1x5120

def x8T : Vec F S256x5120 .fp8e4m3 := x8M.view.readCov (packPieces c arg3 gx) (Rect.unit ![0, 0] S256x5120.size inb_S256x5120_S256x5120_0_0).toLoadRect

/-- A scale a row, in every lane of 256. -/
def wideV (x : FVec F S256x128 .f32) : FVec F S256x256 .f32 :=
  concatenate S256x256 1 [⟨S256x128, x⟩, ⟨S256x128, x⟩] concatenates_S256x128_S256x128_S256x256_d1

def h0T : FVec F S256x256 .f32 :=
  siluV (projV (wideV (scaleT c arg3 gx)) (s1T c i v0 v2 hw1 h1 arg4 g4) (x8T c arg3 x8M gx) (up24 c XU i v0 v2 v6 v11 hw2 h1) 0 slices_S1x2816_o0_0_S1x256)
    (projV (wideV (scaleT c arg3 gx)) (s1T c i v0 v2 hw1 h1 arg4 g4) (x8T c arg3 x8M gx) (up25 c XU i v0 v2 v6 v11 hw2 h1) 1408 slices_S1x2816_o0_1408_S1x256)
def h1T : FVec F S256x256 .f32 :=
  siluV (projV (wideV (scaleT c arg3 gx)) (s1T c i v0 v2 hw1 h1 arg4 g4) (x8T c arg3 x8M gx) (up26 c XU i v0 v2 v6 v11 hw2 h1) 256 slices_S1x2816_o0_256_S1x256)
    (projV (wideV (scaleT c arg3 gx)) (s1T c i v0 v2 hw1 h1 arg4 g4) (x8T c arg3 x8M gx) (up27 c XU i v0 v2 v6 v11 hw2 h1) 1664 slices_S1x2816_o0_1664_S1x256)
def h2T : FVec F S256x256 .f32 :=
  siluV (projV (wideV (scaleT c arg3 gx)) (s1T c i v0 v2 hw1 h1 arg4 g4) (x8T c arg3 x8M gx) (up28 c XU i v0 v2 v6 v11 hw2 h1) 512 slices_S1x2816_o0_512_S1x256)
    (projV (wideV (scaleT c arg3 gx)) (s1T c i v0 v2 hw1 h1 arg4 g4) (x8T c arg3 x8M gx) (up29 c XU i v0 v2 v6 v11 hw2 h1) 1920 slices_S1x2816_o0_1920_S1x256)
def h3T : FVec F S256x256 .f32 :=
  siluV (projV (wideV (scaleT c arg3 gx)) (s1T c i v0 v2 hw1 h1 arg4 g4) (x8T c arg3 x8M gx) (up30 c XU i v0 v2 v6 v11 hw2 h1) 768 slices_S1x2816_o0_768_S1x256)
    (projV (wideV (scaleT c arg3 gx)) (s1T c i v0 v2 hw1 h1 arg4 g4) (x8T c arg3 x8M gx) (up31 c XU i v0 v2 v6 v11 hw2 h1) 2176 slices_S1x2816_o0_2176_S1x256)
def h4T : FVec F S256x256 .f32 :=
  siluV (projV (wideV (scaleT c arg3 gx)) (s1T c i v0 v2 hw1 h1 arg4 g4) (x8T c arg3 x8M gx) (up32 c XU i v0 v2 v6 v11 hw2 h1) 1024 slices_S1x2816_o0_1024_S1x256)
    (projV (wideV (scaleT c arg3 gx)) (s1T c i v0 v2 hw1 h1 arg4 g4) (x8T c arg3 x8M gx) (up33 c XU i v0 v2 v6 v11 hw2 h1) 2432 slices_S1x2816_o0_2432_S1x256)
def h5T : FVec F S256x128 .f32 := hidL (scaleT c arg3 gx) (s1T c i v0 v2 hw1 h1 arg4 g4) (x8T c arg3 x8M gx) (up34 c XU i v0 v2 v6 v11 hw2 h1) (up35 c XU i v0 v2 v6 v11 hw2 h1)

def qT : FVec F S256x128 .f32 :=
  capV (amaxV (amaxV (amaxV (amaxV (amaxV (broadcast S256x128 (Scalar.ofBits .f32 0x00000000#32)) (h0T c XU i v0 v2 hw1 v6 v11 hw2 h1 arg3 arg4 x8M gx g4)) (h1T c XU i v0 v2 hw1 v6 v11 hw2 h1 arg3 arg4 x8M gx g4)) (h2T c XU i v0 v2 hw1 v6 v11 hw2 h1 arg3 arg4 x8M gx g4)) (h3T c XU i v0 v2 hw1 v6 v11 hw2 h1 arg3 arg4 x8M gx g4)) (h4T c XU i v0 v2 hw1 v6 v11 hw2 h1 arg3 arg4 x8M gx g4)) (h5T c XU i v0 v2 hw1 v6 v11 hw2 h1 arg3 arg4 x8M gx g4)

/-- The stored hidden columns, the last stored first. -/
def hidPieces : List (View.Piece (Elt F) S256x1408 .f32) :=
  [⟨Rect.unit ![0, 1280] S256x128.size inb_S256x1408_S256x128_0_1280, shapeCast S256x128 (h5T c XU i v0 v2 hw1 v6 v11 hw2 h1 arg3 arg4 x8M gx g4) shapeCasts_S256x128_S256x128⟩,
   ⟨Rect.unit ![0, 1024] S256x256.size inb_S256x1408_S256x256_0_1024, shapeCast S256x256 (h4T c XU i v0 v2 hw1 v6 v11 hw2 h1 arg3 arg4 x8M gx g4) shapeCasts_S256x256_S256x256⟩,
   ⟨Rect.unit ![0, 768] S256x256.size inb_S256x1408_S256x256_0_768, shapeCast S256x256 (h3T c XU i v0 v2 hw1 v6 v11 hw2 h1 arg3 arg4 x8M gx g4) shapeCasts_S256x256_S256x256⟩,
   ⟨Rect.unit ![0, 512] S256x256.size inb_S256x1408_S256x256_0_512, shapeCast S256x256 (h2T c XU i v0 v2 hw1 v6 v11 hw2 h1 arg3 arg4 x8M gx g4) shapeCasts_S256x256_S256x256⟩,
   ⟨Rect.unit ![0, 256] S256x256.size inb_S256x1408_S256x256_0_256, shapeCast S256x256 (h1T c XU i v0 v2 hw1 v6 v11 hw2 h1 arg3 arg4 x8M gx g4) shapeCasts_S256x256_S256x256⟩,
   ⟨Rect.unit ![0, 0] S256x256.size inb_S256x1408_S256x256_0_0, shapeCast S256x256 (h0T c XU i v0 v2 hw1 v6 v11 hw2 h1 arg3 arg4 x8M gx g4) shapeCasts_S256x256_S256x256⟩]

def hT : Vec F S256x1408 .f32 := hM.view.readCov (hidPieces c XU i v0 v2 hw1 v6 v11 hw2 h1 arg3 arg4 x8M gx g4) (Rect.unit ![0, 0] S256x1408.size inb_S256x1408_S256x1408_0_0).toLoadRect

def eT : IVec S256x128 32 := expV (qT c XU i v0 v2 hw1 v6 v11 hw2 h1 arg3 arg4 x8M gx g4)

def hqT : Vec F S256x1408 .fp8e4m3 :=
  hqM.view.readCov [⟨Rect.unit ![0, 0] S256x1408.size inb_S256x1408_S256x1408_0_0, k0_pay171 (eT c XU i v0 v2 hw1 v6 v11 hw2 h1 arg3 arg4 x8M gx g4) (hT c XU i v0 v2 hw1 v6 v11 hw2 h1 arg3 arg4 x8M hM gx g4)⟩]
    (Rect.unit ![0, 0] S256x1408.size inb_S256x1408_S256x1408_0_0).toLoadRect

def osT : FVec F S256x256 .f32 := k0_pay172 (eT c XU i v0 v2 hw1 v6 v11 hw2 h1 arg3 arg4 x8M gx g4) k0_pay170

/-- The stored columns of the result, the last stored first. -/
def outPieces : List (View.Piece (Elt F) S256x5120 .f32) :=
  [⟨Rect.unit ![0, 4864] S256x256.size inb_S256x5120_S256x256_0_4864, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn56 c XD i v0 v2 v6 v11 hw2 h1) 4864 slices_S1x5120_o0_4864_S1x256⟩,
   ⟨Rect.unit ![0, 4608] S256x256.size inb_S256x5120_S256x256_0_4608, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn55 c XD i v0 v2 v6 v11 hw2 h1) 4608 slices_S1x5120_o0_4608_S1x256⟩,
   ⟨Rect.unit ![0, 4352] S256x256.size inb_S256x5120_S256x256_0_4352, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn54 c XD i v0 v2 v6 v11 hw2 h1) 4352 slices_S1x5120_o0_4352_S1x256⟩,
   ⟨Rect.unit ![0, 4096] S256x256.size inb_S256x5120_S256x256_0_4096, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn53 c XD i v0 v2 v6 v11 hw2 h1) 4096 slices_S1x5120_o0_4096_S1x256⟩,
   ⟨Rect.unit ![0, 3840] S256x256.size inb_S256x5120_S256x256_0_3840, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn52 c XD i v0 v2 v6 v11 hw2 h1) 3840 slices_S1x5120_o0_3840_S1x256⟩,
   ⟨Rect.unit ![0, 3584] S256x256.size inb_S256x5120_S256x256_0_3584, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn51 c XD i v0 v2 v6 v11 hw2 h1) 3584 slices_S1x5120_o0_3584_S1x256⟩,
   ⟨Rect.unit ![0, 3328] S256x256.size inb_S256x5120_S256x256_0_3328, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn50 c XD i v0 v2 v6 v11 hw2 h1) 3328 slices_S1x5120_o0_3328_S1x256⟩,
   ⟨Rect.unit ![0, 3072] S256x256.size inb_S256x5120_S256x256_0_3072, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn49 c XD i v0 v2 v6 v11 hw2 h1) 3072 slices_S1x5120_o0_3072_S1x256⟩,
   ⟨Rect.unit ![0, 2816] S256x256.size inb_S256x5120_S256x256_0_2816, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn48 c XD i v0 v2 v6 v11 hw2 h1) 2816 slices_S1x5120_o0_2816_S1x256⟩,
   ⟨Rect.unit ![0, 2560] S256x256.size inb_S256x5120_S256x256_0_2560, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn47 c XD i v0 v2 v6 v11 hw2 h1) 2560 slices_S1x5120_o0_2560_S1x256⟩,
   ⟨Rect.unit ![0, 2304] S256x256.size inb_S256x5120_S256x256_0_2304, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn46 c XD i v0 v2 v6 v11 hw2 h1) 2304 slices_S1x5120_o0_2304_S1x256⟩,
   ⟨Rect.unit ![0, 2048] S256x256.size inb_S256x5120_S256x256_0_2048, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn45 c XD i v0 v2 v6 v11 hw2 h1) 2048 slices_S1x5120_o0_2048_S1x256⟩,
   ⟨Rect.unit ![0, 1792] S256x256.size inb_S256x5120_S256x256_0_1792, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn44 c XD i v0 v2 v6 v11 hw2 h1) 1792 slices_S1x5120_o0_1792_S1x256⟩,
   ⟨Rect.unit ![0, 1536] S256x256.size inb_S256x5120_S256x256_0_1536, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn43 c XD i v0 v2 v6 v11 hw2 h1) 1536 slices_S1x5120_o0_1536_S1x256⟩,
   ⟨Rect.unit ![0, 1280] S256x256.size inb_S256x5120_S256x256_0_1280, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn42 c XD i v0 v2 v6 v11 hw2 h1) 1280 slices_S1x5120_o0_1280_S1x256⟩,
   ⟨Rect.unit ![0, 1024] S256x256.size inb_S256x5120_S256x256_0_1024, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn41 c XD i v0 v2 v6 v11 hw2 h1) 1024 slices_S1x5120_o0_1024_S1x256⟩,
   ⟨Rect.unit ![0, 768] S256x256.size inb_S256x5120_S256x256_0_768, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn40 c XD i v0 v2 v6 v11 hw2 h1) 768 slices_S1x5120_o0_768_S1x256⟩,
   ⟨Rect.unit ![0, 512] S256x256.size inb_S256x5120_S256x256_0_512, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn39 c XD i v0 v2 v6 v11 hw2 h1) 512 slices_S1x5120_o0_512_S1x256⟩,
   ⟨Rect.unit ![0, 256] S256x256.size inb_S256x5120_S256x256_0_256, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn38 c XD i v0 v2 v6 v11 hw2 h1) 256 slices_S1x5120_o0_256_S1x256⟩,
   ⟨Rect.unit ![0, 0] S256x256.size inb_S256x5120_S256x256_0_0, downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) (dn37 c XD i v0 v2 v6 v11 hw2 h1) 0 slices_S1x5120_o0_0_S1x256⟩]

theorem x8_eq : tileRun.sl.v754 c arg3 x8M gx (k0_pay6 (v28' c arg3 gx) (v30' c arg3 gx)) (k0_pay7 (v28' c arg3 gx) (v30' c arg3 gx))
    (k0_pay8 (v29' c arg3 gx) (v31' c arg3 gx)) (k0_pay9 (v29' c arg3 gx)) (k0_pay10 (v31' c arg3 gx)) = x8T c arg3 x8M gx := by
  unfold x8T; rw [← codes_eq]; rfl

theorem hid_eq : tileRun.sl.H12_6 c XU i arg3 arg4 v0 v2 hw1 v6 v11 hw2 h1 x8M gx g4 (v28' c arg3 gx) (v29' c arg3 gx) (v30' c arg3 gx) (v31' c arg3 gx) (k0_pay6 (v28' c arg3 gx) (v30' c arg3 gx)) (k0_pay7 (v28' c arg3 gx) (v30' c arg3 gx)) (k0_pay8 (v29' c arg3 gx) (v31' c arg3 gx)) (k0_pay9 (v29' c arg3 gx)) (k0_pay10 (v31' c arg3 gx)) = hidPieces c XU i v0 v2 hw1 v6 v11 hw2 h1 arg3 arg4 x8M gx g4 := rfl
theorem q_eq : tileRun.sl.r_83 c XU i arg3 arg4 v0 v2 hw1 v6 v11 hw2 h1 x8M gx g4 (v28' c arg3 gx) (v29' c arg3 gx) (v30' c arg3 gx) (v31' c arg3 gx) (k0_pay6 (v28' c arg3 gx) (v30' c arg3 gx)) (k0_pay7 (v28' c arg3 gx) (v30' c arg3 gx)) (k0_pay8 (v29' c arg3 gx) (v31' c arg3 gx)) (k0_pay9 (v29' c arg3 gx)) (k0_pay10 (v31' c arg3 gx)) = qT c XU i v0 v2 hw1 v6 v11 hw2 h1 arg3 arg4 x8M gx g4 := rfl
theorem e_eq : tileRun.sl.r_86 c XU i arg3 arg4 v0 v2 hw1 v6 v11 hw2 h1 x8M gx g4 (v28' c arg3 gx) (v29' c arg3 gx) (v30' c arg3 gx) (v31' c arg3 gx) (k0_pay6 (v28' c arg3 gx) (v30' c arg3 gx)) (k0_pay7 (v28' c arg3 gx) (v30' c arg3 gx)) (k0_pay8 (v29' c arg3 gx) (v31' c arg3 gx)) (k0_pay9 (v29' c arg3 gx)) (k0_pay10 (v31' c arg3 gx)) = eT c XU i v0 v2 hw1 v6 v11 hw2 h1 arg3 arg4 x8M gx g4 := rfl
theorem hq_eq : tileRun.sl.v1063 c XU i arg3 arg4 v0 v2 hw1 v6 v11 hw2 h1 x8M hM hqM gx g4 (v28' c arg3 gx) (v29' c arg3 gx) (v30' c arg3 gx) (v31' c arg3 gx) (k0_pay6 (v28' c arg3 gx) (v30' c arg3 gx)) (k0_pay7 (v28' c arg3 gx) (v30' c arg3 gx)) (k0_pay8 (v29' c arg3 gx) (v31' c arg3 gx)) (k0_pay9 (v29' c arg3 gx)) (k0_pay10 (v31' c arg3 gx)) = hqT c XU i v0 v2 hw1 v6 v11 hw2 h1 arg3 arg4 x8M hM hqM gx g4 := rfl

end Tile

end Cert.Proof.FfnI

end
-- ==== Proof.Row.lean ====
/- One row of the feed-forward step as plain mathematics, and the search for its scale. -/
module

public import Idealize.ShloMosaic.Lib.Pipeline.ValueKit
public import Idealize.ShloMosaic.Lib.Pointwise

@[expose] public section

set_option maxRecDepth 16384

noncomputable section

namespace Cert.Proof.Row

open Idealize.ShloMosaic

/-! ## Powers of two by exponent field -/

/-- The number whose exponent field is `n` and whose fraction is zero. -/
def pw (n : ℕ) : EReal := Ideal.ofBits .f32 (BitVec.ofNat 32 (n * 2 ^ 23))

theorem pw_zero : pw 0 = 0 := by
  unfold pw; exact Ideal.ofBits_zero_f32

theorem pw_of (n : ℕ) (h1 : 1 ≤ n) (h2 : n ≤ 254) : pw n = (((2 : ℝ) ^ ((n : ℤ) - 127) : ℝ) : EReal) := by
  have hm : (BitVec.ofNat 32 (n * 2 ^ 23)).toNat = n * 2 ^ 23 := by
    rw [BitVec.toNat_ofNat]; exact Nat.mod_eq_of_lt (by omega)
  have hn : ((BitVec.ofNat 32 (n * 2 ^ 23)).extractLsb' (8 + 23) 1 == 1#1) = false := by
    rw [beq_eq_false_iff_ne]
    intro h
    have := congrArg BitVec.toNat h
    rw [BitVec.extractLsb'_toNat, hm, Nat.shiftRight_eq_div_pow] at this
    have e : (1#1 : BitVec 1).toNat = 1 := rfl
    rw [e] at this
    omega
  have he : ((BitVec.ofNat 32 (n * 2 ^ 23)).extractLsb' 23 8).toNat = n := by
    rw [BitVec.extractLsb'_toNat, hm, Nat.shiftRight_eq_div_pow]
    omega
  have hf : ((BitVec.ofNat 32 (n * 2 ^ 23)).extractLsb' 0 23).toNat = 0 := by
    rw [BitVec.extractLsb'_toNat, hm, Nat.shiftRight_eq_div_pow]
    omega
  unfold pw Ideal.ofBits Ideal.ieee
  simp only [hn, he, hf]
  rw [if_neg (by omega), if_neg (by omega)]
  congr 1
  rw [zpow_sub₀ (by norm_num : (2 : ℝ) ≠ 0)]
  norm_num
  ring

theorem pw_le {a b : ℕ} (h : a ≤ b) (hb : b ≤ 254) : pw a ≤ pw b := by
  rcases Nat.eq_zero_or_pos b with h0 | h0
  · have : a = b := by omega
    rw [this]
  · rw [pw_of b h0 hb]
    rcases Nat.eq_zero_or_pos a with ha | ha
    · rw [ha, pw_zero]
      exact EReal.coe_nonneg.2 (by positivity)
    · rw [pw_of a ha (by omega)]
      exact EReal.coe_le_coe_iff.2 (zpow_le_zpow_right₀ (by norm_num) (by omega))

theorem pw_lt {a b : ℕ} (h : a < b) (hb : b ≤ 254) : pw a < pw b := by
  rw [pw_of b (by omega) hb]
  rcases Nat.eq_zero_or_pos a with ha | ha
  · rw [ha, pw_zero]
    exact EReal.coe_pos.2 (by positivity)
  · rw [pw_of a ha (by omega)]
    exact EReal.coe_lt_coe_iff.2 (zpow_lt_zpow_right₀ (by norm_num) (by omega))

theorem pw_127 : pw 127 = 1 := by
  rw [pw_of 127 (by omega) (by omega)]; norm_num

theorem two_mul_pw (n : ℕ) (h1 : 1 ≤ n) (h2 : n ≤ 253) : Ideal.ofBits .f32 0x40000000#32 * pw n = pw (n + 1) := by
  have h : Ideal.ofBits .f32 0x40000000#32 = pw 128 := rfl
  rw [h, pw_of 128 (by omega) (by omega), pw_of n h1 (by omega), pw_of (n + 1) (by omega) (by omega), ← EReal.coe_mul,
    ← zpow_add₀ (by norm_num : (2 : ℝ) ≠ 0)]
  congr 2
  push_cast; ring

theorem div_one_pw (n : ℕ) (h1 : 1 ≤ n) (h2 : n ≤ 253) : Ideal.div 1 (pw n) = pw (254 - n) := by
  have hp : (0 : EReal) < pw n := by rw [← pw_zero]; exact pw_lt (by omega) (by omega)
  unfold Ideal.div
  rw [if_neg hp.ne', one_mul, pw_of n h1 (by omega), pw_of (254 - n) (by omega) (by omega), ← EReal.coe_inv, ← zpow_neg]
  congr 2
  omega

/-! ## The scale of a row -/

/-- The greatest listed power of two not above `q`, zero where there is none. -/
def pmax (q : EReal) : EReal := Finset.univ.fold max ⊥ fun c : Fin 252 => if pw (c.val + 1) ≤ q then pw (c.val + 1) else 0
/-- The scale: twice that power of two, one where there is none. -/
def scaleOf (q : EReal) : EReal := if 0 < pmax q then Ideal.ofBits .f32 0x40000000#32 * pmax q else 1

/-- The exponent field that the search ends at. -/
def fieldOf (q : EReal) : ℕ := by classical exact Nat.findGreatest (fun c => pw c ≤ q) 252

theorem fieldOf_le (q : EReal) : fieldOf q ≤ 252 := by unfold fieldOf; exact Nat.findGreatest_le _

theorem pw_le_iff (q : EReal) (hq : 0 ≤ q) (c : ℕ) (hc : c ≤ 252) : pw c ≤ q ↔ c ≤ fieldOf q := by
  classical
  have hs : pw (fieldOf q) ≤ q := by
    unfold fieldOf
    exact Nat.findGreatest_spec (P := fun c => pw c ≤ q) (Nat.zero_le _) (by show pw 0 ≤ q; rw [pw_zero]; exact hq)
  constructor
  · intro h; unfold fieldOf; exact Nat.le_findGreatest hc h
  · intro h; exact (pw_le h (by have := fieldOf_le q; omega)).trans hs

theorem pmax_eq (q : EReal) (hq : 0 ≤ q) : pmax q = pw (fieldOf q) := by
  unfold pmax
  have hN := fieldOf_le q
  apply le_antisymm
  · rw [Finset.fold_max_le]
    refine ⟨bot_le, fun c _ => ?_⟩
    have hc := c.isLt
    by_cases h : pw (c.val + 1) ≤ q
    · rw [if_pos h]
      exact pw_le ((pw_le_iff q hq _ (by omega)).1 h) (by omega)
    · rw [if_neg h, ← pw_zero]
      exact pw_le (Nat.zero_le _) (by omega)
  · rw [Finset.le_fold_max]
    right
    rcases Nat.eq_zero_or_pos (fieldOf q) with h0 | h0
    · refine ⟨0, Finset.mem_univ _, ?_⟩
      rw [h0, pw_zero, if_neg]
      rw [pw_le_iff q hq _ (by norm_num)]
      rw [h0]; norm_num
    · refine ⟨⟨fieldOf q - 1, by omega⟩, Finset.mem_univ _, ?_⟩
      have e : fieldOf q - 1 + 1 = fieldOf q := by omega
      show pw (fieldOf q) ≤ if pw (fieldOf q - 1 + 1) ≤ q then pw (fieldOf q - 1 + 1) else 0
      rw [e, if_pos ((pw_le_iff q hq _ (by omega)).2 le_rfl)]

theorem scaleOf_eq (q : EReal) (hq : 0 ≤ q) : scaleOf q = pw (if fieldOf q = 0 then 127 else fieldOf q + 1) := by
  have hN := fieldOf_le q
  unfold scaleOf
  rw [pmax_eq q hq]
  by_cases h0 : fieldOf q = 0
  · rw [if_pos h0, h0, pw_zero, if_neg (lt_irrefl _), pw_127]
  · rw [if_neg h0, if_pos (by rw [← pw_zero]; exact pw_lt (by omega) (by omega)), two_mul_pw _ (by omega) (by omega)]

theorem div_scaleOf (q : EReal) (hq : 0 ≤ q) : Ideal.div 1 (scaleOf q) = pw (if fieldOf q = 0 then 127 else 253 - fieldOf q) := by
  have hN := fieldOf_le q
  rw [scaleOf_eq q hq]
  by_cases h0 : fieldOf q = 0
  · rw [if_pos h0, if_pos h0, div_one_pw _ (by omega) (by omega)]
  · rw [if_neg h0, if_neg h0, div_one_pw _ (by omega) (by omega)]
    congr 1
    omega

/-! ## The search, one bit of the exponent field at a time -/

/-- One step: the field grows by `b` where the power of two it then names is not above `q`. -/
def stepW (q : EReal) (b c : BitVec 32) : BitVec 32 :=
  Scalar.select (Ideal.cmp .oge q (Ideal.ofBits .f32 (IntOp.shli .vector (IntOp.addi c b) 23#32))) (IntOp.addi c b) c

/-- All eight steps. -/
def srchW (q : EReal) : BitVec 32 :=
  stepW q 1#32 (stepW q 2#32 (stepW q 4#32 (stepW q 8#32 (stepW q 16#32 (stepW q 32#32 (stepW q 64#32 (stepW q 128#32 0#32)))))))

/-- The same step on the field that is sought. -/
def stepN (N : ℕ) (b c : BitVec 32) : BitVec 32 := if (c + b).toNat ≤ N then c + b else c

theorem stepW_eq (q : EReal) (hq : 0 ≤ q) (b c : BitVec 32) (h1 : 1 ≤ (c + b).toNat) (h2 : (c + b).toNat ≤ 254) :
    stepW (min q (pw 252)) b c = stepN (fieldOf q) b c := by
  have hN := fieldOf_le q
  have hw : IntOp.shli .vector (IntOp.addi c b) 23#32 = BitVec.ofNat 32 ((c + b).toNat * 2 ^ 23) := by
    have e : IntOp.shli .vector (IntOp.addi c b) 23#32 = (c + b) <<< 23 := rfl
    rw [e]
    apply BitVec.eq_of_toNat_eq
    rw [BitVec.toNat_shiftLeft, BitVec.toNat_ofNat, Nat.shiftLeft_eq]
  have hi : pw (c + b).toNat ≤ min q (pw 252) ↔ (c + b).toNat ≤ fieldOf q := by
    rw [le_min_iff]
    by_cases h : (c + b).toNat ≤ 252
    · rw [pw_le_iff q hq _ h]
      exact and_iff_left (pw_le h (by omega))
    · constructor
      · rintro ⟨_, h'⟩
        exact absurd h' (not_le.2 (pw_lt (by omega) (by omega)))
      · intro h'; omega
  unfold stepW stepN
  rw [hw]
  have hc : Ideal.cmp .oge (min q (pw 252)) (Ideal.ofBits .f32 (BitVec.ofNat 32 ((c + b).toNat * 2 ^ 23)))
      = BitVec.ofBool (decide ((c + b).toNat ≤ fieldOf q)) := by
    have : Ideal.cmp .oge (min q (pw 252)) (pw (c + b).toNat) = BitVec.ofBool (decide (pw (c + b).toNat ≤ min q (pw 252))) := rfl
    unfold pw at this
    refine this.trans ?_
    congr 1
    exact decide_eq_decide.2 hi
  rw [hc]
  unfold Scalar.select
  by_cases h : (c + b).toNat ≤ fieldOf q
  · rw [if_pos h]; simp only [h]; rfl
  · rw [if_neg h]; simp only [h]; rfl

theorem srchW_eq (q : EReal) (hq : 0 ≤ q) : srchW (min q (pw 252)) = BitVec.ofNat 32 (fieldOf q) := by
  have key : ∀ N : Fin 253,
      (let c0 := 0#32; let c1 := stepN N 128#32 c0; let c2 := stepN N 64#32 c1; let c3 := stepN N 32#32 c2; let c4 := stepN N 16#32 c3
       let c5 := stepN N 8#32 c4; let c6 := stepN N 4#32 c5; let c7 := stepN N 2#32 c6
       (1 ≤ (c1 + 64#32).toNat ∧ (c1 + 64#32).toNat ≤ 254) ∧ (1 ≤ (c2 + 32#32).toNat ∧ (c2 + 32#32).toNat ≤ 254)
       ∧ (1 ≤ (c3 + 16#32).toNat ∧ (c3 + 16#32).toNat ≤ 254) ∧ (1 ≤ (c4 + 8#32).toNat ∧ (c4 + 8#32).toNat ≤ 254)
       ∧ (1 ≤ (c5 + 4#32).toNat ∧ (c5 + 4#32).toNat ≤ 254) ∧ (1 ≤ (c6 + 2#32).toNat ∧ (c6 + 2#32).toNat ≤ 254)
       ∧ (1 ≤ (c7 + 1#32).toNat ∧ (c7 + 1#32).toNat ≤ 254) ∧ stepN N 1#32 c7 = BitVec.ofNat 32 N) := by decide +kernel
  have hN := fieldOf_le q
  obtain ⟨h2, h3, h4, h5, h6, h7, h8, h9⟩ := key ⟨fieldOf q, by omega⟩
  unfold srchW
  rw [stepW_eq q hq 128#32 0#32 (by decide) (by decide), stepW_eq q hq _ _ h2.1 h2.2, stepW_eq q hq _ _ h3.1 h3.2, stepW_eq q hq _ _ h4.1 h4.2,
    stepW_eq q hq _ _ h5.1 h5.2, stepW_eq q hq _ _ h6.1 h6.2, stepW_eq q hq _ _ h7.1 h7.2, stepW_eq q hq _ _ h8.1 h8.2]
  exact h9

/-- The exponent of the scale, from the field found. -/
def expW (c : BitVec 32) : BitVec 32 := Scalar.select (IntOp.cmpi .eq c 0#32) 0#32 (IntOp.subi c 126#32)

theorem scale_word (q : EReal) (hq : 0 ≤ q) :
    Ideal.ofBits .f32 (IntOp.shli .vector (IntOp.addi (expW (srchW (min q (pw 252)))) 127#32) 23#32) = scaleOf q := by
  have key : ∀ N : Fin 253, IntOp.shli .vector (IntOp.addi (expW (BitVec.ofNat 32 N)) 127#32) 23#32
      = BitVec.ofNat 32 ((if N.val = 0 then 127 else N.val + 1) * 2 ^ 23) := by decide +kernel
  have hN := fieldOf_le q
  rw [srchW_eq q hq, scaleOf_eq q hq, key ⟨fieldOf q, by omega⟩]
  rfl

theorem inv_word (q : EReal) (hq : 0 ≤ q) :
    Ideal.ofBits .f32 (IntOp.shli .vector (IntOp.subi 127#32 (expW (srchW (min q (pw 252))))) 23#32) = Ideal.div 1 (scaleOf q) := by
  have key : ∀ N : Fin 253, IntOp.shli .vector (IntOp.subi 127#32 (expW (BitVec.ofNat 32 N))) 23#32
      = BitVec.ofNat 32 ((if N.val = 0 then 127 else 253 - N.val) * 2 ^ 23) := by decide +kernel
  have hN := fieldOf_le q
  rw [srchW_eq q hq, div_scaleOf q hq, key ⟨fieldOf q, by omega⟩]
  rfl

/-! ## The row -/

/-- The up-projection of a row of codes `a` under its scale `s`: column `f` of the weights `U`, scaled by `S`. -/
def proj (a : Fin 5120 → EReal) (s : EReal) (U : Fin 5120 → Fin 2816 → EReal) (S : Fin 2816 → EReal) (f : Fin 2816) : EReal :=
  (∑ k, a k * U k f) * s * S f
/-- The gate's value times its logistic, times the other half. -/
def silu (g u : EReal) : EReal := g * Ideal.logistic g * u
def gateIx (f : Fin 1408) : Fin 2816 := ⟨f.val, by omega⟩
def upperIx (f : Fin 1408) : Fin 2816 := ⟨1408 + f.val, by omega⟩
/-- The hidden row. -/
def hid (a : Fin 5120 → EReal) (s : EReal) (U : Fin 5120 → Fin 2816 → EReal) (S : Fin 2816 → EReal) (f : Fin 1408) : EReal :=
  silu (proj a s U S (gateIx f)) (proj a s U S (upperIx f))
/-- The greatest magnitude of a row, times 1/448 as the kernel rounds it. -/
def qOf (h : Fin 1408 → EReal) : EReal := Finset.univ.fold max ⊥ (fun f => max (h f) (-(h f))) * Ideal.ofBits .f32 0x3B124925#32
/-- A row's quantized value. -/
def code (h : Fin 1408 → EReal) (f : Fin 1408) : EReal :=
  min (Ideal.ofBits .f32 0x43E00000#32) (max (Ideal.ofBits .f32 0xC3E00000#32) (h f * Ideal.div 1 (scaleOf (qOf h))))
/-- The down-projection of the quantized row, under its scale. -/
def down (h : Fin 1408 → EReal) (W : Fin 1408 → Fin 5120 → EReal) (S : Fin 5120 → EReal) (d : Fin 5120) : EReal :=
  (∑ f, code h f * W f d) * scaleOf (qOf h) * S d

theorem abs_nonneg' (x : EReal) : 0 ≤ max x (-x) := by
  rcases le_total 0 x with h | h
  · exact le_max_of_le_left h
  · exact le_max_of_le_right (EReal.neg_nonneg.2 h)

theorem qOf_nonneg (h : Fin 1408 → EReal) : 0 ≤ qOf h := by
  unfold qOf
  apply mul_nonneg
  · rw [Finset.le_fold_max]
    exact .inr ⟨0, Finset.mem_univ _, abs_nonneg' _⟩
  · unfold Ideal.ofBits Ideal.ieee
    simp [-EReal.coe_mul]

end Cert.Proof.Row

end
-- ==== Proof.TileAtI.lean ====
/-
  A tile's operations at a row, over the extended reals.
-/
module

public import proofs.«01_k».proof.Proof.TileValI
public import proofs.«01_k».proof.Proof.Row

@[expose] public section

set_option maxRecDepth 16384

noncomputable section

namespace Cert.Proof.FfnI

open Cert.KernelIdeal Cert.KernelIdeal.Gen
open Idealize.ShloMosaic
open Idealize.ShloMosaic.TcCoe

theorem siluV_at {s : Shape} (g u : FVec Ideal s .f32) (x : s.Idx) : siluV g u x = Row.silu (g x) (u x) := by
  unfold siluV Row.silu Ideal.logistic
  pointwise
  rw [sub_eq_add_neg, zero_add]

theorem projV_at (sc : FVec Ideal S256x256 .f32) (s1 : FVec Ideal S1x2816 .f32) (x : Vec Ideal S256x5120 .fp8e4m3) (W : Vec Ideal S1x5120x256 .fp8e4m3)
    (o : ℕ) (h : S1x2816.Slices ![0, o] S1x256) (ho : o + 256 ≤ 2816) (r f : Fin 256) :
    projV sc s1 x W o h (ix2 r f) = (∑ k : Fin 5120, x (ix2 r k) * W (ix3 0 k f)) * sc (ix2 r f) * s1 (ix2 0 ⟨o + f, by omega⟩) := by
  unfold projV
  pointwise

theorem hidL_at (sc : FVec Ideal S256x128 .f32) (s1 : FVec Ideal S1x2816 .f32) (x : Vec Ideal S256x5120 .fp8e4m3) (Wg Wu : Vec Ideal S1x5120x128 .fp8e4m3)
    (r : Fin 256) (f : Fin 128) :
    hidL sc s1 x Wg Wu (ix2 r f) = Row.silu ((∑ k : Fin 5120, x (ix2 r k) * Wg (ix3 0 k f)) * sc (ix2 r f) * s1 (ix2 0 ⟨1280 + f, by omega⟩))
      ((∑ k : Fin 5120, x (ix2 r k) * Wu (ix3 0 k f)) * sc (ix2 r f) * s1 (ix2 0 ⟨2688 + f, by omega⟩)) := by
  unfold hidL
  rw [siluV_at]
  unfold dotL
  pointwise

theorem amaxV_at (m : FVec Ideal S256x128 .f32) (h : FVec Ideal S256x256 .f32) (r : Fin 256) (l : Fin 128) :
    amaxV m h (ix2 r l) = max (m (ix2 r l)) (max (max (h (ix2 r ⟨l, by omega⟩)) (-(h (ix2 r ⟨l, by omega⟩))))
      (max (h (ix2 r ⟨128 + l, by omega⟩)) (-(h (ix2 r ⟨128 + l, by omega⟩))))) := by
  unfold amaxV
  pointwise
  rfl

theorem ofBits_bot : Ideal.ofBits .f32 0xFF800000#32 = ⊥ := by
  simp [Ideal.ofBits, Ideal.ieee]

theorem capV_at (m h : FVec Ideal S256x128 .f32) (r : Fin 256) (l : Fin 128) :
    capV m h (ix2 r l) = min (Finset.univ.fold max ⊥ (fun l : Fin 128 => max (m (ix2 r l)) (max (h (ix2 r l)) (-(h (ix2 r l)))))
      * Ideal.ofBits .f32 0x3B124925#32) (Row.pw 252) := by
  unfold capV
  pointwise
  simp only [ofBits_bot]
  rfl

theorem stepV_at (q : FVec Ideal S256x128 .f32) (b : BitVec 32) (c : IVec S256x128 32) (x : S256x128.Idx) :
    stepV q b c x = Row.stepW (q x) b (c x) := by
  unfold stepV Row.stepW
  pointwise

theorem expV_at (q : FVec Ideal S256x128 .f32) (x : S256x128.Idx) : expV q x = Row.expW (Row.srchW (q x)) := by
  unfold expV Row.expW Row.srchW
  pointwise
  simp only [stepV_at]
  rfl

theorem downV_at (sc : FVec Ideal S256x256 .f32) (s2 : FVec Ideal S1x5120 .f32) (x : Vec Ideal S256x1408 .fp8e4m3) (W : Vec Ideal S1x1408x256 .fp8e4m3)
    (o : ℕ) (h : S1x5120.Slices ![0, o] S1x256) (ho : o + 256 ≤ 5120) (r f : Fin 256) :
    downV sc s2 x W o h (ix2 r f) = (∑ k : Fin 1408, x (ix2 r k) * W (ix3 0 k f)) * sc (ix2 r f) * s2 (ix2 0 ⟨o + f, by omega⟩) := by
  unfold downV
  pointwise

theorem wideV_at (x : FVec Ideal S256x128 .f32) (v : EReal) (r : Fin 256) (f : Fin 256) (h : ∀ l : Fin 128, x (ix2 r l) = v) : wideV x (ix2 r f) = v := by
  unfold wideV
  pointwise
  simp only [h]
  split <;> rfl

theorem pay171_at (e : IVec S256x128 32) (h : Vec Ideal S256x1408 .f32) (v : EReal) (r : Fin 256) (f : Fin 1408)
    (hv : ∀ l : Fin 128, Ideal.ofBits .f32 (IntOp.shli .vector (IntOp.subi 127#32 (e (ix2 r l))) 23#32) = v) :
    k0_pay171 (F := Ideal) e h (ix2 r f) = min (Ideal.ofBits .f32 0x43E00000#32) (max (Ideal.ofBits .f32 0xC3E00000#32) (h (ix2 r f) * v)) := by
  unfold k0_pay171
  pointwise
  simp only [hv]
  simp only [dite_eq_ite, ite_self]

theorem pay172_at (e : IVec S256x128 32) (v : EReal) (r f : Fin 256)
    (hv : ∀ l : Fin 128, Ideal.ofBits .f32 (IntOp.shli .vector (IntOp.addi (e (ix2 r l)) 127#32) 23#32) = v) :
    k0_pay172 (F := Ideal) e k0_pay170 (ix2 r f) = v := by
  unfold k0_pay172 k0_pay170
  pointwise
  simp only [hv]
  split <;> rfl

end Cert.Proof.FfnI

end
-- ==== Proof.TileEqI.lean ====
/-
  The pieces of a tile's run are those of the tile's arithmetic.
-/
module

public import proofs.«01_k».proof.Proof.TileValI

@[expose] public section

set_option maxRecDepth 16384

noncomputable section

namespace Cert.Proof.FfnI

open Cert.KernelIdeal Cert.KernelIdeal.Gen
open Idealize.ShloMosaic
open Idealize.ShloMosaic.TcCoe

variable {F : FTy → Type} [FloatOps F]

section Tile
variable (c : Dev nD) (XU : Buf (Elt F) (upM.view.loc (c : Thread nD τ))) (XD : Buf (Elt F) (dnM.view.loc (c : Thread nD τ)))
  (i : grid0.Coords) (v0 v2 : BitVec 32) (hw1 : k0_chk1 i v0 v2) (v6 v11 : BitVec 32)
  (hw2 : k0_chk2 i v0 v2 v6 v11) (h1 : k0_cond1 i v0 = 1#1)
  (arg3 : Memref sig .tc .vmem S256x1408 .i32) (arg4 : Memref sig .tc .vmem S16x1x2816 .f32)
  (arg5 : Memref sig .tc .vmem S16x1x5120 .f32)
  (x8M : Memref sig .tc .vmem S256x5120 .fp8e4m3) (hM : Memref sig .tc .vmem S256x1408 .f32)
  (hqM : Memref sig .tc .vmem S256x1408 .fp8e4m3)
  (gx : Buf (Elt F) (arg3.view.loc (c : Thread nD τ))) (g4 : Buf (Elt F) (arg4.view.loc (c : Thread nD τ))) (g5 : Buf (Elt F) (arg5.view.loc (c : Thread nD τ)))

variable (harg3 : arg3.IsWhole) (harg4 : arg4.IsWhole) (harg5 : arg5.IsWhole) (arg8 : Memref sig .tc .vmem S256x5120 .f32) (harg8 : arg8.IsWhole)
  (hw4 : k0_chk4 i v0 v2 v6) (v9 : BitVec 1) (v12 v15 : BitVec 32) (hw3 : k0_chk3 i v0 v2 v6 v11 v15)
  (hx8 : x8M.IsWhole) (hh : hM.IsWhole) (hhq : hqM.IsWhole)

set_option maxHeartbeats 4000000 in
/-- The pieces a live tile writes. -/
theorem out_eq : liveL (tileRun c XU XD i arg3 harg3 arg4 harg4 arg5 harg5 arg8 harg8 v0 v2 hw1 v6 hw4 v9 v11 hw2 v12 v15 hw3 h1 x8M hx8 hM hh hqM hhq gx g4 g5).1
    = outPieces c XU XD i v0 v2 hw1 v6 v11 hw2 h1 arg3 arg4 arg5 x8M hM hqM gx g4 g5 := rfl

end Tile

end Cert.Proof.FfnI

end
-- ==== Proof.TileRowI.lean ====
/-
  A tile's rows: every row of a tile whose scale lanes agree is the feed-forward of that row.
-/
module

public import proofs.«01_k».proof.Proof.TileAtI
public import proofs.«01_k».proof.Proof.TileEqI

@[expose] public section

set_option maxRecDepth 16384

noncomputable section

namespace Cert.Proof.FfnI

open Cert.KernelIdeal Cert.KernelIdeal.Gen
open Idealize.ShloMosaic
open Idealize.ShloMosaic.TcCoe

/-- The greatest over the lanes, of the greater of five 256-wide tiles' magnitudes and the 128-wide one's, is the greatest over the row. -/
theorem fold_lanes (g : Fin 1408 → EReal) (hg : ∀ f, 0 ≤ g f) :
    (Finset.univ.fold max ⊥ fun l : Fin 128 => max (max (max (max (max (max 0 (max (g ⟨l, by omega⟩) (g ⟨128 + l, by omega⟩)))
      (max (g ⟨256 + l, by omega⟩) (g ⟨384 + l, by omega⟩))) (max (g ⟨512 + l, by omega⟩) (g ⟨640 + l, by omega⟩)))
      (max (g ⟨768 + l, by omega⟩) (g ⟨896 + l, by omega⟩))) (max (g ⟨1024 + l, by omega⟩) (g ⟨1152 + l, by omega⟩))) (g ⟨1280 + l, by omega⟩))
      = Finset.univ.fold max ⊥ g := by
  have key : ∀ {n : ℕ} (f : Fin n → EReal) (b : EReal), Finset.univ.fold max ⊥ f ≤ b ↔ ∀ i, f i ≤ b := fun f b => by
    rw [Finset.fold_max_le]; simp
  refine le_antisymm ((key _ _).2 fun l => ?_) ((key _ _).2 fun f => ?_)
  · have h0 : ∀ f, g f ≤ Finset.univ.fold max ⊥ g := (key g _).1 le_rfl
    simp only [max_le_iff]
    refine ⟨⟨⟨⟨⟨⟨(hg ⟨0, by omega⟩).trans (h0 _), h0 _, h0 _⟩, h0 _, h0 _⟩, h0 _, h0 _⟩, h0 _, h0 _⟩, h0 _, h0 _⟩, h0 _⟩
  · refine le_trans ?_ ((key _ _).1 le_rfl ⟨f.val % 128, by omega⟩)
    dsimp only
    have hf := f.isLt
    have hd : f.val / 128 < 11 := by omega
    have e : ∀ k (h : f.val / 128 = k) (hk : 128 * k + f.val % 128 < 1408), g f = g ⟨128 * k + f.val % 128, hk⟩ := fun k h hk => congrArg g (Fin.ext (by dsimp only; omega))
    generalize hq : f.val / 128 = q at hd
    interval_cases q
    · rw [e 0 hq (by omega)]; simp only [le_max_iff]; simp
    · rw [e 1 hq (by omega)]; simp only [le_max_iff]; simp
    · rw [e 2 hq (by omega)]; simp only [le_max_iff]; simp
    · rw [e 3 hq (by omega)]; simp only [le_max_iff]; simp
    · rw [e 4 hq (by omega)]; simp only [le_max_iff]; simp
    · rw [e 5 hq (by omega)]; simp only [le_max_iff]; simp
    · rw [e 6 hq (by omega)]; simp only [le_max_iff]; simp
    · rw [e 7 hq (by omega)]; simp only [le_max_iff]; simp
    · rw [e 8 hq (by omega)]; simp only [le_max_iff]; simp
    · rw [e 9 hq (by omega)]; simp only [le_max_iff]; simp
    · rw [e 10 hq (by omega)]; simp only [le_max_iff]; simp

section Tile
variable (c : Dev nD) (XU : Buf (Elt Ideal) (upM.view.loc (c : Thread nD τ))) (XD : Buf (Elt Ideal) (dnM.view.loc (c : Thread nD τ)))
  (i : grid0.Coords) (v0 v2 : BitVec 32) (hw1 : k0_chk1 i v0 v2) (v6 v11 : BitVec 32)
  (hw2 : k0_chk2 i v0 v2 v6 v11) (h1 : k0_cond1 i v0 = 1#1)
  (arg3 : Memref sig .tc .vmem S256x1408 .i32) (arg4 : Memref sig .tc .vmem S16x1x2816 .f32)
  (arg5 : Memref sig .tc .vmem S16x1x5120 .f32)
  (x8M : Memref sig .tc .vmem S256x5120 .fp8e4m3) (hM : Memref sig .tc .vmem S256x1408 .f32)
  (hqM : Memref sig .tc .vmem S256x1408 .fp8e4m3)
  (gx : Buf (Elt Ideal) (arg3.view.loc (c : Thread nD τ))) (g4 : Buf (Elt Ideal) (arg4.view.loc (c : Thread nD τ))) (g5 : Buf (Elt Ideal) (arg5.view.loc (c : Thread nD τ)))

/-! ## The tile's own weights and scales at an index -/
theorem up24_at (k : Fin 5120) (f : Fin 256) : up24 c XU i v0 v2 v6 v11 hw2 h1 (ix3 0 k f) = XU (ix3 (expOf v2) k ⟨0 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up25_at (k : Fin 5120) (f : Fin 256) : up25 c XU i v0 v2 v6 v11 hw2 h1 (ix3 0 k f) = XU (ix3 (expOf v2) k ⟨1408 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up26_at (k : Fin 5120) (f : Fin 256) : up26 c XU i v0 v2 v6 v11 hw2 h1 (ix3 0 k f) = XU (ix3 (expOf v2) k ⟨256 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up27_at (k : Fin 5120) (f : Fin 256) : up27 c XU i v0 v2 v6 v11 hw2 h1 (ix3 0 k f) = XU (ix3 (expOf v2) k ⟨1664 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up28_at (k : Fin 5120) (f : Fin 256) : up28 c XU i v0 v2 v6 v11 hw2 h1 (ix3 0 k f) = XU (ix3 (expOf v2) k ⟨512 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up29_at (k : Fin 5120) (f : Fin 256) : up29 c XU i v0 v2 v6 v11 hw2 h1 (ix3 0 k f) = XU (ix3 (expOf v2) k ⟨1920 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up30_at (k : Fin 5120) (f : Fin 256) : up30 c XU i v0 v2 v6 v11 hw2 h1 (ix3 0 k f) = XU (ix3 (expOf v2) k ⟨768 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up31_at (k : Fin 5120) (f : Fin 256) : up31 c XU i v0 v2 v6 v11 hw2 h1 (ix3 0 k f) = XU (ix3 (expOf v2) k ⟨2176 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up32_at (k : Fin 5120) (f : Fin 256) : up32 c XU i v0 v2 v6 v11 hw2 h1 (ix3 0 k f) = XU (ix3 (expOf v2) k ⟨1024 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up33_at (k : Fin 5120) (f : Fin 256) : up33 c XU i v0 v2 v6 v11 hw2 h1 (ix3 0 k f) = XU (ix3 (expOf v2) k ⟨2432 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up34_at (k : Fin 5120) (f : Fin 128) : up34 c XU i v0 v2 v6 v11 hw2 h1 (ix3 0 k f) = XU (ix3 (expOf v2) k ⟨1280 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem up35_at (k : Fin 5120) (f : Fin 128) : up35 c XU i v0 v2 v6 v11 hw2 h1 (ix3 0 k f) = XU (ix3 (expOf v2) k ⟨2688 + f, by omega⟩) := by
  refine congrArg XU (funext fun a => ?_)
  match a with
  | 0 => rfl
  | 1 => exact Fin.ext ((Rect.idx_unit_val _ _ _ _ _).trans (Nat.zero_add _))
  | 2 => exact Fin.ext (Rect.idx_unit_val _ _ _ _ _)
theorem dn37_at (k : Fin 1408) (f : Fin 256) : dn37 c XD i v0 v2 v6 v11 hw2 h1 (ix3 0 k f) = XD (ix3 (expOf v2) k ⟨0 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn38_at (k : Fin 1408) (f : Fin 256) : dn38 c XD i v0 v2 v6 v11 hw2 h1 (ix3 0 k f) = XD (ix3 (expOf v2) k ⟨256 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn39_at (k : Fin 1408) (f : Fin 256) : dn39 c XD i v0 v2 v6 v11 hw2 h1 (ix3 0 k f) = XD (ix3 (expOf v2) k ⟨512 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn40_at (k : Fin 1408) (f : Fin 256) : dn40 c XD i v0 v2 v6 v11 hw2 h1 (ix3 0 k f) = XD (ix3 (expOf v2) k ⟨768 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn41_at (k : Fin 1408) (f : Fin 256) : dn41 c XD i v0 v2 v6 v11 hw2 h1 (ix3 0 k f) = XD (ix3 (expOf v2) k ⟨1024 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn42_at (k : Fin 1408) (f : Fin 256) : dn42 c XD i v0 v2 v6 v11 hw2 h1 (ix3 0 k f) = XD (ix3 (expOf v2) k ⟨1280 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn43_at (k : Fin 1408) (f : Fin 256) : dn43 c XD i v0 v2 v6 v11 hw2 h1 (ix3 0 k f) = XD (ix3 (expOf v2) k ⟨1536 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn44_at (k : Fin 1408) (f : Fin 256) : dn44 c XD i v0 v2 v6 v11 hw2 h1 (ix3 0 k f) = XD (ix3 (expOf v2) k ⟨1792 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn45_at (k : Fin 1408) (f : Fin 256) : dn45 c XD i v0 v2 v6 v11 hw2 h1 (ix3 0 k f) = XD (ix3 (expOf v2) k ⟨2048 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn46_at (k : Fin 1408) (f : Fin 256) : dn46 c XD i v0 v2 v6 v11 hw2 h1 (ix3 0 k f) = XD (ix3 (expOf v2) k ⟨2304 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn47_at (k : Fin 1408) (f : Fin 256) : dn47 c XD i v0 v2 v6 v11 hw2 h1 (ix3 0 k f) = XD (ix3 (expOf v2) k ⟨2560 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn48_at (k : Fin 1408) (f : Fin 256) : dn48 c XD i v0 v2 v6 v11 hw2 h1 (ix3 0 k f) = XD (ix3 (expOf v2) k ⟨2816 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn49_at (k : Fin 1408) (f : Fin 256) : dn49 c XD i v0 v2 v6 v11 hw2 h1 (ix3 0 k f) = XD (ix3 (expOf v2) k ⟨3072 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn50_at (k : Fin 1408) (f : Fin 256) : dn50 c XD i v0 v2 v6 v11 hw2 h1 (ix3 0 k f) = XD (ix3 (expOf v2) k ⟨3328 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn51_at (k : Fin 1408) (f : Fin 256) : dn51 c XD i v0 v2 v6 v11 hw2 h1 (ix3 0 k f) = XD (ix3 (expOf v2) k ⟨3584 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn52_at (k : Fin 1408) (f : Fin 256) : dn52 c XD i v0 v2 v6 v11 hw2 h1 (ix3 0 k f) = XD (ix3 (expOf v2) k ⟨3840 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn53_at (k : Fin 1408) (f : Fin 256) : dn53 c XD i v0 v2 v6 v11 hw2 h1 (ix3 0 k f) = XD (ix3 (expOf v2) k ⟨4096 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn54_at (k : Fin 1408) (f : Fin 256) : dn54 c XD i v0 v2 v6 v11 hw2 h1 (ix3 0 k f) = XD (ix3 (expOf v2) k ⟨4352 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn55_at (k : Fin 1408) (f : Fin 256) : dn55 c XD i v0 v2 v6 v11 hw2 h1 (ix3 0 k f) = XD (ix3 (expOf v2) k ⟨4608 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)
theorem dn56_at (k : Fin 1408) (f : Fin 256) : dn56 c XD i v0 v2 v6 v11 hw2 h1 (ix3 0 k f) = XD (ix3 (expOf v2) k ⟨4864 + f, by omega⟩) := by
  refine congrArg XD (funext fun a => ?_)
  match a with
  | 0 => rfl
  | 1 => exact Fin.ext ((Rect.idx_unit_val _ _ _ _ _).trans (Nat.zero_add _))
  | 2 => exact Fin.ext (Rect.idx_unit_val _ _ _ _ _)

theorem s1T_at (hv : v2.toNat < 16) (f : Fin 2816) : s1T c i v0 v2 hw1 h1 arg4 g4 (ix2 0 f) = arg4.view.read (Elt Ideal) g4 (ix3 (expOf v2) 0 f) := by
  unfold s1T
  pointwise
  refine View.ld_unit_apply_of _ _ _ _ _ _ fun a => ?_
  match a with
  | 0 => exact (expOf_val hv).trans (Nat.add_zero _).symm
  | 1 => rfl
  | 2 => exact (Nat.zero_add _).symm

set_option maxRecDepth 100000 in
theorem s2T_at (hv : v2.toNat < 16) (f : Fin 5120) : s2T c i v0 v2 hw1 h1 arg5 g5 (ix2 0 f) = arg5.view.read (Elt Ideal) g5 (ix3 (expOf v2) 0 f) := by
  unfold s2T
  pointwise
  refine View.ld_unit_apply_of _ _ _ _ _ _ fun a => ?_
  match a with
  | 0 => exact (expOf_val hv).trans (Nat.add_zero _).symm
  | 1 => rfl
  | 2 => exact (Nat.zero_add _).symm

theorem zero2 : (![0, 0] : Fin 2 → ℕ) = fun _ => 0 := by funext a; match a with | 0 => rfl | 1 => rfl

theorem x8T_at (r : Fin 256) (k : Fin 5120) : x8T c arg3 x8M gx (ix2 r k) = codeOf (arg3.view.read (Elt Ideal) gx) r k := by
  rw [← codes_at]; unfold x8T
  rw [View.readCov_eq_canon_ld _ _ _ (cover_of_packPieces c arg3 gx), View.ld_unit_zero zero2]

/-! ## A row -/

/-- The row's up-projection weights and scales, as functions of the column. -/
def upRow (k : Fin 5120) (f : Fin 2816) : EReal := XU (ix3 (expOf v2) k f)
def dnRow (k : Fin 1408) (f : Fin 5120) : EReal := XD (ix3 (expOf v2) k f)
def s1Row (f : Fin 2816) : EReal := arg4.view.read (Elt Ideal) g4 (ix3 (expOf v2) 0 f)
def s2Row (f : Fin 5120) : EReal := arg5.view.read (Elt Ideal) g5 (ix3 (expOf v2) 0 f)

variable (r : Fin 256) (s : EReal) (hs : ∀ l : Fin 128, scaleT c arg3 gx (ix2 r l) = s) (hv : v2.toNat < 16)

/-- The hidden row. -/
abbrev hidRow : Fin 1408 → EReal :=
  Row.hid (codeOf (arg3.view.read (Elt Ideal) gx) r) s (upRow c XU v2) (s1Row c v2 arg4 g4)

include hs hv
theorem h0T_at (f : Fin 256) : h0T c XU i v0 v2 hw1 v6 v11 hw2 h1 arg3 arg4 x8M gx g4 (ix2 r f) = hidRow c XU v2 arg3 arg4 gx g4 r s ⟨0 + f, by omega⟩ := by
  unfold h0T
  rw [siluV_at, projV_at _ _ _ _ _ _ (by omega), projV_at _ _ _ _ _ _ (by omega), wideV_at _ s _ _ hs]
  simp only [x8T_at, up24_at, up25_at, s1T_at _ _ _ _ _ _ _ _ hv]
  unfold hidRow Row.hid Row.proj upRow s1Row
  rw [show (⟨1408 + f.val, by omega⟩ : Fin 2816) = Row.upperIx ⟨0 + f.val, by omega⟩ from Fin.ext (by show 1408 + f.val = 1408 + (0 + f.val); omega)]
  rfl
theorem h1T_at (f : Fin 256) : h1T c XU i v0 v2 hw1 v6 v11 hw2 h1 arg3 arg4 x8M gx g4 (ix2 r f) = hidRow c XU v2 arg3 arg4 gx g4 r s ⟨256 + f, by omega⟩ := by
  unfold h1T
  rw [siluV_at, projV_at _ _ _ _ _ _ (by omega), projV_at _ _ _ _ _ _ (by omega), wideV_at _ s _ _ hs]
  simp only [x8T_at, up26_at, up27_at, s1T_at _ _ _ _ _ _ _ _ hv]
  unfold hidRow Row.hid Row.proj upRow s1Row
  rw [show (⟨1664 + f.val, by omega⟩ : Fin 2816) = Row.upperIx ⟨256 + f.val, by omega⟩ from Fin.ext (by show 1664 + f.val = 1408 + (256 + f.val); omega)]
  rfl
theorem h2T_at (f : Fin 256) : h2T c XU i v0 v2 hw1 v6 v11 hw2 h1 arg3 arg4 x8M gx g4 (ix2 r f) = hidRow c XU v2 arg3 arg4 gx g4 r s ⟨512 + f, by omega⟩ := by
  unfold h2T
  rw [siluV_at, projV_at _ _ _ _ _ _ (by omega), projV_at _ _ _ _ _ _ (by omega), wideV_at _ s _ _ hs]
  simp only [x8T_at, up28_at, up29_at, s1T_at _ _ _ _ _ _ _ _ hv]
  unfold hidRow Row.hid Row.proj upRow s1Row
  rw [show (⟨1920 + f.val, by omega⟩ : Fin 2816) = Row.upperIx ⟨512 + f.val, by omega⟩ from Fin.ext (by show 1920 + f.val = 1408 + (512 + f.val); omega)]
  rfl
theorem h3T_at (f : Fin 256) : h3T c XU i v0 v2 hw1 v6 v11 hw2 h1 arg3 arg4 x8M gx g4 (ix2 r f) = hidRow c XU v2 arg3 arg4 gx g4 r s ⟨768 + f, by omega⟩ := by
  unfold h3T
  rw [siluV_at, projV_at _ _ _ _ _ _ (by omega), projV_at _ _ _ _ _ _ (by omega), wideV_at _ s _ _ hs]
  simp only [x8T_at, up30_at, up31_at, s1T_at _ _ _ _ _ _ _ _ hv]
  unfold hidRow Row.hid Row.proj upRow s1Row
  rw [show (⟨2176 + f.val, by omega⟩ : Fin 2816) = Row.upperIx ⟨768 + f.val, by omega⟩ from Fin.ext (by show 2176 + f.val = 1408 + (768 + f.val); omega)]
  rfl
theorem h4T_at (f : Fin 256) : h4T c XU i v0 v2 hw1 v6 v11 hw2 h1 arg3 arg4 x8M gx g4 (ix2 r f) = hidRow c XU v2 arg3 arg4 gx g4 r s ⟨1024 + f, by omega⟩ := by
  unfold h4T
  rw [siluV_at, projV_at _ _ _ _ _ _ (by omega), projV_at _ _ _ _ _ _ (by omega), wideV_at _ s _ _ hs]
  simp only [x8T_at, up32_at, up33_at, s1T_at _ _ _ _ _ _ _ _ hv]
  unfold hidRow Row.hid Row.proj upRow s1Row
  rw [show (⟨2432 + f.val, by omega⟩ : Fin 2816) = Row.upperIx ⟨1024 + f.val, by omega⟩ from Fin.ext (by show 2432 + f.val = 1408 + (1024 + f.val); omega)]
  rfl
theorem h5T_at (f : Fin 128) : h5T c XU i v0 v2 hw1 v6 v11 hw2 h1 arg3 arg4 x8M gx g4 (ix2 r f) = hidRow c XU v2 arg3 arg4 gx g4 r s ⟨1280 + f, by omega⟩ := by
  unfold h5T
  rw [hidL_at, hs]
  simp only [x8T_at, up34_at, up35_at, s1T_at _ _ _ _ _ _ _ _ hv]
  unfold hidRow Row.hid Row.proj upRow s1Row
  rw [show (⟨2688 + f.val, by omega⟩ : Fin 2816) = Row.upperIx ⟨1280 + f.val, by omega⟩ from Fin.ext (by show 2688 + f.val = 1408 + (1280 + f.val); omega)]
  rfl

theorem hidPieces_at (f : Fin 1408) : View.canon (hidPieces c XU i v0 v2 hw1 v6 v11 hw2 h1 arg3 arg4 x8M gx g4) (ix2 r f) = hidRow c XU v2 arg3 arg4 gx g4 r s f := by
  have hc : ∃ p ∈ hidPieces c XU i v0 v2 hw1 v6 v11 hw2 h1 arg3 arg4 x8M gx g4, ix2 r f ∈ p.1.set := View.cover_of_tiledBy _ ![256, 128] (by sl_kernel_rfl) _
  unfold hidPieces at hc ⊢
  canon_tiles x h using hc
  all_goals
    idx_vars x
    pointwise
  · obtain rfl : r = x0 := Fin.ext (h0.trans (by omega))
    rw [h5T_at _ _ _ _ _ _ _ _ _ _ _ _ _ _ _ _ s hs hv]; exact congrArg _ (Fin.ext (by show 1280 + x1.val = f.val; omega))
  · obtain rfl : r = x0 := Fin.ext (h0.trans (by omega))
    rw [h4T_at _ _ _ _ _ _ _ _ _ _ _ _ _ _ _ _ s hs hv]; exact congrArg _ (Fin.ext (by show 1024 + x1.val = f.val; omega))
  · obtain rfl : r = x0 := Fin.ext (h0.trans (by omega))
    rw [h3T_at _ _ _ _ _ _ _ _ _ _ _ _ _ _ _ _ s hs hv]; exact congrArg _ (Fin.ext (by show 768 + x1.val = f.val; omega))
  · obtain rfl : r = x0 := Fin.ext (h0.trans (by omega))
    rw [h2T_at _ _ _ _ _ _ _ _ _ _ _ _ _ _ _ _ s hs hv]; exact congrArg _ (Fin.ext (by show 512 + x1.val = f.val; omega))
  · obtain rfl : r = x0 := Fin.ext (h0.trans (by omega))
    rw [h1T_at _ _ _ _ _ _ _ _ _ _ _ _ _ _ _ _ s hs hv]; exact congrArg _ (Fin.ext (by show 256 + x1.val = f.val; omega))
  · obtain rfl : r = x0 := Fin.ext (h0.trans (by omega))
    rw [h0T_at _ _ _ _ _ _ _ _ _ _ _ _ _ _ _ _ s hs hv]; exact congrArg _ (Fin.ext (by show 0 + x1.val = f.val; omega))

theorem hT_at (f : Fin 1408) : hT c XU i v0 v2 hw1 v6 v11 hw2 h1 arg3 arg4 x8M hM gx g4 (ix2 r f) = hidRow c XU v2 arg3 arg4 gx g4 r s f := by
  rw [← hidPieces_at c XU i v0 v2 hw1 v6 v11 hw2 h1 arg3 arg4 x8M gx g4 r s hs hv]; unfold hT
  have hc : ∀ y, ∃ p ∈ hidPieces c XU i v0 v2 hw1 v6 v11 hw2 h1 arg3 arg4 x8M gx g4, y ∈ p.1.set := View.cover_of_tiledBy _ ![256, 128] (by sl_kernel_rfl)
  rw [View.readCov_eq_canon_ld _ _ _ hc, View.ld_unit_zero zero2]

theorem qT_at (l : Fin 128) : qT c XU i v0 v2 hw1 v6 v11 hw2 h1 arg3 arg4 x8M gx g4 (ix2 r l) = min (Row.qOf (hidRow c XU v2 arg3 arg4 gx g4 r s)) (Row.pw 252) := by
  unfold qT
  rw [capV_at]
  simp only [amaxV_at, h0T_at _ _ _ _ _ _ _ _ _ _ _ _ _ _ _ _ s hs hv, h1T_at _ _ _ _ _ _ _ _ _ _ _ _ _ _ _ _ s hs hv,
    h2T_at _ _ _ _ _ _ _ _ _ _ _ _ _ _ _ _ s hs hv, h3T_at _ _ _ _ _ _ _ _ _ _ _ _ _ _ _ _ s hs hv,
    h4T_at _ _ _ _ _ _ _ _ _ _ _ _ _ _ _ _ s hs hv, h5T_at _ _ _ _ _ _ _ _ _ _ _ _ _ _ _ _ s hs hv]
  unfold Row.qOf
  rw [← fold_lanes (fun f => max (hidRow c XU v2 arg3 arg4 gx g4 r s f) (-(hidRow c XU v2 arg3 arg4 gx g4 r s f))) fun f => Row.abs_nonneg' _]
  have hz : ∀ l : Fin 128, broadcast S256x128 (Scalar.ofBits (F := Ideal) .f32 0x00000000#32) (ix2 r l) = (0 : EReal) := fun l => (show _ = Ideal.ofBits .f32 0x00000000#32 from rfl).trans (Ideal.ofBits_zero .f32)
  simp only [hz, ← Nat.add_assoc, Nat.reduceAdd, Nat.zero_add]

theorem eT_at (l : Fin 128) : eT c XU i v0 v2 hw1 v6 v11 hw2 h1 arg3 arg4 x8M gx g4 (ix2 r l) = Row.expW (Row.srchW (min (Row.qOf (hidRow c XU v2 arg3 arg4 gx g4 r s)) (Row.pw 252))) := by
  unfold eT; rw [expV_at, qT_at _ _ _ _ _ _ _ _ _ _ _ _ _ _ _ _ s hs hv]

theorem osT_at (f : Fin 256) : osT c XU i v0 v2 hw1 v6 v11 hw2 h1 arg3 arg4 x8M gx g4 (ix2 r f) = Row.scaleOf (Row.qOf (hidRow c XU v2 arg3 arg4 gx g4 r s)) := by
  unfold osT
  refine pay172_at _ _ _ _ fun l => ?_
  rw [eT_at _ _ _ _ _ _ _ _ _ _ _ _ _ _ _ _ s hs hv, Row.scale_word _ (Row.qOf_nonneg _)]

theorem hqT_at (f : Fin 1408) : hqT c XU i v0 v2 hw1 v6 v11 hw2 h1 arg3 arg4 x8M hM hqM gx g4 (ix2 r f) = Row.code (hidRow c XU v2 arg3 arg4 gx g4 r s) f := by
  unfold hqT
  rw [View.readCov_unit_lit _ _ _ (congrFun zero2), pay171_at _ _ (Ideal.div 1 (Row.scaleOf (Row.qOf (hidRow c XU v2 arg3 arg4 gx g4 r s)))) _ _ fun l => ?_,
    hT_at _ _ _ _ _ _ _ _ _ _ _ _ _ _ _ _ _ s hs hv]
  · rfl
  · rw [eT_at _ _ _ _ _ _ _ _ _ _ _ _ _ _ _ _ s hs hv, Row.inv_word _ (Row.qOf_nonneg _)]

theorem piece_at (d : Fin 5120) (o : ℕ) (hsl : S1x5120.Slices ![0, o] S1x256) (ho : o + 256 ≤ 5120) (W : Vec Ideal S1x1408x256 .fp8e4m3)
    (hW : ∀ (k : Fin 1408) (f : Fin 256), W (ix3 0 k f) = XD (ix3 (expOf v2) k ⟨o + f, by omega⟩)) (x : S256x256.Idx)
    (e0 : r.val = 0 + (x 0).val) (e1 : d.val = o + (x 1).val) :
    downV (osT c XU i v0 v2 hw1 v6 v11 hw2 h1 arg3 arg4 x8M gx g4) (s2T c i v0 v2 hw1 h1 arg5 g5) (hqT c XU i v0 v2 hw1 v6 v11 hw2 h1 arg3 arg4 x8M hM hqM gx g4) W o hsl x
      = Row.down (hidRow c XU v2 arg3 arg4 gx g4 r s) (dnRow c XD v2) (s2Row c v2 arg5 g5) d := by
  idx_vars x
  obtain rfl : r = x0 := Fin.ext (e0.trans (Nat.zero_add _))
  rw [show d = ⟨o + x1.val, by have := x1.isLt; omega⟩ from Fin.ext e1]
  rw [downV_at _ _ _ _ _ _ ho, osT_at _ _ _ _ _ _ _ _ _ _ _ _ _ _ _ _ s hs hv, s2T_at _ _ _ _ _ _ _ _ hv]
  simp only [hqT_at _ _ _ _ _ _ _ _ _ _ _ _ _ _ _ _ _ _ s hs hv, hW]
  rfl

theorem outPieces_at (d : Fin 5120) : View.canon (outPieces c XU XD i v0 v2 hw1 v6 v11 hw2 h1 arg3 arg4 arg5 x8M hM hqM gx g4 g5) (ix2 r d)
    = Row.down (hidRow c XU v2 arg3 arg4 gx g4 r s) (dnRow c XD v2) (s2Row c v2 arg5 g5) d := by
  have hk : k0_cond1 i v0 = 1#1 := h1
  have hc : ∃ p ∈ outPieces c XU XD i v0 v2 hw1 v6 v11 hw2 h1 arg3 arg4 arg5 x8M hM hqM gx g4 g5, ix2 r d ∈ p.1.set :=
    View.cover_of_tiled _ ![256, 256] rfl _
  unfold outPieces at hc ⊢
  canon_tiles x h using hc
  · exact piece_at c XU XD i v0 v2 hw1 v6 v11 hw2 hk arg3 arg4 arg5 x8M hM hqM gx g4 g5 r s hs hv d 4864 _ (by norm_num) _ (dn56_at c XD i v0 v2 v6 v11 hw2 hk) x (h0.trans (by omega)) (h1.trans (by omega))
  · exact piece_at c XU XD i v0 v2 hw1 v6 v11 hw2 hk arg3 arg4 arg5 x8M hM hqM gx g4 g5 r s hs hv d 4608 _ (by norm_num) _ (dn55_at c XD i v0 v2 v6 v11 hw2 hk) x (h0.trans (by omega)) (h1.trans (by omega))
  · exact piece_at c XU XD i v0 v2 hw1 v6 v11 hw2 hk arg3 arg4 arg5 x8M hM hqM gx g4 g5 r s hs hv d 4352 _ (by norm_num) _ (dn54_at c XD i v0 v2 v6 v11 hw2 hk) x (h0.trans (by omega)) (h1.trans (by omega))
  · exact piece_at c XU XD i v0 v2 hw1 v6 v11 hw2 hk arg3 arg4 arg5 x8M hM hqM gx g4 g5 r s hs hv d 4096 _ (by norm_num) _ (dn53_at c XD i v0 v2 v6 v11 hw2 hk) x (h0.trans (by omega)) (h1.trans (by omega))
  · exact piece_at c XU XD i v0 v2 hw1 v6 v11 hw2 hk arg3 arg4 arg5 x8M hM hqM gx g4 g5 r s hs hv d 3840 _ (by norm_num) _ (dn52_at c XD i v0 v2 v6 v11 hw2 hk) x (h0.trans (by omega)) (h1.trans (by omega))
  · exact piece_at c XU XD i v0 v2 hw1 v6 v11 hw2 hk arg3 arg4 arg5 x8M hM hqM gx g4 g5 r s hs hv d 3584 _ (by norm_num) _ (dn51_at c XD i v0 v2 v6 v11 hw2 hk) x (h0.trans (by omega)) (h1.trans (by omega))
  · exact piece_at c XU XD i v0 v2 hw1 v6 v11 hw2 hk arg3 arg4 arg5 x8M hM hqM gx g4 g5 r s hs hv d 3328 _ (by norm_num) _ (dn50_at c XD i v0 v2 v6 v11 hw2 hk) x (h0.trans (by omega)) (h1.trans (by omega))
  · exact piece_at c XU XD i v0 v2 hw1 v6 v11 hw2 hk arg3 arg4 arg5 x8M hM hqM gx g4 g5 r s hs hv d 3072 _ (by norm_num) _ (dn49_at c XD i v0 v2 v6 v11 hw2 hk) x (h0.trans (by omega)) (h1.trans (by omega))
  · exact piece_at c XU XD i v0 v2 hw1 v6 v11 hw2 hk arg3 arg4 arg5 x8M hM hqM gx g4 g5 r s hs hv d 2816 _ (by norm_num) _ (dn48_at c XD i v0 v2 v6 v11 hw2 hk) x (h0.trans (by omega)) (h1.trans (by omega))
  · exact piece_at c XU XD i v0 v2 hw1 v6 v11 hw2 hk arg3 arg4 arg5 x8M hM hqM gx g4 g5 r s hs hv d 2560 _ (by norm_num) _ (dn47_at c XD i v0 v2 v6 v11 hw2 hk) x (h0.trans (by omega)) (h1.trans (by omega))
  · exact piece_at c XU XD i v0 v2 hw1 v6 v11 hw2 hk arg3 arg4 arg5 x8M hM hqM gx g4 g5 r s hs hv d 2304 _ (by norm_num) _ (dn46_at c XD i v0 v2 v6 v11 hw2 hk) x (h0.trans (by omega)) (h1.trans (by omega))
  · exact piece_at c XU XD i v0 v2 hw1 v6 v11 hw2 hk arg3 arg4 arg5 x8M hM hqM gx g4 g5 r s hs hv d 2048 _ (by norm_num) _ (dn45_at c XD i v0 v2 v6 v11 hw2 hk) x (h0.trans (by omega)) (h1.trans (by omega))
  · exact piece_at c XU XD i v0 v2 hw1 v6 v11 hw2 hk arg3 arg4 arg5 x8M hM hqM gx g4 g5 r s hs hv d 1792 _ (by norm_num) _ (dn44_at c XD i v0 v2 v6 v11 hw2 hk) x (h0.trans (by omega)) (h1.trans (by omega))
  · exact piece_at c XU XD i v0 v2 hw1 v6 v11 hw2 hk arg3 arg4 arg5 x8M hM hqM gx g4 g5 r s hs hv d 1536 _ (by norm_num) _ (dn43_at c XD i v0 v2 v6 v11 hw2 hk) x (h0.trans (by omega)) (h1.trans (by omega))
  · exact piece_at c XU XD i v0 v2 hw1 v6 v11 hw2 hk arg3 arg4 arg5 x8M hM hqM gx g4 g5 r s hs hv d 1280 _ (by norm_num) _ (dn42_at c XD i v0 v2 v6 v11 hw2 hk) x (h0.trans (by omega)) (h1.trans (by omega))
  · exact piece_at c XU XD i v0 v2 hw1 v6 v11 hw2 hk arg3 arg4 arg5 x8M hM hqM gx g4 g5 r s hs hv d 1024 _ (by norm_num) _ (dn41_at c XD i v0 v2 v6 v11 hw2 hk) x (h0.trans (by omega)) (h1.trans (by omega))
  · exact piece_at c XU XD i v0 v2 hw1 v6 v11 hw2 hk arg3 arg4 arg5 x8M hM hqM gx g4 g5 r s hs hv d 768 _ (by norm_num) _ (dn40_at c XD i v0 v2 v6 v11 hw2 hk) x (h0.trans (by omega)) (h1.trans (by omega))
  · exact piece_at c XU XD i v0 v2 hw1 v6 v11 hw2 hk arg3 arg4 arg5 x8M hM hqM gx g4 g5 r s hs hv d 512 _ (by norm_num) _ (dn39_at c XD i v0 v2 v6 v11 hw2 hk) x (h0.trans (by omega)) (h1.trans (by omega))
  · exact piece_at c XU XD i v0 v2 hw1 v6 v11 hw2 hk arg3 arg4 arg5 x8M hM hqM gx g4 g5 r s hs hv d 256 _ (by norm_num) _ (dn38_at c XD i v0 v2 v6 v11 hw2 hk) x (h0.trans (by omega)) (h1.trans (by omega))
  · exact piece_at c XU XD i v0 v2 hw1 v6 v11 hw2 hk arg3 arg4 arg5 x8M hM hqM gx g4 g5 r s hs hv d 0 _ (by norm_num) _ (dn37_at c XD i v0 v2 v6 v11 hw2 hk) x (h0.trans (by omega)) (h1.trans (by omega))

end Tile

end Cert.Proof.FfnI

end
-- ==== Proof.Mask.lean ====
/-
  What the mask on the rows says of a row: it lies in a live tile, and the scale words of the rows of its group of four, up to it, are bytes, one on every lane.
-/
module

public import proofs.«01_k».proof.On_live_rows
public import proofs.«01_k».proof.Proof.Gen.On_live_rows
public import Idealize.ShloMosaic.Lib.Pointwise

@[expose] public section

set_option maxRecDepth 16384

noncomputable section

namespace Cert.Proof.Mask

open Cert.On_live_rows
open Idealize.ShloMosaic

/-- A fold of bits by «and» is 1 where every one of them is. -/
theorem fold_andi {ι : Type} [DecidableEq ι] (s : Finset ι) (p : ι → BitVec 1) (h : Finset.fold IntOp.andi (1#1) p s = 1#1) : ∀ x ∈ s, p x = 1#1 := by
  induction s using Finset.induction_on with
  | empty => intro x hx; exact absurd hx (Finset.notMem_empty x)
  | insert a s ha ih =>
    rw [Finset.fold_insert ha] at h
    have e : ∀ x y : BitVec 1, IntOp.andi x y = 1#1 → x = 1#1 ∧ y = 1#1 := by decide
    obtain ⟨h1, h2⟩ := e _ _ h
    intro x hx
    rcases Finset.mem_insert.1 hx with rfl | hx
    · exact h1
    · exact ih h2 x hx

theorem and_one : ∀ x y : BitVec 1, IntOp.andi x y = 1#1 → x = 1#1 ∧ y = 1#1 := by decide
theorem or_one : ∀ x y : BitVec 1, IntOp.ori x y = 1#1 → x = 1#1 ∨ y = 1#1 := by decide
theorem ofBool_one (p : Bool) : BitVec.ofBool p = 1#1 → p = true := by cases p <;> decide

theorem ult_of (a b : BitVec 32) (h : IntOp.cmpi .ult a b = 1#1) : a.toNat < b.toNat := BitVec.ult_iff_toNat_lt.1 (ofBool_one _ h)
theorem slt_of (a b : BitVec 32) (h : IntOp.cmpi .slt a b = 1#1) : a.toInt < b.toInt := BitVec.slt_iff_toInt_lt.1 (ofBool_one _ h)
theorem sgt_of (a b : BitVec 32) (h : IntOp.cmpi .sgt a b = 1#1) : b.toInt < a.toInt := BitVec.slt_iff_toInt_lt.1 (ofBool_one _ h)
theorem eq_of (a b : BitVec 32) (h : IntOp.cmpi .eq a b = 1#1) : a = b := beq_iff_eq.1 (ofBool_one (a == b) h)
theorem small_toInt (k : ℕ) (hk : k < 53248) : (BitVec.ofNat 32 k).toInt = k := by
  have e := BitVec.toInt_eq_toNat_cond (BitVec.ofNat 32 k)
  rw [BitVec.toNat_ofNat] at e
  split at e <;> omega
theorem live_toInt (n : BitVec 32) (hn : n.toNat ≤ 208) : (IntOp.muli n 256#32).toInt = n.toNat * 256 := by
  have ea : (IntOp.muli n 256#32).toNat = n.toNat * 256 := by
    show (n * 256#32).toNat = _
    rw [BitVec.toNat_mul]
    show n.toNat * 256 % 2 ^ 32 = _
    omega
  have e1 := BitVec.toInt_eq_toNat_cond (IntOp.muli n 256#32)
  rw [ea] at e1
  split at e1 <;> omega

/-- The row of the words that a row's group of four takes its `m`-th from. -/
def wrow (r : Fin 53248) (m : ℕ) (hm : m < 4) : Fin 53248 := ⟨r.val / 32 * 32 + 8 * m + r.val % 32 / 4, by omega⟩

theorem decode [Facts] (T : IVec S1024 32) (M : IVec S48 32) (X : IVec S53248x1408 32) (s1 s2 w1 w2) (hn : (M (ix1 32)).toNat ≤ 208)
    (r : Fin 53248) (d : Fin 5120) (h : fn (F := Ideal) T M X s1 s2 w1 w2 (ix2 r d) = 1#1) :
    r.val < (M (ix1 32)).toNat * 256 ∧ ∀ (m : ℕ) (hm : m < 4), m ≤ r.val % 4 → ∀ l : Fin 128,
      (X (ix2 (wrow r m hm) ⟨1280 + l.val, by omega⟩)).toNat < 256 ∧ X (ix2 (wrow r m hm) ⟨1280 + l.val, by omega⟩) = X (ix2 (wrow r m hm) ⟨1280, by norm_num⟩) := by
  unfold fn fn_part1 at h
  pointwise at h
  obtain ⟨h1, h2⟩ := and_one _ _ h
  have hr := r.isLt
  refine ⟨?_, fun m hm hle l => ?_⟩
  · have e := slt_of _ _ h2
    rw [live_toInt _ hn, small_toInt _ hr] at e
    omega
  · have e := fold_andi _ _ h1 ⟨m, hm⟩ (Finset.mem_univ _)
    rcases or_one _ _ e with e | e
    · obtain ⟨ea, eb⟩ := and_one _ _ (fold_andi _ _ e l (Finset.mem_univ _))
      have hw : (⟨(r.val / 4 * 4 + m) / 32 * 32 + (r.val / 4 * 4 + m) % 4 * 8 + (r.val / 4 * 4 + m) / 4 % 8, by omega⟩ : Fin 53248) = wrow r m hm :=
        Fin.ext (by show (r.val / 4 * 4 + m) / 32 * 32 + (r.val / 4 * 4 + m) % 4 * 8 + (r.val / 4 * 4 + m) / 4 % 8 = r.val / 32 * 32 + 8 * m + r.val % 32 / 4; omega)
      have ea := ult_of _ _ ea
      have eb := eq_of _ _ eb
      rw [← hw]
      exact ⟨ea, eb⟩
    · have e := sgt_of _ _ e
      rw [small_toInt _ (by omega), small_toInt _ (by show m < 53248; omega)] at e
      exact absurd e (by show ¬ (((r.val % 4 : ℕ) : ℤ) < (m : ℤ)); omega)

end Cert.Proof.Mask

end
-- ==== Proof.ValueI.lean ====
/-
  The arrays of the call at a live row: what the input buffers hold at a live point, and what the write-backs leave in
  the result.
-/
module

public import proofs.«01_k».proof.Proof.TileRowI
public import proofs.«01_k».proof.Proof.Mask
public import proofs.«01_k».proof.Proof.FrameI

@[expose] public section

set_option maxRecDepth 16384

noncomputable section

namespace Cert.Proof.FfnI

open Cert.KernelIdeal Cert.KernelIdeal.Gen
open Idealize.ShloMosaic
open Idealize.ShloMosaic.TcCoe
open Idealize.ShloMosaic.Pipeline (Dat Cfg Window)

variable (V : (c : Dev nD) → (b : Ref sig .tc) → Buf (Elt Ideal) ((c : Thread nD τ).loc b)) (a : (pcfg0 (F := Ideal)).Adm) (hok : OkPf a.1)
  (c : Dev nD)

include hok in
/-- An input's buffer holds, at every point, the block of its array that the point names. -/
theorem in_eq (w : Fin (cfg0 a).W) (hw : ((cfg0 a).win w).isOut = false) (hc : ∀ (i : (cfg0 a).grid.Coords) b, ((cfg0 a).win w).clip i b = none) :
    ∀ (n : ℕ) (h : n < (cfg0 a).N), inAt V a c w ⟨n, h⟩ = (dats V a hok 0 c).fetched w ⟨n, h⟩ (fun _ => Classical.arbitrary _)
  | 0, h => rfl
  | n + 1, h => by
    by_cases hf : ((cfg0 a).win w).fetch ⟨n + 1, h⟩ = true
    · exact Pipeline.heldIn_of_fetch (arr0 V a c) w ⟨n + 1, h⟩ hf
    · rw [Bool.not_eq_true] at hf
      obtain ⟨ht, hix⟩ := ((cfg0 a).win w).index_eq_of_fetch hw ⟨n + 1, h⟩ hf
      refine (Pipeline.heldIn_of_not_fetch (arr0 V a c) w n h hf).trans ((in_eq w hw hc n (Nat.lt_of_succ_lt h)).trans ?_)
      exact (dats V a hok 0 c).fetched_congr w hix.symm (funext fun b => (hc _ b).trans (hc _ b).symm) _

include hok in
theorem in0_at (t : Fin (cfg0 a).N) (h : t.val < nL a.1) (q : Fin 256) (l : Fin 1408) (r : Fin 53248) (hr : r.val = t.val * 256 + q.val) :
    inAt V a c 0 t (ix2 q l) = V c main_arg2 (ix2 r l) := by
  have e : inAt V a c 0 t = _ := in_eq V a hok c 0 rfl (fun _ _ => rfl) t.val t.isLt
  rw [e]
  unfold Dat.fetched Window.fill
  rw [dif_pos (((cfg0 a).win 0).moved_iff _ _ |>.mpr fun b => (ix2 q l b).isLt)]
  show arr0 V a c 0 ((((cfg0 a).win 0).rect t).emb _) = _
  refine congrArg (V c main_arg2) (funext fun b => Fin.ext ?_)
  refine (((cfg0 a).win 0).rect_emb_val t _ b).trans ?_
  rw [index0 a hok t]
  fin_cases b
  · show min t.val (nL a.1 - 1) * 256 + q.val = r.val
    rw [hr, Nat.min_eq_left (by omega)]
  · show 0 * 1408 + l.val = l.val
    omega

include hok in
theorem in1_at (t : Fin (cfg0 a).N) : inAt V a c 1 t = V c main_arg3 := by
  have e : inAt V a c 1 t = _ := in_eq V a hok c 1 rfl (fun _ _ => rfl) t.val t.isLt
  rw [e]
  funext y
  unfold Dat.fetched Window.fill
  rw [dif_pos (((cfg0 a).win 1).moved_iff _ _ |>.mpr fun b => (y b).isLt)]
  show arr0 V a c 1 ((((cfg0 a).win 1).rect t).emb _) = _
  refine congrArg (V c main_arg3) (funext fun b => Fin.ext ?_)
  refine (((cfg0 a).win 1).rect_emb_val_of_index_zero t b ?_ _).trans rfl
  fin_cases b <;> rfl

include hok in
theorem in2_at (t : Fin (cfg0 a).N) : inAt V a c 2 t = V c main_arg4 := by
  have e : inAt V a c 2 t = _ := in_eq V a hok c 2 rfl (fun _ _ => rfl) t.val t.isLt
  rw [e]
  funext y
  unfold Dat.fetched Window.fill
  rw [dif_pos (((cfg0 a).win 2).moved_iff _ _ |>.mpr fun b => (y b).isLt)]
  show arr0 V a c 2 ((((cfg0 a).win 2).rect t).emb _) = _
  refine congrArg (V c main_arg4) (funext fun b => Fin.ext ?_)
  refine (((cfg0 a).win 2).rect_emb_val_of_index_zero t b ?_ _).trans rfl
  fin_cases b <;> rfl

include hok in
/-- Two points that write the output back name different blocks. -/
theorem flush3_inj (t t' : Fin (cfg0 a).N) (hf : ((cfg0 a).win 3).flush t = true) (hf' : ((cfg0 a).win 3).flush t' = true)
    (h : ((cfg0 a).win 3).index t = ((cfg0 a).win 3).index t') : t = t' := by
  have hN := N_a a
  rw [index3 a hok, index3 a hok] at h
  have h0 : min t.val (nL a.1 - 1) = min t'.val (nL a.1 - 1) := congrFun h 0
  have key : ∀ t : Fin (cfg0 a).N, ((cfg0 a).win 3).flush t = true → t.val + 1 < nL a.1 ∨ t.val + 1 = 208 := fun t hf => by
    by_contra hn
    rw [not_or] at hn
    rw [flush3_late a hok t (by omega) hn.2] at hf
    exact absurd hf (by decide)
  have hle : nL a.1 ≤ 208 := hok.le
  have k := key t hf
  have k' := key t' hf'
  exact Fin.ext (by omega)

/-- The result at a live row: what its tile leaves there. -/
theorem arr_at (t : Fin (cfg0 a).N) (h : t.val < nL a.1) (q : Fin 256) (d : Fin 5120) (r : Fin 53248) (hr : r.val = t.val * 256 + q.val) :
    (dats V a hok 0 c).arrAt 3 (cfg0 a).N (ix2 r d) = outLive V a hok c t h (ix2 q d) := by
  have hN := N_a a
  have hle : nL a.1 ≤ 208 := hok.le
  obtain ⟨t', hf, hm⟩ : ∃ t' : Fin (cfg0 a).N, ((cfg0 a).win 3).flush t' = true ∧ min t'.val (nL a.1 - 1) = t.val := by
    by_cases h1 : t.val + 1 < nL a.1
    · exact ⟨t, flush3_live a hok t h1, by omega⟩
    · exact ⟨⟨207, by omega⟩, flush3_last a hok _ rfl, by show min 207 _ = _; omega⟩
  have hl : lastLive a t' = t := Fin.ext hm
  have hd := (dats V a hok 0 c).arrAt_emb_eq_flushed 3 (((cfg0 a).win 3).hdisj_of_index_inj (flush3_inj a hok)) t' hf (ix2 q d)
  have he : (((cfg0 a).win 3).blk t').view.emb (ix2 q d) = ix2 r d := by
    show (((cfg0 a).win 3).rect t').emb _ = _
    refine funext fun b => Fin.ext ?_
    refine (((cfg0 a).win 3).rect_emb_val t' _ b).trans ?_
    rw [index3 a hok t']
    fin_cases b
    · show min t'.val (nL a.1 - 1) * 256 + q.val = r.val
      rw [hm, hr]
    · show 0 * 5120 + d.val = d.val
      omega
  rw [he] at hd
  refine hd.trans ?_
  show (dats V a hok 0 c).after 3 t' (ix2 q d) = _
  rw [after_w3]
  unfold outAt
  congr 1

/-- A live row of a tile whose scale lanes are bytes and agree: the feed-forward of that row. -/
theorem live_at (t : Fin (cfg0 a).N) (h : t.val < nL a.1) (q : Fin 256) (d : Fin 5120) (r : Fin 53248) (hr : r.val = t.val * 256 + q.val)
    (hm : ∀ (m : ℕ) (hm : m < 4), m ≤ r.val % 4 → ∀ l : Fin 128, (V c main_arg2 (ix2 (Mask.wrow r m hm) ⟨1280 + l.val, by omega⟩)).toNat < 256
      ∧ V c main_arg2 (ix2 (Mask.wrow r m hm) ⟨1280 + l.val, by omega⟩) = V c main_arg2 (ix2 (Mask.wrow r m hm) ⟨1280, by omega⟩))
    (e : Fin 16) (he : e = expOf (Tab.tE (a.1 0) t.val)) :
    outLive V a hok c t h (ix2 q d)
      = Row.down (Row.hid (fun k : Fin 5120 => Ideal.ofBits .fp8e4m3 (Bytes.byte (V c main_arg2 (ix2 (Mask.wrow r (r.val % 4) (by omega)) ⟨k.val % 1280, by omega⟩)) (k.val / 1280)))
          (Ideal.ofBits .f32 (IntOp.shli .vector (V c main_arg2 (ix2 (Mask.wrow r (r.val % 4) (by omega)) ⟨1280, by omega⟩)) 23#32))
          (fun k f => V c main_arg5 (ix3 e k f)) (fun f => V c main_arg3 (ix3 e 0 f)))
        (fun f d => V c main_arg6 (ix3 e f d)) (fun d => V c main_arg4 (ix3 e 0 d)) d := by
  subst he
  have hq : q.val % 4 = r.val % 4 := by omega
  have hco : (((cfg0 a).grid.coords t) 0).val = t.val := co_a a t
  have hw : w2 c (tA a c) ((cfg0 a).grid.coords t) = Tab.tE (a.1 0) t.val := by
    show Tab.tE (a.1 0) (((cfg0 a).grid.coords t) 0).val = _
    rw [hco]
  have hX : (st0 a t).view.read (Elt Ideal) ((st0 a t).view.rep (inAt V a c 0 t)) = inAt V a c 0 t := View.read_rep _ _
  have h4 : (st1 a t).view.read (Elt Ideal) ((st1 a t).view.rep (inAt V a c 1 t)) = V c main_arg3 := (View.read_rep _ _).trans (in1_at V a hok c t)
  have h5 : (st2 a t).view.read (Elt Ideal) ((st2 a t).view.rep (inAt V a c 2 t)) = V c main_arg4 := (View.read_rep _ _).trans (in2_at V a hok c t)
  have hrow : ∀ (m : ℕ) (hm : m < 4) (l : Fin 1408), inAt V a c 0 t (ix2 ⟨srow q m, srow_lt q.2 hm⟩ l) = V c main_arg2 (ix2 (Mask.wrow r m hm) l) := fun m hm l => by
    refine in0_at V a hok c t h _ l (Mask.wrow r m hm) ?_
    show r.val / 32 * 32 + 8 * m + r.val % 32 / 4 = t.val * 256 + (q.val / 32 * 32 + 8 * m + q.val % 32 / 4)
    omega
  have hex : ∀ (m : ℕ) (hm : m < 4) (l : Fin 128), expoOf (inAt V a c 0 t) q m hm l = V c main_arg2 (ix2 (Mask.wrow r m hm) ⟨1280 + l.val, by omega⟩) :=
    fun m hm l => hrow m hm _
  have hs : ∀ l : Fin 128, scaleT (F := Ideal) c (st0 a t) ((st0 a t).view.rep (inAt V a c 0 t)) (ix2 q l)
      = Ideal.ofBits .f32 (IntOp.shli .vector (V c main_arg2 (ix2 (Mask.wrow r (r.val % 4) (by omega)) ⟨1280, by omega⟩)) 23#32) := fun l => by
    rw [scale_at c (st0 a t) _ q l (fun m hm' hle => by rw [hX, hex]; exact (hm m hm' (by omega) l).1), hX, hex]
    simp only [hq]
    rw [(hm (r.val % 4) (by omega) le_rfl l).2]
  unfold outLive tileVal tileW
  rw [out_eq, outPieces_at _ _ _ _ _ _ _ _ _ _ _ _ _ _ _ _ _ _ _ _ q _ hs (l2 c (tA a c) (mA a c) ((cfg0 a).grid.coords t) hok) d]
  unfold hidRow
  congr 1
  · congr 1
    · funext k
      unfold codeOf
      rw [hX, hrow (q.val % 4) (by omega)]
      simp only [hq]
    · funext k f
      unfold upRow
      rw [hw]
    · funext f
      unfold s1Row
      rw [h4, hw]
  · funext f d
    unfold dnRow
    rw [hw]
  · funext d
    unfold s2Row
    rw [h5, hw]

end Cert.Proof.FfnI

end
-- ==== Proof.Claims.lean ====
/-
  The frame claim of the kernel at one precondition, from the run of the whole program.
-/
module

public import proofs.«01_k».proof.Proof.Frame

@[expose] public section

set_option maxRecDepth 16384

noncomputable section

namespace Cert.Proof.Ffn

open Cert.Kernel Cert.Kernel.Gen
open Idealize.ShloMosaic
open Idealize.ShloMosaic.TcCoe
open Idealize.SL.Sem

variable {F : FTy → Type} [FloatOps F]

/-- What the run leaves in the seven arguments: their initial contents. -/
theorem args_kept (m : (ℓ : Loc nD τ sig) → Buf (Elt F) ℓ) (hok : OkPf (pf₀ m)) (r : PUnit × MemSt nD τ sig (Elt F)) (h : QC m hok r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  obtain ⟨hw, hp, h5, h6⟩ := h c
  obtain rfl := dev_zero c
  exact ⟨hp 0, hp 1, (hw 0).trans (finalA_in m hok 0 0 rfl), (hw 1).trans (finalA_in m hok 0 1 rfl), (hw 2).trans (finalA_in m hok 0 2 rfl), h5, h6⟩

/-- A precondition on the tables that holds of the arguments gives the facts about the prefetched tables. -/
theorem okPf_of (m : (ℓ : Loc nD τ sig) → Buf (Elt F) ℓ) [Cert.Pre_tables_ok.Facts]
    (h : ∀ c : Dev nD, Cert.Pre_tables_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) :
    OkPf (pf₀ m) :=
  Tab.ok_of_pre _ _ _ _ _ _ _ (h 0)

/-- The program runs, every semaphore counter ends at zero, and the arguments are unchanged. -/
theorem frame_of (m : (ℓ : Loc nD τ sig) → Buf (Elt F) ℓ) (ρ : Dev nD → PrngReg) (hok : OkPf (pf₀ m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m hok r h.1, h.2⟩) (run_main m ρ hok)

end Cert.Proof.Ffn

end
-- ==== Proof.ClaimsI.lean ====
/-
  The frame claim of the kernel at one precondition, from the run of the whole program.
-/
module

public import proofs.«01_k».proof.Proof.Claims
public import proofs.«01_k».proof.Proof.FrameI

@[expose] public section

set_option maxRecDepth 16384

noncomputable section

namespace Cert.Proof.FfnI

open Cert.KernelIdeal Cert.KernelIdeal.Gen
open Idealize.ShloMosaic
open Idealize.ShloMosaic.TcCoe
open Idealize.SL.Sem

variable {F : FTy → Type} [FloatOps F]

/-- What the run leaves in the seven arguments: their initial contents. -/
theorem args_kept (m : (ℓ : Loc nD τ sig) → Buf (Elt F) ℓ) (hok : OkPf (pf₀ m)) (r : PUnit × MemSt nD τ sig (Elt F)) (h : QC m hok r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) := by
  obtain ⟨hw, hp, h5, h6⟩ := h c
  obtain rfl := dev_zero c
  exact ⟨hp 0, hp 1, (hw 0).trans (finalA_in m hok 0 0 rfl), (hw 1).trans (finalA_in m hok 0 1 rfl), (hw 2).trans (finalA_in m hok 0 2 rfl), h5, h6⟩

/-- A precondition on the tables that holds of the arguments gives the facts about the prefetched tables. -/
theorem okPf_of (m : (ℓ : Loc nD τ sig) → Buf (Elt F) ℓ) [Cert.Pre_tables_ok.Facts]
    (h : ∀ c : Dev nD, Cert.Pre_tables_ok.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) :
    OkPf (pf₀ m) :=
  Tab.ok_of_pre _ _ _ _ _ _ _ (h 0)

/-- The program runs, every semaphore counter ends at zero, and the arguments are unchanged. -/
theorem frame_of (m : (ℓ : Loc nD τ sig) → Buf (Elt F) ℓ) (ρ : Dev nD → PrngReg) (hok : OkPf (pf₀ m)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m hok r h.1, h.2⟩) (run_main m ρ hok)

end Cert.Proof.FfnI

end
-- ==== Proof.RefRow.lean ====
/-
  The plain computation at a row: the sixteen selects leave, in each row, that row's feed-forward under its expert's
  weights.
-/
module

public import proofs.«01_k».proof.Proof.Gen.ReferenceIdeal.Frame
public import proofs.«01_k».proof.Proof.Row
public import proofs.«01_k».proof.Proof.Bytes

@[expose] public section

set_option maxRecDepth 16384

noncomputable section

namespace Cert.Proof.Ref

open Cert.ReferenceIdeal Cert.ReferenceIdeal.Gen
open Idealize.ShloMosaic
open Idealize.ShloMosaic.TcCoe

section Steps
variable {F : FTy → Type} [FloatOps F]

/-- The hidden rows under one expert's weights. -/
def hidS (a : FVec F S53248x5120 .fp8e4m3) (s : FVec F S53248x1 .f32) (W : Vec F S1x5120x2816 .fp8e4m3) (S : Vec F S1x1x2816 .f32) : FVec F S53248x1408 .f32 :=
  let g : FVec F S53248x2816 .f32 := mulf (mulf (matmul dot_S53248x5120_S5120x2816_S53248x2816_1_0_0_1_n_n none a
      (shapeCast S5120x2816 W shapeCasts_S1x5120x2816_S5120x2816) (constant S53248x2816 .f32 0x00000000#32))
      (broadcastTo S53248x2816 s broadcasts_S53248x1_S53248x2816))
    (broadcastTo S53248x2816 (shapeCast S1x2816 S shapeCasts_S1x1x2816_S1x2816) broadcasts_S1x2816_S53248x2816)
  mulf (mulf (extractStridedSlice S53248x1408 ![0, 0] g slices_S53248x2816_o0_0_S53248x1408)
    (logistic (extractStridedSlice S53248x1408 ![0, 0] g slices_S53248x2816_o0_0_S53248x1408)))
    (extractStridedSlice S53248x1408 ![0, 1408] g slices_S53248x2816_o0_1408_S53248x1408)

/-- The greatest magnitude of a row over 448. -/
def quoS (h : FVec F S53248x1408 .f32) : FVec F S53248x1 .f32 :=
  mulf (shapeCast S53248x1 (multiReduction .maximumf [1] S53248 (absf h) 0xFF800000#32 reduces_S53248x1408_S53248 (.inl rfl) rfl) shapeCasts_S53248_S53248x1)
    (broadcast S53248x1 (Scalar.ofBits .f32 0x3B124925#32))

/-- The greatest listed power of two not above it. -/
def powS (q : FVec F S53248x1 .f32) (tab : Vec F S1x252 .f32) : FVec F S53248x1 .f32 :=
  shapeCast S53248x1 (multiReduction .maximumf [1] S53248
    (select (cmpf .ole (broadcastTo S53248x252 tab broadcasts_S1x252_S53248x252) (broadcastTo S53248x252 q broadcasts_S53248x1_S53248x252))
      (broadcastTo S53248x252 (shapeCast S1x252 tab shapeCasts_S1x252_S1x252) broadcasts_S1x252_S53248x252)
      (broadcast S53248x252 (Scalar.ofBits .f32 0x00000000#32)))
    0xFF800000#32 reduces_S53248x252_S53248 (.inl rfl) rfl) shapeCasts_S53248_S53248x1

/-- The scale of a quantized row. -/
def sclS (p : FVec F S53248x1 .f32) : FVec F S53248x1 .f32 :=
  select (cmpf .ogt p (broadcast S53248x1 (Scalar.ofBits .f32 0x00000000#32)))
    (mulf (broadcast S53248x1 (Scalar.ofBits .f32 0x40000000#32)) p) (broadcast S53248x1 (Scalar.ofBits .f32 0x3F800000#32))

/-- The quantized rows. -/
def codS (h : FVec F S53248x1408 .f32) (s : FVec F S53248x1 .f32) : FVec F S53248x1408 .fp8e4m3 :=
  truncf .fp8e4m3 (minimumf (broadcast S53248x1408 (Scalar.ofBits .f32 0x43E00000#32)) (maximumf (broadcast S53248x1408 (Scalar.ofBits .f32 0xC3E00000#32))
    (mulf h (broadcastTo S53248x1408 (divf (broadcast S53248x1 (Scalar.ofBits .f32 0x3F800000#32)) s) broadcasts_S53248x1_S53248x1408)))) bitsLt_fp8e4m3_f32

/-- The rows through the down-projection. -/
def dwnS (c : FVec F S53248x1408 .fp8e4m3) (s : FVec F S53248x1 .f32) (W : Vec F S1x1408x5120 .fp8e4m3) (S : Vec F S1x1x5120 .f32) : FVec F S53248x5120 .f32 :=
  mulf (mulf (matmul dot_S53248x1408_S1408x5120_S53248x5120_1_0_0_1_n_n none c
      (shapeCast S1408x5120 W shapeCasts_S1x1408x5120_S1408x5120) (constant S53248x5120 .f32 0x00000000#32))
      (broadcastTo S53248x5120 s broadcasts_S53248x1_S53248x5120))
    (broadcastTo S53248x5120 (shapeCast S1x5120 S shapeCasts_S1x1x5120_S1x5120) broadcasts_S1x5120_S53248x5120)

/-- One expert's step: its rows take its result, the others keep theirs. -/
def stepS (e : BitVec 32) (ids : IVec S53248x1 32) (a : FVec F S53248x5120 .fp8e4m3) (s : FVec F S53248x1 .f32) (tab : Vec F S1x252 .f32)
    (W : Vec F S1x5120x2816 .fp8e4m3) (S : Vec F S1x1x2816 .f32) (W' : Vec F S1x1408x5120 .fp8e4m3) (S' : Vec F S1x1x5120 .f32)
    (prev : FVec F S53248x5120 .f32) : FVec F S53248x5120 .f32 :=
  select (broadcastTo S53248x5120 (shapeCast S53248x1 (cmpi .eq ids (broadcast S53248x1 e)) shapeCasts_S53248x1_S53248x1) broadcasts_S53248x1_S53248x5120)
    (dwnS (codS (hidS a s W S) (sclS (powS (quoS (hidS a s W S)) tab))) (sclS (powS (quoS (hidS a s W S)) tab)) W' S') prev

end Steps

/-! ## Read at a row -/

theorem ofBits_bot : Ideal.ofBits .f32 0xFF800000#32 = ⊥ := by
  simp [Ideal.ofBits, Ideal.ieee]

section At
variable (r : Fin 53248)

theorem hidS_at (a : FVec Ideal S53248x5120 .fp8e4m3) (s : FVec Ideal S53248x1 .f32) (W : Vec Ideal S1x5120x2816 .fp8e4m3) (S : Vec Ideal S1x1x2816 .f32) (f : Fin 1408) :
    hidS a s W S (ix2 r f) = Row.hid (fun k => a (ix2 r k)) (s (ix2 r 0)) (fun k f => W (ix3 0 k f)) (fun f => S (ix3 0 0 f)) f := by
  unfold hidS Row.hid Row.silu Row.proj Row.gateIx Row.upperIx
  pointwise

theorem red_max {n m : ℕ} (v : FVec Ideal ⟨2, ![n, m]⟩ .f32) (h : (⟨2, ![n, m]⟩ : Shape).Reduces [1] ⟨1, ![n]⟩) (hφ) (hacc) (r : Fin n) :
    multiReduction .maximumf [1] ⟨1, ![n]⟩ v 0xFF800000#32 h hφ hacc (ix1 r) = Finset.univ.fold max (Ideal.ofBits .f32 0xFF800000#32) fun k : Fin m => v (ix2 r k) := by
  pointwise

theorem col_at (v : FVec Ideal S53248 .f32) : shapeCast S53248x1 v shapeCasts_S53248_S53248x1 (ix2 r 0) = v (ix1 r) := by
  pointwise

theorem mul_const {s : Shape} (x : FVec Ideal s .f32) (b : BitVec 32) (i : s.Idx) :
    mulf x (broadcast s (Scalar.ofBits .f32 b)) i = x i * Ideal.ofBits .f32 b := rfl

theorem quo_at {n : ℕ} (h : FVec Ideal ⟨2, ![n, 1408]⟩ .f32) (hr : (⟨2, ![n, 1408]⟩ : Shape).Reduces [1] ⟨1, ![n]⟩) (hφ) (hacc)
    (hs : (⟨1, ![n]⟩ : Shape).ShapeCasts ⟨2, ![n, 1]⟩) (r : Fin n) (hc : ∀ v : FVec Ideal ⟨1, ![n]⟩ .f32, shapeCast ⟨2, ![n, 1]⟩ v hs (ix2 r 0) = v (ix1 r)) :
    mulf (shapeCast ⟨2, ![n, 1]⟩ (multiReduction .maximumf [1] ⟨1, ![n]⟩ (absf h) 0xFF800000#32 hr hφ hacc) hs)
      (broadcast ⟨2, ![n, 1]⟩ (Scalar.ofBits .f32 0x3B124925#32)) (ix2 r 0) = Row.qOf (fun f => h (ix2 r f)) := by
  unfold Row.qOf
  rw [mul_const, hc, red_max, ofBits_bot]
  rfl

theorem quoS_at (h : FVec Ideal S53248x1408 .f32) : quoS h (ix2 r 0) = Row.qOf (fun f => h (ix2 r f)) :=
  quo_at h _ _ _ _ r fun v => col_at r v

theorem powS_at (q : FVec Ideal S53248x1 .f32) (tab : Vec Ideal S1x252 .f32) (ht : ∀ c : Fin 252, tab (ix2 0 c) = Row.pw (c.val + 1)) :
    powS q tab (ix2 r 0) = Row.pmax (q (ix2 r 0)) := by
  unfold powS Row.pmax
  pointwise
  simp only [ht]
  rw [ofBits_bot]

theorem sclS_at (p : FVec Ideal S53248x1 .f32) : sclS p (ix2 r 0) = if 0 < p (ix2 r 0) then Ideal.ofBits .f32 0x40000000#32 * p (ix2 r 0) else 1 := by
  unfold sclS
  pointwise

theorem codS_at (h : FVec Ideal S53248x1408 .f32) (s : FVec Ideal S53248x1 .f32) (f : Fin 1408) :
    codS h s (ix2 r f) = min (Ideal.ofBits .f32 0x43E00000#32) (max (Ideal.ofBits .f32 0xC3E00000#32) (h (ix2 r f) * Ideal.div 1 (s (ix2 r 0)))) := by
  unfold codS
  pointwise

theorem dwnS_at (c : FVec Ideal S53248x1408 .fp8e4m3) (s : FVec Ideal S53248x1 .f32) (W : Vec Ideal S1x1408x5120 .fp8e4m3) (S : Vec Ideal S1x1x5120 .f32) (d : Fin 5120) :
    dwnS c s W S (ix2 r d) = (∑ f : Fin 1408, c (ix2 r f) * W (ix3 0 f d)) * s (ix2 r 0) * S (ix3 0 0 d) := by
  unfold dwnS
  pointwise

theorem stepS_at (e : BitVec 32) (ids : IVec S53248x1 32) (a : FVec Ideal S53248x5120 .fp8e4m3) (s : FVec Ideal S53248x1 .f32) (tab : Vec Ideal S1x252 .f32)
    (W : Vec Ideal S1x5120x2816 .fp8e4m3) (S : Vec Ideal S1x1x2816 .f32) (W' : Vec Ideal S1x1408x5120 .fp8e4m3) (S' : Vec Ideal S1x1x5120 .f32)
    (prev : FVec Ideal S53248x5120 .f32) (ht : ∀ c : Fin 252, tab (ix2 0 c) = Row.pw (c.val + 1)) (d : Fin 5120) :
    stepS e ids a s tab W S W' S' prev (ix2 r d) = if ids (ix2 r 0) = e then
      Row.down (Row.hid (fun k => a (ix2 r k)) (s (ix2 r 0)) (fun k f => W (ix3 0 k f)) (fun f => S (ix3 0 0 f))) (fun f d => W' (ix3 0 f d)) (fun d => S' (ix3 0 0 d)) d
      else prev (ix2 r d) := by
  have hq : sclS (powS (quoS (hidS a s W S)) tab) (ix2 r 0)
      = Row.scaleOf (Row.qOf (Row.hid (fun k => a (ix2 r k)) (s (ix2 r 0)) (fun k f => W (ix3 0 k f)) (fun f => S (ix3 0 0 f)))) := by
    rw [sclS_at, powS_at _ _ _ ht, quoS_at]; simp only [hidS_at]; rfl
  unfold stepS
  rw [show ∀ (c : IVec S53248x5120 1) (x y : FVec Ideal S53248x5120 .f32) i, select c x y i = Scalar.select (c i) (x i) (y i) from fun _ _ _ _ => rfl,
    dwnS_at, hq]
  simp only [codS_at, hq, hidS_at]
  pointwise
  rw [show IntOp.cmpi CmpIPredicate.eq (ids (ix2 r 0)) e = BitVec.ofBool (ids (ix2 r 0) == e) from rfl]
  by_cases h : ids (ix2 r 0) = e
  · rw [if_pos h, beq_iff_eq.2 h]; rfl
  · rw [if_neg h, beq_eq_false_iff_ne.2 h]; rfl

end At

end Cert.Proof.Ref

end
-- ==== Proof.RefEq.lean ====
/-
  The plain computation as sixteen steps, one an expert.
-/
module

public import proofs.«01_k».proof.Proof.Gen.ReferenceIdeal.Frame
public import proofs.«01_k».proof.Proof.RefRow

@[expose] public section

set_option maxRecDepth 16384

noncomputable section

namespace Cert.Proof.Ref

open Cert.ReferenceIdeal Cert.ReferenceIdeal.Gen
open Idealize.ShloMosaic
open Idealize.ShloMosaic.TcCoe

section Steps
variable {F : FTy → Type} [FloatOps F]

/-- The sixteen of them, over zeros. -/
def allS (x0 : Vec F S53248x1 .i32) (x1 : Vec F S53248x1408 .i32) (x2 : Vec F S1x252 .f32) (x3 : Vec F S16x1x2816 .f32) (x4 : Vec F S16x1x5120 .f32)
    (x5 : Vec F S16x5120x2816 .fp8e4m3) (x6 : Vec F S16x1408x5120 .fp8e4m3) : FVec F S53248x5120 .f32 :=
  (stepS 15#32 (k0_pay5 (View.ld x0 r0_1)) (k0_pay3 (View.ld x1 r0_0)) (k0_pay4 (View.ld x1 r0_0)) (View.ld x2 r0_2) (View.ld x5 r0_63) (View.ld x3 r0_64) (View.ld x6 r0_65) (View.ld x4 r0_66)
  (stepS 14#32 (k0_pay5 (View.ld x0 r0_1)) (k0_pay3 (View.ld x1 r0_0)) (k0_pay4 (View.ld x1 r0_0)) (View.ld x2 r0_2) (View.ld x5 r0_59) (View.ld x3 r0_60) (View.ld x6 r0_61) (View.ld x4 r0_62)
  (stepS 13#32 (k0_pay5 (View.ld x0 r0_1)) (k0_pay3 (View.ld x1 r0_0)) (k0_pay4 (View.ld x1 r0_0)) (View.ld x2 r0_2) (View.ld x5 r0_55) (View.ld x3 r0_56) (View.ld x6 r0_57) (View.ld x4 r0_58)
  (stepS 12#32 (k0_pay5 (View.ld x0 r0_1)) (k0_pay3 (View.ld x1 r0_0)) (k0_pay4 (View.ld x1 r0_0)) (View.ld x2 r0_2) (View.ld x5 r0_51) (View.ld x3 r0_52) (View.ld x6 r0_53) (View.ld x4 r0_54)
  (stepS 11#32 (k0_pay5 (View.ld x0 r0_1)) (k0_pay3 (View.ld x1 r0_0)) (k0_pay4 (View.ld x1 r0_0)) (View.ld x2 r0_2) (View.ld x5 r0_47) (View.ld x3 r0_48) (View.ld x6 r0_49) (View.ld x4 r0_50)
  (stepS 10#32 (k0_pay5 (View.ld x0 r0_1)) (k0_pay3 (View.ld x1 r0_0)) (k0_pay4 (View.ld x1 r0_0)) (View.ld x2 r0_2) (View.ld x5 r0_43) (View.ld x3 r0_44) (View.ld x6 r0_45) (View.ld x4 r0_46)
  (stepS 9#32 (k0_pay5 (View.ld x0 r0_1)) (k0_pay3 (View.ld x1 r0_0)) (k0_pay4 (View.ld x1 r0_0)) (View.ld x2 r0_2) (View.ld x5 r0_39) (View.ld x3 r0_40) (View.ld x6 r0_41) (View.ld x4 r0_42)
  (stepS 8#32 (k0_pay5 (View.ld x0 r0_1)) (k0_pay3 (View.ld x1 r0_0)) (k0_pay4 (View.ld x1 r0_0)) (View.ld x2 r0_2) (View.ld x5 r0_35) (View.ld x3 r0_36) (View.ld x6 r0_37) (View.ld x4 r0_38)
  (stepS 7#32 (k0_pay5 (View.ld x0 r0_1)) (k0_pay3 (View.ld x1 r0_0)) (k0_pay4 (View.ld x1 r0_0)) (View.ld x2 r0_2) (View.ld x5 r0_31) (View.ld x3 r0_32) (View.ld x6 r0_33) (View.ld x4 r0_34)
  (stepS 6#32 (k0_pay5 (View.ld x0 r0_1)) (k0_pay3 (View.ld x1 r0_0)) (k0_pay4 (View.ld x1 r0_0)) (View.ld x2 r0_2) (View.ld x5 r0_27) (View.ld x3 r0_28) (View.ld x6 r0_29) (View.ld x4 r0_30)
  (stepS 5#32 (k0_pay5 (View.ld x0 r0_1)) (k0_pay3 (View.ld x1 r0_0)) (k0_pay4 (View.ld x1 r0_0)) (View.ld x2 r0_2) (View.ld x5 r0_23) (View.ld x3 r0_24) (View.ld x6 r0_25) (View.ld x4 r0_26)
  (stepS 4#32 (k0_pay5 (View.ld x0 r0_1)) (k0_pay3 (View.ld x1 r0_0)) (k0_pay4 (View.ld x1 r0_0)) (View.ld x2 r0_2) (View.ld x5 r0_19) (View.ld x3 r0_20) (View.ld x6 r0_21) (View.ld x4 r0_22)
  (stepS 3#32 (k0_pay5 (View.ld x0 r0_1)) (k0_pay3 (View.ld x1 r0_0)) (k0_pay4 (View.ld x1 r0_0)) (View.ld x2 r0_2) (View.ld x5 r0_15) (View.ld x3 r0_16) (View.ld x6 r0_17) (View.ld x4 r0_18)
  (stepS 2#32 (k0_pay5 (View.ld x0 r0_1)) (k0_pay3 (View.ld x1 r0_0)) (k0_pay4 (View.ld x1 r0_0)) (View.ld x2 r0_2) (View.ld x5 r0_11) (View.ld x3 r0_12) (View.ld x6 r0_13) (View.ld x4 r0_14)
  (stepS 1#32 (k0_pay5 (View.ld x0 r0_1)) (k0_pay3 (View.ld x1 r0_0)) (k0_pay4 (View.ld x1 r0_0)) (View.ld x2 r0_2) (View.ld x5 r0_7) (View.ld x3 r0_8) (View.ld x6 r0_9) (View.ld x4 r0_10)
  (stepS 0#32 (k0_pay5 (View.ld x0 r0_1)) (k0_pay3 (View.ld x1 r0_0)) (k0_pay4 (View.ld x1 r0_0)) (View.ld x2 r0_2) (View.ld x5 r0_3) (View.ld x3 r0_4) (View.ld x6 r0_5) (View.ld x4 r0_6)
  k0_pay6))))))))))))))))

set_option maxHeartbeats 4000000 in
theorem out_eq (x0 : Vec F S53248x1 .i32) (x1 : Vec F S53248x1408 .i32) (x2 : Vec F S1x252 .f32) (x3 : Vec F S16x1x2816 .f32) (x4 : Vec F S16x1x5120 .f32)
    (x5 : Vec F S16x5120x2816 .fp8e4m3) (x6 : Vec F S16x1408x5120 .fp8e4m3) :
    out0_7 x0 x1 x2 x3 x4 x5 x6 = View.canon [⟨r0_67, allS x0 x1 x2 x3 x4 x5 x6⟩] := rfl

end Steps

end Cert.Proof.Ref

end
-- ==== Proof.RefAt.lean ====
/-
  The plain computation read at a row: the row's expert's step, over the row's codes and scale.
-/
module

public import proofs.«01_k».proof.Proof.RefEq

@[expose] public section

set_option maxRecDepth 16384

noncomputable section

namespace Cert.Proof.Ref

open Cert.ReferenceIdeal Cert.ReferenceIdeal.Gen
open Idealize.ShloMosaic
open Idealize.ShloMosaic.TcCoe

/-- A row's codes: byte `k / 1280` of word `k % 1280`. -/
def codeRow (x1 : Vec Ideal S53248x1408 .i32) (r : Fin 53248) (k : Fin 5120) : EReal :=
  Ideal.ofBits .fp8e4m3 (Bytes.byte (x1 (ix2 r ⟨k.val % 1280, by omega⟩)) (k.val / 1280))
/-- A row's scale. -/
def sclRow (x1 : Vec Ideal S53248x1408 .i32) (r : Fin 53248) : EReal :=
  Ideal.ofBits .f32 (IntOp.shli .vector (x1 (ix2 r ⟨1280, by norm_num⟩)) 23#32)

section At
variable (x0 : Vec Ideal S53248x1 .i32) (x1 : Vec Ideal S53248x1408 .i32) (x2 : Vec Ideal S1x252 .f32) (x3 : Vec Ideal S16x1x2816 .f32) (x4 : Vec Ideal S16x1x5120 .f32)
  (x5 : Vec Ideal S16x5120x2816 .fp8e4m3) (x6 : Vec Ideal S16x1408x5120 .fp8e4m3) (r : Fin 53248)

theorem zero2 : (![0, 0] : Fin 2 → ℕ) = fun _ => 0 := by
  funext a; fin_cases a <;> rfl

theorem spread_at (v : FVec Ideal S212992x1280 .fp8e4m3) (k : Fin 5120) :
    shapeCast S53248x5120 v shapeCasts_S212992x1280_S53248x5120 (ix2 r k) = v (ix2 ⟨r.val * 4 + k.val / 1280, by omega⟩ ⟨k.val % 1280, by omega⟩) := by
  pointwise

theorem split_at (x : IVec S53248x1280 32) (k : Fin 5120) :
    shapeCast S53248x5120 (bitcastToFloat (F := Ideal) .fp8e4m3 (bitcast S212992x1280 8 x bitcasts_S53248x1280_w32_S212992x1280_w8)) shapeCasts_S212992x1280_S53248x5120 (ix2 r k)
      = Ideal.ofBits .fp8e4m3 (Bytes.byte (x (ix2 r ⟨k.val % 1280, by omega⟩)) (k.val / 1280)) := by
  rw [spread_at]
  show Ideal.ofBits .fp8e4m3 (bitcast S212992x1280 8 x bitcasts_S53248x1280_w32_S212992x1280_w8 _) = _
  rw [Bytes.bitcast_bytes x _ _ _ r (by show r.val = (r.val * 4 + k.val / 1280) / 4; omega)]
  congr 2
  show (r.val * 4 + k.val / 1280) % 4 = k.val / 1280
  omega

theorem pay3_at (k : Fin 5120) : k0_pay3 (View.ld x1 r0_0) (ix2 r k) = codeRow x1 r k := by
  unfold k0_pay3 k0_pay2 codeRow
  rw [View.ld_unit_zero zero2]
  dsimp only
  rw [split_at]
  pointwise

theorem pay4_at : k0_pay4 (View.ld x1 r0_0) (ix2 r 0) = sclRow x1 r := by
  unfold k0_pay4 k0_pay2 sclRow
  rw [View.ld_unit_zero zero2]
  pointwise

theorem pay5_at : k0_pay5 (F := Ideal) (View.ld x0 r0_1) (ix2 r 0) = x0 (ix2 r 0) := by
  unfold k0_pay5
  rw [View.ld_unit_zero zero2]
  pointwise

theorem ld5_at (e : ℕ) (he : e < 16) (inb) (k : Fin 5120) (f : Fin 2816) :
    View.ld x5 (Rect.unit (s := S16x5120x2816) ![e, 0, 0] S1x5120x2816.size inb) (ix3 0 k f) = x5 (ix3 ⟨e, he⟩ k f) :=
  View.ld_unit_apply_of x5 _ _ _ _ _ fun a => by
    fin_cases a
    · rfl
    · exact (Nat.zero_add _).symm
    · exact (Nat.zero_add _).symm
theorem ld3_at (e : ℕ) (he : e < 16) (inb) (f : Fin 2816) :
    View.ld x3 (Rect.unit (s := S16x1x2816) ![e, 0, 0] S1x1x2816.size inb) (ix3 0 0 f) = x3 (ix3 ⟨e, he⟩ 0 f) :=
  View.ld_unit_apply_of x3 _ _ _ _ _ fun a => by
    fin_cases a
    · rfl
    · rfl
    · exact (Nat.zero_add _).symm
theorem ld6_at (e : ℕ) (he : e < 16) (inb) (k : Fin 1408) (f : Fin 5120) :
    View.ld x6 (Rect.unit (s := S16x1408x5120) ![e, 0, 0] S1x1408x5120.size inb) (ix3 0 k f) = x6 (ix3 ⟨e, he⟩ k f) :=
  View.ld_unit_apply_of x6 _ _ _ _ _ fun a => by
    fin_cases a
    · rfl
    · exact (Nat.zero_add _).symm
    · exact (Nat.zero_add _).symm
theorem ld4_at (e : ℕ) (he : e < 16) (inb) (f : Fin 5120) :
    View.ld x4 (Rect.unit (s := S16x1x5120) ![e, 0, 0] S1x1x5120.size inb) (ix3 0 0 f) = x4 (ix3 ⟨e, he⟩ 0 f) :=
  View.ld_unit_apply_of x4 _ _ _ _ _ fun a => by
    fin_cases a
    · rfl
    · rfl
    · exact (Nat.zero_add _).symm

/-- The row a result row is, under expert `e`. -/
def rowOf (e : Fin 16) (d : Fin 5120) : EReal :=
  Row.down (Row.hid (codeRow x1 r) (sclRow x1 r) (fun k f => x5 (ix3 e k f)) (fun f => x3 (ix3 e 0 f))) (fun f d => x6 (ix3 e f d)) (fun d => x4 (ix3 e 0 d)) d

/-- One expert's step read at a row. -/
theorem step_at (e : ℕ) (he : e < 16) (i5 i3 i6 i4) (prev : FVec Ideal S53248x5120 .f32) (ht : ∀ c : Fin 252, x2 (ix2 0 c) = Row.pw (c.val + 1)) (d : Fin 5120) :
    stepS (BitVec.ofNat 32 e) (k0_pay5 (F := Ideal) (View.ld x0 r0_1)) (k0_pay3 (View.ld x1 r0_0)) (k0_pay4 (View.ld x1 r0_0)) (View.ld x2 r0_2)
      (View.ld x5 (Rect.unit (s := S16x5120x2816) ![e, 0, 0] S1x5120x2816.size i5)) (View.ld x3 (Rect.unit (s := S16x1x2816) ![e, 0, 0] S1x1x2816.size i3))
      (View.ld x6 (Rect.unit (s := S16x1408x5120) ![e, 0, 0] S1x1408x5120.size i6)) (View.ld x4 (Rect.unit (s := S16x1x5120) ![e, 0, 0] S1x1x5120.size i4)) prev (ix2 r d)
    = if x0 (ix2 r 0) = BitVec.ofNat 32 e then rowOf x1 x3 x4 x5 x6 r ⟨e, he⟩ d else prev (ix2 r d) := by
  rw [View.ld_unit_zero zero2 _ x2, stepS_at r _ _ _ _ _ _ _ _ _ _ ht, pay5_at]
  rw [show (fun k f => View.ld x5 (Rect.unit (s := S16x5120x2816) ![e, 0, 0] S1x5120x2816.size i5) (ix3 0 k f)) = fun k f => x5 (ix3 ⟨e, he⟩ k f)
      from funext₂ fun k f => ld5_at x5 e he _ k f,
    show (fun f => View.ld x3 (Rect.unit (s := S16x1x2816) ![e, 0, 0] S1x1x2816.size i3) (ix3 0 0 f)) = fun f => x3 (ix3 ⟨e, he⟩ 0 f)
      from funext fun f => ld3_at x3 e he _ f,
    show (fun k f => View.ld x6 (Rect.unit (s := S16x1408x5120) ![e, 0, 0] S1x1408x5120.size i6) (ix3 0 k f)) = fun k f => x6 (ix3 ⟨e, he⟩ k f)
      from funext₂ fun k f => ld6_at x6 e he _ k f,
    show (fun f => View.ld x4 (Rect.unit (s := S16x1x5120) ![e, 0, 0] S1x1x5120.size i4) (ix3 0 0 f)) = fun f => x4 (ix3 ⟨e, he⟩ 0 f)
      from funext fun f => ld4_at x4 e he _ f,
    show (fun k => k0_pay3 (View.ld x1 r0_0) (ix2 r k)) = codeRow x1 r from funext fun k => pay3_at x1 r k, pay4_at]
  rfl

theorem ids_inj {v : BitVec 32} (e : Fin 16) (he : v = BitVec.ofNat 32 e.val) {n : ℕ} (h : v = BitVec.ofNat 32 n) (hn : n < 16 := by norm_num) : e.val = n := by
  have := congrArg BitVec.toNat (he.symm.trans h)
  simp only [BitVec.toNat_ofNat] at this
  omega

theorem allS_at (ht : ∀ c : Fin 252, x2 (ix2 0 c) = Row.pw (c.val + 1)) (e : Fin 16) (he : x0 (ix2 r 0) = BitVec.ofNat 32 e.val) (d : Fin 5120) :
    allS x0 x1 x2 x3 x4 x5 x6 (ix2 r d) = rowOf x1 x3 x4 x5 x6 r e d := by
  unfold allS
  refine (step_at x0 x1 x2 x3 x4 x5 x6 r 15 (by norm_num) _ _ _ _ _ ht d).trans ?_
  by_cases h15 : e.val = 15
  · obtain rfl : e = ⟨15, by norm_num⟩ := Fin.ext h15
    exact if_pos he
  rw [if_neg (fun h => h15 (ids_inj e he h))]
  refine (step_at x0 x1 x2 x3 x4 x5 x6 r 14 (by norm_num) _ _ _ _ _ ht d).trans ?_
  by_cases h14 : e.val = 14
  · obtain rfl : e = ⟨14, by norm_num⟩ := Fin.ext h14
    exact if_pos he
  rw [if_neg (fun h => h14 (ids_inj e he h))]
  refine (step_at x0 x1 x2 x3 x4 x5 x6 r 13 (by norm_num) _ _ _ _ _ ht d).trans ?_
  by_cases h13 : e.val = 13
  · obtain rfl : e = ⟨13, by norm_num⟩ := Fin.ext h13
    exact if_pos he
  rw [if_neg (fun h => h13 (ids_inj e he h))]
  refine (step_at x0 x1 x2 x3 x4 x5 x6 r 12 (by norm_num) _ _ _ _ _ ht d).trans ?_
  by_cases h12 : e.val = 12
  · obtain rfl : e = ⟨12, by norm_num⟩ := Fin.ext h12
    exact if_pos he
  rw [if_neg (fun h => h12 (ids_inj e he h))]
  refine (step_at x0 x1 x2 x3 x4 x5 x6 r 11 (by norm_num) _ _ _ _ _ ht d).trans ?_
  by_cases h11 : e.val = 11
  · obtain rfl : e = ⟨11, by norm_num⟩ := Fin.ext h11
    exact if_pos he
  rw [if_neg (fun h => h11 (ids_inj e he h))]
  refine (step_at x0 x1 x2 x3 x4 x5 x6 r 10 (by norm_num) _ _ _ _ _ ht d).trans ?_
  by_cases h10 : e.val = 10
  · obtain rfl : e = ⟨10, by norm_num⟩ := Fin.ext h10
    exact if_pos he
  rw [if_neg (fun h => h10 (ids_inj e he h))]
  refine (step_at x0 x1 x2 x3 x4 x5 x6 r 9 (by norm_num) _ _ _ _ _ ht d).trans ?_
  by_cases h9 : e.val = 9
  · obtain rfl : e = ⟨9, by norm_num⟩ := Fin.ext h9
    exact if_pos he
  rw [if_neg (fun h => h9 (ids_inj e he h))]
  refine (step_at x0 x1 x2 x3 x4 x5 x6 r 8 (by norm_num) _ _ _ _ _ ht d).trans ?_
  by_cases h8 : e.val = 8
  · obtain rfl : e = ⟨8, by norm_num⟩ := Fin.ext h8
    exact if_pos he
  rw [if_neg (fun h => h8 (ids_inj e he h))]
  refine (step_at x0 x1 x2 x3 x4 x5 x6 r 7 (by norm_num) _ _ _ _ _ ht d).trans ?_
  by_cases h7 : e.val = 7
  · obtain rfl : e = ⟨7, by norm_num⟩ := Fin.ext h7
    exact if_pos he
  rw [if_neg (fun h => h7 (ids_inj e he h))]
  refine (step_at x0 x1 x2 x3 x4 x5 x6 r 6 (by norm_num) _ _ _ _ _ ht d).trans ?_
  by_cases h6 : e.val = 6
  · obtain rfl : e = ⟨6, by norm_num⟩ := Fin.ext h6
    exact if_pos he
  rw [if_neg (fun h => h6 (ids_inj e he h))]
  refine (step_at x0 x1 x2 x3 x4 x5 x6 r 5 (by norm_num) _ _ _ _ _ ht d).trans ?_
  by_cases h5 : e.val = 5
  · obtain rfl : e = ⟨5, by norm_num⟩ := Fin.ext h5
    exact if_pos he
  rw [if_neg (fun h => h5 (ids_inj e he h))]
  refine (step_at x0 x1 x2 x3 x4 x5 x6 r 4 (by norm_num) _ _ _ _ _ ht d).trans ?_
  by_cases h4 : e.val = 4
  · obtain rfl : e = ⟨4, by norm_num⟩ := Fin.ext h4
    exact if_pos he
  rw [if_neg (fun h => h4 (ids_inj e he h))]
  refine (step_at x0 x1 x2 x3 x4 x5 x6 r 3 (by norm_num) _ _ _ _ _ ht d).trans ?_
  by_cases h3 : e.val = 3
  · obtain rfl : e = ⟨3, by norm_num⟩ := Fin.ext h3
    exact if_pos he
  rw [if_neg (fun h => h3 (ids_inj e he h))]
  refine (step_at x0 x1 x2 x3 x4 x5 x6 r 2 (by norm_num) _ _ _ _ _ ht d).trans ?_
  by_cases h2 : e.val = 2
  · obtain rfl : e = ⟨2, by norm_num⟩ := Fin.ext h2
    exact if_pos he
  rw [if_neg (fun h => h2 (ids_inj e he h))]
  refine (step_at x0 x1 x2 x3 x4 x5 x6 r 1 (by norm_num) _ _ _ _ _ ht d).trans ?_
  by_cases h1 : e.val = 1
  · obtain rfl : e = ⟨1, by norm_num⟩ := Fin.ext h1
    exact if_pos he
  rw [if_neg (fun h => h1 (ids_inj e he h))]
  refine (step_at x0 x1 x2 x3 x4 x5 x6 r 0 (by norm_num) _ _ _ _ _ ht d).trans ?_
  by_cases h0 : e.val = 0
  · obtain rfl : e = ⟨0, by norm_num⟩ := Fin.ext h0
    exact if_pos he
  rw [if_neg (fun h => h0 (ids_inj e he h))]
  exact absurd e.isLt (by omega)

end At

end Cert.Proof.Ref

end
-- ==== Proof.RefEnd.lean ====
/-
  What the plain program leaves in its result, read at a row over the arguments.
-/
module

public import proofs.«01_k».proof.Proof.RefAt
public import Idealize.ShloMosaic.Lib.StableHlo.ReadAt

@[expose] public section

set_option maxRecDepth 16384

noncomputable section

namespace Cert.Proof.Ref

open Cert.ReferenceIdeal Cert.ReferenceIdeal.Gen
open Idealize.ShloMosaic
open Idealize.ShloMosaic.TcCoe

variable (m : (ℓ : Loc nD τ sig) → Buf (Elt Ideal) ℓ) (c : Dev nD)

/-- The expert of a row: the table's entry for its tile. -/
theorem ids_at (r : Fin 53248) : V m c main_v3 (ix2 r 0) = m ((c : Thread nD τ).loc main_arg0) (ix1 ⟨r.val / 256, by omega⟩) := by
  unfold V hostOps0
  after_reads_at

/-- The row a result row is read from. -/
def srcRow (r : Fin 53248) : Fin 53248 := ⟨r.val / 32 * 32 + 8 * (r.val % 4) + r.val % 32 / 4, by omega⟩

theorem rows_at (r : Fin 53248) (l : Fin 1408) : V m c main_v6 (ix2 r l) = m ((c : Thread nD τ).loc main_arg2) (ix2 (srcRow r) l) := by
  unfold V hostOps0
  after_reads_at
  refine congrArg (m (c, Proc.tc.devRef main_arg2)) (congrArg (ix2 · l) (Fin.ext ?_))
  show r.val / 32 * 32 + r.val % 4 * 8 + r.val / 4 % 8 = r.val / 32 * 32 + 8 * (r.val % 4) + r.val % 32 / 4
  omega

theorem lit_eq (k : Fin 252) : lit0 k = BitVec.ofNat 32 ((k.val + 1) * 2 ^ 23) := by
  revert k; decide +kernel

theorem powers_at (k : Fin 252) : V m c main_cst (ix2 0 k) = Row.pw (k.val + 1) := by
  unfold V hostOps0
  after_reads_simp
  show Ideal.ofBits .f32 (lit0 (S1x252.rowMajor (ix2 0 k))) = _
  unfold Row.pw
  rw [show S1x252.rowMajor (ix2 0 k) = k from Fin.ext (by simp [Shape.rowMajor_val_two])]
  rw [lit_eq]

/-- Every window's block index at the one point. -/
theorem idx : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) :=
  (by decide +kernel : ∀ t : Fin grid0.N, _)

theorem blk0 : iblk m c 0 t0_0 = V m c main_v3 := by blk_ext! [iblk, idx t0_0]
theorem blk1 : iblk m c 1 t0_0 = V m c main_v6 := by blk_ext! [iblk, idx t0_0]
theorem blk2 : iblk m c 2 t0_0 = V m c main_cst := by blk_ext! [iblk, idx t0_0]
theorem blk3 : iblk m c 3 t0_0 = m ((c : Thread nD τ).loc main_arg3) := by rw [← V_main_arg3 m c]; blk_ext! [iblk, idx t0_0]
theorem blk4 : iblk m c 4 t0_0 = m ((c : Thread nD τ).loc main_arg4) := by rw [← V_main_arg4 m c]; blk_ext! [iblk, idx t0_0]
theorem blk5 : iblk m c 5 t0_0 = m ((c : Thread nD τ).loc main_arg5) := by rw [← V_main_arg5 m c]; blk_ext! [iblk, idx t0_0]
theorem blk6 : iblk m c 6 t0_0 = m ((c : Thread nD τ).loc main_arg6) := by rw [← V_main_arg6 m c]; blk_ext! [iblk, idx t0_0]

/-- The result array at the end. -/
theorem final : (dats m 0 c).arrAt 7 cfg0.N = allS (V m c main_v3) (V m c main_v6) (V m c main_cst) (m ((c : Thread nD τ).loc main_arg3)) (m ((c : Thread nD τ).loc main_arg4))
    (m ((c : Thread nD τ).loc main_arg5)) (m ((c : Thread nD τ).loc main_arg6)) := by
  refine (dats m 0 c).arrAt_eq_of_after_last 7 t0_0 (by decide +kernel) _ fun j => ?_
  blk_simp
  rw [after0_7, blk0, blk1, blk2, blk3, blk4, blk5, blk6, out_eq]
  rw [View.canon_cons_unit_zero zero2]

/-- A row's result over the arguments. -/
theorem final_at (r : Fin 53248) (d : Fin 5120) (e : Fin 16) (he : m ((c : Thread nD τ).loc main_arg0) (ix1 ⟨r.val / 256, by omega⟩) = BitVec.ofNat 32 e.val) :
    (dats m 0 c).arrAt 7 cfg0.N (ix2 r d) = rowOf (V m c main_v6) (m ((c : Thread nD τ).loc main_arg3)) (m ((c : Thread nD τ).loc main_arg4))
      (m ((c : Thread nD τ).loc main_arg5)) (m ((c : Thread nD τ).loc main_arg6)) r e d := by
  rw [final]
  exact allS_at _ _ _ _ _ _ _ r (powers_at m c) e ((ids_at m c r).trans he) d

end Cert.Proof.Ref

end
-- ==== Proof.Agree.lean ====
/-
  The two programs at a live row: both leave the same feed-forward of that row.
-/
module

public import proofs.«01_k».proof.Proof.ValueI
public import proofs.«01_k».proof.Proof.ClaimsI
public import proofs.«01_k».proof.Proof.RefEnd

@[expose] public section

set_option maxRecDepth 16384

noncomputable section

namespace Cert.Proof.Agree

open Idealize.ShloMosaic
open Idealize.ShloMosaic.TcCoe
open Idealize.SL.Sem

theorem tIx_eq (k : ℕ) (h : k < 1024) : Tab.tIx k = ix1 ⟨k, h⟩ := by
  funext b
  fin_cases b
  exact Fin.ext (Nat.mod_eq_of_lt h)
theorem mIx_eq : Tab.mIx 32 = ix1 32 := by
  funext b
  fin_cases b
  rfl

theorem expOf_word (v : BitVec 32) (h : v.toNat < 16) : v = BitVec.ofNat 32 (FfnI.expOf v).val := by
  rw [FfnI.expOf_val h, BitVec.ofNat_toNat, BitVec.setWidth_eq]

theorem row_congr (A A' : Fin 5120 → EReal) (s s' : EReal) (u v w z) (d : Fin 5120) (hA : A = A') (hs : s = s') :
    Row.down (Row.hid A s u v) w z d = Row.down (Row.hid A' s' u v) w z d := by
  rw [hA, hs]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hok : FfnI.OkPf (FfnI.pf₀ m)) [Cert.On_live_rows.Facts] (c : Dev Cert.KernelIdeal.nD)

/-- What the call's run leaves in its result. -/
def resK : Buf (Elt Ideal) ((c.tc : Thread Cert.KernelIdeal.nD Cert.KernelIdeal.τ).loc Cert.KernelIdeal.main_v0) := FfnI.finalA m hok c 3

/-- An element of the result that the mask keeps: the plain program's is the call's. -/
theorem row_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (r : Fin 53248) (d : Fin 5120)
    (hm : Cert.On_live_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (ix2 r d) = 1#1) :
    (Cert.ReferenceIdeal.Gen.dats m' 0 c).arrAt 7 Cert.ReferenceIdeal.cfg0.N (ix2 r d) = resK m hok c (ix2 r d) := by
  obtain rfl := FfnI.dev_zero c
  have hr := r.isLt
  have hle : Tab.nT (FfnI.pf₀ m 1) ≤ 208 := hok.le
  have hn : (m (((0 : Dev Cert.KernelIdeal.nD).tc : Thread Cert.KernelIdeal.nD Cert.KernelIdeal.τ).loc Cert.KernelIdeal.main_arg1) (ix1 32)).toNat = Tab.nT (FfnI.pf₀ m 1) :=
    congrArg (fun x => BitVec.toNat (FfnI.pf₀ m 1 x)) mIx_eq.symm
  obtain ⟨hlive, hlanes⟩ := Mask.decode _ _ _ _ _ _ _ (by rw [hn]; exact hle) r d hm
  rw [hn] at hlive
  have ht : r.val / 256 < Tab.nT (FfnI.pf₀ m 1) := by omega
  have hN : (Cert.KernelIdeal.cfg0 (FfnI.adm₀ m hok)).N = 208 := FfnI.N_a _
  have hv : (Tab.tE (FfnI.pf₀ m 0) (r.val / 256)).toNat < 16 := hok.expert _ (by omega)
  have ew : FfnI.pf₀ m 0 (ix1 ⟨r.val / 256, by omega⟩) = Tab.tE (FfnI.pf₀ m 0) (r.val / 256) :=
    congrArg (FfnI.pf₀ m 0) (tIx_eq _ (by omega)).symm
  refine (Ref.final_at m' 0 r d (FfnI.expOf (Tab.tE (FfnI.pf₀ m 0) (r.val / 256))) ?_).trans ?_
  · rw [h0]
    exact ew.trans (expOf_word _ hv)
  · refine Eq.trans ?_ ((FfnI.arr_at (FfnI.V₀ m) (FfnI.adm₀ m hok) hok 0 ⟨r.val / 256, by omega⟩ ht ⟨r.val % 256, by omega⟩ d r (by show r.val = r.val / 256 * 256 + r.val % 256; omega)).trans
      (FfnI.live_at (FfnI.V₀ m) (FfnI.adm₀ m hok) hok 0 ⟨r.val / 256, by omega⟩ ht ⟨r.val % 256, by omega⟩ d r (by show r.val = r.val / 256 * 256 + r.val % 256; omega) hlanes _ rfl)).symm
    unfold Ref.rowOf Ref.codeRow Ref.sclRow
    rw [h3, h4, h5, h6]
    have hrow : ∀ l : Fin 1408, Cert.ReferenceIdeal.Gen.V m' 0 Cert.ReferenceIdeal.main_v6 (ix2 r l) = FfnI.V₀ m 0 Cert.KernelIdeal.main_arg2 (ix2 (Mask.wrow r (r.val % 4) (by omega)) l) := fun l => by
      rw [Ref.rows_at, h2]
      rfl
    exact row_congr _ _ _ _ _ _ _ _ d (funext fun k => by rw [hrow]) (by rw [hrow])

/-- The call's run leaves its result as said, and the arguments unchanged. -/
theorem run_kernel (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD, r.2.mem ((c.tc : Thread Cert.KernelIdeal.nD Cert.KernelIdeal.τ).loc Cert.KernelIdeal.main_v0) = resK m hok c) ∧ FfnI.QC m hok r) :=
  (θ_run _ _ _).mono (fun r h => ⟨fun c => (h.1 c).1 3, h.1⟩) (FfnI.run_main m g hok)

/-- The plain program's run leaves the library's result, and the arguments unchanged. -/
theorem run_plain (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      ∀ c : Dev Cert.ReferenceIdeal.nD, r.2.mem ((c.tc : Thread Cert.ReferenceIdeal.nD Cert.ReferenceIdeal.τ).loc Cert.ReferenceIdeal.main_v7)
        = (Cert.ReferenceIdeal.Gen.dats m' 0 c).arrAt 7 Cert.ReferenceIdeal.cfg0.N) :=
  (θ_run _ _ _).mono (fun r h c => (h c).1 7) (Cert.ReferenceIdeal.Gen.run_main m' g')

end Cert.Proof.Agree

end
-- ==== Proof.CombNames.lean ====
/-
  The names the proof of the combining kernel works with: the two slots of its buffer by rows, the rows of the
  contributions, the two semaphores, and the positions read as rows.
-/
module

public import proofs.«01_k».proof.Defs
public import proofs.«01_k».proof.Proof.Gen.Combine.Launch
public import proofs.«01_k».proof.Proof.Gen.Combine.Skeleton
public import Idealize.ShloMosaic.Lib.Pipeline.Quiescent
public import Idealize.ShloMosaic.Lib.Pipeline.FrameBody
public import Idealize.ShloMosaic.Lib.Ring
public import Idealize.ShloMosaic.Lib.Batch
public import Idealize.ShloMosaic.Lib.ShareLeaves
public import Idealize.ShloMosaic.Lib.Pointwise.Reshape
public import Idealize.ShloMosaic.Lib.Affine
public import Idealize.ShloMosaic.Lib.Tactic

@[expose] public section

noncomputable section

namespace Cert.Proof.Comb

open Cert.Combine Cert.Combine.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The names -/

abbrev pM : Memref sig .tc .smem S49152 .i32 := Memref.whole main_arg0
abbrev cM : Memref sig .tc .hbm S53248x5120 .f32 := Memref.whole main_arg2
abbrev bM : Memref sig .tc .vmem S2x2x128x5120 .f32 := Memref.whole cc0_scratch0

/-- Copy `j` of a step lands in row `j / 2` of half `j % 2` of slot `s`. -/
abbrev rowOff (s : Fin 2) (j : ℕ) : Fin 4 → Nat := ![s.val, j % 2, j / 2, 0]
abbrev srcOff (p : ℕ) : Fin 2 → Nat := ![p, 0]
abbrev cellOff (s : Fin 2) : Fin 1 → Nat := ![s.val]

theorem row_inb (s : Fin 2) (j : Fin 256) : ∀ a, rowOff s j.val a + S1x1x1x5120.size a ≤ S2x2x128x5120.size a := by
  have := s.isLt; have := j.isLt; intro a; fin_cases a
  · show s.val + 1 ≤ 2; omega
  · show j.val % 2 + 1 ≤ 2; omega
  · show j.val / 2 + 1 ≤ 128; omega
  · show 0 + 5120 ≤ 5120; omega
theorem src_inb (p : Fin 53248) : ∀ a, srcOff p.val a + S1x5120.size a ≤ S53248x5120.size a := by
  have := p.isLt; intro a; fin_cases a
  · show p.val + 1 ≤ 53248; omega
  · show 0 + 5120 ≤ 5120; omega
theorem cell_inb (s : Fin 2) : ∀ a, cellOff s a + S1.size a ≤ S2.size a := by
  have := s.isLt; intro a; fin_cases a; show s.val + 1 ≤ 2; omega

/-- The row copy `j` lands in. -/
def rowM (s : Fin 2) (j : Fin 256) : Memref sig .tc .vmem S1x5120 .f32 :=
  (bM.slice (Rect.unit (s := S2x2x128x5120) (rowOff s j.val) S1x1x1x5120.size (row_inb s j)) (fun _ => rfl)).squeeze S1x5120 squeezes_S1x1x1x5120_S1x5120
/-- Row `p` of the contributions. -/
def srcM (p : Fin 53248) : Memref sig .tc .hbm S1x5120 .f32 :=
  cM.slice (Rect.unit (s := S53248x5120) (srcOff p.val) S1x5120.size (src_inb p)) (fun _ => rfl)
/-- The semaphore of slot `s`. -/
def csm (s : Fin 2) : DmaSems sig S_ :=
  (cc0_scratch1.slice (Rect.unit (s := S2) (cellOff s) S1.size (cell_inb s))).squeeze S_ squeezes_S1_S_

/-! ## The positions -/

def pIx (k : ℕ) : S49152.Idx := fun a => match a with | 0 => (Fin.ofNat 49152 k : Fin 49152)
/-- Position `k`, and the row it names. -/
def pW (T : S49152.Idx → BitVec 32) (k : ℕ) : BitVec 32 := T (pIx k)
def pR (T : S49152.Idx → BitVec 32) (k : ℕ) : Fin 53248 := Fin.ofNat 53248 (pW T k).toNat
/-- Every position names a row. -/
def RowsOk (T : S49152.Idx → BitVec 32) : Prop := ∀ k, (pW T k).toNat < 53248
theorem pR_val {T : S49152.Idx → BitVec 32} (h : RowsOk T) (k : ℕ) : (pR T k).val = (pW T k).toNat := Nat.mod_eq_of_lt (h k)

/-! ## The slots by rows -/

def RW (s : Fin 2) (j : Fin 256) : Finset S2x2x128x5120.Idx := (Rect.unit (s := S2x2x128x5120) (rowOff s j.val) S1x1x1x5120.size (row_inb s j)).set
def SLO (s : Fin 2) : Finset S2x2x128x5120.Idx := Finset.univ.filter fun y => (y 0).val = s.val
theorem row_set (s : Fin 2) (j : Fin 256) : (rowM s j).view.set = RW s j := (View.set_reshape _ _).trans (View.set_slice_whole _ _)
theorem mem_RW (s : Fin 2) (j : Fin 256) (y : S2x2x128x5120.Idx) : y ∈ RW s j ↔ (y 0).val = s.val ∧ 2 * (y 2).val + (y 1).val = j.val := by
  unfold RW
  rw [Rect.mem_set_unit]
  have h1 : (y 1).val < 2 := (y 1).isLt
  have h2 : (y 2).val < 128 := (y 2).isLt
  have h3 : (y 3).val < 5120 := (y 3).isLt
  constructor
  · intro H
    have a0 : s.val ≤ (y 0).val ∧ (y 0).val < s.val + 1 := H 0
    have a1 : j.val % 2 ≤ (y 1).val ∧ (y 1).val < j.val % 2 + 1 := H 1
    have a2 : j.val / 2 ≤ (y 2).val ∧ (y 2).val < j.val / 2 + 1 := H 2
    omega
  · intro H a; fin_cases a
    · show s.val ≤ (y 0).val ∧ (y 0).val < s.val + 1; omega
    · show j.val % 2 ≤ (y 1).val ∧ (y 1).val < j.val % 2 + 1; omega
    · show j.val / 2 ≤ (y 2).val ∧ (y 2).val < j.val / 2 + 1; omega
    · show 0 ≤ (y 3).val ∧ (y 3).val < 0 + 5120; omega
theorem RW_disjoint (s : Fin 2) : ∀ j ∈ (Finset.univ : Finset (Fin 256)), ∀ j' ∈ (Finset.univ : Finset (Fin 256)), j ≠ j' → Disjoint (RW s j) (RW s j') := by
  intro j _ j' _ hne; rw [Finset.disjoint_left]; intro y hy hy'
  rw [mem_RW] at hy hy'; exact hne (Fin.ext (hy.2.symm.trans hy'.2))
theorem RW_cover (s : Fin 2) : (Finset.univ : Finset (Fin 256)).biUnion (RW s) = SLO s := by
  ext y
  have h1 : (y 1).val < 2 := (y 1).isLt
  have h2 : (y 2).val < 128 := (y 2).isLt
  simp only [Finset.mem_biUnion, Finset.mem_univ, true_and, SLO, Finset.mem_filter]
  constructor
  · rintro ⟨j, hj⟩; exact ((mem_RW s j y).1 hj).1
  · intro h; exact ⟨⟨2 * (y 2).val + (y 1).val, by omega⟩, (mem_RW _ _ _).2 ⟨h, rfl⟩⟩
theorem SLO_disjoint : ∀ s s' : Fin 2, s ≠ s' → Disjoint (SLO s) (SLO s') := by
  intro s s' hne; rw [Finset.disjoint_left]; intro y hy hy'
  simp only [SLO, Finset.mem_filter, Finset.mem_univ, true_and] at hy hy'
  exact hne (Fin.ext (hy.symm.trans hy'))
theorem SLO_cover : (Finset.univ : Finset (Fin 2)).biUnion SLO = Finset.univ := by
  ext y; simp only [Finset.mem_biUnion, Finset.mem_univ, true_and, iff_true, SLO, Finset.mem_filter]
  exact ⟨(y 0).cast (by decide), rfl⟩

/-! ## What a step's copies leave -/

def gIx (p : Fin 53248) (y : Fin 5120) : S53248x5120.Idx := fun a => match a with | 0 => p | 1 => y
section
variable (c : Dev nD) (X : Buf (Elt F) (cM.view.loc (c : Thread nD τ))) (T : S49152.Idx → BitVec 32)
/-- The rows of step `n`, laid over both slots. -/
def G (n : ℕ) : Buf (Elt F) (bM.view.loc (c : Thread nD τ)) := fun y => X (gIx (pR T (256 * n + (2 * (y 2).val + (y 1).val))) (y 3))

theorem sq_idx (x : S1x5120.Idx) (y : S1x1x1x5120.Idx) (h : (y 3).val = (x 1).val) :
    Shape.reshapeEquiv squeezes_S1x1x1x5120_S1x5120.numel_eq x = y := by
  have e0 : (x 0).val = 0 := Nat.lt_one_iff.1 (x 0).isLt
  have f0 : (y 0).val = 0 := Nat.lt_one_iff.1 (y 0).isLt
  have f1 : (y 1).val = 0 := Nat.lt_one_iff.1 (y 1).isLt
  have f2 : (y 2).val = 0 := Nat.lt_one_iff.1 (y 2).isLt
  refine Shape.reshapeEquiv_eq_of_vals _ x y _ _ (rowMajor_val4 y 5120 5120 5120 rfl rfl rfl) (rowMajor_val2 x 5120 rfl) ?_
  omega

/-- The place of element `x` of copy `j`'s row. -/
def rowE (s : Fin 2) (j : Fin 256) (x : S1x5120.Idx) : S2x2x128x5120.Idx := (rowM s j).view.emb x
/-- What copy `j` of step `n` writes is the step's rows at that row. -/
theorem land_eq (s : Fin 2) (n : ℕ) (j : Fin 256) (f : Buf (Elt F) ((rowM s j).view.loc (c : Thread nD τ))) :
    ∀ y ∈ RW s j, ((rowM s j).view.write (Elt F) f (ReadAs.same.apply ((srcM (pR T (256 * n + j.val))).view.read (Elt F) X)) Finset.univ) y = G c X T n y := by
  intro y hy
  rw [← row_set] at hy
  obtain ⟨x, -, rfl⟩ := Finset.mem_map.mp hy
  have hj := (mem_RW s j (rowE s j x)).1 ((row_set s j) ▸ hy)
  have h3 : (rowE s j x 3).val = (x 1).val := by
    obtain ⟨z, hz⟩ : ∃ z : S1x1x1x5120.Idx, (z 3).val = (x 1).val := ⟨fun a => match a with | 0 => ⟨0, by decide⟩ | 1 => ⟨0, by decide⟩ | 2 => ⟨0, by decide⟩ | 3 => x 1, rfl⟩
    show 0 + 1 * ((Shape.reshapeEquiv squeezes_S1x1x1x5120_S1x5120.numel_eq x : S1x1x1x5120.Idx) 3).val = _
    rw [sq_idx x z hz, hz]; omega
  refine (View.write_emb_of_mem _ _ (Finset.mem_univ x)).trans ?_
  show X ((srcM (pR T (256 * n + j.val))).view.emb x) = X (gIx (pR T (256 * n + (2 * (rowE s j x 2).val + (rowE s j x 1).val))) (rowE s j x 3))
  refine congrArg X ?_
  rw [hj.2]
  have e0 : (x 0).val = 0 := Nat.lt_one_iff.1 (x 0).isLt
  have e1 : ∀ z : S53248x5120.Idx, (z 0).val = (pR T (256 * n + j.val)).val → (z 1).val = (rowE s j x 3).val → z = gIx (pR T (256 * n + j.val)) (rowE s j x 3) := by
    intro z h0 h1; funext a
    match a with
    | 0 => exact Fin.ext h0
    | 1 => exact Fin.ext h1
  refine e1 _ ?_ ?_
  · show (pR T (256 * n + j.val)).val + 1 * (x 0).val = (pR T (256 * n + j.val)).val; omega
  · refine Eq.trans ?_ h3.symm; show 0 + 1 * (x 1).val = (x 1).val; omega

/-! ## The copies of a step -/

/-- The credit of one copy. -/
def NN : ℕ := (rowM 0 0).view.dmaCredit
theorem NN_pos : 0 < NN := View.dmaCredit_pos (rowM 0 0).view (by decide)
abbrev CS (p : Fin 53248) : Finset S53248x5120.Idx := (srcM p).view.set
/-- The share the copies into slot `s` read the contributions at. -/
def qs : Fin 2 → PosShare TreeShare := fun | 0 => fullShare.left | 1 => fullShare.right
def cP (s : Fin 2) : sProp 𝕄 := cM.view.loc (c : Thread nD τ) ↦[Finset.univ]{qs s} X
def tk (s : Fin 2) (n : ℕ) (j : Fin 256) : sProp 𝕄 := cM.view.loc (c : Thread nD τ) ↦[CS (pR T (256 * n + j.val))]{ShareLeaves.leaf 8 (qs s) j} X
def tr (s : Fin 2) (n : ℕ) (j : Fin 256) : sProp 𝕄 := cM.view.loc (c : Thread nD τ) ↦[Finset.univ \ CS (pR T (256 * n + j.val))]{ShareLeaves.leaf 8 (qs s) j} X
def rP (s : Fin 2) (j : Fin 256) : sProp 𝕄 := iprop(∃ f, bM.view.loc (c : Thread nD τ) ↦[RW s j]{fullShare} f)
/-- What copy `j` of step `n` hands over on arrival: its row, and the contribution back. -/
def DD (s : Fin 2) (n : ℕ) (j : Fin 256) : sProp 𝕄 :=
  iprop((bM.view.loc (c : Thread nD τ) ↦[RW s j]{fullShare} (G c X T n)) ∗ cM.view.loc (c : Thread nD τ) ↦[CS (pR T (256 * n + j.val))]{ShareLeaves.leaf 8 (qs s) j} X)
instance DD_storable (s : Fin 2) (n : ℕ) (j : Fin 256) : BI.Storable (upEmb : UEmb _ 𝕄) (DD c X T s n j) := by
  unfold DD; infer_instance
def bt (s : Fin 2) (n j u : ℕ) : sProp 𝕄 :=
  Transfers.Batch countersEmb (c : Thread nD τ) (.dma (csm s).sem) () NN (DD c X T s n) j u
def Iss (s : Fin 2) (n j : ℕ) : sProp 𝕄 :=
  iprop(bt c X T s n j 0 ∗ bigSep (Transfers.pending (n := 256) j) (fun t => iprop(rP c s t ∗ tk c X T s n t)) ∗ bigSep Finset.univ (tr c X T s n))
/-- Slot `s` with step `n` on its way, `u` units of it waited for. -/
def Fly (s : Fin 2) (n u : ℕ) : sProp 𝕄 := iprop(bt c X T s n 256 u ∗ bigSep Finset.univ (tr c X T s n))
def cell (s : Fin 2) : sProp 𝕄 := semVal ((c : Thread nD τ), SemLoc.dma (csm s).sem) 0
/-- Slot `s` with nothing on its way. -/
def Free (s : Fin 2) : sProp 𝕄 := iprop((∃ f, bM.view.loc (c : Thread nD τ) ↦[SLO s]{fullShare} f) ∗ cell c s ∗ cP c X s)
/-- Slot `s` with step `n` arrived. -/
def Got (s : Fin 2) (n : ℕ) : sProp 𝕄 := iprop((bM.view.loc (c : Thread nD τ) ↦[SLO s]{fullShare} (G c X T n)) ∗ cell c s ∗ cP c X s)

omit [FloatOps F] in
/-- Elements held together are held piece by piece. -/
theorem pieces {B : Type} [Fintype B] {ℓ : Loc nD τ sig} {q : PosShare TreeShare} (S : Finset (Idx ℓ)) (K : B → Finset (Idx ℓ))
    (hd : ∀ b ∈ (Finset.univ : Finset B), ∀ b' ∈ (Finset.univ : Finset B), b ≠ b' → Disjoint (K b) (K b'))
    (hc : ∀ y, y ∈ S ↔ ∃ b, y ∈ K b) (f : Buf (Elt F) ℓ) : (ℓ ↦[S]{q} f : sProp 𝕄) = bigSep Finset.univ fun b => ℓ ↦[K b]{q} f := by
  have e : S = Finset.univ.biUnion K := by ext y; simp only [Finset.mem_biUnion, Finset.mem_univ, true_and, hc]
  rw [e, pointsTo_biUnion Finset.univ K hd]
/-- The contributions at a slot's share, dealt to its copies. -/
theorem cP_deal (s : Fin 2) (n : ℕ) : cP c X s = iprop(bigSep Finset.univ (tk c X T s n) ∗ bigSep Finset.univ (tr c X T s n)) := by
  unfold cP
  refine (ShareLeaves.pointsTo_leaves _ _ 8 (qs s)).trans (Eq.trans ?_ (bigSep_sep' Finset.univ (tk c X T s n) (tr c X T s n)))
  refine bigSep_congr fun j _ => ?_
  unfold tk tr
  exact BI.Entails.antisymm (pointsTo_split_subset (Finset.subset_univ _)).1 (pointsTo_split_subset (Finset.subset_univ _)).2
theorem slot_rows (s : Fin 2) (f) : (bM.view.loc (c : Thread nD τ) ↦[SLO s]{fullShare} f : sProp 𝕄) = bigSep Finset.univ (fun j => bM.view.loc (c : Thread nD τ) ↦[RW s j]{fullShare} f) := by
  have hc : ∀ y, y ∈ SLO s ↔ ∃ b, y ∈ RW s b := fun y => by rw [← RW_cover s]; simp only [Finset.mem_biUnion, Finset.mem_univ, true_and]
  exact pieces (ℓ := bM.view.loc (c : Thread nD τ)) (SLO s) (RW s) (RW_disjoint s) hc f

theorem iss_start (s : Fin 2) (n : ℕ) : Free c X s ⊢ |={Set.univ}=> Iss c X T s n 0 := by
  unfold Free Iss cell
  rw [cP_deal c X T s n, ← Transfers.bigSep_pending_zero, bigSep_sep']
  iintro ⟨⟨%f, HB⟩, Hc, HK, HR⟩
  imod (Transfers.batch_alloc' (Lvl := ℕ) countersEmb (c : Thread nD τ) () NN (DD c X T s n) (sm := .dma (csm s).sem) (E := Set.univ)) $$ Hc with HT
  imodintro
  ihave HB' := (entails_of_eq (slot_rows c s f)) $$ HB
  isplitl [HT]; · unfold bt; iexact HT
  isplitr [HR]
  · isplitl [HB']
    · iapply (show bigSep Finset.univ (fun j => bM.view.loc (c : Thread nD τ) ↦[RW s j]{fullShare} f) ⊢ bigSep Finset.univ (rP c s) from
        BI.bigSep_mono fun j _ => show (bM.view.loc (c : Thread nD τ) ↦[RW s j]{fullShare} f : sProp 𝕄) ⊢ rP c s j from by unfold rP; iintro H; iexists f; iexact H)
      iexact HB'
    iexact HK
  iexact HR
theorem iss_end (s : Fin 2) (n : ℕ) : Iss c X T s n 256 ⊢ Fly c X T s n 0 := by
  unfold Iss Fly
  iintro ⟨HT, -, HR⟩
  isplitl [HT] <;> iassumption
theorem fly_got (s : Fin 2) (n : ℕ) : Fly c X T s n (NN * 256) ⊢ |={Set.univ}=> Got c X T s n := by
  unfold Fly Got cell bt
  rw [cP_deal c X T s n, slot_rows]
  iintro ⟨HT, HR⟩
  imod (Transfers.batch_collect' countersEmb (c : Thread nD τ) NN_pos) $$ HT with ⟨HD, Hc⟩
  imodintro
  ihave HD' := (show bigSep Finset.univ (DD c X T s n) ⊢ iprop(bigSep Finset.univ (fun j => bM.view.loc (c : Thread nD τ) ↦[RW s j]{fullShare} (G c X T n)) ∗ bigSep Finset.univ (tk c X T s n)) from
    entails_of_eq (bigSep_sep' _ _ _)) $$ HD
  icases HD' with ⟨HB, HK⟩
  isplitl [HB]; · iexact HB
  isplitl [Hc]; · iexact Hc
  isplitl [HK] <;> iassumption
theorem got_free (s : Fin 2) (n : ℕ) : Got c X T s n ⊢ Free c X s := by
  unfold Got Free
  iintro ⟨HB, H⟩
  isplitl [HB]; · iexists _; iexact HB
  iexact H
end

end Cert.Proof.Comb

end
-- ==== Proof.CombIssue.lean ====
/-
  One copy of the combining kernel started: the position loaded, checked, and its row sent for.
-/
module

public import proofs.«01_k».proof.Proof.CombNames

@[expose] public section

noncomputable section

namespace Cert.Proof.Comb

open Cert.Combine Cert.Combine.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (c : Dev nD) (X : Buf (Elt F) (cM.view.loc (c : Thread nD τ))) (T : Buf (Elt F) (pM.view.loc (c : Thread nD τ)))

abbrev pP (q : PosShare TreeShare) : sProp 𝕄 := pM.view.loc (c : Thread nD τ) ↦[pM.view.set]{q} T

theorem p_read (k : Nat) (off : Fin 1 → Nat) (inb) (pf) (hk : off = ![k]) (hl : k < 49152) :
    View.read (Elt F) (pM.access (Rect.unit (s := S49152) off S1.size inb)) T (Shape.Idx.first (s := S1) pf) = pW T k := by
  subst hk
  rw [View.read_apply]
  unfold pW pIx
  refine congrArg T (funext fun x => ?_)
  fin_cases x
  apply Fin.ext
  have h0 : ((Shape.Idx.first (s := S1) pf) 0).val = 0 := Nat.lt_one_iff.1 ((Shape.Idx.first (s := S1) pf) 0).isLt
  show k + 1 * ((Shape.Idx.first (s := S1) pf) 0).val = k % 49152
  rw [h0, Nat.mod_eq_of_lt hl]; rfl

theorem row_amount (s : Fin 2) (j : Fin 256) : (rowM s j).view.amount (.dma (csm s).sem) = NN := rfl

set_option maxHeartbeats 1000000 in
theorem issue_full {α : Type} {Q : α → sProp 𝕄} (hT : RowsOk T) (q : PosShare TreeShare) (s : Fin 2) (n j : ℕ) (hj : j < 256) (hn : 256 * n + j < 49152)
    (chk : BitVec 32 → Prop) (dec : ∀ v, Decidable (chk v)) (hchk : ∀ v : BitVec 32, v.toNat < 53248 → chk v)
    (oL : Fin 1 → ℕ) (iL : ∀ a, oL a + S1.size a ≤ S49152.size a) (hl) (pf)
    (oS : BitVec 32 → Fin 2 → ℕ) (iS : ∀ v, chk v → ∀ a, oS v a + S1x5120.size a ≤ S53248x5120.size a)
    (oD : Fin 4 → ℕ) (iD : ∀ a, oD a + S1x1x1x5120.size a ≤ S2x2x128x5120.size a)
    (oC : Fin 1 → ℕ) (iC : ∀ a, oC a + S1.size a ≤ S2.size a)
    (eL : oL = ![256 * n + j]) (eD : oD = rowOff s j) (eC : oC = cellOff s) (eS : ∀ v, oS v = srcOff v.toNat) (h2 h3)
    (k : PUnit → Prog (TpuEff nD τ sig (Elt F) Λ₀ .tc) α) :
    iprop(pP c T q ∗ Iss c X T s n j) ⊢ iprop((iprop(pP c T q ∗ Iss c X T s n (j + 1)) -∗ wp frame (wpE (defs₀ (F := F)) 𝒱₀ (c : Thread nD τ) none) Set.univ (k ⟨⟩) Q)
      -∗ wp frame (wpE (defs₀ (F := F)) 𝒱₀ (c : Thread nD τ) none) Set.univ
        (.op (.load pM (Rect.unit (s := S49152) oL S1.size iL).toLoadRect hl) fun f =>
          .op (.assume (chk (f (Shape.Idx.first (s := S1) pf))) (dec (f (Shape.Idx.first (s := S1) pf)))) fun hw =>
          .op (.enqueueDmaAs (cM.slice (Rect.unit (s := S53248x5120) (oS (f (Shape.Idx.first (s := S1) pf))) S1x5120.size (iS (f (Shape.Idx.first (s := S1) pf)) hw.down)) (fun _ => rfl))
            (.here ((bM.slice (Rect.unit (s := S2x2x128x5120) oD S1x1x1x5120.size iD) (fun _ => rfl)).squeeze S1x5120 squeezes_S1x1x1x5120_S1x5120)) .same
            (.dma ((cc0_scratch1.slice (Rect.unit (s := S2) oC S1.size iC)).squeeze S_ squeezes_S1_S_).sem) (View.wordExact_bits rfl) h2 h3) k) Q) := by
  subst eL eD eC
  obtain rfl : oS = fun v => srcOff v.toNat := funext eS
  have hv := hT (256 * n + j)
  have hp : pR T (256 * n + j) = ⟨(pW T (256 * n + j)).toNat, hv⟩ := Fin.ext (pR_val hT _)
  iintro ⟨HT, HI⟩ Hk
  iapply (wp_load_rect 𝒱₀ (c : Thread nD τ) none Set.univ (m := pM) (r := Rect.unit (s := S49152) ![256 * n + j] S1.size iL) (S := pM.view.set) (q := q) (f := T) (View.set_slice_subset _ _)) $$ HT
  iintro HT
  rw [p_read c T (256 * n + j) _ iL pf rfl hn]
  iapply (wp_assume 𝒱₀ (c : Thread nD τ) none Set.univ (hchk _ hv))
  unfold Iss bt
  rw [Transfers.bigSep_pending_step _ j hj]
  icases HI with ⟨HB, ⟨⟨HR, HK⟩, HP⟩, HX⟩
  unfold rP tk
  icases HR with ⟨%f, HR⟩
  ihave HK' := (show (cM.view.loc (c : Thread nD τ) ↦[CS (pR T (256 * n + j))]{ShareLeaves.leaf 8 (qs s) ⟨j, hj⟩} X : sProp 𝕄) ⊢
      ((srcM ⟨(pW T (256 * n + j)).toNat, hv⟩).view.loc (c : Thread nD τ) ↦[(srcM ⟨(pW T (256 * n + j)).toNat, hv⟩).view.set]{ShareLeaves.leaf 8 (qs s) ⟨j, hj⟩} X) from by rw [hp]; exact .rfl) $$ HK
  iapply (Transfers.wp_dmaBatch countersEmb 𝒱₀ (c : Thread nD τ) none (n := 256) (src := srcM ⟨(pW T (256 * n + j)).toNat, hv⟩) (dst := rowM s ⟨j, hj⟩) (via := .same) (sm := .dma (csm s).sem) (D := DD c X T s n) (j := j) (u := 0) (fs := X) (fd := f) (q := ShareLeaves.leaf 8 (qs s) ⟨j, hj⟩)
    (Sd := RW s ⟨j, hj⟩) () NN (row_amount s ⟨j, hj⟩) (row_set s ⟨j, hj⟩).le hj (Nat.zero_le _) ?_) $$ [HB HR HK']
  rotate_left
  · isplitl [HK']; · iexact HK'
    isplitl [HR]; · iexact HR
    iexact HB
  · iintro HB
    iapply Hk
    isplitl [HT]; · iexact HT
    isplitl [HB]; · iexact HB
    isplitl [HP]; · iexact HP
    iexact HX
  · rw [← hp]
    unfold DD
    have e := pointsTo_congr (Ix := Unit) (Name := ℕ) (U := UU nD τ) (Lvl := ℕ) (q := fullShare) (ℓ := bM.view.loc (c : Thread nD τ)) (I := RW s ⟨j, hj⟩) (land_eq c X T s n ⟨j, hj⟩ f)
    iintro ⟨H, HK⟩
    isplitl [H]
    · iapply (entails_of_eq e); iexact H
    iexact HK
end

end Cert.Proof.Comb
-- ==== Proof.CombLoops.lean ====
/-
  The loops of the combining kernel: the copies of a step started, and waited for.
-/
module

public import proofs.«01_k».proof.Proof.CombIssue

@[expose] public section

noncomputable section

namespace Cert.Proof.Comb

open Cert.Combine Cert.Combine.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The grid point's step and slots -/

theorem co_lt (i : grid0.Coords) : (i 0).val < 192 := (i 0).isLt
/-- The slot of step `n`. -/
def sl (n : ℕ) : Fin 2 := ⟨n % 2, Nat.mod_lt _ (by decide)⟩
theorem and1 : ∀ a : Fin 192, (Scalar.andi (BitVec.ofNat 32 a.val) 1#32).toNat = a.val % 2 := by decide
theorem sub1 : ∀ a : Fin 192, (Scalar.subi 1#32 (Scalar.andi (BitVec.ofNat 32 a.val) 1#32)).toNat = (a.val + 1) % 2 := by decide
theorem cond1_iff : ∀ a : Fin 192, (Scalar.cmpi .ne (Scalar.extui (Scalar.cmpi .eq (BitVec.ofNat 32 a.val) 0#32) : BitVec 32) 0#32 = 1#1) ↔ a.val = 0 := by decide
theorem cond2_iff : ∀ a : Fin 192, (Scalar.cmpi .ne (Scalar.extui (Scalar.cmpi .slt (Scalar.addi (BitVec.ofNat 32 a.val) 1#32) 192#32) : BitVec 32) 0#32 = 1#1) ↔ a.val < 191 := by decide
theorem c1 (i : grid0.Coords) : k0_cond1 i = 1#1 ↔ (i 0).val = 0 := cond1_iff ⟨(i 0).val, co_lt i⟩
theorem c2 (i : grid0.Coords) : k0_cond2 i = 1#1 ↔ (i 0).val < 191 := cond2_iff ⟨(i 0).val, co_lt i⟩
theorem vec4 {a b c d a' b' c' d' : ℕ} (h0 : a = a') (h1 : b = b') (h2 : c = c') (h3 : d = d') : ![a, b, c, d] = ![a', b', c', d'] := by subst h0 h1 h2 h3; rfl
theorem vec1 {a a' : ℕ} (h0 : a = a') : ![a] = ![a'] := by subst h0; rfl
theorem tr1 (t : Fin k0_t1_loop.trips) : t.val < 32 := Nat.lt_of_lt_of_eq t.isLt (by decide)
theorem tr2 (t : Fin k0_t2_loop.trips) : t.val < 32 := Nat.lt_of_lt_of_eq t.isLt (by decide)
theorem tr3 (t : Fin k0_t3_loop.trips) : t.val < 128 := Nat.lt_of_lt_of_eq t.isLt (by decide)
theorem iv3 : ∀ t : Fin 128, (Scf.iv 0#32 1#32 t.val).toNat = t.val := by decide
theorem row0 : ∀ t : Fin 32, (Scalar.addi (Scalar.muli (Scf.iv 0#32 1#32 t.val) 4#32) 0#32).toNat = 4 * t.val + 0 := by decide
theorem row1 : ∀ t : Fin 32, (Scalar.addi (Scalar.muli (Scf.iv 0#32 1#32 t.val) 4#32) 1#32).toNat = 4 * t.val + 1 := by decide
theorem row2 : ∀ t : Fin 32, (Scalar.addi (Scalar.muli (Scf.iv 0#32 1#32 t.val) 4#32) 2#32).toNat = 4 * t.val + 2 := by decide
theorem row3 : ∀ t : Fin 32, (Scalar.addi (Scalar.muli (Scf.iv 0#32 1#32 t.val) 4#32) 3#32).toNat = 4 * t.val + 3 := by decide
theorem ix2 (a : ℕ) (ha : a < 192) (v : BitVec 32) (x r : ℕ) (hv : v.toNat = x) (hx : x < 128) (hr : r < 2) :
    (Scalar.addi (Scalar.muli (Scalar.addi (Scalar.muli (Scalar.addi (BitVec.ofNat 32 a) 1#32) 128#32) v) 2#32) (BitVec.ofNat 32 r)).toNat = 256 * (a + 1) + (2 * x + r) := by
  simp only [Scalar.addi, Scalar.muli, IntOp.addi, IntOp.muli, BitVec.toNat_add, BitVec.toNat_mul, BitVec.toNat_ofNat, hv]
  omega
theorem ix1 (v : BitVec 32) (x r : ℕ) (hv : v.toNat = x) (hx : x < 128) (hr : r < 2) :
    (Scalar.addi (Scalar.muli (Scalar.addi 0#32 v) 2#32) (BitVec.ofNat 32 r)).toNat = 256 * 0 + (2 * x + r) := by
  simp only [Scalar.addi, Scalar.muli, IntOp.addi, IntOp.muli, BitVec.toNat_add, BitVec.toNat_mul, BitVec.toNat_ofNat, hv]
  omega
theorem src_fits (v : BitVec 32) (h : v.toNat < 53248) : ∀ a, srcOff v.toNat a + S1x5120.size a ≤ S53248x5120.size a := src_inb ⟨v.toNat, h⟩

/-! ## The offsets of the copies -/

theorem l1_0 (t : Fin k0_t1_loop.trips) : k0_off1 t = ![256 * 0 + (8 * t.val + 0)] :=
  vec1 ((ix1 _ _ 0 (row0 ⟨t.val, tr1 t⟩) (by have := tr1 t; show 4 * t.val + 0 < 128; omega) (by decide)).trans (by show 256 * 0 + (2 * (4 * t.val + 0) + 0) = _; omega))
theorem d1_0 (t : Fin k0_t1_loop.trips) : k0_off2 t = rowOff 0 (8 * t.val + 0) :=
  vec4 rfl (by omega) ((row0 ⟨t.val, tr1 t⟩).trans (by show 4 * t.val + 0 = _; omega)) rfl
theorem l2_0 (i : grid0.Coords) (t : Fin k0_t2_loop.trips) : k0_off25 i t = ![256 * ((i 0).val + 1) + (8 * t.val + 0)] :=
  vec1 ((ix2 (i 0).val (co_lt i) _ _ 0 (row0 ⟨t.val, tr2 t⟩) (by have := tr2 t; show 4 * t.val + 0 < 128; omega) (by decide)).trans (by show 256 * ((i 0).val + 1) + (2 * (4 * t.val + 0) + 0) = _; omega))
theorem d2_0 (i : grid0.Coords) (t : Fin k0_t2_loop.trips) : k0_off27 i t = rowOff (sl ((i 0).val + 1)) (8 * t.val + 0) :=
  vec4 (sub1 ⟨(i 0).val, co_lt i⟩) (by omega) ((row0 ⟨t.val, tr2 t⟩).trans (by show 4 * t.val + 0 = _; omega)) rfl
theorem s2_0 (i : grid0.Coords) : k0_off26 i = cellOff (sl ((i 0).val + 1)) := vec1 (sub1 ⟨(i 0).val, co_lt i⟩)
theorem l1_1 (t : Fin k0_t1_loop.trips) : k0_off4 t = ![256 * 0 + (8 * t.val + 1)] :=
  vec1 ((ix1 _ _ 1 (row0 ⟨t.val, tr1 t⟩) (by have := tr1 t; show 4 * t.val + 0 < 128; omega) (by decide)).trans (by show 256 * 0 + (2 * (4 * t.val + 0) + 1) = _; omega))
theorem d1_1 (t : Fin k0_t1_loop.trips) : k0_off5 t = rowOff 0 (8 * t.val + 1) :=
  vec4 rfl (by omega) ((row0 ⟨t.val, tr1 t⟩).trans (by show 4 * t.val + 0 = _; omega)) rfl
theorem l2_1 (i : grid0.Coords) (t : Fin k0_t2_loop.trips) : k0_off29 i t = ![256 * ((i 0).val + 1) + (8 * t.val + 1)] :=
  vec1 ((ix2 (i 0).val (co_lt i) _ _ 1 (row0 ⟨t.val, tr2 t⟩) (by have := tr2 t; show 4 * t.val + 0 < 128; omega) (by decide)).trans (by show 256 * ((i 0).val + 1) + (2 * (4 * t.val + 0) + 1) = _; omega))
theorem d2_1 (i : grid0.Coords) (t : Fin k0_t2_loop.trips) : k0_off31 i t = rowOff (sl ((i 0).val + 1)) (8 * t.val + 1) :=
  vec4 (sub1 ⟨(i 0).val, co_lt i⟩) (by omega) ((row0 ⟨t.val, tr2 t⟩).trans (by show 4 * t.val + 0 = _; omega)) rfl
theorem s2_1 (i : grid0.Coords) : k0_off30 i = cellOff (sl ((i 0).val + 1)) := vec1 (sub1 ⟨(i 0).val, co_lt i⟩)
theorem l1_2 (t : Fin k0_t1_loop.trips) : k0_off7 t = ![256 * 0 + (8 * t.val + 2)] :=
  vec1 ((ix1 _ _ 0 (row1 ⟨t.val, tr1 t⟩) (by have := tr1 t; show 4 * t.val + 1 < 128; omega) (by decide)).trans (by show 256 * 0 + (2 * (4 * t.val + 1) + 0) = _; omega))
theorem d1_2 (t : Fin k0_t1_loop.trips) : k0_off8 t = rowOff 0 (8 * t.val + 2) :=
  vec4 rfl (by omega) ((row1 ⟨t.val, tr1 t⟩).trans (by show 4 * t.val + 1 = _; omega)) rfl
theorem l2_2 (i : grid0.Coords) (t : Fin k0_t2_loop.trips) : k0_off33 i t = ![256 * ((i 0).val + 1) + (8 * t.val + 2)] :=
  vec1 ((ix2 (i 0).val (co_lt i) _ _ 0 (row1 ⟨t.val, tr2 t⟩) (by have := tr2 t; show 4 * t.val + 1 < 128; omega) (by decide)).trans (by show 256 * ((i 0).val + 1) + (2 * (4 * t.val + 1) + 0) = _; omega))
theorem d2_2 (i : grid0.Coords) (t : Fin k0_t2_loop.trips) : k0_off35 i t = rowOff (sl ((i 0).val + 1)) (8 * t.val + 2) :=
  vec4 (sub1 ⟨(i 0).val, co_lt i⟩) (by omega) ((row1 ⟨t.val, tr2 t⟩).trans (by show 4 * t.val + 1 = _; omega)) rfl
theorem s2_2 (i : grid0.Coords) : k0_off34 i = cellOff (sl ((i 0).val + 1)) := vec1 (sub1 ⟨(i 0).val, co_lt i⟩)
theorem l1_3 (t : Fin k0_t1_loop.trips) : k0_off10 t = ![256 * 0 + (8 * t.val + 3)] :=
  vec1 ((ix1 _ _ 1 (row1 ⟨t.val, tr1 t⟩) (by have := tr1 t; show 4 * t.val + 1 < 128; omega) (by decide)).trans (by show 256 * 0 + (2 * (4 * t.val + 1) + 1) = _; omega))
theorem d1_3 (t : Fin k0_t1_loop.trips) : k0_off11 t = rowOff 0 (8 * t.val + 3) :=
  vec4 rfl (by omega) ((row1 ⟨t.val, tr1 t⟩).trans (by show 4 * t.val + 1 = _; omega)) rfl
theorem l2_3 (i : grid0.Coords) (t : Fin k0_t2_loop.trips) : k0_off37 i t = ![256 * ((i 0).val + 1) + (8 * t.val + 3)] :=
  vec1 ((ix2 (i 0).val (co_lt i) _ _ 1 (row1 ⟨t.val, tr2 t⟩) (by have := tr2 t; show 4 * t.val + 1 < 128; omega) (by decide)).trans (by show 256 * ((i 0).val + 1) + (2 * (4 * t.val + 1) + 1) = _; omega))
theorem d2_3 (i : grid0.Coords) (t : Fin k0_t2_loop.trips) : k0_off39 i t = rowOff (sl ((i 0).val + 1)) (8 * t.val + 3) :=
  vec4 (sub1 ⟨(i 0).val, co_lt i⟩) (by omega) ((row1 ⟨t.val, tr2 t⟩).trans (by show 4 * t.val + 1 = _; omega)) rfl
theorem s2_3 (i : grid0.Coords) : k0_off38 i = cellOff (sl ((i 0).val + 1)) := vec1 (sub1 ⟨(i 0).val, co_lt i⟩)
theorem l1_4 (t : Fin k0_t1_loop.trips) : k0_off13 t = ![256 * 0 + (8 * t.val + 4)] :=
  vec1 ((ix1 _ _ 0 (row2 ⟨t.val, tr1 t⟩) (by have := tr1 t; show 4 * t.val + 2 < 128; omega) (by decide)).trans (by show 256 * 0 + (2 * (4 * t.val + 2) + 0) = _; omega))
theorem d1_4 (t : Fin k0_t1_loop.trips) : k0_off14 t = rowOff 0 (8 * t.val + 4) :=
  vec4 rfl (by omega) ((row2 ⟨t.val, tr1 t⟩).trans (by show 4 * t.val + 2 = _; omega)) rfl
theorem l2_4 (i : grid0.Coords) (t : Fin k0_t2_loop.trips) : k0_off41 i t = ![256 * ((i 0).val + 1) + (8 * t.val + 4)] :=
  vec1 ((ix2 (i 0).val (co_lt i) _ _ 0 (row2 ⟨t.val, tr2 t⟩) (by have := tr2 t; show 4 * t.val + 2 < 128; omega) (by decide)).trans (by show 256 * ((i 0).val + 1) + (2 * (4 * t.val + 2) + 0) = _; omega))
theorem d2_4 (i : grid0.Coords) (t : Fin k0_t2_loop.trips) : k0_off43 i t = rowOff (sl ((i 0).val + 1)) (8 * t.val + 4) :=
  vec4 (sub1 ⟨(i 0).val, co_lt i⟩) (by omega) ((row2 ⟨t.val, tr2 t⟩).trans (by show 4 * t.val + 2 = _; omega)) rfl
theorem s2_4 (i : grid0.Coords) : k0_off42 i = cellOff (sl ((i 0).val + 1)) := vec1 (sub1 ⟨(i 0).val, co_lt i⟩)
theorem l1_5 (t : Fin k0_t1_loop.trips) : k0_off16 t = ![256 * 0 + (8 * t.val + 5)] :=
  vec1 ((ix1 _ _ 1 (row2 ⟨t.val, tr1 t⟩) (by have := tr1 t; show 4 * t.val + 2 < 128; omega) (by decide)).trans (by show 256 * 0 + (2 * (4 * t.val + 2) + 1) = _; omega))
theorem d1_5 (t : Fin k0_t1_loop.trips) : k0_off17 t = rowOff 0 (8 * t.val + 5) :=
  vec4 rfl (by omega) ((row2 ⟨t.val, tr1 t⟩).trans (by show 4 * t.val + 2 = _; omega)) rfl
theorem l2_5 (i : grid0.Coords) (t : Fin k0_t2_loop.trips) : k0_off45 i t = ![256 * ((i 0).val + 1) + (8 * t.val + 5)] :=
  vec1 ((ix2 (i 0).val (co_lt i) _ _ 1 (row2 ⟨t.val, tr2 t⟩) (by have := tr2 t; show 4 * t.val + 2 < 128; omega) (by decide)).trans (by show 256 * ((i 0).val + 1) + (2 * (4 * t.val + 2) + 1) = _; omega))
theorem d2_5 (i : grid0.Coords) (t : Fin k0_t2_loop.trips) : k0_off47 i t = rowOff (sl ((i 0).val + 1)) (8 * t.val + 5) :=
  vec4 (sub1 ⟨(i 0).val, co_lt i⟩) (by omega) ((row2 ⟨t.val, tr2 t⟩).trans (by show 4 * t.val + 2 = _; omega)) rfl
theorem s2_5 (i : grid0.Coords) : k0_off46 i = cellOff (sl ((i 0).val + 1)) := vec1 (sub1 ⟨(i 0).val, co_lt i⟩)
theorem l1_6 (t : Fin k0_t1_loop.trips) : k0_off19 t = ![256 * 0 + (8 * t.val + 6)] :=
  vec1 ((ix1 _ _ 0 (row3 ⟨t.val, tr1 t⟩) (by have := tr1 t; show 4 * t.val + 3 < 128; omega) (by decide)).trans (by show 256 * 0 + (2 * (4 * t.val + 3) + 0) = _; omega))
theorem d1_6 (t : Fin k0_t1_loop.trips) : k0_off20 t = rowOff 0 (8 * t.val + 6) :=
  vec4 rfl (by omega) ((row3 ⟨t.val, tr1 t⟩).trans (by show 4 * t.val + 3 = _; omega)) rfl
theorem l2_6 (i : grid0.Coords) (t : Fin k0_t2_loop.trips) : k0_off49 i t = ![256 * ((i 0).val + 1) + (8 * t.val + 6)] :=
  vec1 ((ix2 (i 0).val (co_lt i) _ _ 0 (row3 ⟨t.val, tr2 t⟩) (by have := tr2 t; show 4 * t.val + 3 < 128; omega) (by decide)).trans (by show 256 * ((i 0).val + 1) + (2 * (4 * t.val + 3) + 0) = _; omega))
theorem d2_6 (i : grid0.Coords) (t : Fin k0_t2_loop.trips) : k0_off51 i t = rowOff (sl ((i 0).val + 1)) (8 * t.val + 6) :=
  vec4 (sub1 ⟨(i 0).val, co_lt i⟩) (by omega) ((row3 ⟨t.val, tr2 t⟩).trans (by show 4 * t.val + 3 = _; omega)) rfl
theorem s2_6 (i : grid0.Coords) : k0_off50 i = cellOff (sl ((i 0).val + 1)) := vec1 (sub1 ⟨(i 0).val, co_lt i⟩)
theorem l1_7 (t : Fin k0_t1_loop.trips) : k0_off22 t = ![256 * 0 + (8 * t.val + 7)] :=
  vec1 ((ix1 _ _ 1 (row3 ⟨t.val, tr1 t⟩) (by have := tr1 t; show 4 * t.val + 3 < 128; omega) (by decide)).trans (by show 256 * 0 + (2 * (4 * t.val + 3) + 1) = _; omega))
theorem d1_7 (t : Fin k0_t1_loop.trips) : k0_off23 t = rowOff 0 (8 * t.val + 7) :=
  vec4 rfl (by omega) ((row3 ⟨t.val, tr1 t⟩).trans (by show 4 * t.val + 3 = _; omega)) rfl
theorem l2_7 (i : grid0.Coords) (t : Fin k0_t2_loop.trips) : k0_off53 i t = ![256 * ((i 0).val + 1) + (8 * t.val + 7)] :=
  vec1 ((ix2 (i 0).val (co_lt i) _ _ 1 (row3 ⟨t.val, tr2 t⟩) (by have := tr2 t; show 4 * t.val + 3 < 128; omega) (by decide)).trans (by show 256 * ((i 0).val + 1) + (2 * (4 * t.val + 3) + 1) = _; omega))
theorem d2_7 (i : grid0.Coords) (t : Fin k0_t2_loop.trips) : k0_off55 i t = rowOff (sl ((i 0).val + 1)) (8 * t.val + 7) :=
  vec4 (sub1 ⟨(i 0).val, co_lt i⟩) (by omega) ((row3 ⟨t.val, tr2 t⟩).trans (by show 4 * t.val + 3 = _; omega)) rfl
theorem s2_7 (i : grid0.Coords) : k0_off54 i = cellOff (sl ((i 0).val + 1)) := vec1 (sub1 ⟨(i 0).val, co_lt i⟩)
theorem c3 (i : grid0.Coords) : k0_off57 i = cellOff (sl (i 0).val) := vec1 (and1 ⟨(i 0).val, co_lt i⟩)

/-! ## The loops -/

section
variable (c : Dev nD) (X : Buf (Elt F) (cM.view.loc (c : Thread nD τ))) (T : Buf (Elt F) (pM.view.loc (c : Thread nD τ))) (i : grid0.Coords)
  (arg2 : Memref sig .tc .vmem S128x2 .f32) (harg2 : arg2.IsWhole) (arg4 : Memref sig .tc .vmem S128x5120 .bf16) (harg4 : arg4.IsWhole)

set_option maxHeartbeats 4000000 in
theorem t1_trip (hT : RowsOk T) (q : PosShare TreeShare) (h : k0_cond1 i = 1#1) (t : Fin k0_t1_loop.trips) :
    iprop(pP c T q ∗ Iss c X T 0 0 (8 * t.val))
      ⊢ wp frame (wpE (defs₀ (F := F)) 𝒱₀ (c : Thread nD τ) none) Set.univ (k0_t1_body (F := F) i pM (Memref.isWhole_whole _) arg2 harg2 cM (Memref.isWhole_whole _) arg4 harg4 bM (Memref.isWhole_whole _) cc0_scratch1 h t ())
        (fun _ => iprop(pP c T q ∗ Iss c X T 0 0 (8 * (t.val + 1)))) := by
  have ht := tr1 t
  have hi := (c1 i).1 h
  unfold k0_t1_body
  simp only [k0_part1_eq_skeleton, k0_part2_eq_skeleton, k0_part1_skel, k0_part2_skel, Prog.lift, Prog.bind_op, Prog.bind_ret, Prog.pure_eq_ret, smemLoad, smemLoadElt, TpuEff.enqueueDma]
  iintro ⟨HT, HI⟩
  iapply (issue_full c X T hT q 0 (0) (8 * t.val + 0) (by omega) (by omega) (k0_chk1 i) (k0_chk1.dec i) (fun v hv _ => src_fits v hv)
    (k0_off1 t) (k0_off1_inb i t h) _ _ k0_off3 (fun v hw => k0_off3_inb i v hw h) (k0_off2 t) (k0_off2_inb i t h) ![0] inb_S2_S1_0 (l1_0 t) (d1_0 t) rfl (fun _ => rfl) _ _ _) $$ [HT HI]
  · isplitl [HT] <;> iassumption
  iintro ⟨HT, HI⟩
  iapply (issue_full c X T hT q 0 (0) (8 * t.val + 1) (by omega) (by omega) (k0_chk2 i) (k0_chk2.dec i) (fun v hv _ => src_fits v hv)
    (k0_off4 t) (k0_off4_inb i t h) _ _ k0_off6 (fun v hw => k0_off6_inb i v hw h) (k0_off5 t) (k0_off5_inb i t h) ![0] inb_S2_S1_0 (l1_1 t) (d1_1 t) rfl (fun _ => rfl) _ _ _) $$ [HT HI]
  · isplitl [HT] <;> iassumption
  iintro ⟨HT, HI⟩
  iapply (issue_full c X T hT q 0 (0) (8 * t.val + 2) (by omega) (by omega) (k0_chk3 i) (k0_chk3.dec i) (fun v hv _ => src_fits v hv)
    (k0_off7 t) (k0_off7_inb i t h) _ _ k0_off9 (fun v hw => k0_off9_inb i v hw h) (k0_off8 t) (k0_off8_inb i t h) ![0] inb_S2_S1_0 (l1_2 t) (d1_2 t) rfl (fun _ => rfl) _ _ _) $$ [HT HI]
  · isplitl [HT] <;> iassumption
  iintro ⟨HT, HI⟩
  iapply (issue_full c X T hT q 0 (0) (8 * t.val + 3) (by omega) (by omega) (k0_chk4 i) (k0_chk4.dec i) (fun v hv _ => src_fits v hv)
    (k0_off10 t) (k0_off10_inb i t h) _ _ k0_off12 (fun v hw => k0_off12_inb i v hw h) (k0_off11 t) (k0_off11_inb i t h) ![0] inb_S2_S1_0 (l1_3 t) (d1_3 t) rfl (fun _ => rfl) _ _ _) $$ [HT HI]
  · isplitl [HT] <;> iassumption
  iintro ⟨HT, HI⟩
  iapply (issue_full c X T hT q 0 (0) (8 * t.val + 4) (by omega) (by omega) (k0_chk5 i) (k0_chk5.dec i) (fun v hv _ => src_fits v hv)
    (k0_off13 t) (k0_off13_inb i t h) _ _ k0_off15 (fun v hw => k0_off15_inb i v hw h) (k0_off14 t) (k0_off14_inb i t h) ![0] inb_S2_S1_0 (l1_4 t) (d1_4 t) rfl (fun _ => rfl) _ _ _) $$ [HT HI]
  · isplitl [HT] <;> iassumption
  iintro ⟨HT, HI⟩
  iapply (issue_full c X T hT q 0 (0) (8 * t.val + 5) (by omega) (by omega) (k0_chk6 i) (k0_chk6.dec i) (fun v hv _ => src_fits v hv)
    (k0_off16 t) (k0_off16_inb i t h) _ _ k0_off18 (fun v hw => k0_off18_inb i v hw h) (k0_off17 t) (k0_off17_inb i t h) ![0] inb_S2_S1_0 (l1_5 t) (d1_5 t) rfl (fun _ => rfl) _ _ _) $$ [HT HI]
  · isplitl [HT] <;> iassumption
  iintro ⟨HT, HI⟩
  iapply (issue_full c X T hT q 0 (0) (8 * t.val + 6) (by omega) (by omega) (k0_chk7 i) (k0_chk7.dec i) (fun v hv _ => src_fits v hv)
    (k0_off19 t) (k0_off19_inb i t h) _ _ k0_off21 (fun v hw => k0_off21_inb i v hw h) (k0_off20 t) (k0_off20_inb i t h) ![0] inb_S2_S1_0 (l1_6 t) (d1_6 t) rfl (fun _ => rfl) _ _ _) $$ [HT HI]
  · isplitl [HT] <;> iassumption
  iintro ⟨HT, HI⟩
  iapply (issue_full c X T hT q 0 (0) (8 * t.val + 7) (by omega) (by omega) (k0_chk8 i) (k0_chk8.dec i) (fun v hv _ => src_fits v hv)
    (k0_off22 t) (k0_off22_inb i t h) _ _ k0_off24 (fun v hw => k0_off24_inb i v hw h) (k0_off23 t) (k0_off23_inb i t h) ![0] inb_S2_S1_0 (l1_7 t) (d1_7 t) rfl (fun _ => rfl) _ _ _) $$ [HT HI]
  · isplitl [HT] <;> iassumption
  iintro ⟨HT, HI⟩
  rw [wp_ret]
  imodintro
  isplitl [HT]; · iexact HT
  iexact HI

set_option maxHeartbeats 4000000 in
theorem t2_trip (hT : RowsOk T) (q : PosShare TreeShare) (h : k0_cond2 i = 1#1) (t : Fin k0_t2_loop.trips) :
    iprop(pP c T q ∗ Iss c X T (sl ((i 0).val + 1)) ((i 0).val + 1) (8 * t.val))
      ⊢ wp frame (wpE (defs₀ (F := F)) 𝒱₀ (c : Thread nD τ) none) Set.univ (k0_t2_body (F := F) i pM (Memref.isWhole_whole _) arg2 harg2 cM (Memref.isWhole_whole _) arg4 harg4 bM (Memref.isWhole_whole _) cc0_scratch1 h (Scalar.addi (BitVec.ofNat 32 (i 0).val) 1#32) t ())
        (fun _ => iprop(pP c T q ∗ Iss c X T (sl ((i 0).val + 1)) ((i 0).val + 1) (8 * (t.val + 1)))) := by
  have ht := tr2 t
  have hi := (c2 i).1 h
  unfold k0_t2_body
  simp only [k0_part3_eq_skeleton, k0_part4_eq_skeleton, k0_part3_skel, k0_part4_skel, Prog.lift, Prog.bind_op, Prog.bind_ret, Prog.pure_eq_ret, smemLoad, smemLoadElt, TpuEff.enqueueDma]
  iintro ⟨HT, HI⟩
  iapply (issue_full c X T hT q (sl ((i 0).val + 1)) (((i 0).val + 1)) (8 * t.val + 0) (by omega) (by omega) (k0_chk9 i) (k0_chk9.dec i) (fun v hv _ => src_fits v hv)
    (k0_off25 i t) (k0_off25_inb i t h) _ _ k0_off28 (fun v hw => k0_off28_inb i v hw h) (k0_off27 i t) (k0_off27_inb i t h) (k0_off26 i) (k0_off26_inb i h) (l2_0 i t) (d2_0 i t) (s2_0 i) (fun _ => rfl) _ _ _) $$ [HT HI]
  · isplitl [HT] <;> iassumption
  iintro ⟨HT, HI⟩
  iapply (issue_full c X T hT q (sl ((i 0).val + 1)) (((i 0).val + 1)) (8 * t.val + 1) (by omega) (by omega) (k0_chk10 i) (k0_chk10.dec i) (fun v hv _ => src_fits v hv)
    (k0_off29 i t) (k0_off29_inb i t h) _ _ k0_off32 (fun v hw => k0_off32_inb i v hw h) (k0_off31 i t) (k0_off31_inb i t h) (k0_off30 i) (k0_off30_inb i h) (l2_1 i t) (d2_1 i t) (s2_1 i) (fun _ => rfl) _ _ _) $$ [HT HI]
  · isplitl [HT] <;> iassumption
  iintro ⟨HT, HI⟩
  iapply (issue_full c X T hT q (sl ((i 0).val + 1)) (((i 0).val + 1)) (8 * t.val + 2) (by omega) (by omega) (k0_chk11 i) (k0_chk11.dec i) (fun v hv _ => src_fits v hv)
    (k0_off33 i t) (k0_off33_inb i t h) _ _ k0_off36 (fun v hw => k0_off36_inb i v hw h) (k0_off35 i t) (k0_off35_inb i t h) (k0_off34 i) (k0_off34_inb i h) (l2_2 i t) (d2_2 i t) (s2_2 i) (fun _ => rfl) _ _ _) $$ [HT HI]
  · isplitl [HT] <;> iassumption
  iintro ⟨HT, HI⟩
  iapply (issue_full c X T hT q (sl ((i 0).val + 1)) (((i 0).val + 1)) (8 * t.val + 3) (by omega) (by omega) (k0_chk12 i) (k0_chk12.dec i) (fun v hv _ => src_fits v hv)
    (k0_off37 i t) (k0_off37_inb i t h) _ _ k0_off40 (fun v hw => k0_off40_inb i v hw h) (k0_off39 i t) (k0_off39_inb i t h) (k0_off38 i) (k0_off38_inb i h) (l2_3 i t) (d2_3 i t) (s2_3 i) (fun _ => rfl) _ _ _) $$ [HT HI]
  · isplitl [HT] <;> iassumption
  iintro ⟨HT, HI⟩
  iapply (issue_full c X T hT q (sl ((i 0).val + 1)) (((i 0).val + 1)) (8 * t.val + 4) (by omega) (by omega) (k0_chk13 i) (k0_chk13.dec i) (fun v hv _ => src_fits v hv)
    (k0_off41 i t) (k0_off41_inb i t h) _ _ k0_off44 (fun v hw => k0_off44_inb i v hw h) (k0_off43 i t) (k0_off43_inb i t h) (k0_off42 i) (k0_off42_inb i h) (l2_4 i t) (d2_4 i t) (s2_4 i) (fun _ => rfl) _ _ _) $$ [HT HI]
  · isplitl [HT] <;> iassumption
  iintro ⟨HT, HI⟩
  iapply (issue_full c X T hT q (sl ((i 0).val + 1)) (((i 0).val + 1)) (8 * t.val + 5) (by omega) (by omega) (k0_chk14 i) (k0_chk14.dec i) (fun v hv _ => src_fits v hv)
    (k0_off45 i t) (k0_off45_inb i t h) _ _ k0_off48 (fun v hw => k0_off48_inb i v hw h) (k0_off47 i t) (k0_off47_inb i t h) (k0_off46 i) (k0_off46_inb i h) (l2_5 i t) (d2_5 i t) (s2_5 i) (fun _ => rfl) _ _ _) $$ [HT HI]
  · isplitl [HT] <;> iassumption
  iintro ⟨HT, HI⟩
  iapply (issue_full c X T hT q (sl ((i 0).val + 1)) (((i 0).val + 1)) (8 * t.val + 6) (by omega) (by omega) (k0_chk15 i) (k0_chk15.dec i) (fun v hv _ => src_fits v hv)
    (k0_off49 i t) (k0_off49_inb i t h) _ _ k0_off52 (fun v hw => k0_off52_inb i v hw h) (k0_off51 i t) (k0_off51_inb i t h) (k0_off50 i) (k0_off50_inb i h) (l2_6 i t) (d2_6 i t) (s2_6 i) (fun _ => rfl) _ _ _) $$ [HT HI]
  · isplitl [HT] <;> iassumption
  iintro ⟨HT, HI⟩
  iapply (issue_full c X T hT q (sl ((i 0).val + 1)) (((i 0).val + 1)) (8 * t.val + 7) (by omega) (by omega) (k0_chk16 i) (k0_chk16.dec i) (fun v hv _ => src_fits v hv)
    (k0_off53 i t) (k0_off53_inb i t h) _ _ k0_off56 (fun v hw => k0_off56_inb i v hw h) (k0_off55 i t) (k0_off55_inb i t h) (k0_off54 i) (k0_off54_inb i h) (l2_7 i t) (d2_7 i t) (s2_7 i) (fun _ => rfl) _ _ _) $$ [HT HI]
  · isplitl [HT] <;> iassumption
  iintro ⟨HT, HI⟩
  rw [wp_ret]
  imodintro
  isplitl [HT]; · iexact HT
  iexact HI

/-- What the core owes, with the waits so far recorded. -/
def Ow : sProp 𝕄 := iprop(∃ W, owes (c : Thread nD τ) 0 W)

set_option maxHeartbeats 4000000 in
theorem t3_trip (t : Fin k0_t3_loop.trips) :
    iprop(Fly c X T (sl (i 0).val) (i 0).val (NN * (2 * t.val)) ∗ Ow c)
      ⊢ wp frame (wpE (defs₀ (F := F)) 𝒱₀ (c : Thread nD τ) none) Set.univ (k0_t3_body (F := F) i pM (Memref.isWhole_whole _) arg2 harg2 cM (Memref.isWhole_whole _) arg4 harg4 bM (Memref.isWhole_whole _) cc0_scratch1 t ())
        (fun _ => iprop(Fly c X T (sl (i 0).val) (i 0).val (NN * (2 * (t.val + 1))) ∗ Ow c)) := by
  have ht := tr3 t
  have b1 : NN * (2 * t.val) + 1 * NN ≤ NN * 256 := by rw [Nat.one_mul, ← Nat.mul_succ]; exact Nat.mul_le_mul_left _ (by omega)
  have b2 : NN * (2 * t.val) + 1 * NN + 1 * NN ≤ NN * 256 := by rw [Nat.one_mul, ← Nat.mul_succ, ← Nat.mul_succ]; exact Nat.mul_le_mul_left _ (by omega)
  have b3 : NN * (2 * (t.val + 1)) = NN * (2 * t.val) + 1 * NN + 1 * NN := by ring
  rw [b3]
  unfold k0_t3_body
  simp only [Prog.lift, Prog.bind_op, Prog.bind_ret, Prog.pure_eq_ret]
  unfold Fly bt Ow
  iintro ⟨⟨HB, HX⟩, ⟨%W, HO⟩⟩
  have key : ∀ (o : Fin 1 → ℕ) (io : ∀ a, o a + S1.size a ≤ S2.size a), o = cellOff (sl (i 0).val) →
      (csm (sl (i 0).val)).sem = ((cc0_scratch1.slice (Rect.unit (s := S2) o S1.size io)).squeeze S_ squeezes_S1_S_).sem := by
    intro o io e; subst e; rfl
  rw [key _ (k0_off57_inb i) (c3 i)]
  iapply (Transfers.wp_waitBatchMul countersEmb 𝒱₀ (c : Thread nD τ) none (srcw := cM.slice (Rect.unit (s := S53248x5120) ![0, 0] S1x5120.size inb_S53248x5120_S1x5120_0_0) (fun _ => rfl)) (dstw := (bM.slice (Rect.unit (s := S2x2x128x5120) (k0_off58 i t) S1x1x1x5120.size (k0_off58_inb i t)) (fun _ => rfl)).squeeze S1x5120 squeezes_S1x1x1x5120_S1x5120)
    (hsrc := View.wordExact_bits rfl) (hdst := (View.wordExact_bits rfl).reshape _ _) () 1 (N := NN) (j := 256) (Nat.one_mul _).symm b1) $$ [HB HO]
  · isplitl [HB] <;> iassumption
  iintro ⟨HB, HO⟩
  iapply (Transfers.wp_waitBatchMul countersEmb 𝒱₀ (c : Thread nD τ) none (srcw := cM.slice (Rect.unit (s := S53248x5120) ![0, 0] S1x5120.size inb_S53248x5120_S1x5120_0_0) (fun _ => rfl)) (dstw := (bM.slice (Rect.unit (s := S2x2x128x5120) (k0_off59 i t) S1x1x1x5120.size (k0_off59_inb i t)) (fun _ => rfl)).squeeze S1x5120 squeezes_S1x1x1x5120_S1x5120)
    (hsrc := View.wordExact_bits rfl) (hdst := (View.wordExact_bits rfl).reshape _ _) () 1 (N := NN) (j := 256) (Nat.one_mul _).symm b2) $$ [HB HO]
  · isplitl [HB] <;> iassumption
  iintro ⟨HB, HO⟩
  rw [wp_ret]
  imodintro
  isplitl [HB HX]
  · isplitl [HB] <;> iassumption
  iexists _; iexact HO
end

end Cert.Proof.Comb
-- ==== Proof.CombBody.lean ====
/-
  The combining kernel's body at one grid point.
-/
module

public import proofs.«01_k».proof.Proof.CombLoops
public import Idealize.ShloMosaic.Lib.VecWindow

@[expose] public section

noncomputable section

namespace Cert.Proof.Comb

open Cert.Combine Cert.Combine.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (c : Dev nD) (X : Buf (Elt F) (cM.view.loc (c : Thread nD τ))) (T : Buf (Elt F) (pM.view.loc (c : Thread nD τ))) (i : grid0.Coords)
  (arg2 : Memref sig .tc .vmem S128x2 .f32) (harg2 : arg2.IsWhole) (arg4 : Memref sig .tc .vmem S128x5120 .bf16) (harg4 : arg4.IsWhole)

/-- A slot between two steps: on its way with step `n`, or free. -/
def Cur (n : ℕ) : sProp 𝕄 := if 0 < n ∧ n < 192 then Fly c X T (sl n) n 0 else Free c X (sl n)
/-- The two slots before step `n`. -/
def St (n : ℕ) : sProp 𝕄 := iprop(Cur c X T n ∗ Free c X (sl (n + 1)))
theorem sl2 (n : ℕ) : sl (n + 1 + 1) = sl n := Fin.ext (show (n + 1 + 1) % 2 = n % 2 by omega)

/-- Half `m` of step `n`'s rows. -/
def blk (n m : ℕ) : Vec F S1x1x128x5120 .f32 := fun y => X (gIx (pR T (256 * n + (2 * (y 2).val + m))) (y 3))
abbrev wP (g : Buf (Elt F) (arg2.view.loc (c : Thread nD τ))) : sProp 𝕄 := arg2.view.loc (c : Thread nD τ) ↦[arg2.view.set]{fullShare} g
abbrev oP (g : Buf (Elt F) (arg4.view.loc (c : Thread nD τ))) : sProp 𝕄 := arg4.view.loc (c : Thread nD τ) ↦[arg4.view.set]{fullShare} g
def wcol0 (g : Buf (Elt F) (arg2.view.loc (c : Thread nD τ))) : Vec F S128x1 .f32 := fun y => arg2.view.read (Elt F) g ((Rect.unit (s := S128x2) ![0, 0] S128x1.size inb_S128x2_S128x1_0_0).emb y)
def wcol1 (g : Buf (Elt F) (arg2.view.loc (c : Thread nD τ))) : Vec F S128x1 .f32 := fun y => arg2.view.read (Elt F) g ((Rect.unit (s := S128x2) ![0, 1] S128x1.size inb_S128x2_S128x1_0_1).emb y)
/-- What step `n` writes, from its rows and its weights. -/
def outV (n : ℕ) (g : Buf (Elt F) (arg2.view.loc (c : Thread nD τ))) : FVec F S128x5120 .bf16 := k0_pay1 (blk c X T n 0) (wcol0 c arg2 g) (blk c X T n 1) (wcol1 c arg2 g)

theorem off60_eq : k0_off60 i = ![(sl (i 0).val).val, 0, 0, 0] := vec4 (and1 ⟨(i 0).val, co_lt i⟩) rfl rfl rfl
theorem off61_eq : k0_off61 i = ![(sl (i 0).val).val, 1, 0, 0] := vec4 (and1 ⟨(i 0).val, co_lt i⟩) rfl rfl rfl
theorem half_read (n m : ℕ) (s : Fin 2) (o : Fin 4 → ℕ) (io : ∀ a, o a + S1x1x128x5120.size a ≤ S2x2x128x5120.size a) (e : o = ![s.val, m, 0, 0]) :
    View.read (Elt F) (bM.access (Rect.unit (s := S2x2x128x5120) o S1x1x128x5120.size io)) (G c X T n) = blk c X T n m := by
  subst e
  funext y
  rw [View.read_apply]
  have e0 : (y 0).val = 0 := Nat.lt_one_iff.1 (y 0).isLt
  have e1 : (y 1).val = 0 := Nat.lt_one_iff.1 (y 1).isLt
  have key : ∀ z : S2x2x128x5120.Idx, (z 1).val = m → (z 2).val = (y 2).val → (z 3).val = (y 3).val → G c X T n z = blk c X T n m y := by
    intro z h1 h2 h3
    unfold G blk
    rw [h1, h2, show z 3 = y 3 from Fin.ext h3]
  refine key _ ?_ ?_ ?_
  · show m + 1 * (y 1).val = m; omega
  · show 0 + 1 * (y 2).val = (y 2).val; omega
  · show 0 + 1 * (y 3).val = (y 3).val; omega
theorem half_set (m : ℕ) (s : Fin 2) (o : Fin 4 → ℕ) (io : ∀ a, o a + S1x1x128x5120.size a ≤ S2x2x128x5120.size a) (e : o = ![s.val, m, 0, 0]) :
    (bM.access (Rect.unit (s := S2x2x128x5120) o S1x1x128x5120.size io)).set ⊆ SLO s := by
  subst e
  intro y hy
  have e : (bM.access (Rect.unit (s := S2x2x128x5120) ![s.val, m, 0, 0] S1x1x128x5120.size io)).set = (Rect.unit (s := S2x2x128x5120) ![s.val, m, 0, 0] S1x1x128x5120.size io).set := View.set_slice_whole _ _
  have hy' := hy
  rw [e, Rect.mem_set_unit] at hy'
  have a0 : s.val ≤ (y 0).val ∧ (y 0).val < s.val + 1 := hy' 0
  simp only [SLO, Finset.mem_filter, Finset.mem_univ, true_and]
  omega

/-- The last part of the body: the step's copies waited for, and its block written. -/
def progC : Prog (TpuEff nD τ sig (Elt F) Λ₀ .tc) PUnit := do
  Scf.Loop.for k0_t3_loop k0_t3_ok ⟨⟩ (k0_t3_body (F := F) i pM (Memref.isWhole_whole _) arg2 harg2 cM (Memref.isWhole_whole _) arg4 harg4 bM (Memref.isWhole_whole _) cc0_scratch1)
  let v10 : Vec F S1x1x128x5120 .f32 ← Prog.lift (.load bM (Rect.unit (s := S2x2x128x5120) (k0_off60 i) S1x1x128x5120.size (k0_off60_inb i)).toLoadRect (View.loadsAt_vmem h_S1x1x128x5120))
  let v12 : Vec F S128x1 .f32 ← Prog.lift (.load arg2 (Rect.unit (s := S128x2) ![0, 0] S128x1.size inb_S128x2_S128x1_0_0).toLoadRect (View.loadsAt_vmem h_S128x1))
  let v16 : Vec F S1x1x128x5120 .f32 ← Prog.lift (.load bM (Rect.unit (s := S2x2x128x5120) (k0_off61 i) S1x1x128x5120.size (k0_off61_inb i)).toLoadRect (View.loadsAt_vmem h_S1x1x128x5120))
  let v18 : Vec F S128x1 .f32 ← Prog.lift (.load arg2 (Rect.unit (s := S128x2) ![0, 1] S128x1.size inb_S128x2_S128x1_0_1).toLoadRect (View.loadsAt_vmem h_S128x1))
  let v23 : Vec F S128x5120 .bf16 ← Prog.lift (.load arg4 (Rect.unit (s := S128x5120) ![0, 0] S128x5120.size inb_S128x5120_S128x5120_0_0).toLoadRect (View.loadsAt_vmem h_S128x5120))
  Prog.lift (.store arg4 (Rect.unit (s := S128x5120) ![0, 0] S128x5120.size inb_S128x5120_S128x5120_0_0) (k0_pay1 v10 v12 v16 v18) Finset.univ (View.stores_vmem h_S128x5120 (harg4.storeExact_slice rfl _ packedbf16_S128x5120_S128x5120_0_0) (fun _ => rfl)) (.inl rfl))
  pure ⟨⟩
/-- From the start of the next step's copies on. -/
def progB : Prog (TpuEff nD τ sig (Elt F) Λ₀ .tc) PUnit :=
  if h : k0_cond2 i = 1#1 then do
    Scf.Loop.for k0_t2_loop (k0_t2_ok i h) ⟨⟩ (k0_t2_body (F := F) i pM (Memref.isWhole_whole _) arg2 harg2 cM (Memref.isWhole_whole _) arg4 harg4 bM (Memref.isWhole_whole _) cc0_scratch1 h (Scalar.addi (BitVec.ofNat 32 (i 0).val) 1#32))
    progC i arg2 harg2 arg4 harg4
  else progC i arg2 harg2 arg4 harg4
/-- The kernel's body on the point's buffers. -/
abbrev bodyG : Prog (TpuEff nD τ sig (Elt F) Λ₀ .tc) PUnit :=
  cc0_combine (F := F) i pM (Memref.isWhole_whole _) arg2 harg2 cM (Memref.isWhole_whole _) arg4 harg4 bM (Memref.isWhole_whole _) cc0_scratch1
theorem body_eq : bodyG (F := F) i arg2 harg2 arg4 harg4 =
  if h : k0_cond1 i = 1#1 then do
    Scf.Loop.for k0_t1_loop (k0_t1_ok i h) ⟨⟩ (k0_t1_body (F := F) i pM (Memref.isWhole_whole _) arg2 harg2 cM (Memref.isWhole_whole _) arg4 harg4 bM (Memref.isWhole_whole _) cc0_scratch1 h)
    progB i arg2 harg2 arg4 harg4
  else progB i arg2 harg2 arg4 harg4 := by
  unfold bodyG progB
  rw [cc0_combine_eq_skeleton]
  unfold cc0_combine_skel
  by_cases h1 : k0_cond1 i = 1#1 <;> by_cases h2 : k0_cond2 i = 1#1 <;> simp only [dif_pos, dif_neg, h1, h2, not_false_eq_true, dite_true, dite_false] <;> rfl

set_option maxHeartbeats 1000000 in
theorem runC (gw : Buf (Elt F) (arg2.view.loc (c : Thread nD τ))) (gO : Buf (Elt F) (arg4.view.loc (c : Thread nD τ))) :
    iprop(Fly c X T (sl (i 0).val) (i 0).val 0 ∗ Ow c ∗ wP c arg2 gw ∗ oP c arg4 gO)
      ⊢ wp frame (wpE (defs₀ (F := F)) 𝒱₀ (c : Thread nD τ) none) Set.univ (progC (F := F) i arg2 harg2 arg4 harg4)
        (fun _ => iprop(Free c X (sl (i 0).val) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  unfold progC
  simp only [Prog.lift, Prog.bind_op, Prog.bind_ret, Prog.pure_eq_ret]
  iintro ⟨HF, HW, Hw, HO⟩
  iapply (Scf.wp_for_bind _ _ _ _ _ _ _ _ _ (fun k _ => iprop(Fly c X T (sl (i 0).val) (i 0).val (NN * (2 * k)) ∗ Ow c))
    (fun t _ => t3_trip c X T i arg2 harg2 arg4 harg4 t)) $$ [HF HW]
  · isplitl [HF] <;> iassumption
  iintro %_ ⟨HF, HW⟩
  rw [show NN * (2 * Scf.trips k0_t3_loop.lb k0_t3_loop.ub k0_t3_loop.st) = NN * 256 from by rw [show Scf.trips k0_t3_loop.lb k0_t3_loop.ub k0_t3_loop.st = 128 from by decide]]
  iapply fupd_wp
  imod (fly_got c X T (sl (i 0).val) (i 0).val) $$ HF with HG
  imodintro
  unfold Got
  icases HG with ⟨HB, HC⟩
  iapply (wp_load_rect 𝒱₀ (c : Thread nD τ) none Set.univ (m := bM) (r := Rect.unit (s := S2x2x128x5120) (k0_off60 i) S1x1x128x5120.size (k0_off60_inb i)) (S := SLO (sl (i 0).val)) (q := fullShare) (f := G c X T (i 0).val) (half_set 0 (sl (i 0).val) _ _ (off60_eq i))) $$ HB
  iintro HB
  iapply (wp_load_rect 𝒱₀ (c : Thread nD τ) none Set.univ (m := arg2) (r := Rect.unit (s := S128x2) ![0, 0] S128x1.size inb_S128x2_S128x1_0_0) (S := arg2.view.set) (q := fullShare) (f := gw) (View.set_slice_subset _ _)) $$ Hw
  iintro Hw
  iapply (wp_load_rect 𝒱₀ (c : Thread nD τ) none Set.univ (m := bM) (r := Rect.unit (s := S2x2x128x5120) (k0_off61 i) S1x1x128x5120.size (k0_off61_inb i)) (S := SLO (sl (i 0).val)) (q := fullShare) (f := G c X T (i 0).val) (half_set 1 (sl (i 0).val) _ _ (off61_eq i))) $$ HB
  iintro HB
  iapply (wp_load_rect 𝒱₀ (c : Thread nD τ) none Set.univ (m := arg2) (r := Rect.unit (s := S128x2) ![0, 1] S128x1.size inb_S128x2_S128x1_0_1) (S := arg2.view.set) (q := fullShare) (f := gw) (View.set_slice_subset _ _)) $$ Hw
  iintro Hw
  iapply (wp_load_rect 𝒱₀ (c : Thread nD τ) none Set.univ (m := arg4) (r := Rect.unit (s := S128x5120) ![0, 0] S128x5120.size inb_S128x5120_S128x5120_0_0) (S := arg4.view.set) (q := fullShare) (f := gO) (View.set_slice_subset _ _)) $$ HO
  iintro HO
  rw [half_read c X T (i 0).val 0 (sl (i 0).val) _ _ (off60_eq i), half_read c X T (i 0).val 1 (sl (i 0).val) _ _ (off61_eq i)]
  iapply (wp_store 𝒱₀ (c : Thread nD τ) none Set.univ (m := arg4) (r := Rect.unit (s := S128x5120) ![0, 0] S128x5120.size inb_S128x5120_S128x5120_0_0) (S := arg4.view.set) (f := gO) ((View.setOn_univ _).le.trans (View.set_slice_subset _ _))) $$ HO
  iintro HO
  rw [wp_ret]
  imodintro
  isplitl [HB HC]
  · iapply (got_free c X T (sl (i 0).val) (i 0).val)
    unfold Got
    isplitl [HB] <;> iassumption
  isplitl [HW]; · iexact HW
  isplitl [Hw]; · iexact Hw
  iexact HO

set_option maxHeartbeats 1000000 in
theorem runB (hT : RowsOk T) (q : PosShare TreeShare) (gw : Buf (Elt F) (arg2.view.loc (c : Thread nD τ))) (gO : Buf (Elt F) (arg4.view.loc (c : Thread nD τ))) :
    iprop(pP c T q ∗ Fly c X T (sl (i 0).val) (i 0).val 0 ∗ Free c X (sl ((i 0).val + 1)) ∗ Ow c ∗ wP c arg2 gw ∗ oP c arg4 gO)
      ⊢ wp frame (wpE (defs₀ (F := F)) 𝒱₀ (c : Thread nD τ) none) Set.univ (progB (F := F) i arg2 harg2 arg4 harg4)
        (fun _ => iprop(pP c T q ∗ St c X T ((i 0).val + 1) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  have hi := co_lt i
  unfold progB St Cur
  rw [sl2]
  iintro ⟨HT, HF, HN, HW, Hw, HO⟩
  by_cases h : k0_cond2 i = 1#1
  · rw [dif_pos h, if_pos ⟨Nat.succ_pos _, by have := (c2 i).1 h; omega⟩]
    iapply fupd_wp
    imod (iss_start c X T (sl ((i 0).val + 1)) ((i 0).val + 1)) $$ HN with HN
    imodintro
    iapply (Scf.wp_for_bind _ _ _ _ _ _ _ _ _ (fun k _ => iprop(pP c T q ∗ Iss c X T (sl ((i 0).val + 1)) ((i 0).val + 1) (8 * k)))
      (fun t _ => t2_trip c X T i arg2 harg2 arg4 harg4 hT q h t)) $$ [HT HN]
    · isplitl [HT] <;> iassumption
    iintro %_ ⟨HT, HN⟩
    rw [show 8 * Scf.trips k0_t2_loop.lb k0_t2_loop.ub k0_t2_loop.st = 256 from by rw [show Scf.trips k0_t2_loop.lb k0_t2_loop.ub k0_t2_loop.st = 32 from by decide]]
    ihave HN' := (iss_end c X T (sl ((i 0).val + 1)) ((i 0).val + 1)) $$ HN
    iapply wp_wand_r
    isplitl [HF HW Hw HO]
    · iapply (runC c X T i arg2 harg2 arg4 harg4 gw gO)
      isplitl [HF]; · iexact HF
      isplitl [HW]; · iexact HW
      isplitl [Hw] <;> iassumption
    iintro %_ ⟨HF, HW, Hw, HO⟩
    isplitl [HT]; · iexact HT
    isplitl [HN' HF]; · isplitl [HN'] <;> iassumption
    isplitl [HW]; · iexact HW
    isplitl [Hw] <;> iassumption
  · rw [dif_neg h, if_neg (fun h' => h ((c2 i).2 (by omega)))]
    iapply wp_wand_r
    isplitl [HF HW Hw HO]
    · iapply (runC c X T i arg2 harg2 arg4 harg4 gw gO)
      isplitl [HF]; · iexact HF
      isplitl [HW]; · iexact HW
      isplitl [Hw] <;> iassumption
    iintro %_ ⟨HF, HW, Hw, HO⟩
    isplitl [HT]; · iexact HT
    isplitl [HN HF]; · isplitl [HN] <;> iassumption
    isplitl [HW]; · iexact HW
    isplitl [Hw] <;> iassumption

set_option maxHeartbeats 1000000 in
theorem runA (hT : RowsOk T) (q : PosShare TreeShare) (gw : Buf (Elt F) (arg2.view.loc (c : Thread nD τ))) (gO : Buf (Elt F) (arg4.view.loc (c : Thread nD τ))) :
    iprop(pP c T q ∗ St c X T (i 0).val ∗ Ow c ∗ wP c arg2 gw ∗ oP c arg4 gO)
      ⊢ wp frame (wpE (defs₀ (F := F)) 𝒱₀ (c : Thread nD τ) none) Set.univ (bodyG (F := F) i arg2 harg2 arg4 harg4)
        (fun _ => iprop(pP c T q ∗ St c X T ((i 0).val + 1) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  have hi := co_lt i
  have hB := runB c X T i arg2 harg2 arg4 harg4 hT q gw gO
  rw [body_eq]
  by_cases h : k0_cond1 i = 1#1
  · have h0 := (c1 i).1 h
    have es : sl (i 0).val = 0 := by rw [h0]; rfl
    have est : St c X T (i 0).val = iprop(Free c X 0 ∗ Free c X (sl ((i 0).val + 1))) := by
      unfold St Cur; rw [if_neg (by omega), es]
    rw [dif_pos h, est]
    iintro ⟨HT, ⟨HF, HN⟩, HW, Hw, HO⟩
    iapply fupd_wp
    imod (iss_start c X T 0 0) $$ HF with HF
    imodintro
    iapply (Scf.wp_for_bind _ _ _ _ _ _ _ _ _ (fun k _ => iprop(pP c T q ∗ Iss c X T 0 0 (8 * k)))
      (fun t _ => t1_trip c X T i arg2 harg2 arg4 harg4 hT q h t)) $$ [HT HF]
    · isplitl [HT] <;> iassumption
    iintro %_ ⟨HT, HF⟩
    rw [show 8 * Scf.trips k0_t1_loop.lb k0_t1_loop.ub k0_t1_loop.st = 256 from by rw [show Scf.trips k0_t1_loop.lb k0_t1_loop.ub k0_t1_loop.st = 32 from by decide]]
    ihave HF' := (iss_end c X T 0 0) $$ HF
    iapply hB
    isplitl [HT]; · iexact HT
    isplitl [HF']; · iapply (entails_of_eq (show Fly c X T 0 0 0 = Fly c X T (sl (i 0).val) (i 0).val 0 from by rw [es, h0])); iexact HF'
    isplitl [HN]; · iexact HN
    isplitl [HW]; · iexact HW
    isplitl [Hw] <;> iassumption
  · rw [dif_neg h]
    have h0 : (i 0).val ≠ 0 := fun h' => h ((c1 i).2 h')
    unfold St
    rw [show Cur c X T (i 0).val = Fly c X T (sl (i 0).val) (i 0).val 0 from if_pos (by omega)]
    iintro ⟨HT, ⟨HF, HN⟩, HW, Hw, HO⟩
    iapply hB
    isplitl [HT]; · iexact HT
    isplitl [HF]; · iexact HF
    isplitl [HN]; · iexact HN
    isplitl [HW]; · iexact HW
    isplitl [Hw] <;> iassumption
end

end Cert.Proof.Comb
-- ==== Proof.CombFrame.lean ====
/-
  The combining kernel's region: its proof data, the body at every grid point, and the run of the whole program.
-/
module

public import proofs.«01_k».proof.Proof.CombBody
public import Idealize.ShloMosaic.Lib.Ring

@[expose] public section

noncomputable section

namespace Cert.Proof.Comb

open Cert.Combine Cert.Combine.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The region's start and end -/

abbrev osem : Fin 2 → SemLoc sig := fun | 0 => .dma (csm 0).sem | 1 => .dma (csm 1).sem
theorem ownSemFacts : Pipeline.OwnSemFacts spec0 osem := by decide
theorem bigSep_two (Φ : Fin 2 → sProp 𝕄) : bigSep Finset.univ Φ = iprop(Φ 0 ∗ Φ 1) :=
  bigSep_univ_eq_bigSepL [(0 : Fin 2), (1 : Fin 2)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cell c 0 ∗ cell c 1) := by
  unfold Pipeline.ownSems0; rw [bigSep_two]; rfl

section
variable (c : Dev nD) (X : Buf (Elt F) (cM.view.loc (c : Thread nD τ)))

theorem start_split :
    iprop((((c : Thread nD τ).loc main_arg2) ↦{fullShare} X)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c)
    ⊢ (iprop(Free c X 0 ∗ Free c X 1) : sProp 𝕄) := by
  rw [ownSems0_eq, scopedRest0_eq]
  iintro ⟨HX, ⟨C0, C1⟩, ⟨%f, HB⟩⟩
  ihave HX2 := (pointsTo_share (PosShare.mem_left_op_right fullShare)).1 $$ HX
  icases HX2 with ⟨X0, X1⟩
  ihave HB2 := (entails_of_eq ((Ring.pointsTo_blocks (Ix := Unit) (Name := ℕ) (U := UU nD τ) (Lvl := ℕ) (q := fullShare) (ℓ := (c : Thread nD τ).loc cc0_scratch0) SLO SLO_disjoint SLO_cover f).trans (bigSep_two _))) $$ HB
  icases HB2 with ⟨B0, B1⟩
  unfold Free cP qs
  isplitl [X0 C0 B0]
  · isplitl [B0]; · iexists f; iexact B0
    isplitl [C0] <;> iassumption
  · isplitl [B1]; · iexists f; iexact B1
    isplitl [C1] <;> iassumption
theorem end_join :
    (iprop(Free c X 0 ∗ Free c X 1) : sProp 𝕄)
    ⊢ iprop((((c : Thread nD τ).loc main_arg2) ↦{fullShare} X)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c) := by
  rw [ownSems0_eq, scopedRest0_eq]
  unfold Free cP qs
  iintro ⟨⟨⟨%f0, B0⟩, C0, X0⟩, ⟨⟨%f1, B1⟩, C1, X1⟩⟩
  isplitl [X0 X1]
  · iapply (pointsTo_share (PosShare.mem_left_op_right fullShare)).2
    isplitl [X0] <;> iassumption
  isplitl [C0 C1]
  · isplitl [C0] <;> iassumption
  iapply (Ring.pointsTo_blocks_join_exists (ℓ := (c : Thread nD τ).loc cc0_scratch0) SLO SLO_disjoint SLO_cover f0)
  iapply (entails_of_eq (bigSep_two _).symm)
  isplitl [B0]
  · iexists f0; iexact B0
  · iexists f1; iexact B1
end

/-! ## The proof data -/

theorem co_val (t : Fin grid0.N) : ((grid0.coords t) 0).val = t.val := by
  revert t; decide +kernel

section Data
variable (V : (c : Dev nD) → (b : Ref sig .tc) → Buf (Elt F) ((c : Thread nD τ).loc b)) (a : (pcfg0 (F := F)).Adm)

abbrev tA (c : Dev nD) : Buf (Elt F) (pM.view.loc (c : Thread nD τ)) := a.1 0
abbrev xA (c : Dev nD) : Buf (Elt F) (cM.view.loc (c : Thread nD τ)) := V c main_arg2
abbrev st0 (t : Fin (cfg0 a).N) : Memref sig .tc .vmem S128x2 .f32 := spec0_0.stage ((cfg0 a).slots t 0)
abbrev st1 (t : Fin (cfg0 a).N) : Memref sig .tc .vmem S128x5120 .bf16 := spec0_1.stage ((cfg0 a).slots t 1)
abbrev hst0 (t : Fin (cfg0 a).N) : (st0 a t).IsWhole := hstage0_0 (((cfg0 a).slots t 0).cast nbuf0_0)
abbrev hst1 (t : Fin (cfg0 a).N) : (st1 a t).IsWhole := hstage0_1 (((cfg0 a).slots t 1).cast nbuf0_1)
/-- An array at launch. -/
def arr0 (c : Dev nD) (w : Fin (cfg0 a).W) : Buf (Elt F) (((cfg0 a).win w).arr.view.loc (c : Thread nD τ)) := V c (Pipeline.arrRef spec0 w)
/-- What the input's staging buffer holds at a point. -/
def inAt (c : Dev nD) (w : Fin (cfg0 a).W) (t : Fin (cfg0 a).N) : ((cfg0 a).win w).block.Idx → Elt F ((cfg0 a).win w).elt :=
  Pipeline.heldIn (cfg0 a) (arr0 V a c) w t.val t.isLt
/-- What a point leaves in the output's staging buffer. -/
def outAt (c : Dev nD) (t : Fin (cfg0 a).N) : S128x5120.Idx → Elt F .bf16 :=
  outV c (xA V c) (tA a c) (st0 a t) t.val ((st0 a t).view.rep (inAt V a c 0 t))
def Φ (c : Dev nD) (k : ℕ) : sProp 𝕄 := iprop(pP c (tA a c) fullShare.right ∗ St c (xA V c) (tA a c) k)

def dats (_ : Fin 1) (c : Dev nD) : Dat τ (Elt F) Unit ℕ (UU nD τ) ℕ (cfg0 a) c where
  A := arr0 V a c
  after w t := match w with
    | ⟨0, _⟩ => inAt V a c 0 t
    | ⟨1, _⟩ => outAt V a c t
  Φ k := Φ V a c k.val
  q _ := fullShare
  owed _ := 0

theorem after_w0 (c : Dev nD) (t) : (dats V a 0 c).after 0 t = inAt V a c 0 t := rfl
theorem after_w1 (c : Dev nD) (t) : (dats V a 0 c).after 1 t = outAt V a c t := by unfold dats; exact Eq.refl (outAt V a c t)
theorem before_w0 (c : Dev nD) (t) (d) : (dats V a 0 c).before 0 t d = inAt V a c 0 t :=
  (dats V a 0 c).before_eq_heldIn 0 rfl (fun _ => rfl) (fun _ _ => rfl) (fun t => after_w0 V a c t) t d

theorem out_read (c : Dev nD) (t : Fin (cfg0 a).N) (gO : Buf (Elt F) ((st1 a t).view.loc (c : Thread nD τ))) :
    (st1 a t).view.read (Elt F) ((st1 a t).view.writes (Elt F) gO [⟨Rect.unit (s := S128x5120) ![0, 0] S128x5120.size inb_S128x5120_S128x5120_0_0,
      outV c (xA V c) (tA a c) (st0 a t) t.val ((st0 a t).view.rep (inAt V a c 0 t))⟩])
      = outV c (xA V c) (tA a c) (st0 a t) t.val ((st0 a t).view.rep (inAt V a c 0 t)) :=
  View.read_writes_full (Val := Elt F) (st1 a t).view gO inb_S128x5120_S128x5120_0_0 _ []

abbrev body (t : Fin (cfg0 a).N) : Prog (TpuEff nD τ sig (Elt F) Λ₀ .tc) PUnit :=
  bodyG ((cfg0 a).grid.coords t) (st0 a t) (hst0 a t) (st1 a t) (hst1 a t)
theorem defs_tc : (defs₀ (F := F)) .tc (cfg0 a).body
    = fun x => bodyG (grid0.coords x.1) (spec0_0.stage (x.2 0)) (hstage0_0 ((x.2 0).cast nbuf0_0)) (spec0_1.stage (x.2 1)) (hstage0_1 ((x.2 1).cast nbuf0_1)) := rfl
theorem prog_eq (t : Fin (cfg0 a).N) : (defs₀ (F := F)) .tc (cfg0 a).body ((cfg0 a).bodyArgs t ((cfg0 a).slots t)) = body a t :=
  (congrFun (defs_tc a) _).trans rfl

variable (hok : RowsOk (a.1 0))
include hok in
set_option backward.isDefEq.respectTransparency.types false in
theorem body_obligation (c : Dev nD) : BodyObligation (dats (F := F) V a 0 c) (defs₀ (F := F)) 𝒱₀ () Set.univ := fun t => by
  have hco : (((cfg0 a).grid.coords t) 0).val = t.val := co_val t
  have hrun := fun gO => runA c (xA V c) (tA a c) ((cfg0 a).grid.coords t) (st0 a t) (hst0 a t) (st1 a t) (hst1 a t) hok fullShare.right ((st0 a t).view.rep (inAt V a c 0 t)) gO
  rw [hco] at hrun
  rw [bigSep_W0, bigSep_W0]
  dsimp only
  simp only [before_w0, after_w0]
  rw [show (dats V a 0 c).Φ t.castSucc = Φ V a c t.val from rfl, show (dats V a 0 c).Φ t.succ = Φ V a c (t.val + 1) from rfl]
  unfold Dat.owesAt Pipeline.owesWithin
  rw [show (dats V a 0 c).owed t.castSucc = 0 from rfl, show (dats V a 0 c).owed t.succ = 0 from rfl]
  rw [after_w1]
  unfold owns Φ outAt
  iintro ⟨⟨HT, HI⟩, ⟨%W, -, HW⟩, ⟨%d0, %g0, %hg0, H0⟩, ⟨%d1, %gO, -, HO⟩⟩
  ihave H0' := (pointsTo_rep_entails (c : Thread nD τ) (st0 a t) g0 fullShare) $$ H0
  rw [hg0]
  sl_rw [prog_eq a t]
  iapply wp_wand_r
  isplitl [HT HI HW H0' HO]
  · iapply (hrun gO)
    isplitl [HT]; · iexact HT
    isplitl [HI]; · iexact HI
    isplitl [HW]; · unfold Ow; iexists W; iexact HW
    isplitl [H0']; · iexact H0'
    iexact HO
  iintro %_ ⟨HT, HI, HW, H0, HO⟩
  unfold Ow
  icases HW with ⟨%W', HW⟩
  isplitl [HT HI]
  · isplitl [HT]; · iexact HT
    iexact HI
  isplitl [HW]
  · iexists W'; isplitr; · ipureintro; exact fun _ _ => Or.inl trivial
    iexact HW
  isplitl [H0]
  · iexists _; isplitr; · ipureintro; exact View.read_rep _ _
    iexact H0
  iexists ((st1 a t).view.writes (Elt F) gO [⟨Rect.unit (s := S128x5120) ![0, 0] S128x5120.size inb_S128x5120_S128x5120_0_0, outV c (xA V c) (tA a c) (st0 a t) t.val ((st0 a t).view.rep (inAt V a c 0 t))⟩])
  isplitr
  · ipureintro
    exact out_read V a c t gO
  iexact HO
end Data

/-! ## The run -/

section Run
variable (m : (ℓ : Loc nD τ sig) → Buf (Elt F) ℓ) (ρ : Dev nD → PrngReg)

/-- The table at launch. -/
def pf₀ : pre0.Contents (Elt F) := fun k => m (((0 : Dev nD) : Thread nD τ).loc (pre0.ref k))
variable (hok : RowsOk (pf₀ m 0))
def adm₀ : (pcfg0 (F := F)).Adm := ⟨pf₀ m, trivial⟩
abbrev V₀ (c : Dev nD) (b : Ref sig .tc) : Buf (Elt F) ((c : Thread nD τ).loc b) := m ((c : Thread nD τ).loc b)
abbrev adms (_ : Fin 1) : (pcfg0 (F := F)).Adm := adm₀ m
abbrev pdats (p : Fin 1) (c : Dev nD) : Dat τ (Elt F) Unit ℕ (UU nD τ) ℕ (Pipeline.pin (pcfgs (F := F)) (adms m) p) c := dats (V₀ m) (adm₀ m) p c
def u₀ : UU nD τ := (initOf (Pipeline.cells (Pipeline.pin (pcfgs (F := F)) (adms m)) (cellOf_inj _)) (Pipeline.launchToks (Pipeline.pin (pcfgs (F := F)) (adms m)) (cellOf_inj _)), 1)
def s₀ : MemSt nD τ sig (Elt F) := ⟨m, fun _ => 0, ρ⟩
def finalA (c : Dev nD) (w : Fin (cfg0 (adm₀ m)).W) : Buf (Elt F) (((cfg0 (adm₀ m)).win w).arr.view.loc (c : Thread nD τ)) := (dats (V₀ m) (adm₀ m) 0 c).arrAt w (cfg0 (adm₀ m)).N
def QY (c : Dev nD) (s : MemSt nD τ sig (Elt F)) : Prop :=
  s.mem ((c : Thread nD τ).loc main_arg2) = m ((c : Thread nD τ).loc main_arg2)
def QC : PUnit × MemSt nD τ sig (Elt F) → Prop := fun r =>
  ∀ c : Dev nD, (∀ w, r.2.mem (((cfg0 (adm₀ m)).win w).arr.view.loc (c : Thread nD τ)) = finalA m c w)
    ∧ (∀ k, r.2.mem ((c : Thread nD τ).loc (pre0.ref k)) = pf₀ m k) ∧ QY m c r.2
def intoΦ (c : Dev nD) : sProp 𝕄 := iprop((((c : Thread nD τ).loc main_arg2) ↦{fullShare} m ((c : Thread nD τ).loc main_arg2)) ∗ Pipeline.ownSems0 osem c)
def outOfΦ (c : Dev nD) : sProp 𝕄 := iprop((((c : Thread nD τ).loc main_arg2) ↦{fullShare} m ((c : Thread nD τ).loc main_arg2)))
theorem dev_zero (c : Dev nD) : c = 0 := Subsingleton.elim _ _

theorem held_eq (c : Dev nD) : (Pipeline.prefHeld (Ix := Unit) (Name := ℕ) (U := UU nD τ) (Lvl := ℕ) (Val := Elt F) pre0 c (fun _ => fullShare.right) (pf₀ m) : sProp 𝕄)
    = pP c (tA (adm₀ m) c) fullShare.right := by
  unfold Pipeline.prefHeld
  have e1 : pM.view.set = Finset.univ := View.set_whole _
  unfold pP
  rw [e1]
  exact bigSep_univ_eq_bigSepL [(0 : Fin 1)] (by decide) (by decide) _

include hok in
set_option backward.isDefEq.respectTransparency.types false in
/-- From any memory with zero counters whose table names rows of the source: every weakly fair execution terminates,
    and every final state has the arrays at the computed contents, the table and the source unchanged, every
    semaphore counter at zero. -/
theorem run_main : θ_run defs (onTc (τ := τ) (main (F := F))) (s₀ m ρ) (fun r => QC m r ∧ r.2.sem = fun _ => 0) :=
  Pipeline.θ_run_region_pf_quiescent pcfgs (adms m) (pdats m) () (cellOf_inj _) (0 : Fin 1) winFacts0.to₀ ownSemFacts preFacts0 EP defs₀ 𝒱₀ m ρ main
    (hbody := fun c => (body_obligation (V₀ m) (adm₀ m) hok c).loose)
    (hne := block_pos0) (harr := arr_whole0) (hstage := stage_whole0)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V₀ m)
    (hmain := fun c Q => by
      simp only [main, Prog.lift, Prog.bind_op, Prog.bind_ret]
      iintro ⟨Hk, Hb⟩; iapply Hk; iexact Hb)
    (hsplit := fun c => Pipeline.arrays_split (Pipeline.pin (pcfgs (F := F)) (adms m)) (pdats m) 0 winFacts0.arr_inj c arr_whole0
      ((pdats m 0 c).share_full fun _ => rfl) (V₀ m c) _ fun _ => rfl)
    (hpf := fun c k => by rw [dev_zero c]; rfl)
    (X := intoΦ m) (Y := outOfΦ m) (Z := fun _ => iprop(emp))
    (hX := fun c => by
      rw [unscopedRestP0_eq]
      unfold intoΦ
      iintro ⟨H5, HS, -, -, -⟩; imodintro
      isplitl [H5 HS]
      · isplitl [H5]; · iexact H5
        iexact HS
      iempintro)
    (hin := fun c => by
      rw [show (pdats m 0 c).Φ 0 = Φ (V₀ m) (adm₀ m) c 0 from rfl]
      unfold intoΦ Φ
      rw [show St c (xA (V₀ m) c) (tA (adm₀ m) c) 0 = iprop(Free c (xA (V₀ m) c) 0 ∗ Free c (xA (V₀ m) c) 1) from by
        unfold St Cur; rw [if_neg (by omega)]; rfl]
      iintro ⟨⟨H5, HS⟩, HP, HR⟩
      ihave HT := (show Pipeline.prefHeld (pcfgs (F := F) 0).pre c (fun _ => fullShare.right) (adms m 0).1 ⊢ _ from entails_of_eq (held_eq m c)) $$ HP
      isplitl [HT]; · iexact HT
      iapply (start_split c (xA (V₀ m) c))
      isplitl [H5]; · iexact H5
      isplitl [HS] <;> iassumption)
    (hout := fun c => by
      rw [show (pdats m 0 c).Φ (Fin.last _) = Φ (V₀ m) (adm₀ m) c (Fin.last (cfg0 (adm₀ m)).N).val from rfl]
      have e : (Fin.last (cfg0 (adm₀ m)).N).val = 192 := N_0
      unfold Φ outOfΦ
      rw [e, show St c (xA (V₀ m) c) (tA (adm₀ m) c) 192 = iprop(Free c (xA (V₀ m) c) 0 ∗ Free c (xA (V₀ m) c) 1) from by
        unfold St Cur; rw [if_neg (by omega)]; rfl]
      iintro ⟨-, HI⟩
      iapply (end_join c (xA (V₀ m) c))
      iexact HI)
    (QY := QY m)
    (hY := fun c s' => by
      unfold outOfΦ
      iintro ⟨H5, -, HSI⟩
      icombine HSI H5 gives %h5
      imodintro
      isplitr; · ipureintro; exact Buf.eq_of_forall_mem_univ h5
      iexact HSI)
    (hQ := fun _ hh hz => ⟨hh, hz⟩)

theorem finalA_in (c : Dev nD) (w : Fin (cfg0 (adm₀ m)).W) (hw : ((cfg0 (adm₀ m)).win w).isOut = false) :
    finalA m c w = m (((cfg0 (adm₀ m)).win w).arr.view.loc (c : Thread nD τ)) :=
  (dats (F := F) (V₀ m) (adm₀ m) 0 c).arrAt_in w hw _
end Run

end Cert.Proof.Comb
-- ==== Proof.CombClaims.lean ====
/-
  The frame claim of the combining kernel at its precondition, from the run of the whole program.
-/
module

public import proofs.«01_k».proof.Proof.CombFrame
public import proofs.«01_k».proof.Proof.Mask
public import proofs.«01_k».proof.Pre_rows_ok

@[expose] public section

set_option maxRecDepth 16384

noncomputable section

namespace Cert.Proof.Comb

open Cert.Combine Cert.Combine.Gen
open Idealize.ShloMosaic
open Idealize.ShloMosaic.TcCoe
open Idealize.SL.Sem

variable {F : FTy → Type} [FloatOps F] (m : (ℓ : Loc nD τ sig) → Buf (Elt F) ℓ)

/-- What the run leaves in the three arguments: their initial contents. -/
theorem args_kept (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  obtain ⟨hw, hp, h2⟩ := h c
  obtain rfl := dev_zero c
  exact ⟨hp 0, (hw 0).trans (finalA_in m 0 0 rfl), h2⟩

theorem sge_of (a b : BitVec 32) (h : IntOp.cmpi .sge a b = 1#1) : b.toInt ≤ a.toInt := BitVec.sle_iff_toInt_le.1 (Mask.ofBool_one _ h)

/-- The precondition on the positions, read at one of them. -/
theorem row_decode [Cert.Pre_rows_ok.Facts] (T : IVec S49152 32) (w y) (h : Cert.Pre_rows_ok.fn (F := F) T w y = fun _ => 1#1) (k : ℕ) :
    (pW T k).toNat < 53248 := by
  have e := congrFun h (pIx k)
  obtain ⟨e1, e2⟩ := Mask.and_one _ _ (show IntOp.andi (IntOp.cmpi .sge (pW T k) 0#32) (IntOp.cmpi .slt (pW T k) 53248#32) = 1#1 from e)
  have i1 : (0 : ℤ) ≤ (pW T k).toInt := sge_of _ _ e1
  have i2 : (pW T k).toInt < 53248 := Mask.slt_of _ _ e2
  have ei := BitVec.toInt_eq_toNat_cond (pW T k)
  have hl := (pW T k).isLt
  split at ei <;> omega

/-- A precondition that holds of the arguments makes every position name a row. -/
theorem rows_of_pre [Cert.Pre_rows_ok.Facts]
    (h : ∀ c : Dev nD, Cert.Pre_rows_ok.fn (F := F) (m ((c.tc : Thread nD τ).loc main_arg0)) (m ((c.tc : Thread nD τ).loc main_arg1)) (m ((c.tc : Thread nD τ).loc main_arg2)) = (fun _ => 1#1)) :
    RowsOk (pf₀ m 0) := fun k => row_decode _ _ _ (h 0) k

/-- The program runs, every semaphore counter ends at zero, and the arguments are unchanged. -/
theorem frame_of (ρ : Dev nD → PrngReg) (hok : RowsOk (pf₀ m 0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main m ρ hok)

end Cert.Proof.Comb

end
-- ==== Proof.CombNamesI.lean ====
/-
  The names the proof of the combining kernel works with: the two slots of its buffer by rows, the rows of the
  contributions, the two semaphores, and the positions read as rows.
-/
module

public import proofs.«01_k».proof.Defs
public import proofs.«01_k».proof.Proof.Gen.CombineIdeal.Launch
public import proofs.«01_k».proof.Proof.Gen.CombineIdeal.Skeleton
public import Idealize.ShloMosaic.Lib.Pipeline.Quiescent
public import Idealize.ShloMosaic.Lib.Pipeline.FrameBody
public import Idealize.ShloMosaic.Lib.Ring
public import Idealize.ShloMosaic.Lib.Batch
public import Idealize.ShloMosaic.Lib.ShareLeaves
public import Idealize.ShloMosaic.Lib.Pointwise.Reshape
public import Idealize.ShloMosaic.Lib.Affine
public import Idealize.ShloMosaic.Lib.Tactic

@[expose] public section

noncomputable section

namespace Cert.Proof.CombI

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource algebra: the pipeline library's, beside the counters the kernel's own copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The names -/

abbrev pM : Memref sig .tc .smem S49152 .i32 := Memref.whole main_arg0
abbrev cM : Memref sig .tc .hbm S53248x5120 .f32 := Memref.whole main_arg2
abbrev bM : Memref sig .tc .vmem S2x2x128x5120 .f32 := Memref.whole cc0_scratch0

/-- Copy `j` of a step lands in row `j / 2` of half `j % 2` of slot `s`. -/
abbrev rowOff (s : Fin 2) (j : ℕ) : Fin 4 → Nat := ![s.val, j % 2, j / 2, 0]
abbrev srcOff (p : ℕ) : Fin 2 → Nat := ![p, 0]
abbrev cellOff (s : Fin 2) : Fin 1 → Nat := ![s.val]

theorem row_inb (s : Fin 2) (j : Fin 256) : ∀ a, rowOff s j.val a + S1x1x1x5120.size a ≤ S2x2x128x5120.size a := by
  have := s.isLt; have := j.isLt; intro a; fin_cases a
  · show s.val + 1 ≤ 2; omega
  · show j.val % 2 + 1 ≤ 2; omega
  · show j.val / 2 + 1 ≤ 128; omega
  · show 0 + 5120 ≤ 5120; omega
theorem src_inb (p : Fin 53248) : ∀ a, srcOff p.val a + S1x5120.size a ≤ S53248x5120.size a := by
  have := p.isLt; intro a; fin_cases a
  · show p.val + 1 ≤ 53248; omega
  · show 0 + 5120 ≤ 5120; omega
theorem cell_inb (s : Fin 2) : ∀ a, cellOff s a + S1.size a ≤ S2.size a := by
  have := s.isLt; intro a; fin_cases a; show s.val + 1 ≤ 2; omega

/-- The row copy `j` lands in. -/
def rowM (s : Fin 2) (j : Fin 256) : Memref sig .tc .vmem S1x5120 .f32 :=
  (bM.slice (Rect.unit (s := S2x2x128x5120) (rowOff s j.val) S1x1x1x5120.size (row_inb s j)) (fun _ => rfl)).squeeze S1x5120 squeezes_S1x1x1x5120_S1x5120
/-- Row `p` of the contributions. -/
def srcM (p : Fin 53248) : Memref sig .tc .hbm S1x5120 .f32 :=
  cM.slice (Rect.unit (s := S53248x5120) (srcOff p.val) S1x5120.size (src_inb p)) (fun _ => rfl)
/-- The semaphore of slot `s`. -/
def csm (s : Fin 2) : DmaSems sig S_ :=
  (cc0_scratch1.slice (Rect.unit (s := S2) (cellOff s) S1.size (cell_inb s))).squeeze S_ squeezes_S1_S_

/-! ## The positions -/

def pIx (k : ℕ) : S49152.Idx := fun a => match a with | 0 => (Fin.ofNat 49152 k : Fin 49152)
/-- Position `k`, and the row it names. -/
def pW (T : S49152.Idx → BitVec 32) (k : ℕ) : BitVec 32 := T (pIx k)
def pR (T : S49152.Idx → BitVec 32) (k : ℕ) : Fin 53248 := Fin.ofNat 53248 (pW T k).toNat
/-- Every position names a row. -/
def RowsOk (T : S49152.Idx → BitVec 32) : Prop := ∀ k, (pW T k).toNat < 53248
theorem pR_val {T : S49152.Idx → BitVec 32} (h : RowsOk T) (k : ℕ) : (pR T k).val = (pW T k).toNat := Nat.mod_eq_of_lt (h k)

/-! ## The slots by rows -/

def RW (s : Fin 2) (j : Fin 256) : Finset S2x2x128x5120.Idx := (Rect.unit (s := S2x2x128x5120) (rowOff s j.val) S1x1x1x5120.size (row_inb s j)).set
def SLO (s : Fin 2) : Finset S2x2x128x5120.Idx := Finset.univ.filter fun y => (y 0).val = s.val
theorem row_set (s : Fin 2) (j : Fin 256) : (rowM s j).view.set = RW s j := (View.set_reshape _ _).trans (View.set_slice_whole _ _)
theorem mem_RW (s : Fin 2) (j : Fin 256) (y : S2x2x128x5120.Idx) : y ∈ RW s j ↔ (y 0).val = s.val ∧ 2 * (y 2).val + (y 1).val = j.val := by
  unfold RW
  rw [Rect.mem_set_unit]
  have h1 : (y 1).val < 2 := (y 1).isLt
  have h2 : (y 2).val < 128 := (y 2).isLt
  have h3 : (y 3).val < 5120 := (y 3).isLt
  constructor
  · intro H
    have a0 : s.val ≤ (y 0).val ∧ (y 0).val < s.val + 1 := H 0
    have a1 : j.val % 2 ≤ (y 1).val ∧ (y 1).val < j.val % 2 + 1 := H 1
    have a2 : j.val / 2 ≤ (y 2).val ∧ (y 2).val < j.val / 2 + 1 := H 2
    omega
  · intro H a; fin_cases a
    · show s.val ≤ (y 0).val ∧ (y 0).val < s.val + 1; omega
    · show j.val % 2 ≤ (y 1).val ∧ (y 1).val < j.val % 2 + 1; omega
    · show j.val / 2 ≤ (y 2).val ∧ (y 2).val < j.val / 2 + 1; omega
    · show 0 ≤ (y 3).val ∧ (y 3).val < 0 + 5120; omega
theorem RW_disjoint (s : Fin 2) : ∀ j ∈ (Finset.univ : Finset (Fin 256)), ∀ j' ∈ (Finset.univ : Finset (Fin 256)), j ≠ j' → Disjoint (RW s j) (RW s j') := by
  intro j _ j' _ hne; rw [Finset.disjoint_left]; intro y hy hy'
  rw [mem_RW] at hy hy'; exact hne (Fin.ext (hy.2.symm.trans hy'.2))
theorem RW_cover (s : Fin 2) : (Finset.univ : Finset (Fin 256)).biUnion (RW s) = SLO s := by
  ext y
  have h1 : (y 1).val < 2 := (y 1).isLt
  have h2 : (y 2).val < 128 := (y 2).isLt
  simp only [Finset.mem_biUnion, Finset.mem_univ, true_and, SLO, Finset.mem_filter]
  constructor
  · rintro ⟨j, hj⟩; exact ((mem_RW s j y).1 hj).1
  · intro h; exact ⟨⟨2 * (y 2).val + (y 1).val, by omega⟩, (mem_RW _ _ _).2 ⟨h, rfl⟩⟩
theorem SLO_disjoint : ∀ s s' : Fin 2, s ≠ s' → Disjoint (SLO s) (SLO s') := by
  intro s s' hne; rw [Finset.disjoint_left]; intro y hy hy'
  simp only [SLO, Finset.mem_filter, Finset.mem_univ, true_and] at hy hy'
  exact hne (Fin.ext (hy.symm.trans hy'))
theorem SLO_cover : (Finset.univ : Finset (Fin 2)).biUnion SLO = Finset.univ := by
  ext y; simp only [Finset.mem_biUnion, Finset.mem_univ, true_and, iff_true, SLO, Finset.mem_filter]
  exact ⟨(y 0).cast (by decide), rfl⟩

/-! ## What a step's copies leave -/

def gIx (p : Fin 53248) (y : Fin 5120) : S53248x5120.Idx := fun a => match a with | 0 => p | 1 => y
section
variable (c : Dev nD) (X : Buf (Elt F) (cM.view.loc (c : Thread nD τ))) (T : S49152.Idx → BitVec 32)
/-- The rows of step `n`, laid over both slots. -/
def G (n : ℕ) : Buf (Elt F) (bM.view.loc (c : Thread nD τ)) := fun y => X (gIx (pR T (256 * n + (2 * (y 2).val + (y 1).val))) (y 3))

theorem sq_idx (x : S1x5120.Idx) (y : S1x1x1x5120.Idx) (h : (y 3).val = (x 1).val) :
    Shape.reshapeEquiv squeezes_S1x1x1x5120_S1x5120.numel_eq x = y := by
  have e0 : (x 0).val = 0 := Nat.lt_one_iff.1 (x 0).isLt
  have f0 : (y 0).val = 0 := Nat.lt_one_iff.1 (y 0).isLt
  have f1 : (y 1).val = 0 := Nat.lt_one_iff.1 (y 1).isLt
  have f2 : (y 2).val = 0 := Nat.lt_one_iff.1 (y 2).isLt
  refine Shape.reshapeEquiv_eq_of_vals _ x y _ _ (rowMajor_val4 y 5120 5120 5120 rfl rfl rfl) (rowMajor_val2 x 5120 rfl) ?_
  omega

/-- The place of element `x` of copy `j`'s row. -/
def rowE (s : Fin 2) (j : Fin 256) (x : S1x5120.Idx) : S2x2x128x5120.Idx := (rowM s j).view.emb x
/-- What copy `j` of step `n` writes is the step's rows at that row. -/
theorem land_eq (s : Fin 2) (n : ℕ) (j : Fin 256) (f : Buf (Elt F) ((rowM s j).view.loc (c : Thread nD τ))) :
    ∀ y ∈ RW s j, ((rowM s j).view.write (Elt F) f (ReadAs.same.apply ((srcM (pR T (256 * n + j.val))).view.read (Elt F) X)) Finset.univ) y = G c X T n y := by
  intro y hy
  rw [← row_set] at hy
  obtain ⟨x, -, rfl⟩ := Finset.mem_map.mp hy
  have hj := (mem_RW s j (rowE s j x)).1 ((row_set s j) ▸ hy)
  have h3 : (rowE s j x 3).val = (x 1).val := by
    obtain ⟨z, hz⟩ : ∃ z : S1x1x1x5120.Idx, (z 3).val = (x 1).val := ⟨fun a => match a with | 0 => ⟨0, by decide⟩ | 1 => ⟨0, by decide⟩ | 2 => ⟨0, by decide⟩ | 3 => x 1, rfl⟩
    show 0 + 1 * ((Shape.reshapeEquiv squeezes_S1x1x1x5120_S1x5120.numel_eq x : S1x1x1x5120.Idx) 3).val = _
    rw [sq_idx x z hz, hz]; omega
  refine (View.write_emb_of_mem _ _ (Finset.mem_univ x)).trans ?_
  show X ((srcM (pR T (256 * n + j.val))).view.emb x) = X (gIx (pR T (256 * n + (2 * (rowE s j x 2).val + (rowE s j x 1).val))) (rowE s j x 3))
  refine congrArg X ?_
  rw [hj.2]
  have e0 : (x 0).val = 0 := Nat.lt_one_iff.1 (x 0).isLt
  have e1 : ∀ z : S53248x5120.Idx, (z 0).val = (pR T (256 * n + j.val)).val → (z 1).val = (rowE s j x 3).val → z = gIx (pR T (256 * n + j.val)) (rowE s j x 3) := by
    intro z h0 h1; funext a
    match a with
    | 0 => exact Fin.ext h0
    | 1 => exact Fin.ext h1
  refine e1 _ ?_ ?_
  · show (pR T (256 * n + j.val)).val + 1 * (x 0).val = (pR T (256 * n + j.val)).val; omega
  · refine Eq.trans ?_ h3.symm; show 0 + 1 * (x 1).val = (x 1).val; omega

/-! ## The copies of a step -/

/-- The credit of one copy. -/
def NN : ℕ := (rowM 0 0).view.dmaCredit
theorem NN_pos : 0 < NN := View.dmaCredit_pos (rowM 0 0).view (by decide)
abbrev CS (p : Fin 53248) : Finset S53248x5120.Idx := (srcM p).view.set
/-- The share the copies into slot `s` read the contributions at. -/
def qs : Fin 2 → PosShare TreeShare := fun | 0 => fullShare.left | 1 => fullShare.right
def cP (s : Fin 2) : sProp 𝕄 := cM.view.loc (c : Thread nD τ) ↦[Finset.univ]{qs s} X
def tk (s : Fin 2) (n : ℕ) (j : Fin 256) : sProp 𝕄 := cM.view.loc (c : Thread nD τ) ↦[CS (pR T (256 * n + j.val))]{ShareLeaves.leaf 8 (qs s) j} X
def tr (s : Fin 2) (n : ℕ) (j : Fin 256) : sProp 𝕄 := cM.view.loc (c : Thread nD τ) ↦[Finset.univ \ CS (pR T (256 * n + j.val))]{ShareLeaves.leaf 8 (qs s) j} X
def rP (s : Fin 2) (j : Fin 256) : sProp 𝕄 := iprop(∃ f, bM.view.loc (c : Thread nD τ) ↦[RW s j]{fullShare} f)
/-- What copy `j` of step `n` hands over on arrival: its row, and the contribution back. -/
def DD (s : Fin 2) (n : ℕ) (j : Fin 256) : sProp 𝕄 :=
  iprop((bM.view.loc (c : Thread nD τ) ↦[RW s j]{fullShare} (G c X T n)) ∗ cM.view.loc (c : Thread nD τ) ↦[CS (pR T (256 * n + j.val))]{ShareLeaves.leaf 8 (qs s) j} X)
instance DD_storable (s : Fin 2) (n : ℕ) (j : Fin 256) : BI.Storable (upEmb : UEmb _ 𝕄) (DD c X T s n j) := by
  unfold DD; infer_instance
def bt (s : Fin 2) (n j u : ℕ) : sProp 𝕄 :=
  Transfers.Batch countersEmb (c : Thread nD τ) (.dma (csm s).sem) () NN (DD c X T s n) j u
def Iss (s : Fin 2) (n j : ℕ) : sProp 𝕄 :=
  iprop(bt c X T s n j 0 ∗ bigSep (Transfers.pending (n := 256) j) (fun t => iprop(rP c s t ∗ tk c X T s n t)) ∗ bigSep Finset.univ (tr c X T s n))
/-- Slot `s` with step `n` on its way, `u` units of it waited for. -/
def Fly (s : Fin 2) (n u : ℕ) : sProp 𝕄 := iprop(bt c X T s n 256 u ∗ bigSep Finset.univ (tr c X T s n))
def cell (s : Fin 2) : sProp 𝕄 := semVal ((c : Thread nD τ), SemLoc.dma (csm s).sem) 0
/-- Slot `s` with nothing on its way. -/
def Free (s : Fin 2) : sProp 𝕄 := iprop((∃ f, bM.view.loc (c : Thread nD τ) ↦[SLO s]{fullShare} f) ∗ cell c s ∗ cP c X s)
/-- Slot `s` with step `n` arrived. -/
def Got (s : Fin 2) (n : ℕ) : sProp 𝕄 := iprop((bM.view.loc (c : Thread nD τ) ↦[SLO s]{fullShare} (G c X T n)) ∗ cell c s ∗ cP c X s)

omit [FloatOps F] in
/-- Elements held together are held piece by piece. -/
theorem pieces {B : Type} [Fintype B] {ℓ : Loc nD τ sig} {q : PosShare TreeShare} (S : Finset (Idx ℓ)) (K : B → Finset (Idx ℓ))
    (hd : ∀ b ∈ (Finset.univ : Finset B), ∀ b' ∈ (Finset.univ : Finset B), b ≠ b' → Disjoint (K b) (K b'))
    (hc : ∀ y, y ∈ S ↔ ∃ b, y ∈ K b) (f : Buf (Elt F) ℓ) : (ℓ ↦[S]{q} f : sProp 𝕄) = bigSep Finset.univ fun b => ℓ ↦[K b]{q} f := by
  have e : S = Finset.univ.biUnion K := by ext y; simp only [Finset.mem_biUnion, Finset.mem_univ, true_and, hc]
  rw [e, pointsTo_biUnion Finset.univ K hd]
/-- The contributions at a slot's share, dealt to its copies. -/
theorem cP_deal (s : Fin 2) (n : ℕ) : cP c X s = iprop(bigSep Finset.univ (tk c X T s n) ∗ bigSep Finset.univ (tr c X T s n)) := by
  unfold cP
  refine (ShareLeaves.pointsTo_leaves _ _ 8 (qs s)).trans (Eq.trans ?_ (bigSep_sep' Finset.univ (tk c X T s n) (tr c X T s n)))
  refine bigSep_congr fun j _ => ?_
  unfold tk tr
  exact BI.Entails.antisymm (pointsTo_split_subset (Finset.subset_univ _)).1 (pointsTo_split_subset (Finset.subset_univ _)).2
theorem slot_rows (s : Fin 2) (f) : (bM.view.loc (c : Thread nD τ) ↦[SLO s]{fullShare} f : sProp 𝕄) = bigSep Finset.univ (fun j => bM.view.loc (c : Thread nD τ) ↦[RW s j]{fullShare} f) := by
  have hc : ∀ y, y ∈ SLO s ↔ ∃ b, y ∈ RW s b := fun y => by rw [← RW_cover s]; simp only [Finset.mem_biUnion, Finset.mem_univ, true_and]
  exact pieces (ℓ := bM.view.loc (c : Thread nD τ)) (SLO s) (RW s) (RW_disjoint s) hc f

theorem iss_start (s : Fin 2) (n : ℕ) : Free c X s ⊢ |={Set.univ}=> Iss c X T s n 0 := by
  unfold Free Iss cell
  rw [cP_deal c X T s n, ← Transfers.bigSep_pending_zero, bigSep_sep']
  iintro ⟨⟨%f, HB⟩, Hc, HK, HR⟩
  imod (Transfers.batch_alloc' (Lvl := ℕ) countersEmb (c : Thread nD τ) () NN (DD c X T s n) (sm := .dma (csm s).sem) (E := Set.univ)) $$ Hc with HT
  imodintro
  ihave HB' := (entails_of_eq (slot_rows c s f)) $$ HB
  isplitl [HT]; · unfold bt; iexact HT
  isplitr [HR]
  · isplitl [HB']
    · iapply (show bigSep Finset.univ (fun j => bM.view.loc (c : Thread nD τ) ↦[RW s j]{fullShare} f) ⊢ bigSep Finset.univ (rP c s) from
        BI.bigSep_mono fun j _ => show (bM.view.loc (c : Thread nD τ) ↦[RW s j]{fullShare} f : sProp 𝕄) ⊢ rP c s j from by unfold rP; iintro H; iexists f; iexact H)
      iexact HB'
    iexact HK
  iexact HR
theorem iss_end (s : Fin 2) (n : ℕ) : Iss c X T s n 256 ⊢ Fly c X T s n 0 := by
  unfold Iss Fly
  iintro ⟨HT, -, HR⟩
  isplitl [HT] <;> iassumption
theorem fly_got (s : Fin 2) (n : ℕ) : Fly c X T s n (NN * 256) ⊢ |={Set.univ}=> Got c X T s n := by
  unfold Fly Got cell bt
  rw [cP_deal c X T s n, slot_rows]
  iintro ⟨HT, HR⟩
  imod (Transfers.batch_collect' countersEmb (c : Thread nD τ) NN_pos) $$ HT with ⟨HD, Hc⟩
  imodintro
  ihave HD' := (show bigSep Finset.univ (DD c X T s n) ⊢ iprop(bigSep Finset.univ (fun j => bM.view.loc (c : Thread nD τ) ↦[RW s j]{fullShare} (G c X T n)) ∗ bigSep Finset.univ (tk c X T s n)) from
    entails_of_eq (bigSep_sep' _ _ _)) $$ HD
  icases HD' with ⟨HB, HK⟩
  isplitl [HB]; · iexact HB
  isplitl [Hc]; · iexact Hc
  isplitl [HK] <;> iassumption
theorem got_free (s : Fin 2) (n : ℕ) : Got c X T s n ⊢ Free c X s := by
  unfold Got Free
  iintro ⟨HB, H⟩
  isplitl [HB]; · iexists _; iexact HB
  iexact H
end

end Cert.Proof.CombI

end
-- ==== Proof.CombIssueI.lean ====
/-
  One copy of the combining kernel started: the position loaded, checked, and its row sent for.
-/
module

public import proofs.«01_k».proof.Proof.CombNamesI

@[expose] public section

noncomputable section

namespace Cert.Proof.CombI

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (c : Dev nD) (X : Buf (Elt F) (cM.view.loc (c : Thread nD τ))) (T : Buf (Elt F) (pM.view.loc (c : Thread nD τ)))

abbrev pP (q : PosShare TreeShare) : sProp 𝕄 := pM.view.loc (c : Thread nD τ) ↦[pM.view.set]{q} T

theorem p_read (k : Nat) (off : Fin 1 → Nat) (inb) (pf) (hk : off = ![k]) (hl : k < 49152) :
    View.read (Elt F) (pM.access (Rect.unit (s := S49152) off S1.size inb)) T (Shape.Idx.first (s := S1) pf) = pW T k := by
  subst hk
  rw [View.read_apply]
  unfold pW pIx
  refine congrArg T (funext fun x => ?_)
  fin_cases x
  apply Fin.ext
  have h0 : ((Shape.Idx.first (s := S1) pf) 0).val = 0 := Nat.lt_one_iff.1 ((Shape.Idx.first (s := S1) pf) 0).isLt
  show k + 1 * ((Shape.Idx.first (s := S1) pf) 0).val = k % 49152
  rw [h0, Nat.mod_eq_of_lt hl]; rfl

theorem row_amount (s : Fin 2) (j : Fin 256) : (rowM s j).view.amount (.dma (csm s).sem) = NN := rfl

set_option maxHeartbeats 1000000 in
theorem issue_full {α : Type} {Q : α → sProp 𝕄} (hT : RowsOk T) (q : PosShare TreeShare) (s : Fin 2) (n j : ℕ) (hj : j < 256) (hn : 256 * n + j < 49152)
    (chk : BitVec 32 → Prop) (dec : ∀ v, Decidable (chk v)) (hchk : ∀ v : BitVec 32, v.toNat < 53248 → chk v)
    (oL : Fin 1 → ℕ) (iL : ∀ a, oL a + S1.size a ≤ S49152.size a) (hl) (pf)
    (oS : BitVec 32 → Fin 2 → ℕ) (iS : ∀ v, chk v → ∀ a, oS v a + S1x5120.size a ≤ S53248x5120.size a)
    (oD : Fin 4 → ℕ) (iD : ∀ a, oD a + S1x1x1x5120.size a ≤ S2x2x128x5120.size a)
    (oC : Fin 1 → ℕ) (iC : ∀ a, oC a + S1.size a ≤ S2.size a)
    (eL : oL = ![256 * n + j]) (eD : oD = rowOff s j) (eC : oC = cellOff s) (eS : ∀ v, oS v = srcOff v.toNat) (h2 h3)
    (k : PUnit → Prog (TpuEff nD τ sig (Elt F) Λ₀ .tc) α) :
    iprop(pP c T q ∗ Iss c X T s n j) ⊢ iprop((iprop(pP c T q ∗ Iss c X T s n (j + 1)) -∗ wp frame (wpE (defs₀ (F := F)) 𝒱₀ (c : Thread nD τ) none) Set.univ (k ⟨⟩) Q)
      -∗ wp frame (wpE (defs₀ (F := F)) 𝒱₀ (c : Thread nD τ) none) Set.univ
        (.op (.load pM (Rect.unit (s := S49152) oL S1.size iL).toLoadRect hl) fun f =>
          .op (.assume (chk (f (Shape.Idx.first (s := S1) pf))) (dec (f (Shape.Idx.first (s := S1) pf)))) fun hw =>
          .op (.enqueueDmaAs (cM.slice (Rect.unit (s := S53248x5120) (oS (f (Shape.Idx.first (s := S1) pf))) S1x5120.size (iS (f (Shape.Idx.first (s := S1) pf)) hw.down)) (fun _ => rfl))
            (.here ((bM.slice (Rect.unit (s := S2x2x128x5120) oD S1x1x1x5120.size iD) (fun _ => rfl)).squeeze S1x5120 squeezes_S1x1x1x5120_S1x5120)) .same
            (.dma ((cc0_scratch1.slice (Rect.unit (s := S2) oC S1.size iC)).squeeze S_ squeezes_S1_S_).sem) (View.wordExact_bits rfl) h2 h3) k) Q) := by
  subst eL eD eC
  obtain rfl : oS = fun v => srcOff v.toNat := funext eS
  have hv := hT (256 * n + j)
  have hp : pR T (256 * n + j) = ⟨(pW T (256 * n + j)).toNat, hv⟩ := Fin.ext (pR_val hT _)
  iintro ⟨HT, HI⟩ Hk
  iapply (wp_load_rect 𝒱₀ (c : Thread nD τ) none Set.univ (m := pM) (r := Rect.unit (s := S49152) ![256 * n + j] S1.size iL) (S := pM.view.set) (q := q) (f := T) (View.set_slice_subset _ _)) $$ HT
  iintro HT
  rw [p_read c T (256 * n + j) _ iL pf rfl hn]
  iapply (wp_assume 𝒱₀ (c : Thread nD τ) none Set.univ (hchk _ hv))
  unfold Iss bt
  rw [Transfers.bigSep_pending_step _ j hj]
  icases HI with ⟨HB, ⟨⟨HR, HK⟩, HP⟩, HX⟩
  unfold rP tk
  icases HR with ⟨%f, HR⟩
  ihave HK' := (show (cM.view.loc (c : Thread nD τ) ↦[CS (pR T (256 * n + j))]{ShareLeaves.leaf 8 (qs s) ⟨j, hj⟩} X : sProp 𝕄) ⊢
      ((srcM ⟨(pW T (256 * n + j)).toNat, hv⟩).view.loc (c : Thread nD τ) ↦[(srcM ⟨(pW T (256 * n + j)).toNat, hv⟩).view.set]{ShareLeaves.leaf 8 (qs s) ⟨j, hj⟩} X) from by rw [hp]; exact .rfl) $$ HK
  iapply (Transfers.wp_dmaBatch countersEmb 𝒱₀ (c : Thread nD τ) none (n := 256) (src := srcM ⟨(pW T (256 * n + j)).toNat, hv⟩) (dst := rowM s ⟨j, hj⟩) (via := .same) (sm := .dma (csm s).sem) (D := DD c X T s n) (j := j) (u := 0) (fs := X) (fd := f) (q := ShareLeaves.leaf 8 (qs s) ⟨j, hj⟩)
    (Sd := RW s ⟨j, hj⟩) () NN (row_amount s ⟨j, hj⟩) (row_set s ⟨j, hj⟩).le hj (Nat.zero_le _) ?_) $$ [HB HR HK']
  rotate_left
  · isplitl [HK']; · iexact HK'
    isplitl [HR]; · iexact HR
    iexact HB
  · iintro HB
    iapply Hk
    isplitl [HT]; · iexact HT
    isplitl [HB]; · iexact HB
    isplitl [HP]; · iexact HP
    iexact HX
  · rw [← hp]
    unfold DD
    have e := pointsTo_congr (Ix := Unit) (Name := ℕ) (U := UU nD τ) (Lvl := ℕ) (q := fullShare) (ℓ := bM.view.loc (c : Thread nD τ)) (I := RW s ⟨j, hj⟩) (land_eq c X T s n ⟨j, hj⟩ f)
    iintro ⟨H, HK⟩
    isplitl [H]
    · iapply (entails_of_eq e); iexact H
    iexact HK
end

end Cert.Proof.CombI
-- ==== Proof.CombLoopsI.lean ====
/-
  The loops of the combining kernel: the copies of a step started, and waited for.
-/
module

public import proofs.«01_k».proof.Proof.CombIssueI

@[expose] public section

noncomputable section

namespace Cert.Proof.CombI

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The grid point's step and slots -/

theorem co_lt (i : grid0.Coords) : (i 0).val < 192 := (i 0).isLt
/-- The slot of step `n`. -/
def sl (n : ℕ) : Fin 2 := ⟨n % 2, Nat.mod_lt _ (by decide)⟩
theorem and1 : ∀ a : Fin 192, (Scalar.andi (BitVec.ofNat 32 a.val) 1#32).toNat = a.val % 2 := by decide
theorem sub1 : ∀ a : Fin 192, (Scalar.subi 1#32 (Scalar.andi (BitVec.ofNat 32 a.val) 1#32)).toNat = (a.val + 1) % 2 := by decide
theorem cond1_iff : ∀ a : Fin 192, (Scalar.cmpi .ne (Scalar.extui (Scalar.cmpi .eq (BitVec.ofNat 32 a.val) 0#32) : BitVec 32) 0#32 = 1#1) ↔ a.val = 0 := by decide
theorem cond2_iff : ∀ a : Fin 192, (Scalar.cmpi .ne (Scalar.extui (Scalar.cmpi .slt (Scalar.addi (BitVec.ofNat 32 a.val) 1#32) 192#32) : BitVec 32) 0#32 = 1#1) ↔ a.val < 191 := by decide
theorem c1 (i : grid0.Coords) : k0_cond1 i = 1#1 ↔ (i 0).val = 0 := cond1_iff ⟨(i 0).val, co_lt i⟩
theorem c2 (i : grid0.Coords) : k0_cond2 i = 1#1 ↔ (i 0).val < 191 := cond2_iff ⟨(i 0).val, co_lt i⟩
theorem vec4 {a b c d a' b' c' d' : ℕ} (h0 : a = a') (h1 : b = b') (h2 : c = c') (h3 : d = d') : ![a, b, c, d] = ![a', b', c', d'] := by subst h0 h1 h2 h3; rfl
theorem vec1 {a a' : ℕ} (h0 : a = a') : ![a] = ![a'] := by subst h0; rfl
theorem tr1 (t : Fin k0_t1_loop.trips) : t.val < 32 := Nat.lt_of_lt_of_eq t.isLt (by decide)
theorem tr2 (t : Fin k0_t2_loop.trips) : t.val < 32 := Nat.lt_of_lt_of_eq t.isLt (by decide)
theorem tr3 (t : Fin k0_t3_loop.trips) : t.val < 128 := Nat.lt_of_lt_of_eq t.isLt (by decide)
theorem iv3 : ∀ t : Fin 128, (Scf.iv 0#32 1#32 t.val).toNat = t.val := by decide
theorem row0 : ∀ t : Fin 32, (Scalar.addi (Scalar.muli (Scf.iv 0#32 1#32 t.val) 4#32) 0#32).toNat = 4 * t.val + 0 := by decide
theorem row1 : ∀ t : Fin 32, (Scalar.addi (Scalar.muli (Scf.iv 0#32 1#32 t.val) 4#32) 1#32).toNat = 4 * t.val + 1 := by decide
theorem row2 : ∀ t : Fin 32, (Scalar.addi (Scalar.muli (Scf.iv 0#32 1#32 t.val) 4#32) 2#32).toNat = 4 * t.val + 2 := by decide
theorem row3 : ∀ t : Fin 32, (Scalar.addi (Scalar.muli (Scf.iv 0#32 1#32 t.val) 4#32) 3#32).toNat = 4 * t.val + 3 := by decide
theorem ix2 (a : ℕ) (ha : a < 192) (v : BitVec 32) (x r : ℕ) (hv : v.toNat = x) (hx : x < 128) (hr : r < 2) :
    (Scalar.addi (Scalar.muli (Scalar.addi (Scalar.muli (Scalar.addi (BitVec.ofNat 32 a) 1#32) 128#32) v) 2#32) (BitVec.ofNat 32 r)).toNat = 256 * (a + 1) + (2 * x + r) := by
  simp only [Scalar.addi, Scalar.muli, IntOp.addi, IntOp.muli, BitVec.toNat_add, BitVec.toNat_mul, BitVec.toNat_ofNat, hv]
  omega
theorem ix1 (v : BitVec 32) (x r : ℕ) (hv : v.toNat = x) (hx : x < 128) (hr : r < 2) :
    (Scalar.addi (Scalar.muli (Scalar.addi 0#32 v) 2#32) (BitVec.ofNat 32 r)).toNat = 256 * 0 + (2 * x + r) := by
  simp only [Scalar.addi, Scalar.muli, IntOp.addi, IntOp.muli, BitVec.toNat_add, BitVec.toNat_mul, BitVec.toNat_ofNat, hv]
  omega
theorem src_fits (v : BitVec 32) (h : v.toNat < 53248) : ∀ a, srcOff v.toNat a + S1x5120.size a ≤ S53248x5120.size a := src_inb ⟨v.toNat, h⟩

/-! ## The offsets of the copies -/

theorem l1_0 (t : Fin k0_t1_loop.trips) : k0_off1 t = ![256 * 0 + (8 * t.val + 0)] :=
  vec1 ((ix1 _ _ 0 (row0 ⟨t.val, tr1 t⟩) (by have := tr1 t; show 4 * t.val + 0 < 128; omega) (by decide)).trans (by show 256 * 0 + (2 * (4 * t.val + 0) + 0) = _; omega))
theorem d1_0 (t : Fin k0_t1_loop.trips) : k0_off2 t = rowOff 0 (8 * t.val + 0) :=
  vec4 rfl (by omega) ((row0 ⟨t.val, tr1 t⟩).trans (by show 4 * t.val + 0 = _; omega)) rfl
theorem l2_0 (i : grid0.Coords) (t : Fin k0_t2_loop.trips) : k0_off25 i t = ![256 * ((i 0).val + 1) + (8 * t.val + 0)] :=
  vec1 ((ix2 (i 0).val (co_lt i) _ _ 0 (row0 ⟨t.val, tr2 t⟩) (by have := tr2 t; show 4 * t.val + 0 < 128; omega) (by decide)).trans (by show 256 * ((i 0).val + 1) + (2 * (4 * t.val + 0) + 0) = _; omega))
theorem d2_0 (i : grid0.Coords) (t : Fin k0_t2_loop.trips) : k0_off27 i t = rowOff (sl ((i 0).val + 1)) (8 * t.val + 0) :=
  vec4 (sub1 ⟨(i 0).val, co_lt i⟩) (by omega) ((row0 ⟨t.val, tr2 t⟩).trans (by show 4 * t.val + 0 = _; omega)) rfl
theorem s2_0 (i : grid0.Coords) : k0_off26 i = cellOff (sl ((i 0).val + 1)) := vec1 (sub1 ⟨(i 0).val, co_lt i⟩)
theorem l1_1 (t : Fin k0_t1_loop.trips) : k0_off4 t = ![256 * 0 + (8 * t.val + 1)] :=
  vec1 ((ix1 _ _ 1 (row0 ⟨t.val, tr1 t⟩) (by have := tr1 t; show 4 * t.val + 0 < 128; omega) (by decide)).trans (by show 256 * 0 + (2 * (4 * t.val + 0) + 1) = _; omega))
theorem d1_1 (t : Fin k0_t1_loop.trips) : k0_off5 t = rowOff 0 (8 * t.val + 1) :=
  vec4 rfl (by omega) ((row0 ⟨t.val, tr1 t⟩).trans (by show 4 * t.val + 0 = _; omega)) rfl
theorem l2_1 (i : grid0.Coords) (t : Fin k0_t2_loop.trips) : k0_off29 i t = ![256 * ((i 0).val + 1) + (8 * t.val + 1)] :=
  vec1 ((ix2 (i 0).val (co_lt i) _ _ 1 (row0 ⟨t.val, tr2 t⟩) (by have := tr2 t; show 4 * t.val + 0 < 128; omega) (by decide)).trans (by show 256 * ((i 0).val + 1) + (2 * (4 * t.val + 0) + 1) = _; omega))
theorem d2_1 (i : grid0.Coords) (t : Fin k0_t2_loop.trips) : k0_off31 i t = rowOff (sl ((i 0).val + 1)) (8 * t.val + 1) :=
  vec4 (sub1 ⟨(i 0).val, co_lt i⟩) (by omega) ((row0 ⟨t.val, tr2 t⟩).trans (by show 4 * t.val + 0 = _; omega)) rfl
theorem s2_1 (i : grid0.Coords) : k0_off30 i = cellOff (sl ((i 0).val + 1)) := vec1 (sub1 ⟨(i 0).val, co_lt i⟩)
theorem l1_2 (t : Fin k0_t1_loop.trips) : k0_off7 t = ![256 * 0 + (8 * t.val + 2)] :=
  vec1 ((ix1 _ _ 0 (row1 ⟨t.val, tr1 t⟩) (by have := tr1 t; show 4 * t.val + 1 < 128; omega) (by decide)).trans (by show 256 * 0 + (2 * (4 * t.val + 1) + 0) = _; omega))
theorem d1_2 (t : Fin k0_t1_loop.trips) : k0_off8 t = rowOff 0 (8 * t.val + 2) :=
  vec4 rfl (by omega) ((row1 ⟨t.val, tr1 t⟩).trans (by show 4 * t.val + 1 = _; omega)) rfl
theorem l2_2 (i : grid0.Coords) (t : Fin k0_t2_loop.trips) : k0_off33 i t = ![256 * ((i 0).val + 1) + (8 * t.val + 2)] :=
  vec1 ((ix2 (i 0).val (co_lt i) _ _ 0 (row1 ⟨t.val, tr2 t⟩) (by have := tr2 t; show 4 * t.val + 1 < 128; omega) (by decide)).trans (by show 256 * ((i 0).val + 1) + (2 * (4 * t.val + 1) + 0) = _; omega))
theorem d2_2 (i : grid0.Coords) (t : Fin k0_t2_loop.trips) : k0_off35 i t = rowOff (sl ((i 0).val + 1)) (8 * t.val + 2) :=
  vec4 (sub1 ⟨(i 0).val, co_lt i⟩) (by omega) ((row1 ⟨t.val, tr2 t⟩).trans (by show 4 * t.val + 1 = _; omega)) rfl
theorem s2_2 (i : grid0.Coords) : k0_off34 i = cellOff (sl ((i 0).val + 1)) := vec1 (sub1 ⟨(i 0).val, co_lt i⟩)
theorem l1_3 (t : Fin k0_t1_loop.trips) : k0_off10 t = ![256 * 0 + (8 * t.val + 3)] :=
  vec1 ((ix1 _ _ 1 (row1 ⟨t.val, tr1 t⟩) (by have := tr1 t; show 4 * t.val + 1 < 128; omega) (by decide)).trans (by show 256 * 0 + (2 * (4 * t.val + 1) + 1) = _; omega))
theorem d1_3 (t : Fin k0_t1_loop.trips) : k0_off11 t = rowOff 0 (8 * t.val + 3) :=
  vec4 rfl (by omega) ((row1 ⟨t.val, tr1 t⟩).trans (by show 4 * t.val + 1 = _; omega)) rfl
theorem l2_3 (i : grid0.Coords) (t : Fin k0_t2_loop.trips) : k0_off37 i t = ![256 * ((i 0).val + 1) + (8 * t.val + 3)] :=
  vec1 ((ix2 (i 0).val (co_lt i) _ _ 1 (row1 ⟨t.val, tr2 t⟩) (by have := tr2 t; show 4 * t.val + 1 < 128; omega) (by decide)).trans (by show 256 * ((i 0).val + 1) + (2 * (4 * t.val + 1) + 1) = _; omega))
theorem d2_3 (i : grid0.Coords) (t : Fin k0_t2_loop.trips) : k0_off39 i t = rowOff (sl ((i 0).val + 1)) (8 * t.val + 3) :=
  vec4 (sub1 ⟨(i 0).val, co_lt i⟩) (by omega) ((row1 ⟨t.val, tr2 t⟩).trans (by show 4 * t.val + 1 = _; omega)) rfl
theorem s2_3 (i : grid0.Coords) : k0_off38 i = cellOff (sl ((i 0).val + 1)) := vec1 (sub1 ⟨(i 0).val, co_lt i⟩)
theorem l1_4 (t : Fin k0_t1_loop.trips) : k0_off13 t = ![256 * 0 + (8 * t.val + 4)] :=
  vec1 ((ix1 _ _ 0 (row2 ⟨t.val, tr1 t⟩) (by have := tr1 t; show 4 * t.val + 2 < 128; omega) (by decide)).trans (by show 256 * 0 + (2 * (4 * t.val + 2) + 0) = _; omega))
theorem d1_4 (t : Fin k0_t1_loop.trips) : k0_off14 t = rowOff 0 (8 * t.val + 4) :=
  vec4 rfl (by omega) ((row2 ⟨t.val, tr1 t⟩).trans (by show 4 * t.val + 2 = _; omega)) rfl
theorem l2_4 (i : grid0.Coords) (t : Fin k0_t2_loop.trips) : k0_off41 i t = ![256 * ((i 0).val + 1) + (8 * t.val + 4)] :=
  vec1 ((ix2 (i 0).val (co_lt i) _ _ 0 (row2 ⟨t.val, tr2 t⟩) (by have := tr2 t; show 4 * t.val + 2 < 128; omega) (by decide)).trans (by show 256 * ((i 0).val + 1) + (2 * (4 * t.val + 2) + 0) = _; omega))
theorem d2_4 (i : grid0.Coords) (t : Fin k0_t2_loop.trips) : k0_off43 i t = rowOff (sl ((i 0).val + 1)) (8 * t.val + 4) :=
  vec4 (sub1 ⟨(i 0).val, co_lt i⟩) (by omega) ((row2 ⟨t.val, tr2 t⟩).trans (by show 4 * t.val + 2 = _; omega)) rfl
theorem s2_4 (i : grid0.Coords) : k0_off42 i = cellOff (sl ((i 0).val + 1)) := vec1 (sub1 ⟨(i 0).val, co_lt i⟩)
theorem l1_5 (t : Fin k0_t1_loop.trips) : k0_off16 t = ![256 * 0 + (8 * t.val + 5)] :=
  vec1 ((ix1 _ _ 1 (row2 ⟨t.val, tr1 t⟩) (by have := tr1 t; show 4 * t.val + 2 < 128; omega) (by decide)).trans (by show 256 * 0 + (2 * (4 * t.val + 2) + 1) = _; omega))
theorem d1_5 (t : Fin k0_t1_loop.trips) : k0_off17 t = rowOff 0 (8 * t.val + 5) :=
  vec4 rfl (by omega) ((row2 ⟨t.val, tr1 t⟩).trans (by show 4 * t.val + 2 = _; omega)) rfl
theorem l2_5 (i : grid0.Coords) (t : Fin k0_t2_loop.trips) : k0_off45 i t = ![256 * ((i 0).val + 1) + (8 * t.val + 5)] :=
  vec1 ((ix2 (i 0).val (co_lt i) _ _ 1 (row2 ⟨t.val, tr2 t⟩) (by have := tr2 t; show 4 * t.val + 2 < 128; omega) (by decide)).trans (by show 256 * ((i 0).val + 1) + (2 * (4 * t.val + 2) + 1) = _; omega))
theorem d2_5 (i : grid0.Coords) (t : Fin k0_t2_loop.trips) : k0_off47 i t = rowOff (sl ((i 0).val + 1)) (8 * t.val + 5) :=
  vec4 (sub1 ⟨(i 0).val, co_lt i⟩) (by omega) ((row2 ⟨t.val, tr2 t⟩).trans (by show 4 * t.val + 2 = _; omega)) rfl
theorem s2_5 (i : grid0.Coords) : k0_off46 i = cellOff (sl ((i 0).val + 1)) := vec1 (sub1 ⟨(i 0).val, co_lt i⟩)
theorem l1_6 (t : Fin k0_t1_loop.trips) : k0_off19 t = ![256 * 0 + (8 * t.val + 6)] :=
  vec1 ((ix1 _ _ 0 (row3 ⟨t.val, tr1 t⟩) (by have := tr1 t; show 4 * t.val + 3 < 128; omega) (by decide)).trans (by show 256 * 0 + (2 * (4 * t.val + 3) + 0) = _; omega))
theorem d1_6 (t : Fin k0_t1_loop.trips) : k0_off20 t = rowOff 0 (8 * t.val + 6) :=
  vec4 rfl (by omega) ((row3 ⟨t.val, tr1 t⟩).trans (by show 4 * t.val + 3 = _; omega)) rfl
theorem l2_6 (i : grid0.Coords) (t : Fin k0_t2_loop.trips) : k0_off49 i t = ![256 * ((i 0).val + 1) + (8 * t.val + 6)] :=
  vec1 ((ix2 (i 0).val (co_lt i) _ _ 0 (row3 ⟨t.val, tr2 t⟩) (by have := tr2 t; show 4 * t.val + 3 < 128; omega) (by decide)).trans (by show 256 * ((i 0).val + 1) + (2 * (4 * t.val + 3) + 0) = _; omega))
theorem d2_6 (i : grid0.Coords) (t : Fin k0_t2_loop.trips) : k0_off51 i t = rowOff (sl ((i 0).val + 1)) (8 * t.val + 6) :=
  vec4 (sub1 ⟨(i 0).val, co_lt i⟩) (by omega) ((row3 ⟨t.val, tr2 t⟩).trans (by show 4 * t.val + 3 = _; omega)) rfl
theorem s2_6 (i : grid0.Coords) : k0_off50 i = cellOff (sl ((i 0).val + 1)) := vec1 (sub1 ⟨(i 0).val, co_lt i⟩)
theorem l1_7 (t : Fin k0_t1_loop.trips) : k0_off22 t = ![256 * 0 + (8 * t.val + 7)] :=
  vec1 ((ix1 _ _ 1 (row3 ⟨t.val, tr1 t⟩) (by have := tr1 t; show 4 * t.val + 3 < 128; omega) (by decide)).trans (by show 256 * 0 + (2 * (4 * t.val + 3) + 1) = _; omega))
theorem d1_7 (t : Fin k0_t1_loop.trips) : k0_off23 t = rowOff 0 (8 * t.val + 7) :=
  vec4 rfl (by omega) ((row3 ⟨t.val, tr1 t⟩).trans (by show 4 * t.val + 3 = _; omega)) rfl
theorem l2_7 (i : grid0.Coords) (t : Fin k0_t2_loop.trips) : k0_off53 i t = ![256 * ((i 0).val + 1) + (8 * t.val + 7)] :=
  vec1 ((ix2 (i 0).val (co_lt i) _ _ 1 (row3 ⟨t.val, tr2 t⟩) (by have := tr2 t; show 4 * t.val + 3 < 128; omega) (by decide)).trans (by show 256 * ((i 0).val + 1) + (2 * (4 * t.val + 3) + 1) = _; omega))
theorem d2_7 (i : grid0.Coords) (t : Fin k0_t2_loop.trips) : k0_off55 i t = rowOff (sl ((i 0).val + 1)) (8 * t.val + 7) :=
  vec4 (sub1 ⟨(i 0).val, co_lt i⟩) (by omega) ((row3 ⟨t.val, tr2 t⟩).trans (by show 4 * t.val + 3 = _; omega)) rfl
theorem s2_7 (i : grid0.Coords) : k0_off54 i = cellOff (sl ((i 0).val + 1)) := vec1 (sub1 ⟨(i 0).val, co_lt i⟩)
theorem c3 (i : grid0.Coords) : k0_off57 i = cellOff (sl (i 0).val) := vec1 (and1 ⟨(i 0).val, co_lt i⟩)

/-! ## The loops -/

section
variable (c : Dev nD) (X : Buf (Elt F) (cM.view.loc (c : Thread nD τ))) (T : Buf (Elt F) (pM.view.loc (c : Thread nD τ))) (i : grid0.Coords)
  (arg2 : Memref sig .tc .vmem S128x2 .f32) (harg2 : arg2.IsWhole) (arg4 : Memref sig .tc .vmem S128x5120 .bf16) (harg4 : arg4.IsWhole)

set_option maxHeartbeats 4000000 in
theorem t1_trip (hT : RowsOk T) (q : PosShare TreeShare) (h : k0_cond1 i = 1#1) (t : Fin k0_t1_loop.trips) :
    iprop(pP c T q ∗ Iss c X T 0 0 (8 * t.val))
      ⊢ wp frame (wpE (defs₀ (F := F)) 𝒱₀ (c : Thread nD τ) none) Set.univ (k0_t1_body (F := F) i pM (Memref.isWhole_whole _) arg2 harg2 cM (Memref.isWhole_whole _) arg4 harg4 bM (Memref.isWhole_whole _) cc0_scratch1 h t ())
        (fun _ => iprop(pP c T q ∗ Iss c X T 0 0 (8 * (t.val + 1)))) := by
  have ht := tr1 t
  have hi := (c1 i).1 h
  unfold k0_t1_body
  simp only [k0_part1_eq_skeleton, k0_part2_eq_skeleton, k0_part1_skel, k0_part2_skel, Prog.lift, Prog.bind_op, Prog.bind_ret, Prog.pure_eq_ret, smemLoad, smemLoadElt, TpuEff.enqueueDma]
  iintro ⟨HT, HI⟩
  iapply (issue_full c X T hT q 0 (0) (8 * t.val + 0) (by omega) (by omega) (k0_chk1 i) (k0_chk1.dec i) (fun v hv _ => src_fits v hv)
    (k0_off1 t) (k0_off1_inb i t h) _ _ k0_off3 (fun v hw => k0_off3_inb i v hw h) (k0_off2 t) (k0_off2_inb i t h) ![0] inb_S2_S1_0 (l1_0 t) (d1_0 t) rfl (fun _ => rfl) _ _ _) $$ [HT HI]
  · isplitl [HT] <;> iassumption
  iintro ⟨HT, HI⟩
  iapply (issue_full c X T hT q 0 (0) (8 * t.val + 1) (by omega) (by omega) (k0_chk2 i) (k0_chk2.dec i) (fun v hv _ => src_fits v hv)
    (k0_off4 t) (k0_off4_inb i t h) _ _ k0_off6 (fun v hw => k0_off6_inb i v hw h) (k0_off5 t) (k0_off5_inb i t h) ![0] inb_S2_S1_0 (l1_1 t) (d1_1 t) rfl (fun _ => rfl) _ _ _) $$ [HT HI]
  · isplitl [HT] <;> iassumption
  iintro ⟨HT, HI⟩
  iapply (issue_full c X T hT q 0 (0) (8 * t.val + 2) (by omega) (by omega) (k0_chk3 i) (k0_chk3.dec i) (fun v hv _ => src_fits v hv)
    (k0_off7 t) (k0_off7_inb i t h) _ _ k0_off9 (fun v hw => k0_off9_inb i v hw h) (k0_off8 t) (k0_off8_inb i t h) ![0] inb_S2_S1_0 (l1_2 t) (d1_2 t) rfl (fun _ => rfl) _ _ _) $$ [HT HI]
  · isplitl [HT] <;> iassumption
  iintro ⟨HT, HI⟩
  iapply (issue_full c X T hT q 0 (0) (8 * t.val + 3) (by omega) (by omega) (k0_chk4 i) (k0_chk4.dec i) (fun v hv _ => src_fits v hv)
    (k0_off10 t) (k0_off10_inb i t h) _ _ k0_off12 (fun v hw => k0_off12_inb i v hw h) (k0_off11 t) (k0_off11_inb i t h) ![0] inb_S2_S1_0 (l1_3 t) (d1_3 t) rfl (fun _ => rfl) _ _ _) $$ [HT HI]
  · isplitl [HT] <;> iassumption
  iintro ⟨HT, HI⟩
  iapply (issue_full c X T hT q 0 (0) (8 * t.val + 4) (by omega) (by omega) (k0_chk5 i) (k0_chk5.dec i) (fun v hv _ => src_fits v hv)
    (k0_off13 t) (k0_off13_inb i t h) _ _ k0_off15 (fun v hw => k0_off15_inb i v hw h) (k0_off14 t) (k0_off14_inb i t h) ![0] inb_S2_S1_0 (l1_4 t) (d1_4 t) rfl (fun _ => rfl) _ _ _) $$ [HT HI]
  · isplitl [HT] <;> iassumption
  iintro ⟨HT, HI⟩
  iapply (issue_full c X T hT q 0 (0) (8 * t.val + 5) (by omega) (by omega) (k0_chk6 i) (k0_chk6.dec i) (fun v hv _ => src_fits v hv)
    (k0_off16 t) (k0_off16_inb i t h) _ _ k0_off18 (fun v hw => k0_off18_inb i v hw h) (k0_off17 t) (k0_off17_inb i t h) ![0] inb_S2_S1_0 (l1_5 t) (d1_5 t) rfl (fun _ => rfl) _ _ _) $$ [HT HI]
  · isplitl [HT] <;> iassumption
  iintro ⟨HT, HI⟩
  iapply (issue_full c X T hT q 0 (0) (8 * t.val + 6) (by omega) (by omega) (k0_chk7 i) (k0_chk7.dec i) (fun v hv _ => src_fits v hv)
    (k0_off19 t) (k0_off19_inb i t h) _ _ k0_off21 (fun v hw => k0_off21_inb i v hw h) (k0_off20 t) (k0_off20_inb i t h) ![0] inb_S2_S1_0 (l1_6 t) (d1_6 t) rfl (fun _ => rfl) _ _ _) $$ [HT HI]
  · isplitl [HT] <;> iassumption
  iintro ⟨HT, HI⟩
  iapply (issue_full c X T hT q 0 (0) (8 * t.val + 7) (by omega) (by omega) (k0_chk8 i) (k0_chk8.dec i) (fun v hv _ => src_fits v hv)
    (k0_off22 t) (k0_off22_inb i t h) _ _ k0_off24 (fun v hw => k0_off24_inb i v hw h) (k0_off23 t) (k0_off23_inb i t h) ![0] inb_S2_S1_0 (l1_7 t) (d1_7 t) rfl (fun _ => rfl) _ _ _) $$ [HT HI]
  · isplitl [HT] <;> iassumption
  iintro ⟨HT, HI⟩
  rw [wp_ret]
  imodintro
  isplitl [HT]; · iexact HT
  iexact HI

set_option maxHeartbeats 4000000 in
theorem t2_trip (hT : RowsOk T) (q : PosShare TreeShare) (h : k0_cond2 i = 1#1) (t : Fin k0_t2_loop.trips) :
    iprop(pP c T q ∗ Iss c X T (sl ((i 0).val + 1)) ((i 0).val + 1) (8 * t.val))
      ⊢ wp frame (wpE (defs₀ (F := F)) 𝒱₀ (c : Thread nD τ) none) Set.univ (k0_t2_body (F := F) i pM (Memref.isWhole_whole _) arg2 harg2 cM (Memref.isWhole_whole _) arg4 harg4 bM (Memref.isWhole_whole _) cc0_scratch1 h (Scalar.addi (BitVec.ofNat 32 (i 0).val) 1#32) t ())
        (fun _ => iprop(pP c T q ∗ Iss c X T (sl ((i 0).val + 1)) ((i 0).val + 1) (8 * (t.val + 1)))) := by
  have ht := tr2 t
  have hi := (c2 i).1 h
  unfold k0_t2_body
  simp only [k0_part3_eq_skeleton, k0_part4_eq_skeleton, k0_part3_skel, k0_part4_skel, Prog.lift, Prog.bind_op, Prog.bind_ret, Prog.pure_eq_ret, smemLoad, smemLoadElt, TpuEff.enqueueDma]
  iintro ⟨HT, HI⟩
  iapply (issue_full c X T hT q (sl ((i 0).val + 1)) (((i 0).val + 1)) (8 * t.val + 0) (by omega) (by omega) (k0_chk9 i) (k0_chk9.dec i) (fun v hv _ => src_fits v hv)
    (k0_off25 i t) (k0_off25_inb i t h) _ _ k0_off28 (fun v hw => k0_off28_inb i v hw h) (k0_off27 i t) (k0_off27_inb i t h) (k0_off26 i) (k0_off26_inb i h) (l2_0 i t) (d2_0 i t) (s2_0 i) (fun _ => rfl) _ _ _) $$ [HT HI]
  · isplitl [HT] <;> iassumption
  iintro ⟨HT, HI⟩
  iapply (issue_full c X T hT q (sl ((i 0).val + 1)) (((i 0).val + 1)) (8 * t.val + 1) (by omega) (by omega) (k0_chk10 i) (k0_chk10.dec i) (fun v hv _ => src_fits v hv)
    (k0_off29 i t) (k0_off29_inb i t h) _ _ k0_off32 (fun v hw => k0_off32_inb i v hw h) (k0_off31 i t) (k0_off31_inb i t h) (k0_off30 i) (k0_off30_inb i h) (l2_1 i t) (d2_1 i t) (s2_1 i) (fun _ => rfl) _ _ _) $$ [HT HI]
  · isplitl [HT] <;> iassumption
  iintro ⟨HT, HI⟩
  iapply (issue_full c X T hT q (sl ((i 0).val + 1)) (((i 0).val + 1)) (8 * t.val + 2) (by omega) (by omega) (k0_chk11 i) (k0_chk11.dec i) (fun v hv _ => src_fits v hv)
    (k0_off33 i t) (k0_off33_inb i t h) _ _ k0_off36 (fun v hw => k0_off36_inb i v hw h) (k0_off35 i t) (k0_off35_inb i t h) (k0_off34 i) (k0_off34_inb i h) (l2_2 i t) (d2_2 i t) (s2_2 i) (fun _ => rfl) _ _ _) $$ [HT HI]
  · isplitl [HT] <;> iassumption
  iintro ⟨HT, HI⟩
  iapply (issue_full c X T hT q (sl ((i 0).val + 1)) (((i 0).val + 1)) (8 * t.val + 3) (by omega) (by omega) (k0_chk12 i) (k0_chk12.dec i) (fun v hv _ => src_fits v hv)
    (k0_off37 i t) (k0_off37_inb i t h) _ _ k0_off40 (fun v hw => k0_off40_inb i v hw h) (k0_off39 i t) (k0_off39_inb i t h) (k0_off38 i) (k0_off38_inb i h) (l2_3 i t) (d2_3 i t) (s2_3 i) (fun _ => rfl) _ _ _) $$ [HT HI]
  · isplitl [HT] <;> iassumption
  iintro ⟨HT, HI⟩
  iapply (issue_full c X T hT q (sl ((i 0).val + 1)) (((i 0).val + 1)) (8 * t.val + 4) (by omega) (by omega) (k0_chk13 i) (k0_chk13.dec i) (fun v hv _ => src_fits v hv)
    (k0_off41 i t) (k0_off41_inb i t h) _ _ k0_off44 (fun v hw => k0_off44_inb i v hw h) (k0_off43 i t) (k0_off43_inb i t h) (k0_off42 i) (k0_off42_inb i h) (l2_4 i t) (d2_4 i t) (s2_4 i) (fun _ => rfl) _ _ _) $$ [HT HI]
  · isplitl [HT] <;> iassumption
  iintro ⟨HT, HI⟩
  iapply (issue_full c X T hT q (sl ((i 0).val + 1)) (((i 0).val + 1)) (8 * t.val + 5) (by omega) (by omega) (k0_chk14 i) (k0_chk14.dec i) (fun v hv _ => src_fits v hv)
    (k0_off45 i t) (k0_off45_inb i t h) _ _ k0_off48 (fun v hw => k0_off48_inb i v hw h) (k0_off47 i t) (k0_off47_inb i t h) (k0_off46 i) (k0_off46_inb i h) (l2_5 i t) (d2_5 i t) (s2_5 i) (fun _ => rfl) _ _ _) $$ [HT HI]
  · isplitl [HT] <;> iassumption
  iintro ⟨HT, HI⟩
  iapply (issue_full c X T hT q (sl ((i 0).val + 1)) (((i 0).val + 1)) (8 * t.val + 6) (by omega) (by omega) (k0_chk15 i) (k0_chk15.dec i) (fun v hv _ => src_fits v hv)
    (k0_off49 i t) (k0_off49_inb i t h) _ _ k0_off52 (fun v hw => k0_off52_inb i v hw h) (k0_off51 i t) (k0_off51_inb i t h) (k0_off50 i) (k0_off50_inb i h) (l2_6 i t) (d2_6 i t) (s2_6 i) (fun _ => rfl) _ _ _) $$ [HT HI]
  · isplitl [HT] <;> iassumption
  iintro ⟨HT, HI⟩
  iapply (issue_full c X T hT q (sl ((i 0).val + 1)) (((i 0).val + 1)) (8 * t.val + 7) (by omega) (by omega) (k0_chk16 i) (k0_chk16.dec i) (fun v hv _ => src_fits v hv)
    (k0_off53 i t) (k0_off53_inb i t h) _ _ k0_off56 (fun v hw => k0_off56_inb i v hw h) (k0_off55 i t) (k0_off55_inb i t h) (k0_off54 i) (k0_off54_inb i h) (l2_7 i t) (d2_7 i t) (s2_7 i) (fun _ => rfl) _ _ _) $$ [HT HI]
  · isplitl [HT] <;> iassumption
  iintro ⟨HT, HI⟩
  rw [wp_ret]
  imodintro
  isplitl [HT]; · iexact HT
  iexact HI

/-- What the core owes, with the waits so far recorded. -/
def Ow : sProp 𝕄 := iprop(∃ W, owes (c : Thread nD τ) 0 W)

set_option maxHeartbeats 4000000 in
theorem t3_trip (t : Fin k0_t3_loop.trips) :
    iprop(Fly c X T (sl (i 0).val) (i 0).val (NN * (2 * t.val)) ∗ Ow c)
      ⊢ wp frame (wpE (defs₀ (F := F)) 𝒱₀ (c : Thread nD τ) none) Set.univ (k0_t3_body (F := F) i pM (Memref.isWhole_whole _) arg2 harg2 cM (Memref.isWhole_whole _) arg4 harg4 bM (Memref.isWhole_whole _) cc0_scratch1 t ())
        (fun _ => iprop(Fly c X T (sl (i 0).val) (i 0).val (NN * (2 * (t.val + 1))) ∗ Ow c)) := by
  have ht := tr3 t
  have b1 : NN * (2 * t.val) + 1 * NN ≤ NN * 256 := by rw [Nat.one_mul, ← Nat.mul_succ]; exact Nat.mul_le_mul_left _ (by omega)
  have b2 : NN * (2 * t.val) + 1 * NN + 1 * NN ≤ NN * 256 := by rw [Nat.one_mul, ← Nat.mul_succ, ← Nat.mul_succ]; exact Nat.mul_le_mul_left _ (by omega)
  have b3 : NN * (2 * (t.val + 1)) = NN * (2 * t.val) + 1 * NN + 1 * NN := by ring
  rw [b3]
  unfold k0_t3_body
  simp only [Prog.lift, Prog.bind_op, Prog.bind_ret, Prog.pure_eq_ret]
  unfold Fly bt Ow
  iintro ⟨⟨HB, HX⟩, ⟨%W, HO⟩⟩
  have key : ∀ (o : Fin 1 → ℕ) (io : ∀ a, o a + S1.size a ≤ S2.size a), o = cellOff (sl (i 0).val) →
      (csm (sl (i 0).val)).sem = ((cc0_scratch1.slice (Rect.unit (s := S2) o S1.size io)).squeeze S_ squeezes_S1_S_).sem := by
    intro o io e; subst e; rfl
  rw [key _ (k0_off57_inb i) (c3 i)]
  iapply (Transfers.wp_waitBatchMul countersEmb 𝒱₀ (c : Thread nD τ) none (srcw := cM.slice (Rect.unit (s := S53248x5120) ![0, 0] S1x5120.size inb_S53248x5120_S1x5120_0_0) (fun _ => rfl)) (dstw := (bM.slice (Rect.unit (s := S2x2x128x5120) (k0_off58 i t) S1x1x1x5120.size (k0_off58_inb i t)) (fun _ => rfl)).squeeze S1x5120 squeezes_S1x1x1x5120_S1x5120)
    (hsrc := View.wordExact_bits rfl) (hdst := (View.wordExact_bits rfl).reshape _ _) () 1 (N := NN) (j := 256) (Nat.one_mul _).symm b1) $$ [HB HO]
  · isplitl [HB] <;> iassumption
  iintro ⟨HB, HO⟩
  iapply (Transfers.wp_waitBatchMul countersEmb 𝒱₀ (c : Thread nD τ) none (srcw := cM.slice (Rect.unit (s := S53248x5120) ![0, 0] S1x5120.size inb_S53248x5120_S1x5120_0_0) (fun _ => rfl)) (dstw := (bM.slice (Rect.unit (s := S2x2x128x5120) (k0_off59 i t) S1x1x1x5120.size (k0_off59_inb i t)) (fun _ => rfl)).squeeze S1x5120 squeezes_S1x1x1x5120_S1x5120)
    (hsrc := View.wordExact_bits rfl) (hdst := (View.wordExact_bits rfl).reshape _ _) () 1 (N := NN) (j := 256) (Nat.one_mul _).symm b2) $$ [HB HO]
  · isplitl [HB] <;> iassumption
  iintro ⟨HB, HO⟩
  rw [wp_ret]
  imodintro
  isplitl [HB HX]
  · isplitl [HB] <;> iassumption
  iexists _; iexact HO
end

end Cert.Proof.CombI
-- ==== Proof.CombBodyI.lean ====
/-
  The combining kernel's body at one grid point.
-/
module

public import proofs.«01_k».proof.Proof.CombLoopsI
public import Idealize.ShloMosaic.Lib.VecWindow

@[expose] public section

noncomputable section

namespace Cert.Proof.CombI

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section
variable (c : Dev nD) (X : Buf (Elt F) (cM.view.loc (c : Thread nD τ))) (T : Buf (Elt F) (pM.view.loc (c : Thread nD τ))) (i : grid0.Coords)
  (arg2 : Memref sig .tc .vmem S128x2 .f32) (harg2 : arg2.IsWhole) (arg4 : Memref sig .tc .vmem S128x5120 .bf16) (harg4 : arg4.IsWhole)

/-- A slot between two steps: on its way with step `n`, or free. -/
def Cur (n : ℕ) : sProp 𝕄 := if 0 < n ∧ n < 192 then Fly c X T (sl n) n 0 else Free c X (sl n)
/-- The two slots before step `n`. -/
def St (n : ℕ) : sProp 𝕄 := iprop(Cur c X T n ∗ Free c X (sl (n + 1)))
theorem sl2 (n : ℕ) : sl (n + 1 + 1) = sl n := Fin.ext (show (n + 1 + 1) % 2 = n % 2 by omega)

/-- Half `m` of step `n`'s rows. -/
def blk (n m : ℕ) : Vec F S1x1x128x5120 .f32 := fun y => X (gIx (pR T (256 * n + (2 * (y 2).val + m))) (y 3))
abbrev wP (g : Buf (Elt F) (arg2.view.loc (c : Thread nD τ))) : sProp 𝕄 := arg2.view.loc (c : Thread nD τ) ↦[arg2.view.set]{fullShare} g
abbrev oP (g : Buf (Elt F) (arg4.view.loc (c : Thread nD τ))) : sProp 𝕄 := arg4.view.loc (c : Thread nD τ) ↦[arg4.view.set]{fullShare} g
def wcol0 (g : Buf (Elt F) (arg2.view.loc (c : Thread nD τ))) : Vec F S128x1 .f32 := fun y => arg2.view.read (Elt F) g ((Rect.unit (s := S128x2) ![0, 0] S128x1.size inb_S128x2_S128x1_0_0).emb y)
def wcol1 (g : Buf (Elt F) (arg2.view.loc (c : Thread nD τ))) : Vec F S128x1 .f32 := fun y => arg2.view.read (Elt F) g ((Rect.unit (s := S128x2) ![0, 1] S128x1.size inb_S128x2_S128x1_0_1).emb y)
/-- What step `n` writes, from its rows and its weights. -/
def outV (n : ℕ) (g : Buf (Elt F) (arg2.view.loc (c : Thread nD τ))) : FVec F S128x5120 .bf16 := k0_pay1 (blk c X T n 0) (wcol0 c arg2 g) (blk c X T n 1) (wcol1 c arg2 g)

theorem off60_eq : k0_off60 i = ![(sl (i 0).val).val, 0, 0, 0] := vec4 (and1 ⟨(i 0).val, co_lt i⟩) rfl rfl rfl
theorem off61_eq : k0_off61 i = ![(sl (i 0).val).val, 1, 0, 0] := vec4 (and1 ⟨(i 0).val, co_lt i⟩) rfl rfl rfl
theorem half_read (n m : ℕ) (s : Fin 2) (o : Fin 4 → ℕ) (io : ∀ a, o a + S1x1x128x5120.size a ≤ S2x2x128x5120.size a) (e : o = ![s.val, m, 0, 0]) :
    View.read (Elt F) (bM.access (Rect.unit (s := S2x2x128x5120) o S1x1x128x5120.size io)) (G c X T n) = blk c X T n m := by
  subst e
  funext y
  rw [View.read_apply]
  have e0 : (y 0).val = 0 := Nat.lt_one_iff.1 (y 0).isLt
  have e1 : (y 1).val = 0 := Nat.lt_one_iff.1 (y 1).isLt
  have key : ∀ z : S2x2x128x5120.Idx, (z 1).val = m → (z 2).val = (y 2).val → (z 3).val = (y 3).val → G c X T n z = blk c X T n m y := by
    intro z h1 h2 h3
    unfold G blk
    rw [h1, h2, show z 3 = y 3 from Fin.ext h3]
  refine key _ ?_ ?_ ?_
  · show m + 1 * (y 1).val = m; omega
  · show 0 + 1 * (y 2).val = (y 2).val; omega
  · show 0 + 1 * (y 3).val = (y 3).val; omega
theorem half_set (m : ℕ) (s : Fin 2) (o : Fin 4 → ℕ) (io : ∀ a, o a + S1x1x128x5120.size a ≤ S2x2x128x5120.size a) (e : o = ![s.val, m, 0, 0]) :
    (bM.access (Rect.unit (s := S2x2x128x5120) o S1x1x128x5120.size io)).set ⊆ SLO s := by
  subst e
  intro y hy
  have e : (bM.access (Rect.unit (s := S2x2x128x5120) ![s.val, m, 0, 0] S1x1x128x5120.size io)).set = (Rect.unit (s := S2x2x128x5120) ![s.val, m, 0, 0] S1x1x128x5120.size io).set := View.set_slice_whole _ _
  have hy' := hy
  rw [e, Rect.mem_set_unit] at hy'
  have a0 : s.val ≤ (y 0).val ∧ (y 0).val < s.val + 1 := hy' 0
  simp only [SLO, Finset.mem_filter, Finset.mem_univ, true_and]
  omega

/-- The last part of the body: the step's copies waited for, and its block written. -/
def progC : Prog (TpuEff nD τ sig (Elt F) Λ₀ .tc) PUnit := do
  Scf.Loop.for k0_t3_loop k0_t3_ok ⟨⟩ (k0_t3_body (F := F) i pM (Memref.isWhole_whole _) arg2 harg2 cM (Memref.isWhole_whole _) arg4 harg4 bM (Memref.isWhole_whole _) cc0_scratch1)
  let v10 : Vec F S1x1x128x5120 .f32 ← Prog.lift (.load bM (Rect.unit (s := S2x2x128x5120) (k0_off60 i) S1x1x128x5120.size (k0_off60_inb i)).toLoadRect (View.loadsAt_vmem h_S1x1x128x5120))
  let v12 : Vec F S128x1 .f32 ← Prog.lift (.load arg2 (Rect.unit (s := S128x2) ![0, 0] S128x1.size inb_S128x2_S128x1_0_0).toLoadRect (View.loadsAt_vmem h_S128x1))
  let v16 : Vec F S1x1x128x5120 .f32 ← Prog.lift (.load bM (Rect.unit (s := S2x2x128x5120) (k0_off61 i) S1x1x128x5120.size (k0_off61_inb i)).toLoadRect (View.loadsAt_vmem h_S1x1x128x5120))
  let v18 : Vec F S128x1 .f32 ← Prog.lift (.load arg2 (Rect.unit (s := S128x2) ![0, 1] S128x1.size inb_S128x2_S128x1_0_1).toLoadRect (View.loadsAt_vmem h_S128x1))
  let v23 : Vec F S128x5120 .bf16 ← Prog.lift (.load arg4 (Rect.unit (s := S128x5120) ![0, 0] S128x5120.size inb_S128x5120_S128x5120_0_0).toLoadRect (View.loadsAt_vmem h_S128x5120))
  Prog.lift (.store arg4 (Rect.unit (s := S128x5120) ![0, 0] S128x5120.size inb_S128x5120_S128x5120_0_0) (k0_pay1 v10 v12 v16 v18) Finset.univ (View.stores_vmem h_S128x5120 (harg4.storeExact_slice rfl _ packedbf16_S128x5120_S128x5120_0_0) (fun _ => rfl)) (.inl rfl))
  pure ⟨⟩
/-- From the start of the next step's copies on. -/
def progB : Prog (TpuEff nD τ sig (Elt F) Λ₀ .tc) PUnit :=
  if h : k0_cond2 i = 1#1 then do
    Scf.Loop.for k0_t2_loop (k0_t2_ok i h) ⟨⟩ (k0_t2_body (F := F) i pM (Memref.isWhole_whole _) arg2 harg2 cM (Memref.isWhole_whole _) arg4 harg4 bM (Memref.isWhole_whole _) cc0_scratch1 h (Scalar.addi (BitVec.ofNat 32 (i 0).val) 1#32))
    progC i arg2 harg2 arg4 harg4
  else progC i arg2 harg2 arg4 harg4
/-- The kernel's body on the point's buffers. -/
abbrev bodyG : Prog (TpuEff nD τ sig (Elt F) Λ₀ .tc) PUnit :=
  cc0_combine (F := F) i pM (Memref.isWhole_whole _) arg2 harg2 cM (Memref.isWhole_whole _) arg4 harg4 bM (Memref.isWhole_whole _) cc0_scratch1
theorem body_eq : bodyG (F := F) i arg2 harg2 arg4 harg4 =
  if h : k0_cond1 i = 1#1 then do
    Scf.Loop.for k0_t1_loop (k0_t1_ok i h) ⟨⟩ (k0_t1_body (F := F) i pM (Memref.isWhole_whole _) arg2 harg2 cM (Memref.isWhole_whole _) arg4 harg4 bM (Memref.isWhole_whole _) cc0_scratch1 h)
    progB i arg2 harg2 arg4 harg4
  else progB i arg2 harg2 arg4 harg4 := by
  unfold bodyG progB
  rw [cc0_combine_eq_skeleton]
  unfold cc0_combine_skel
  by_cases h1 : k0_cond1 i = 1#1 <;> by_cases h2 : k0_cond2 i = 1#1 <;> simp only [dif_pos, dif_neg, h1, h2, not_false_eq_true, dite_true, dite_false] <;> rfl

set_option maxHeartbeats 1000000 in
theorem runC (gw : Buf (Elt F) (arg2.view.loc (c : Thread nD τ))) (gO : Buf (Elt F) (arg4.view.loc (c : Thread nD τ))) :
    iprop(Fly c X T (sl (i 0).val) (i 0).val 0 ∗ Ow c ∗ wP c arg2 gw ∗ oP c arg4 gO)
      ⊢ wp frame (wpE (defs₀ (F := F)) 𝒱₀ (c : Thread nD τ) none) Set.univ (progC (F := F) i arg2 harg2 arg4 harg4)
        (fun _ => iprop(Free c X (sl (i 0).val) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  unfold progC
  simp only [Prog.lift, Prog.bind_op, Prog.bind_ret, Prog.pure_eq_ret]
  iintro ⟨HF, HW, Hw, HO⟩
  iapply (Scf.wp_for_bind _ _ _ _ _ _ _ _ _ (fun k _ => iprop(Fly c X T (sl (i 0).val) (i 0).val (NN * (2 * k)) ∗ Ow c))
    (fun t _ => t3_trip c X T i arg2 harg2 arg4 harg4 t)) $$ [HF HW]
  · isplitl [HF] <;> iassumption
  iintro %_ ⟨HF, HW⟩
  rw [show NN * (2 * Scf.trips k0_t3_loop.lb k0_t3_loop.ub k0_t3_loop.st) = NN * 256 from by rw [show Scf.trips k0_t3_loop.lb k0_t3_loop.ub k0_t3_loop.st = 128 from by decide]]
  iapply fupd_wp
  imod (fly_got c X T (sl (i 0).val) (i 0).val) $$ HF with HG
  imodintro
  unfold Got
  icases HG with ⟨HB, HC⟩
  iapply (wp_load_rect 𝒱₀ (c : Thread nD τ) none Set.univ (m := bM) (r := Rect.unit (s := S2x2x128x5120) (k0_off60 i) S1x1x128x5120.size (k0_off60_inb i)) (S := SLO (sl (i 0).val)) (q := fullShare) (f := G c X T (i 0).val) (half_set 0 (sl (i 0).val) _ _ (off60_eq i))) $$ HB
  iintro HB
  iapply (wp_load_rect 𝒱₀ (c : Thread nD τ) none Set.univ (m := arg2) (r := Rect.unit (s := S128x2) ![0, 0] S128x1.size inb_S128x2_S128x1_0_0) (S := arg2.view.set) (q := fullShare) (f := gw) (View.set_slice_subset _ _)) $$ Hw
  iintro Hw
  iapply (wp_load_rect 𝒱₀ (c : Thread nD τ) none Set.univ (m := bM) (r := Rect.unit (s := S2x2x128x5120) (k0_off61 i) S1x1x128x5120.size (k0_off61_inb i)) (S := SLO (sl (i 0).val)) (q := fullShare) (f := G c X T (i 0).val) (half_set 1 (sl (i 0).val) _ _ (off61_eq i))) $$ HB
  iintro HB
  iapply (wp_load_rect 𝒱₀ (c : Thread nD τ) none Set.univ (m := arg2) (r := Rect.unit (s := S128x2) ![0, 1] S128x1.size inb_S128x2_S128x1_0_1) (S := arg2.view.set) (q := fullShare) (f := gw) (View.set_slice_subset _ _)) $$ Hw
  iintro Hw
  iapply (wp_load_rect 𝒱₀ (c : Thread nD τ) none Set.univ (m := arg4) (r := Rect.unit (s := S128x5120) ![0, 0] S128x5120.size inb_S128x5120_S128x5120_0_0) (S := arg4.view.set) (q := fullShare) (f := gO) (View.set_slice_subset _ _)) $$ HO
  iintro HO
  rw [half_read c X T (i 0).val 0 (sl (i 0).val) _ _ (off60_eq i), half_read c X T (i 0).val 1 (sl (i 0).val) _ _ (off61_eq i)]
  iapply (wp_store 𝒱₀ (c : Thread nD τ) none Set.univ (m := arg4) (r := Rect.unit (s := S128x5120) ![0, 0] S128x5120.size inb_S128x5120_S128x5120_0_0) (S := arg4.view.set) (f := gO) ((View.setOn_univ _).le.trans (View.set_slice_subset _ _))) $$ HO
  iintro HO
  rw [wp_ret]
  imodintro
  isplitl [HB HC]
  · iapply (got_free c X T (sl (i 0).val) (i 0).val)
    unfold Got
    isplitl [HB] <;> iassumption
  isplitl [HW]; · iexact HW
  isplitl [Hw]; · iexact Hw
  iexact HO

set_option maxHeartbeats 1000000 in
theorem runB (hT : RowsOk T) (q : PosShare TreeShare) (gw : Buf (Elt F) (arg2.view.loc (c : Thread nD τ))) (gO : Buf (Elt F) (arg4.view.loc (c : Thread nD τ))) :
    iprop(pP c T q ∗ Fly c X T (sl (i 0).val) (i 0).val 0 ∗ Free c X (sl ((i 0).val + 1)) ∗ Ow c ∗ wP c arg2 gw ∗ oP c arg4 gO)
      ⊢ wp frame (wpE (defs₀ (F := F)) 𝒱₀ (c : Thread nD τ) none) Set.univ (progB (F := F) i arg2 harg2 arg4 harg4)
        (fun _ => iprop(pP c T q ∗ St c X T ((i 0).val + 1) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  have hi := co_lt i
  unfold progB St Cur
  rw [sl2]
  iintro ⟨HT, HF, HN, HW, Hw, HO⟩
  by_cases h : k0_cond2 i = 1#1
  · rw [dif_pos h, if_pos ⟨Nat.succ_pos _, by have := (c2 i).1 h; omega⟩]
    iapply fupd_wp
    imod (iss_start c X T (sl ((i 0).val + 1)) ((i 0).val + 1)) $$ HN with HN
    imodintro
    iapply (Scf.wp_for_bind _ _ _ _ _ _ _ _ _ (fun k _ => iprop(pP c T q ∗ Iss c X T (sl ((i 0).val + 1)) ((i 0).val + 1) (8 * k)))
      (fun t _ => t2_trip c X T i arg2 harg2 arg4 harg4 hT q h t)) $$ [HT HN]
    · isplitl [HT] <;> iassumption
    iintro %_ ⟨HT, HN⟩
    rw [show 8 * Scf.trips k0_t2_loop.lb k0_t2_loop.ub k0_t2_loop.st = 256 from by rw [show Scf.trips k0_t2_loop.lb k0_t2_loop.ub k0_t2_loop.st = 32 from by decide]]
    ihave HN' := (iss_end c X T (sl ((i 0).val + 1)) ((i 0).val + 1)) $$ HN
    iapply wp_wand_r
    isplitl [HF HW Hw HO]
    · iapply (runC c X T i arg2 harg2 arg4 harg4 gw gO)
      isplitl [HF]; · iexact HF
      isplitl [HW]; · iexact HW
      isplitl [Hw] <;> iassumption
    iintro %_ ⟨HF, HW, Hw, HO⟩
    isplitl [HT]; · iexact HT
    isplitl [HN' HF]; · isplitl [HN'] <;> iassumption
    isplitl [HW]; · iexact HW
    isplitl [Hw] <;> iassumption
  · rw [dif_neg h, if_neg (fun h' => h ((c2 i).2 (by omega)))]
    iapply wp_wand_r
    isplitl [HF HW Hw HO]
    · iapply (runC c X T i arg2 harg2 arg4 harg4 gw gO)
      isplitl [HF]; · iexact HF
      isplitl [HW]; · iexact HW
      isplitl [Hw] <;> iassumption
    iintro %_ ⟨HF, HW, Hw, HO⟩
    isplitl [HT]; · iexact HT
    isplitl [HN HF]; · isplitl [HN] <;> iassumption
    isplitl [HW]; · iexact HW
    isplitl [Hw] <;> iassumption

set_option maxHeartbeats 1000000 in
theorem runA (hT : RowsOk T) (q : PosShare TreeShare) (gw : Buf (Elt F) (arg2.view.loc (c : Thread nD τ))) (gO : Buf (Elt F) (arg4.view.loc (c : Thread nD τ))) :
    iprop(pP c T q ∗ St c X T (i 0).val ∗ Ow c ∗ wP c arg2 gw ∗ oP c arg4 gO)
      ⊢ wp frame (wpE (defs₀ (F := F)) 𝒱₀ (c : Thread nD τ) none) Set.univ (bodyG (F := F) i arg2 harg2 arg4 harg4)
        (fun _ => iprop(pP c T q ∗ St c X T ((i 0).val + 1) ∗ Ow c ∗ wP c arg2 gw ∗ oP c arg4 (arg4.view.writes (Elt F) gO [⟨Rect.unit (s := S128x5120) ![0, 0] S128x5120.size inb_S128x5120_S128x5120_0_0, outV c X T arg2 (i 0).val gw⟩]))) := by
  have hi := co_lt i
  have hB := runB c X T i arg2 harg2 arg4 harg4 hT q gw gO
  rw [body_eq]
  by_cases h : k0_cond1 i = 1#1
  · have h0 := (c1 i).1 h
    have es : sl (i 0).val = 0 := by rw [h0]; rfl
    have est : St c X T (i 0).val = iprop(Free c X 0 ∗ Free c X (sl ((i 0).val + 1))) := by
      unfold St Cur; rw [if_neg (by omega), es]
    rw [dif_pos h, est]
    iintro ⟨HT, ⟨HF, HN⟩, HW, Hw, HO⟩
    iapply fupd_wp
    imod (iss_start c X T 0 0) $$ HF with HF
    imodintro
    iapply (Scf.wp_for_bind _ _ _ _ _ _ _ _ _ (fun k _ => iprop(pP c T q ∗ Iss c X T 0 0 (8 * k)))
      (fun t _ => t1_trip c X T i arg2 harg2 arg4 harg4 hT q h t)) $$ [HT HF]
    · isplitl [HT] <;> iassumption
    iintro %_ ⟨HT, HF⟩
    rw [show 8 * Scf.trips k0_t1_loop.lb k0_t1_loop.ub k0_t1_loop.st = 256 from by rw [show Scf.trips k0_t1_loop.lb k0_t1_loop.ub k0_t1_loop.st = 32 from by decide]]
    ihave HF' := (iss_end c X T 0 0) $$ HF
    iapply hB
    isplitl [HT]; · iexact HT
    isplitl [HF']; · iapply (entails_of_eq (show Fly c X T 0 0 0 = Fly c X T (sl (i 0).val) (i 0).val 0 from by rw [es, h0])); iexact HF'
    isplitl [HN]; · iexact HN
    isplitl [HW]; · iexact HW
    isplitl [Hw] <;> iassumption
  · rw [dif_neg h]
    have h0 : (i 0).val ≠ 0 := fun h' => h ((c1 i).2 h')
    unfold St
    rw [show Cur c X T (i 0).val = Fly c X T (sl (i 0).val) (i 0).val 0 from if_pos (by omega)]
    iintro ⟨HT, ⟨HF, HN⟩, HW, Hw, HO⟩
    iapply hB
    isplitl [HT]; · iexact HT
    isplitl [HF]; · iexact HF
    isplitl [HN]; · iexact HN
    isplitl [HW]; · iexact HW
    isplitl [Hw] <;> iassumption
end

end Cert.Proof.CombI
-- ==== Proof.CombFrameI.lean ====
/-
  The combining kernel's region: its proof data, the body at every grid point, and the run of the whole program.
-/
module

public import proofs.«01_k».proof.Proof.CombBodyI
public import Idealize.ShloMosaic.Lib.Ring

@[expose] public section

noncomputable section

namespace Cert.Proof.CombI

open Cert.CombineIdeal Cert.CombineIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-! ## The region's start and end -/

abbrev osem : Fin 2 → SemLoc sig := fun | 0 => .dma (csm 0).sem | 1 => .dma (csm 1).sem
theorem ownSemFacts : Pipeline.OwnSemFacts spec0 osem := by decide
theorem bigSep_two (Φ : Fin 2 → sProp 𝕄) : bigSep Finset.univ Φ = iprop(Φ 0 ∗ Φ 1) :=
  bigSep_univ_eq_bigSepL [(0 : Fin 2), (1 : Fin 2)] (by decide) (by decide) Φ
theorem ownSems0_eq (c : Dev nD) : (Pipeline.ownSems0 (Ix := Unit) (Name := ℕ) (U := UU nD τ) (Lvl := ℕ) (Val := Elt F) (τ := τ) osem c : sProp 𝕄)
    = iprop(cell c 0 ∗ cell c 1) := by
  unfold Pipeline.ownSems0; rw [bigSep_two]; rfl

section
variable (c : Dev nD) (X : Buf (Elt F) (cM.view.loc (c : Thread nD τ)))

theorem start_split :
    iprop((((c : Thread nD τ).loc main_arg2) ↦{fullShare} X)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c)
    ⊢ (iprop(Free c X 0 ∗ Free c X 1) : sProp 𝕄) := by
  rw [ownSems0_eq, scopedRest0_eq]
  iintro ⟨HX, ⟨C0, C1⟩, ⟨%f, HB⟩⟩
  ihave HX2 := (pointsTo_share (PosShare.mem_left_op_right fullShare)).1 $$ HX
  icases HX2 with ⟨X0, X1⟩
  ihave HB2 := (entails_of_eq ((Ring.pointsTo_blocks (Ix := Unit) (Name := ℕ) (U := UU nD τ) (Lvl := ℕ) (q := fullShare) (ℓ := (c : Thread nD τ).loc cc0_scratch0) SLO SLO_disjoint SLO_cover f).trans (bigSep_two _))) $$ HB
  icases HB2 with ⟨B0, B1⟩
  unfold Free cP qs
  isplitl [X0 C0 B0]
  · isplitl [B0]; · iexists f; iexact B0
    isplitl [C0] <;> iassumption
  · isplitl [B1]; · iexists f; iexact B1
    isplitl [C1] <;> iassumption
theorem end_join :
    (iprop(Free c X 0 ∗ Free c X 1) : sProp 𝕄)
    ⊢ iprop((((c : Thread nD τ).loc main_arg2) ↦{fullShare} X)
      ∗ Pipeline.ownSems0 (Ix := Unit) (Name := ℕ) (U := UU nD τ) (Lvl := ℕ) (Val := Elt F) osem c
      ∗ Pipeline.scopedRest (Ix := Unit) (Name := ℕ) (U := UU nD τ) (Lvl := ℕ) (Val := Elt F) spec0 c) := by
  rw [ownSems0_eq, scopedRest0_eq]
  unfold Free cP qs
  iintro ⟨⟨⟨%f0, B0⟩, C0, X0⟩, ⟨⟨%f1, B1⟩, C1, X1⟩⟩
  isplitl [X0 X1]
  · iapply (pointsTo_share (PosShare.mem_left_op_right fullShare)).2
    isplitl [X0] <;> iassumption
  isplitl [C0 C1]
  · isplitl [C0] <;> iassumption
  iapply (Ring.pointsTo_blocks_join_exists (ℓ := (c : Thread nD τ).loc cc0_scratch0) SLO SLO_disjoint SLO_cover f0)
  iapply (entails_of_eq (bigSep_two _).symm)
  isplitl [B0]
  · iexists f0; iexact B0
  · iexists f1; iexact B1
end

/-! ## The proof data -/

theorem co_val (t : Fin grid0.N) : ((grid0.coords t) 0).val = t.val := by
  revert t; decide +kernel

section Data
variable (V : (c : Dev nD) → (b : Ref sig .tc) → Buf (Elt F) ((c : Thread nD τ).loc b)) (a : (pcfg0 (F := F)).Adm)

abbrev tA (c : Dev nD) : Buf (Elt F) (pM.view.loc (c : Thread nD τ)) := a.1 0
abbrev xA (c : Dev nD) : Buf (Elt F) (cM.view.loc (c : Thread nD τ)) := V c main_arg2
abbrev st0 (t : Fin (cfg0 a).N) : Memref sig .tc .vmem S128x2 .f32 := spec0_0.stage ((cfg0 a).slots t 0)
abbrev st1 (t : Fin (cfg0 a).N) : Memref sig .tc .vmem S128x5120 .bf16 := spec0_1.stage ((cfg0 a).slots t 1)
abbrev hst0 (t : Fin (cfg0 a).N) : (st0 a t).IsWhole := hstage0_0 (((cfg0 a).slots t 0).cast nbuf0_0)
abbrev hst1 (t : Fin (cfg0 a).N) : (st1 a t).IsWhole := hstage0_1 (((cfg0 a).slots t 1).cast nbuf0_1)
/-- An array at launch. -/
def arr0 (c : Dev nD) (w : Fin (cfg0 a).W) : Buf (Elt F) (((cfg0 a).win w).arr.view.loc (c : Thread nD τ)) := V c (Pipeline.arrRef spec0 w)
/-- What the input's staging buffer holds at a point. -/
def inAt (c : Dev nD) (w : Fin (cfg0 a).W) (t : Fin (cfg0 a).N) : ((cfg0 a).win w).block.Idx → Elt F ((cfg0 a).win w).elt :=
  Pipeline.heldIn (cfg0 a) (arr0 V a c) w t.val t.isLt
/-- What a point leaves in the output's staging buffer. -/
def outAt (c : Dev nD) (t : Fin (cfg0 a).N) : S128x5120.Idx → Elt F .bf16 :=
  outV c (xA V c) (tA a c) (st0 a t) t.val ((st0 a t).view.rep (inAt V a c 0 t))
def Φ (c : Dev nD) (k : ℕ) : sProp 𝕄 := iprop(pP c (tA a c) fullShare.right ∗ St c (xA V c) (tA a c) k)

def dats (_ : Fin 1) (c : Dev nD) : Dat τ (Elt F) Unit ℕ (UU nD τ) ℕ (cfg0 a) c where
  A := arr0 V a c
  after w t := match w with
    | ⟨0, _⟩ => inAt V a c 0 t
    | ⟨1, _⟩ => outAt V a c t
  Φ k := Φ V a c k.val
  q _ := fullShare
  owed _ := 0

theorem after_w0 (c : Dev nD) (t) : (dats V a 0 c).after 0 t = inAt V a c 0 t := rfl
theorem after_w1 (c : Dev nD) (t) : (dats V a 0 c).after 1 t = outAt V a c t := by unfold dats; exact Eq.refl (outAt V a c t)
theorem before_w0 (c : Dev nD) (t) (d) : (dats V a 0 c).before 0 t d = inAt V a c 0 t :=
  (dats V a 0 c).before_eq_heldIn 0 rfl (fun _ => rfl) (fun _ _ => rfl) (fun t => after_w0 V a c t) t d

theorem out_read (c : Dev nD) (t : Fin (cfg0 a).N) (gO : Buf (Elt F) ((st1 a t).view.loc (c : Thread nD τ))) :
    (st1 a t).view.read (Elt F) ((st1 a t).view.writes (Elt F) gO [⟨Rect.unit (s := S128x5120) ![0, 0] S128x5120.size inb_S128x5120_S128x5120_0_0,
      outV c (xA V c) (tA a c) (st0 a t) t.val ((st0 a t).view.rep (inAt V a c 0 t))⟩])
      = outV c (xA V c) (tA a c) (st0 a t) t.val ((st0 a t).view.rep (inAt V a c 0 t)) :=
  View.read_writes_full (Val := Elt F) (st1 a t).view gO inb_S128x5120_S128x5120_0_0 _ []

abbrev body (t : Fin (cfg0 a).N) : Prog (TpuEff nD τ sig (Elt F) Λ₀ .tc) PUnit :=
  bodyG ((cfg0 a).grid.coords t) (st0 a t) (hst0 a t) (st1 a t) (hst1 a t)
theorem defs_tc : (defs₀ (F := F)) .tc (cfg0 a).body
    = fun x => bodyG (grid0.coords x.1) (spec0_0.stage (x.2 0)) (hstage0_0 ((x.2 0).cast nbuf0_0)) (spec0_1.stage (x.2 1)) (hstage0_1 ((x.2 1).cast nbuf0_1)) := rfl
theorem prog_eq (t : Fin (cfg0 a).N) : (defs₀ (F := F)) .tc (cfg0 a).body ((cfg0 a).bodyArgs t ((cfg0 a).slots t)) = body a t :=
  (congrFun (defs_tc a) _).trans rfl

variable (hok : RowsOk (a.1 0))
include hok in
set_option backward.isDefEq.respectTransparency.types false in
theorem body_obligation (c : Dev nD) : BodyObligation (dats (F := F) V a 0 c) (defs₀ (F := F)) 𝒱₀ () Set.univ := fun t => by
  have hco : (((cfg0 a).grid.coords t) 0).val = t.val := co_val t
  have hrun := fun gO => runA c (xA V c) (tA a c) ((cfg0 a).grid.coords t) (st0 a t) (hst0 a t) (st1 a t) (hst1 a t) hok fullShare.right ((st0 a t).view.rep (inAt V a c 0 t)) gO
  rw [hco] at hrun
  rw [bigSep_W0, bigSep_W0]
  dsimp only
  simp only [before_w0, after_w0]
  rw [show (dats V a 0 c).Φ t.castSucc = Φ V a c t.val from rfl, show (dats V a 0 c).Φ t.succ = Φ V a c (t.val + 1) from rfl]
  unfold Dat.owesAt Pipeline.owesWithin
  rw [show (dats V a 0 c).owed t.castSucc = 0 from rfl, show (dats V a 0 c).owed t.succ = 0 from rfl]
  rw [after_w1]
  unfold owns Φ outAt
  iintro ⟨⟨HT, HI⟩, ⟨%W, -, HW⟩, ⟨%d0, %g0, %hg0, H0⟩, ⟨%d1, %gO, -, HO⟩⟩
  ihave H0' := (pointsTo_rep_entails (c : Thread nD τ) (st0 a t) g0 fullShare) $$ H0
  rw [hg0]
  sl_rw [prog_eq a t]
  iapply wp_wand_r
  isplitl [HT HI HW H0' HO]
  · iapply (hrun gO)
    isplitl [HT]; · iexact HT
    isplitl [HI]; · iexact HI
    isplitl [HW]; · unfold Ow; iexists W; iexact HW
    isplitl [H0']; · iexact H0'
    iexact HO
  iintro %_ ⟨HT, HI, HW, H0, HO⟩
  unfold Ow
  icases HW with ⟨%W', HW⟩
  isplitl [HT HI]
  · isplitl [HT]; · iexact HT
    iexact HI
  isplitl [HW]
  · iexists W'; isplitr; · ipureintro; exact fun _ _ => Or.inl trivial
    iexact HW
  isplitl [H0]
  · iexists _; isplitr; · ipureintro; exact View.read_rep _ _
    iexact H0
  iexists ((st1 a t).view.writes (Elt F) gO [⟨Rect.unit (s := S128x5120) ![0, 0] S128x5120.size inb_S128x5120_S128x5120_0_0, outV c (xA V c) (tA a c) (st0 a t) t.val ((st0 a t).view.rep (inAt V a c 0 t))⟩])
  isplitr
  · ipureintro
    exact out_read V a c t gO
  iexact HO
end Data

/-! ## The run -/

section Run
variable (m : (ℓ : Loc nD τ sig) → Buf (Elt F) ℓ) (ρ : Dev nD → PrngReg)

/-- The table at launch. -/
def pf₀ : pre0.Contents (Elt F) := fun k => m (((0 : Dev nD) : Thread nD τ).loc (pre0.ref k))
variable (hok : RowsOk (pf₀ m 0))
def adm₀ : (pcfg0 (F := F)).Adm := ⟨pf₀ m, trivial⟩
abbrev V₀ (c : Dev nD) (b : Ref sig .tc) : Buf (Elt F) ((c : Thread nD τ).loc b) := m ((c : Thread nD τ).loc b)
abbrev adms (_ : Fin 1) : (pcfg0 (F := F)).Adm := adm₀ m
abbrev pdats (p : Fin 1) (c : Dev nD) : Dat τ (Elt F) Unit ℕ (UU nD τ) ℕ (Pipeline.pin (pcfgs (F := F)) (adms m) p) c := dats (V₀ m) (adm₀ m) p c
def u₀ : UU nD τ := (initOf (Pipeline.cells (Pipeline.pin (pcfgs (F := F)) (adms m)) (cellOf_inj _)) (Pipeline.launchToks (Pipeline.pin (pcfgs (F := F)) (adms m)) (cellOf_inj _)), 1)
def s₀ : MemSt nD τ sig (Elt F) := ⟨m, fun _ => 0, ρ⟩
def finalA (c : Dev nD) (w : Fin (cfg0 (adm₀ m)).W) : Buf (Elt F) (((cfg0 (adm₀ m)).win w).arr.view.loc (c : Thread nD τ)) := (dats (V₀ m) (adm₀ m) 0 c).arrAt w (cfg0 (adm₀ m)).N
def QY (c : Dev nD) (s : MemSt nD τ sig (Elt F)) : Prop :=
  s.mem ((c : Thread nD τ).loc main_arg2) = m ((c : Thread nD τ).loc main_arg2)
def QC : PUnit × MemSt nD τ sig (Elt F) → Prop := fun r =>
  ∀ c : Dev nD, (∀ w, r.2.mem (((cfg0 (adm₀ m)).win w).arr.view.loc (c : Thread nD τ)) = finalA m c w)
    ∧ (∀ k, r.2.mem ((c : Thread nD τ).loc (pre0.ref k)) = pf₀ m k) ∧ QY m c r.2
def intoΦ (c : Dev nD) : sProp 𝕄 := iprop((((c : Thread nD τ).loc main_arg2) ↦{fullShare} m ((c : Thread nD τ).loc main_arg2)) ∗ Pipeline.ownSems0 osem c)
def outOfΦ (c : Dev nD) : sProp 𝕄 := iprop((((c : Thread nD τ).loc main_arg2) ↦{fullShare} m ((c : Thread nD τ).loc main_arg2)))
theorem dev_zero (c : Dev nD) : c = 0 := Subsingleton.elim _ _

theorem held_eq (c : Dev nD) : (Pipeline.prefHeld (Ix := Unit) (Name := ℕ) (U := UU nD τ) (Lvl := ℕ) (Val := Elt F) pre0 c (fun _ => fullShare.right) (pf₀ m) : sProp 𝕄)
    = pP c (tA (adm₀ m) c) fullShare.right := by
  unfold Pipeline.prefHeld
  have e1 : pM.view.set = Finset.univ := View.set_whole _
  unfold pP
  rw [e1]
  exact bigSep_univ_eq_bigSepL [(0 : Fin 1)] (by decide) (by decide) _

include hok in
set_option backward.isDefEq.respectTransparency.types false in
/-- From any memory with zero counters whose table names rows of the source: every weakly fair execution terminates,
    and every final state has the arrays at the computed contents, the table and the source unchanged, every
    semaphore counter at zero. -/
theorem run_main : θ_run defs (onTc (τ := τ) (main (F := F))) (s₀ m ρ) (fun r => QC m r ∧ r.2.sem = fun _ => 0) :=
  Pipeline.θ_run_region_pf_quiescent pcfgs (adms m) (pdats m) () (cellOf_inj _) (0 : Fin 1) winFacts0.to₀ ownSemFacts preFacts0 EP defs₀ 𝒱₀ m ρ main
    (hbody := fun c => (body_obligation (V₀ m) (adm₀ m) hok c).loose)
    (hne := block_pos0) (harr := arr_whole0) (hstage := stage_whole0)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V₀ m)
    (hmain := fun c Q => by
      simp only [main, Prog.lift, Prog.bind_op, Prog.bind_ret]
      iintro ⟨Hk, Hb⟩; iapply Hk; iexact Hb)
    (hsplit := fun c => Pipeline.arrays_split (Pipeline.pin (pcfgs (F := F)) (adms m)) (pdats m) 0 winFacts0.arr_inj c arr_whole0
      ((pdats m 0 c).share_full fun _ => rfl) (V₀ m c) _ fun _ => rfl)
    (hpf := fun c k => by rw [dev_zero c]; rfl)
    (X := intoΦ m) (Y := outOfΦ m) (Z := fun _ => iprop(emp))
    (hX := fun c => by
      rw [unscopedRestP0_eq]
      unfold intoΦ
      iintro ⟨H5, HS, -, -, -⟩; imodintro
      isplitl [H5 HS]
      · isplitl [H5]; · iexact H5
        iexact HS
      iempintro)
    (hin := fun c => by
      rw [show (pdats m 0 c).Φ 0 = Φ (V₀ m) (adm₀ m) c 0 from rfl]
      unfold intoΦ Φ
      rw [show St c (xA (V₀ m) c) (tA (adm₀ m) c) 0 = iprop(Free c (xA (V₀ m) c) 0 ∗ Free c (xA (V₀ m) c) 1) from by
        unfold St Cur; rw [if_neg (by omega)]; rfl]
      iintro ⟨⟨H5, HS⟩, HP, HR⟩
      ihave HT := (show Pipeline.prefHeld (pcfgs (F := F) 0).pre c (fun _ => fullShare.right) (adms m 0).1 ⊢ _ from entails_of_eq (held_eq m c)) $$ HP
      isplitl [HT]; · iexact HT
      iapply (start_split c (xA (V₀ m) c))
      isplitl [H5]; · iexact H5
      isplitl [HS] <;> iassumption)
    (hout := fun c => by
      rw [show (pdats m 0 c).Φ (Fin.last _) = Φ (V₀ m) (adm₀ m) c (Fin.last (cfg0 (adm₀ m)).N).val from rfl]
      have e : (Fin.last (cfg0 (adm₀ m)).N).val = 192 := N_0
      unfold Φ outOfΦ
      rw [e, show St c (xA (V₀ m) c) (tA (adm₀ m) c) 192 = iprop(Free c (xA (V₀ m) c) 0 ∗ Free c (xA (V₀ m) c) 1) from by
        unfold St Cur; rw [if_neg (by omega)]; rfl]
      iintro ⟨-, HI⟩
      iapply (end_join c (xA (V₀ m) c))
      iexact HI)
    (QY := QY m)
    (hY := fun c s' => by
      unfold outOfΦ
      iintro ⟨H5, -, HSI⟩
      icombine HSI H5 gives %h5
      imodintro
      isplitr; · ipureintro; exact Buf.eq_of_forall_mem_univ h5
      iexact HSI)
    (hQ := fun _ hh hz => ⟨hh, hz⟩)

theorem finalA_in (c : Dev nD) (w : Fin (cfg0 (adm₀ m)).W) (hw : ((cfg0 (adm₀ m)).win w).isOut = false) :
    finalA m c w = m (((cfg0 (adm₀ m)).win w).arr.view.loc (c : Thread nD τ)) :=
  (dats (F := F) (V₀ m) (adm₀ m) 0 c).arrAt_in w hw _
end Run

end Cert.Proof.CombI
-- ==== Proof.CombClaimsI.lean ====
/-
  The frame claim of the combining kernel at its precondition, from the run of the whole program.
-/
module

public import proofs.«01_k».proof.Proof.CombFrameI
public import proofs.«01_k».proof.Proof.Mask
public import proofs.«01_k».proof.Pre_rows_ok

@[expose] public section

set_option maxRecDepth 16384

noncomputable section

namespace Cert.Proof.CombI

open Cert.CombineIdeal Cert.CombineIdeal.Gen
open Idealize.ShloMosaic
open Idealize.ShloMosaic.TcCoe
open Idealize.SL.Sem

variable {F : FTy → Type} [FloatOps F] (m : (ℓ : Loc nD τ sig) → Buf (Elt F) ℓ)

/-- What the run leaves in the three arguments: their initial contents. -/
theorem args_kept (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  obtain ⟨hw, hp, h2⟩ := h c
  obtain rfl := dev_zero c
  exact ⟨hp 0, (hw 0).trans (finalA_in m 0 0 rfl), h2⟩

theorem sge_of (a b : BitVec 32) (h : IntOp.cmpi .sge a b = 1#1) : b.toInt ≤ a.toInt := BitVec.sle_iff_toInt_le.1 (Mask.ofBool_one _ h)

/-- The precondition on the positions, read at one of them. -/
theorem row_decode [Cert.Pre_rows_ok.Facts] (T : IVec S49152 32) (w y) (h : Cert.Pre_rows_ok.fn (F := F) T w y = fun _ => 1#1) (k : ℕ) :
    (pW T k).toNat < 53248 := by
  have e := congrFun h (pIx k)
  obtain ⟨e1, e2⟩ := Mask.and_one _ _ (show IntOp.andi (IntOp.cmpi .sge (pW T k) 0#32) (IntOp.cmpi .slt (pW T k) 53248#32) = 1#1 from e)
  have i1 : (0 : ℤ) ≤ (pW T k).toInt := sge_of _ _ e1
  have i2 : (pW T k).toInt < 53248 := Mask.slt_of _ _ e2
  have ei := BitVec.toInt_eq_toNat_cond (pW T k)
  have hl := (pW T k).isLt
  split at ei <;> omega

/-- A precondition that holds of the arguments makes every position name a row. -/
theorem rows_of_pre [Cert.Pre_rows_ok.Facts]
    (h : ∀ c : Dev nD, Cert.Pre_rows_ok.fn (F := F) (m ((c.tc : Thread nD τ).loc main_arg0)) (m ((c.tc : Thread nD τ).loc main_arg1)) (m ((c.tc : Thread nD τ).loc main_arg2)) = (fun _ => 1#1)) :
    RowsOk (pf₀ m 0) := fun k => row_decode _ _ _ (h 0) k

/-- The program runs, every semaphore counter ends at zero, and the arguments are unchanged. -/
theorem frame_of (ρ : Dev nD → PrngReg) (hok : RowsOk (pf₀ m 0)) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨args_kept m r h.1, h.2⟩) (run_main m ρ hok)

end Cert.Proof.CombI

end
-- ==== Proof.CombValueI.lean ====
/-
  What the combining kernel leaves in its result, at an element, over the extended reals.
-/
module

public import proofs.«01_k».proof.Proof.CombClaimsI
public import Idealize.ShloMosaic.Lib.StableHlo.ReadAt
public import Idealize.ShloMosaic.Lib.Pipeline.ValueKit.Geometry
public import Idealize.ShloMosaic.PureOps.Ideal

@[expose] public section

set_option maxRecDepth 16384

noncomputable section

namespace Cert.Proof.CombI

open Cert.CombineIdeal Cert.CombineIdeal.Gen
open Idealize.ShloMosaic
open Idealize.ShloMosaic.TcCoe
open Idealize.ShloMosaic.Pipeline (Dat Cfg Window)

variable (V : (c : Dev nD) → (b : Ref sig .tc) → Buf (Elt Ideal) ((c : Thread nD τ).loc b)) (a : (pcfg0 (F := Ideal)).Adm) (c : Dev nD)

theorem N_a : (cfg0 a).N = 192 := N_0

theorem tr0_eq (i : grid0.Coords) : cc0_transform_0 i = ![(i 0).val, 0] := by
  have e : (BitVec.ofNat 32 (i 0).val).toNat = (i 0).val := by
    have h : (i 0).val < 192 := (i 0).isLt
    rw [BitVec.toNat_ofNat]; omega
  unfold cc0_transform_0
  funext b
  match b with
  | 0 => exact e
  | 1 => rfl
theorem index0 (t : Fin (cfg0 a).N) : ((cfg0 a).win 0).index t = ![t.val, 0] := by
  have := tr0_eq (grid0.coords t); rw [co_val t] at this; exact this
theorem index1 (t : Fin (cfg0 a).N) : ((cfg0 a).win 1).index t = ![t.val, 0] := by
  have := tr0_eq (grid0.coords t); rw [co_val t] at this; exact this

/-- Two points name different blocks of the result, so each writes its block back. -/
theorem index1_inj (t t' : Fin (cfg0 a).N) (h : ((cfg0 a).win 1).index t = ((cfg0 a).win 1).index t') : t = t' := by
  rw [index1, index1] at h
  exact Fin.ext (congrFun h 0)
theorem flush1 (t : Fin (cfg0 a).N) : ((cfg0 a).win 1).flush t = true := by
  have hG : (cfg0 a).grid.N = 192 := N_0
  unfold Window.flush
  rw [Bool.and_eq_true]
  refine ⟨rfl, ?_⟩
  rw [Bool.or_eq_true]
  by_cases hl : t.val + 1 = 192
  · left; exact decide_eq_true (hl.trans hG.symm)
  · right
    have ht : t.val < 192 := lt_of_lt_of_eq t.isLt (N_a a)
    refine decide_eq_true ⟨by omega, ?_⟩
    rw [index1, index1]
    intro e
    have e0 : t.val + 1 = t.val := congrFun e 0
    omega

/-- The weights' buffer holds, at every point, the block of the weights that the point names. -/
theorem in_eq (w : Fin (cfg0 a).W) (hw : ((cfg0 a).win w).isOut = false) (hc : ∀ (i : (cfg0 a).grid.Coords) b, ((cfg0 a).win w).clip i b = none) :
    ∀ (n : ℕ) (h : n < (cfg0 a).N), inAt V a c w ⟨n, h⟩ = (dats V a 0 c).fetched w ⟨n, h⟩ (fun _ => Classical.arbitrary _)
  | 0, h => rfl
  | n + 1, h => by
    by_cases hf : ((cfg0 a).win w).fetch ⟨n + 1, h⟩ = true
    · exact Pipeline.heldIn_of_fetch (arr0 V a c) w ⟨n + 1, h⟩ hf
    · rw [Bool.not_eq_true] at hf
      obtain ⟨ht, hix⟩ := ((cfg0 a).win w).index_eq_of_fetch hw ⟨n + 1, h⟩ hf
      refine (Pipeline.heldIn_of_not_fetch (arr0 V a c) w n h hf).trans ((in_eq w hw hc n (Nat.lt_of_succ_lt h)).trans ?_)
      exact (dats V a 0 c).fetched_congr w hix.symm (funext fun b => (hc _ b).trans (hc _ b).symm) _

theorem in0_at (t : Fin (cfg0 a).N) (q : Fin 128) (l : Fin 2) (r : Fin 24576) (hr : r.val = t.val * 128 + q.val) :
    inAt V a c 0 t (Idealize.ShloMosaic.ix2 q l) = V c main_arg1 (Idealize.ShloMosaic.ix2 r l) := by
  have e : inAt V a c 0 t = _ := in_eq V a c 0 rfl (fun _ _ => rfl) t.val t.isLt
  rw [e]
  unfold Dat.fetched Window.fill
  rw [dif_pos (((cfg0 a).win 0).moved_iff _ _ |>.mpr fun b => (Idealize.ShloMosaic.ix2 q l b).isLt)]
  show arr0 V a c 0 ((((cfg0 a).win 0).rect t).emb _) = _
  refine congrArg (V c main_arg1) (funext fun b => Fin.ext ?_)
  refine (((cfg0 a).win 0).rect_emb_val t _ b).trans ?_
  rw [index0 a t]
  fin_cases b
  · show t.val * 128 + q.val = r.val
    rw [hr]
  · show 0 * 2 + l.val = l.val
    omega

/-- The result at a row: what the row's point leaves there. -/
theorem arr_at (t : Fin (cfg0 a).N) (q : Fin 128) (d : Fin 5120) (r : Fin 24576) (hr : r.val = t.val * 128 + q.val) :
    (dats V a 0 c).arrAt 1 (cfg0 a).N (Idealize.ShloMosaic.ix2 r d) = outAt V a c t (Idealize.ShloMosaic.ix2 q d) := by
  have hd := (dats V a 0 c).arrAt_emb_eq_flushed 1 (((cfg0 a).win 1).hdisj_of_index_inj (fun t t' _ _ h => index1_inj a t t' h)) t (flush1 a t) (Idealize.ShloMosaic.ix2 q d)
  have he : (((cfg0 a).win 1).blk t).view.emb (Idealize.ShloMosaic.ix2 q d) = Idealize.ShloMosaic.ix2 r d := by
    show (((cfg0 a).win 1).rect t).emb _ = _
    refine funext fun b => Fin.ext ?_
    refine (((cfg0 a).win 1).rect_emb_val t _ b).trans ?_
    rw [index1 a t]
    fin_cases b
    · show t.val * 128 + q.val = r.val
      rw [hr]
    · show 0 * 5120 + d.val = d.val
      omega
  rw [he] at hd
  refine hd.trans ?_
  show (dats V a 0 c).after 1 t (Idealize.ShloMosaic.ix2 q d) = _
  rw [after_w1]

/-- A point's payload at an element: two products, added. -/
theorem pay_at (v10 v16 : Vec Ideal S1x1x128x5120 .f32) (v12 v18 : Vec Ideal S128x1 .f32) (q : Fin 128) (d : Fin 5120) :
    k0_pay1 (F := Ideal) v10 v12 v16 v18 (Idealize.ShloMosaic.ix2 q d) = (v10 (ix4 0 0 q d) * v12 (Idealize.ShloMosaic.ix2 q 0) + v16 (ix4 0 0 q d) * v18 (Idealize.ShloMosaic.ix2 q 0) : EReal) := by
  have hs : ∀ v : Vec Ideal S1x1x128x5120 .f32, shapeCast S128x5120 v shapeCasts_S1x1x128x5120_S128x5120 (Idealize.ShloMosaic.ix2 q d) = v (ix4 0 0 q d) := fun v => by
    pointwise
  have hb : ∀ v : Vec Ideal S128x1 .f32, broadcastTo S128x5120 v broadcasts_S128x1_S128x5120 (Idealize.ShloMosaic.ix2 q d) = v (Idealize.ShloMosaic.ix2 q 0) := fun v => by
    pointwise
  exact congrArg₂ (fun a b : EReal => a + b) (congrArg₂ (fun a b : EReal => a * b) (hs v10) (hb v12)) (congrArg₂ (fun a b : EReal => a * b) (hs v16) (hb v18))

/-- The source and the weights, as numbers. -/
abbrev srcE : S53248x5120.Idx → EReal := V c main_arg2
abbrev wtsE : S24576x2.Idx → EReal := V c main_arg1

/-- A row of the result: the two rows its pair of positions names, each times its weight, added. -/
theorem row_at (r : Fin 24576) (d : Fin 5120) :
    (dats V a 0 c).arrAt 1 (cfg0 a).N (Idealize.ShloMosaic.ix2 r d)
      = (srcE V c (Idealize.ShloMosaic.ix2 (pR (tA a c) (2 * r.val)) d) * wtsE V c (Idealize.ShloMosaic.ix2 r 0)
          + srcE V c (Idealize.ShloMosaic.ix2 (pR (tA a c) (2 * r.val + 1)) d) * wtsE V c (Idealize.ShloMosaic.ix2 r 1) : EReal) := by
  have hr := r.isLt
  have hq : r.val % 128 < 128 := Nat.mod_lt _ (by norm_num)
  have ht : r.val / 128 < (cfg0 a).N := by rw [N_a]; omega
  have hr' : r.val = r.val / 128 * 128 + r.val % 128 := by omega
  refine (arr_at V a c ⟨r.val / 128, ht⟩ ⟨r.val % 128, hq⟩ d r hr').trans ?_
  unfold outAt outV
  refine (pay_at _ _ _ _ _ _).trans ?_
  have hx : ∀ m : ℕ, m < 2 → blk c (xA V c) (tA a c) (r.val / 128) m (ix4 0 0 ⟨r.val % 128, hq⟩ d) = V c main_arg2 (Idealize.ShloMosaic.ix2 (pR (tA a c) (2 * r.val + m)) d) := fun m hm => by
    have e : 256 * (r.val / 128) + (2 * (r.val % 128) + m) = 2 * r.val + m := by omega
    show V c main_arg2 (gIx (pR (tA a c) (256 * (r.val / 128) + (2 * (r.val % 128) + m))) d) = _
    rw [e]
    exact congrArg (V c main_arg2) (funext fun b => by fin_cases b <;> rfl)
  have hw : ∀ l : Fin 2, (st0 a ⟨r.val / 128, ht⟩).view.read (Elt Ideal) ((st0 a ⟨r.val / 128, ht⟩).view.rep (inAt V a c 0 ⟨r.val / 128, ht⟩)) (Idealize.ShloMosaic.ix2 ⟨r.val % 128, hq⟩ l)
      = V c main_arg1 (Idealize.ShloMosaic.ix2 r l) := fun l =>
    (congrFun (View.read_rep _ _) _).trans (in0_at V a c ⟨r.val / 128, ht⟩ ⟨r.val % 128, hq⟩ l r hr')
  have e0 : wcol0 c (st0 a ⟨r.val / 128, ht⟩) ((st0 a ⟨r.val / 128, ht⟩).view.rep (inAt V a c 0 ⟨r.val / 128, ht⟩)) (Idealize.ShloMosaic.ix2 ⟨r.val % 128, hq⟩ 0) = V c main_arg1 (Idealize.ShloMosaic.ix2 r 0) := by
    refine Eq.trans ?_ (hw 0)
    unfold wcol0
    refine congrArg _ (funext fun b => Fin.ext ?_)
    fin_cases b
    · show 0 + 1 * (r.val % 128) = r.val % 128; omega
    · rfl
  have e1 : wcol1 c (st0 a ⟨r.val / 128, ht⟩) ((st0 a ⟨r.val / 128, ht⟩).view.rep (inAt V a c 0 ⟨r.val / 128, ht⟩)) (Idealize.ShloMosaic.ix2 ⟨r.val % 128, hq⟩ 0) = V c main_arg1 (Idealize.ShloMosaic.ix2 r 1) := by
    refine Eq.trans ?_ (hw 1)
    unfold wcol1
    refine congrArg _ (funext fun b => Fin.ext ?_)
    fin_cases b
    · show 0 + 1 * (r.val % 128) = r.val % 128; omega
    · rfl
  exact congrArg₂ (fun a b : EReal => a + b) (congrArg₂ (fun a b : EReal => a * b) (hx 0 (by norm_num)) e0) (congrArg₂ (fun a b : EReal => a * b) (hx 1 (by norm_num)) e1)

end Cert.Proof.CombI

end
-- ==== Proof.CombRef.lean ====
/-
  The run of the plain program that combines: its operations, and what its result holds at an element.
-/
module

public import Idealize.ShloMosaic.Lib.StableHlo.ReadAt
public import Idealize.ShloMosaic.Lib.Quiescent
public import Idealize.ShloMosaic.PureOps.Ideal
public import Idealize.ShloMosaic.Lib.Routing.Ops
public import proofs.«01_k».proof.Proof.Gen.CombineReferenceIdeal

@[expose] public section

set_option maxRecDepth 16384

noncomputable section

namespace Cert.Proof.CombRef

open Cert.CombineReferenceIdeal Cert.CombineReferenceIdeal.Gen
open Idealize.ShloMosaic Idealize.ShloMosaic.TcCoe Idealize.ShloMosaic.StableHlo Idealize.SL.Sem

section Run
variable {F : FTy → Type} [FloatOps F]

/-- The program's operations, in order. -/
abbrev ops : List (HloOp τ sig (Elt F)) :=
  [ reshape main_arg0 main_v0 (rfl : (.i32 : EltTy) = .i32) shapeCasts_S49152_S24576x2,
    unary main_v0 main_v1 ((extractStridedSlice S24576x1 ![0, 0] · slices_S24576x2_S24576x1_0_0) : (⟨S24576x2, .i32⟩ : BufTy).Contents (Elt F) → (⟨S24576x1, .i32⟩ : BufTy).Contents (Elt F)),
    reshape main_v1 main_v2 (rfl : (.i32 : EltTy) = .i32) shapeCasts_S24576x1_S24576,
    unary main_v2 main_v3 (broadcastInDim S24576x1 ![0] bcast_S24576_S24576x1_0 : (⟨S24576, .i32⟩ : BufTy).Contents (Elt F) → (⟨S24576x1, .i32⟩ : BufTy).Contents (Elt F)),
    binary main_arg2 main_v3 main_v4 ((fun x i => Host.gather gather_S53248x5120_S24576x1_S24576x5120_1_0_n_n_0_1_15120 x i) : (⟨S53248x5120, .f32⟩ : BufTy).Contents (Elt F) → (⟨S24576x1, .i32⟩ : BufTy).Contents (Elt F) → (⟨S24576x5120, .f32⟩ : BufTy).Contents (Elt F)),
    unary main_arg1 main_v5 ((extractStridedSlice S24576x1 ![0, 0] · slices_S24576x2_S24576x1_0_0) : (⟨S24576x2, .f32⟩ : BufTy).Contents (Elt F) → (⟨S24576x1, .f32⟩ : BufTy).Contents (Elt F)),
    unary main_v5 main_v6 (broadcastInDim S24576x5120 ![0, 1] bcast_S24576x1_S24576x5120_0_1 : (⟨S24576x1, .f32⟩ : BufTy).Contents (Elt F) → (⟨S24576x5120, .f32⟩ : BufTy).Contents (Elt F)),
    binary main_v4 main_v6 main_v7 (mulf : (⟨S24576x5120, .f32⟩ : BufTy).Contents (Elt F) → (⟨S24576x5120, .f32⟩ : BufTy).Contents (Elt F) → (⟨S24576x5120, .f32⟩ : BufTy).Contents (Elt F)),
    unary main_v0 main_v8 ((extractStridedSlice S24576x1 ![0, 1] · slices_S24576x2_S24576x1_0_1) : (⟨S24576x2, .i32⟩ : BufTy).Contents (Elt F) → (⟨S24576x1, .i32⟩ : BufTy).Contents (Elt F)),
    reshape main_v8 main_v9 (rfl : (.i32 : EltTy) = .i32) shapeCasts_S24576x1_S24576,
    unary main_v9 main_v10 (broadcastInDim S24576x1 ![0] bcast_S24576_S24576x1_0 : (⟨S24576, .i32⟩ : BufTy).Contents (Elt F) → (⟨S24576x1, .i32⟩ : BufTy).Contents (Elt F)),
    binary main_arg2 main_v10 main_v11 ((fun x i => Host.gather gather_S53248x5120_S24576x1_S24576x5120_1_0_n_n_0_1_15120 x i) : (⟨S53248x5120, .f32⟩ : BufTy).Contents (Elt F) → (⟨S24576x1, .i32⟩ : BufTy).Contents (Elt F) → (⟨S24576x5120, .f32⟩ : BufTy).Contents (Elt F)),
    unary main_arg1 main_v12 ((extractStridedSlice S24576x1 ![0, 1] · slices_S24576x2_S24576x1_0_1) : (⟨S24576x2, .f32⟩ : BufTy).Contents (Elt F) → (⟨S24576x1, .f32⟩ : BufTy).Contents (Elt F)),
    unary main_v12 main_v13 (broadcastInDim S24576x5120 ![0, 1] bcast_S24576x1_S24576x5120_0_1 : (⟨S24576x1, .f32⟩ : BufTy).Contents (Elt F) → (⟨S24576x5120, .f32⟩ : BufTy).Contents (Elt F)),
    binary main_v11 main_v13 main_v14 (mulf : (⟨S24576x5120, .f32⟩ : BufTy).Contents (Elt F) → (⟨S24576x5120, .f32⟩ : BufTy).Contents (Elt F) → (⟨S24576x5120, .f32⟩ : BufTy).Contents (Elt F)),
    binary main_v7 main_v14 main_v15 (addf : (⟨S24576x5120, .f32⟩ : BufTy).Contents (Elt F) → (⟨S24576x5120, .f32⟩ : BufTy).Contents (Elt F) → (⟨S24576x5120, .f32⟩ : BufTy).Contents (Elt F)),
    unary main_v15 main_v16 ((truncf .bf16 · bitsLt_bf16_f32) : (⟨S24576x5120, .f32⟩ : BufTy).Contents (Elt F) → (⟨S24576x5120, .bf16⟩ : BufTy).Contents (Elt F)) ]

/-- The program is that straight line. -/
theorem main_eq (c : Dev nD) : main (F := F) c = seq ops := rfl

/-- A column of the pairs of positions. -/
abbrev col0 (T : IVec S49152 32) : IVec S24576x1 32 :=
  broadcastInDim S24576x1 ![0] bcast_S24576_S24576x1_0 (shapeCast S24576 (extractStridedSlice S24576x1 ![0, 0] (shapeCast S24576x2 T shapeCasts_S49152_S24576x2) slices_S24576x2_S24576x1_0_0) shapeCasts_S24576x1_S24576)
abbrev col1 (T : IVec S49152 32) : IVec S24576x1 32 :=
  broadcastInDim S24576x1 ![0] bcast_S24576_S24576x1_0 (shapeCast S24576 (extractStridedSlice S24576x1 ![0, 1] (shapeCast S24576x2 T shapeCasts_S49152_S24576x2) slices_S24576x2_S24576x1_0_1) shapeCasts_S24576x1_S24576)
/-- What the program leaves in its result, over its arguments. -/
def out (T : IVec S49152 32) (W : FVec F S24576x2 .f32) (X : FVec F S53248x5120 .f32) : FVec F S24576x5120 .bf16 :=
  truncf .bf16 (addf
    (mulf (Host.gather gather_S53248x5120_S24576x1_S24576x5120_1_0_n_n_0_1_15120 X (col0 T)) (broadcastInDim S24576x5120 ![0, 1] bcast_S24576x1_S24576x5120_0_1 (extractStridedSlice S24576x1 ![0, 0] W slices_S24576x2_S24576x1_0_0)))
    (mulf (Host.gather gather_S53248x5120_S24576x1_S24576x5120_1_0_n_n_0_1_15120 X (col1 T)) (broadcastInDim S24576x5120 ![0, 1] bcast_S24576x1_S24576x5120_0_1 (extractStridedSlice S24576x1 ![0, 1] W slices_S24576x2_S24576x1_0_1)))) bitsLt_bf16_f32

theorem out_eq (V : Valuation τ sig (Elt F)) :
    after ops V (main_v16 : DevRef τ sig) = out (V (main_arg0 : DevRef τ sig)) (V (main_arg1 : DevRef τ sig)) (V (main_arg2 : DevRef τ sig)) := by
  after_results
  rfl
theorem arg0_eq (V : Valuation τ sig (Elt F)) : after ops V (main_arg0 : DevRef τ sig) = V (main_arg0 : DevRef τ sig) := by after_results
theorem arg1_eq (V : Valuation τ sig (Elt F)) : after ops V (main_arg1 : DevRef τ sig) = V (main_arg1 : DevRef τ sig) := by after_results
theorem arg2_eq (V : Valuation τ sig (Elt F)) : after ops V (main_arg2 : DevRef τ sig) = V (main_arg2 : DevRef τ sig) := by after_results

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., unary_bufs_sub .., reshape_bufs_sub .., unary_bufs_sub .., binary_bufs_sub .., unary_bufs_sub .., unary_bufs_sub .., binary_bufs_sub .., unary_bufs_sub .., reshape_bufs_sub .., unary_bufs_sub .., binary_bufs_sub .., unary_bufs_sub .., unary_bufs_sub .., binary_bufs_sub .., binary_bufs_sub .., unary_bufs_sub ..⟩

/-- The program runs, and its result and arguments end as said. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c main_v16).trans (out_eq _), (h c main_arg0).trans (arg0_eq _), (h c main_arg1).trans (arg1_eq _), (h c main_arg2).trans (arg2_eq _)⟩)
    (run_seq scopedRefs_eq scopedSems_eq defs main (fun _ => ops) main_eq (fun _ => ops_sub) m ρ)

/-- The program runs, its arguments are unchanged, and it counts on no semaphore. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run m ρ)

end Run

/-! ## The result at an element, over the extended reals -/

theorem col0_at (T : IVec S49152 32) (r : Fin 24576) : col0 T (ix2 r 0) = T (ix1 ⟨2 * r.val, by omega⟩) := by
  unfold col0
  pointwise
  exact congrArg (fun k => T (ix1 k)) (Fin.ext (by show r.val * 2 + 0 = 2 * r.val; omega))
theorem col1_at (T : IVec S49152 32) (r : Fin 24576) : col1 T (ix2 r 0) = T (ix1 ⟨2 * r.val + 1, by omega⟩) := by
  unfold col1
  pointwise
  exact congrArg (fun k => T (ix1 k)) (Fin.ext (by show r.val * 2 + 1 = 2 * r.val + 1; omega))

/-- A token's row: the two rows its pair of positions names, each times its weight, added. -/
theorem out_at (T : IVec S49152 32) (W : FVec Ideal S24576x2 .f32) (X : FVec Ideal S53248x5120 .f32) (r : Fin 24576) (d : Fin 5120) (b0 b1 : Fin 53248)
    (h0 : T (ix1 ⟨2 * r.val, by omega⟩) = BitVec.ofNat 32 b0.val) (h1 : T (ix1 ⟨2 * r.val + 1, by omega⟩) = BitVec.ofNat 32 b1.val) :
    out (F := Ideal) T W X (ix2 r d) = (X (ix2 b0 d) * W (ix2 r 0) + X (ix2 b1 d) * W (ix2 r 1) : EReal) := by
  have g0 := Routing.gather_row gather_S53248x5120_S24576x1_S24576x5120_1_0_n_n_0_1_15120 rfl rfl rfl rfl rfl X (col0 T) r d b0 ((col0_at T r).trans h0) (by norm_num)
  have g1 := Routing.gather_row gather_S53248x5120_S24576x1_S24576x5120_1_0_n_n_0_1_15120 rfl rfl rfl rfl rfl X (col1 T) r d b1 ((col1_at T r).trans h1) (by norm_num)
  have w0 : broadcastInDim S24576x5120 ![0, 1] bcast_S24576x1_S24576x5120_0_1 (extractStridedSlice S24576x1 ![0, 0] W slices_S24576x2_S24576x1_0_0) (ix2 r d) = W (ix2 r 0) := by
    pointwise
  have w1 : broadcastInDim S24576x5120 ![0, 1] bcast_S24576x1_S24576x5120_0_1 (extractStridedSlice S24576x1 ![0, 1] W slices_S24576x2_S24576x1_0_1) (ix2 r d) = W (ix2 r 1) := by
    pointwise
  exact congrArg₂ (fun a b : EReal => a + b) (congrArg₂ (fun a b : EReal => a * b) g0 w0) (congrArg₂ (fun a b : EReal => a * b) g1 w1)

end Cert.Proof.CombRef

end
-- ==== Proof.CombAgree.lean ====
/-
  The combining kernel and the plain program that combines leave the same result.
-/
module

public import proofs.«01_k».proof.Defs
public import proofs.«01_k».proof.Proof.CombValueI
public import proofs.«01_k».proof.Proof.CombRef
public import proofs.«01_k».proof.Proof.Gen.Pre_rows_ok

@[expose] public section

set_option maxRecDepth 16384

noncomputable section

namespace Cert.Proof.CombAgree

open Idealize.ShloMosaic
open Idealize.ShloMosaic.TcCoe
open Idealize.SL.Sem

theorem pIx_eq (k : ℕ) (h : k < 49152) : CombI.pIx k = ix1 ⟨k, h⟩ := by
  funext b
  fin_cases b
  exact Fin.ext (Nat.mod_eq_of_lt h)
theorem row_word (T : Cert.CombineIdeal.S49152.Idx → BitVec 32) (h : CombI.RowsOk T) (k : ℕ) (hk : k < 49152) : T (ix1 ⟨k, hk⟩) = BitVec.ofNat 32 (CombI.pR T k).val := by
  rw [CombI.pR_val h, ← pIx_eq k hk, BitVec.ofNat_toNat, BitVec.setWidth_eq]
  rfl

variable (m : (ℓ : Loc Cert.CombineIdeal.nD Cert.CombineIdeal.τ Cert.CombineIdeal.sig) → Buf (Elt Ideal) ℓ)

/-- What the kernel's run leaves in its result. -/
def resK (c : Dev Cert.CombineIdeal.nD) : Buf (Elt Ideal) ((c.tc : Thread Cert.CombineIdeal.nD Cert.CombineIdeal.τ).loc Cert.CombineIdeal.main_v0) := CombI.finalA m c 1

/-- The plain program's result over the same arguments is the kernel's. -/
theorem out_agree (hok : CombI.RowsOk (CombI.pf₀ m 0)) (c : Dev Cert.CombineIdeal.nD) :
    CombRef.out (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))
      = resK m c := by
  obtain rfl := CombI.dev_zero c
  funext i
  have hi : i = ix2 (i 0) (i 1) := by funext b; fin_cases b <;> rfl
  have hr : (i 0).val < 24576 := (i 0).isLt
  rw [hi]
  refine (CombRef.out_at _ _ _ (i 0) (i 1) (CombI.pR (CombI.pf₀ m 0) (2 * (i 0).val)) (CombI.pR (CombI.pf₀ m 0) (2 * (i 0).val + 1))
    (row_word (CombI.pf₀ m 0) hok _ (by omega)) (row_word (CombI.pf₀ m 0) hok _ (by omega))).trans ?_
  exact (CombI.row_at (CombI.V₀ m) (CombI.adm₀ m) 0 (i 0) (i 1)).symm

/-- The two programs, from arguments that agree and positions that name rows, end with the same result. -/
theorem agree : Cert.algebraic_CombineIdeal_CombineReferenceIdeal (hCombineIdeal := Cert.CombineIdeal.Gen.facts) (hCombineReferenceIdeal := Cert.CombineReferenceIdeal.Gen.facts)
    (hPre_rows_ok := Cert.Pre_rows_ok.Gen.facts) := by
  intro m g m' g' hp ha
  have hok := CombI.rows_of_pre m hp
  refine ⟨fun c => resK m c, ?_, ?_⟩
  · exact (θ_run _ _ _).mono (fun r h c => ⟨(h.1 c).1 1, CombI.args_kept m r h.1 c⟩) (CombI.run_main m g hok)
  · refine (θ_run _ _ _).mono (fun r h c => ⟨(h c).1.trans ?_, (h c).2⟩) (CombRef.run m' g')
    obtain ⟨h0, h1, h2⟩ := ha c
    rw [h0, h1, h2]
    exact out_agree m hok c

end Cert.Proof.CombAgree

end
-- ==== Proof.lean ====
module

public import proofs.«01_k».proof.Defs
public import proofs.«01_k».proof.Proof.Agree
public import proofs.«01_k».proof.Proof.CombClaims
public import proofs.«01_k».proof.Proof.CombAgree
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Combine
public import proofs.«01_k».proof.Proof.Gen.Combine.Skeleton
public import proofs.«01_k».proof.Proof.Gen.Combine.Launch
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineReferenceIdeal
public import proofs.«01_k».proof.Proof.Gen.Pre_rows_ok
public import proofs.«01_k».proof.Proof.Gen.Pre_tables_ok
public import proofs.«01_k».proof.Proof.Gen.On_live_rows
public import Idealize.ShloMosaic.Adequacy
public import Idealize.ShloMosaic.Init

@[expose] public section

noncomputable section

namespace Cert.Proof

open Idealize.ShloMosaic Idealize.SL.Sem Cert.Kernel

/-- The call and the plain program leave the same result in every element the mask keeps. -/
theorem agree (hT : Cert.Pre_tables_ok.Facts) (hO : Cert.On_live_rows.Facts) :
    Cert.algebraic_KernelIdeal_ReferenceIdeal_on_live_rows (hKernelIdeal := Cert.KernelIdeal.Gen.facts) (hReferenceIdeal := Cert.ReferenceIdeal.Gen.facts)
      (hPre_tables_ok := hT) (hOn_live_rows := hO) := by
  intro m g m' g' hp ha
  have hok := FfnI.okPf_of m hp
  refine ⟨fun c => Agree.resK m hok c, ?_, ?_⟩
  · exact (θ_run _ _ _).mono (fun r h c => ⟨fun i _ => congrFun (h.1 c) i, FfnI.args_kept m hok r h.2 c⟩) (Agree.run_kernel m hok g)
  · refine (θ_run _ _ _).mono (fun r h c => ⟨fun i hi => ?_, h.2 c⟩) (θ_run_and (Agree.run_plain m' g') (Cert.ReferenceIdeal.Gen.unchanged m' g'))
    obtain ⟨h0, _, h2, h3, h4, h5, h6⟩ := ha c
    have e : i = ix2 (i 0) (i 1) := by funext b; fin_cases b <;> rfl
    rw [e] at hi ⊢
    exact (congrFun (h.1 c) _).trans (Agree.row_agree m m' hok c h0 h2 h3 h4 h5 h6 (i 0) (i 1) hi)

theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Cert.Pre_tables_ok.Gen.facts, Cert.Pre_rows_ok.Gen.facts, Cert.On_live_rows.Gen.facts,
  fun m g h => Ffn.frame_of (F := Bits) m g (Ffn.okPf_of m h),
  fun m g h => FfnI.frame_of (F := Ideal) m g (FfnI.okPf_of m h),
  fun m g _ => Cert.ReferenceIdeal.Gen.frame m g,
  fun m g _ => Cert.ReferenceIdeal.Gen.frame m g,
  fun m g h => Comb.frame_of (F := Bits) m g (Comb.rows_of_pre m h),
  fun m g h => CombI.frame_of (F := Ideal) m g (CombI.rows_of_pre m h),
  fun m g _ => CombRef.frame (F := Ideal) m g,
  fun m g _ => CombRef.frame (F := Ideal) m g,
  trivial,
  agree Cert.Pre_tables_ok.Gen.facts Cert.On_live_rows.Gen.facts,
  trivial,
  CombAgree.agree⟩

end Cert.Proof

end
